-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_perm_in_range : Cert.Pre_perm_in_range.Facts] (m : (ℓ : Loc Cert.Gather.nD Cert.Gather.τ Cert.Gather.sig) → Buf (Elt Bits) ℓ) : Prop :=
  ∀ c : Dev Cert.Gather.nD,
    (Cert.Pre_perm_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_Gathered [hPre_perm_in_range : Cert.Pre_perm_in_range.Facts] (m : (ℓ : Loc Cert.Gathered.nD Cert.Gathered.τ Cert.Gathered.sig) → Buf (Elt Bits) ℓ) : Prop :=
  ∀ c : Dev Cert.Gathered.nD,
    (Cert.Pre_perm_in_range.fn (F := Bits) (m ((c.tc : Thread Cert.Gathered.nD Cert.Gathered.τ).loc Cert.Gathered.main_arg0)) (m ((c.tc : Thread Cert.Gathered.nD Cert.Gathered.τ).loc Cert.Gathered.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] [hPre_perm_in_range : Cert.Pre_perm_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Gathered [hGathered : Cert.Gathered.Facts] [hPre_perm_in_range : Cert.Pre_perm_in_range.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0)

def preserves_Kernel_KernelIdeal : Prop :=
  IdealRules.bf16_pair.BufferStatement Cert.KernelIdeal.S4x160x2x128 Cert.KernelIdeal.S4x160x1x128
  ∧ IdealRules.bf16_pair.HalfStatement Cert.KernelIdeal.S160x128
  ∧ IdealRules.bf16_pair.Statement Cert.KernelIdeal.S1x160x2x128 Cert.KernelIdeal.S1x160x1x128
  ∧ IdealRules.bf16_pair.Statement Cert.KernelIdeal.S1x8x2x128 Cert.KernelIdeal.S1x8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Gather_Gathered [hGather : Cert.Gather.Facts] [hGathered : Cert.Gathered.Facts] [hPre_perm_in_range : Cert.Pre_perm_in_range.Facts] : Prop :=
  ∀ (m : (ℓ : Loc Cert.Gather.nD Cert.Gather.τ Cert.Gather.sig) → Buf (Elt Bits) ℓ) (g : Dev Cert.Gather.nD → PrngReg)
    (m' : (ℓ : Loc Cert.Gathered.nD Cert.Gathered.τ Cert.Gathered.sig) → Buf (Elt Bits) ℓ) (g' : Dev Cert.Gathered.nD → PrngReg), Pre_Gather m →
    (∀ c : Dev Cert.Gather.nD,
      m' ((c.tc : Thread Cert.Gathered.nD Cert.Gathered.τ).loc Cert.Gathered.main_arg0) = m ((c.tc : Thread Cert.Gather.nD Cert.Gather.τ).loc Cert.Gather.main_arg0)
      ∧ m' ((c.tc : Thread Cert.Gathered.nD Cert.Gathered.τ).loc Cert.Gathered.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v1)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Gathered.defs (F := Bits)) (onTc (τ := Cert.Gathered.τ) (Cert.Gathered.main (F := Bits))) ⟨m', fun _ => 0, g'⟩ (fun r => ∀ c : Dev Cert.Gathered.nD,
          r.2.mem ((c.tc : Thread Cert.Gathered.nD Cert.Gathered.τ).loc Cert.Gathered.main_v26) = v0 c
          ∧ r.2.mem ((c.tc : Thread Cert.Gathered.nD Cert.Gathered.τ).loc Cert.Gathered.main_arg0) = m' ((c.tc : Thread Cert.Gathered.nD Cert.Gathered.τ).loc Cert.Gathered.main_arg0)
          ∧ r.2.mem ((c.tc : Thread Cert.Gathered.nD Cert.Gathered.τ).loc Cert.Gathered.main_arg1) = m' ((c.tc : Thread Cert.Gathered.nD Cert.Gathered.τ).loc Cert.Gathered.main_arg1))

def Claim : Prop :=
  ∃ (hKernel : Cert.Kernel.Facts) (hKernelIdeal : Cert.KernelIdeal.Facts) (hReferenceIdeal : Cert.ReferenceIdeal.Facts) (hGather : Cert.Gather.Facts) (hGathered : Cert.Gathered.Facts) (hPre_perm_in_range : Cert.Pre_perm_in_range.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_perm_in_range := hPre_perm_in_range)
    ∧ quiescent_Gathered (hGathered := hGathered) (hPre_perm_in_range := hPre_perm_in_range)
    ∧ preserves_Kernel_KernelIdeal
    ∧ algebraic_KernelIdeal_ReferenceIdeal (hKernelIdeal := hKernelIdeal) (hReferenceIdeal := hReferenceIdeal)
    ∧ bitexact_Gather_Gathered (hGather := hGather) (hGathered := hGathered) (hPre_perm_in_range := hPre_perm_in_range)
-- ==== Pre_perm_in_range.lean ====
abbrev S24x256x5120 : Shape := ⟨3, ![24, 256, 5120]⟩
abbrev S5120 : Shape := ⟨1, ![5120]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S24x256x5120 .bf16) (main_arg1 : IVec S5120 32) : IVec S5120 1 :=
  let main_c : IVec S_ 32 := constantI S_ 32 0#32
  let main_v0 : IVec S5120 32 := broadcastInDim S5120 ![] bcast_S_S5120 main_c
  let main_v1 : IVec S5120 1 := cmpi .sge main_arg1 main_v0
  let main_c_0 : IVec S_ 32 := constantI S_ 32 5120#32
  let main_v2 : IVec S5120 32 := broadcastInDim S5120 ![] bcast_S_S5120 main_c_0
  let main_v3 : IVec S5120 1 := cmpi .slt main_arg1 main_v2
  let main_v4 : IVec S5120 1 := andi main_v1 main_v3
  main_v4
-- ==== Kernel.lean ====
abbrev S24x256x5120 : Shape := ⟨3, ![24, 256, 5120]⟩
abbrev S5120 : Shape := ⟨1, ![5120]⟩
abbrev S27648x698 : Shape := ⟨2, ![27648, 698]⟩
abbrev S27648x160 : Shape := ⟨2, ![27648, 160]⟩
abbrev S_ : Shape := ⟨0, ![]⟩
abbrev S5120x1 : Shape := ⟨2, ![5120, 1]⟩
abbrev S1 : Shape := ⟨1, ![1]⟩
abbrev S1x1 : Shape := ⟨2, ![1, 1]⟩
abbrev S24x256x288 : Shape := ⟨3, ![24, 256, 288]⟩
abbrev S6144x9x8x2x2 : Shape := ⟨5, ![6144, 9, 8, 2, 2]⟩
abbrev S6144x8x2x9x2 : Shape := ⟨5, ![6144, 8, 2, 9, 2]⟩
abbrev S6144x16x9x2 : Shape := ⟨4, ![6144, 16, 9, 2]⟩
abbrev S24x256x576 : Shape := ⟨3, ![24, 256, 576]⟩
abbrev S6144x18x2x2x8 : Shape := ⟨5, ![6144, 18, 2, 2, 8]⟩
abbrev S6144x2x8x18x2 : Shape := ⟨5, ![6144, 2, 8, 18, 2]⟩
abbrev S6144x16x18x2 : Shape := ⟨4, ![6144, 16, 18, 2]⟩
abbrev S24x256x1088 : Shape := ⟨3, ![24, 256, 1088]⟩
abbrev S6144x34x1x2x16 : Shape := ⟨5, ![6144, 34, 1, 2, 16]⟩
abbrev S6144x1x16x34x2 : Shape := ⟨5, ![6144, 1, 16, 34, 2]⟩
abbrev S6144x16x34x2 : Shape := ⟨4, ![6144, 16, 34, 2]⟩
abbrev S24x256x1952 : Shape := ⟨3, ![24, 256, 1952]⟩
abbrev S6144x61x4x2x4 : Shape := ⟨5, ![6144, 61, 4, 2, 4]⟩
abbrev S6144x4x4x61x2 : Shape := ⟨5, ![6144, 4, 4, 61, 2]⟩
abbrev S6144x16x61x2 : Shape := ⟨4, ![6144, 16, 61, 2]⟩
abbrev S24x256x896 : Shape := ⟨3, ![24, 256, 896]⟩
abbrev S6144x28x1x2x16 : Shape := ⟨5, ![6144, 28, 1, 2, 16]⟩
abbrev S6144x1x16x28x2 : Shape := ⟨5, ![6144, 1, 16, 28, 2]⟩
abbrev S6144x16x28x2 : Shape := ⟨4, ![6144, 16, 28, 2]⟩
abbrev S24x256x320 : Shape := ⟨3, ![24, 256, 320]⟩
abbrev S6144x10x2x2x8 : Shape := ⟨5, ![6144, 10, 2, 2, 8]⟩
abbrev S6144x2x8x10x2 : Shape := ⟨5, ![6144, 2, 8, 10, 2]⟩
abbrev S6144x16x10x2 : Shape := ⟨4, ![6144, 16, 10, 2]⟩
abbrev S6144x16x160x2 : Shape := ⟨4, ![6144, 16, 160, 2]⟩
abbrev S6144x5120 : Shape := ⟨2, ![6144, 5120]⟩
abbrev S698x27648 : Shape := ⟨2, ![698, 27648]⟩
abbrev S160x27648 : Shape := ⟨2, ![160, 27648]⟩
abbrev S6144x27648 : Shape := ⟨2, ![6144, 27648]⟩
abbrev S1536x5120 : Shape := ⟨2, ![1536, 5120]⟩
abbrev S698x512 : Shape := ⟨2, ![698, 512]⟩
abbrev S160x512 : Shape := ⟨2, ![160, 512]⟩
abbrev S1536x512 : Shape := ⟨2, ![1536, 512]⟩
abbrev S4x704x128 : Shape := ⟨3, ![4, 704, 128]⟩
abbrev S4x160x128 : Shape := ⟨3, ![4, 160, 128]⟩
abbrev S5120x512 : Shape := ⟨2, ![5120, 512]⟩
abbrev S698x128 : Shape := ⟨2, ![698, 128]⟩
abbrev S1x698x128 : Shape := ⟨3, ![1, 698, 128]⟩
abbrev S160x128 : Shape := ⟨2, ![160, 128]⟩
abbrev S1x160x128 : Shape := ⟨3, ![1, 160, 128]⟩
abbrev S1x8x128 : Shape := ⟨3, ![1, 8, 128]⟩
abbrev S8x128 : Shape := ⟨2, ![8, 128]⟩
abbrev S16x128 : Shape := ⟨2, ![16, 128]⟩
abbrev S24x256x27648 : Shape := ⟨3, ![24, 256, 27648]⟩

abbrev nBuf : Space → Nat
  | .hbm => 57
  | .vmem => 11
  | .smem => 0
  | _ => 0

abbrev bufTy : (tb : Table) → Fin (tcTables nBuf tb) → BufTy
  | .hbm, ⟨0, _⟩ => ⟨S24x256x5120, .bf16⟩
  | .hbm, ⟨1, _⟩ => ⟨S5120, .i32⟩
  | .hbm, ⟨2, _⟩ => ⟨S27648x698, .i32⟩
  | .hbm, ⟨3, _⟩ => ⟨S27648x160, .bf16⟩
  | .hbm, ⟨4, _⟩ => ⟨S_, .i32⟩
  | .hbm, ⟨5, _⟩ => ⟨S5120, .i32⟩
  | .hbm, ⟨6, _⟩ => ⟨S5120, .i1⟩
  | .hbm, ⟨7, _⟩ => ⟨S_, .i32⟩
  | .hbm, ⟨8, _⟩ => ⟨S5120, .i32⟩
  | .hbm, ⟨9, _⟩ => ⟨S5120, .i32⟩
  | .hbm, ⟨10, _⟩ => ⟨S5120, .i32⟩
  | .hbm, ⟨11, _⟩ => ⟨S5120x1, .i32⟩
  | .hbm, ⟨12, _⟩ => ⟨S1, .i32⟩
  | .hbm, ⟨13, _⟩ => ⟨S_, .i32⟩
  | .hbm, ⟨14, _⟩ => ⟨S5120x1, .i32⟩
  | .hbm, ⟨15, _⟩ => ⟨S5120x1, .i1⟩
  | .hbm, ⟨16, _⟩ => ⟨S1x1, .i32⟩
  | .hbm, ⟨17, _⟩ => ⟨S5120x1, .i32⟩
  | .hbm, ⟨18, _⟩ => ⟨S5120x1, .i1⟩
  | .hbm, ⟨19, _⟩ => ⟨S5120x1, .i1⟩
  | .hbm, ⟨20, _⟩ => ⟨S_, .i1⟩
  | .hbm, ⟨21, _⟩ => ⟨S5120, .i1⟩
  | .hbm, ⟨22, _⟩ => ⟨S24x256x5120, .bf16⟩
  | .hbm, ⟨23, _⟩ => ⟨S24x256x5120, .i1⟩
  | .hbm, ⟨24, _⟩ => ⟨S_, .bf16⟩
  | .hbm, ⟨25, _⟩ => ⟨S24x256x5120, .bf16⟩
  | .hbm, ⟨26, _⟩ => ⟨S24x256x5120, .bf16⟩
  | .hbm, ⟨27, _⟩ => ⟨S24x256x288, .bf16⟩
  | .hbm, ⟨28, _⟩ => ⟨S6144x9x8x2x2, .bf16⟩
  | .hbm, ⟨29, _⟩ => ⟨S6144x8x2x9x2, .bf16⟩
  | .hbm, ⟨30, _⟩ => ⟨S6144x16x9x2, .bf16⟩
  | .hbm, ⟨31, _⟩ => ⟨S24x256x576, .bf16⟩
  | .hbm, ⟨32, _⟩ => ⟨S6144x18x2x2x8, .bf16⟩
  | .hbm, ⟨33, _⟩ => ⟨S6144x2x8x18x2, .bf16⟩
  | .hbm, ⟨34, _⟩ => ⟨S6144x16x18x2, .bf16⟩
  | .hbm, ⟨35, _⟩ => ⟨S24x256x1088, .bf16⟩
  | .hbm, ⟨36, _⟩ => ⟨S6144x34x1x2x16, .bf16⟩
  | .hbm, ⟨37, _⟩ => ⟨S6144x1x16x34x2, .bf16⟩
  | .hbm, ⟨38, _⟩ => ⟨S6144x16x34x2, .bf16⟩
  | .hbm, ⟨39, _⟩ => ⟨S24x256x1952, .bf16⟩
  | .hbm, ⟨40, _⟩ => ⟨S6144x61x4x2x4, .bf16⟩
  | .hbm, ⟨41, _⟩ => ⟨S6144x4x4x61x2, .bf16⟩
  | .hbm, ⟨42, _⟩ => ⟨S6144x16x61x2, .bf16⟩
  | .hbm, ⟨43, _⟩ => ⟨S24x256x896, .bf16⟩
  | .hbm, ⟨44, _⟩ => ⟨S6144x28x1x2x16, .bf16⟩
  | .hbm, ⟨45, _⟩ => ⟨S6144x1x16x28x2, .bf16⟩
  | .hbm, ⟨46, _⟩ => ⟨S6144x16x28x2, .bf16⟩
  | .hbm, ⟨47, _⟩ => ⟨S24x256x320, .bf16⟩
  | .hbm, ⟨48, _⟩ => ⟨S6144x10x2x2x8, .bf16⟩
  | .hbm, ⟨49, _⟩ => ⟨S6144x2x8x10x2, .bf16⟩
  | .hbm, ⟨50, _⟩ => ⟨S6144x16x10x2, .bf16⟩
  | .hbm, ⟨51, _⟩ => ⟨S6144x16x160x2, .bf16⟩
  | .hbm, ⟨52, _⟩ => ⟨S6144x5120, .bf16⟩
  | .hbm, ⟨53, _⟩ => ⟨S698x27648, .i32⟩
  | .hbm, ⟨54, _⟩ => ⟨S160x27648, .bf16⟩
  | .hbm, ⟨55, _⟩ => ⟨S6144x27648, .bf16⟩
  | .hbm, ⟨56, _⟩ => ⟨S24x256x27648, .bf16⟩
  | .local _ .vmem, ⟨0, _⟩ => ⟨S1536x5120, .bf16⟩
  | .local _ .vmem, ⟨1, _⟩ => ⟨S1536x5120, .bf16⟩
  | .local _ .vmem, ⟨2, _⟩ => ⟨S698x512, .i32⟩
  | .local _ .vmem, ⟨3, _⟩ => ⟨S698x512, .i32⟩
  | .local _ .vmem, ⟨4, _⟩ => ⟨S160x512, .bf16⟩
  | .local _ .vmem, ⟨5, _⟩ => ⟨S160x512, .bf16⟩
  | .local _ .vmem, ⟨6, _⟩ => ⟨S1536x512, .bf16⟩
  | .local _ .vmem, ⟨7, _⟩ => ⟨S1536x512, .bf16⟩
  | .local _ .vmem, ⟨8, _⟩ => ⟨S4x704x128, .i32⟩
  | .local _ .vmem, ⟨9, _⟩ => ⟨S4x160x128, .i32⟩
  | .local _ .vmem, ⟨10, _⟩ => ⟨S5120x512, .bf16⟩
  | _, _ => ⟨S24x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![4, 54], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  v7
def k0_off1 (k0_t1 : Fin k0_t1_loop.trips) : Fin 2 → Nat :=
  let c0_6 : Index := 0#32
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  let v8 : BitVec 32 := v7
  let v10 : Index := Scalar.indexCast v8
  ![0, v10.toNat]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v13 : Index := Scalar.indexCast arg9
  let c0_7 : Index := 0#32
  let c0_8 : Index := 0#32
  ![v13.toNat, 0, 0]
def k0_off3 (k0_t1 : Fin k0_t1_loop.trips) : Fin 2 → Nat :=
  let c0_9 : Index := 0#32
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  let v8 : BitVec 32 := v7
  let v17 : Index := Scalar.indexCast v8
  ![0, v17.toNat]
def k0_off4 (k0_t1 : Fin k0_t1_loop.trips) : Fin 3 → Nat :=
  let c0_i32 : BitVec 32 := 0#32
  let c1_i32 : BitVec 32 := 1#32
  let arg9 : BitVec 32 := Scf.iv c0_i32 c1_i32 k0_t1
  let v27 : Index := Scalar.indexCast arg9
  let c0_11 : Index := 0#32
  let c0_12 : Index := 0#32
  ![v27.toNat, 0, 0]
def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let v31 : Index := Scalar.indexCast arg9
  let c0_13 : Index := 0#32
  let c0_14 : Index := 0#32
  ![v31.toNat, 0, 0]
def k0_off6 (k0_t1 : Fin k0_t1_loop.trips) : Fin 3 → Nat :=
  let c0_i32 : BitVec 32 := 0#32
  let c1_i32 : BitVec 32 := 1#32
  let arg9 : BitVec 32 := Scf.iv c0_i32 c1_i32 k0_t1
  let v34 : Index := Scalar.indexCast arg9
  let c1 : Index := 1#32
  let c0_15 : Index := 0#32
  ![v34.toNat, 1, 0]
def k0_off7 (k0_t1 : Fin k0_t1_loop.trips) : Fin 3 → Nat :=
  let c0_i32 : BitVec 32 := 0#32
  let c1_i32 : BitVec 32 := 1#32
  let arg9 : BitVec 32 := Scf.iv c0_i32 c1_i32 k0_t1
  let v37 : Index := Scalar.indexCast arg9
  let c2 : Index := 2#32
  let c0_16 : Index := 0#32
  ![v37.toNat, 2, 0]
def k0_off8 (k0_t1 : Fin k0_t1_loop.trips) : Fin 3 → Nat :=
  let c0_i32 : BitVec 32 := 0#32
  let c1_i32 : BitVec 32 := 1#32
  let arg9 : BitVec 32 := Scf.iv c0_i32 c1_i32 k0_t1
  let v40 : Index := Scalar.indexCast arg9
  let c3 : Index := 3#32
  let c0_17 : Index := 0#32
  ![v40.toNat, 3, 0]
def k0_off9 (k0_t1 : Fin k0_t1_loop.trips) : Fin 3 → Nat :=
  let c0_i32 : BitVec 32 := 0#32
  let c1_i32 : BitVec 32 := 1#32
  let arg9 : BitVec 32 := Scf.iv c0_i32 c1_i32 k0_t1
  let v43 : Index := Scalar.indexCast arg9
  let c4 : Index := 4#32
  let c0_18 : Index := 0#32
  ![v43.toNat, 4, 0]
def k0_off10 (k0_t1 : Fin k0_t1_loop.trips) : Fin 3 → Nat :=
  let c0_i32 : BitVec 32 := 0#32
  let c1_i32 : BitVec 32 := 1#32
  let arg9 : BitVec 32 := Scf.iv c0_i32 c1_i32 k0_t1
  let v46 : Index := Scalar.indexCast arg9
  let c5 : Index := 5#32
  let c0_19 : Index := 0#32
  ![v46.toNat, 5, 0]
def k0_off11 (k0_t1 : Fin k0_t1_loop.trips) : Fin 3 → Nat :=
  let c0_i32 : BitVec 32 := 0#32
  let c1_i32 : BitVec 32 := 1#32
  let arg9 : BitVec 32 := Scf.iv c0_i32 c1_i32 k0_t1
  let v49 : Index := Scalar.indexCast arg9
  let c6 : Index := 6#32
  let c0_20 : Index := 0#32
  ![v49.toNat, 6, 0]
def k0_off12 (k0_t1 : Fin k0_t1_loop.trips) : Fin 3 → Nat :=
  let c0_i32 : BitVec 32 := 0#32
  let c1_i32 : BitVec 32 := 1#32
  let arg9 : BitVec 32 := Scf.iv c0_i32 c1_i32 k0_t1
  let v52 : Index := Scalar.indexCast arg9
  let c7 : Index := 7#32
  let c0_21 : Index := 0#32
  ![v52.toNat, 7, 0]
def k0_off13 (k0_t1 : Fin k0_t1_loop.trips) : Fin 3 → Nat :=
  let c0_i32 : BitVec 32 := 0#32
  let c1_i32 : BitVec 32 := 1#32
  let arg9 : BitVec 32 := Scf.iv c0_i32 c1_i32 k0_t1
  let v71 : Index := Scalar.indexCast arg9
  let c0_29 : Index := 0#32
  let c0_30 : Index := 0#32
  ![v71.toNat, 0, 0]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_35 : BitVec 32 := 128#32
  let v93 : BitVec 32 := Scalar.muli arg9 c128_i32_35
  v93
def k0_off14 (k0_t1 : Fin k0_t1_loop.trips) : Fin 2 → Nat :=
  let c0_36 : Index := 0#32
  let c0_i32 : BitVec 32 := 0#32
  let c1_i32 : BitVec 32 := 1#32
  let arg9 : BitVec 32 := Scf.iv c0_i32 c1_i32 k0_t1
  let c128_i32_35 : BitVec 32 := 128#32
  let v93 : BitVec 32 := Scalar.muli arg9 c128_i32_35
  let v94 : BitVec 32 := v93
  let v95 : Index := Scalar.indexCast v94
  ![0, v95.toNat]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_44 : BitVec 32 := 128#32
  let v117 : BitVec 32 := Scalar.muli arg9 c128_i32_44
  v117
def k0_off15 (k0_t1 : Fin k0_t1_loop.trips) : Fin 2 → Nat :=
  let c320 : Index := 320#32
  let c0_i32 : BitVec 32 := 0#32
  let c1_i32 : BitVec 32 := 1#32
  let arg9 : BitVec 32 := Scf.iv c0_i32 c1_i32 k0_t1
  let c128_i32_44 : BitVec 32 := 128#32
  let v117 : BitVec 32 := Scalar.muli arg9 c128_i32_44
  let v118 : BitVec 32 := v117
  let v119 : Index := Scalar.indexCast v118
  ![320, v119.toNat]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_52 : BitVec 32 := 128#32
  let v141 : BitVec 32 := Scalar.muli arg9 c128_i32_52
  v141
def k0_off16 (k0_t1 : Fin k0_t1_loop.trips) : Fin 2 → Nat :=
  let c640 : Index := 640#32
  let c0_i32 : BitVec 32 := 0#32
  let c1_i32 : BitVec 32 := 1#32
  let arg9 : BitVec 32 := Scf.iv c0_i32 c1_i32 k0_t1
  let c128_i32_52 : BitVec 32 := 128#32
  let v141 : BitVec 32 := Scalar.muli arg9 c128_i32_52
  let v142 : BitVec 32 := v141
  let v143 : Index := Scalar.indexCast v142
  ![640, v143.toNat]
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_60 : BitVec 32 := 128#32
  let v165 : BitVec 32 := Scalar.muli arg9 c128_i32_60
  v165
def k0_off17 (k0_t1 : Fin k0_t1_loop.trips) : Fin 2 → Nat :=
  let c960 : Index := 960#32
  let c0_i32 : BitVec 32 := 0#32
  let c1_i32 : BitVec 32 := 1#32
  let arg9 : BitVec 32 := Scf.iv c0_i32 c1_i32 k0_t1
  let c128_i32_60 : BitVec 32 := 128#32
  let v165 : BitVec 32 := Scalar.muli arg9 c128_i32_60
  let v166 : BitVec 32 := v165
  let v167 : Index := Scalar.indexCast v166
  ![960, v167.toNat]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_68 : BitVec 32 := 128#32
  let v189 : BitVec 32 := Scalar.muli arg9 c128_i32_68
  v189
def k0_off18 (k0_t1 : Fin k0_t1_loop.trips) : Fin 2 → Nat :=
  let c1280 : Index := 1280#32
  let c0_i32 : BitVec 32 := 0#32
  let c1_i32 : BitVec 32 := 1#32
  let arg9 : BitVec 32 := Scf.iv c0_i32 c1_i32 k0_t1
  let c128_i32_68 : BitVec 32 := 128#32
  let v189 : BitVec 32 := Scalar.muli arg9 c128_i32_68
  let v190 : BitVec 32 := v189
  let v191 : Index := Scalar.indexCast v190
  ![1280, v191.toNat]
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_76 : BitVec 32 := 128#32
  let v213 : BitVec 32 := Scalar.muli arg9 c128_i32_76
  v213
def k0_off19 (k0_t1 : Fin k0_t1_loop.trips) : Fin 2 → Nat :=
  let c1600 : Index := 1600#32
  let c0_i32 : BitVec 32 := 0#32
  let c1_i32 : BitVec 32 := 1#32
  let arg9 : BitVec 32 := Scf.iv c0_i32 c1_i32 k0_t1
  let c128_i32_76 : BitVec 32 := 128#32
  let v213 : BitVec 32 := Scalar.muli arg9 c128_i32_76
  let v214 : BitVec 32 := v213
  let v215 : Index := Scalar.indexCast v214
  ![1600, v215.toNat]
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_84 : BitVec 32 := 128#32
  let v237 : BitVec 32 := Scalar.muli arg9 c128_i32_84
  v237
def k0_off20 (k0_t1 : Fin k0_t1_loop.trips) : Fin 2 → Nat :=
  let c1920 : Index := 1920#32
  let c0_i32 : BitVec 32 := 0#32
  let c1_i32 : BitVec 32 := 1#32
  let arg9 : BitVec 32 := Scf.iv c0_i32 c1_i32 k0_t1
  let c128_i32_84 : BitVec 32 := 128#32
  let v237 : BitVec 32 := Scalar.muli arg9 c128_i32_84
  let v238 : BitVec 32 := v237
  let v239 : Index := Scalar.indexCast v238
  ![1920, v239.toNat]
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_92 : BitVec 32 := 128#32
  let v261 : BitVec 32 := Scalar.muli arg9 c128_i32_92
  v261
def k0_off21 (k0_t1 : Fin k0_t1_loop.trips) : Fin 2 → Nat :=
  let c2240 : Index := 2240#32
  let c0_i32 : BitVec 32 := 0#32
  let c1_i32 : BitVec 32 := 1#32
  let arg9 : BitVec 32 := Scf.iv c0_i32 c1_i32 k0_t1
  let c128_i32_92 : BitVec 32 := 128#32
  let v261 : BitVec 32 := Scalar.muli arg9 c128_i32_92
  let v262 : BitVec 32 := v261
  let v263 : Index := Scalar.indexCast v262
  ![2240, v263.toNat]
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_100 : BitVec 32 := 128#32
  let v285 : BitVec 32 := Scalar.muli arg9 c128_i32_100
  v285
def k0_off22 (k0_t1 : Fin k0_t1_loop.trips) : Fin 2 → Nat :=
  let c2560 : Index := 2560#32
  let c0_i32 : BitVec 32 := 0#32
  let c1_i32 : BitVec 32 := 1#32
  let arg9 : BitVec 32 := Scf.iv c0_i32 c1_i32 k0_t1
  let c128_i32_100 : BitVec 32 := 128#32
  let v285 : BitVec 32 := Scalar.muli arg9 c128_i32_100
  let v286 : BitVec 32 := v285
  let v287 : Index := Scalar.indexCast v286
  ![2560, v287.toNat]
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_108 : BitVec 32 := 128#32
  let v309 : BitVec 32 := Scalar.muli arg9 c128_i32_108
  v309
def k0_off23 (k0_t1 : Fin k0_t1_loop.trips) : Fin 2 → Nat :=
  let c2880 : Index := 2880#32
  let c0_i32 : BitVec 32 := 0#32
  let c1_i32 : BitVec 32 := 1#32
  let arg9 : BitVec 32 := Scf.iv c0_i32 c1_i32 k0_t1
  let c128_i32_108 : BitVec 32 := 128#32
  let v309 : BitVec 32 := Scalar.muli arg9 c128_i32_108
  let v310 : BitVec 32 := v309
  let v311 : Index := Scalar.indexCast v310
  ![2880, v311.toNat]
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_116 : BitVec 32 := 128#32
  let v333 : BitVec 32 := Scalar.muli arg9 c128_i32_116
  v333
def k0_off24 (k0_t1 : Fin k0_t1_loop.trips) : Fin 2 → Nat :=
  let c3200 : Index := 3200#32
  let c0_i32 : BitVec 32 := 0#32
  let c1_i32 : BitVec 32 := 1#32
  let arg9 : BitVec 32 := Scf.iv c0_i32 c1_i32 k0_t1
  let c128_i32_116 : BitVec 32 := 128#32
  let v333 : BitVec 32 := Scalar.muli arg9 c128_i32_116
  let v334 : BitVec 32 := v333
  let v335 : Index := Scalar.indexCast v334
  ![3200, v335.toNat]
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_124 : BitVec 32 := 128#32
  let v357 : BitVec 32 := Scalar.muli arg9 c128_i32_124
  v357
def k0_off25 (k0_t1 : Fin k0_t1_loop.trips) : Fin 2 → Nat :=
  let c3520 : Index := 3520#32
  let c0_i32 : BitVec 32 := 0#32
  let c1_i32 : BitVec 32 := 1#32
  let arg9 : BitVec 32 := Scf.iv c0_i32 c1_i32 k0_t1
  let c128_i32_124 : BitVec 32 := 128#32
  let v357 : BitVec 32 := Scalar.muli arg9 c128_i32_124
  let v358 : BitVec 32 := v357
  let v359 : Index := Scalar.indexCast v358
  ![3520, v359.toNat]
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_132 : BitVec 32 := 128#32
  let v381 : BitVec 32 := Scalar.muli arg9 c128_i32_132
  v381
def k0_off26 (k0_t1 : Fin k0_t1_loop.trips) : Fin 2 → Nat :=
  let c3840 : Index := 3840#32
  let c0_i32 : BitVec 32 := 0#32
  let c1_i32 : BitVec 32 := 1#32
  let arg9 : BitVec 32 := Scf.iv c0_i32 c1_i32 k0_t1
  let c128_i32_132 : BitVec 32 := 128#32
  let v381 : BitVec 32 := Scalar.muli arg9 c128_i32_132
  let v382 : BitVec 32 := v381
  let v383 : Index := Scalar.indexCast v382
  ![3840, v383.toNat]
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_140 : BitVec 32 := 128#32
  let v405 : BitVec 32 := Scalar.muli arg9 c128_i32_140
  v405
def k0_off27 (k0_t1 : Fin k0_t1_loop.trips) : Fin 2 → Nat :=
  let c4160 : Index := 4160#32
  let c0_i32 : BitVec 32 := 0#32
  let c1_i32 : BitVec 32 := 1#32
  let arg9 : BitVec 32 := Scf.iv c0_i32 c1_i32 k0_t1
  let c128_i32_140 : BitVec 32 := 128#32
  let v405 : BitVec 32 := Scalar.muli arg9 c128_i32_140
  let v406 : BitVec 32 := v405
  let v407 : Index := Scalar.indexCast v406
  ![4160, v407.toNat]
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_148 : BitVec 32 := 128#32
  let v429 : BitVec 32 := Scalar.muli arg9 c128_i32_148
  v429
def k0_off28 (k0_t1 : Fin k0_t1_loop.trips) : Fin 2 → Nat :=
  let c4480 : Index := 4480#32
  let c0_i32 : BitVec 32 := 0#32
  let c1_i32 : BitVec 32 := 1#32
  let arg9 : BitVec 32 := Scf.iv c0_i32 c1_i32 k0_t1
  let c128_i32_148 : BitVec 32 := 128#32
  let v429 : BitVec 32 := Scalar.muli arg9 c128_i32_148
  let v430 : BitVec 32 := v429
  let v431 : Index := Scalar.indexCast v430
  ![4480, v431.toNat]
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_156 : BitVec 32 := 128#32
  let v453 : BitVec 32 := Scalar.muli arg9 c128_i32_156
  v453
def k0_off29 (k0_t1 : Fin k0_t1_loop.trips) : Fin 2 → Nat :=
  let c4800 : Index := 4800#32
  let c0_i32 : BitVec 32 := 0#32
  let c1_i32 : BitVec 32 := 1#32
  let arg9 : BitVec 32 := Scf.iv c0_i32 c1_i32 k0_t1
  let c128_i32_156 : BitVec 32 := 128#32
  let v453 : BitVec 32 := Scalar.muli arg9 c128_i32_156
  let v454 : BitVec 32 := v453
  let v455 : Index := Scalar.indexCast v454
  ![4800, v455.toNat]
def k0_off30 (k0_t1 : Fin k0_t1_loop.trips) : Fin 3 → Nat :=
  let c0_i32 : BitVec 32 := 0#32
  let c1_i32 : BitVec 32 := 1#32
  let arg9 : BitVec 32 := Scf.iv c0_i32 c1_i32 k0_t1
  let v459 : Index := Scalar.indexCast arg9
  let c64 : Index := 64#32
  let c0_157 : Index := 0#32
  ![v459.toNat, 64, 0]
def k0_off31 (k0_t1 : Fin k0_t1_loop.trips) : Fin 3 → Nat :=
  let c0_i32 : BitVec 32 := 0#32
  let c1_i32 : BitVec 32 := 1#32
  let arg9 : BitVec 32 := Scf.iv c0_i32 c1_i32 k0_t1
  let v462 : Index := Scalar.indexCast arg9
  let c65 : Index := 65#32
  let c0_158 : Index := 0#32
  ![v462.toNat, 65, 0]
def k0_off32 (k0_t1 : Fin k0_t1_loop.trips) : Fin 3 → Nat :=
  let c0_i32 : BitVec 32 := 0#32
  let c1_i32 : BitVec 32 := 1#32
  let arg9 : BitVec 32 := Scf.iv c0_i32 c1_i32 k0_t1
  let v465 : Index := Scalar.indexCast arg9
  let c66 : Index := 66#32
  let c0_159 : Index := 0#32
  ![v465.toNat, 66, 0]
def k0_off33 (k0_t1 : Fin k0_t1_loop.trips) : Fin 3 → Nat :=
  let c0_i32 : BitVec 32 := 0#32
  let c1_i32 : BitVec 32 := 1#32
  let arg9 : BitVec 32 := Scf.iv c0_i32 c1_i32 k0_t1
  let v468 : Index := Scalar.indexCast arg9
  let c67 : Index := 67#32
  let c0_160 : Index := 0#32
  ![v468.toNat, 67, 0]
def k0_off34 (k0_t1 : Fin k0_t1_loop.trips) : Fin 3 → Nat :=
  let c0_i32 : BitVec 32 := 0#32
  let c1_i32 : BitVec 32 := 1#32
  let arg9 : BitVec 32 := Scf.iv c0_i32 c1_i32 k0_t1
  let v471 : Index := Scalar.indexCast arg9
  let c68 : Index := 68#32
  let c0_161 : Index := 0#32
  ![v471.toNat, 68, 0]
def k0_off35 (k0_t1 : Fin k0_t1_loop.trips) : Fin 3 → Nat :=
  let c0_i32 : BitVec 32 := 0#32
  let c1_i32 : BitVec 32 := 1#32
  let arg9 : BitVec 32 := Scf.iv c0_i32 c1_i32 k0_t1
  let v474 : Index := Scalar.indexCast arg9
  let c69 : Index := 69#32
  let c0_162 : Index := 0#32
  ![v474.toNat, 69, 0]
def k0_off36 (k0_t1 : Fin k0_t1_loop.trips) : Fin 3 → Nat :=
  let c0_i32 : BitVec 32 := 0#32
  let c1_i32 : BitVec 32 := 1#32
  let arg9 : BitVec 32 := Scf.iv c0_i32 c1_i32 k0_t1
  let v477 : Index := Scalar.indexCast arg9
  let c70 : Index := 70#32
  let c0_163 : Index := 0#32
  ![v477.toNat, 70, 0]
def k0_off37 (k0_t1 : Fin k0_t1_loop.trips) : Fin 3 → Nat :=
  let c0_i32 : BitVec 32 := 0#32
  let c1_i32 : BitVec 32 := 1#32
  let arg9 : BitVec 32 := Scf.iv c0_i32 c1_i32 k0_t1
  let v480 : Index := Scalar.indexCast arg9
  let c71 : Index := 71#32
  let c0_164 : Index := 0#32
  ![v480.toNat, 71, 0]
def k0_off38 (k0_t1 : Fin k0_t1_loop.trips) : Fin 3 → Nat :=
  let c0_i32 : BitVec 32 := 0#32
  let c1_i32 : BitVec 32 := 1#32
  let arg9 : BitVec 32 := Scf.iv c0_i32 c1_i32 k0_t1
  let v499 : Index := Scalar.indexCast arg9
  let c66_173 : Index := 66#32
  let c0_174 : Index := 0#32
  ![v499.toNat, 66, 0]
def k0_off39 (k0_t1 : Fin k0_t1_loop.trips) : Fin 3 → Nat :=
  let c0_i32 : BitVec 32 := 0#32
  let c1_i32 : BitVec 32 := 1#32
  let arg9 : BitVec 32 := Scf.iv c0_i32 c1_i32 k0_t1
  let v502 : Index := Scalar.indexCast arg9
  let c67_175 : Index := 67#32
  let c0_176 : Index := 0#32
  ![v502.toNat, 67, 0]
def k0_off40 (k0_t1 : Fin k0_t1_loop.trips) : Fin 3 → Nat :=
  let c0_i32 : BitVec 32 := 0#32
  let c1_i32 : BitVec 32 := 1#32
  let arg9 : BitVec 32 := Scf.iv c0_i32 c1_i32 k0_t1
  let v505 : Index := Scalar.indexCast arg9
  let c68_177 : Index := 68#32
  let c0_178 : Index := 0#32
  ![v505.toNat, 68, 0]
def k0_off41 (k0_t1 : Fin k0_t1_loop.trips) : Fin 3 → Nat :=
  let c0_i32 : BitVec 32 := 0#32
  let c1_i32 : BitVec 32 := 1#32
  let arg9 : BitVec 32 := Scf.iv c0_i32 c1_i32 k0_t1
  let v508 : Index := Scalar.indexCast arg9
  let c69_179 : Index := 69#32
  let c0_180 : Index := 0#32
  ![v508.toNat, 69, 0]
def k0_off42 (k0_t1 : Fin k0_t1_loop.trips) : Fin 3 → Nat :=
  let c0_i32 : BitVec 32 := 0#32
  let c1_i32 : BitVec 32 := 1#32
  let arg9 : BitVec 32 := Scf.iv c0_i32 c1_i32 k0_t1
  let v511 : Index := Scalar.indexCast arg9
  let c70_181 : Index := 70#32
  let c0_182 : Index := 0#32
  ![v511.toNat, 70, 0]
def k0_off43 (k0_t1 : Fin k0_t1_loop.trips) : Fin 3 → Nat :=
  let c0_i32 : BitVec 32 := 0#32
  let c1_i32 : BitVec 32 := 1#32
  let arg9 : BitVec 32 := Scf.iv c0_i32 c1_i32 k0_t1
  let v514 : Index := Scalar.indexCast arg9
  let c71_183 : Index := 71#32
  let c0_184 : Index := 0#32
  ![v514.toNat, 71, 0]
def k0_off44 (k0_t1 : Fin k0_t1_loop.trips) : Fin 3 → Nat :=
  let c0_i32 : BitVec 32 := 0#32
  let c1_i32 : BitVec 32 := 1#32
  let arg9 : BitVec 32 := Scf.iv c0_i32 c1_i32 k0_t1
  let v603 : Index := Scalar.indexCast arg9
  let c8 : Index := 8#32
  let c0_213 : Index := 0#32
  ![v603.toNat, 8, 0]
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_224 : BitVec 32 := 128#32
  let v639 : BitVec 32 := Scalar.muli arg9 c128_i32_224
  v639
def k0_off45 (k0_t1 : Fin k0_t1_loop.trips) : Fin 2 → Nat :=
  let c16 : Index := 16#32
  let c0_i32 : BitVec 32 := 0#32
  let c1_i32 : BitVec 32 := 1#32
  let arg9 : BitVec 32 := Scf.iv c0_i32 c1_i32 k0_t1
  let c128_i32_224 : BitVec 32 := 128#32
  let v639 : BitVec 32 := Scalar.muli arg9 c128_i32_224
  let v640 : BitVec 32 := v639
  let v641 : Index := Scalar.indexCast v640
  ![16, v641.toNat]
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_236 : BitVec 32 := 128#32
  let v677 : BitVec 32 := Scalar.muli arg9 c128_i32_236
  v677
def k0_off46 (k0_t1 : Fin k0_t1_loop.trips) : Fin 2 → Nat :=
  let c336 : Index := 336#32
  let c0_i32 : BitVec 32 := 0#32
  let c1_i32 : BitVec 32 := 1#32
  let arg9 : BitVec 32 := Scf.iv c0_i32 c1_i32 k0_t1
  let c128_i32_236 : BitVec 32 := 128#32
  let v677 : BitVec 32 := Scalar.muli arg9 c128_i32_236
  let v678 : BitVec 32 := v677
  let v679 : Index := Scalar.indexCast v678
  ![336, v679.toNat]
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_248 : BitVec 32 := 128#32
  let v715 : BitVec 32 := Scalar.muli arg9 c128_i32_248
  v715
def k0_off47 (k0_t1 : Fin k0_t1_loop.trips) : Fin 2 → Nat :=
  let c656 : Index := 656#32
  let c0_i32 : BitVec 32 := 0#32
  let c1_i32 : BitVec 32 := 1#32
  let arg9 : BitVec 32 := Scf.iv c0_i32 c1_i32 k0_t1
  let c128_i32_248 : BitVec 32 := 128#32
  let v715 : BitVec 32 := Scalar.muli arg9 c128_i32_248
  let v716 : BitVec 32 := v715
  let v717 : Index := Scalar.indexCast v716
  ![656, v717.toNat]
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_260 : BitVec 32 := 128#32
  let v753 : BitVec 32 := Scalar.muli arg9 c128_i32_260
  v753
def k0_off48 (k0_t1 : Fin k0_t1_loop.trips) : Fin 2 → Nat :=
  let c976 : Index := 976#32
  let c0_i32 : BitVec 32 := 0#32
  let c1_i32 : BitVec 32 := 1#32
  let arg9 : BitVec 32 := Scf.iv c0_i32 c1_i32 k0_t1
  let c128_i32_260 : BitVec 32 := 128#32
  let v753 : BitVec 32 := Scalar.muli arg9 c128_i32_260
  let v754 : BitVec 32 := v753
  let v755 : Index := Scalar.indexCast v754
  ![976, v755.toNat]
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_272 : BitVec 32 := 128#32
  let v791 : BitVec 32 := Scalar.muli arg9 c128_i32_272
  v791
def k0_off49 (k0_t1 : Fin k0_t1_loop.trips) : Fin 2 → Nat :=
  let c1296 : Index := 1296#32
  let c0_i32 : BitVec 32 := 0#32
  let c1_i32 : BitVec 32 := 1#32
  let arg9 : BitVec 32 := Scf.iv c0_i32 c1_i32 k0_t1
  let c128_i32_272 : BitVec 32 := 128#32
  let v791 : BitVec 32 := Scalar.muli arg9 c128_i32_272
  let v792 : BitVec 32 := v791
  let v793 : Index := Scalar.indexCast v792
  ![1296, v793.toNat]
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_284 : BitVec 32 := 128#32
  let v829 : BitVec 32 := Scalar.muli arg9 c128_i32_284
  v829
def k0_off50 (k0_t1 : Fin k0_t1_loop.trips) : Fin 2 → Nat :=
  let c1616 : Index := 1616#32
  let c0_i32 : BitVec 32 := 0#32
  let c1_i32 : BitVec 32 := 1#32
  let arg9 : BitVec 32 := Scf.iv c0_i32 c1_i32 k0_t1
  let c128_i32_284 : BitVec 32 := 128#32
  let v829 : BitVec 32 := Scalar.muli arg9 c128_i32_284
  let v830 : BitVec 32 := v829
  let v831 : Index := Scalar.indexCast v830
  ![1616, v831.toNat]
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_296 : BitVec 32 := 128#32
  let v867 : BitVec 32 := Scalar.muli arg9 c128_i32_296
  v867
def k0_off51 (k0_t1 : Fin k0_t1_loop.trips) : Fin 2 → Nat :=
  let c1936 : Index := 1936#32
  let c0_i32 : BitVec 32 := 0#32
  let c1_i32 : BitVec 32 := 1#32
  let arg9 : BitVec 32 := Scf.iv c0_i32 c1_i32 k0_t1
  let c128_i32_296 : BitVec 32 := 128#32
  let v867 : BitVec 32 := Scalar.muli arg9 c128_i32_296
  let v868 : BitVec 32 := v867
  let v869 : Index := Scalar.indexCast v868
  ![1936, v869.toNat]
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_308 : BitVec 32 := 128#32
  let v905 : BitVec 32 := Scalar.muli arg9 c128_i32_308
  v905
def k0_off52 (k0_t1 : Fin k0_t1_loop.trips) : Fin 2 → Nat :=
  let c2256 : Index := 2256#32
  let c0_i32 : BitVec 32 := 0#32
  let c1_i32 : BitVec 32 := 1#32
  let arg9 : BitVec 32 := Scf.iv c0_i32 c1_i32 k0_t1
  let c128_i32_308 : BitVec 32 := 128#32
  let v905 : BitVec 32 := Scalar.muli arg9 c128_i32_308
  let v906 : BitVec 32 := v905
  let v907 : Index := Scalar.indexCast v906
  ![2256, v907.toNat]
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_320 : BitVec 32 := 128#32
  let v943 : BitVec 32 := Scalar.muli arg9 c128_i32_320
  v943
def k0_off53 (k0_t1 : Fin k0_t1_loop.trips) : Fin 2 → Nat :=
  let c2576 : Index := 2576#32
  let c0_i32 : BitVec 32 := 0#32
  let c1_i32 : BitVec 32 := 1#32
  let arg9 : BitVec 32 := Scf.iv c0_i32 c1_i32 k0_t1
  let c128_i32_320 : BitVec 32 := 128#32
  let v943 : BitVec 32 := Scalar.muli arg9 c128_i32_320
  let v944 : BitVec 32 := v943
  let v945 : Index := Scalar.indexCast v944
  ![2576, v945.toNat]
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_332 : BitVec 32 := 128#32
  let v981 : BitVec 32 := Scalar.muli arg9 c128_i32_332
  v981
def k0_off54 (k0_t1 : Fin k0_t1_loop.trips) : Fin 2 → Nat :=
  let c2896 : Index := 2896#32
  let c0_i32 : BitVec 32 := 0#32
  let c1_i32 : BitVec 32 := 1#32
  let arg9 : BitVec 32 := Scf.iv c0_i32 c1_i32 k0_t1
  let c128_i32_332 : BitVec 32 := 128#32
  let v981 : BitVec 32 := Scalar.muli arg9 c128_i32_332
  let v982 : BitVec 32 := v981
  let v983 : Index := Scalar.indexCast v982
  ![2896, v983.toNat]
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_344 : BitVec 32 := 128#32
  let v1019 : BitVec 32 := Scalar.muli arg9 c128_i32_344
  v1019
def k0_off55 (k0_t1 : Fin k0_t1_loop.trips) : Fin 2 → Nat :=
  let c3216 : Index := 3216#32
  let c0_i32 : BitVec 32 := 0#32
  let c1_i32 : BitVec 32 := 1#32
  let arg9 : BitVec 32 := Scf.iv c0_i32 c1_i32 k0_t1
  let c128_i32_344 : BitVec 32 := 128#32
  let v1019 : BitVec 32 := Scalar.muli arg9 c128_i32_344
  let v1020 : BitVec 32 := v1019
  let v1021 : Index := Scalar.indexCast v1020
  ![3216, v1021.toNat]
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_356 : BitVec 32 := 128#32
  let v1057 : BitVec 32 := Scalar.muli arg9 c128_i32_356
  v1057
def k0_off56 (k0_t1 : Fin k0_t1_loop.trips) : Fin 2 → Nat :=
  let c3536 : Index := 3536#32
  let c0_i32 : BitVec 32 := 0#32
  let c1_i32 : BitVec 32 := 1#32
  let arg9 : BitVec 32 := Scf.iv c0_i32 c1_i32 k0_t1
  let c128_i32_356 : BitVec 32 := 128#32
  let v1057 : BitVec 32 := Scalar.muli arg9 c128_i32_356
  let v1058 : BitVec 32 := v1057
  let v1059 : Index := Scalar.indexCast v1058
  ![3536, v1059.toNat]
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_368 : BitVec 32 := 128#32
  let v1095 : BitVec 32 := Scalar.muli arg9 c128_i32_368
  v1095
def k0_off57 (k0_t1 : Fin k0_t1_loop.trips) : Fin 2 → Nat :=
  let c3856 : Index := 3856#32
  let c0_i32 : BitVec 32 := 0#32
  let c1_i32 : BitVec 32 := 1#32
  let arg9 : BitVec 32 := Scf.iv c0_i32 c1_i32 k0_t1
  let c128_i32_368 : BitVec 32 := 128#32
  let v1095 : BitVec 32 := Scalar.muli arg9 c128_i32_368
  let v1096 : BitVec 32 := v1095
  let v1097 : Index := Scalar.indexCast v1096
  ![3856, v1097.toNat]
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_380 : BitVec 32 := 128#32
  let v1133 : BitVec 32 := Scalar.muli arg9 c128_i32_380
  v1133
def k0_off58 (k0_t1 : Fin k0_t1_loop.trips) : Fin 2 → Nat :=
  let c4176 : Index := 4176#32
  let c0_i32 : BitVec 32 := 0#32
  let c1_i32 : BitVec 32 := 1#32
  let arg9 : BitVec 32 := Scf.iv c0_i32 c1_i32 k0_t1
  let c128_i32_380 : BitVec 32 := 128#32
  let v1133 : BitVec 32 := Scalar.muli arg9 c128_i32_380
  let v1134 : BitVec 32 := v1133
  let v1135 : Index := Scalar.indexCast v1134
  ![4176, v1135.toNat]
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_392 : BitVec 32 := 128#32
  let v1171 : BitVec 32 := Scalar.muli arg9 c128_i32_392
  v1171
def k0_off59 (k0_t1 : Fin k0_t1_loop.trips) : Fin 2 → Nat :=
  let c4496 : Index := 4496#32
  let c0_i32 : BitVec 32 := 0#32
  let c1_i32 : BitVec 32 := 1#32
  let arg9 : BitVec 32 := Scf.iv c0_i32 c1_i32 k0_t1
  let c128_i32_392 : BitVec 32 := 128#32
  let v1171 : BitVec 32 := Scalar.muli arg9 c128_i32_392
  let v1172 : BitVec 32 := v1171
  let v1173 : Index := Scalar.indexCast v1172
  ![4496, v1173.toNat]
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_404 : BitVec 32 := 128#32
  let v1209 : BitVec 32 := Scalar.muli arg9 c128_i32_404
  v1209
def k0_off60 (k0_t1 : Fin k0_t1_loop.trips) : Fin 2 → Nat :=
  let c4816 : Index := 4816#32
  let c0_i32 : BitVec 32 := 0#32
  let c1_i32 : BitVec 32 := 1#32
  let arg9 : BitVec 32 := Scf.iv c0_i32 c1_i32 k0_t1
  let c128_i32_404 : BitVec 32 := 128#32
  let v1209 : BitVec 32 := Scalar.muli arg9 c128_i32_404
  let v1210 : BitVec 32 := v1209
  let v1211 : Index := Scalar.indexCast v1210
  ![4816, v1211.toNat]
def k0_off61 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1215 : Index := Scalar.indexCast arg9
  let c114 : Index := 114#32
  let c0_405 : Index := 0#32
  ![v1215.toNat, 114, 0]
def k0_off62 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1218 : Index := Scalar.indexCast arg9
  let c115 : Index := 115#32
  let c0_406 : Index := 0#32
  ![v1218.toNat, 115, 0]
def k0_off63 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1221 : Index := Scalar.indexCast arg9
  let c116 : Index := 116#32
  let c0_407 : Index := 0#32
  ![v1221.toNat, 116, 0]
def k0_off64 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1224 : Index := Scalar.indexCast arg9
  let c117 : Index := 117#32
  let c0_408 : Index := 0#32
  ![v1224.toNat, 117, 0]
def k0_off65 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1227 : Index := Scalar.indexCast arg9
  let c118 : Index := 118#32
  let c0_409 : Index := 0#32
  ![v1227.toNat, 118, 0]
def k0_off66 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1230 : Index := Scalar.indexCast arg9
  let c119 : Index := 119#32
  let c0_410 : Index := 0#32
  ![v1230.toNat, 119, 0]
def k0_off67 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1319 : Index := Scalar.indexCast arg9
  let c16_449 : Index := 16#32
  let c0_450 : Index := 0#32
  ![v1319.toNat, 16, 0]
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_454 : BitVec 32 := 128#32
  let v1331 : BitVec 32 := Scalar.muli arg9 c128_i32_454
  v1331
def k0_off68 (k0_t1 : Fin k0_t1_loop.trips) : Fin 2 → Nat :=
  let c32 : Index := 32#32
  let c0_i32 : BitVec 32 := 0#32
  let c1_i32 : BitVec 32 := 1#32
  let arg9 : BitVec 32 := Scf.iv c0_i32 c1_i32 k0_t1
  let c128_i32_454 : BitVec 32 := 128#32
  let v1331 : BitVec 32 := Scalar.muli arg9 c128_i32_454
  let v1332 : BitVec 32 := v1331
  let v1333 : Index := Scalar.indexCast v1332
  ![32, v1333.toNat]
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_458 : BitVec 32 := 128#32
  let v1345 : BitVec 32 := Scalar.muli arg9 c128_i32_458
  v1345
def k0_off69 (k0_t1 : Fin k0_t1_loop.trips) : Fin 2 → Nat :=
  let c352 : Index := 352#32
  let c0_i32 : BitVec 32 := 0#32
  let c1_i32 : BitVec 32 := 1#32
  let arg9 : BitVec 32 := Scf.iv c0_i32 c1_i32 k0_t1
  let c128_i32_458 : BitVec 32 := 128#32
  let v1345 : BitVec 32 := Scalar.muli arg9 c128_i32_458
  let v1346 : BitVec 32 := v1345
  let v1347 : Index := Scalar.indexCast v1346
  ![352, v1347.toNat]
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_462 : BitVec 32 := 128#32
  let v1359 : BitVec 32 := Scalar.muli arg9 c128_i32_462
  v1359
def k0_off70 (k0_t1 : Fin k0_t1_loop.trips) : Fin 2 → Nat :=
  let c672 : Index := 672#32
  let c0_i32 : BitVec 32 := 0#32
  let c1_i32 : BitVec 32 := 1#32
  let arg9 : BitVec 32 := Scf.iv c0_i32 c1_i32 k0_t1
  let c128_i32_462 : BitVec 32 := 128#32
  let v1359 : BitVec 32 := Scalar.muli arg9 c128_i32_462
  let v1360 : BitVec 32 := v1359
  let v1361 : Index := Scalar.indexCast v1360
  ![672, v1361.toNat]
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_466 : BitVec 32 := 128#32
  let v1373 : BitVec 32 := Scalar.muli arg9 c128_i32_466
  v1373
def k0_off71 (k0_t1 : Fin k0_t1_loop.trips) : Fin 2 → Nat :=
  let c992 : Index := 992#32
  let c0_i32 : BitVec 32 := 0#32
  let c1_i32 : BitVec 32 := 1#32
  let arg9 : BitVec 32 := Scf.iv c0_i32 c1_i32 k0_t1
  let c128_i32_466 : BitVec 32 := 128#32
  let v1373 : BitVec 32 := Scalar.muli arg9 c128_i32_466
  let v1374 : BitVec 32 := v1373
  let v1375 : Index := Scalar.indexCast v1374
  ![992, v1375.toNat]
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_470 : BitVec 32 := 128#32
  let v1387 : BitVec 32 := Scalar.muli arg9 c128_i32_470
  v1387
def k0_off72 (k0_t1 : Fin k0_t1_loop.trips) : Fin 2 → Nat :=
  let c1312 : Index := 1312#32
  let c0_i32 : BitVec 32 := 0#32
  let c1_i32 : BitVec 32 := 1#32
  let arg9 : BitVec 32 := Scf.iv c0_i32 c1_i32 k0_t1
  let c128_i32_470 : BitVec 32 := 128#32
  let v1387 : BitVec 32 := Scalar.muli arg9 c128_i32_470
  let v1388 : BitVec 32 := v1387
  let v1389 : Index := Scalar.indexCast v1388
  ![1312, v1389.toNat]
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_474 : BitVec 32 := 128#32
  let v1401 : BitVec 32 := Scalar.muli arg9 c128_i32_474
  v1401
def k0_off73 (k0_t1 : Fin k0_t1_loop.trips) : Fin 2 → Nat :=
  let c1632 : Index := 1632#32
  let c0_i32 : BitVec 32 := 0#32
  let c1_i32 : BitVec 32 := 1#32
  let arg9 : BitVec 32 := Scf.iv c0_i32 c1_i32 k0_t1
  let c128_i32_474 : BitVec 32 := 128#32
  let v1401 : BitVec 32 := Scalar.muli arg9 c128_i32_474
  let v1402 : BitVec 32 := v1401
  let v1403 : Index := Scalar.indexCast v1402
  ![1632, v1403.toNat]
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_478 : BitVec 32 := 128#32
  let v1415 : BitVec 32 := Scalar.muli arg9 c128_i32_478
  v1415
def k0_off74 (k0_t1 : Fin k0_t1_loop.trips) : Fin 2 → Nat :=
  let c1952 : Index := 1952#32
  let c0_i32 : BitVec 32 := 0#32
  let c1_i32 : BitVec 32 := 1#32
  let arg9 : BitVec 32 := Scf.iv c0_i32 c1_i32 k0_t1
  let c128_i32_478 : BitVec 32 := 128#32
  let v1415 : BitVec 32 := Scalar.muli arg9 c128_i32_478
  let v1416 : BitVec 32 := v1415
  let v1417 : Index := Scalar.indexCast v1416
  ![1952, v1417.toNat]
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_482 : BitVec 32 := 128#32
  let v1429 : BitVec 32 := Scalar.muli arg9 c128_i32_482
  v1429
def k0_off75 (k0_t1 : Fin k0_t1_loop.trips) : Fin 2 → Nat :=
  let c2272 : Index := 2272#32
  let c0_i32 : BitVec 32 := 0#32
  let c1_i32 : BitVec 32 := 1#32
  let arg9 : BitVec 32 := Scf.iv c0_i32 c1_i32 k0_t1
  let c128_i32_482 : BitVec 32 := 128#32
  let v1429 : BitVec 32 := Scalar.muli arg9 c128_i32_482
  let v1430 : BitVec 32 := v1429
  let v1431 : Index := Scalar.indexCast v1430
  ![2272, v1431.toNat]
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_486 : BitVec 32 := 128#32
  let v1443 : BitVec 32 := Scalar.muli arg9 c128_i32_486
  v1443
def k0_off76 (k0_t1 : Fin k0_t1_loop.trips) : Fin 2 → Nat :=
  let c2592 : Index := 2592#32
  let c0_i32 : BitVec 32 := 0#32
  let c1_i32 : BitVec 32 := 1#32
  let arg9 : BitVec 32 := Scf.iv c0_i32 c1_i32 k0_t1
  let c128_i32_486 : BitVec 32 := 128#32
  let v1443 : BitVec 32 := Scalar.muli arg9 c128_i32_486
  let v1444 : BitVec 32 := v1443
  let v1445 : Index := Scalar.indexCast v1444
  ![2592, v1445.toNat]
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_490 : BitVec 32 := 128#32
  let v1457 : BitVec 32 := Scalar.muli arg9 c128_i32_490
  v1457
def k0_off77 (k0_t1 : Fin k0_t1_loop.trips) : Fin 2 → Nat :=
  let c2912 : Index := 2912#32
  let c0_i32 : BitVec 32 := 0#32
  let c1_i32 : BitVec 32 := 1#32
  let arg9 : BitVec 32 := Scf.iv c0_i32 c1_i32 k0_t1
  let c128_i32_490 : BitVec 32 := 128#32
  let v1457 : BitVec 32 := Scalar.muli arg9 c128_i32_490
  let v1458 : BitVec 32 := v1457
  let v1459 : Index := Scalar.indexCast v1458
  ![2912, v1459.toNat]
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_494 : BitVec 32 := 128#32
  let v1471 : BitVec 32 := Scalar.muli arg9 c128_i32_494
  v1471
def k0_off78 (k0_t1 : Fin k0_t1_loop.trips) : Fin 2 → Nat :=
  let c3232 : Index := 3232#32
  let c0_i32 : BitVec 32 := 0#32
  let c1_i32 : BitVec 32 := 1#32
  let arg9 : BitVec 32 := Scf.iv c0_i32 c1_i32 k0_t1
  let c128_i32_494 : BitVec 32 := 128#32
  let v1471 : BitVec 32 := Scalar.muli arg9 c128_i32_494
  let v1472 : BitVec 32 := v1471
  let v1473 : Index := Scalar.indexCast v1472
  ![3232, v1473.toNat]
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_498 : BitVec 32 := 128#32
  let v1485 : BitVec 32 := Scalar.muli arg9 c128_i32_498
  v1485
def k0_off79 (k0_t1 : Fin k0_t1_loop.trips) : Fin 2 → Nat :=
  let c3552 : Index := 3552#32
  let c0_i32 : BitVec 32 := 0#32
  let c1_i32 : BitVec 32 := 1#32
  let arg9 : BitVec 32 := Scf.iv c0_i32 c1_i32 k0_t1
  let c128_i32_498 : BitVec 32 := 128#32
  let v1485 : BitVec 32 := Scalar.muli arg9 c128_i32_498
  let v1486 : BitVec 32 := v1485
  let v1487 : Index := Scalar.indexCast v1486
  ![3552, v1487.toNat]
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_502 : BitVec 32 := 128#32
  let v1499 : BitVec 32 := Scalar.muli arg9 c128_i32_502
  v1499
def k0_off80 (k0_t1 : Fin k0_t1_loop.trips) : Fin 2 → Nat :=
  let c3872 : Index := 3872#32
  let c0_i32 : BitVec 32 := 0#32
  let c1_i32 : BitVec 32 := 1#32
  let arg9 : BitVec 32 := Scf.iv c0_i32 c1_i32 k0_t1
  let c128_i32_502 : BitVec 32 := 128#32
  let v1499 : BitVec 32 := Scalar.muli arg9 c128_i32_502
  let v1500 : BitVec 32 := v1499
  let v1501 : Index := Scalar.indexCast v1500
  ![3872, v1501.toNat]
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_506 : BitVec 32 := 128#32
  let v1513 : BitVec 32 := Scalar.muli arg9 c128_i32_506
  v1513
def k0_off81 (k0_t1 : Fin k0_t1_loop.trips) : Fin 2 → Nat :=
  let c4192 : Index := 4192#32
  let c0_i32 : BitVec 32 := 0#32
  let c1_i32 : BitVec 32 := 1#32
  let arg9 : BitVec 32 := Scf.iv c0_i32 c1_i32 k0_t1
  let c128_i32_506 : BitVec 32 := 128#32
  let v1513 : BitVec 32 := Scalar.muli arg9 c128_i32_506
  let v1514 : BitVec 32 := v1513
  let v1515 : Index := Scalar.indexCast v1514
  ![4192, v1515.toNat]
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_510 : BitVec 32 := 128#32
  let v1527 : BitVec 32 := Scalar.muli arg9 c128_i32_510
  v1527
def k0_off82 (k0_t1 : Fin k0_t1_loop.trips) : Fin 2 → Nat :=
  let c4512 : Index := 4512#32
  let c0_i32 : BitVec 32 := 0#32
  let c1_i32 : BitVec 32 := 1#32
  let arg9 : BitVec 32 := Scf.iv c0_i32 c1_i32 k0_t1
  let c128_i32_510 : BitVec 32 := 128#32
  let v1527 : BitVec 32 := Scalar.muli arg9 c128_i32_510
  let v1528 : BitVec 32 := v1527
  let v1529 : Index := Scalar.indexCast v1528
  ![4512, v1529.toNat]
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_514 : BitVec 32 := 128#32
  let v1541 : BitVec 32 := Scalar.muli arg9 c128_i32_514
  v1541
def k0_off83 (k0_t1 : Fin k0_t1_loop.trips) : Fin 2 → Nat :=
  let c4832 : Index := 4832#32
  let c0_i32 : BitVec 32 := 0#32
  let c1_i32 : BitVec 32 := 1#32
  let arg9 : BitVec 32 := Scf.iv c0_i32 c1_i32 k0_t1
  let c128_i32_514 : BitVec 32 := 128#32
  let v1541 : BitVec 32 := Scalar.muli arg9 c128_i32_514
  let v1542 : BitVec 32 := v1541
  let v1543 : Index := Scalar.indexCast v1542
  ![4832, v1543.toNat]
def k0_off84 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1547 : Index := Scalar.indexCast arg9
  let c162 : Index := 162#32
  let c0_515 : Index := 0#32
  ![v1547.toNat, 162, 0]
def k0_off85 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1550 : Index := Scalar.indexCast arg9
  let c163 : Index := 163#32
  let c0_516 : Index := 0#32
  ![v1550.toNat, 163, 0]
def k0_off86 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1553 : Index := Scalar.indexCast arg9
  let c164 : Index := 164#32
  let c0_517 : Index := 0#32
  ![v1553.toNat, 164, 0]
def k0_off87 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1556 : Index := Scalar.indexCast arg9
  let c165 : Index := 165#32
  let c0_518 : Index := 0#32
  ![v1556.toNat, 165, 0]
def k0_off88 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1559 : Index := Scalar.indexCast arg9
  let c166 : Index := 166#32
  let c0_519 : Index := 0#32
  ![v1559.toNat, 166, 0]
def k0_off89 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1562 : Index := Scalar.indexCast arg9
  let c167 : Index := 167#32
  let c0_520 : Index := 0#32
  ![v1562.toNat, 167, 0]
def k0_off90 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1651 : Index := Scalar.indexCast arg9
  let c165_559 : Index := 165#32
  let c0_560 : Index := 0#32
  ![v1651.toNat, 165, 0]
def k0_off91 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1654 : Index := Scalar.indexCast arg9
  let c166_561 : Index := 166#32
  let c0_562 : Index := 0#32
  ![v1654.toNat, 166, 0]
def k0_off92 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1657 : Index := Scalar.indexCast arg9
  let c167_563 : Index := 167#32
  let c0_564 : Index := 0#32
  ![v1657.toNat, 167, 0]
def k0_off93 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1660 : Index := Scalar.indexCast arg9
  let c168 : Index := 168#32
  let c0_565 : Index := 0#32
  ![v1660.toNat, 168, 0]
def k0_off94 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1663 : Index := Scalar.indexCast arg9
  let c169 : Index := 169#32
  let c0_566 : Index := 0#32
  ![v1663.toNat, 169, 0]
def k0_off95 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1749 : Index := Scalar.indexCast arg9
  let c24 : Index := 24#32
  let c0_591 : Index := 0#32
  ![v1749.toNat, 24, 0]
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_598 : BitVec 32 := 128#32
  let v1775 : BitVec 32 := Scalar.muli arg9 c128_i32_598
  v1775
def k0_off96 (k0_t1 : Fin k0_t1_loop.trips) : Fin 2 → Nat :=
  let c48 : Index := 48#32
  let c0_i32 : BitVec 32 := 0#32
  let c1_i32 : BitVec 32 := 1#32
  let arg9 : BitVec 32 := Scf.iv c0_i32 c1_i32 k0_t1
  let c128_i32_598 : BitVec 32 := 128#32
  let v1775 : BitVec 32 := Scalar.muli arg9 c128_i32_598
  let v1776 : BitVec 32 := v1775
  let v1777 : Index := Scalar.indexCast v1776
  ![48, v1777.toNat]
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_606 : BitVec 32 := 128#32
  let v1803 : BitVec 32 := Scalar.muli arg9 c128_i32_606
  v1803
def k0_off97 (k0_t1 : Fin k0_t1_loop.trips) : Fin 2 → Nat :=
  let c368 : Index := 368#32
  let c0_i32 : BitVec 32 := 0#32
  let c1_i32 : BitVec 32 := 1#32
  let arg9 : BitVec 32 := Scf.iv c0_i32 c1_i32 k0_t1
  let c128_i32_606 : BitVec 32 := 128#32
  let v1803 : BitVec 32 := Scalar.muli arg9 c128_i32_606
  let v1804 : BitVec 32 := v1803
  let v1805 : Index := Scalar.indexCast v1804
  ![368, v1805.toNat]
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_614 : BitVec 32 := 128#32
  let v1831 : BitVec 32 := Scalar.muli arg9 c128_i32_614
  v1831
def k0_off98 (k0_t1 : Fin k0_t1_loop.trips) : Fin 2 → Nat :=
  let c688 : Index := 688#32
  let c0_i32 : BitVec 32 := 0#32
  let c1_i32 : BitVec 32 := 1#32
  let arg9 : BitVec 32 := Scf.iv c0_i32 c1_i32 k0_t1
  let c128_i32_614 : BitVec 32 := 128#32
  let v1831 : BitVec 32 := Scalar.muli arg9 c128_i32_614
  let v1832 : BitVec 32 := v1831
  let v1833 : Index := Scalar.indexCast v1832
  ![688, v1833.toNat]
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_622 : BitVec 32 := 128#32
  let v1859 : BitVec 32 := Scalar.muli arg9 c128_i32_622
  v1859
def k0_off99 (k0_t1 : Fin k0_t1_loop.trips) : Fin 2 → Nat :=
  let c1008 : Index := 1008#32
  let c0_i32 : BitVec 32 := 0#32
  let c1_i32 : BitVec 32 := 1#32
  let arg9 : BitVec 32 := Scf.iv c0_i32 c1_i32 k0_t1
  let c128_i32_622 : BitVec 32 := 128#32
  let v1859 : BitVec 32 := Scalar.muli arg9 c128_i32_622
  let v1860 : BitVec 32 := v1859
  let v1861 : Index := Scalar.indexCast v1860
  ![1008, v1861.toNat]
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_630 : BitVec 32 := 128#32
  let v1887 : BitVec 32 := Scalar.muli arg9 c128_i32_630
  v1887
def k0_off100 (k0_t1 : Fin k0_t1_loop.trips) : Fin 2 → Nat :=
  let c1328 : Index := 1328#32
  let c0_i32 : BitVec 32 := 0#32
  let c1_i32 : BitVec 32 := 1#32
  let arg9 : BitVec 32 := Scf.iv c0_i32 c1_i32 k0_t1
  let c128_i32_630 : BitVec 32 := 128#32
  let v1887 : BitVec 32 := Scalar.muli arg9 c128_i32_630
  let v1888 : BitVec 32 := v1887
  let v1889 : Index := Scalar.indexCast v1888
  ![1328, v1889.toNat]
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_638 : BitVec 32 := 128#32
  let v1915 : BitVec 32 := Scalar.muli arg9 c128_i32_638
  v1915
def k0_off101 (k0_t1 : Fin k0_t1_loop.trips) : Fin 2 → Nat :=
  let c1648 : Index := 1648#32
  let c0_i32 : BitVec 32 := 0#32
  let c1_i32 : BitVec 32 := 1#32
  let arg9 : BitVec 32 := Scf.iv c0_i32 c1_i32 k0_t1
  let c128_i32_638 : BitVec 32 := 128#32
  let v1915 : BitVec 32 := Scalar.muli arg9 c128_i32_638
  let v1916 : BitVec 32 := v1915
  let v1917 : Index := Scalar.indexCast v1916
  ![1648, v1917.toNat]
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_646 : BitVec 32 := 128#32
  let v1943 : BitVec 32 := Scalar.muli arg9 c128_i32_646
  v1943
def k0_off102 (k0_t1 : Fin k0_t1_loop.trips) : Fin 2 → Nat :=
  let c1968 : Index := 1968#32
  let c0_i32 : BitVec 32 := 0#32
  let c1_i32 : BitVec 32 := 1#32
  let arg9 : BitVec 32 := Scf.iv c0_i32 c1_i32 k0_t1
  let c128_i32_646 : BitVec 32 := 128#32
  let v1943 : BitVec 32 := Scalar.muli arg9 c128_i32_646
  let v1944 : BitVec 32 := v1943
  let v1945 : Index := Scalar.indexCast v1944
  ![1968, v1945.toNat]
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_654 : BitVec 32 := 128#32
  let v1971 : BitVec 32 := Scalar.muli arg9 c128_i32_654
  v1971
def k0_off103 (k0_t1 : Fin k0_t1_loop.trips) : Fin 2 → Nat :=
  let c2288 : Index := 2288#32
  let c0_i32 : BitVec 32 := 0#32
  let c1_i32 : BitVec 32 := 1#32
  let arg9 : BitVec 32 := Scf.iv c0_i32 c1_i32 k0_t1
  let c128_i32_654 : BitVec 32 := 128#32
  let v1971 : BitVec 32 := Scalar.muli arg9 c128_i32_654
  let v1972 : BitVec 32 := v1971
  let v1973 : Index := Scalar.indexCast v1972
  ![2288, v1973.toNat]
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_662 : BitVec 32 := 128#32
  let v1999 : BitVec 32 := Scalar.muli arg9 c128_i32_662
  v1999
def k0_off104 (k0_t1 : Fin k0_t1_loop.trips) : Fin 2 → Nat :=
  let c2608 : Index := 2608#32
  let c0_i32 : BitVec 32 := 0#32
  let c1_i32 : BitVec 32 := 1#32
  let arg9 : BitVec 32 := Scf.iv c0_i32 c1_i32 k0_t1
  let c128_i32_662 : BitVec 32 := 128#32
  let v1999 : BitVec 32 := Scalar.muli arg9 c128_i32_662
  let v2000 : BitVec 32 := v1999
  let v2001 : Index := Scalar.indexCast v2000
  ![2608, v2001.toNat]
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_670 : BitVec 32 := 128#32
  let v2027 : BitVec 32 := Scalar.muli arg9 c128_i32_670
  v2027
def k0_off105 (k0_t1 : Fin k0_t1_loop.trips) : Fin 2 → Nat :=
  let c2928 : Index := 2928#32
  let c0_i32 : BitVec 32 := 0#32
  let c1_i32 : BitVec 32 := 1#32
  let arg9 : BitVec 32 := Scf.iv c0_i32 c1_i32 k0_t1
  let c128_i32_670 : BitVec 32 := 128#32
  let v2027 : BitVec 32 := Scalar.muli arg9 c128_i32_670
  let v2028 : BitVec 32 := v2027
  let v2029 : Index := Scalar.indexCast v2028
  ![2928, v2029.toNat]
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_678 : BitVec 32 := 128#32
  let v2055 : BitVec 32 := Scalar.muli arg9 c128_i32_678
  v2055
def k0_off106 (k0_t1 : Fin k0_t1_loop.trips) : Fin 2 → Nat :=
  let c3248 : Index := 3248#32
  let c0_i32 : BitVec 32 := 0#32
  let c1_i32 : BitVec 32 := 1#32
  let arg9 : BitVec 32 := Scf.iv c0_i32 c1_i32 k0_t1
  let c128_i32_678 : BitVec 32 := 128#32
  let v2055 : BitVec 32 := Scalar.muli arg9 c128_i32_678
  let v2056 : BitVec 32 := v2055
  let v2057 : Index := Scalar.indexCast v2056
  ![3248, v2057.toNat]
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_686 : BitVec 32 := 128#32
  let v2083 : BitVec 32 := Scalar.muli arg9 c128_i32_686
  v2083
def k0_off107 (k0_t1 : Fin k0_t1_loop.trips) : Fin 2 → Nat :=
  let c3568 : Index := 3568#32
  let c0_i32 : BitVec 32 := 0#32
  let c1_i32 : BitVec 32 := 1#32
  let arg9 : BitVec 32 := Scf.iv c0_i32 c1_i32 k0_t1
  let c128_i32_686 : BitVec 32 := 128#32
  let v2083 : BitVec 32 := Scalar.muli arg9 c128_i32_686
  let v2084 : BitVec 32 := v2083
  let v2085 : Index := Scalar.indexCast v2084
  ![3568, v2085.toNat]
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_694 : BitVec 32 := 128#32
  let v2111 : BitVec 32 := Scalar.muli arg9 c128_i32_694
  v2111
def k0_off108 (k0_t1 : Fin k0_t1_loop.trips) : Fin 2 → Nat :=
  let c3888 : Index := 3888#32
  let c0_i32 : BitVec 32 := 0#32
  let c1_i32 : BitVec 32 := 1#32
  let arg9 : BitVec 32 := Scf.iv c0_i32 c1_i32 k0_t1
  let c128_i32_694 : BitVec 32 := 128#32
  let v2111 : BitVec 32 := Scalar.muli arg9 c128_i32_694
  let v2112 : BitVec 32 := v2111
  let v2113 : Index := Scalar.indexCast v2112
  ![3888, v2113.toNat]
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_702 : BitVec 32 := 128#32
  let v2139 : BitVec 32 := Scalar.muli arg9 c128_i32_702
  v2139
def k0_off109 (k0_t1 : Fin k0_t1_loop.trips) : Fin 2 → Nat :=
  let c4208 : Index := 4208#32
  let c0_i32 : BitVec 32 := 0#32
  let c1_i32 : BitVec 32 := 1#32
  let arg9 : BitVec 32 := Scf.iv c0_i32 c1_i32 k0_t1
  let c128_i32_702 : BitVec 32 := 128#32
  let v2139 : BitVec 32 := Scalar.muli arg9 c128_i32_702
  let v2140 : BitVec 32 := v2139
  let v2141 : Index := Scalar.indexCast v2140
  ![4208, v2141.toNat]
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_710 : BitVec 32 := 128#32
  let v2167 : BitVec 32 := Scalar.muli arg9 c128_i32_710
  v2167
def k0_off110 (k0_t1 : Fin k0_t1_loop.trips) : Fin 2 → Nat :=
  let c4528 : Index := 4528#32
  let c0_i32 : BitVec 32 := 0#32
  let c1_i32 : BitVec 32 := 1#32
  let arg9 : BitVec 32 := Scf.iv c0_i32 c1_i32 k0_t1
  let c128_i32_710 : BitVec 32 := 128#32
  let v2167 : BitVec 32 := Scalar.muli arg9 c128_i32_710
  let v2168 : BitVec 32 := v2167
  let v2169 : Index := Scalar.indexCast v2168
  ![4528, v2169.toNat]
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_718 : BitVec 32 := 128#32
  let v2195 : BitVec 32 := Scalar.muli arg9 c128_i32_718
  v2195
def k0_off111 (k0_t1 : Fin k0_t1_loop.trips) : Fin 2 → Nat :=
  let c4848 : Index := 4848#32
  let c0_i32 : BitVec 32 := 0#32
  let c1_i32 : BitVec 32 := 1#32
  let arg9 : BitVec 32 := Scf.iv c0_i32 c1_i32 k0_t1
  let c128_i32_718 : BitVec 32 := 128#32
  let v2195 : BitVec 32 := Scalar.muli arg9 c128_i32_718
  let v2196 : BitVec 32 := v2195
  let v2197 : Index := Scalar.indexCast v2196
  ![4848, v2197.toNat]
def k0_off112 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2201 : Index := Scalar.indexCast arg9
  let c205 : Index := 205#32
  let c0_719 : Index := 0#32
  ![v2201.toNat, 205, 0]
def k0_off113 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2204 : Index := Scalar.indexCast arg9
  let c206 : Index := 206#32
  let c0_720 : Index := 0#32
  ![v2204.toNat, 206, 0]
def k0_off114 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2207 : Index := Scalar.indexCast arg9
  let c207 : Index := 207#32
  let c0_721 : Index := 0#32
  ![v2207.toNat, 207, 0]
def k0_off115 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2210 : Index := Scalar.indexCast arg9
  let c208 : Index := 208#32
  let c0_722 : Index := 0#32
  ![v2210.toNat, 208, 0]
def k0_off116 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2213 : Index := Scalar.indexCast arg9
  let c209 : Index := 209#32
  let c0_723 : Index := 0#32
  ![v2213.toNat, 209, 0]
def k0_off117 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2299 : Index := Scalar.indexCast arg9
  let c32_761 : Index := 32#32
  let c0_762 : Index := 0#32
  ![v2299.toNat, 32, 0]
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_766 : BitVec 32 := 128#32
  let v2311 : BitVec 32 := Scalar.muli arg9 c128_i32_766
  v2311
def k0_off118 (k0_t1 : Fin k0_t1_loop.trips) : Fin 2 → Nat :=
  let c64_767 : Index := 64#32
  let c0_i32 : BitVec 32 := 0#32
  let c1_i32 : BitVec 32 := 1#32
  let arg9 : BitVec 32 := Scf.iv c0_i32 c1_i32 k0_t1
  let c128_i32_766 : BitVec 32 := 128#32
  let v2311 : BitVec 32 := Scalar.muli arg9 c128_i32_766
  let v2312 : BitVec 32 := v2311
  let v2313 : Index := Scalar.indexCast v2312
  ![64, v2313.toNat]
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_771 : BitVec 32 := 128#32
  let v2325 : BitVec 32 := Scalar.muli arg9 c128_i32_771
  v2325
def k0_off119 (k0_t1 : Fin k0_t1_loop.trips) : Fin 2 → Nat :=
  let c384 : Index := 384#32
  let c0_i32 : BitVec 32 := 0#32
  let c1_i32 : BitVec 32 := 1#32
  let arg9 : BitVec 32 := Scf.iv c0_i32 c1_i32 k0_t1
  let c128_i32_771 : BitVec 32 := 128#32
  let v2325 : BitVec 32 := Scalar.muli arg9 c128_i32_771
  let v2326 : BitVec 32 := v2325
  let v2327 : Index := Scalar.indexCast v2326
  ![384, v2327.toNat]
def k0_mult68 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_775 : BitVec 32 := 128#32
  let v2339 : BitVec 32 := Scalar.muli arg9 c128_i32_775
  v2339
def k0_off120 (k0_t1 : Fin k0_t1_loop.trips) : Fin 2 → Nat :=
  let c704 : Index := 704#32
  let c0_i32 : BitVec 32 := 0#32
  let c1_i32 : BitVec 32 := 1#32
  let arg9 : BitVec 32 := Scf.iv c0_i32 c1_i32 k0_t1
  let c128_i32_775 : BitVec 32 := 128#32
  let v2339 : BitVec 32 := Scalar.muli arg9 c128_i32_775
  let v2340 : BitVec 32 := v2339
  let v2341 : Index := Scalar.indexCast v2340
  ![704, v2341.toNat]
def k0_mult69 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_779 : BitVec 32 := 128#32
  let v2353 : BitVec 32 := Scalar.muli arg9 c128_i32_779
  v2353
def k0_off121 (k0_t1 : Fin k0_t1_loop.trips) : Fin 2 → Nat :=
  let c1024 : Index := 1024#32
  let c0_i32 : BitVec 32 := 0#32
  let c1_i32 : BitVec 32 := 1#32
  let arg9 : BitVec 32 := Scf.iv c0_i32 c1_i32 k0_t1
  let c128_i32_779 : BitVec 32 := 128#32
  let v2353 : BitVec 32 := Scalar.muli arg9 c128_i32_779
  let v2354 : BitVec 32 := v2353
  let v2355 : Index := Scalar.indexCast v2354
  ![1024, v2355.toNat]
def k0_mult70 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_783 : BitVec 32 := 128#32
  let v2367 : BitVec 32 := Scalar.muli arg9 c128_i32_783
  v2367
def k0_off122 (k0_t1 : Fin k0_t1_loop.trips) : Fin 2 → Nat :=
  let c1344 : Index := 1344#32
  let c0_i32 : BitVec 32 := 0#32
  let c1_i32 : BitVec 32 := 1#32
  let arg9 : BitVec 32 := Scf.iv c0_i32 c1_i32 k0_t1
  let c128_i32_783 : BitVec 32 := 128#32
  let v2367 : BitVec 32 := Scalar.muli arg9 c128_i32_783
  let v2368 : BitVec 32 := v2367
  let v2369 : Index := Scalar.indexCast v2368
  ![1344, v2369.toNat]
def k0_mult71 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_787 : BitVec 32 := 128#32
  let v2381 : BitVec 32 := Scalar.muli arg9 c128_i32_787
  v2381
def k0_off123 (k0_t1 : Fin k0_t1_loop.trips) : Fin 2 → Nat :=
  let c1664 : Index := 1664#32
  let c0_i32 : BitVec 32 := 0#32
  let c1_i32 : BitVec 32 := 1#32
  let arg9 : BitVec 32 := Scf.iv c0_i32 c1_i32 k0_t1
  let c128_i32_787 : BitVec 32 := 128#32
  let v2381 : BitVec 32 := Scalar.muli arg9 c128_i32_787
  let v2382 : BitVec 32 := v2381
  let v2383 : Index := Scalar.indexCast v2382
  ![1664, v2383.toNat]
def k0_mult72 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_791 : BitVec 32 := 128#32
  let v2395 : BitVec 32 := Scalar.muli arg9 c128_i32_791
  v2395
def k0_off124 (k0_t1 : Fin k0_t1_loop.trips) : Fin 2 → Nat :=
  let c1984 : Index := 1984#32
  let c0_i32 : BitVec 32 := 0#32
  let c1_i32 : BitVec 32 := 1#32
  let arg9 : BitVec 32 := Scf.iv c0_i32 c1_i32 k0_t1
  let c128_i32_791 : BitVec 32 := 128#32
  let v2395 : BitVec 32 := Scalar.muli arg9 c128_i32_791
  let v2396 : BitVec 32 := v2395
  let v2397 : Index := Scalar.indexCast v2396
  ![1984, v2397.toNat]
def k0_mult73 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_795 : BitVec 32 := 128#32
  let v2409 : BitVec 32 := Scalar.muli arg9 c128_i32_795
  v2409
def k0_off125 (k0_t1 : Fin k0_t1_loop.trips) : Fin 2 → Nat :=
  let c2304 : Index := 2304#32
  let c0_i32 : BitVec 32 := 0#32
  let c1_i32 : BitVec 32 := 1#32
  let arg9 : BitVec 32 := Scf.iv c0_i32 c1_i32 k0_t1
  let c128_i32_795 : BitVec 32 := 128#32
  let v2409 : BitVec 32 := Scalar.muli arg9 c128_i32_795
  let v2410 : BitVec 32 := v2409
  let v2411 : Index := Scalar.indexCast v2410
  ![2304, v2411.toNat]
def k0_mult74 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_799 : BitVec 32 := 128#32
  let v2423 : BitVec 32 := Scalar.muli arg9 c128_i32_799
  v2423
def k0_off126 (k0_t1 : Fin k0_t1_loop.trips) : Fin 2 → Nat :=
  let c2624 : Index := 2624#32
  let c0_i32 : BitVec 32 := 0#32
  let c1_i32 : BitVec 32 := 1#32
  let arg9 : BitVec 32 := Scf.iv c0_i32 c1_i32 k0_t1
  let c128_i32_799 : BitVec 32 := 128#32
  let v2423 : BitVec 32 := Scalar.muli arg9 c128_i32_799
  let v2424 : BitVec 32 := v2423
  let v2425 : Index := Scalar.indexCast v2424
  ![2624, v2425.toNat]
def k0_mult75 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_803 : BitVec 32 := 128#32
  let v2437 : BitVec 32 := Scalar.muli arg9 c128_i32_803
  v2437
def k0_off127 (k0_t1 : Fin k0_t1_loop.trips) : Fin 2 → Nat :=
  let c2944 : Index := 2944#32
  let c0_i32 : BitVec 32 := 0#32
  let c1_i32 : BitVec 32 := 1#32
  let arg9 : BitVec 32 := Scf.iv c0_i32 c1_i32 k0_t1
  let c128_i32_803 : BitVec 32 := 128#32
  let v2437 : BitVec 32 := Scalar.muli arg9 c128_i32_803
  let v2438 : BitVec 32 := v2437
  let v2439 : Index := Scalar.indexCast v2438
  ![2944, v2439.toNat]
def k0_mult76 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_807 : BitVec 32 := 128#32
  let v2451 : BitVec 32 := Scalar.muli arg9 c128_i32_807
  v2451
def k0_off128 (k0_t1 : Fin k0_t1_loop.trips) : Fin 2 → Nat :=
  let c3264 : Index := 3264#32
  let c0_i32 : BitVec 32 := 0#32
  let c1_i32 : BitVec 32 := 1#32
  let arg9 : BitVec 32 := Scf.iv c0_i32 c1_i32 k0_t1
  let c128_i32_807 : BitVec 32 := 128#32
  let v2451 : BitVec 32 := Scalar.muli arg9 c128_i32_807
  let v2452 : BitVec 32 := v2451
  let v2453 : Index := Scalar.indexCast v2452
  ![3264, v2453.toNat]
def k0_mult77 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_811 : BitVec 32 := 128#32
  let v2465 : BitVec 32 := Scalar.muli arg9 c128_i32_811
  v2465
def k0_off129 (k0_t1 : Fin k0_t1_loop.trips) : Fin 2 → Nat :=
  let c3584 : Index := 3584#32
  let c0_i32 : BitVec 32 := 0#32
  let c1_i32 : BitVec 32 := 1#32
  let arg9 : BitVec 32 := Scf.iv c0_i32 c1_i32 k0_t1
  let c128_i32_811 : BitVec 32 := 128#32
  let v2465 : BitVec 32 := Scalar.muli arg9 c128_i32_811
  let v2466 : BitVec 32 := v2465
  let v2467 : Index := Scalar.indexCast v2466
  ![3584, v2467.toNat]
def k0_mult78 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_815 : BitVec 32 := 128#32
  let v2479 : BitVec 32 := Scalar.muli arg9 c128_i32_815
  v2479
def k0_off130 (k0_t1 : Fin k0_t1_loop.trips) : Fin 2 → Nat :=
  let c3904 : Index := 3904#32
  let c0_i32 : BitVec 32 := 0#32
  let c1_i32 : BitVec 32 := 1#32
  let arg9 : BitVec 32 := Scf.iv c0_i32 c1_i32 k0_t1
  let c128_i32_815 : BitVec 32 := 128#32
  let v2479 : BitVec 32 := Scalar.muli arg9 c128_i32_815
  let v2480 : BitVec 32 := v2479
  let v2481 : Index := Scalar.indexCast v2480
  ![3904, v2481.toNat]
def k0_mult79 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_819 : BitVec 32 := 128#32
  let v2493 : BitVec 32 := Scalar.muli arg9 c128_i32_819
  v2493
def k0_off131 (k0_t1 : Fin k0_t1_loop.trips) : Fin 2 → Nat :=
  let c4224 : Index := 4224#32
  let c0_i32 : BitVec 32 := 0#32
  let c1_i32 : BitVec 32 := 1#32
  let arg9 : BitVec 32 := Scf.iv c0_i32 c1_i32 k0_t1
  let c128_i32_819 : BitVec 32 := 128#32
  let v2493 : BitVec 32 := Scalar.muli arg9 c128_i32_819
  let v2494 : BitVec 32 := v2493
  let v2495 : Index := Scalar.indexCast v2494
  ![4224, v2495.toNat]
def k0_mult80 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_823 : BitVec 32 := 128#32
  let v2507 : BitVec 32 := Scalar.muli arg9 c128_i32_823
  v2507
def k0_off132 (k0_t1 : Fin k0_t1_loop.trips) : Fin 2 → Nat :=
  let c4544 : Index := 4544#32
  let c0_i32 : BitVec 32 := 0#32
  let c1_i32 : BitVec 32 := 1#32
  let arg9 : BitVec 32 := Scf.iv c0_i32 c1_i32 k0_t1
  let c128_i32_823 : BitVec 32 := 128#32
  let v2507 : BitVec 32 := Scalar.muli arg9 c128_i32_823
  let v2508 : BitVec 32 := v2507
  let v2509 : Index := Scalar.indexCast v2508
  ![4544, v2509.toNat]
def k0_mult81 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_827 : BitVec 32 := 128#32
  let v2521 : BitVec 32 := Scalar.muli arg9 c128_i32_827
  v2521
def k0_off133 (k0_t1 : Fin k0_t1_loop.trips) : Fin 2 → Nat :=
  let c4864 : Index := 4864#32
  let c0_i32 : BitVec 32 := 0#32
  let c1_i32 : BitVec 32 := 1#32
  let arg9 : BitVec 32 := Scf.iv c0_i32 c1_i32 k0_t1
  let c128_i32_827 : BitVec 32 := 128#32
  let v2521 : BitVec 32 := Scalar.muli arg9 c128_i32_827
  let v2522 : BitVec 32 := v2521
  let v2523 : Index := Scalar.indexCast v2522
  ![4864, v2523.toNat]
def k0_off134 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2527 : Index := Scalar.indexCast arg9
  let c245 : Index := 245#32
  let c0_828 : Index := 0#32
  ![v2527.toNat, 245, 0]
def k0_off135 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2530 : Index := Scalar.indexCast arg9
  let c246 : Index := 246#32
  let c0_829 : Index := 0#32
  ![v2530.toNat, 246, 0]
def k0_off136 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2533 : Index := Scalar.indexCast arg9
  let c247 : Index := 247#32
  let c0_830 : Index := 0#32
  ![v2533.toNat, 247, 0]
def k0_off137 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2536 : Index := Scalar.indexCast arg9
  let c248 : Index := 248#32
  let c0_831 : Index := 0#32
  ![v2536.toNat, 248, 0]
def k0_off138 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2539 : Index := Scalar.indexCast arg9
  let c249 : Index := 249#32
  let c0_832 : Index := 0#32
  ![v2539.toNat, 249, 0]
def k0_off139 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2625 : Index := Scalar.indexCast arg9
  let c40 : Index := 40#32
  let c0_870 : Index := 0#32
  ![v2625.toNat, 40, 0]
def k0_mult82 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_874 : BitVec 32 := 128#32
  let v2637 : BitVec 32 := Scalar.muli arg9 c128_i32_874
  v2637
def k0_off140 (k0_t1 : Fin k0_t1_loop.trips) : Fin 2 → Nat :=
  let c80 : Index := 80#32
  let c0_i32 : BitVec 32 := 0#32
  let c1_i32 : BitVec 32 := 1#32
  let arg9 : BitVec 32 := Scf.iv c0_i32 c1_i32 k0_t1
  let c128_i32_874 : BitVec 32 := 128#32
  let v2637 : BitVec 32 := Scalar.muli arg9 c128_i32_874
  let v2638 : BitVec 32 := v2637
  let v2639 : Index := Scalar.indexCast v2638
  ![80, v2639.toNat]
def k0_mult83 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_878 : BitVec 32 := 128#32
  let v2651 : BitVec 32 := Scalar.muli arg9 c128_i32_878
  v2651
def k0_off141 (k0_t1 : Fin k0_t1_loop.trips) : Fin 2 → Nat :=
  let c400 : Index := 400#32
  let c0_i32 : BitVec 32 := 0#32
  let c1_i32 : BitVec 32 := 1#32
  let arg9 : BitVec 32 := Scf.iv c0_i32 c1_i32 k0_t1
  let c128_i32_878 : BitVec 32 := 128#32
  let v2651 : BitVec 32 := Scalar.muli arg9 c128_i32_878
  let v2652 : BitVec 32 := v2651
  let v2653 : Index := Scalar.indexCast v2652
  ![400, v2653.toNat]
def k0_mult84 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_882 : BitVec 32 := 128#32
  let v2665 : BitVec 32 := Scalar.muli arg9 c128_i32_882
  v2665
def k0_off142 (k0_t1 : Fin k0_t1_loop.trips) : Fin 2 → Nat :=
  let c720 : Index := 720#32
  let c0_i32 : BitVec 32 := 0#32
  let c1_i32 : BitVec 32 := 1#32
  let arg9 : BitVec 32 := Scf.iv c0_i32 c1_i32 k0_t1
  let c128_i32_882 : BitVec 32 := 128#32
  let v2665 : BitVec 32 := Scalar.muli arg9 c128_i32_882
  let v2666 : BitVec 32 := v2665
  let v2667 : Index := Scalar.indexCast v2666
  ![720, v2667.toNat]
def k0_mult85 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_886 : BitVec 32 := 128#32
  let v2679 : BitVec 32 := Scalar.muli arg9 c128_i32_886
  v2679
def k0_off143 (k0_t1 : Fin k0_t1_loop.trips) : Fin 2 → Nat :=
  let c1040 : Index := 1040#32
  let c0_i32 : BitVec 32 := 0#32
  let c1_i32 : BitVec 32 := 1#32
  let arg9 : BitVec 32 := Scf.iv c0_i32 c1_i32 k0_t1
  let c128_i32_886 : BitVec 32 := 128#32
  let v2679 : BitVec 32 := Scalar.muli arg9 c128_i32_886
  let v2680 : BitVec 32 := v2679
  let v2681 : Index := Scalar.indexCast v2680
  ![1040, v2681.toNat]
def k0_mult86 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_890 : BitVec 32 := 128#32
  let v2693 : BitVec 32 := Scalar.muli arg9 c128_i32_890
  v2693
def k0_off144 (k0_t1 : Fin k0_t1_loop.trips) : Fin 2 → Nat :=
  let c1360 : Index := 1360#32
  let c0_i32 : BitVec 32 := 0#32
  let c1_i32 : BitVec 32 := 1#32
  let arg9 : BitVec 32 := Scf.iv c0_i32 c1_i32 k0_t1
  let c128_i32_890 : BitVec 32 := 128#32
  let v2693 : BitVec 32 := Scalar.muli arg9 c128_i32_890
  let v2694 : BitVec 32 := v2693
  let v2695 : Index := Scalar.indexCast v2694
  ![1360, v2695.toNat]
def k0_mult87 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_894 : BitVec 32 := 128#32
  let v2707 : BitVec 32 := Scalar.muli arg9 c128_i32_894
  v2707
def k0_off145 (k0_t1 : Fin k0_t1_loop.trips) : Fin 2 → Nat :=
  let c1680 : Index := 1680#32
  let c0_i32 : BitVec 32 := 0#32
  let c1_i32 : BitVec 32 := 1#32
  let arg9 : BitVec 32 := Scf.iv c0_i32 c1_i32 k0_t1
  let c128_i32_894 : BitVec 32 := 128#32
  let v2707 : BitVec 32 := Scalar.muli arg9 c128_i32_894
  let v2708 : BitVec 32 := v2707
  let v2709 : Index := Scalar.indexCast v2708
  ![1680, v2709.toNat]
def k0_mult88 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_898 : BitVec 32 := 128#32
  let v2721 : BitVec 32 := Scalar.muli arg9 c128_i32_898
  v2721
def k0_off146 (k0_t1 : Fin k0_t1_loop.trips) : Fin 2 → Nat :=
  let c2000 : Index := 2000#32
  let c0_i32 : BitVec 32 := 0#32
  let c1_i32 : BitVec 32 := 1#32
  let arg9 : BitVec 32 := Scf.iv c0_i32 c1_i32 k0_t1
  let c128_i32_898 : BitVec 32 := 128#32
  let v2721 : BitVec 32 := Scalar.muli arg9 c128_i32_898
  let v2722 : BitVec 32 := v2721
  let v2723 : Index := Scalar.indexCast v2722
  ![2000, v2723.toNat]
def k0_mult89 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_902 : BitVec 32 := 128#32
  let v2735 : BitVec 32 := Scalar.muli arg9 c128_i32_902
  v2735
def k0_off147 (k0_t1 : Fin k0_t1_loop.trips) : Fin 2 → Nat :=
  let c2320 : Index := 2320#32
  let c0_i32 : BitVec 32 := 0#32
  let c1_i32 : BitVec 32 := 1#32
  let arg9 : BitVec 32 := Scf.iv c0_i32 c1_i32 k0_t1
  let c128_i32_902 : BitVec 32 := 128#32
  let v2735 : BitVec 32 := Scalar.muli arg9 c128_i32_902
  let v2736 : BitVec 32 := v2735
  let v2737 : Index := Scalar.indexCast v2736
  ![2320, v2737.toNat]
def k0_mult90 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_906 : BitVec 32 := 128#32
  let v2749 : BitVec 32 := Scalar.muli arg9 c128_i32_906
  v2749
def k0_off148 (k0_t1 : Fin k0_t1_loop.trips) : Fin 2 → Nat :=
  let c2640 : Index := 2640#32
  let c0_i32 : BitVec 32 := 0#32
  let c1_i32 : BitVec 32 := 1#32
  let arg9 : BitVec 32 := Scf.iv c0_i32 c1_i32 k0_t1
  let c128_i32_906 : BitVec 32 := 128#32
  let v2749 : BitVec 32 := Scalar.muli arg9 c128_i32_906
  let v2750 : BitVec 32 := v2749
  let v2751 : Index := Scalar.indexCast v2750
  ![2640, v2751.toNat]
def k0_mult91 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_910 : BitVec 32 := 128#32
  let v2763 : BitVec 32 := Scalar.muli arg9 c128_i32_910
  v2763
def k0_off149 (k0_t1 : Fin k0_t1_loop.trips) : Fin 2 → Nat :=
  let c2960 : Index := 2960#32
  let c0_i32 : BitVec 32 := 0#32
  let c1_i32 : BitVec 32 := 1#32
  let arg9 : BitVec 32 := Scf.iv c0_i32 c1_i32 k0_t1
  let c128_i32_910 : BitVec 32 := 128#32
  let v2763 : BitVec 32 := Scalar.muli arg9 c128_i32_910
  let v2764 : BitVec 32 := v2763
  let v2765 : Index := Scalar.indexCast v2764
  ![2960, v2765.toNat]
def k0_mult92 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_914 : BitVec 32 := 128#32
  let v2777 : BitVec 32 := Scalar.muli arg9 c128_i32_914
  v2777
def k0_off150 (k0_t1 : Fin k0_t1_loop.trips) : Fin 2 → Nat :=
  let c3280 : Index := 3280#32
  let c0_i32 : BitVec 32 := 0#32
  let c1_i32 : BitVec 32 := 1#32
  let arg9 : BitVec 32 := Scf.iv c0_i32 c1_i32 k0_t1
  let c128_i32_914 : BitVec 32 := 128#32
  let v2777 : BitVec 32 := Scalar.muli arg9 c128_i32_914
  let v2778 : BitVec 32 := v2777
  let v2779 : Index := Scalar.indexCast v2778
  ![3280, v2779.toNat]
def k0_mult93 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_918 : BitVec 32 := 128#32
  let v2791 : BitVec 32 := Scalar.muli arg9 c128_i32_918
  v2791
def k0_off151 (k0_t1 : Fin k0_t1_loop.trips) : Fin 2 → Nat :=
  let c3600 : Index := 3600#32
  let c0_i32 : BitVec 32 := 0#32
  let c1_i32 : BitVec 32 := 1#32
  let arg9 : BitVec 32 := Scf.iv c0_i32 c1_i32 k0_t1
  let c128_i32_918 : BitVec 32 := 128#32
  let v2791 : BitVec 32 := Scalar.muli arg9 c128_i32_918
  let v2792 : BitVec 32 := v2791
  let v2793 : Index := Scalar.indexCast v2792
  ![3600, v2793.toNat]
def k0_mult94 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_922 : BitVec 32 := 128#32
  let v2805 : BitVec 32 := Scalar.muli arg9 c128_i32_922
  v2805
def k0_off152 (k0_t1 : Fin k0_t1_loop.trips) : Fin 2 → Nat :=
  let c3920 : Index := 3920#32
  let c0_i32 : BitVec 32 := 0#32
  let c1_i32 : BitVec 32 := 1#32
  let arg9 : BitVec 32 := Scf.iv c0_i32 c1_i32 k0_t1
  let c128_i32_922 : BitVec 32 := 128#32
  let v2805 : BitVec 32 := Scalar.muli arg9 c128_i32_922
  let v2806 : BitVec 32 := v2805
  let v2807 : Index := Scalar.indexCast v2806
  ![3920, v2807.toNat]
def k0_mult95 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_926 : BitVec 32 := 128#32
  let v2819 : BitVec 32 := Scalar.muli arg9 c128_i32_926
  v2819
def k0_off153 (k0_t1 : Fin k0_t1_loop.trips) : Fin 2 → Nat :=
  let c4240 : Index := 4240#32
  let c0_i32 : BitVec 32 := 0#32
  let c1_i32 : BitVec 32 := 1#32
  let arg9 : BitVec 32 := Scf.iv c0_i32 c1_i32 k0_t1
  let c128_i32_926 : BitVec 32 := 128#32
  let v2819 : BitVec 32 := Scalar.muli arg9 c128_i32_926
  let v2820 : BitVec 32 := v2819
  let v2821 : Index := Scalar.indexCast v2820
  ![4240, v2821.toNat]
def k0_mult96 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_930 : BitVec 32 := 128#32
  let v2833 : BitVec 32 := Scalar.muli arg9 c128_i32_930
  v2833
def k0_off154 (k0_t1 : Fin k0_t1_loop.trips) : Fin 2 → Nat :=
  let c4560 : Index := 4560#32
  let c0_i32 : BitVec 32 := 0#32
  let c1_i32 : BitVec 32 := 1#32
  let arg9 : BitVec 32 := Scf.iv c0_i32 c1_i32 k0_t1
  let c128_i32_930 : BitVec 32 := 128#32
  let v2833 : BitVec 32 := Scalar.muli arg9 c128_i32_930
  let v2834 : BitVec 32 := v2833
  let v2835 : Index := Scalar.indexCast v2834
  ![4560, v2835.toNat]
def k0_mult97 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_934 : BitVec 32 := 128#32
  let v2847 : BitVec 32 := Scalar.muli arg9 c128_i32_934
  v2847
def k0_off155 (k0_t1 : Fin k0_t1_loop.trips) : Fin 2 → Nat :=
  let c4880 : Index := 4880#32
  let c0_i32 : BitVec 32 := 0#32
  let c1_i32 : BitVec 32 := 1#32
  let arg9 : BitVec 32 := Scf.iv c0_i32 c1_i32 k0_t1
  let c128_i32_934 : BitVec 32 := 128#32
  let v2847 : BitVec 32 := Scalar.muli arg9 c128_i32_934
  let v2848 : BitVec 32 := v2847
  let v2849 : Index := Scalar.indexCast v2848
  ![4880, v2849.toNat]
def k0_off156 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2853 : Index := Scalar.indexCast arg9
  let c285 : Index := 285#32
  let c0_935 : Index := 0#32
  ![v2853.toNat, 285, 0]
def k0_off157 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2856 : Index := Scalar.indexCast arg9
  let c286 : Index := 286#32
  let c0_936 : Index := 0#32
  ![v2856.toNat, 286, 0]
def k0_off158 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2859 : Index := Scalar.indexCast arg9
  let c287 : Index := 287#32
  let c0_937 : Index := 0#32
  ![v2859.toNat, 287, 0]
def k0_off159 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2862 : Index := Scalar.indexCast arg9
  let c288 : Index := 288#32
  let c0_938 : Index := 0#32
  ![v2862.toNat, 288, 0]
def k0_off160 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2865 : Index := Scalar.indexCast arg9
  let c289 : Index := 289#32
  let c0_939 : Index := 0#32
  ![v2865.toNat, 289, 0]
def k0_off161 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2951 : Index := Scalar.indexCast arg9
  let c48_977 : Index := 48#32
  let c0_978 : Index := 0#32
  ![v2951.toNat, 48, 0]
def k0_mult98 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_982 : BitVec 32 := 128#32
  let v2963 : BitVec 32 := Scalar.muli arg9 c128_i32_982
  v2963
def k0_off162 (k0_t1 : Fin k0_t1_loop.trips) : Fin 2 → Nat :=
  let c96 : Index := 96#32
  let c0_i32 : BitVec 32 := 0#32
  let c1_i32 : BitVec 32 := 1#32
  let arg9 : BitVec 32 := Scf.iv c0_i32 c1_i32 k0_t1
  let c128_i32_982 : BitVec 32 := 128#32
  let v2963 : BitVec 32 := Scalar.muli arg9 c128_i32_982
  let v2964 : BitVec 32 := v2963
  let v2965 : Index := Scalar.indexCast v2964
  ![96, v2965.toNat]
def k0_mult99 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_986 : BitVec 32 := 128#32
  let v2977 : BitVec 32 := Scalar.muli arg9 c128_i32_986
  v2977
def k0_off163 (k0_t1 : Fin k0_t1_loop.trips) : Fin 2 → Nat :=
  let c416 : Index := 416#32
  let c0_i32 : BitVec 32 := 0#32
  let c1_i32 : BitVec 32 := 1#32
  let arg9 : BitVec 32 := Scf.iv c0_i32 c1_i32 k0_t1
  let c128_i32_986 : BitVec 32 := 128#32
  let v2977 : BitVec 32 := Scalar.muli arg9 c128_i32_986
  let v2978 : BitVec 32 := v2977
  let v2979 : Index := Scalar.indexCast v2978
  ![416, v2979.toNat]
def k0_mult100 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_990 : BitVec 32 := 128#32
  let v2991 : BitVec 32 := Scalar.muli arg9 c128_i32_990
  v2991
def k0_off164 (k0_t1 : Fin k0_t1_loop.trips) : Fin 2 → Nat :=
  let c736 : Index := 736#32
  let c0_i32 : BitVec 32 := 0#32
  let c1_i32 : BitVec 32 := 1#32
  let arg9 : BitVec 32 := Scf.iv c0_i32 c1_i32 k0_t1
  let c128_i32_990 : BitVec 32 := 128#32
  let v2991 : BitVec 32 := Scalar.muli arg9 c128_i32_990
  let v2992 : BitVec 32 := v2991
  let v2993 : Index := Scalar.indexCast v2992
  ![736, v2993.toNat]
def k0_mult101 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_994 : BitVec 32 := 128#32
  let v3005 : BitVec 32 := Scalar.muli arg9 c128_i32_994
  v3005
def k0_off165 (k0_t1 : Fin k0_t1_loop.trips) : Fin 2 → Nat :=
  let c1056 : Index := 1056#32
  let c0_i32 : BitVec 32 := 0#32
  let c1_i32 : BitVec 32 := 1#32
  let arg9 : BitVec 32 := Scf.iv c0_i32 c1_i32 k0_t1
  let c128_i32_994 : BitVec 32 := 128#32
  let v3005 : BitVec 32 := Scalar.muli arg9 c128_i32_994
  let v3006 : BitVec 32 := v3005
  let v3007 : Index := Scalar.indexCast v3006
  ![1056, v3007.toNat]
def k0_mult102 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_998 : BitVec 32 := 128#32
  let v3019 : BitVec 32 := Scalar.muli arg9 c128_i32_998
  v3019
def k0_off166 (k0_t1 : Fin k0_t1_loop.trips) : Fin 2 → Nat :=
  let c1376 : Index := 1376#32
  let c0_i32 : BitVec 32 := 0#32
  let c1_i32 : BitVec 32 := 1#32
  let arg9 : BitVec 32 := Scf.iv c0_i32 c1_i32 k0_t1
  let c128_i32_998 : BitVec 32 := 128#32
  let v3019 : BitVec 32 := Scalar.muli arg9 c128_i32_998
  let v3020 : BitVec 32 := v3019
  let v3021 : Index := Scalar.indexCast v3020
  ![1376, v3021.toNat]
def k0_mult103 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1002 : BitVec 32 := 128#32
  let v3033 : BitVec 32 := Scalar.muli arg9 c128_i32_1002
  v3033
def k0_off167 (k0_t1 : Fin k0_t1_loop.trips) : Fin 2 → Nat :=
  let c1696 : Index := 1696#32
  let c0_i32 : BitVec 32 := 0#32
  let c1_i32 : BitVec 32 := 1#32
  let arg9 : BitVec 32 := Scf.iv c0_i32 c1_i32 k0_t1
  let c128_i32_1002 : BitVec 32 := 128#32
  let v3033 : BitVec 32 := Scalar.muli arg9 c128_i32_1002
  let v3034 : BitVec 32 := v3033
  let v3035 : Index := Scalar.indexCast v3034
  ![1696, v3035.toNat]
def k0_mult104 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1006 : BitVec 32 := 128#32
  let v3047 : BitVec 32 := Scalar.muli arg9 c128_i32_1006
  v3047
def k0_off168 (k0_t1 : Fin k0_t1_loop.trips) : Fin 2 → Nat :=
  let c2016 : Index := 2016#32
  let c0_i32 : BitVec 32 := 0#32
  let c1_i32 : BitVec 32 := 1#32
  let arg9 : BitVec 32 := Scf.iv c0_i32 c1_i32 k0_t1
  let c128_i32_1006 : BitVec 32 := 128#32
  let v3047 : BitVec 32 := Scalar.muli arg9 c128_i32_1006
  let v3048 : BitVec 32 := v3047
  let v3049 : Index := Scalar.indexCast v3048
  ![2016, v3049.toNat]
def k0_mult105 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1010 : BitVec 32 := 128#32
  let v3061 : BitVec 32 := Scalar.muli arg9 c128_i32_1010
  v3061
def k0_off169 (k0_t1 : Fin k0_t1_loop.trips) : Fin 2 → Nat :=
  let c2336 : Index := 2336#32
  let c0_i32 : BitVec 32 := 0#32
  let c1_i32 : BitVec 32 := 1#32
  let arg9 : BitVec 32 := Scf.iv c0_i32 c1_i32 k0_t1
  let c128_i32_1010 : BitVec 32 := 128#32
  let v3061 : BitVec 32 := Scalar.muli arg9 c128_i32_1010
  let v3062 : BitVec 32 := v3061
  let v3063 : Index := Scalar.indexCast v3062
  ![2336, v3063.toNat]
def k0_mult106 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1014 : BitVec 32 := 128#32
  let v3075 : BitVec 32 := Scalar.muli arg9 c128_i32_1014
  v3075
def k0_off170 (k0_t1 : Fin k0_t1_loop.trips) : Fin 2 → Nat :=
  let c2656 : Index := 2656#32
  let c0_i32 : BitVec 32 := 0#32
  let c1_i32 : BitVec 32 := 1#32
  let arg9 : BitVec 32 := Scf.iv c0_i32 c1_i32 k0_t1
  let c128_i32_1014 : BitVec 32 := 128#32
  let v3075 : BitVec 32 := Scalar.muli arg9 c128_i32_1014
  let v3076 : BitVec 32 := v3075
  let v3077 : Index := Scalar.indexCast v3076
  ![2656, v3077.toNat]
def k0_mult107 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1018 : BitVec 32 := 128#32
  let v3089 : BitVec 32 := Scalar.muli arg9 c128_i32_1018
  v3089
def k0_off171 (k0_t1 : Fin k0_t1_loop.trips) : Fin 2 → Nat :=
  let c2976 : Index := 2976#32
  let c0_i32 : BitVec 32 := 0#32
  let c1_i32 : BitVec 32 := 1#32
  let arg9 : BitVec 32 := Scf.iv c0_i32 c1_i32 k0_t1
  let c128_i32_1018 : BitVec 32 := 128#32
  let v3089 : BitVec 32 := Scalar.muli arg9 c128_i32_1018
  let v3090 : BitVec 32 := v3089
  let v3091 : Index := Scalar.indexCast v3090
  ![2976, v3091.toNat]
def k0_mult108 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1022 : BitVec 32 := 128#32
  let v3103 : BitVec 32 := Scalar.muli arg9 c128_i32_1022
  v3103
def k0_off172 (k0_t1 : Fin k0_t1_loop.trips) : Fin 2 → Nat :=
  let c3296 : Index := 3296#32
  let c0_i32 : BitVec 32 := 0#32
  let c1_i32 : BitVec 32 := 1#32
  let arg9 : BitVec 32 := Scf.iv c0_i32 c1_i32 k0_t1
  let c128_i32_1022 : BitVec 32 := 128#32
  let v3103 : BitVec 32 := Scalar.muli arg9 c128_i32_1022
  let v3104 : BitVec 32 := v3103
  let v3105 : Index := Scalar.indexCast v3104
  ![3296, v3105.toNat]
def k0_mult109 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1026 : BitVec 32 := 128#32
  let v3117 : BitVec 32 := Scalar.muli arg9 c128_i32_1026
  v3117
def k0_off173 (k0_t1 : Fin k0_t1_loop.trips) : Fin 2 → Nat :=
  let c3616 : Index := 3616#32
  let c0_i32 : BitVec 32 := 0#32
  let c1_i32 : BitVec 32 := 1#32
  let arg9 : BitVec 32 := Scf.iv c0_i32 c1_i32 k0_t1
  let c128_i32_1026 : BitVec 32 := 128#32
  let v3117 : BitVec 32 := Scalar.muli arg9 c128_i32_1026
  let v3118 : BitVec 32 := v3117
  let v3119 : Index := Scalar.indexCast v3118
  ![3616, v3119.toNat]
def k0_mult110 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1030 : BitVec 32 := 128#32
  let v3131 : BitVec 32 := Scalar.muli arg9 c128_i32_1030
  v3131
def k0_off174 (k0_t1 : Fin k0_t1_loop.trips) : Fin 2 → Nat :=
  let c3936 : Index := 3936#32
  let c0_i32 : BitVec 32 := 0#32
  let c1_i32 : BitVec 32 := 1#32
  let arg9 : BitVec 32 := Scf.iv c0_i32 c1_i32 k0_t1
  let c128_i32_1030 : BitVec 32 := 128#32
  let v3131 : BitVec 32 := Scalar.muli arg9 c128_i32_1030
  let v3132 : BitVec 32 := v3131
  let v3133 : Index := Scalar.indexCast v3132
  ![3936, v3133.toNat]
def k0_mult111 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1034 : BitVec 32 := 128#32
  let v3145 : BitVec 32 := Scalar.muli arg9 c128_i32_1034
  v3145
def k0_off175 (k0_t1 : Fin k0_t1_loop.trips) : Fin 2 → Nat :=
  let c4256 : Index := 4256#32
  let c0_i32 : BitVec 32 := 0#32
  let c1_i32 : BitVec 32 := 1#32
  let arg9 : BitVec 32 := Scf.iv c0_i32 c1_i32 k0_t1
  let c128_i32_1034 : BitVec 32 := 128#32
  let v3145 : BitVec 32 := Scalar.muli arg9 c128_i32_1034
  let v3146 : BitVec 32 := v3145
  let v3147 : Index := Scalar.indexCast v3146
  ![4256, v3147.toNat]
def k0_mult112 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1038 : BitVec 32 := 128#32
  let v3159 : BitVec 32 := Scalar.muli arg9 c128_i32_1038
  v3159
def k0_off176 (k0_t1 : Fin k0_t1_loop.trips) : Fin 2 → Nat :=
  let c4576 : Index := 4576#32
  let c0_i32 : BitVec 32 := 0#32
  let c1_i32 : BitVec 32 := 1#32
  let arg9 : BitVec 32 := Scf.iv c0_i32 c1_i32 k0_t1
  let c128_i32_1038 : BitVec 32 := 128#32
  let v3159 : BitVec 32 := Scalar.muli arg9 c128_i32_1038
  let v3160 : BitVec 32 := v3159
  let v3161 : Index := Scalar.indexCast v3160
  ![4576, v3161.toNat]
def k0_mult113 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1042 : BitVec 32 := 128#32
  let v3173 : BitVec 32 := Scalar.muli arg9 c128_i32_1042
  v3173
def k0_off177 (k0_t1 : Fin k0_t1_loop.trips) : Fin 2 → Nat :=
  let c4896 : Index := 4896#32
  let c0_i32 : BitVec 32 := 0#32
  let c1_i32 : BitVec 32 := 1#32
  let arg9 : BitVec 32 := Scf.iv c0_i32 c1_i32 k0_t1
  let c128_i32_1042 : BitVec 32 := 128#32
  let v3173 : BitVec 32 := Scalar.muli arg9 c128_i32_1042
  let v3174 : BitVec 32 := v3173
  let v3175 : Index := Scalar.indexCast v3174
  ![4896, v3175.toNat]
def k0_off178 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3179 : Index := Scalar.indexCast arg9
  let c325 : Index := 325#32
  let c0_1043 : Index := 0#32
  ![v3179.toNat, 325, 0]
def k0_off179 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3182 : Index := Scalar.indexCast arg9
  let c326 : Index := 326#32
  let c0_1044 : Index := 0#32
  ![v3182.toNat, 326, 0]
def k0_off180 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3185 : Index := Scalar.indexCast arg9
  let c327 : Index := 327#32
  let c0_1045 : Index := 0#32
  ![v3185.toNat, 327, 0]
def k0_off181 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3188 : Index := Scalar.indexCast arg9
  let c328 : Index := 328#32
  let c0_1046 : Index := 0#32
  ![v3188.toNat, 328, 0]
def k0_off182 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3191 : Index := Scalar.indexCast arg9
  let c329 : Index := 329#32
  let c0_1047 : Index := 0#32
  ![v3191.toNat, 329, 0]
def k0_off183 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3277 : Index := Scalar.indexCast arg9
  let c330 : Index := 330#32
  let c0_1085 : Index := 0#32
  ![v3277.toNat, 330, 0]
def k0_off184 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3280 : Index := Scalar.indexCast arg9
  let c331 : Index := 331#32
  let c0_1086 : Index := 0#32
  ![v3280.toNat, 331, 0]
def k0_off185 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3283 : Index := Scalar.indexCast arg9
  let c332 : Index := 332#32
  let c0_1087 : Index := 0#32
  ![v3283.toNat, 332, 0]
def k0_off186 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3286 : Index := Scalar.indexCast arg9
  let c333 : Index := 333#32
  let c0_1088 : Index := 0#32
  ![v3286.toNat, 333, 0]
def k0_off187 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3313 : Index := Scalar.indexCast arg9
  let c56 : Index := 56#32
  let c0_1101 : Index := 0#32
  ![v3313.toNat, 56, 0]
def k0_mult114 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1109 : BitVec 32 := 128#32
  let v3339 : BitVec 32 := Scalar.muli arg9 c128_i32_1109
  v3339
def k0_off188 (k0_t1 : Fin k0_t1_loop.trips) : Fin 2 → Nat :=
  let c112 : Index := 112#32
  let c0_i32 : BitVec 32 := 0#32
  let c1_i32 : BitVec 32 := 1#32
  let arg9 : BitVec 32 := Scf.iv c0_i32 c1_i32 k0_t1
  let c128_i32_1109 : BitVec 32 := 128#32
  let v3339 : BitVec 32 := Scalar.muli arg9 c128_i32_1109
  let v3340 : BitVec 32 := v3339
  let v3341 : Index := Scalar.indexCast v3340
  ![112, v3341.toNat]
def k0_mult115 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1117 : BitVec 32 := 128#32
  let v3367 : BitVec 32 := Scalar.muli arg9 c128_i32_1117
  v3367
def k0_off189 (k0_t1 : Fin k0_t1_loop.trips) : Fin 2 → Nat :=
  let c432 : Index := 432#32
  let c0_i32 : BitVec 32 := 0#32
  let c1_i32 : BitVec 32 := 1#32
  let arg9 : BitVec 32 := Scf.iv c0_i32 c1_i32 k0_t1
  let c128_i32_1117 : BitVec 32 := 128#32
  let v3367 : BitVec 32 := Scalar.muli arg9 c128_i32_1117
  let v3368 : BitVec 32 := v3367
  let v3369 : Index := Scalar.indexCast v3368
  ![432, v3369.toNat]
def k0_mult116 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1125 : BitVec 32 := 128#32
  let v3395 : BitVec 32 := Scalar.muli arg9 c128_i32_1125
  v3395
def k0_off190 (k0_t1 : Fin k0_t1_loop.trips) : Fin 2 → Nat :=
  let c752 : Index := 752#32
  let c0_i32 : BitVec 32 := 0#32
  let c1_i32 : BitVec 32 := 1#32
  let arg9 : BitVec 32 := Scf.iv c0_i32 c1_i32 k0_t1
  let c128_i32_1125 : BitVec 32 := 128#32
  let v3395 : BitVec 32 := Scalar.muli arg9 c128_i32_1125
  let v3396 : BitVec 32 := v3395
  let v3397 : Index := Scalar.indexCast v3396
  ![752, v3397.toNat]
def k0_mult117 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1133 : BitVec 32 := 128#32
  let v3423 : BitVec 32 := Scalar.muli arg9 c128_i32_1133
  v3423
def k0_off191 (k0_t1 : Fin k0_t1_loop.trips) : Fin 2 → Nat :=
  let c1072 : Index := 1072#32
  let c0_i32 : BitVec 32 := 0#32
  let c1_i32 : BitVec 32 := 1#32
  let arg9 : BitVec 32 := Scf.iv c0_i32 c1_i32 k0_t1
  let c128_i32_1133 : BitVec 32 := 128#32
  let v3423 : BitVec 32 := Scalar.muli arg9 c128_i32_1133
  let v3424 : BitVec 32 := v3423
  let v3425 : Index := Scalar.indexCast v3424
  ![1072, v3425.toNat]
def k0_mult118 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1141 : BitVec 32 := 128#32
  let v3451 : BitVec 32 := Scalar.muli arg9 c128_i32_1141
  v3451
def k0_off192 (k0_t1 : Fin k0_t1_loop.trips) : Fin 2 → Nat :=
  let c1392 : Index := 1392#32
  let c0_i32 : BitVec 32 := 0#32
  let c1_i32 : BitVec 32 := 1#32
  let arg9 : BitVec 32 := Scf.iv c0_i32 c1_i32 k0_t1
  let c128_i32_1141 : BitVec 32 := 128#32
  let v3451 : BitVec 32 := Scalar.muli arg9 c128_i32_1141
  let v3452 : BitVec 32 := v3451
  let v3453 : Index := Scalar.indexCast v3452
  ![1392, v3453.toNat]
def k0_mult119 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1149 : BitVec 32 := 128#32
  let v3479 : BitVec 32 := Scalar.muli arg9 c128_i32_1149
  v3479
def k0_off193 (k0_t1 : Fin k0_t1_loop.trips) : Fin 2 → Nat :=
  let c1712 : Index := 1712#32
  let c0_i32 : BitVec 32 := 0#32
  let c1_i32 : BitVec 32 := 1#32
  let arg9 : BitVec 32 := Scf.iv c0_i32 c1_i32 k0_t1
  let c128_i32_1149 : BitVec 32 := 128#32
  let v3479 : BitVec 32 := Scalar.muli arg9 c128_i32_1149
  let v3480 : BitVec 32 := v3479
  let v3481 : Index := Scalar.indexCast v3480
  ![1712, v3481.toNat]
def k0_mult120 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1157 : BitVec 32 := 128#32
  let v3507 : BitVec 32 := Scalar.muli arg9 c128_i32_1157
  v3507
def k0_off194 (k0_t1 : Fin k0_t1_loop.trips) : Fin 2 → Nat :=
  let c2032 : Index := 2032#32
  let c0_i32 : BitVec 32 := 0#32
  let c1_i32 : BitVec 32 := 1#32
  let arg9 : BitVec 32 := Scf.iv c0_i32 c1_i32 k0_t1
  let c128_i32_1157 : BitVec 32 := 128#32
  let v3507 : BitVec 32 := Scalar.muli arg9 c128_i32_1157
  let v3508 : BitVec 32 := v3507
  let v3509 : Index := Scalar.indexCast v3508
  ![2032, v3509.toNat]
def k0_mult121 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1165 : BitVec 32 := 128#32
  let v3535 : BitVec 32 := Scalar.muli arg9 c128_i32_1165
  v3535
def k0_off195 (k0_t1 : Fin k0_t1_loop.trips) : Fin 2 → Nat :=
  let c2352 : Index := 2352#32
  let c0_i32 : BitVec 32 := 0#32
  let c1_i32 : BitVec 32 := 1#32
  let arg9 : BitVec 32 := Scf.iv c0_i32 c1_i32 k0_t1
  let c128_i32_1165 : BitVec 32 := 128#32
  let v3535 : BitVec 32 := Scalar.muli arg9 c128_i32_1165
  let v3536 : BitVec 32 := v3535
  let v3537 : Index := Scalar.indexCast v3536
  ![2352, v3537.toNat]
def k0_mult122 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1173 : BitVec 32 := 128#32
  let v3563 : BitVec 32 := Scalar.muli arg9 c128_i32_1173
  v3563
def k0_off196 (k0_t1 : Fin k0_t1_loop.trips) : Fin 2 → Nat :=
  let c2672 : Index := 2672#32
  let c0_i32 : BitVec 32 := 0#32
  let c1_i32 : BitVec 32 := 1#32
  let arg9 : BitVec 32 := Scf.iv c0_i32 c1_i32 k0_t1
  let c128_i32_1173 : BitVec 32 := 128#32
  let v3563 : BitVec 32 := Scalar.muli arg9 c128_i32_1173
  let v3564 : BitVec 32 := v3563
  let v3565 : Index := Scalar.indexCast v3564
  ![2672, v3565.toNat]
def k0_mult123 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1181 : BitVec 32 := 128#32
  let v3591 : BitVec 32 := Scalar.muli arg9 c128_i32_1181
  v3591
def k0_off197 (k0_t1 : Fin k0_t1_loop.trips) : Fin 2 → Nat :=
  let c2992 : Index := 2992#32
  let c0_i32 : BitVec 32 := 0#32
  let c1_i32 : BitVec 32 := 1#32
  let arg9 : BitVec 32 := Scf.iv c0_i32 c1_i32 k0_t1
  let c128_i32_1181 : BitVec 32 := 128#32
  let v3591 : BitVec 32 := Scalar.muli arg9 c128_i32_1181
  let v3592 : BitVec 32 := v3591
  let v3593 : Index := Scalar.indexCast v3592
  ![2992, v3593.toNat]
def k0_mult124 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1189 : BitVec 32 := 128#32
  let v3619 : BitVec 32 := Scalar.muli arg9 c128_i32_1189
  v3619
def k0_off198 (k0_t1 : Fin k0_t1_loop.trips) : Fin 2 → Nat :=
  let c3312 : Index := 3312#32
  let c0_i32 : BitVec 32 := 0#32
  let c1_i32 : BitVec 32 := 1#32
  let arg9 : BitVec 32 := Scf.iv c0_i32 c1_i32 k0_t1
  let c128_i32_1189 : BitVec 32 := 128#32
  let v3619 : BitVec 32 := Scalar.muli arg9 c128_i32_1189
  let v3620 : BitVec 32 := v3619
  let v3621 : Index := Scalar.indexCast v3620
  ![3312, v3621.toNat]
def k0_mult125 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1197 : BitVec 32 := 128#32
  let v3647 : BitVec 32 := Scalar.muli arg9 c128_i32_1197
  v3647
def k0_off199 (k0_t1 : Fin k0_t1_loop.trips) : Fin 2 → Nat :=
  let c3632 : Index := 3632#32
  let c0_i32 : BitVec 32 := 0#32
  let c1_i32 : BitVec 32 := 1#32
  let arg9 : BitVec 32 := Scf.iv c0_i32 c1_i32 k0_t1
  let c128_i32_1197 : BitVec 32 := 128#32
  let v3647 : BitVec 32 := Scalar.muli arg9 c128_i32_1197
  let v3648 : BitVec 32 := v3647
  let v3649 : Index := Scalar.indexCast v3648
  ![3632, v3649.toNat]
def k0_mult126 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1205 : BitVec 32 := 128#32
  let v3675 : BitVec 32 := Scalar.muli arg9 c128_i32_1205
  v3675
def k0_off200 (k0_t1 : Fin k0_t1_loop.trips) : Fin 2 → Nat :=
  let c3952 : Index := 3952#32
  let c0_i32 : BitVec 32 := 0#32
  let c1_i32 : BitVec 32 := 1#32
  let arg9 : BitVec 32 := Scf.iv c0_i32 c1_i32 k0_t1
  let c128_i32_1205 : BitVec 32 := 128#32
  let v3675 : BitVec 32 := Scalar.muli arg9 c128_i32_1205
  let v3676 : BitVec 32 := v3675
  let v3677 : Index := Scalar.indexCast v3676
  ![3952, v3677.toNat]
def k0_mult127 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1213 : BitVec 32 := 128#32
  let v3703 : BitVec 32 := Scalar.muli arg9 c128_i32_1213
  v3703
def k0_off201 (k0_t1 : Fin k0_t1_loop.trips) : Fin 2 → Nat :=
  let c4272 : Index := 4272#32
  let c0_i32 : BitVec 32 := 0#32
  let c1_i32 : BitVec 32 := 1#32
  let arg9 : BitVec 32 := Scf.iv c0_i32 c1_i32 k0_t1
  let c128_i32_1213 : BitVec 32 := 128#32
  let v3703 : BitVec 32 := Scalar.muli arg9 c128_i32_1213
  let v3704 : BitVec 32 := v3703
  let v3705 : Index := Scalar.indexCast v3704
  ![4272, v3705.toNat]
def k0_mult128 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1221 : BitVec 32 := 128#32
  let v3731 : BitVec 32 := Scalar.muli arg9 c128_i32_1221
  v3731
def k0_off202 (k0_t1 : Fin k0_t1_loop.trips) : Fin 2 → Nat :=
  let c4592 : Index := 4592#32
  let c0_i32 : BitVec 32 := 0#32
  let c1_i32 : BitVec 32 := 1#32
  let arg9 : BitVec 32 := Scf.iv c0_i32 c1_i32 k0_t1
  let c128_i32_1221 : BitVec 32 := 128#32
  let v3731 : BitVec 32 := Scalar.muli arg9 c128_i32_1221
  let v3732 : BitVec 32 := v3731
  let v3733 : Index := Scalar.indexCast v3732
  ![4592, v3733.toNat]
def k0_mult129 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1229 : BitVec 32 := 128#32
  let v3759 : BitVec 32 := Scalar.muli arg9 c128_i32_1229
  v3759
def k0_off203 (k0_t1 : Fin k0_t1_loop.trips) : Fin 2 → Nat :=
  let c4912 : Index := 4912#32
  let c0_i32 : BitVec 32 := 0#32
  let c1_i32 : BitVec 32 := 1#32
  let arg9 : BitVec 32 := Scf.iv c0_i32 c1_i32 k0_t1
  let c128_i32_1229 : BitVec 32 := 128#32
  let v3759 : BitVec 32 := Scalar.muli arg9 c128_i32_1229
  let v3760 : BitVec 32 := v3759
  let v3761 : Index := Scalar.indexCast v3760
  ![4912, v3761.toNat]
def k0_off204 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3765 : Index := Scalar.indexCast arg9
  let c362 : Index := 362#32
  let c0_1230 : Index := 0#32
  ![v3765.toNat, 362, 0]
def k0_off205 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3768 : Index := Scalar.indexCast arg9
  let c363 : Index := 363#32
  let c0_1231 : Index := 0#32
  ![v3768.toNat, 363, 0]
def k0_off206 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3771 : Index := Scalar.indexCast arg9
  let c364 : Index := 364#32
  let c0_1232 : Index := 0#32
  ![v3771.toNat, 364, 0]
def k0_off207 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3774 : Index := Scalar.indexCast arg9
  let c365 : Index := 365#32
  let c0_1233 : Index := 0#32
  ![v3774.toNat, 365, 0]
def k0_off208 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3801 : Index := Scalar.indexCast arg9
  let c64_1246 : Index := 64#32
  let c0_1247 : Index := 0#32
  ![v3801.toNat, 64, 0]
def k0_mult130 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1251 : BitVec 32 := 128#32
  let v3813 : BitVec 32 := Scalar.muli arg9 c128_i32_1251
  v3813
def k0_off209 (k0_t1 : Fin k0_t1_loop.trips) : Fin 2 → Nat :=
  let c128 : Index := 128#32
  let c0_i32 : BitVec 32 := 0#32
  let c1_i32 : BitVec 32 := 1#32
  let arg9 : BitVec 32 := Scf.iv c0_i32 c1_i32 k0_t1
  let c128_i32_1251 : BitVec 32 := 128#32
  let v3813 : BitVec 32 := Scalar.muli arg9 c128_i32_1251
  let v3814 : BitVec 32 := v3813
  let v3815 : Index := Scalar.indexCast v3814
  ![128, v3815.toNat]
def k0_mult131 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1255 : BitVec 32 := 128#32
  let v3827 : BitVec 32 := Scalar.muli arg9 c128_i32_1255
  v3827
def k0_off210 (k0_t1 : Fin k0_t1_loop.trips) : Fin 2 → Nat :=
  let c448 : Index := 448#32
  let c0_i32 : BitVec 32 := 0#32
  let c1_i32 : BitVec 32 := 1#32
  let arg9 : BitVec 32 := Scf.iv c0_i32 c1_i32 k0_t1
  let c128_i32_1255 : BitVec 32 := 128#32
  let v3827 : BitVec 32 := Scalar.muli arg9 c128_i32_1255
  let v3828 : BitVec 32 := v3827
  let v3829 : Index := Scalar.indexCast v3828
  ![448, v3829.toNat]
def k0_mult132 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1259 : BitVec 32 := 128#32
  let v3841 : BitVec 32 := Scalar.muli arg9 c128_i32_1259
  v3841
def k0_off211 (k0_t1 : Fin k0_t1_loop.trips) : Fin 2 → Nat :=
  let c768 : Index := 768#32
  let c0_i32 : BitVec 32 := 0#32
  let c1_i32 : BitVec 32 := 1#32
  let arg9 : BitVec 32 := Scf.iv c0_i32 c1_i32 k0_t1
  let c128_i32_1259 : BitVec 32 := 128#32
  let v3841 : BitVec 32 := Scalar.muli arg9 c128_i32_1259
  let v3842 : BitVec 32 := v3841
  let v3843 : Index := Scalar.indexCast v3842
  ![768, v3843.toNat]
def k0_mult133 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1263 : BitVec 32 := 128#32
  let v3855 : BitVec 32 := Scalar.muli arg9 c128_i32_1263
  v3855
def k0_off212 (k0_t1 : Fin k0_t1_loop.trips) : Fin 2 → Nat :=
  let c1088 : Index := 1088#32
  let c0_i32 : BitVec 32 := 0#32
  let c1_i32 : BitVec 32 := 1#32
  let arg9 : BitVec 32 := Scf.iv c0_i32 c1_i32 k0_t1
  let c128_i32_1263 : BitVec 32 := 128#32
  let v3855 : BitVec 32 := Scalar.muli arg9 c128_i32_1263
  let v3856 : BitVec 32 := v3855
  let v3857 : Index := Scalar.indexCast v3856
  ![1088, v3857.toNat]
def k0_mult134 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1267 : BitVec 32 := 128#32
  let v3869 : BitVec 32 := Scalar.muli arg9 c128_i32_1267
  v3869
def k0_off213 (k0_t1 : Fin k0_t1_loop.trips) : Fin 2 → Nat :=
  let c1408 : Index := 1408#32
  let c0_i32 : BitVec 32 := 0#32
  let c1_i32 : BitVec 32 := 1#32
  let arg9 : BitVec 32 := Scf.iv c0_i32 c1_i32 k0_t1
  let c128_i32_1267 : BitVec 32 := 128#32
  let v3869 : BitVec 32 := Scalar.muli arg9 c128_i32_1267
  let v3870 : BitVec 32 := v3869
  let v3871 : Index := Scalar.indexCast v3870
  ![1408, v3871.toNat]
def k0_mult135 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1271 : BitVec 32 := 128#32
  let v3883 : BitVec 32 := Scalar.muli arg9 c128_i32_1271
  v3883
def k0_off214 (k0_t1 : Fin k0_t1_loop.trips) : Fin 2 → Nat :=
  let c1728 : Index := 1728#32
  let c0_i32 : BitVec 32 := 0#32
  let c1_i32 : BitVec 32 := 1#32
  let arg9 : BitVec 32 := Scf.iv c0_i32 c1_i32 k0_t1
  let c128_i32_1271 : BitVec 32 := 128#32
  let v3883 : BitVec 32 := Scalar.muli arg9 c128_i32_1271
  let v3884 : BitVec 32 := v3883
  let v3885 : Index := Scalar.indexCast v3884
  ![1728, v3885.toNat]
def k0_mult136 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1275 : BitVec 32 := 128#32
  let v3897 : BitVec 32 := Scalar.muli arg9 c128_i32_1275
  v3897
def k0_off215 (k0_t1 : Fin k0_t1_loop.trips) : Fin 2 → Nat :=
  let c2048 : Index := 2048#32
  let c0_i32 : BitVec 32 := 0#32
  let c1_i32 : BitVec 32 := 1#32
  let arg9 : BitVec 32 := Scf.iv c0_i32 c1_i32 k0_t1
  let c128_i32_1275 : BitVec 32 := 128#32
  let v3897 : BitVec 32 := Scalar.muli arg9 c128_i32_1275
  let v3898 : BitVec 32 := v3897
  let v3899 : Index := Scalar.indexCast v3898
  ![2048, v3899.toNat]
def k0_mult137 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1279 : BitVec 32 := 128#32
  let v3911 : BitVec 32 := Scalar.muli arg9 c128_i32_1279
  v3911
def k0_off216 (k0_t1 : Fin k0_t1_loop.trips) : Fin 2 → Nat :=
  let c2368 : Index := 2368#32
  let c0_i32 : BitVec 32 := 0#32
  let c1_i32 : BitVec 32 := 1#32
  let arg9 : BitVec 32 := Scf.iv c0_i32 c1_i32 k0_t1
  let c128_i32_1279 : BitVec 32 := 128#32
  let v3911 : BitVec 32 := Scalar.muli arg9 c128_i32_1279
  let v3912 : BitVec 32 := v3911
  let v3913 : Index := Scalar.indexCast v3912
  ![2368, v3913.toNat]
def k0_mult138 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1283 : BitVec 32 := 128#32
  let v3925 : BitVec 32 := Scalar.muli arg9 c128_i32_1283
  v3925
def k0_off217 (k0_t1 : Fin k0_t1_loop.trips) : Fin 2 → Nat :=
  let c2688 : Index := 2688#32
  let c0_i32 : BitVec 32 := 0#32
  let c1_i32 : BitVec 32 := 1#32
  let arg9 : BitVec 32 := Scf.iv c0_i32 c1_i32 k0_t1
  let c128_i32_1283 : BitVec 32 := 128#32
  let v3925 : BitVec 32 := Scalar.muli arg9 c128_i32_1283
  let v3926 : BitVec 32 := v3925
  let v3927 : Index := Scalar.indexCast v3926
  ![2688, v3927.toNat]
def k0_mult139 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1287 : BitVec 32 := 128#32
  let v3939 : BitVec 32 := Scalar.muli arg9 c128_i32_1287
  v3939
def k0_off218 (k0_t1 : Fin k0_t1_loop.trips) : Fin 2 → Nat :=
  let c3008 : Index := 3008#32
  let c0_i32 : BitVec 32 := 0#32
  let c1_i32 : BitVec 32 := 1#32
  let arg9 : BitVec 32 := Scf.iv c0_i32 c1_i32 k0_t1
  let c128_i32_1287 : BitVec 32 := 128#32
  let v3939 : BitVec 32 := Scalar.muli arg9 c128_i32_1287
  let v3940 : BitVec 32 := v3939
  let v3941 : Index := Scalar.indexCast v3940
  ![3008, v3941.toNat]
def k0_mult140 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1291 : BitVec 32 := 128#32
  let v3953 : BitVec 32 := Scalar.muli arg9 c128_i32_1291
  v3953
def k0_off219 (k0_t1 : Fin k0_t1_loop.trips) : Fin 2 → Nat :=
  let c3328 : Index := 3328#32
  let c0_i32 : BitVec 32 := 0#32
  let c1_i32 : BitVec 32 := 1#32
  let arg9 : BitVec 32 := Scf.iv c0_i32 c1_i32 k0_t1
  let c128_i32_1291 : BitVec 32 := 128#32
  let v3953 : BitVec 32 := Scalar.muli arg9 c128_i32_1291
  let v3954 : BitVec 32 := v3953
  let v3955 : Index := Scalar.indexCast v3954
  ![3328, v3955.toNat]
def k0_mult141 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1295 : BitVec 32 := 128#32
  let v3967 : BitVec 32 := Scalar.muli arg9 c128_i32_1295
  v3967
def k0_off220 (k0_t1 : Fin k0_t1_loop.trips) : Fin 2 → Nat :=
  let c3648 : Index := 3648#32
  let c0_i32 : BitVec 32 := 0#32
  let c1_i32 : BitVec 32 := 1#32
  let arg9 : BitVec 32 := Scf.iv c0_i32 c1_i32 k0_t1
  let c128_i32_1295 : BitVec 32 := 128#32
  let v3967 : BitVec 32 := Scalar.muli arg9 c128_i32_1295
  let v3968 : BitVec 32 := v3967
  let v3969 : Index := Scalar.indexCast v3968
  ![3648, v3969.toNat]
def k0_mult142 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1299 : BitVec 32 := 128#32
  let v3981 : BitVec 32 := Scalar.muli arg9 c128_i32_1299
  v3981
def k0_off221 (k0_t1 : Fin k0_t1_loop.trips) : Fin 2 → Nat :=
  let c3968 : Index := 3968#32
  let c0_i32 : BitVec 32 := 0#32
  let c1_i32 : BitVec 32 := 1#32
  let arg9 : BitVec 32 := Scf.iv c0_i32 c1_i32 k0_t1
  let c128_i32_1299 : BitVec 32 := 128#32
  let v3981 : BitVec 32 := Scalar.muli arg9 c128_i32_1299
  let v3982 : BitVec 32 := v3981
  let v3983 : Index := Scalar.indexCast v3982
  ![3968, v3983.toNat]
def k0_mult143 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1303 : BitVec 32 := 128#32
  let v3995 : BitVec 32 := Scalar.muli arg9 c128_i32_1303
  v3995
def k0_off222 (k0_t1 : Fin k0_t1_loop.trips) : Fin 2 → Nat :=
  let c4288 : Index := 4288#32
  let c0_i32 : BitVec 32 := 0#32
  let c1_i32 : BitVec 32 := 1#32
  let arg9 : BitVec 32 := Scf.iv c0_i32 c1_i32 k0_t1
  let c128_i32_1303 : BitVec 32 := 128#32
  let v3995 : BitVec 32 := Scalar.muli arg9 c128_i32_1303
  let v3996 : BitVec 32 := v3995
  let v3997 : Index := Scalar.indexCast v3996
  ![4288, v3997.toNat]
def k0_mult144 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1307 : BitVec 32 := 128#32
  let v4009 : BitVec 32 := Scalar.muli arg9 c128_i32_1307
  v4009
def k0_off223 (k0_t1 : Fin k0_t1_loop.trips) : Fin 2 → Nat :=
  let c4608 : Index := 4608#32
  let c0_i32 : BitVec 32 := 0#32
  let c1_i32 : BitVec 32 := 1#32
  let arg9 : BitVec 32 := Scf.iv c0_i32 c1_i32 k0_t1
  let c128_i32_1307 : BitVec 32 := 128#32
  let v4009 : BitVec 32 := Scalar.muli arg9 c128_i32_1307
  let v4010 : BitVec 32 := v4009
  let v4011 : Index := Scalar.indexCast v4010
  ![4608, v4011.toNat]
def k0_mult145 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1311 : BitVec 32 := 128#32
  let v4023 : BitVec 32 := Scalar.muli arg9 c128_i32_1311
  v4023
def k0_off224 (k0_t1 : Fin k0_t1_loop.trips) : Fin 2 → Nat :=
  let c4928 : Index := 4928#32
  let c0_i32 : BitVec 32 := 0#32
  let c1_i32 : BitVec 32 := 1#32
  let arg9 : BitVec 32 := Scf.iv c0_i32 c1_i32 k0_t1
  let c128_i32_1311 : BitVec 32 := 128#32
  let v4023 : BitVec 32 := Scalar.muli arg9 c128_i32_1311
  let v4024 : BitVec 32 := v4023
  let v4025 : Index := Scalar.indexCast v4024
  ![4928, v4025.toNat]
def k0_off225 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4029 : Index := Scalar.indexCast arg9
  let c394 : Index := 394#32
  let c0_1312 : Index := 0#32
  ![v4029.toNat, 394, 0]
def k0_off226 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4032 : Index := Scalar.indexCast arg9
  let c395 : Index := 395#32
  let c0_1313 : Index := 0#32
  ![v4032.toNat, 395, 0]
def k0_off227 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4035 : Index := Scalar.indexCast arg9
  let c396 : Index := 396#32
  let c0_1314 : Index := 0#32
  ![v4035.toNat, 396, 0]
def k0_off228 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4038 : Index := Scalar.indexCast arg9
  let c397 : Index := 397#32
  let c0_1315 : Index := 0#32
  ![v4038.toNat, 397, 0]
def k0_off229 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4065 : Index := Scalar.indexCast arg9
  let c72 : Index := 72#32
  let c0_1328 : Index := 0#32
  ![v4065.toNat, 72, 0]
def k0_mult146 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1332 : BitVec 32 := 128#32
  let v4077 : BitVec 32 := Scalar.muli arg9 c128_i32_1332
  v4077
def k0_off230 (k0_t1 : Fin k0_t1_loop.trips) : Fin 2 → Nat :=
  let c144 : Index := 144#32
  let c0_i32 : BitVec 32 := 0#32
  let c1_i32 : BitVec 32 := 1#32
  let arg9 : BitVec 32 := Scf.iv c0_i32 c1_i32 k0_t1
  let c128_i32_1332 : BitVec 32 := 128#32
  let v4077 : BitVec 32 := Scalar.muli arg9 c128_i32_1332
  let v4078 : BitVec 32 := v4077
  let v4079 : Index := Scalar.indexCast v4078
  ![144, v4079.toNat]
def k0_mult147 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1336 : BitVec 32 := 128#32
  let v4091 : BitVec 32 := Scalar.muli arg9 c128_i32_1336
  v4091
def k0_off231 (k0_t1 : Fin k0_t1_loop.trips) : Fin 2 → Nat :=
  let c464 : Index := 464#32
  let c0_i32 : BitVec 32 := 0#32
  let c1_i32 : BitVec 32 := 1#32
  let arg9 : BitVec 32 := Scf.iv c0_i32 c1_i32 k0_t1
  let c128_i32_1336 : BitVec 32 := 128#32
  let v4091 : BitVec 32 := Scalar.muli arg9 c128_i32_1336
  let v4092 : BitVec 32 := v4091
  let v4093 : Index := Scalar.indexCast v4092
  ![464, v4093.toNat]
def k0_mult148 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1340 : BitVec 32 := 128#32
  let v4105 : BitVec 32 := Scalar.muli arg9 c128_i32_1340
  v4105
def k0_off232 (k0_t1 : Fin k0_t1_loop.trips) : Fin 2 → Nat :=
  let c784 : Index := 784#32
  let c0_i32 : BitVec 32 := 0#32
  let c1_i32 : BitVec 32 := 1#32
  let arg9 : BitVec 32 := Scf.iv c0_i32 c1_i32 k0_t1
  let c128_i32_1340 : BitVec 32 := 128#32
  let v4105 : BitVec 32 := Scalar.muli arg9 c128_i32_1340
  let v4106 : BitVec 32 := v4105
  let v4107 : Index := Scalar.indexCast v4106
  ![784, v4107.toNat]
def k0_mult149 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1344 : BitVec 32 := 128#32
  let v4119 : BitVec 32 := Scalar.muli arg9 c128_i32_1344
  v4119
def k0_off233 (k0_t1 : Fin k0_t1_loop.trips) : Fin 2 → Nat :=
  let c1104 : Index := 1104#32
  let c0_i32 : BitVec 32 := 0#32
  let c1_i32 : BitVec 32 := 1#32
  let arg9 : BitVec 32 := Scf.iv c0_i32 c1_i32 k0_t1
  let c128_i32_1344 : BitVec 32 := 128#32
  let v4119 : BitVec 32 := Scalar.muli arg9 c128_i32_1344
  let v4120 : BitVec 32 := v4119
  let v4121 : Index := Scalar.indexCast v4120
  ![1104, v4121.toNat]
def k0_mult150 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1348 : BitVec 32 := 128#32
  let v4133 : BitVec 32 := Scalar.muli arg9 c128_i32_1348
  v4133
def k0_off234 (k0_t1 : Fin k0_t1_loop.trips) : Fin 2 → Nat :=
  let c1424 : Index := 1424#32
  let c0_i32 : BitVec 32 := 0#32
  let c1_i32 : BitVec 32 := 1#32
  let arg9 : BitVec 32 := Scf.iv c0_i32 c1_i32 k0_t1
  let c128_i32_1348 : BitVec 32 := 128#32
  let v4133 : BitVec 32 := Scalar.muli arg9 c128_i32_1348
  let v4134 : BitVec 32 := v4133
  let v4135 : Index := Scalar.indexCast v4134
  ![1424, v4135.toNat]
def k0_mult151 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1352 : BitVec 32 := 128#32
  let v4147 : BitVec 32 := Scalar.muli arg9 c128_i32_1352
  v4147
def k0_off235 (k0_t1 : Fin k0_t1_loop.trips) : Fin 2 → Nat :=
  let c1744 : Index := 1744#32
  let c0_i32 : BitVec 32 := 0#32
  let c1_i32 : BitVec 32 := 1#32
  let arg9 : BitVec 32 := Scf.iv c0_i32 c1_i32 k0_t1
  let c128_i32_1352 : BitVec 32 := 128#32
  let v4147 : BitVec 32 := Scalar.muli arg9 c128_i32_1352
  let v4148 : BitVec 32 := v4147
  let v4149 : Index := Scalar.indexCast v4148
  ![1744, v4149.toNat]
def k0_mult152 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1356 : BitVec 32 := 128#32
  let v4161 : BitVec 32 := Scalar.muli arg9 c128_i32_1356
  v4161
def k0_off236 (k0_t1 : Fin k0_t1_loop.trips) : Fin 2 → Nat :=
  let c2064 : Index := 2064#32
  let c0_i32 : BitVec 32 := 0#32
  let c1_i32 : BitVec 32 := 1#32
  let arg9 : BitVec 32 := Scf.iv c0_i32 c1_i32 k0_t1
  let c128_i32_1356 : BitVec 32 := 128#32
  let v4161 : BitVec 32 := Scalar.muli arg9 c128_i32_1356
  let v4162 : BitVec 32 := v4161
  let v4163 : Index := Scalar.indexCast v4162
  ![2064, v4163.toNat]
def k0_mult153 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1360 : BitVec 32 := 128#32
  let v4175 : BitVec 32 := Scalar.muli arg9 c128_i32_1360
  v4175
def k0_off237 (k0_t1 : Fin k0_t1_loop.trips) : Fin 2 → Nat :=
  let c2384 : Index := 2384#32
  let c0_i32 : BitVec 32 := 0#32
  let c1_i32 : BitVec 32 := 1#32
  let arg9 : BitVec 32 := Scf.iv c0_i32 c1_i32 k0_t1
  let c128_i32_1360 : BitVec 32 := 128#32
  let v4175 : BitVec 32 := Scalar.muli arg9 c128_i32_1360
  let v4176 : BitVec 32 := v4175
  let v4177 : Index := Scalar.indexCast v4176
  ![2384, v4177.toNat]
def k0_mult154 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1364 : BitVec 32 := 128#32
  let v4189 : BitVec 32 := Scalar.muli arg9 c128_i32_1364
  v4189
def k0_off238 (k0_t1 : Fin k0_t1_loop.trips) : Fin 2 → Nat :=
  let c2704 : Index := 2704#32
  let c0_i32 : BitVec 32 := 0#32
  let c1_i32 : BitVec 32 := 1#32
  let arg9 : BitVec 32 := Scf.iv c0_i32 c1_i32 k0_t1
  let c128_i32_1364 : BitVec 32 := 128#32
  let v4189 : BitVec 32 := Scalar.muli arg9 c128_i32_1364
  let v4190 : BitVec 32 := v4189
  let v4191 : Index := Scalar.indexCast v4190
  ![2704, v4191.toNat]
def k0_mult155 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1368 : BitVec 32 := 128#32
  let v4203 : BitVec 32 := Scalar.muli arg9 c128_i32_1368
  v4203
def k0_off239 (k0_t1 : Fin k0_t1_loop.trips) : Fin 2 → Nat :=
  let c3024 : Index := 3024#32
  let c0_i32 : BitVec 32 := 0#32
  let c1_i32 : BitVec 32 := 1#32
  let arg9 : BitVec 32 := Scf.iv c0_i32 c1_i32 k0_t1
  let c128_i32_1368 : BitVec 32 := 128#32
  let v4203 : BitVec 32 := Scalar.muli arg9 c128_i32_1368
  let v4204 : BitVec 32 := v4203
  let v4205 : Index := Scalar.indexCast v4204
  ![3024, v4205.toNat]
def k0_mult156 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1372 : BitVec 32 := 128#32
  let v4217 : BitVec 32 := Scalar.muli arg9 c128_i32_1372
  v4217
def k0_off240 (k0_t1 : Fin k0_t1_loop.trips) : Fin 2 → Nat :=
  let c3344 : Index := 3344#32
  let c0_i32 : BitVec 32 := 0#32
  let c1_i32 : BitVec 32 := 1#32
  let arg9 : BitVec 32 := Scf.iv c0_i32 c1_i32 k0_t1
  let c128_i32_1372 : BitVec 32 := 128#32
  let v4217 : BitVec 32 := Scalar.muli arg9 c128_i32_1372
  let v4218 : BitVec 32 := v4217
  let v4219 : Index := Scalar.indexCast v4218
  ![3344, v4219.toNat]
def k0_mult157 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1376 : BitVec 32 := 128#32
  let v4231 : BitVec 32 := Scalar.muli arg9 c128_i32_1376
  v4231
def k0_off241 (k0_t1 : Fin k0_t1_loop.trips) : Fin 2 → Nat :=
  let c3664 : Index := 3664#32
  let c0_i32 : BitVec 32 := 0#32
  let c1_i32 : BitVec 32 := 1#32
  let arg9 : BitVec 32 := Scf.iv c0_i32 c1_i32 k0_t1
  let c128_i32_1376 : BitVec 32 := 128#32
  let v4231 : BitVec 32 := Scalar.muli arg9 c128_i32_1376
  let v4232 : BitVec 32 := v4231
  let v4233 : Index := Scalar.indexCast v4232
  ![3664, v4233.toNat]
def k0_mult158 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1380 : BitVec 32 := 128#32
  let v4245 : BitVec 32 := Scalar.muli arg9 c128_i32_1380
  v4245
def k0_off242 (k0_t1 : Fin k0_t1_loop.trips) : Fin 2 → Nat :=
  let c3984 : Index := 3984#32
  let c0_i32 : BitVec 32 := 0#32
  let c1_i32 : BitVec 32 := 1#32
  let arg9 : BitVec 32 := Scf.iv c0_i32 c1_i32 k0_t1
  let c128_i32_1380 : BitVec 32 := 128#32
  let v4245 : BitVec 32 := Scalar.muli arg9 c128_i32_1380
  let v4246 : BitVec 32 := v4245
  let v4247 : Index := Scalar.indexCast v4246
  ![3984, v4247.toNat]
def k0_mult159 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1384 : BitVec 32 := 128#32
  let v4259 : BitVec 32 := Scalar.muli arg9 c128_i32_1384
  v4259
def k0_off243 (k0_t1 : Fin k0_t1_loop.trips) : Fin 2 → Nat :=
  let c4304 : Index := 4304#32
  let c0_i32 : BitVec 32 := 0#32
  let c1_i32 : BitVec 32 := 1#32
  let arg9 : BitVec 32 := Scf.iv c0_i32 c1_i32 k0_t1
  let c128_i32_1384 : BitVec 32 := 128#32
  let v4259 : BitVec 32 := Scalar.muli arg9 c128_i32_1384
  let v4260 : BitVec 32 := v4259
  let v4261 : Index := Scalar.indexCast v4260
  ![4304, v4261.toNat]
def k0_mult160 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1388 : BitVec 32 := 128#32
  let v4273 : BitVec 32 := Scalar.muli arg9 c128_i32_1388
  v4273
def k0_off244 (k0_t1 : Fin k0_t1_loop.trips) : Fin 2 → Nat :=
  let c4624 : Index := 4624#32
  let c0_i32 : BitVec 32 := 0#32
  let c1_i32 : BitVec 32 := 1#32
  let arg9 : BitVec 32 := Scf.iv c0_i32 c1_i32 k0_t1
  let c128_i32_1388 : BitVec 32 := 128#32
  let v4273 : BitVec 32 := Scalar.muli arg9 c128_i32_1388
  let v4274 : BitVec 32 := v4273
  let v4275 : Index := Scalar.indexCast v4274
  ![4624, v4275.toNat]
def k0_mult161 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1392 : BitVec 32 := 128#32
  let v4287 : BitVec 32 := Scalar.muli arg9 c128_i32_1392
  v4287
def k0_off245 (k0_t1 : Fin k0_t1_loop.trips) : Fin 2 → Nat :=
  let c4944 : Index := 4944#32
  let c0_i32 : BitVec 32 := 0#32
  let c1_i32 : BitVec 32 := 1#32
  let arg9 : BitVec 32 := Scf.iv c0_i32 c1_i32 k0_t1
  let c128_i32_1392 : BitVec 32 := 128#32
  let v4287 : BitVec 32 := Scalar.muli arg9 c128_i32_1392
  let v4288 : BitVec 32 := v4287
  let v4289 : Index := Scalar.indexCast v4288
  ![4944, v4289.toNat]
def k0_off246 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4293 : Index := Scalar.indexCast arg9
  let c426 : Index := 426#32
  let c0_1393 : Index := 0#32
  ![v4293.toNat, 426, 0]
def k0_off247 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4296 : Index := Scalar.indexCast arg9
  let c427 : Index := 427#32
  let c0_1394 : Index := 0#32
  ![v4296.toNat, 427, 0]
def k0_off248 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4299 : Index := Scalar.indexCast arg9
  let c428 : Index := 428#32
  let c0_1395 : Index := 0#32
  ![v4299.toNat, 428, 0]
def k0_off249 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4302 : Index := Scalar.indexCast arg9
  let c429 : Index := 429#32
  let c0_1396 : Index := 0#32
  ![v4302.toNat, 429, 0]
def k0_off250 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4329 : Index := Scalar.indexCast arg9
  let c80_1409 : Index := 80#32
  let c0_1410 : Index := 0#32
  ![v4329.toNat, 80, 0]
def k0_mult162 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1414 : BitVec 32 := 128#32
  let v4341 : BitVec 32 := Scalar.muli arg9 c128_i32_1414
  v4341
def k0_off251 (k0_t1 : Fin k0_t1_loop.trips) : Fin 2 → Nat :=
  let c160 : Index := 160#32
  let c0_i32 : BitVec 32 := 0#32
  let c1_i32 : BitVec 32 := 1#32
  let arg9 : BitVec 32 := Scf.iv c0_i32 c1_i32 k0_t1
  let c128_i32_1414 : BitVec 32 := 128#32
  let v4341 : BitVec 32 := Scalar.muli arg9 c128_i32_1414
  let v4342 : BitVec 32 := v4341
  let v4343 : Index := Scalar.indexCast v4342
  ![160, v4343.toNat]
def k0_mult163 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1418 : BitVec 32 := 128#32
  let v4355 : BitVec 32 := Scalar.muli arg9 c128_i32_1418
  v4355
def k0_off252 (k0_t1 : Fin k0_t1_loop.trips) : Fin 2 → Nat :=
  let c480 : Index := 480#32
  let c0_i32 : BitVec 32 := 0#32
  let c1_i32 : BitVec 32 := 1#32
  let arg9 : BitVec 32 := Scf.iv c0_i32 c1_i32 k0_t1
  let c128_i32_1418 : BitVec 32 := 128#32
  let v4355 : BitVec 32 := Scalar.muli arg9 c128_i32_1418
  let v4356 : BitVec 32 := v4355
  let v4357 : Index := Scalar.indexCast v4356
  ![480, v4357.toNat]
def k0_mult164 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1422 : BitVec 32 := 128#32
  let v4369 : BitVec 32 := Scalar.muli arg9 c128_i32_1422
  v4369
def k0_off253 (k0_t1 : Fin k0_t1_loop.trips) : Fin 2 → Nat :=
  let c800 : Index := 800#32
  let c0_i32 : BitVec 32 := 0#32
  let c1_i32 : BitVec 32 := 1#32
  let arg9 : BitVec 32 := Scf.iv c0_i32 c1_i32 k0_t1
  let c128_i32_1422 : BitVec 32 := 128#32
  let v4369 : BitVec 32 := Scalar.muli arg9 c128_i32_1422
  let v4370 : BitVec 32 := v4369
  let v4371 : Index := Scalar.indexCast v4370
  ![800, v4371.toNat]
def k0_mult165 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1426 : BitVec 32 := 128#32
  let v4383 : BitVec 32 := Scalar.muli arg9 c128_i32_1426
  v4383
def k0_off254 (k0_t1 : Fin k0_t1_loop.trips) : Fin 2 → Nat :=
  let c1120 : Index := 1120#32
  let c0_i32 : BitVec 32 := 0#32
  let c1_i32 : BitVec 32 := 1#32
  let arg9 : BitVec 32 := Scf.iv c0_i32 c1_i32 k0_t1
  let c128_i32_1426 : BitVec 32 := 128#32
  let v4383 : BitVec 32 := Scalar.muli arg9 c128_i32_1426
  let v4384 : BitVec 32 := v4383
  let v4385 : Index := Scalar.indexCast v4384
  ![1120, v4385.toNat]
def k0_mult166 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1430 : BitVec 32 := 128#32
  let v4397 : BitVec 32 := Scalar.muli arg9 c128_i32_1430
  v4397
def k0_off255 (k0_t1 : Fin k0_t1_loop.trips) : Fin 2 → Nat :=
  let c1440 : Index := 1440#32
  let c0_i32 : BitVec 32 := 0#32
  let c1_i32 : BitVec 32 := 1#32
  let arg9 : BitVec 32 := Scf.iv c0_i32 c1_i32 k0_t1
  let c128_i32_1430 : BitVec 32 := 128#32
  let v4397 : BitVec 32 := Scalar.muli arg9 c128_i32_1430
  let v4398 : BitVec 32 := v4397
  let v4399 : Index := Scalar.indexCast v4398
  ![1440, v4399.toNat]
def k0_mult167 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1434 : BitVec 32 := 128#32
  let v4411 : BitVec 32 := Scalar.muli arg9 c128_i32_1434
  v4411
def k0_off256 (k0_t1 : Fin k0_t1_loop.trips) : Fin 2 → Nat :=
  let c1760 : Index := 1760#32
  let c0_i32 : BitVec 32 := 0#32
  let c1_i32 : BitVec 32 := 1#32
  let arg9 : BitVec 32 := Scf.iv c0_i32 c1_i32 k0_t1
  let c128_i32_1434 : BitVec 32 := 128#32
  let v4411 : BitVec 32 := Scalar.muli arg9 c128_i32_1434
  let v4412 : BitVec 32 := v4411
  let v4413 : Index := Scalar.indexCast v4412
  ![1760, v4413.toNat]
def k0_mult168 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1438 : BitVec 32 := 128#32
  let v4425 : BitVec 32 := Scalar.muli arg9 c128_i32_1438
  v4425
def k0_off257 (k0_t1 : Fin k0_t1_loop.trips) : Fin 2 → Nat :=
  let c2080 : Index := 2080#32
  let c0_i32 : BitVec 32 := 0#32
  let c1_i32 : BitVec 32 := 1#32
  let arg9 : BitVec 32 := Scf.iv c0_i32 c1_i32 k0_t1
  let c128_i32_1438 : BitVec 32 := 128#32
  let v4425 : BitVec 32 := Scalar.muli arg9 c128_i32_1438
  let v4426 : BitVec 32 := v4425
  let v4427 : Index := Scalar.indexCast v4426
  ![2080, v4427.toNat]
def k0_mult169 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1442 : BitVec 32 := 128#32
  let v4439 : BitVec 32 := Scalar.muli arg9 c128_i32_1442
  v4439
def k0_off258 (k0_t1 : Fin k0_t1_loop.trips) : Fin 2 → Nat :=
  let c2400 : Index := 2400#32
  let c0_i32 : BitVec 32 := 0#32
  let c1_i32 : BitVec 32 := 1#32
  let arg9 : BitVec 32 := Scf.iv c0_i32 c1_i32 k0_t1
  let c128_i32_1442 : BitVec 32 := 128#32
  let v4439 : BitVec 32 := Scalar.muli arg9 c128_i32_1442
  let v4440 : BitVec 32 := v4439
  let v4441 : Index := Scalar.indexCast v4440
  ![2400, v4441.toNat]
def k0_mult170 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1446 : BitVec 32 := 128#32
  let v4453 : BitVec 32 := Scalar.muli arg9 c128_i32_1446
  v4453
def k0_off259 (k0_t1 : Fin k0_t1_loop.trips) : Fin 2 → Nat :=
  let c2720 : Index := 2720#32
  let c0_i32 : BitVec 32 := 0#32
  let c1_i32 : BitVec 32 := 1#32
  let arg9 : BitVec 32 := Scf.iv c0_i32 c1_i32 k0_t1
  let c128_i32_1446 : BitVec 32 := 128#32
  let v4453 : BitVec 32 := Scalar.muli arg9 c128_i32_1446
  let v4454 : BitVec 32 := v4453
  let v4455 : Index := Scalar.indexCast v4454
  ![2720, v4455.toNat]
def k0_mult171 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1450 : BitVec 32 := 128#32
  let v4467 : BitVec 32 := Scalar.muli arg9 c128_i32_1450
  v4467
def k0_off260 (k0_t1 : Fin k0_t1_loop.trips) : Fin 2 → Nat :=
  let c3040 : Index := 3040#32
  let c0_i32 : BitVec 32 := 0#32
  let c1_i32 : BitVec 32 := 1#32
  let arg9 : BitVec 32 := Scf.iv c0_i32 c1_i32 k0_t1
  let c128_i32_1450 : BitVec 32 := 128#32
  let v4467 : BitVec 32 := Scalar.muli arg9 c128_i32_1450
  let v4468 : BitVec 32 := v4467
  let v4469 : Index := Scalar.indexCast v4468
  ![3040, v4469.toNat]
def k0_mult172 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1454 : BitVec 32 := 128#32
  let v4481 : BitVec 32 := Scalar.muli arg9 c128_i32_1454
  v4481
def k0_off261 (k0_t1 : Fin k0_t1_loop.trips) : Fin 2 → Nat :=
  let c3360 : Index := 3360#32
  let c0_i32 : BitVec 32 := 0#32
  let c1_i32 : BitVec 32 := 1#32
  let arg9 : BitVec 32 := Scf.iv c0_i32 c1_i32 k0_t1
  let c128_i32_1454 : BitVec 32 := 128#32
  let v4481 : BitVec 32 := Scalar.muli arg9 c128_i32_1454
  let v4482 : BitVec 32 := v4481
  let v4483 : Index := Scalar.indexCast v4482
  ![3360, v4483.toNat]
def k0_mult173 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1458 : BitVec 32 := 128#32
  let v4495 : BitVec 32 := Scalar.muli arg9 c128_i32_1458
  v4495
def k0_off262 (k0_t1 : Fin k0_t1_loop.trips) : Fin 2 → Nat :=
  let c3680 : Index := 3680#32
  let c0_i32 : BitVec 32 := 0#32
  let c1_i32 : BitVec 32 := 1#32
  let arg9 : BitVec 32 := Scf.iv c0_i32 c1_i32 k0_t1
  let c128_i32_1458 : BitVec 32 := 128#32
  let v4495 : BitVec 32 := Scalar.muli arg9 c128_i32_1458
  let v4496 : BitVec 32 := v4495
  let v4497 : Index := Scalar.indexCast v4496
  ![3680, v4497.toNat]
def k0_mult174 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1462 : BitVec 32 := 128#32
  let v4509 : BitVec 32 := Scalar.muli arg9 c128_i32_1462
  v4509
def k0_off263 (k0_t1 : Fin k0_t1_loop.trips) : Fin 2 → Nat :=
  let c4000 : Index := 4000#32
  let c0_i32 : BitVec 32 := 0#32
  let c1_i32 : BitVec 32 := 1#32
  let arg9 : BitVec 32 := Scf.iv c0_i32 c1_i32 k0_t1
  let c128_i32_1462 : BitVec 32 := 128#32
  let v4509 : BitVec 32 := Scalar.muli arg9 c128_i32_1462
  let v4510 : BitVec 32 := v4509
  let v4511 : Index := Scalar.indexCast v4510
  ![4000, v4511.toNat]
def k0_mult175 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1466 : BitVec 32 := 128#32
  let v4523 : BitVec 32 := Scalar.muli arg9 c128_i32_1466
  v4523
def k0_off264 (k0_t1 : Fin k0_t1_loop.trips) : Fin 2 → Nat :=
  let c4320 : Index := 4320#32
  let c0_i32 : BitVec 32 := 0#32
  let c1_i32 : BitVec 32 := 1#32
  let arg9 : BitVec 32 := Scf.iv c0_i32 c1_i32 k0_t1
  let c128_i32_1466 : BitVec 32 := 128#32
  let v4523 : BitVec 32 := Scalar.muli arg9 c128_i32_1466
  let v4524 : BitVec 32 := v4523
  let v4525 : Index := Scalar.indexCast v4524
  ![4320, v4525.toNat]
def k0_mult176 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1470 : BitVec 32 := 128#32
  let v4537 : BitVec 32 := Scalar.muli arg9 c128_i32_1470
  v4537
def k0_off265 (k0_t1 : Fin k0_t1_loop.trips) : Fin 2 → Nat :=
  let c4640 : Index := 4640#32
  let c0_i32 : BitVec 32 := 0#32
  let c1_i32 : BitVec 32 := 1#32
  let arg9 : BitVec 32 := Scf.iv c0_i32 c1_i32 k0_t1
  let c128_i32_1470 : BitVec 32 := 128#32
  let v4537 : BitVec 32 := Scalar.muli arg9 c128_i32_1470
  let v4538 : BitVec 32 := v4537
  let v4539 : Index := Scalar.indexCast v4538
  ![4640, v4539.toNat]
def k0_mult177 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1474 : BitVec 32 := 128#32
  let v4551 : BitVec 32 := Scalar.muli arg9 c128_i32_1474
  v4551
def k0_off266 (k0_t1 : Fin k0_t1_loop.trips) : Fin 2 → Nat :=
  let c4960 : Index := 4960#32
  let c0_i32 : BitVec 32 := 0#32
  let c1_i32 : BitVec 32 := 1#32
  let arg9 : BitVec 32 := Scf.iv c0_i32 c1_i32 k0_t1
  let c128_i32_1474 : BitVec 32 := 128#32
  let v4551 : BitVec 32 := Scalar.muli arg9 c128_i32_1474
  let v4552 : BitVec 32 := v4551
  let v4553 : Index := Scalar.indexCast v4552
  ![4960, v4553.toNat]
def k0_off267 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4557 : Index := Scalar.indexCast arg9
  let c458 : Index := 458#32
  let c0_1475 : Index := 0#32
  ![v4557.toNat, 458, 0]
def k0_off268 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4560 : Index := Scalar.indexCast arg9
  let c459 : Index := 459#32
  let c0_1476 : Index := 0#32
  ![v4560.toNat, 459, 0]
def k0_off269 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4563 : Index := Scalar.indexCast arg9
  let c460 : Index := 460#32
  let c0_1477 : Index := 0#32
  ![v4563.toNat, 460, 0]
def k0_off270 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4566 : Index := Scalar.indexCast arg9
  let c461 : Index := 461#32
  let c0_1478 : Index := 0#32
  ![v4566.toNat, 461, 0]
def k0_off271 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4593 : Index := Scalar.indexCast arg9
  let c88 : Index := 88#32
  let c0_1491 : Index := 0#32
  ![v4593.toNat, 88, 0]
def k0_mult178 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1495 : BitVec 32 := 128#32
  let v4605 : BitVec 32 := Scalar.muli arg9 c128_i32_1495
  v4605
def k0_off272 (k0_t1 : Fin k0_t1_loop.trips) : Fin 2 → Nat :=
  let c176 : Index := 176#32
  let c0_i32 : BitVec 32 := 0#32
  let c1_i32 : BitVec 32 := 1#32
  let arg9 : BitVec 32 := Scf.iv c0_i32 c1_i32 k0_t1
  let c128_i32_1495 : BitVec 32 := 128#32
  let v4605 : BitVec 32 := Scalar.muli arg9 c128_i32_1495
  let v4606 : BitVec 32 := v4605
  let v4607 : Index := Scalar.indexCast v4606
  ![176, v4607.toNat]
def k0_mult179 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1499 : BitVec 32 := 128#32
  let v4619 : BitVec 32 := Scalar.muli arg9 c128_i32_1499
  v4619
def k0_off273 (k0_t1 : Fin k0_t1_loop.trips) : Fin 2 → Nat :=
  let c496 : Index := 496#32
  let c0_i32 : BitVec 32 := 0#32
  let c1_i32 : BitVec 32 := 1#32
  let arg9 : BitVec 32 := Scf.iv c0_i32 c1_i32 k0_t1
  let c128_i32_1499 : BitVec 32 := 128#32
  let v4619 : BitVec 32 := Scalar.muli arg9 c128_i32_1499
  let v4620 : BitVec 32 := v4619
  let v4621 : Index := Scalar.indexCast v4620
  ![496, v4621.toNat]
def k0_mult180 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1503 : BitVec 32 := 128#32
  let v4633 : BitVec 32 := Scalar.muli arg9 c128_i32_1503
  v4633
def k0_off274 (k0_t1 : Fin k0_t1_loop.trips) : Fin 2 → Nat :=
  let c816 : Index := 816#32
  let c0_i32 : BitVec 32 := 0#32
  let c1_i32 : BitVec 32 := 1#32
  let arg9 : BitVec 32 := Scf.iv c0_i32 c1_i32 k0_t1
  let c128_i32_1503 : BitVec 32 := 128#32
  let v4633 : BitVec 32 := Scalar.muli arg9 c128_i32_1503
  let v4634 : BitVec 32 := v4633
  let v4635 : Index := Scalar.indexCast v4634
  ![816, v4635.toNat]
def k0_mult181 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1507 : BitVec 32 := 128#32
  let v4647 : BitVec 32 := Scalar.muli arg9 c128_i32_1507
  v4647
def k0_off275 (k0_t1 : Fin k0_t1_loop.trips) : Fin 2 → Nat :=
  let c1136 : Index := 1136#32
  let c0_i32 : BitVec 32 := 0#32
  let c1_i32 : BitVec 32 := 1#32
  let arg9 : BitVec 32 := Scf.iv c0_i32 c1_i32 k0_t1
  let c128_i32_1507 : BitVec 32 := 128#32
  let v4647 : BitVec 32 := Scalar.muli arg9 c128_i32_1507
  let v4648 : BitVec 32 := v4647
  let v4649 : Index := Scalar.indexCast v4648
  ![1136, v4649.toNat]
def k0_mult182 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1511 : BitVec 32 := 128#32
  let v4661 : BitVec 32 := Scalar.muli arg9 c128_i32_1511
  v4661
def k0_off276 (k0_t1 : Fin k0_t1_loop.trips) : Fin 2 → Nat :=
  let c1456 : Index := 1456#32
  let c0_i32 : BitVec 32 := 0#32
  let c1_i32 : BitVec 32 := 1#32
  let arg9 : BitVec 32 := Scf.iv c0_i32 c1_i32 k0_t1
  let c128_i32_1511 : BitVec 32 := 128#32
  let v4661 : BitVec 32 := Scalar.muli arg9 c128_i32_1511
  let v4662 : BitVec 32 := v4661
  let v4663 : Index := Scalar.indexCast v4662
  ![1456, v4663.toNat]
def k0_mult183 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1515 : BitVec 32 := 128#32
  let v4675 : BitVec 32 := Scalar.muli arg9 c128_i32_1515
  v4675
def k0_off277 (k0_t1 : Fin k0_t1_loop.trips) : Fin 2 → Nat :=
  let c1776 : Index := 1776#32
  let c0_i32 : BitVec 32 := 0#32
  let c1_i32 : BitVec 32 := 1#32
  let arg9 : BitVec 32 := Scf.iv c0_i32 c1_i32 k0_t1
  let c128_i32_1515 : BitVec 32 := 128#32
  let v4675 : BitVec 32 := Scalar.muli arg9 c128_i32_1515
  let v4676 : BitVec 32 := v4675
  let v4677 : Index := Scalar.indexCast v4676
  ![1776, v4677.toNat]
def k0_mult184 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1519 : BitVec 32 := 128#32
  let v4689 : BitVec 32 := Scalar.muli arg9 c128_i32_1519
  v4689
def k0_off278 (k0_t1 : Fin k0_t1_loop.trips) : Fin 2 → Nat :=
  let c2096 : Index := 2096#32
  let c0_i32 : BitVec 32 := 0#32
  let c1_i32 : BitVec 32 := 1#32
  let arg9 : BitVec 32 := Scf.iv c0_i32 c1_i32 k0_t1
  let c128_i32_1519 : BitVec 32 := 128#32
  let v4689 : BitVec 32 := Scalar.muli arg9 c128_i32_1519
  let v4690 : BitVec 32 := v4689
  let v4691 : Index := Scalar.indexCast v4690
  ![2096, v4691.toNat]
def k0_mult185 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1523 : BitVec 32 := 128#32
  let v4703 : BitVec 32 := Scalar.muli arg9 c128_i32_1523
  v4703
def k0_off279 (k0_t1 : Fin k0_t1_loop.trips) : Fin 2 → Nat :=
  let c2416 : Index := 2416#32
  let c0_i32 : BitVec 32 := 0#32
  let c1_i32 : BitVec 32 := 1#32
  let arg9 : BitVec 32 := Scf.iv c0_i32 c1_i32 k0_t1
  let c128_i32_1523 : BitVec 32 := 128#32
  let v4703 : BitVec 32 := Scalar.muli arg9 c128_i32_1523
  let v4704 : BitVec 32 := v4703
  let v4705 : Index := Scalar.indexCast v4704
  ![2416, v4705.toNat]
def k0_mult186 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1527 : BitVec 32 := 128#32
  let v4717 : BitVec 32 := Scalar.muli arg9 c128_i32_1527
  v4717
def k0_off280 (k0_t1 : Fin k0_t1_loop.trips) : Fin 2 → Nat :=
  let c2736 : Index := 2736#32
  let c0_i32 : BitVec 32 := 0#32
  let c1_i32 : BitVec 32 := 1#32
  let arg9 : BitVec 32 := Scf.iv c0_i32 c1_i32 k0_t1
  let c128_i32_1527 : BitVec 32 := 128#32
  let v4717 : BitVec 32 := Scalar.muli arg9 c128_i32_1527
  let v4718 : BitVec 32 := v4717
  let v4719 : Index := Scalar.indexCast v4718
  ![2736, v4719.toNat]
def k0_mult187 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1531 : BitVec 32 := 128#32
  let v4731 : BitVec 32 := Scalar.muli arg9 c128_i32_1531
  v4731
def k0_off281 (k0_t1 : Fin k0_t1_loop.trips) : Fin 2 → Nat :=
  let c3056 : Index := 3056#32
  let c0_i32 : BitVec 32 := 0#32
  let c1_i32 : BitVec 32 := 1#32
  let arg9 : BitVec 32 := Scf.iv c0_i32 c1_i32 k0_t1
  let c128_i32_1531 : BitVec 32 := 128#32
  let v4731 : BitVec 32 := Scalar.muli arg9 c128_i32_1531
  let v4732 : BitVec 32 := v4731
  let v4733 : Index := Scalar.indexCast v4732
  ![3056, v4733.toNat]
def k0_mult188 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1535 : BitVec 32 := 128#32
  let v4745 : BitVec 32 := Scalar.muli arg9 c128_i32_1535
  v4745
def k0_off282 (k0_t1 : Fin k0_t1_loop.trips) : Fin 2 → Nat :=
  let c3376 : Index := 3376#32
  let c0_i32 : BitVec 32 := 0#32
  let c1_i32 : BitVec 32 := 1#32
  let arg9 : BitVec 32 := Scf.iv c0_i32 c1_i32 k0_t1
  let c128_i32_1535 : BitVec 32 := 128#32
  let v4745 : BitVec 32 := Scalar.muli arg9 c128_i32_1535
  let v4746 : BitVec 32 := v4745
  let v4747 : Index := Scalar.indexCast v4746
  ![3376, v4747.toNat]
def k0_mult189 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1539 : BitVec 32 := 128#32
  let v4759 : BitVec 32 := Scalar.muli arg9 c128_i32_1539
  v4759
def k0_off283 (k0_t1 : Fin k0_t1_loop.trips) : Fin 2 → Nat :=
  let c3696 : Index := 3696#32
  let c0_i32 : BitVec 32 := 0#32
  let c1_i32 : BitVec 32 := 1#32
  let arg9 : BitVec 32 := Scf.iv c0_i32 c1_i32 k0_t1
  let c128_i32_1539 : BitVec 32 := 128#32
  let v4759 : BitVec 32 := Scalar.muli arg9 c128_i32_1539
  let v4760 : BitVec 32 := v4759
  let v4761 : Index := Scalar.indexCast v4760
  ![3696, v4761.toNat]
def k0_mult190 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1543 : BitVec 32 := 128#32
  let v4773 : BitVec 32 := Scalar.muli arg9 c128_i32_1543
  v4773
def k0_off284 (k0_t1 : Fin k0_t1_loop.trips) : Fin 2 → Nat :=
  let c4016 : Index := 4016#32
  let c0_i32 : BitVec 32 := 0#32
  let c1_i32 : BitVec 32 := 1#32
  let arg9 : BitVec 32 := Scf.iv c0_i32 c1_i32 k0_t1
  let c128_i32_1543 : BitVec 32 := 128#32
  let v4773 : BitVec 32 := Scalar.muli arg9 c128_i32_1543
  let v4774 : BitVec 32 := v4773
  let v4775 : Index := Scalar.indexCast v4774
  ![4016, v4775.toNat]
def k0_mult191 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1547 : BitVec 32 := 128#32
  let v4787 : BitVec 32 := Scalar.muli arg9 c128_i32_1547
  v4787
def k0_off285 (k0_t1 : Fin k0_t1_loop.trips) : Fin 2 → Nat :=
  let c4336 : Index := 4336#32
  let c0_i32 : BitVec 32 := 0#32
  let c1_i32 : BitVec 32 := 1#32
  let arg9 : BitVec 32 := Scf.iv c0_i32 c1_i32 k0_t1
  let c128_i32_1547 : BitVec 32 := 128#32
  let v4787 : BitVec 32 := Scalar.muli arg9 c128_i32_1547
  let v4788 : BitVec 32 := v4787
  let v4789 : Index := Scalar.indexCast v4788
  ![4336, v4789.toNat]
def k0_mult192 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1551 : BitVec 32 := 128#32
  let v4801 : BitVec 32 := Scalar.muli arg9 c128_i32_1551
  v4801
def k0_off286 (k0_t1 : Fin k0_t1_loop.trips) : Fin 2 → Nat :=
  let c4656 : Index := 4656#32
  let c0_i32 : BitVec 32 := 0#32
  let c1_i32 : BitVec 32 := 1#32
  let arg9 : BitVec 32 := Scf.iv c0_i32 c1_i32 k0_t1
  let c128_i32_1551 : BitVec 32 := 128#32
  let v4801 : BitVec 32 := Scalar.muli arg9 c128_i32_1551
  let v4802 : BitVec 32 := v4801
  let v4803 : Index := Scalar.indexCast v4802
  ![4656, v4803.toNat]
def k0_mult193 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1555 : BitVec 32 := 128#32
  let v4815 : BitVec 32 := Scalar.muli arg9 c128_i32_1555
  v4815
def k0_off287 (k0_t1 : Fin k0_t1_loop.trips) : Fin 2 → Nat :=
  let c4976 : Index := 4976#32
  let c0_i32 : BitVec 32 := 0#32
  let c1_i32 : BitVec 32 := 1#32
  let arg9 : BitVec 32 := Scf.iv c0_i32 c1_i32 k0_t1
  let c128_i32_1555 : BitVec 32 := 128#32
  let v4815 : BitVec 32 := Scalar.muli arg9 c128_i32_1555
  let v4816 : BitVec 32 := v4815
  let v4817 : Index := Scalar.indexCast v4816
  ![4976, v4817.toNat]
def k0_off288 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4821 : Index := Scalar.indexCast arg9
  let c490 : Index := 490#32
  let c0_1556 : Index := 0#32
  ![v4821.toNat, 490, 0]
def k0_off289 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4824 : Index := Scalar.indexCast arg9
  let c491 : Index := 491#32
  let c0_1557 : Index := 0#32
  ![v4824.toNat, 491, 0]
def k0_off290 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4827 : Index := Scalar.indexCast arg9
  let c492 : Index := 492#32
  let c0_1558 : Index := 0#32
  ![v4827.toNat, 492, 0]
def k0_off291 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4830 : Index := Scalar.indexCast arg9
  let c493 : Index := 493#32
  let c0_1559 : Index := 0#32
  ![v4830.toNat, 493, 0]
def k0_off292 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4857 : Index := Scalar.indexCast arg9
  let c96_1572 : Index := 96#32
  let c0_1573 : Index := 0#32
  ![v4857.toNat, 96, 0]
def k0_mult194 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1577 : BitVec 32 := 128#32
  let v4869 : BitVec 32 := Scalar.muli arg9 c128_i32_1577
  v4869
def k0_off293 (k0_t1 : Fin k0_t1_loop.trips) : Fin 2 → Nat :=
  let c192 : Index := 192#32
  let c0_i32 : BitVec 32 := 0#32
  let c1_i32 : BitVec 32 := 1#32
  let arg9 : BitVec 32 := Scf.iv c0_i32 c1_i32 k0_t1
  let c128_i32_1577 : BitVec 32 := 128#32
  let v4869 : BitVec 32 := Scalar.muli arg9 c128_i32_1577
  let v4870 : BitVec 32 := v4869
  let v4871 : Index := Scalar.indexCast v4870
  ![192, v4871.toNat]
def k0_mult195 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1581 : BitVec 32 := 128#32
  let v4883 : BitVec 32 := Scalar.muli arg9 c128_i32_1581
  v4883
def k0_off294 (k0_t1 : Fin k0_t1_loop.trips) : Fin 2 → Nat :=
  let c512 : Index := 512#32
  let c0_i32 : BitVec 32 := 0#32
  let c1_i32 : BitVec 32 := 1#32
  let arg9 : BitVec 32 := Scf.iv c0_i32 c1_i32 k0_t1
  let c128_i32_1581 : BitVec 32 := 128#32
  let v4883 : BitVec 32 := Scalar.muli arg9 c128_i32_1581
  let v4884 : BitVec 32 := v4883
  let v4885 : Index := Scalar.indexCast v4884
  ![512, v4885.toNat]
def k0_mult196 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1585 : BitVec 32 := 128#32
  let v4897 : BitVec 32 := Scalar.muli arg9 c128_i32_1585
  v4897
def k0_off295 (k0_t1 : Fin k0_t1_loop.trips) : Fin 2 → Nat :=
  let c832 : Index := 832#32
  let c0_i32 : BitVec 32 := 0#32
  let c1_i32 : BitVec 32 := 1#32
  let arg9 : BitVec 32 := Scf.iv c0_i32 c1_i32 k0_t1
  let c128_i32_1585 : BitVec 32 := 128#32
  let v4897 : BitVec 32 := Scalar.muli arg9 c128_i32_1585
  let v4898 : BitVec 32 := v4897
  let v4899 : Index := Scalar.indexCast v4898
  ![832, v4899.toNat]
def k0_mult197 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1589 : BitVec 32 := 128#32
  let v4911 : BitVec 32 := Scalar.muli arg9 c128_i32_1589
  v4911
def k0_off296 (k0_t1 : Fin k0_t1_loop.trips) : Fin 2 → Nat :=
  let c1152 : Index := 1152#32
  let c0_i32 : BitVec 32 := 0#32
  let c1_i32 : BitVec 32 := 1#32
  let arg9 : BitVec 32 := Scf.iv c0_i32 c1_i32 k0_t1
  let c128_i32_1589 : BitVec 32 := 128#32
  let v4911 : BitVec 32 := Scalar.muli arg9 c128_i32_1589
  let v4912 : BitVec 32 := v4911
  let v4913 : Index := Scalar.indexCast v4912
  ![1152, v4913.toNat]
def k0_mult198 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1593 : BitVec 32 := 128#32
  let v4925 : BitVec 32 := Scalar.muli arg9 c128_i32_1593
  v4925
def k0_off297 (k0_t1 : Fin k0_t1_loop.trips) : Fin 2 → Nat :=
  let c1472 : Index := 1472#32
  let c0_i32 : BitVec 32 := 0#32
  let c1_i32 : BitVec 32 := 1#32
  let arg9 : BitVec 32 := Scf.iv c0_i32 c1_i32 k0_t1
  let c128_i32_1593 : BitVec 32 := 128#32
  let v4925 : BitVec 32 := Scalar.muli arg9 c128_i32_1593
  let v4926 : BitVec 32 := v4925
  let v4927 : Index := Scalar.indexCast v4926
  ![1472, v4927.toNat]
def k0_mult199 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1597 : BitVec 32 := 128#32
  let v4939 : BitVec 32 := Scalar.muli arg9 c128_i32_1597
  v4939
def k0_off298 (k0_t1 : Fin k0_t1_loop.trips) : Fin 2 → Nat :=
  let c1792 : Index := 1792#32
  let c0_i32 : BitVec 32 := 0#32
  let c1_i32 : BitVec 32 := 1#32
  let arg9 : BitVec 32 := Scf.iv c0_i32 c1_i32 k0_t1
  let c128_i32_1597 : BitVec 32 := 128#32
  let v4939 : BitVec 32 := Scalar.muli arg9 c128_i32_1597
  let v4940 : BitVec 32 := v4939
  let v4941 : Index := Scalar.indexCast v4940
  ![1792, v4941.toNat]
def k0_mult200 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1601 : BitVec 32 := 128#32
  let v4953 : BitVec 32 := Scalar.muli arg9 c128_i32_1601
  v4953
def k0_off299 (k0_t1 : Fin k0_t1_loop.trips) : Fin 2 → Nat :=
  let c2112 : Index := 2112#32
  let c0_i32 : BitVec 32 := 0#32
  let c1_i32 : BitVec 32 := 1#32
  let arg9 : BitVec 32 := Scf.iv c0_i32 c1_i32 k0_t1
  let c128_i32_1601 : BitVec 32 := 128#32
  let v4953 : BitVec 32 := Scalar.muli arg9 c128_i32_1601
  let v4954 : BitVec 32 := v4953
  let v4955 : Index := Scalar.indexCast v4954
  ![2112, v4955.toNat]
def k0_mult201 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1605 : BitVec 32 := 128#32
  let v4967 : BitVec 32 := Scalar.muli arg9 c128_i32_1605
  v4967
def k0_off300 (k0_t1 : Fin k0_t1_loop.trips) : Fin 2 → Nat :=
  let c2432 : Index := 2432#32
  let c0_i32 : BitVec 32 := 0#32
  let c1_i32 : BitVec 32 := 1#32
  let arg9 : BitVec 32 := Scf.iv c0_i32 c1_i32 k0_t1
  let c128_i32_1605 : BitVec 32 := 128#32
  let v4967 : BitVec 32 := Scalar.muli arg9 c128_i32_1605
  let v4968 : BitVec 32 := v4967
  let v4969 : Index := Scalar.indexCast v4968
  ![2432, v4969.toNat]
def k0_mult202 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1609 : BitVec 32 := 128#32
  let v4981 : BitVec 32 := Scalar.muli arg9 c128_i32_1609
  v4981
def k0_off301 (k0_t1 : Fin k0_t1_loop.trips) : Fin 2 → Nat :=
  let c2752 : Index := 2752#32
  let c0_i32 : BitVec 32 := 0#32
  let c1_i32 : BitVec 32 := 1#32
  let arg9 : BitVec 32 := Scf.iv c0_i32 c1_i32 k0_t1
  let c128_i32_1609 : BitVec 32 := 128#32
  let v4981 : BitVec 32 := Scalar.muli arg9 c128_i32_1609
  let v4982 : BitVec 32 := v4981
  let v4983 : Index := Scalar.indexCast v4982
  ![2752, v4983.toNat]
def k0_mult203 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1613 : BitVec 32 := 128#32
  let v4995 : BitVec 32 := Scalar.muli arg9 c128_i32_1613
  v4995
def k0_off302 (k0_t1 : Fin k0_t1_loop.trips) : Fin 2 → Nat :=
  let c3072 : Index := 3072#32
  let c0_i32 : BitVec 32 := 0#32
  let c1_i32 : BitVec 32 := 1#32
  let arg9 : BitVec 32 := Scf.iv c0_i32 c1_i32 k0_t1
  let c128_i32_1613 : BitVec 32 := 128#32
  let v4995 : BitVec 32 := Scalar.muli arg9 c128_i32_1613
  let v4996 : BitVec 32 := v4995
  let v4997 : Index := Scalar.indexCast v4996
  ![3072, v4997.toNat]
def k0_mult204 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1617 : BitVec 32 := 128#32
  let v5009 : BitVec 32 := Scalar.muli arg9 c128_i32_1617
  v5009
def k0_off303 (k0_t1 : Fin k0_t1_loop.trips) : Fin 2 → Nat :=
  let c3392 : Index := 3392#32
  let c0_i32 : BitVec 32 := 0#32
  let c1_i32 : BitVec 32 := 1#32
  let arg9 : BitVec 32 := Scf.iv c0_i32 c1_i32 k0_t1
  let c128_i32_1617 : BitVec 32 := 128#32
  let v5009 : BitVec 32 := Scalar.muli arg9 c128_i32_1617
  let v5010 : BitVec 32 := v5009
  let v5011 : Index := Scalar.indexCast v5010
  ![3392, v5011.toNat]
def k0_mult205 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1621 : BitVec 32 := 128#32
  let v5023 : BitVec 32 := Scalar.muli arg9 c128_i32_1621
  v5023
def k0_off304 (k0_t1 : Fin k0_t1_loop.trips) : Fin 2 → Nat :=
  let c3712 : Index := 3712#32
  let c0_i32 : BitVec 32 := 0#32
  let c1_i32 : BitVec 32 := 1#32
  let arg9 : BitVec 32 := Scf.iv c0_i32 c1_i32 k0_t1
  let c128_i32_1621 : BitVec 32 := 128#32
  let v5023 : BitVec 32 := Scalar.muli arg9 c128_i32_1621
  let v5024 : BitVec 32 := v5023
  let v5025 : Index := Scalar.indexCast v5024
  ![3712, v5025.toNat]
def k0_mult206 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1625 : BitVec 32 := 128#32
  let v5037 : BitVec 32 := Scalar.muli arg9 c128_i32_1625
  v5037
def k0_off305 (k0_t1 : Fin k0_t1_loop.trips) : Fin 2 → Nat :=
  let c4032 : Index := 4032#32
  let c0_i32 : BitVec 32 := 0#32
  let c1_i32 : BitVec 32 := 1#32
  let arg9 : BitVec 32 := Scf.iv c0_i32 c1_i32 k0_t1
  let c128_i32_1625 : BitVec 32 := 128#32
  let v5037 : BitVec 32 := Scalar.muli arg9 c128_i32_1625
  let v5038 : BitVec 32 := v5037
  let v5039 : Index := Scalar.indexCast v5038
  ![4032, v5039.toNat]
def k0_mult207 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1629 : BitVec 32 := 128#32
  let v5051 : BitVec 32 := Scalar.muli arg9 c128_i32_1629
  v5051
def k0_off306 (k0_t1 : Fin k0_t1_loop.trips) : Fin 2 → Nat :=
  let c4352 : Index := 4352#32
  let c0_i32 : BitVec 32 := 0#32
  let c1_i32 : BitVec 32 := 1#32
  let arg9 : BitVec 32 := Scf.iv c0_i32 c1_i32 k0_t1
  let c128_i32_1629 : BitVec 32 := 128#32
  let v5051 : BitVec 32 := Scalar.muli arg9 c128_i32_1629
  let v5052 : BitVec 32 := v5051
  let v5053 : Index := Scalar.indexCast v5052
  ![4352, v5053.toNat]
def k0_mult208 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1633 : BitVec 32 := 128#32
  let v5065 : BitVec 32 := Scalar.muli arg9 c128_i32_1633
  v5065
def k0_off307 (k0_t1 : Fin k0_t1_loop.trips) : Fin 2 → Nat :=
  let c4672 : Index := 4672#32
  let c0_i32 : BitVec 32 := 0#32
  let c1_i32 : BitVec 32 := 1#32
  let arg9 : BitVec 32 := Scf.iv c0_i32 c1_i32 k0_t1
  let c128_i32_1633 : BitVec 32 := 128#32
  let v5065 : BitVec 32 := Scalar.muli arg9 c128_i32_1633
  let v5066 : BitVec 32 := v5065
  let v5067 : Index := Scalar.indexCast v5066
  ![4672, v5067.toNat]
def k0_mult209 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1637 : BitVec 32 := 128#32
  let v5079 : BitVec 32 := Scalar.muli arg9 c128_i32_1637
  v5079
def k0_off308 (k0_t1 : Fin k0_t1_loop.trips) : Fin 2 → Nat :=
  let c4992 : Index := 4992#32
  let c0_i32 : BitVec 32 := 0#32
  let c1_i32 : BitVec 32 := 1#32
  let arg9 : BitVec 32 := Scf.iv c0_i32 c1_i32 k0_t1
  let c128_i32_1637 : BitVec 32 := 128#32
  let v5079 : BitVec 32 := Scalar.muli arg9 c128_i32_1637
  let v5080 : BitVec 32 := v5079
  let v5081 : Index := Scalar.indexCast v5080
  ![4992, v5081.toNat]
def k0_off309 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5085 : Index := Scalar.indexCast arg9
  let c522 : Index := 522#32
  let c0_1638 : Index := 0#32
  ![v5085.toNat, 522, 0]
def k0_off310 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5088 : Index := Scalar.indexCast arg9
  let c523 : Index := 523#32
  let c0_1639 : Index := 0#32
  ![v5088.toNat, 523, 0]
def k0_off311 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5091 : Index := Scalar.indexCast arg9
  let c524 : Index := 524#32
  let c0_1640 : Index := 0#32
  ![v5091.toNat, 524, 0]
def k0_off312 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5094 : Index := Scalar.indexCast arg9
  let c525 : Index := 525#32
  let c0_1641 : Index := 0#32
  ![v5094.toNat, 525, 0]
def k0_off313 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5121 : Index := Scalar.indexCast arg9
  let c104 : Index := 104#32
  let c0_1654 : Index := 0#32
  ![v5121.toNat, 104, 0]
def k0_mult210 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1658 : BitVec 32 := 128#32
  let v5133 : BitVec 32 := Scalar.muli arg9 c128_i32_1658
  v5133
def k0_off314 (k0_t1 : Fin k0_t1_loop.trips) : Fin 2 → Nat :=
  let c208_1659 : Index := 208#32
  let c0_i32 : BitVec 32 := 0#32
  let c1_i32 : BitVec 32 := 1#32
  let arg9 : BitVec 32 := Scf.iv c0_i32 c1_i32 k0_t1
  let c128_i32_1658 : BitVec 32 := 128#32
  let v5133 : BitVec 32 := Scalar.muli arg9 c128_i32_1658
  let v5134 : BitVec 32 := v5133
  let v5135 : Index := Scalar.indexCast v5134
  ![208, v5135.toNat]
def k0_mult211 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1663 : BitVec 32 := 128#32
  let v5147 : BitVec 32 := Scalar.muli arg9 c128_i32_1663
  v5147
def k0_off315 (k0_t1 : Fin k0_t1_loop.trips) : Fin 2 → Nat :=
  let c528 : Index := 528#32
  let c0_i32 : BitVec 32 := 0#32
  let c1_i32 : BitVec 32 := 1#32
  let arg9 : BitVec 32 := Scf.iv c0_i32 c1_i32 k0_t1
  let c128_i32_1663 : BitVec 32 := 128#32
  let v5147 : BitVec 32 := Scalar.muli arg9 c128_i32_1663
  let v5148 : BitVec 32 := v5147
  let v5149 : Index := Scalar.indexCast v5148
  ![528, v5149.toNat]
def k0_mult212 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1667 : BitVec 32 := 128#32
  let v5161 : BitVec 32 := Scalar.muli arg9 c128_i32_1667
  v5161
def k0_off316 (k0_t1 : Fin k0_t1_loop.trips) : Fin 2 → Nat :=
  let c848 : Index := 848#32
  let c0_i32 : BitVec 32 := 0#32
  let c1_i32 : BitVec 32 := 1#32
  let arg9 : BitVec 32 := Scf.iv c0_i32 c1_i32 k0_t1
  let c128_i32_1667 : BitVec 32 := 128#32
  let v5161 : BitVec 32 := Scalar.muli arg9 c128_i32_1667
  let v5162 : BitVec 32 := v5161
  let v5163 : Index := Scalar.indexCast v5162
  ![848, v5163.toNat]
def k0_mult213 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1671 : BitVec 32 := 128#32
  let v5175 : BitVec 32 := Scalar.muli arg9 c128_i32_1671
  v5175
def k0_off317 (k0_t1 : Fin k0_t1_loop.trips) : Fin 2 → Nat :=
  let c1168 : Index := 1168#32
  let c0_i32 : BitVec 32 := 0#32
  let c1_i32 : BitVec 32 := 1#32
  let arg9 : BitVec 32 := Scf.iv c0_i32 c1_i32 k0_t1
  let c128_i32_1671 : BitVec 32 := 128#32
  let v5175 : BitVec 32 := Scalar.muli arg9 c128_i32_1671
  let v5176 : BitVec 32 := v5175
  let v5177 : Index := Scalar.indexCast v5176
  ![1168, v5177.toNat]
def k0_mult214 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1675 : BitVec 32 := 128#32
  let v5189 : BitVec 32 := Scalar.muli arg9 c128_i32_1675
  v5189
def k0_off318 (k0_t1 : Fin k0_t1_loop.trips) : Fin 2 → Nat :=
  let c1488 : Index := 1488#32
  let c0_i32 : BitVec 32 := 0#32
  let c1_i32 : BitVec 32 := 1#32
  let arg9 : BitVec 32 := Scf.iv c0_i32 c1_i32 k0_t1
  let c128_i32_1675 : BitVec 32 := 128#32
  let v5189 : BitVec 32 := Scalar.muli arg9 c128_i32_1675
  let v5190 : BitVec 32 := v5189
  let v5191 : Index := Scalar.indexCast v5190
  ![1488, v5191.toNat]
def k0_mult215 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1679 : BitVec 32 := 128#32
  let v5203 : BitVec 32 := Scalar.muli arg9 c128_i32_1679
  v5203
def k0_off319 (k0_t1 : Fin k0_t1_loop.trips) : Fin 2 → Nat :=
  let c1808 : Index := 1808#32
  let c0_i32 : BitVec 32 := 0#32
  let c1_i32 : BitVec 32 := 1#32
  let arg9 : BitVec 32 := Scf.iv c0_i32 c1_i32 k0_t1
  let c128_i32_1679 : BitVec 32 := 128#32
  let v5203 : BitVec 32 := Scalar.muli arg9 c128_i32_1679
  let v5204 : BitVec 32 := v5203
  let v5205 : Index := Scalar.indexCast v5204
  ![1808, v5205.toNat]
def k0_mult216 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1683 : BitVec 32 := 128#32
  let v5217 : BitVec 32 := Scalar.muli arg9 c128_i32_1683
  v5217
def k0_off320 (k0_t1 : Fin k0_t1_loop.trips) : Fin 2 → Nat :=
  let c2128 : Index := 2128#32
  let c0_i32 : BitVec 32 := 0#32
  let c1_i32 : BitVec 32 := 1#32
  let arg9 : BitVec 32 := Scf.iv c0_i32 c1_i32 k0_t1
  let c128_i32_1683 : BitVec 32 := 128#32
  let v5217 : BitVec 32 := Scalar.muli arg9 c128_i32_1683
  let v5218 : BitVec 32 := v5217
  let v5219 : Index := Scalar.indexCast v5218
  ![2128, v5219.toNat]
def k0_mult217 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1687 : BitVec 32 := 128#32
  let v5231 : BitVec 32 := Scalar.muli arg9 c128_i32_1687
  v5231
def k0_off321 (k0_t1 : Fin k0_t1_loop.trips) : Fin 2 → Nat :=
  let c2448 : Index := 2448#32
  let c0_i32 : BitVec 32 := 0#32
  let c1_i32 : BitVec 32 := 1#32
  let arg9 : BitVec 32 := Scf.iv c0_i32 c1_i32 k0_t1
  let c128_i32_1687 : BitVec 32 := 128#32
  let v5231 : BitVec 32 := Scalar.muli arg9 c128_i32_1687
  let v5232 : BitVec 32 := v5231
  let v5233 : Index := Scalar.indexCast v5232
  ![2448, v5233.toNat]
def k0_mult218 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1691 : BitVec 32 := 128#32
  let v5245 : BitVec 32 := Scalar.muli arg9 c128_i32_1691
  v5245
def k0_off322 (k0_t1 : Fin k0_t1_loop.trips) : Fin 2 → Nat :=
  let c2768 : Index := 2768#32
  let c0_i32 : BitVec 32 := 0#32
  let c1_i32 : BitVec 32 := 1#32
  let arg9 : BitVec 32 := Scf.iv c0_i32 c1_i32 k0_t1
  let c128_i32_1691 : BitVec 32 := 128#32
  let v5245 : BitVec 32 := Scalar.muli arg9 c128_i32_1691
  let v5246 : BitVec 32 := v5245
  let v5247 : Index := Scalar.indexCast v5246
  ![2768, v5247.toNat]
def k0_mult219 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1695 : BitVec 32 := 128#32
  let v5259 : BitVec 32 := Scalar.muli arg9 c128_i32_1695
  v5259
def k0_off323 (k0_t1 : Fin k0_t1_loop.trips) : Fin 2 → Nat :=
  let c3088 : Index := 3088#32
  let c0_i32 : BitVec 32 := 0#32
  let c1_i32 : BitVec 32 := 1#32
  let arg9 : BitVec 32 := Scf.iv c0_i32 c1_i32 k0_t1
  let c128_i32_1695 : BitVec 32 := 128#32
  let v5259 : BitVec 32 := Scalar.muli arg9 c128_i32_1695
  let v5260 : BitVec 32 := v5259
  let v5261 : Index := Scalar.indexCast v5260
  ![3088, v5261.toNat]
def k0_mult220 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1699 : BitVec 32 := 128#32
  let v5273 : BitVec 32 := Scalar.muli arg9 c128_i32_1699
  v5273
def k0_off324 (k0_t1 : Fin k0_t1_loop.trips) : Fin 2 → Nat :=
  let c3408 : Index := 3408#32
  let c0_i32 : BitVec 32 := 0#32
  let c1_i32 : BitVec 32 := 1#32
  let arg9 : BitVec 32 := Scf.iv c0_i32 c1_i32 k0_t1
  let c128_i32_1699 : BitVec 32 := 128#32
  let v5273 : BitVec 32 := Scalar.muli arg9 c128_i32_1699
  let v5274 : BitVec 32 := v5273
  let v5275 : Index := Scalar.indexCast v5274
  ![3408, v5275.toNat]
def k0_mult221 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1703 : BitVec 32 := 128#32
  let v5287 : BitVec 32 := Scalar.muli arg9 c128_i32_1703
  v5287
def k0_off325 (k0_t1 : Fin k0_t1_loop.trips) : Fin 2 → Nat :=
  let c3728 : Index := 3728#32
  let c0_i32 : BitVec 32 := 0#32
  let c1_i32 : BitVec 32 := 1#32
  let arg9 : BitVec 32 := Scf.iv c0_i32 c1_i32 k0_t1
  let c128_i32_1703 : BitVec 32 := 128#32
  let v5287 : BitVec 32 := Scalar.muli arg9 c128_i32_1703
  let v5288 : BitVec 32 := v5287
  let v5289 : Index := Scalar.indexCast v5288
  ![3728, v5289.toNat]
def k0_mult222 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1707 : BitVec 32 := 128#32
  let v5301 : BitVec 32 := Scalar.muli arg9 c128_i32_1707
  v5301
def k0_off326 (k0_t1 : Fin k0_t1_loop.trips) : Fin 2 → Nat :=
  let c4048 : Index := 4048#32
  let c0_i32 : BitVec 32 := 0#32
  let c1_i32 : BitVec 32 := 1#32
  let arg9 : BitVec 32 := Scf.iv c0_i32 c1_i32 k0_t1
  let c128_i32_1707 : BitVec 32 := 128#32
  let v5301 : BitVec 32 := Scalar.muli arg9 c128_i32_1707
  let v5302 : BitVec 32 := v5301
  let v5303 : Index := Scalar.indexCast v5302
  ![4048, v5303.toNat]
def k0_mult223 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1711 : BitVec 32 := 128#32
  let v5315 : BitVec 32 := Scalar.muli arg9 c128_i32_1711
  v5315
def k0_off327 (k0_t1 : Fin k0_t1_loop.trips) : Fin 2 → Nat :=
  let c4368 : Index := 4368#32
  let c0_i32 : BitVec 32 := 0#32
  let c1_i32 : BitVec 32 := 1#32
  let arg9 : BitVec 32 := Scf.iv c0_i32 c1_i32 k0_t1
  let c128_i32_1711 : BitVec 32 := 128#32
  let v5315 : BitVec 32 := Scalar.muli arg9 c128_i32_1711
  let v5316 : BitVec 32 := v5315
  let v5317 : Index := Scalar.indexCast v5316
  ![4368, v5317.toNat]
def k0_mult224 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1715 : BitVec 32 := 128#32
  let v5329 : BitVec 32 := Scalar.muli arg9 c128_i32_1715
  v5329
def k0_off328 (k0_t1 : Fin k0_t1_loop.trips) : Fin 2 → Nat :=
  let c4688 : Index := 4688#32
  let c0_i32 : BitVec 32 := 0#32
  let c1_i32 : BitVec 32 := 1#32
  let arg9 : BitVec 32 := Scf.iv c0_i32 c1_i32 k0_t1
  let c128_i32_1715 : BitVec 32 := 128#32
  let v5329 : BitVec 32 := Scalar.muli arg9 c128_i32_1715
  let v5330 : BitVec 32 := v5329
  let v5331 : Index := Scalar.indexCast v5330
  ![4688, v5331.toNat]
def k0_mult225 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1719 : BitVec 32 := 128#32
  let v5343 : BitVec 32 := Scalar.muli arg9 c128_i32_1719
  v5343
def k0_off329 (k0_t1 : Fin k0_t1_loop.trips) : Fin 2 → Nat :=
  let c5008 : Index := 5008#32
  let c0_i32 : BitVec 32 := 0#32
  let c1_i32 : BitVec 32 := 1#32
  let arg9 : BitVec 32 := Scf.iv c0_i32 c1_i32 k0_t1
  let c128_i32_1719 : BitVec 32 := 128#32
  let v5343 : BitVec 32 := Scalar.muli arg9 c128_i32_1719
  let v5344 : BitVec 32 := v5343
  let v5345 : Index := Scalar.indexCast v5344
  ![5008, v5345.toNat]
def k0_off330 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5349 : Index := Scalar.indexCast arg9
  let c554 : Index := 554#32
  let c0_1720 : Index := 0#32
  ![v5349.toNat, 554, 0]
def k0_off331 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5352 : Index := Scalar.indexCast arg9
  let c555 : Index := 555#32
  let c0_1721 : Index := 0#32
  ![v5352.toNat, 555, 0]
def k0_off332 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5355 : Index := Scalar.indexCast arg9
  let c556 : Index := 556#32
  let c0_1722 : Index := 0#32
  ![v5355.toNat, 556, 0]
def k0_off333 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5358 : Index := Scalar.indexCast arg9
  let c557 : Index := 557#32
  let c0_1723 : Index := 0#32
  ![v5358.toNat, 557, 0]
def k0_off334 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5385 : Index := Scalar.indexCast arg9
  let c112_1736 : Index := 112#32
  let c0_1737 : Index := 0#32
  ![v5385.toNat, 112, 0]
def k0_mult226 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1741 : BitVec 32 := 128#32
  let v5397 : BitVec 32 := Scalar.muli arg9 c128_i32_1741
  v5397
def k0_off335 (k0_t1 : Fin k0_t1_loop.trips) : Fin 2 → Nat :=
  let c224 : Index := 224#32
  let c0_i32 : BitVec 32 := 0#32
  let c1_i32 : BitVec 32 := 1#32
  let arg9 : BitVec 32 := Scf.iv c0_i32 c1_i32 k0_t1
  let c128_i32_1741 : BitVec 32 := 128#32
  let v5397 : BitVec 32 := Scalar.muli arg9 c128_i32_1741
  let v5398 : BitVec 32 := v5397
  let v5399 : Index := Scalar.indexCast v5398
  ![224, v5399.toNat]
def k0_mult227 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1745 : BitVec 32 := 128#32
  let v5411 : BitVec 32 := Scalar.muli arg9 c128_i32_1745
  v5411
def k0_off336 (k0_t1 : Fin k0_t1_loop.trips) : Fin 2 → Nat :=
  let c544 : Index := 544#32
  let c0_i32 : BitVec 32 := 0#32
  let c1_i32 : BitVec 32 := 1#32
  let arg9 : BitVec 32 := Scf.iv c0_i32 c1_i32 k0_t1
  let c128_i32_1745 : BitVec 32 := 128#32
  let v5411 : BitVec 32 := Scalar.muli arg9 c128_i32_1745
  let v5412 : BitVec 32 := v5411
  let v5413 : Index := Scalar.indexCast v5412
  ![544, v5413.toNat]
def k0_mult228 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1749 : BitVec 32 := 128#32
  let v5425 : BitVec 32 := Scalar.muli arg9 c128_i32_1749
  v5425
def k0_off337 (k0_t1 : Fin k0_t1_loop.trips) : Fin 2 → Nat :=
  let c864 : Index := 864#32
  let c0_i32 : BitVec 32 := 0#32
  let c1_i32 : BitVec 32 := 1#32
  let arg9 : BitVec 32 := Scf.iv c0_i32 c1_i32 k0_t1
  let c128_i32_1749 : BitVec 32 := 128#32
  let v5425 : BitVec 32 := Scalar.muli arg9 c128_i32_1749
  let v5426 : BitVec 32 := v5425
  let v5427 : Index := Scalar.indexCast v5426
  ![864, v5427.toNat]
def k0_mult229 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1753 : BitVec 32 := 128#32
  let v5439 : BitVec 32 := Scalar.muli arg9 c128_i32_1753
  v5439
def k0_off338 (k0_t1 : Fin k0_t1_loop.trips) : Fin 2 → Nat :=
  let c1184 : Index := 1184#32
  let c0_i32 : BitVec 32 := 0#32
  let c1_i32 : BitVec 32 := 1#32
  let arg9 : BitVec 32 := Scf.iv c0_i32 c1_i32 k0_t1
  let c128_i32_1753 : BitVec 32 := 128#32
  let v5439 : BitVec 32 := Scalar.muli arg9 c128_i32_1753
  let v5440 : BitVec 32 := v5439
  let v5441 : Index := Scalar.indexCast v5440
  ![1184, v5441.toNat]
def k0_mult230 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1757 : BitVec 32 := 128#32
  let v5453 : BitVec 32 := Scalar.muli arg9 c128_i32_1757
  v5453
def k0_off339 (k0_t1 : Fin k0_t1_loop.trips) : Fin 2 → Nat :=
  let c1504 : Index := 1504#32
  let c0_i32 : BitVec 32 := 0#32
  let c1_i32 : BitVec 32 := 1#32
  let arg9 : BitVec 32 := Scf.iv c0_i32 c1_i32 k0_t1
  let c128_i32_1757 : BitVec 32 := 128#32
  let v5453 : BitVec 32 := Scalar.muli arg9 c128_i32_1757
  let v5454 : BitVec 32 := v5453
  let v5455 : Index := Scalar.indexCast v5454
  ![1504, v5455.toNat]
def k0_mult231 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1761 : BitVec 32 := 128#32
  let v5467 : BitVec 32 := Scalar.muli arg9 c128_i32_1761
  v5467
def k0_off340 (k0_t1 : Fin k0_t1_loop.trips) : Fin 2 → Nat :=
  let c1824 : Index := 1824#32
  let c0_i32 : BitVec 32 := 0#32
  let c1_i32 : BitVec 32 := 1#32
  let arg9 : BitVec 32 := Scf.iv c0_i32 c1_i32 k0_t1
  let c128_i32_1761 : BitVec 32 := 128#32
  let v5467 : BitVec 32 := Scalar.muli arg9 c128_i32_1761
  let v5468 : BitVec 32 := v5467
  let v5469 : Index := Scalar.indexCast v5468
  ![1824, v5469.toNat]
def k0_mult232 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1765 : BitVec 32 := 128#32
  let v5481 : BitVec 32 := Scalar.muli arg9 c128_i32_1765
  v5481
def k0_off341 (k0_t1 : Fin k0_t1_loop.trips) : Fin 2 → Nat :=
  let c2144 : Index := 2144#32
  let c0_i32 : BitVec 32 := 0#32
  let c1_i32 : BitVec 32 := 1#32
  let arg9 : BitVec 32 := Scf.iv c0_i32 c1_i32 k0_t1
  let c128_i32_1765 : BitVec 32 := 128#32
  let v5481 : BitVec 32 := Scalar.muli arg9 c128_i32_1765
  let v5482 : BitVec 32 := v5481
  let v5483 : Index := Scalar.indexCast v5482
  ![2144, v5483.toNat]
def k0_mult233 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1769 : BitVec 32 := 128#32
  let v5495 : BitVec 32 := Scalar.muli arg9 c128_i32_1769
  v5495
def k0_off342 (k0_t1 : Fin k0_t1_loop.trips) : Fin 2 → Nat :=
  let c2464 : Index := 2464#32
  let c0_i32 : BitVec 32 := 0#32
  let c1_i32 : BitVec 32 := 1#32
  let arg9 : BitVec 32 := Scf.iv c0_i32 c1_i32 k0_t1
  let c128_i32_1769 : BitVec 32 := 128#32
  let v5495 : BitVec 32 := Scalar.muli arg9 c128_i32_1769
  let v5496 : BitVec 32 := v5495
  let v5497 : Index := Scalar.indexCast v5496
  ![2464, v5497.toNat]
def k0_mult234 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1773 : BitVec 32 := 128#32
  let v5509 : BitVec 32 := Scalar.muli arg9 c128_i32_1773
  v5509
def k0_off343 (k0_t1 : Fin k0_t1_loop.trips) : Fin 2 → Nat :=
  let c2784 : Index := 2784#32
  let c0_i32 : BitVec 32 := 0#32
  let c1_i32 : BitVec 32 := 1#32
  let arg9 : BitVec 32 := Scf.iv c0_i32 c1_i32 k0_t1
  let c128_i32_1773 : BitVec 32 := 128#32
  let v5509 : BitVec 32 := Scalar.muli arg9 c128_i32_1773
  let v5510 : BitVec 32 := v5509
  let v5511 : Index := Scalar.indexCast v5510
  ![2784, v5511.toNat]
def k0_mult235 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1777 : BitVec 32 := 128#32
  let v5523 : BitVec 32 := Scalar.muli arg9 c128_i32_1777
  v5523
def k0_off344 (k0_t1 : Fin k0_t1_loop.trips) : Fin 2 → Nat :=
  let c3104 : Index := 3104#32
  let c0_i32 : BitVec 32 := 0#32
  let c1_i32 : BitVec 32 := 1#32
  let arg9 : BitVec 32 := Scf.iv c0_i32 c1_i32 k0_t1
  let c128_i32_1777 : BitVec 32 := 128#32
  let v5523 : BitVec 32 := Scalar.muli arg9 c128_i32_1777
  let v5524 : BitVec 32 := v5523
  let v5525 : Index := Scalar.indexCast v5524
  ![3104, v5525.toNat]
def k0_mult236 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1781 : BitVec 32 := 128#32
  let v5537 : BitVec 32 := Scalar.muli arg9 c128_i32_1781
  v5537
def k0_off345 (k0_t1 : Fin k0_t1_loop.trips) : Fin 2 → Nat :=
  let c3424 : Index := 3424#32
  let c0_i32 : BitVec 32 := 0#32
  let c1_i32 : BitVec 32 := 1#32
  let arg9 : BitVec 32 := Scf.iv c0_i32 c1_i32 k0_t1
  let c128_i32_1781 : BitVec 32 := 128#32
  let v5537 : BitVec 32 := Scalar.muli arg9 c128_i32_1781
  let v5538 : BitVec 32 := v5537
  let v5539 : Index := Scalar.indexCast v5538
  ![3424, v5539.toNat]
def k0_mult237 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1785 : BitVec 32 := 128#32
  let v5551 : BitVec 32 := Scalar.muli arg9 c128_i32_1785
  v5551
def k0_off346 (k0_t1 : Fin k0_t1_loop.trips) : Fin 2 → Nat :=
  let c3744 : Index := 3744#32
  let c0_i32 : BitVec 32 := 0#32
  let c1_i32 : BitVec 32 := 1#32
  let arg9 : BitVec 32 := Scf.iv c0_i32 c1_i32 k0_t1
  let c128_i32_1785 : BitVec 32 := 128#32
  let v5551 : BitVec 32 := Scalar.muli arg9 c128_i32_1785
  let v5552 : BitVec 32 := v5551
  let v5553 : Index := Scalar.indexCast v5552
  ![3744, v5553.toNat]
def k0_mult238 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1789 : BitVec 32 := 128#32
  let v5565 : BitVec 32 := Scalar.muli arg9 c128_i32_1789
  v5565
def k0_off347 (k0_t1 : Fin k0_t1_loop.trips) : Fin 2 → Nat :=
  let c4064 : Index := 4064#32
  let c0_i32 : BitVec 32 := 0#32
  let c1_i32 : BitVec 32 := 1#32
  let arg9 : BitVec 32 := Scf.iv c0_i32 c1_i32 k0_t1
  let c128_i32_1789 : BitVec 32 := 128#32
  let v5565 : BitVec 32 := Scalar.muli arg9 c128_i32_1789
  let v5566 : BitVec 32 := v5565
  let v5567 : Index := Scalar.indexCast v5566
  ![4064, v5567.toNat]
def k0_mult239 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1793 : BitVec 32 := 128#32
  let v5579 : BitVec 32 := Scalar.muli arg9 c128_i32_1793
  v5579
def k0_off348 (k0_t1 : Fin k0_t1_loop.trips) : Fin 2 → Nat :=
  let c4384 : Index := 4384#32
  let c0_i32 : BitVec 32 := 0#32
  let c1_i32 : BitVec 32 := 1#32
  let arg9 : BitVec 32 := Scf.iv c0_i32 c1_i32 k0_t1
  let c128_i32_1793 : BitVec 32 := 128#32
  let v5579 : BitVec 32 := Scalar.muli arg9 c128_i32_1793
  let v5580 : BitVec 32 := v5579
  let v5581 : Index := Scalar.indexCast v5580
  ![4384, v5581.toNat]
def k0_mult240 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1797 : BitVec 32 := 128#32
  let v5593 : BitVec 32 := Scalar.muli arg9 c128_i32_1797
  v5593
def k0_off349 (k0_t1 : Fin k0_t1_loop.trips) : Fin 2 → Nat :=
  let c4704 : Index := 4704#32
  let c0_i32 : BitVec 32 := 0#32
  let c1_i32 : BitVec 32 := 1#32
  let arg9 : BitVec 32 := Scf.iv c0_i32 c1_i32 k0_t1
  let c128_i32_1797 : BitVec 32 := 128#32
  let v5593 : BitVec 32 := Scalar.muli arg9 c128_i32_1797
  let v5594 : BitVec 32 := v5593
  let v5595 : Index := Scalar.indexCast v5594
  ![4704, v5595.toNat]
def k0_mult241 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1801 : BitVec 32 := 128#32
  let v5607 : BitVec 32 := Scalar.muli arg9 c128_i32_1801
  v5607
def k0_off350 (k0_t1 : Fin k0_t1_loop.trips) : Fin 2 → Nat :=
  let c5024 : Index := 5024#32
  let c0_i32 : BitVec 32 := 0#32
  let c1_i32 : BitVec 32 := 1#32
  let arg9 : BitVec 32 := Scf.iv c0_i32 c1_i32 k0_t1
  let c128_i32_1801 : BitVec 32 := 128#32
  let v5607 : BitVec 32 := Scalar.muli arg9 c128_i32_1801
  let v5608 : BitVec 32 := v5607
  let v5609 : Index := Scalar.indexCast v5608
  ![5024, v5609.toNat]
def k0_off351 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5613 : Index := Scalar.indexCast arg9
  let c586 : Index := 586#32
  let c0_1802 : Index := 0#32
  ![v5613.toNat, 586, 0]
def k0_off352 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5616 : Index := Scalar.indexCast arg9
  let c587 : Index := 587#32
  let c0_1803 : Index := 0#32
  ![v5616.toNat, 587, 0]
def k0_off353 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5619 : Index := Scalar.indexCast arg9
  let c588 : Index := 588#32
  let c0_1804 : Index := 0#32
  ![v5619.toNat, 588, 0]
def k0_off354 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5622 : Index := Scalar.indexCast arg9
  let c589 : Index := 589#32
  let c0_1805 : Index := 0#32
  ![v5622.toNat, 589, 0]
def k0_off355 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5649 : Index := Scalar.indexCast arg9
  let c588_1818 : Index := 588#32
  let c0_1819 : Index := 0#32
  ![v5649.toNat, 588, 0]
def k0_off356 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5652 : Index := Scalar.indexCast arg9
  let c589_1820 : Index := 589#32
  let c0_1821 : Index := 0#32
  ![v5652.toNat, 589, 0]
def k0_off357 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5655 : Index := Scalar.indexCast arg9
  let c590 : Index := 590#32
  let c0_1822 : Index := 0#32
  ![v5655.toNat, 590, 0]
def k0_off358 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5717 : Index := Scalar.indexCast arg9
  let c120 : Index := 120#32
  let c0_1848 : Index := 0#32
  ![v5717.toNat, 120, 0]
def k0_mult242 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1856 : BitVec 32 := 128#32
  let v5743 : BitVec 32 := Scalar.muli arg9 c128_i32_1856
  v5743
def k0_off359 (k0_t1 : Fin k0_t1_loop.trips) : Fin 2 → Nat :=
  let c240 : Index := 240#32
  let c0_i32 : BitVec 32 := 0#32
  let c1_i32 : BitVec 32 := 1#32
  let arg9 : BitVec 32 := Scf.iv c0_i32 c1_i32 k0_t1
  let c128_i32_1856 : BitVec 32 := 128#32
  let v5743 : BitVec 32 := Scalar.muli arg9 c128_i32_1856
  let v5744 : BitVec 32 := v5743
  let v5745 : Index := Scalar.indexCast v5744
  ![240, v5745.toNat]
def k0_mult243 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1864 : BitVec 32 := 128#32
  let v5771 : BitVec 32 := Scalar.muli arg9 c128_i32_1864
  v5771
def k0_off360 (k0_t1 : Fin k0_t1_loop.trips) : Fin 2 → Nat :=
  let c560 : Index := 560#32
  let c0_i32 : BitVec 32 := 0#32
  let c1_i32 : BitVec 32 := 1#32
  let arg9 : BitVec 32 := Scf.iv c0_i32 c1_i32 k0_t1
  let c128_i32_1864 : BitVec 32 := 128#32
  let v5771 : BitVec 32 := Scalar.muli arg9 c128_i32_1864
  let v5772 : BitVec 32 := v5771
  let v5773 : Index := Scalar.indexCast v5772
  ![560, v5773.toNat]
def k0_mult244 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1872 : BitVec 32 := 128#32
  let v5799 : BitVec 32 := Scalar.muli arg9 c128_i32_1872
  v5799
def k0_off361 (k0_t1 : Fin k0_t1_loop.trips) : Fin 2 → Nat :=
  let c880 : Index := 880#32
  let c0_i32 : BitVec 32 := 0#32
  let c1_i32 : BitVec 32 := 1#32
  let arg9 : BitVec 32 := Scf.iv c0_i32 c1_i32 k0_t1
  let c128_i32_1872 : BitVec 32 := 128#32
  let v5799 : BitVec 32 := Scalar.muli arg9 c128_i32_1872
  let v5800 : BitVec 32 := v5799
  let v5801 : Index := Scalar.indexCast v5800
  ![880, v5801.toNat]
def k0_mult245 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1880 : BitVec 32 := 128#32
  let v5827 : BitVec 32 := Scalar.muli arg9 c128_i32_1880
  v5827
def k0_off362 (k0_t1 : Fin k0_t1_loop.trips) : Fin 2 → Nat :=
  let c1200 : Index := 1200#32
  let c0_i32 : BitVec 32 := 0#32
  let c1_i32 : BitVec 32 := 1#32
  let arg9 : BitVec 32 := Scf.iv c0_i32 c1_i32 k0_t1
  let c128_i32_1880 : BitVec 32 := 128#32
  let v5827 : BitVec 32 := Scalar.muli arg9 c128_i32_1880
  let v5828 : BitVec 32 := v5827
  let v5829 : Index := Scalar.indexCast v5828
  ![1200, v5829.toNat]
def k0_mult246 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1888 : BitVec 32 := 128#32
  let v5855 : BitVec 32 := Scalar.muli arg9 c128_i32_1888
  v5855
def k0_off363 (k0_t1 : Fin k0_t1_loop.trips) : Fin 2 → Nat :=
  let c1520 : Index := 1520#32
  let c0_i32 : BitVec 32 := 0#32
  let c1_i32 : BitVec 32 := 1#32
  let arg9 : BitVec 32 := Scf.iv c0_i32 c1_i32 k0_t1
  let c128_i32_1888 : BitVec 32 := 128#32
  let v5855 : BitVec 32 := Scalar.muli arg9 c128_i32_1888
  let v5856 : BitVec 32 := v5855
  let v5857 : Index := Scalar.indexCast v5856
  ![1520, v5857.toNat]
def k0_mult247 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1896 : BitVec 32 := 128#32
  let v5883 : BitVec 32 := Scalar.muli arg9 c128_i32_1896
  v5883
def k0_off364 (k0_t1 : Fin k0_t1_loop.trips) : Fin 2 → Nat :=
  let c1840 : Index := 1840#32
  let c0_i32 : BitVec 32 := 0#32
  let c1_i32 : BitVec 32 := 1#32
  let arg9 : BitVec 32 := Scf.iv c0_i32 c1_i32 k0_t1
  let c128_i32_1896 : BitVec 32 := 128#32
  let v5883 : BitVec 32 := Scalar.muli arg9 c128_i32_1896
  let v5884 : BitVec 32 := v5883
  let v5885 : Index := Scalar.indexCast v5884
  ![1840, v5885.toNat]
def k0_mult248 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1904 : BitVec 32 := 128#32
  let v5911 : BitVec 32 := Scalar.muli arg9 c128_i32_1904
  v5911
def k0_off365 (k0_t1 : Fin k0_t1_loop.trips) : Fin 2 → Nat :=
  let c2160 : Index := 2160#32
  let c0_i32 : BitVec 32 := 0#32
  let c1_i32 : BitVec 32 := 1#32
  let arg9 : BitVec 32 := Scf.iv c0_i32 c1_i32 k0_t1
  let c128_i32_1904 : BitVec 32 := 128#32
  let v5911 : BitVec 32 := Scalar.muli arg9 c128_i32_1904
  let v5912 : BitVec 32 := v5911
  let v5913 : Index := Scalar.indexCast v5912
  ![2160, v5913.toNat]
def k0_mult249 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1912 : BitVec 32 := 128#32
  let v5939 : BitVec 32 := Scalar.muli arg9 c128_i32_1912
  v5939
def k0_off366 (k0_t1 : Fin k0_t1_loop.trips) : Fin 2 → Nat :=
  let c2480 : Index := 2480#32
  let c0_i32 : BitVec 32 := 0#32
  let c1_i32 : BitVec 32 := 1#32
  let arg9 : BitVec 32 := Scf.iv c0_i32 c1_i32 k0_t1
  let c128_i32_1912 : BitVec 32 := 128#32
  let v5939 : BitVec 32 := Scalar.muli arg9 c128_i32_1912
  let v5940 : BitVec 32 := v5939
  let v5941 : Index := Scalar.indexCast v5940
  ![2480, v5941.toNat]
def k0_mult250 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1920 : BitVec 32 := 128#32
  let v5967 : BitVec 32 := Scalar.muli arg9 c128_i32_1920
  v5967
def k0_off367 (k0_t1 : Fin k0_t1_loop.trips) : Fin 2 → Nat :=
  let c2800 : Index := 2800#32
  let c0_i32 : BitVec 32 := 0#32
  let c1_i32 : BitVec 32 := 1#32
  let arg9 : BitVec 32 := Scf.iv c0_i32 c1_i32 k0_t1
  let c128_i32_1920 : BitVec 32 := 128#32
  let v5967 : BitVec 32 := Scalar.muli arg9 c128_i32_1920
  let v5968 : BitVec 32 := v5967
  let v5969 : Index := Scalar.indexCast v5968
  ![2800, v5969.toNat]
def k0_mult251 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1928 : BitVec 32 := 128#32
  let v5995 : BitVec 32 := Scalar.muli arg9 c128_i32_1928
  v5995
def k0_off368 (k0_t1 : Fin k0_t1_loop.trips) : Fin 2 → Nat :=
  let c3120 : Index := 3120#32
  let c0_i32 : BitVec 32 := 0#32
  let c1_i32 : BitVec 32 := 1#32
  let arg9 : BitVec 32 := Scf.iv c0_i32 c1_i32 k0_t1
  let c128_i32_1928 : BitVec 32 := 128#32
  let v5995 : BitVec 32 := Scalar.muli arg9 c128_i32_1928
  let v5996 : BitVec 32 := v5995
  let v5997 : Index := Scalar.indexCast v5996
  ![3120, v5997.toNat]
def k0_mult252 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1936 : BitVec 32 := 128#32
  let v6023 : BitVec 32 := Scalar.muli arg9 c128_i32_1936
  v6023
def k0_off369 (k0_t1 : Fin k0_t1_loop.trips) : Fin 2 → Nat :=
  let c3440 : Index := 3440#32
  let c0_i32 : BitVec 32 := 0#32
  let c1_i32 : BitVec 32 := 1#32
  let arg9 : BitVec 32 := Scf.iv c0_i32 c1_i32 k0_t1
  let c128_i32_1936 : BitVec 32 := 128#32
  let v6023 : BitVec 32 := Scalar.muli arg9 c128_i32_1936
  let v6024 : BitVec 32 := v6023
  let v6025 : Index := Scalar.indexCast v6024
  ![3440, v6025.toNat]
def k0_mult253 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1944 : BitVec 32 := 128#32
  let v6051 : BitVec 32 := Scalar.muli arg9 c128_i32_1944
  v6051
def k0_off370 (k0_t1 : Fin k0_t1_loop.trips) : Fin 2 → Nat :=
  let c3760 : Index := 3760#32
  let c0_i32 : BitVec 32 := 0#32
  let c1_i32 : BitVec 32 := 1#32
  let arg9 : BitVec 32 := Scf.iv c0_i32 c1_i32 k0_t1
  let c128_i32_1944 : BitVec 32 := 128#32
  let v6051 : BitVec 32 := Scalar.muli arg9 c128_i32_1944
  let v6052 : BitVec 32 := v6051
  let v6053 : Index := Scalar.indexCast v6052
  ![3760, v6053.toNat]
def k0_mult254 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1952 : BitVec 32 := 128#32
  let v6079 : BitVec 32 := Scalar.muli arg9 c128_i32_1952
  v6079
def k0_off371 (k0_t1 : Fin k0_t1_loop.trips) : Fin 2 → Nat :=
  let c4080 : Index := 4080#32
  let c0_i32 : BitVec 32 := 0#32
  let c1_i32 : BitVec 32 := 1#32
  let arg9 : BitVec 32 := Scf.iv c0_i32 c1_i32 k0_t1
  let c128_i32_1952 : BitVec 32 := 128#32
  let v6079 : BitVec 32 := Scalar.muli arg9 c128_i32_1952
  let v6080 : BitVec 32 := v6079
  let v6081 : Index := Scalar.indexCast v6080
  ![4080, v6081.toNat]
def k0_mult255 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1960 : BitVec 32 := 128#32
  let v6107 : BitVec 32 := Scalar.muli arg9 c128_i32_1960
  v6107
def k0_off372 (k0_t1 : Fin k0_t1_loop.trips) : Fin 2 → Nat :=
  let c4400 : Index := 4400#32
  let c0_i32 : BitVec 32 := 0#32
  let c1_i32 : BitVec 32 := 1#32
  let arg9 : BitVec 32 := Scf.iv c0_i32 c1_i32 k0_t1
  let c128_i32_1960 : BitVec 32 := 128#32
  let v6107 : BitVec 32 := Scalar.muli arg9 c128_i32_1960
  let v6108 : BitVec 32 := v6107
  let v6109 : Index := Scalar.indexCast v6108
  ![4400, v6109.toNat]
def k0_mult256 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1968 : BitVec 32 := 128#32
  let v6135 : BitVec 32 := Scalar.muli arg9 c128_i32_1968
  v6135
def k0_off373 (k0_t1 : Fin k0_t1_loop.trips) : Fin 2 → Nat :=
  let c4720 : Index := 4720#32
  let c0_i32 : BitVec 32 := 0#32
  let c1_i32 : BitVec 32 := 1#32
  let arg9 : BitVec 32 := Scf.iv c0_i32 c1_i32 k0_t1
  let c128_i32_1968 : BitVec 32 := 128#32
  let v6135 : BitVec 32 := Scalar.muli arg9 c128_i32_1968
  let v6136 : BitVec 32 := v6135
  let v6137 : Index := Scalar.indexCast v6136
  ![4720, v6137.toNat]
def k0_mult257 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1976 : BitVec 32 := 128#32
  let v6163 : BitVec 32 := Scalar.muli arg9 c128_i32_1976
  v6163
def k0_off374 (k0_t1 : Fin k0_t1_loop.trips) : Fin 2 → Nat :=
  let c5040 : Index := 5040#32
  let c0_i32 : BitVec 32 := 0#32
  let c1_i32 : BitVec 32 := 1#32
  let arg9 : BitVec 32 := Scf.iv c0_i32 c1_i32 k0_t1
  let c128_i32_1976 : BitVec 32 := 128#32
  let v6163 : BitVec 32 := Scalar.muli arg9 c128_i32_1976
  let v6164 : BitVec 32 := v6163
  let v6165 : Index := Scalar.indexCast v6164
  ![5040, v6165.toNat]
def k0_off375 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6169 : Index := Scalar.indexCast arg9
  let c612 : Index := 612#32
  let c0_1977 : Index := 0#32
  ![v6169.toNat, 612, 0]
def k0_off376 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6172 : Index := Scalar.indexCast arg9
  let c613 : Index := 613#32
  let c0_1978 : Index := 0#32
  ![v6172.toNat, 613, 0]
def k0_off377 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6175 : Index := Scalar.indexCast arg9
  let c614 : Index := 614#32
  let c0_1979 : Index := 0#32
  ![v6175.toNat, 614, 0]
def k0_off378 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6237 : Index := Scalar.indexCast arg9
  let c128_2007 : Index := 128#32
  let c0_2008 : Index := 0#32
  ![v6237.toNat, 128, 0]
def k0_mult258 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2012 : BitVec 32 := 128#32
  let v6249 : BitVec 32 := Scalar.muli arg9 c128_i32_2012
  v6249
def k0_off379 (k0_t1 : Fin k0_t1_loop.trips) : Fin 2 → Nat :=
  let c256 : Index := 256#32
  let c0_i32 : BitVec 32 := 0#32
  let c1_i32 : BitVec 32 := 1#32
  let arg9 : BitVec 32 := Scf.iv c0_i32 c1_i32 k0_t1
  let c128_i32_2012 : BitVec 32 := 128#32
  let v6249 : BitVec 32 := Scalar.muli arg9 c128_i32_2012
  let v6250 : BitVec 32 := v6249
  let v6251 : Index := Scalar.indexCast v6250
  ![256, v6251.toNat]
def k0_mult259 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2016 : BitVec 32 := 128#32
  let v6263 : BitVec 32 := Scalar.muli arg9 c128_i32_2016
  v6263
def k0_off380 (k0_t1 : Fin k0_t1_loop.trips) : Fin 2 → Nat :=
  let c576 : Index := 576#32
  let c0_i32 : BitVec 32 := 0#32
  let c1_i32 : BitVec 32 := 1#32
  let arg9 : BitVec 32 := Scf.iv c0_i32 c1_i32 k0_t1
  let c128_i32_2016 : BitVec 32 := 128#32
  let v6263 : BitVec 32 := Scalar.muli arg9 c128_i32_2016
  let v6264 : BitVec 32 := v6263
  let v6265 : Index := Scalar.indexCast v6264
  ![576, v6265.toNat]
def k0_mult260 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2020 : BitVec 32 := 128#32
  let v6277 : BitVec 32 := Scalar.muli arg9 c128_i32_2020
  v6277
def k0_off381 (k0_t1 : Fin k0_t1_loop.trips) : Fin 2 → Nat :=
  let c896 : Index := 896#32
  let c0_i32 : BitVec 32 := 0#32
  let c1_i32 : BitVec 32 := 1#32
  let arg9 : BitVec 32 := Scf.iv c0_i32 c1_i32 k0_t1
  let c128_i32_2020 : BitVec 32 := 128#32
  let v6277 : BitVec 32 := Scalar.muli arg9 c128_i32_2020
  let v6278 : BitVec 32 := v6277
  let v6279 : Index := Scalar.indexCast v6278
  ![896, v6279.toNat]
def k0_mult261 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2024 : BitVec 32 := 128#32
  let v6291 : BitVec 32 := Scalar.muli arg9 c128_i32_2024
  v6291
def k0_off382 (k0_t1 : Fin k0_t1_loop.trips) : Fin 2 → Nat :=
  let c1216 : Index := 1216#32
  let c0_i32 : BitVec 32 := 0#32
  let c1_i32 : BitVec 32 := 1#32
  let arg9 : BitVec 32 := Scf.iv c0_i32 c1_i32 k0_t1
  let c128_i32_2024 : BitVec 32 := 128#32
  let v6291 : BitVec 32 := Scalar.muli arg9 c128_i32_2024
  let v6292 : BitVec 32 := v6291
  let v6293 : Index := Scalar.indexCast v6292
  ![1216, v6293.toNat]
def k0_mult262 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2028 : BitVec 32 := 128#32
  let v6305 : BitVec 32 := Scalar.muli arg9 c128_i32_2028
  v6305
def k0_off383 (k0_t1 : Fin k0_t1_loop.trips) : Fin 2 → Nat :=
  let c1536 : Index := 1536#32
  let c0_i32 : BitVec 32 := 0#32
  let c1_i32 : BitVec 32 := 1#32
  let arg9 : BitVec 32 := Scf.iv c0_i32 c1_i32 k0_t1
  let c128_i32_2028 : BitVec 32 := 128#32
  let v6305 : BitVec 32 := Scalar.muli arg9 c128_i32_2028
  let v6306 : BitVec 32 := v6305
  let v6307 : Index := Scalar.indexCast v6306
  ![1536, v6307.toNat]
def k0_mult263 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2032 : BitVec 32 := 128#32
  let v6319 : BitVec 32 := Scalar.muli arg9 c128_i32_2032
  v6319
def k0_off384 (k0_t1 : Fin k0_t1_loop.trips) : Fin 2 → Nat :=
  let c1856 : Index := 1856#32
  let c0_i32 : BitVec 32 := 0#32
  let c1_i32 : BitVec 32 := 1#32
  let arg9 : BitVec 32 := Scf.iv c0_i32 c1_i32 k0_t1
  let c128_i32_2032 : BitVec 32 := 128#32
  let v6319 : BitVec 32 := Scalar.muli arg9 c128_i32_2032
  let v6320 : BitVec 32 := v6319
  let v6321 : Index := Scalar.indexCast v6320
  ![1856, v6321.toNat]
def k0_mult264 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2036 : BitVec 32 := 128#32
  let v6333 : BitVec 32 := Scalar.muli arg9 c128_i32_2036
  v6333
def k0_off385 (k0_t1 : Fin k0_t1_loop.trips) : Fin 2 → Nat :=
  let c2176 : Index := 2176#32
  let c0_i32 : BitVec 32 := 0#32
  let c1_i32 : BitVec 32 := 1#32
  let arg9 : BitVec 32 := Scf.iv c0_i32 c1_i32 k0_t1
  let c128_i32_2036 : BitVec 32 := 128#32
  let v6333 : BitVec 32 := Scalar.muli arg9 c128_i32_2036
  let v6334 : BitVec 32 := v6333
  let v6335 : Index := Scalar.indexCast v6334
  ![2176, v6335.toNat]
def k0_mult265 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2040 : BitVec 32 := 128#32
  let v6347 : BitVec 32 := Scalar.muli arg9 c128_i32_2040
  v6347
def k0_off386 (k0_t1 : Fin k0_t1_loop.trips) : Fin 2 → Nat :=
  let c2496 : Index := 2496#32
  let c0_i32 : BitVec 32 := 0#32
  let c1_i32 : BitVec 32 := 1#32
  let arg9 : BitVec 32 := Scf.iv c0_i32 c1_i32 k0_t1
  let c128_i32_2040 : BitVec 32 := 128#32
  let v6347 : BitVec 32 := Scalar.muli arg9 c128_i32_2040
  let v6348 : BitVec 32 := v6347
  let v6349 : Index := Scalar.indexCast v6348
  ![2496, v6349.toNat]
def k0_mult266 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2044 : BitVec 32 := 128#32
  let v6361 : BitVec 32 := Scalar.muli arg9 c128_i32_2044
  v6361
def k0_off387 (k0_t1 : Fin k0_t1_loop.trips) : Fin 2 → Nat :=
  let c2816 : Index := 2816#32
  let c0_i32 : BitVec 32 := 0#32
  let c1_i32 : BitVec 32 := 1#32
  let arg9 : BitVec 32 := Scf.iv c0_i32 c1_i32 k0_t1
  let c128_i32_2044 : BitVec 32 := 128#32
  let v6361 : BitVec 32 := Scalar.muli arg9 c128_i32_2044
  let v6362 : BitVec 32 := v6361
  let v6363 : Index := Scalar.indexCast v6362
  ![2816, v6363.toNat]
def k0_mult267 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2048 : BitVec 32 := 128#32
  let v6375 : BitVec 32 := Scalar.muli arg9 c128_i32_2048
  v6375
def k0_off388 (k0_t1 : Fin k0_t1_loop.trips) : Fin 2 → Nat :=
  let c3136 : Index := 3136#32
  let c0_i32 : BitVec 32 := 0#32
  let c1_i32 : BitVec 32 := 1#32
  let arg9 : BitVec 32 := Scf.iv c0_i32 c1_i32 k0_t1
  let c128_i32_2048 : BitVec 32 := 128#32
  let v6375 : BitVec 32 := Scalar.muli arg9 c128_i32_2048
  let v6376 : BitVec 32 := v6375
  let v6377 : Index := Scalar.indexCast v6376
  ![3136, v6377.toNat]
def k0_mult268 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2052 : BitVec 32 := 128#32
  let v6389 : BitVec 32 := Scalar.muli arg9 c128_i32_2052
  v6389
def k0_off389 (k0_t1 : Fin k0_t1_loop.trips) : Fin 2 → Nat :=
  let c3456 : Index := 3456#32
  let c0_i32 : BitVec 32 := 0#32
  let c1_i32 : BitVec 32 := 1#32
  let arg9 : BitVec 32 := Scf.iv c0_i32 c1_i32 k0_t1
  let c128_i32_2052 : BitVec 32 := 128#32
  let v6389 : BitVec 32 := Scalar.muli arg9 c128_i32_2052
  let v6390 : BitVec 32 := v6389
  let v6391 : Index := Scalar.indexCast v6390
  ![3456, v6391.toNat]
def k0_mult269 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2056 : BitVec 32 := 128#32
  let v6403 : BitVec 32 := Scalar.muli arg9 c128_i32_2056
  v6403
def k0_off390 (k0_t1 : Fin k0_t1_loop.trips) : Fin 2 → Nat :=
  let c3776 : Index := 3776#32
  let c0_i32 : BitVec 32 := 0#32
  let c1_i32 : BitVec 32 := 1#32
  let arg9 : BitVec 32 := Scf.iv c0_i32 c1_i32 k0_t1
  let c128_i32_2056 : BitVec 32 := 128#32
  let v6403 : BitVec 32 := Scalar.muli arg9 c128_i32_2056
  let v6404 : BitVec 32 := v6403
  let v6405 : Index := Scalar.indexCast v6404
  ![3776, v6405.toNat]
def k0_mult270 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2060 : BitVec 32 := 128#32
  let v6417 : BitVec 32 := Scalar.muli arg9 c128_i32_2060
  v6417
def k0_off391 (k0_t1 : Fin k0_t1_loop.trips) : Fin 2 → Nat :=
  let c4096 : Index := 4096#32
  let c0_i32 : BitVec 32 := 0#32
  let c1_i32 : BitVec 32 := 1#32
  let arg9 : BitVec 32 := Scf.iv c0_i32 c1_i32 k0_t1
  let c128_i32_2060 : BitVec 32 := 128#32
  let v6417 : BitVec 32 := Scalar.muli arg9 c128_i32_2060
  let v6418 : BitVec 32 := v6417
  let v6419 : Index := Scalar.indexCast v6418
  ![4096, v6419.toNat]
def k0_mult271 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2064 : BitVec 32 := 128#32
  let v6431 : BitVec 32 := Scalar.muli arg9 c128_i32_2064
  v6431
def k0_off392 (k0_t1 : Fin k0_t1_loop.trips) : Fin 2 → Nat :=
  let c4416 : Index := 4416#32
  let c0_i32 : BitVec 32 := 0#32
  let c1_i32 : BitVec 32 := 1#32
  let arg9 : BitVec 32 := Scf.iv c0_i32 c1_i32 k0_t1
  let c128_i32_2064 : BitVec 32 := 128#32
  let v6431 : BitVec 32 := Scalar.muli arg9 c128_i32_2064
  let v6432 : BitVec 32 := v6431
  let v6433 : Index := Scalar.indexCast v6432
  ![4416, v6433.toNat]
def k0_mult272 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2068 : BitVec 32 := 128#32
  let v6445 : BitVec 32 := Scalar.muli arg9 c128_i32_2068
  v6445
def k0_off393 (k0_t1 : Fin k0_t1_loop.trips) : Fin 2 → Nat :=
  let c4736 : Index := 4736#32
  let c0_i32 : BitVec 32 := 0#32
  let c1_i32 : BitVec 32 := 1#32
  let arg9 : BitVec 32 := Scf.iv c0_i32 c1_i32 k0_t1
  let c128_i32_2068 : BitVec 32 := 128#32
  let v6445 : BitVec 32 := Scalar.muli arg9 c128_i32_2068
  let v6446 : BitVec 32 := v6445
  let v6447 : Index := Scalar.indexCast v6446
  ![4736, v6447.toNat]
def k0_mult273 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2072 : BitVec 32 := 128#32
  let v6459 : BitVec 32 := Scalar.muli arg9 c128_i32_2072
  v6459
def k0_off394 (k0_t1 : Fin k0_t1_loop.trips) : Fin 2 → Nat :=
  let c5056 : Index := 5056#32
  let c0_i32 : BitVec 32 := 0#32
  let c1_i32 : BitVec 32 := 1#32
  let arg9 : BitVec 32 := Scf.iv c0_i32 c1_i32 k0_t1
  let c128_i32_2072 : BitVec 32 := 128#32
  let v6459 : BitVec 32 := Scalar.muli arg9 c128_i32_2072
  let v6460 : BitVec 32 := v6459
  let v6461 : Index := Scalar.indexCast v6460
  ![5056, v6461.toNat]
def k0_off395 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6465 : Index := Scalar.indexCast arg9
  let c636 : Index := 636#32
  let c0_2073 : Index := 0#32
  ![v6465.toNat, 636, 0]
def k0_off396 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6468 : Index := Scalar.indexCast arg9
  let c637 : Index := 637#32
  let c0_2074 : Index := 0#32
  ![v6468.toNat, 637, 0]
def k0_off397 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6471 : Index := Scalar.indexCast arg9
  let c638 : Index := 638#32
  let c0_2075 : Index := 0#32
  ![v6471.toNat, 638, 0]
def k0_off398 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6533 : Index := Scalar.indexCast arg9
  let c136 : Index := 136#32
  let c0_2103 : Index := 0#32
  ![v6533.toNat, 136, 0]
def k0_mult274 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2107 : BitVec 32 := 128#32
  let v6545 : BitVec 32 := Scalar.muli arg9 c128_i32_2107
  v6545
def k0_off399 (k0_t1 : Fin k0_t1_loop.trips) : Fin 2 → Nat :=
  let c272 : Index := 272#32
  let c0_i32 : BitVec 32 := 0#32
  let c1_i32 : BitVec 32 := 1#32
  let arg9 : BitVec 32 := Scf.iv c0_i32 c1_i32 k0_t1
  let c128_i32_2107 : BitVec 32 := 128#32
  let v6545 : BitVec 32 := Scalar.muli arg9 c128_i32_2107
  let v6546 : BitVec 32 := v6545
  let v6547 : Index := Scalar.indexCast v6546
  ![272, v6547.toNat]
def k0_mult275 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2111 : BitVec 32 := 128#32
  let v6559 : BitVec 32 := Scalar.muli arg9 c128_i32_2111
  v6559
def k0_off400 (k0_t1 : Fin k0_t1_loop.trips) : Fin 2 → Nat :=
  let c592 : Index := 592#32
  let c0_i32 : BitVec 32 := 0#32
  let c1_i32 : BitVec 32 := 1#32
  let arg9 : BitVec 32 := Scf.iv c0_i32 c1_i32 k0_t1
  let c128_i32_2111 : BitVec 32 := 128#32
  let v6559 : BitVec 32 := Scalar.muli arg9 c128_i32_2111
  let v6560 : BitVec 32 := v6559
  let v6561 : Index := Scalar.indexCast v6560
  ![592, v6561.toNat]
def k0_mult276 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2115 : BitVec 32 := 128#32
  let v6573 : BitVec 32 := Scalar.muli arg9 c128_i32_2115
  v6573
def k0_off401 (k0_t1 : Fin k0_t1_loop.trips) : Fin 2 → Nat :=
  let c912 : Index := 912#32
  let c0_i32 : BitVec 32 := 0#32
  let c1_i32 : BitVec 32 := 1#32
  let arg9 : BitVec 32 := Scf.iv c0_i32 c1_i32 k0_t1
  let c128_i32_2115 : BitVec 32 := 128#32
  let v6573 : BitVec 32 := Scalar.muli arg9 c128_i32_2115
  let v6574 : BitVec 32 := v6573
  let v6575 : Index := Scalar.indexCast v6574
  ![912, v6575.toNat]
def k0_mult277 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2119 : BitVec 32 := 128#32
  let v6587 : BitVec 32 := Scalar.muli arg9 c128_i32_2119
  v6587
def k0_off402 (k0_t1 : Fin k0_t1_loop.trips) : Fin 2 → Nat :=
  let c1232 : Index := 1232#32
  let c0_i32 : BitVec 32 := 0#32
  let c1_i32 : BitVec 32 := 1#32
  let arg9 : BitVec 32 := Scf.iv c0_i32 c1_i32 k0_t1
  let c128_i32_2119 : BitVec 32 := 128#32
  let v6587 : BitVec 32 := Scalar.muli arg9 c128_i32_2119
  let v6588 : BitVec 32 := v6587
  let v6589 : Index := Scalar.indexCast v6588
  ![1232, v6589.toNat]
def k0_mult278 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2123 : BitVec 32 := 128#32
  let v6601 : BitVec 32 := Scalar.muli arg9 c128_i32_2123
  v6601
def k0_off403 (k0_t1 : Fin k0_t1_loop.trips) : Fin 2 → Nat :=
  let c1552 : Index := 1552#32
  let c0_i32 : BitVec 32 := 0#32
  let c1_i32 : BitVec 32 := 1#32
  let arg9 : BitVec 32 := Scf.iv c0_i32 c1_i32 k0_t1
  let c128_i32_2123 : BitVec 32 := 128#32
  let v6601 : BitVec 32 := Scalar.muli arg9 c128_i32_2123
  let v6602 : BitVec 32 := v6601
  let v6603 : Index := Scalar.indexCast v6602
  ![1552, v6603.toNat]
def k0_mult279 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2127 : BitVec 32 := 128#32
  let v6615 : BitVec 32 := Scalar.muli arg9 c128_i32_2127
  v6615
def k0_off404 (k0_t1 : Fin k0_t1_loop.trips) : Fin 2 → Nat :=
  let c1872 : Index := 1872#32
  let c0_i32 : BitVec 32 := 0#32
  let c1_i32 : BitVec 32 := 1#32
  let arg9 : BitVec 32 := Scf.iv c0_i32 c1_i32 k0_t1
  let c128_i32_2127 : BitVec 32 := 128#32
  let v6615 : BitVec 32 := Scalar.muli arg9 c128_i32_2127
  let v6616 : BitVec 32 := v6615
  let v6617 : Index := Scalar.indexCast v6616
  ![1872, v6617.toNat]
def k0_mult280 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2131 : BitVec 32 := 128#32
  let v6629 : BitVec 32 := Scalar.muli arg9 c128_i32_2131
  v6629
def k0_off405 (k0_t1 : Fin k0_t1_loop.trips) : Fin 2 → Nat :=
  let c2192 : Index := 2192#32
  let c0_i32 : BitVec 32 := 0#32
  let c1_i32 : BitVec 32 := 1#32
  let arg9 : BitVec 32 := Scf.iv c0_i32 c1_i32 k0_t1
  let c128_i32_2131 : BitVec 32 := 128#32
  let v6629 : BitVec 32 := Scalar.muli arg9 c128_i32_2131
  let v6630 : BitVec 32 := v6629
  let v6631 : Index := Scalar.indexCast v6630
  ![2192, v6631.toNat]
def k0_mult281 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2135 : BitVec 32 := 128#32
  let v6643 : BitVec 32 := Scalar.muli arg9 c128_i32_2135
  v6643
def k0_off406 (k0_t1 : Fin k0_t1_loop.trips) : Fin 2 → Nat :=
  let c2512 : Index := 2512#32
  let c0_i32 : BitVec 32 := 0#32
  let c1_i32 : BitVec 32 := 1#32
  let arg9 : BitVec 32 := Scf.iv c0_i32 c1_i32 k0_t1
  let c128_i32_2135 : BitVec 32 := 128#32
  let v6643 : BitVec 32 := Scalar.muli arg9 c128_i32_2135
  let v6644 : BitVec 32 := v6643
  let v6645 : Index := Scalar.indexCast v6644
  ![2512, v6645.toNat]
def k0_mult282 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2139 : BitVec 32 := 128#32
  let v6657 : BitVec 32 := Scalar.muli arg9 c128_i32_2139
  v6657
def k0_off407 (k0_t1 : Fin k0_t1_loop.trips) : Fin 2 → Nat :=
  let c2832 : Index := 2832#32
  let c0_i32 : BitVec 32 := 0#32
  let c1_i32 : BitVec 32 := 1#32
  let arg9 : BitVec 32 := Scf.iv c0_i32 c1_i32 k0_t1
  let c128_i32_2139 : BitVec 32 := 128#32
  let v6657 : BitVec 32 := Scalar.muli arg9 c128_i32_2139
  let v6658 : BitVec 32 := v6657
  let v6659 : Index := Scalar.indexCast v6658
  ![2832, v6659.toNat]
def k0_mult283 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2143 : BitVec 32 := 128#32
  let v6671 : BitVec 32 := Scalar.muli arg9 c128_i32_2143
  v6671
def k0_off408 (k0_t1 : Fin k0_t1_loop.trips) : Fin 2 → Nat :=
  let c3152 : Index := 3152#32
  let c0_i32 : BitVec 32 := 0#32
  let c1_i32 : BitVec 32 := 1#32
  let arg9 : BitVec 32 := Scf.iv c0_i32 c1_i32 k0_t1
  let c128_i32_2143 : BitVec 32 := 128#32
  let v6671 : BitVec 32 := Scalar.muli arg9 c128_i32_2143
  let v6672 : BitVec 32 := v6671
  let v6673 : Index := Scalar.indexCast v6672
  ![3152, v6673.toNat]
def k0_mult284 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2147 : BitVec 32 := 128#32
  let v6685 : BitVec 32 := Scalar.muli arg9 c128_i32_2147
  v6685
def k0_off409 (k0_t1 : Fin k0_t1_loop.trips) : Fin 2 → Nat :=
  let c3472 : Index := 3472#32
  let c0_i32 : BitVec 32 := 0#32
  let c1_i32 : BitVec 32 := 1#32
  let arg9 : BitVec 32 := Scf.iv c0_i32 c1_i32 k0_t1
  let c128_i32_2147 : BitVec 32 := 128#32
  let v6685 : BitVec 32 := Scalar.muli arg9 c128_i32_2147
  let v6686 : BitVec 32 := v6685
  let v6687 : Index := Scalar.indexCast v6686
  ![3472, v6687.toNat]
def k0_mult285 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2151 : BitVec 32 := 128#32
  let v6699 : BitVec 32 := Scalar.muli arg9 c128_i32_2151
  v6699
def k0_off410 (k0_t1 : Fin k0_t1_loop.trips) : Fin 2 → Nat :=
  let c3792 : Index := 3792#32
  let c0_i32 : BitVec 32 := 0#32
  let c1_i32 : BitVec 32 := 1#32
  let arg9 : BitVec 32 := Scf.iv c0_i32 c1_i32 k0_t1
  let c128_i32_2151 : BitVec 32 := 128#32
  let v6699 : BitVec 32 := Scalar.muli arg9 c128_i32_2151
  let v6700 : BitVec 32 := v6699
  let v6701 : Index := Scalar.indexCast v6700
  ![3792, v6701.toNat]
def k0_mult286 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2155 : BitVec 32 := 128#32
  let v6713 : BitVec 32 := Scalar.muli arg9 c128_i32_2155
  v6713
def k0_off411 (k0_t1 : Fin k0_t1_loop.trips) : Fin 2 → Nat :=
  let c4112 : Index := 4112#32
  let c0_i32 : BitVec 32 := 0#32
  let c1_i32 : BitVec 32 := 1#32
  let arg9 : BitVec 32 := Scf.iv c0_i32 c1_i32 k0_t1
  let c128_i32_2155 : BitVec 32 := 128#32
  let v6713 : BitVec 32 := Scalar.muli arg9 c128_i32_2155
  let v6714 : BitVec 32 := v6713
  let v6715 : Index := Scalar.indexCast v6714
  ![4112, v6715.toNat]
def k0_mult287 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2159 : BitVec 32 := 128#32
  let v6727 : BitVec 32 := Scalar.muli arg9 c128_i32_2159
  v6727
def k0_off412 (k0_t1 : Fin k0_t1_loop.trips) : Fin 2 → Nat :=
  let c4432 : Index := 4432#32
  let c0_i32 : BitVec 32 := 0#32
  let c1_i32 : BitVec 32 := 1#32
  let arg9 : BitVec 32 := Scf.iv c0_i32 c1_i32 k0_t1
  let c128_i32_2159 : BitVec 32 := 128#32
  let v6727 : BitVec 32 := Scalar.muli arg9 c128_i32_2159
  let v6728 : BitVec 32 := v6727
  let v6729 : Index := Scalar.indexCast v6728
  ![4432, v6729.toNat]
def k0_mult288 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2163 : BitVec 32 := 128#32
  let v6741 : BitVec 32 := Scalar.muli arg9 c128_i32_2163
  v6741
def k0_off413 (k0_t1 : Fin k0_t1_loop.trips) : Fin 2 → Nat :=
  let c4752 : Index := 4752#32
  let c0_i32 : BitVec 32 := 0#32
  let c1_i32 : BitVec 32 := 1#32
  let arg9 : BitVec 32 := Scf.iv c0_i32 c1_i32 k0_t1
  let c128_i32_2163 : BitVec 32 := 128#32
  let v6741 : BitVec 32 := Scalar.muli arg9 c128_i32_2163
  let v6742 : BitVec 32 := v6741
  let v6743 : Index := Scalar.indexCast v6742
  ![4752, v6743.toNat]
def k0_mult289 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2167 : BitVec 32 := 128#32
  let v6755 : BitVec 32 := Scalar.muli arg9 c128_i32_2167
  v6755
def k0_off414 (k0_t1 : Fin k0_t1_loop.trips) : Fin 2 → Nat :=
  let c5072 : Index := 5072#32
  let c0_i32 : BitVec 32 := 0#32
  let c1_i32 : BitVec 32 := 1#32
  let arg9 : BitVec 32 := Scf.iv c0_i32 c1_i32 k0_t1
  let c128_i32_2167 : BitVec 32 := 128#32
  let v6755 : BitVec 32 := Scalar.muli arg9 c128_i32_2167
  let v6756 : BitVec 32 := v6755
  let v6757 : Index := Scalar.indexCast v6756
  ![5072, v6757.toNat]
def k0_off415 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6761 : Index := Scalar.indexCast arg9
  let c660 : Index := 660#32
  let c0_2168 : Index := 0#32
  ![v6761.toNat, 660, 0]
def k0_off416 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6764 : Index := Scalar.indexCast arg9
  let c661 : Index := 661#32
  let c0_2169 : Index := 0#32
  ![v6764.toNat, 661, 0]
def k0_off417 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6767 : Index := Scalar.indexCast arg9
  let c662 : Index := 662#32
  let c0_2170 : Index := 0#32
  ![v6767.toNat, 662, 0]
def k0_off418 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6829 : Index := Scalar.indexCast arg9
  let c666 : Index := 666#32
  let c0_2198 : Index := 0#32
  ![v6829.toNat, 666, 0]
def k0_off419 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6832 : Index := Scalar.indexCast arg9
  let c667 : Index := 667#32
  let c0_2199 : Index := 0#32
  ![v6832.toNat, 667, 0]
def k0_off420 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6863 : Index := Scalar.indexCast arg9
  let c144_2214 : Index := 144#32
  let c0_2215 : Index := 0#32
  ![v6863.toNat, 144, 0]
def k0_mult290 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2223 : BitVec 32 := 128#32
  let v6889 : BitVec 32 := Scalar.muli arg9 c128_i32_2223
  v6889
def k0_off421 (k0_t1 : Fin k0_t1_loop.trips) : Fin 2 → Nat :=
  let c288_2224 : Index := 288#32
  let c0_i32 : BitVec 32 := 0#32
  let c1_i32 : BitVec 32 := 1#32
  let arg9 : BitVec 32 := Scf.iv c0_i32 c1_i32 k0_t1
  let c128_i32_2223 : BitVec 32 := 128#32
  let v6889 : BitVec 32 := Scalar.muli arg9 c128_i32_2223
  let v6890 : BitVec 32 := v6889
  let v6891 : Index := Scalar.indexCast v6890
  ![288, v6891.toNat]
def k0_mult291 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2232 : BitVec 32 := 128#32
  let v6917 : BitVec 32 := Scalar.muli arg9 c128_i32_2232
  v6917
def k0_off422 (k0_t1 : Fin k0_t1_loop.trips) : Fin 2 → Nat :=
  let c608 : Index := 608#32
  let c0_i32 : BitVec 32 := 0#32
  let c1_i32 : BitVec 32 := 1#32
  let arg9 : BitVec 32 := Scf.iv c0_i32 c1_i32 k0_t1
  let c128_i32_2232 : BitVec 32 := 128#32
  let v6917 : BitVec 32 := Scalar.muli arg9 c128_i32_2232
  let v6918 : BitVec 32 := v6917
  let v6919 : Index := Scalar.indexCast v6918
  ![608, v6919.toNat]
def k0_mult292 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2240 : BitVec 32 := 128#32
  let v6945 : BitVec 32 := Scalar.muli arg9 c128_i32_2240
  v6945
def k0_off423 (k0_t1 : Fin k0_t1_loop.trips) : Fin 2 → Nat :=
  let c928 : Index := 928#32
  let c0_i32 : BitVec 32 := 0#32
  let c1_i32 : BitVec 32 := 1#32
  let arg9 : BitVec 32 := Scf.iv c0_i32 c1_i32 k0_t1
  let c128_i32_2240 : BitVec 32 := 128#32
  let v6945 : BitVec 32 := Scalar.muli arg9 c128_i32_2240
  let v6946 : BitVec 32 := v6945
  let v6947 : Index := Scalar.indexCast v6946
  ![928, v6947.toNat]
def k0_mult293 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2248 : BitVec 32 := 128#32
  let v6973 : BitVec 32 := Scalar.muli arg9 c128_i32_2248
  v6973
def k0_off424 (k0_t1 : Fin k0_t1_loop.trips) : Fin 2 → Nat :=
  let c1248 : Index := 1248#32
  let c0_i32 : BitVec 32 := 0#32
  let c1_i32 : BitVec 32 := 1#32
  let arg9 : BitVec 32 := Scf.iv c0_i32 c1_i32 k0_t1
  let c128_i32_2248 : BitVec 32 := 128#32
  let v6973 : BitVec 32 := Scalar.muli arg9 c128_i32_2248
  let v6974 : BitVec 32 := v6973
  let v6975 : Index := Scalar.indexCast v6974
  ![1248, v6975.toNat]
def k0_mult294 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2256 : BitVec 32 := 128#32
  let v7001 : BitVec 32 := Scalar.muli arg9 c128_i32_2256
  v7001
def k0_off425 (k0_t1 : Fin k0_t1_loop.trips) : Fin 2 → Nat :=
  let c1568 : Index := 1568#32
  let c0_i32 : BitVec 32 := 0#32
  let c1_i32 : BitVec 32 := 1#32
  let arg9 : BitVec 32 := Scf.iv c0_i32 c1_i32 k0_t1
  let c128_i32_2256 : BitVec 32 := 128#32
  let v7001 : BitVec 32 := Scalar.muli arg9 c128_i32_2256
  let v7002 : BitVec 32 := v7001
  let v7003 : Index := Scalar.indexCast v7002
  ![1568, v7003.toNat]
def k0_mult295 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2264 : BitVec 32 := 128#32
  let v7029 : BitVec 32 := Scalar.muli arg9 c128_i32_2264
  v7029
def k0_off426 (k0_t1 : Fin k0_t1_loop.trips) : Fin 2 → Nat :=
  let c1888 : Index := 1888#32
  let c0_i32 : BitVec 32 := 0#32
  let c1_i32 : BitVec 32 := 1#32
  let arg9 : BitVec 32 := Scf.iv c0_i32 c1_i32 k0_t1
  let c128_i32_2264 : BitVec 32 := 128#32
  let v7029 : BitVec 32 := Scalar.muli arg9 c128_i32_2264
  let v7030 : BitVec 32 := v7029
  let v7031 : Index := Scalar.indexCast v7030
  ![1888, v7031.toNat]
def k0_mult296 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2272 : BitVec 32 := 128#32
  let v7057 : BitVec 32 := Scalar.muli arg9 c128_i32_2272
  v7057
def k0_off427 (k0_t1 : Fin k0_t1_loop.trips) : Fin 2 → Nat :=
  let c2208 : Index := 2208#32
  let c0_i32 : BitVec 32 := 0#32
  let c1_i32 : BitVec 32 := 1#32
  let arg9 : BitVec 32 := Scf.iv c0_i32 c1_i32 k0_t1
  let c128_i32_2272 : BitVec 32 := 128#32
  let v7057 : BitVec 32 := Scalar.muli arg9 c128_i32_2272
  let v7058 : BitVec 32 := v7057
  let v7059 : Index := Scalar.indexCast v7058
  ![2208, v7059.toNat]
def k0_mult297 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2280 : BitVec 32 := 128#32
  let v7085 : BitVec 32 := Scalar.muli arg9 c128_i32_2280
  v7085
def k0_off428 (k0_t1 : Fin k0_t1_loop.trips) : Fin 2 → Nat :=
  let c2528 : Index := 2528#32
  let c0_i32 : BitVec 32 := 0#32
  let c1_i32 : BitVec 32 := 1#32
  let arg9 : BitVec 32 := Scf.iv c0_i32 c1_i32 k0_t1
  let c128_i32_2280 : BitVec 32 := 128#32
  let v7085 : BitVec 32 := Scalar.muli arg9 c128_i32_2280
  let v7086 : BitVec 32 := v7085
  let v7087 : Index := Scalar.indexCast v7086
  ![2528, v7087.toNat]
def k0_mult298 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2288 : BitVec 32 := 128#32
  let v7113 : BitVec 32 := Scalar.muli arg9 c128_i32_2288
  v7113
def k0_off429 (k0_t1 : Fin k0_t1_loop.trips) : Fin 2 → Nat :=
  let c2848 : Index := 2848#32
  let c0_i32 : BitVec 32 := 0#32
  let c1_i32 : BitVec 32 := 1#32
  let arg9 : BitVec 32 := Scf.iv c0_i32 c1_i32 k0_t1
  let c128_i32_2288 : BitVec 32 := 128#32
  let v7113 : BitVec 32 := Scalar.muli arg9 c128_i32_2288
  let v7114 : BitVec 32 := v7113
  let v7115 : Index := Scalar.indexCast v7114
  ![2848, v7115.toNat]
def k0_mult299 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2296 : BitVec 32 := 128#32
  let v7141 : BitVec 32 := Scalar.muli arg9 c128_i32_2296
  v7141
def k0_off430 (k0_t1 : Fin k0_t1_loop.trips) : Fin 2 → Nat :=
  let c3168 : Index := 3168#32
  let c0_i32 : BitVec 32 := 0#32
  let c1_i32 : BitVec 32 := 1#32
  let arg9 : BitVec 32 := Scf.iv c0_i32 c1_i32 k0_t1
  let c128_i32_2296 : BitVec 32 := 128#32
  let v7141 : BitVec 32 := Scalar.muli arg9 c128_i32_2296
  let v7142 : BitVec 32 := v7141
  let v7143 : Index := Scalar.indexCast v7142
  ![3168, v7143.toNat]
def k0_mult300 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2304 : BitVec 32 := 128#32
  let v7169 : BitVec 32 := Scalar.muli arg9 c128_i32_2304
  v7169
def k0_off431 (k0_t1 : Fin k0_t1_loop.trips) : Fin 2 → Nat :=
  let c3488 : Index := 3488#32
  let c0_i32 : BitVec 32 := 0#32
  let c1_i32 : BitVec 32 := 1#32
  let arg9 : BitVec 32 := Scf.iv c0_i32 c1_i32 k0_t1
  let c128_i32_2304 : BitVec 32 := 128#32
  let v7169 : BitVec 32 := Scalar.muli arg9 c128_i32_2304
  let v7170 : BitVec 32 := v7169
  let v7171 : Index := Scalar.indexCast v7170
  ![3488, v7171.toNat]
def k0_mult301 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2312 : BitVec 32 := 128#32
  let v7197 : BitVec 32 := Scalar.muli arg9 c128_i32_2312
  v7197
def k0_off432 (k0_t1 : Fin k0_t1_loop.trips) : Fin 2 → Nat :=
  let c3808 : Index := 3808#32
  let c0_i32 : BitVec 32 := 0#32
  let c1_i32 : BitVec 32 := 1#32
  let arg9 : BitVec 32 := Scf.iv c0_i32 c1_i32 k0_t1
  let c128_i32_2312 : BitVec 32 := 128#32
  let v7197 : BitVec 32 := Scalar.muli arg9 c128_i32_2312
  let v7198 : BitVec 32 := v7197
  let v7199 : Index := Scalar.indexCast v7198
  ![3808, v7199.toNat]
def k0_mult302 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2320 : BitVec 32 := 128#32
  let v7225 : BitVec 32 := Scalar.muli arg9 c128_i32_2320
  v7225
def k0_off433 (k0_t1 : Fin k0_t1_loop.trips) : Fin 2 → Nat :=
  let c4128 : Index := 4128#32
  let c0_i32 : BitVec 32 := 0#32
  let c1_i32 : BitVec 32 := 1#32
  let arg9 : BitVec 32 := Scf.iv c0_i32 c1_i32 k0_t1
  let c128_i32_2320 : BitVec 32 := 128#32
  let v7225 : BitVec 32 := Scalar.muli arg9 c128_i32_2320
  let v7226 : BitVec 32 := v7225
  let v7227 : Index := Scalar.indexCast v7226
  ![4128, v7227.toNat]
def k0_mult303 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2328 : BitVec 32 := 128#32
  let v7253 : BitVec 32 := Scalar.muli arg9 c128_i32_2328
  v7253
def k0_off434 (k0_t1 : Fin k0_t1_loop.trips) : Fin 2 → Nat :=
  let c4448 : Index := 4448#32
  let c0_i32 : BitVec 32 := 0#32
  let c1_i32 : BitVec 32 := 1#32
  let arg9 : BitVec 32 := Scf.iv c0_i32 c1_i32 k0_t1
  let c128_i32_2328 : BitVec 32 := 128#32
  let v7253 : BitVec 32 := Scalar.muli arg9 c128_i32_2328
  let v7254 : BitVec 32 := v7253
  let v7255 : Index := Scalar.indexCast v7254
  ![4448, v7255.toNat]
def k0_mult304 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2336 : BitVec 32 := 128#32
  let v7281 : BitVec 32 := Scalar.muli arg9 c128_i32_2336
  v7281
def k0_off435 (k0_t1 : Fin k0_t1_loop.trips) : Fin 2 → Nat :=
  let c4768 : Index := 4768#32
  let c0_i32 : BitVec 32 := 0#32
  let c1_i32 : BitVec 32 := 1#32
  let arg9 : BitVec 32 := Scf.iv c0_i32 c1_i32 k0_t1
  let c128_i32_2336 : BitVec 32 := 128#32
  let v7281 : BitVec 32 := Scalar.muli arg9 c128_i32_2336
  let v7282 : BitVec 32 := v7281
  let v7283 : Index := Scalar.indexCast v7282
  ![4768, v7283.toNat]
def k0_mult305 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2344 : BitVec 32 := 128#32
  let v7309 : BitVec 32 := Scalar.muli arg9 c128_i32_2344
  v7309
def k0_off436 (k0_t1 : Fin k0_t1_loop.trips) : Fin 2 → Nat :=
  let c5088 : Index := 5088#32
  let c0_i32 : BitVec 32 := 0#32
  let c1_i32 : BitVec 32 := 1#32
  let arg9 : BitVec 32 := Scf.iv c0_i32 c1_i32 k0_t1
  let c128_i32_2344 : BitVec 32 := 128#32
  let v7309 : BitVec 32 := Scalar.muli arg9 c128_i32_2344
  let v7310 : BitVec 32 := v7309
  let v7311 : Index := Scalar.indexCast v7310
  ![5088, v7311.toNat]
def k0_off437 (k0_t1 : Fin k0_t1_loop.trips) : Fin 3 → Nat :=
  let c0_i32 : BitVec 32 := 0#32
  let c1_i32 : BitVec 32 := 1#32
  let arg9 : BitVec 32 := Scf.iv c0_i32 c1_i32 k0_t1
  let v7315 : Index := Scalar.indexCast arg9
  let c682 : Index := 682#32
  let c0_2345 : Index := 0#32
  ![v7315.toNat, 682, 0]
def k0_off438 (k0_t1 : Fin k0_t1_loop.trips) : Fin 3 → Nat :=
  let c0_i32 : BitVec 32 := 0#32
  let c1_i32 : BitVec 32 := 1#32
  let arg9 : BitVec 32 := Scf.iv c0_i32 c1_i32 k0_t1
  let v7318 : Index := Scalar.indexCast arg9
  let c683 : Index := 683#32
  let c0_2346 : Index := 0#32
  ![v7318.toNat, 683, 0]
def k0_off439 (k0_t1 : Fin k0_t1_loop.trips) : Fin 3 → Nat :=
  let c0_i32 : BitVec 32 := 0#32
  let c1_i32 : BitVec 32 := 1#32
  let arg9 : BitVec 32 := Scf.iv c0_i32 c1_i32 k0_t1
  let v7349 : Index := Scalar.indexCast arg9
  let c152 : Index := 152#32
  let c0_2361 : Index := 0#32
  ![v7349.toNat, 152, 0]
def k0_mult306 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2365 : BitVec 32 := 128#32
  let v7361 : BitVec 32 := Scalar.muli arg9 c128_i32_2365
  v7361
def k0_off440 (k0_t1 : Fin k0_t1_loop.trips) : Fin 2 → Nat :=
  let c304 : Index := 304#32
  let c0_i32 : BitVec 32 := 0#32
  let c1_i32 : BitVec 32 := 1#32
  let arg9 : BitVec 32 := Scf.iv c0_i32 c1_i32 k0_t1
  let c128_i32_2365 : BitVec 32 := 128#32
  let v7361 : BitVec 32 := Scalar.muli arg9 c128_i32_2365
  let v7362 : BitVec 32 := v7361
  let v7363 : Index := Scalar.indexCast v7362
  ![304, v7363.toNat]
def k0_mult307 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2369 : BitVec 32 := 128#32
  let v7375 : BitVec 32 := Scalar.muli arg9 c128_i32_2369
  v7375
def k0_off441 (k0_t1 : Fin k0_t1_loop.trips) : Fin 2 → Nat :=
  let c624 : Index := 624#32
  let c0_i32 : BitVec 32 := 0#32
  let c1_i32 : BitVec 32 := 1#32
  let arg9 : BitVec 32 := Scf.iv c0_i32 c1_i32 k0_t1
  let c128_i32_2369 : BitVec 32 := 128#32
  let v7375 : BitVec 32 := Scalar.muli arg9 c128_i32_2369
  let v7376 : BitVec 32 := v7375
  let v7377 : Index := Scalar.indexCast v7376
  ![624, v7377.toNat]
def k0_mult308 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2373 : BitVec 32 := 128#32
  let v7389 : BitVec 32 := Scalar.muli arg9 c128_i32_2373
  v7389
def k0_off442 (k0_t1 : Fin k0_t1_loop.trips) : Fin 2 → Nat :=
  let c944 : Index := 944#32
  let c0_i32 : BitVec 32 := 0#32
  let c1_i32 : BitVec 32 := 1#32
  let arg9 : BitVec 32 := Scf.iv c0_i32 c1_i32 k0_t1
  let c128_i32_2373 : BitVec 32 := 128#32
  let v7389 : BitVec 32 := Scalar.muli arg9 c128_i32_2373
  let v7390 : BitVec 32 := v7389
  let v7391 : Index := Scalar.indexCast v7390
  ![944, v7391.toNat]
def k0_mult309 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2377 : BitVec 32 := 128#32
  let v7403 : BitVec 32 := Scalar.muli arg9 c128_i32_2377
  v7403
def k0_off443 (k0_t1 : Fin k0_t1_loop.trips) : Fin 2 → Nat :=
  let c1264 : Index := 1264#32
  let c0_i32 : BitVec 32 := 0#32
  let c1_i32 : BitVec 32 := 1#32
  let arg9 : BitVec 32 := Scf.iv c0_i32 c1_i32 k0_t1
  let c128_i32_2377 : BitVec 32 := 128#32
  let v7403 : BitVec 32 := Scalar.muli arg9 c128_i32_2377
  let v7404 : BitVec 32 := v7403
  let v7405 : Index := Scalar.indexCast v7404
  ![1264, v7405.toNat]
def k0_mult310 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2381 : BitVec 32 := 128#32
  let v7417 : BitVec 32 := Scalar.muli arg9 c128_i32_2381
  v7417
def k0_off444 (k0_t1 : Fin k0_t1_loop.trips) : Fin 2 → Nat :=
  let c1584 : Index := 1584#32
  let c0_i32 : BitVec 32 := 0#32
  let c1_i32 : BitVec 32 := 1#32
  let arg9 : BitVec 32 := Scf.iv c0_i32 c1_i32 k0_t1
  let c128_i32_2381 : BitVec 32 := 128#32
  let v7417 : BitVec 32 := Scalar.muli arg9 c128_i32_2381
  let v7418 : BitVec 32 := v7417
  let v7419 : Index := Scalar.indexCast v7418
  ![1584, v7419.toNat]
def k0_mult311 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2385 : BitVec 32 := 128#32
  let v7431 : BitVec 32 := Scalar.muli arg9 c128_i32_2385
  v7431
def k0_off445 (k0_t1 : Fin k0_t1_loop.trips) : Fin 2 → Nat :=
  let c1904 : Index := 1904#32
  let c0_i32 : BitVec 32 := 0#32
  let c1_i32 : BitVec 32 := 1#32
  let arg9 : BitVec 32 := Scf.iv c0_i32 c1_i32 k0_t1
  let c128_i32_2385 : BitVec 32 := 128#32
  let v7431 : BitVec 32 := Scalar.muli arg9 c128_i32_2385
  let v7432 : BitVec 32 := v7431
  let v7433 : Index := Scalar.indexCast v7432
  ![1904, v7433.toNat]
def k0_mult312 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2389 : BitVec 32 := 128#32
  let v7445 : BitVec 32 := Scalar.muli arg9 c128_i32_2389
  v7445
def k0_off446 (k0_t1 : Fin k0_t1_loop.trips) : Fin 2 → Nat :=
  let c2224 : Index := 2224#32
  let c0_i32 : BitVec 32 := 0#32
  let c1_i32 : BitVec 32 := 1#32
  let arg9 : BitVec 32 := Scf.iv c0_i32 c1_i32 k0_t1
  let c128_i32_2389 : BitVec 32 := 128#32
  let v7445 : BitVec 32 := Scalar.muli arg9 c128_i32_2389
  let v7446 : BitVec 32 := v7445
  let v7447 : Index := Scalar.indexCast v7446
  ![2224, v7447.toNat]
def k0_mult313 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2393 : BitVec 32 := 128#32
  let v7459 : BitVec 32 := Scalar.muli arg9 c128_i32_2393
  v7459
def k0_off447 (k0_t1 : Fin k0_t1_loop.trips) : Fin 2 → Nat :=
  let c2544 : Index := 2544#32
  let c0_i32 : BitVec 32 := 0#32
  let c1_i32 : BitVec 32 := 1#32
  let arg9 : BitVec 32 := Scf.iv c0_i32 c1_i32 k0_t1
  let c128_i32_2393 : BitVec 32 := 128#32
  let v7459 : BitVec 32 := Scalar.muli arg9 c128_i32_2393
  let v7460 : BitVec 32 := v7459
  let v7461 : Index := Scalar.indexCast v7460
  ![2544, v7461.toNat]
def k0_mult314 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2397 : BitVec 32 := 128#32
  let v7473 : BitVec 32 := Scalar.muli arg9 c128_i32_2397
  v7473
def k0_off448 (k0_t1 : Fin k0_t1_loop.trips) : Fin 2 → Nat :=
  let c2864 : Index := 2864#32
  let c0_i32 : BitVec 32 := 0#32
  let c1_i32 : BitVec 32 := 1#32
  let arg9 : BitVec 32 := Scf.iv c0_i32 c1_i32 k0_t1
  let c128_i32_2397 : BitVec 32 := 128#32
  let v7473 : BitVec 32 := Scalar.muli arg9 c128_i32_2397
  let v7474 : BitVec 32 := v7473
  let v7475 : Index := Scalar.indexCast v7474
  ![2864, v7475.toNat]
def k0_mult315 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2401 : BitVec 32 := 128#32
  let v7487 : BitVec 32 := Scalar.muli arg9 c128_i32_2401
  v7487
def k0_off449 (k0_t1 : Fin k0_t1_loop.trips) : Fin 2 → Nat :=
  let c3184 : Index := 3184#32
  let c0_i32 : BitVec 32 := 0#32
  let c1_i32 : BitVec 32 := 1#32
  let arg9 : BitVec 32 := Scf.iv c0_i32 c1_i32 k0_t1
  let c128_i32_2401 : BitVec 32 := 128#32
  let v7487 : BitVec 32 := Scalar.muli arg9 c128_i32_2401
  let v7488 : BitVec 32 := v7487
  let v7489 : Index := Scalar.indexCast v7488
  ![3184, v7489.toNat]
def k0_mult316 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2405 : BitVec 32 := 128#32
  let v7501 : BitVec 32 := Scalar.muli arg9 c128_i32_2405
  v7501
def k0_off450 (k0_t1 : Fin k0_t1_loop.trips) : Fin 2 → Nat :=
  let c3504 : Index := 3504#32
  let c0_i32 : BitVec 32 := 0#32
  let c1_i32 : BitVec 32 := 1#32
  let arg9 : BitVec 32 := Scf.iv c0_i32 c1_i32 k0_t1
  let c128_i32_2405 : BitVec 32 := 128#32
  let v7501 : BitVec 32 := Scalar.muli arg9 c128_i32_2405
  let v7502 : BitVec 32 := v7501
  let v7503 : Index := Scalar.indexCast v7502
  ![3504, v7503.toNat]
def k0_mult317 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2409 : BitVec 32 := 128#32
  let v7515 : BitVec 32 := Scalar.muli arg9 c128_i32_2409
  v7515
def k0_off451 (k0_t1 : Fin k0_t1_loop.trips) : Fin 2 → Nat :=
  let c3824 : Index := 3824#32
  let c0_i32 : BitVec 32 := 0#32
  let c1_i32 : BitVec 32 := 1#32
  let arg9 : BitVec 32 := Scf.iv c0_i32 c1_i32 k0_t1
  let c128_i32_2409 : BitVec 32 := 128#32
  let v7515 : BitVec 32 := Scalar.muli arg9 c128_i32_2409
  let v7516 : BitVec 32 := v7515
  let v7517 : Index := Scalar.indexCast v7516
  ![3824, v7517.toNat]
def k0_mult318 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2413 : BitVec 32 := 128#32
  let v7529 : BitVec 32 := Scalar.muli arg9 c128_i32_2413
  v7529
def k0_off452 (k0_t1 : Fin k0_t1_loop.trips) : Fin 2 → Nat :=
  let c4144 : Index := 4144#32
  let c0_i32 : BitVec 32 := 0#32
  let c1_i32 : BitVec 32 := 1#32
  let arg9 : BitVec 32 := Scf.iv c0_i32 c1_i32 k0_t1
  let c128_i32_2413 : BitVec 32 := 128#32
  let v7529 : BitVec 32 := Scalar.muli arg9 c128_i32_2413
  let v7530 : BitVec 32 := v7529
  let v7531 : Index := Scalar.indexCast v7530
  ![4144, v7531.toNat]
def k0_mult319 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2417 : BitVec 32 := 128#32
  let v7543 : BitVec 32 := Scalar.muli arg9 c128_i32_2417
  v7543
def k0_off453 (k0_t1 : Fin k0_t1_loop.trips) : Fin 2 → Nat :=
  let c4464 : Index := 4464#32
  let c0_i32 : BitVec 32 := 0#32
  let c1_i32 : BitVec 32 := 1#32
  let arg9 : BitVec 32 := Scf.iv c0_i32 c1_i32 k0_t1
  let c128_i32_2417 : BitVec 32 := 128#32
  let v7543 : BitVec 32 := Scalar.muli arg9 c128_i32_2417
  let v7544 : BitVec 32 := v7543
  let v7545 : Index := Scalar.indexCast v7544
  ![4464, v7545.toNat]
def k0_mult320 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2421 : BitVec 32 := 128#32
  let v7557 : BitVec 32 := Scalar.muli arg9 c128_i32_2421
  v7557
def k0_off454 (k0_t1 : Fin k0_t1_loop.trips) : Fin 2 → Nat :=
  let c4784 : Index := 4784#32
  let c0_i32 : BitVec 32 := 0#32
  let c1_i32 : BitVec 32 := 1#32
  let arg9 : BitVec 32 := Scf.iv c0_i32 c1_i32 k0_t1
  let c128_i32_2421 : BitVec 32 := 128#32
  let v7557 : BitVec 32 := Scalar.muli arg9 c128_i32_2421
  let v7558 : BitVec 32 := v7557
  let v7559 : Index := Scalar.indexCast v7558
  ![4784, v7559.toNat]
def k0_mult321 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2425 : BitVec 32 := 128#32
  let v7571 : BitVec 32 := Scalar.muli arg9 c128_i32_2425
  v7571
def k0_off455 (k0_t1 : Fin k0_t1_loop.trips) : Fin 2 → Nat :=
  let c5104 : Index := 5104#32
  let c0_i32 : BitVec 32 := 0#32
  let c1_i32 : BitVec 32 := 1#32
  let arg9 : BitVec 32 := Scf.iv c0_i32 c1_i32 k0_t1
  let c128_i32_2425 : BitVec 32 := 128#32
  let v7571 : BitVec 32 := Scalar.muli arg9 c128_i32_2425
  let v7572 : BitVec 32 := v7571
  let v7573 : Index := Scalar.indexCast v7572
  ![5104, v7573.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S698x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
abbrev S24x256x5120 : Shape := ⟨3, ![24, 256, 5120]⟩
abbrev S5120 : Shape := ⟨1, ![5120]⟩
abbrev S27648x698 : Shape := ⟨2, ![27648, 698]⟩
abbrev S27648x160 : Shape := ⟨2, ![27648, 160]⟩
abbrev S_ : Shape := ⟨0, ![]⟩
abbrev S5120x1 : Shape := ⟨2, ![5120, 1]⟩
abbrev S1 : Shape := ⟨1, ![1]⟩
abbrev S1x1 : Shape := ⟨2, ![1, 1]⟩
abbrev S24x256x288 : Shape := ⟨3, ![24, 256, 288]⟩
abbrev S6144x9x8x2x2 : Shape := ⟨5, ![6144, 9, 8, 2, 2]⟩
abbrev S6144x8x2x9x2 : Shape := ⟨5, ![6144, 8, 2, 9, 2]⟩
abbrev S6144x16x9x2 : Shape := ⟨4, ![6144, 16, 9, 2]⟩
abbrev S24x256x576 : Shape := ⟨3, ![24, 256, 576]⟩
abbrev S6144x18x2x2x8 : Shape := ⟨5, ![6144, 18, 2, 2, 8]⟩
abbrev S6144x2x8x18x2 : Shape := ⟨5, ![6144, 2, 8, 18, 2]⟩
abbrev S6144x16x18x2 : Shape := ⟨4, ![6144, 16, 18, 2]⟩
abbrev S24x256x1088 : Shape := ⟨3, ![24, 256, 1088]⟩
abbrev S6144x34x1x2x16 : Shape := ⟨5, ![6144, 34, 1, 2, 16]⟩
abbrev S6144x1x16x34x2 : Shape := ⟨5, ![6144, 1, 16, 34, 2]⟩
abbrev S6144x16x34x2 : Shape := ⟨4, ![6144, 16, 34, 2]⟩
abbrev S24x256x1952 : Shape := ⟨3, ![24, 256, 1952]⟩
abbrev S6144x61x4x2x4 : Shape := ⟨5, ![6144, 61, 4, 2, 4]⟩
abbrev S6144x4x4x61x2 : Shape := ⟨5, ![6144, 4, 4, 61, 2]⟩
abbrev S6144x16x61x2 : Shape := ⟨4, ![6144, 16, 61, 2]⟩
abbrev S24x256x896 : Shape := ⟨3, ![24, 256, 896]⟩
abbrev S6144x28x1x2x16 : Shape := ⟨5, ![6144, 28, 1, 2, 16]⟩
abbrev S6144x1x16x28x2 : Shape := ⟨5, ![6144, 1, 16, 28, 2]⟩
abbrev S6144x16x28x2 : Shape := ⟨4, ![6144, 16, 28, 2]⟩
abbrev S24x256x320 : Shape := ⟨3, ![24, 256, 320]⟩
abbrev S6144x10x2x2x8 : Shape := ⟨5, ![6144, 10, 2, 2, 8]⟩
abbrev S6144x2x8x10x2 : Shape := ⟨5, ![6144, 2, 8, 10, 2]⟩
abbrev S6144x16x10x2 : Shape := ⟨4, ![6144, 16, 10, 2]⟩
abbrev S6144x16x160x2 : Shape := ⟨4, ![6144, 16, 160, 2]⟩
abbrev S6144x5120 : Shape := ⟨2, ![6144, 5120]⟩
abbrev S698x27648 : Shape := ⟨2, ![698, 27648]⟩
abbrev S160x27648 : Shape := ⟨2, ![160, 27648]⟩
abbrev S6144x27648 : Shape := ⟨2, ![6144, 27648]⟩
abbrev S1536x5120 : Shape := ⟨2, ![1536, 5120]⟩
abbrev S698x512 : Shape := ⟨2, ![698, 512]⟩
abbrev S160x512 : Shape := ⟨2, ![160, 512]⟩
abbrev S1536x512 : Shape := ⟨2, ![1536, 512]⟩
abbrev S4x704x128 : Shape := ⟨3, ![4, 704, 128]⟩
abbrev S4x160x128 : Shape := ⟨3, ![4, 160, 128]⟩
abbrev S4x160x2x128 : Shape := ⟨4, ![4, 160, 2, 128]⟩
abbrev S4x160x1x128 : Shape := ⟨4, ![4, 160, 1, 128]⟩
abbrev S5120x512 : Shape := ⟨2, ![5120, 512]⟩
abbrev S698x128 : Shape := ⟨2, ![698, 128]⟩
abbrev S1x698x128 : Shape := ⟨3, ![1, 698, 128]⟩
abbrev S160x128 : Shape := ⟨2, ![160, 128]⟩
abbrev S1x160x128 : Shape := ⟨3, ![1, 160, 128]⟩
abbrev S1x160x2x128 : Shape := ⟨4, ![1, 160, 2, 128]⟩
abbrev S1x160x1x128 : Shape := ⟨4, ![1, 160, 1, 128]⟩
abbrev S1x8x128 : Shape := ⟨3, ![1, 8, 128]⟩
abbrev S8x128 : Shape := ⟨2, ![8, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S24x256x27648 : Shape := ⟨3, ![24, 256, 27648]⟩

abbrev nBuf : Space → Nat
  | .hbm => 57
  | .vmem => 11
  | .smem => 0
  | _ => 0

abbrev bufTy : (tb : Table) → Fin (tcTables nBuf tb) → BufTy
  | .hbm, ⟨0, _⟩ => ⟨S24x256x5120, .bf16⟩
  | .hbm, ⟨1, _⟩ => ⟨S5120, .i32⟩
  | .hbm, ⟨2, _⟩ => ⟨S27648x698, .i32⟩
  | .hbm, ⟨3, _⟩ => ⟨S27648x160, .bf16⟩
  | .hbm, ⟨4, _⟩ => ⟨S_, .i32⟩
  | .hbm, ⟨5, _⟩ => ⟨S5120, .i32⟩
  | .hbm, ⟨6, _⟩ => ⟨S5120, .i1⟩
  | .hbm, ⟨7, _⟩ => ⟨S_, .i32⟩
  | .hbm, ⟨8, _⟩ => ⟨S5120, .i32⟩
  | .hbm, ⟨9, _⟩ => ⟨S5120, .i32⟩
  | .hbm, ⟨10, _⟩ => ⟨S5120, .i32⟩
  | .hbm, ⟨11, _⟩ => ⟨S5120x1, .i32⟩
  | .hbm, ⟨12, _⟩ => ⟨S1, .i32⟩
  | .hbm, ⟨13, _⟩ => ⟨S_, .i32⟩
  | .hbm, ⟨14, _⟩ => ⟨S5120x1, .i32⟩
  | .hbm, ⟨15, _⟩ => ⟨S5120x1, .i1⟩
  | .hbm, ⟨16, _⟩ => ⟨S1x1, .i32⟩
  | .hbm, ⟨17, _⟩ => ⟨S5120x1, .i32⟩
  | .hbm, ⟨18, _⟩ => ⟨S5120x1, .i1⟩
  | .hbm, ⟨19, _⟩ => ⟨S5120x1, .i1⟩
  | .hbm, ⟨20, _⟩ => ⟨S_, .i1⟩
  | .hbm, ⟨21, _⟩ => ⟨S5120, .i1⟩
  | .hbm, ⟨22, _⟩ => ⟨S24x256x5120, .bf16⟩
  | .hbm, ⟨23, _⟩ => ⟨S24x256x5120, .i1⟩
  | .hbm, ⟨24, _⟩ => ⟨S_, .bf16⟩
  | .hbm, ⟨25, _⟩ => ⟨S24x256x5120, .bf16⟩
  | .hbm, ⟨26, _⟩ => ⟨S24x256x5120, .bf16⟩
  | .hbm, ⟨27, _⟩ => ⟨S24x256x288, .bf16⟩
  | .hbm, ⟨28, _⟩ => ⟨S6144x9x8x2x2, .bf16⟩
  | .hbm, ⟨29, _⟩ => ⟨S6144x8x2x9x2, .bf16⟩
  | .hbm, ⟨30, _⟩ => ⟨S6144x16x9x2, .bf16⟩
  | .hbm, ⟨31, _⟩ => ⟨S24x256x576, .bf16⟩
  | .hbm, ⟨32, _⟩ => ⟨S6144x18x2x2x8, .bf16⟩
  | .hbm, ⟨33, _⟩ => ⟨S6144x2x8x18x2, .bf16⟩
  | .hbm, ⟨34, _⟩ => ⟨S6144x16x18x2, .bf16⟩
  | .hbm, ⟨35, _⟩ => ⟨S24x256x1088, .bf16⟩
  | .hbm, ⟨36, _⟩ => ⟨S6144x34x1x2x16, .bf16⟩
  | .hbm, ⟨37, _⟩ => ⟨S6144x1x16x34x2, .bf16⟩
  | .hbm, ⟨38, _⟩ => ⟨S6144x16x34x2, .bf16⟩
  | .hbm, ⟨39, _⟩ => ⟨S24x256x1952, .bf16⟩
  | .hbm, ⟨40, _⟩ => ⟨S6144x61x4x2x4, .bf16⟩
  | .hbm, ⟨41, _⟩ => ⟨S6144x4x4x61x2, .bf16⟩
  | .hbm, ⟨42, _⟩ => ⟨S6144x16x61x2, .bf16⟩
  | .hbm, ⟨43, _⟩ => ⟨S24x256x896, .bf16⟩
  | .hbm, ⟨44, _⟩ => ⟨S6144x28x1x2x16, .bf16⟩
  | .hbm, ⟨45, _⟩ => ⟨S6144x1x16x28x2, .bf16⟩
  | .hbm, ⟨46, _⟩ => ⟨S6144x16x28x2, .bf16⟩
  | .hbm, ⟨47, _⟩ => ⟨S24x256x320, .bf16⟩
  | .hbm, ⟨48, _⟩ => ⟨S6144x10x2x2x8, .bf16⟩
  | .hbm, ⟨49, _⟩ => ⟨S6144x2x8x10x2, .bf16⟩
  | .hbm, ⟨50, _⟩ => ⟨S6144x16x10x2, .bf16⟩
  | .hbm, ⟨51, _⟩ => ⟨S6144x16x160x2, .bf16⟩
  | .hbm, ⟨52, _⟩ => ⟨S6144x5120, .bf16⟩
  | .hbm, ⟨53, _⟩ => ⟨S698x27648, .i32⟩
  | .hbm, ⟨54, _⟩ => ⟨S160x27648, .bf16⟩
  | .hbm, ⟨55, _⟩ => ⟨S6144x27648, .bf16⟩
  | .hbm, ⟨56, _⟩ => ⟨S24x256x27648, .bf16⟩
  | .local _ .vmem, ⟨0, _⟩ => ⟨S1536x5120, .bf16⟩
  | .local _ .vmem, ⟨1, _⟩ => ⟨S1536x5120, .bf16⟩
  | .local _ .vmem, ⟨2, _⟩ => ⟨S698x512, .i32⟩
  | .local _ .vmem, ⟨3, _⟩ => ⟨S698x512, .i32⟩
  | .local _ .vmem, ⟨4, _⟩ => ⟨S160x512, .bf16⟩
  | .local _ .vmem, ⟨5, _⟩ => ⟨S160x512, .bf16⟩
  | .local _ .vmem, ⟨6, _⟩ => ⟨S1536x512, .bf16⟩
  | .local _ .vmem, ⟨7, _⟩ => ⟨S1536x512, .bf16⟩
  | .local _ .vmem, ⟨8, _⟩ => ⟨S4x704x128, .i32⟩
  | .local _ .vmem, ⟨9, _⟩ => ⟨S4x160x2x128, .bf16⟩
  | .local _ .vmem, ⟨10, _⟩ => ⟨S5120x512, .bf16⟩
  | _, _ => ⟨S24x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 54], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  v7
def k0_off1 (k0_t1 : Fin k0_t1_loop.trips) : Fin 2 → Nat :=
  let c0_6 : Index := 0#32
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  let v8 : BitVec 32 := v7
  let v10 : Index := Scalar.indexCast v8
  ![0, v10.toNat]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v13 : Index := Scalar.indexCast arg9
  let c0_7 : Index := 0#32
  let c0_8 : Index := 0#32
  ![v13.toNat, 0, 0]
def k0_off3 (k0_t1 : Fin k0_t1_loop.trips) : Fin 2 → Nat :=
  let c0_9 : Index := 0#32
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  let v8 : BitVec 32 := v7
  let v17 : Index := Scalar.indexCast v8
  ![0, v17.toNat]
def k0_off4 (k0_t1 : Fin k0_t1_loop.trips) : Fin 4 → Nat :=
  let c0_i32 : BitVec 32 := 0#32
  let c1_i32 : BitVec 32 := 1#32
  let arg9 : BitVec 32 := Scf.iv c0_i32 c1_i32 k0_t1
  let v27 : Index := Scalar.indexCast arg9
  let c0_11 : Index := 0#32
  let c0_12 : Index := 0#32
  ![v27.toNat, 0, 0, 0]
def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let v31 : Index := Scalar.indexCast arg9
  let c0_13 : Index := 0#32
  let c0_14 : Index := 0#32
  ![v31.toNat, 0, 0]
def k0_off6 (k0_t1 : Fin k0_t1_loop.trips) : Fin 3 → Nat :=
  let c0_i32 : BitVec 32 := 0#32
  let c1_i32 : BitVec 32 := 1#32
  let arg9 : BitVec 32 := Scf.iv c0_i32 c1_i32 k0_t1
  let v34 : Index := Scalar.indexCast arg9
  let c1 : Index := 1#32
  let c0_15 : Index := 0#32
  ![v34.toNat, 1, 0]
def k0_off7 (k0_t1 : Fin k0_t1_loop.trips) : Fin 3 → Nat :=
  let c0_i32 : BitVec 32 := 0#32
  let c1_i32 : BitVec 32 := 1#32
  let arg9 : BitVec 32 := Scf.iv c0_i32 c1_i32 k0_t1
  let v37 : Index := Scalar.indexCast arg9
  let c2 : Index := 2#32
  let c0_16 : Index := 0#32
  ![v37.toNat, 2, 0]
def k0_off8 (k0_t1 : Fin k0_t1_loop.trips) : Fin 3 → Nat :=
  let c0_i32 : BitVec 32 := 0#32
  let c1_i32 : BitVec 32 := 1#32
  let arg9 : BitVec 32 := Scf.iv c0_i32 c1_i32 k0_t1
  let v40 : Index := Scalar.indexCast arg9
  let c3 : Index := 3#32
  let c0_17 : Index := 0#32
  ![v40.toNat, 3, 0]
def k0_off9 (k0_t1 : Fin k0_t1_loop.trips) : Fin 3 → Nat :=
  let c0_i32 : BitVec 32 := 0#32
  let c1_i32 : BitVec 32 := 1#32
  let arg9 : BitVec 32 := Scf.iv c0_i32 c1_i32 k0_t1
  let v43 : Index := Scalar.indexCast arg9
  let c4 : Index := 4#32
  let c0_18 : Index := 0#32
  ![v43.toNat, 4, 0]
def k0_off10 (k0_t1 : Fin k0_t1_loop.trips) : Fin 3 → Nat :=
  let c0_i32 : BitVec 32 := 0#32
  let c1_i32 : BitVec 32 := 1#32
  let arg9 : BitVec 32 := Scf.iv c0_i32 c1_i32 k0_t1
  let v46 : Index := Scalar.indexCast arg9
  let c5 : Index := 5#32
  let c0_19 : Index := 0#32
  ![v46.toNat, 5, 0]
def k0_off11 (k0_t1 : Fin k0_t1_loop.trips) : Fin 3 → Nat :=
  let c0_i32 : BitVec 32 := 0#32
  let c1_i32 : BitVec 32 := 1#32
  let arg9 : BitVec 32 := Scf.iv c0_i32 c1_i32 k0_t1
  let v49 : Index := Scalar.indexCast arg9
  let c6 : Index := 6#32
  let c0_20 : Index := 0#32
  ![v49.toNat, 6, 0]
def k0_off12 (k0_t1 : Fin k0_t1_loop.trips) : Fin 3 → Nat :=
  let c0_i32 : BitVec 32 := 0#32
  let c1_i32 : BitVec 32 := 1#32
  let arg9 : BitVec 32 := Scf.iv c0_i32 c1_i32 k0_t1
  let v52 : Index := Scalar.indexCast arg9
  let c7 : Index := 7#32
  let c0_21 : Index := 0#32
  ![v52.toNat, 7, 0]
def k0_off13 (k0_t1 : Fin k0_t1_loop.trips) : Fin 4 → Nat :=
  let c0_i32 : BitVec 32 := 0#32
  let c1_i32 : BitVec 32 := 1#32
  let arg9 : BitVec 32 := Scf.iv c0_i32 c1_i32 k0_t1
  let v71 : Index := Scalar.indexCast arg9
  let c0_29 : Index := 0#32
  let c0_30 : Index := 0#32
  ![v71.toNat, 0, 0, 0]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_35 : BitVec 32 := 128#32
  let v93 : BitVec 32 := Scalar.muli arg9 c128_i32_35
  v93
def k0_off14 (k0_t1 : Fin k0_t1_loop.trips) : Fin 2 → Nat :=
  let c0_36 : Index := 0#32
  let c0_i32 : BitVec 32 := 0#32
  let c1_i32 : BitVec 32 := 1#32
  let arg9 : BitVec 32 := Scf.iv c0_i32 c1_i32 k0_t1
  let c128_i32_35 : BitVec 32 := 128#32
  let v93 : BitVec 32 := Scalar.muli arg9 c128_i32_35
  let v94 : BitVec 32 := v93
  let v95 : Index := Scalar.indexCast v94
  ![0, v95.toNat]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_44 : BitVec 32 := 128#32
  let v117 : BitVec 32 := Scalar.muli arg9 c128_i32_44
  v117
def k0_off15 (k0_t1 : Fin k0_t1_loop.trips) : Fin 2 → Nat :=
  let c320 : Index := 320#32
  let c0_i32 : BitVec 32 := 0#32
  let c1_i32 : BitVec 32 := 1#32
  let arg9 : BitVec 32 := Scf.iv c0_i32 c1_i32 k0_t1
  let c128_i32_44 : BitVec 32 := 128#32
  let v117 : BitVec 32 := Scalar.muli arg9 c128_i32_44
  let v118 : BitVec 32 := v117
  let v119 : Index := Scalar.indexCast v118
  ![320, v119.toNat]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_52 : BitVec 32 := 128#32
  let v141 : BitVec 32 := Scalar.muli arg9 c128_i32_52
  v141
def k0_off16 (k0_t1 : Fin k0_t1_loop.trips) : Fin 2 → Nat :=
  let c640 : Index := 640#32
  let c0_i32 : BitVec 32 := 0#32
  let c1_i32 : BitVec 32 := 1#32
  let arg9 : BitVec 32 := Scf.iv c0_i32 c1_i32 k0_t1
  let c128_i32_52 : BitVec 32 := 128#32
  let v141 : BitVec 32 := Scalar.muli arg9 c128_i32_52
  let v142 : BitVec 32 := v141
  let v143 : Index := Scalar.indexCast v142
  ![640, v143.toNat]
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_60 : BitVec 32 := 128#32
  let v165 : BitVec 32 := Scalar.muli arg9 c128_i32_60
  v165
def k0_off17 (k0_t1 : Fin k0_t1_loop.trips) : Fin 2 → Nat :=
  let c960 : Index := 960#32
  let c0_i32 : BitVec 32 := 0#32
  let c1_i32 : BitVec 32 := 1#32
  let arg9 : BitVec 32 := Scf.iv c0_i32 c1_i32 k0_t1
  let c128_i32_60 : BitVec 32 := 128#32
  let v165 : BitVec 32 := Scalar.muli arg9 c128_i32_60
  let v166 : BitVec 32 := v165
  let v167 : Index := Scalar.indexCast v166
  ![960, v167.toNat]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_68 : BitVec 32 := 128#32
  let v189 : BitVec 32 := Scalar.muli arg9 c128_i32_68
  v189
def k0_off18 (k0_t1 : Fin k0_t1_loop.trips) : Fin 2 → Nat :=
  let c1280 : Index := 1280#32
  let c0_i32 : BitVec 32 := 0#32
  let c1_i32 : BitVec 32 := 1#32
  let arg9 : BitVec 32 := Scf.iv c0_i32 c1_i32 k0_t1
  let c128_i32_68 : BitVec 32 := 128#32
  let v189 : BitVec 32 := Scalar.muli arg9 c128_i32_68
  let v190 : BitVec 32 := v189
  let v191 : Index := Scalar.indexCast v190
  ![1280, v191.toNat]
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_76 : BitVec 32 := 128#32
  let v213 : BitVec 32 := Scalar.muli arg9 c128_i32_76
  v213
def k0_off19 (k0_t1 : Fin k0_t1_loop.trips) : Fin 2 → Nat :=
  let c1600 : Index := 1600#32
  let c0_i32 : BitVec 32 := 0#32
  let c1_i32 : BitVec 32 := 1#32
  let arg9 : BitVec 32 := Scf.iv c0_i32 c1_i32 k0_t1
  let c128_i32_76 : BitVec 32 := 128#32
  let v213 : BitVec 32 := Scalar.muli arg9 c128_i32_76
  let v214 : BitVec 32 := v213
  let v215 : Index := Scalar.indexCast v214
  ![1600, v215.toNat]
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_84 : BitVec 32 := 128#32
  let v237 : BitVec 32 := Scalar.muli arg9 c128_i32_84
  v237
def k0_off20 (k0_t1 : Fin k0_t1_loop.trips) : Fin 2 → Nat :=
  let c1920 : Index := 1920#32
  let c0_i32 : BitVec 32 := 0#32
  let c1_i32 : BitVec 32 := 1#32
  let arg9 : BitVec 32 := Scf.iv c0_i32 c1_i32 k0_t1
  let c128_i32_84 : BitVec 32 := 128#32
  let v237 : BitVec 32 := Scalar.muli arg9 c128_i32_84
  let v238 : BitVec 32 := v237
  let v239 : Index := Scalar.indexCast v238
  ![1920, v239.toNat]
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_92 : BitVec 32 := 128#32
  let v261 : BitVec 32 := Scalar.muli arg9 c128_i32_92
  v261
def k0_off21 (k0_t1 : Fin k0_t1_loop.trips) : Fin 2 → Nat :=
  let c2240 : Index := 2240#32
  let c0_i32 : BitVec 32 := 0#32
  let c1_i32 : BitVec 32 := 1#32
  let arg9 : BitVec 32 := Scf.iv c0_i32 c1_i32 k0_t1
  let c128_i32_92 : BitVec 32 := 128#32
  let v261 : BitVec 32 := Scalar.muli arg9 c128_i32_92
  let v262 : BitVec 32 := v261
  let v263 : Index := Scalar.indexCast v262
  ![2240, v263.toNat]
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_100 : BitVec 32 := 128#32
  let v285 : BitVec 32 := Scalar.muli arg9 c128_i32_100
  v285
def k0_off22 (k0_t1 : Fin k0_t1_loop.trips) : Fin 2 → Nat :=
  let c2560 : Index := 2560#32
  let c0_i32 : BitVec 32 := 0#32
  let c1_i32 : BitVec 32 := 1#32
  let arg9 : BitVec 32 := Scf.iv c0_i32 c1_i32 k0_t1
  let c128_i32_100 : BitVec 32 := 128#32
  let v285 : BitVec 32 := Scalar.muli arg9 c128_i32_100
  let v286 : BitVec 32 := v285
  let v287 : Index := Scalar.indexCast v286
  ![2560, v287.toNat]
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_108 : BitVec 32 := 128#32
  let v309 : BitVec 32 := Scalar.muli arg9 c128_i32_108
  v309
def k0_off23 (k0_t1 : Fin k0_t1_loop.trips) : Fin 2 → Nat :=
  let c2880 : Index := 2880#32
  let c0_i32 : BitVec 32 := 0#32
  let c1_i32 : BitVec 32 := 1#32
  let arg9 : BitVec 32 := Scf.iv c0_i32 c1_i32 k0_t1
  let c128_i32_108 : BitVec 32 := 128#32
  let v309 : BitVec 32 := Scalar.muli arg9 c128_i32_108
  let v310 : BitVec 32 := v309
  let v311 : Index := Scalar.indexCast v310
  ![2880, v311.toNat]
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_116 : BitVec 32 := 128#32
  let v333 : BitVec 32 := Scalar.muli arg9 c128_i32_116
  v333
def k0_off24 (k0_t1 : Fin k0_t1_loop.trips) : Fin 2 → Nat :=
  let c3200 : Index := 3200#32
  let c0_i32 : BitVec 32 := 0#32
  let c1_i32 : BitVec 32 := 1#32
  let arg9 : BitVec 32 := Scf.iv c0_i32 c1_i32 k0_t1
  let c128_i32_116 : BitVec 32 := 128#32
  let v333 : BitVec 32 := Scalar.muli arg9 c128_i32_116
  let v334 : BitVec 32 := v333
  let v335 : Index := Scalar.indexCast v334
  ![3200, v335.toNat]
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_124 : BitVec 32 := 128#32
  let v357 : BitVec 32 := Scalar.muli arg9 c128_i32_124
  v357
def k0_off25 (k0_t1 : Fin k0_t1_loop.trips) : Fin 2 → Nat :=
  let c3520 : Index := 3520#32
  let c0_i32 : BitVec 32 := 0#32
  let c1_i32 : BitVec 32 := 1#32
  let arg9 : BitVec 32 := Scf.iv c0_i32 c1_i32 k0_t1
  let c128_i32_124 : BitVec 32 := 128#32
  let v357 : BitVec 32 := Scalar.muli arg9 c128_i32_124
  let v358 : BitVec 32 := v357
  let v359 : Index := Scalar.indexCast v358
  ![3520, v359.toNat]
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_132 : BitVec 32 := 128#32
  let v381 : BitVec 32 := Scalar.muli arg9 c128_i32_132
  v381
def k0_off26 (k0_t1 : Fin k0_t1_loop.trips) : Fin 2 → Nat :=
  let c3840 : Index := 3840#32
  let c0_i32 : BitVec 32 := 0#32
  let c1_i32 : BitVec 32 := 1#32
  let arg9 : BitVec 32 := Scf.iv c0_i32 c1_i32 k0_t1
  let c128_i32_132 : BitVec 32 := 128#32
  let v381 : BitVec 32 := Scalar.muli arg9 c128_i32_132
  let v382 : BitVec 32 := v381
  let v383 : Index := Scalar.indexCast v382
  ![3840, v383.toNat]
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_140 : BitVec 32 := 128#32
  let v405 : BitVec 32 := Scalar.muli arg9 c128_i32_140
  v405
def k0_off27 (k0_t1 : Fin k0_t1_loop.trips) : Fin 2 → Nat :=
  let c4160 : Index := 4160#32
  let c0_i32 : BitVec 32 := 0#32
  let c1_i32 : BitVec 32 := 1#32
  let arg9 : BitVec 32 := Scf.iv c0_i32 c1_i32 k0_t1
  let c128_i32_140 : BitVec 32 := 128#32
  let v405 : BitVec 32 := Scalar.muli arg9 c128_i32_140
  let v406 : BitVec 32 := v405
  let v407 : Index := Scalar.indexCast v406
  ![4160, v407.toNat]
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_148 : BitVec 32 := 128#32
  let v429 : BitVec 32 := Scalar.muli arg9 c128_i32_148
  v429
def k0_off28 (k0_t1 : Fin k0_t1_loop.trips) : Fin 2 → Nat :=
  let c4480 : Index := 4480#32
  let c0_i32 : BitVec 32 := 0#32
  let c1_i32 : BitVec 32 := 1#32
  let arg9 : BitVec 32 := Scf.iv c0_i32 c1_i32 k0_t1
  let c128_i32_148 : BitVec 32 := 128#32
  let v429 : BitVec 32 := Scalar.muli arg9 c128_i32_148
  let v430 : BitVec 32 := v429
  let v431 : Index := Scalar.indexCast v430
  ![4480, v431.toNat]
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_156 : BitVec 32 := 128#32
  let v453 : BitVec 32 := Scalar.muli arg9 c128_i32_156
  v453
def k0_off29 (k0_t1 : Fin k0_t1_loop.trips) : Fin 2 → Nat :=
  let c4800 : Index := 4800#32
  let c0_i32 : BitVec 32 := 0#32
  let c1_i32 : BitVec 32 := 1#32
  let arg9 : BitVec 32 := Scf.iv c0_i32 c1_i32 k0_t1
  let c128_i32_156 : BitVec 32 := 128#32
  let v453 : BitVec 32 := Scalar.muli arg9 c128_i32_156
  let v454 : BitVec 32 := v453
  let v455 : Index := Scalar.indexCast v454
  ![4800, v455.toNat]
def k0_off30 (k0_t1 : Fin k0_t1_loop.trips) : Fin 3 → Nat :=
  let c0_i32 : BitVec 32 := 0#32
  let c1_i32 : BitVec 32 := 1#32
  let arg9 : BitVec 32 := Scf.iv c0_i32 c1_i32 k0_t1
  let v459 : Index := Scalar.indexCast arg9
  let c64 : Index := 64#32
  let c0_157 : Index := 0#32
  ![v459.toNat, 64, 0]
def k0_off31 (k0_t1 : Fin k0_t1_loop.trips) : Fin 3 → Nat :=
  let c0_i32 : BitVec 32 := 0#32
  let c1_i32 : BitVec 32 := 1#32
  let arg9 : BitVec 32 := Scf.iv c0_i32 c1_i32 k0_t1
  let v462 : Index := Scalar.indexCast arg9
  let c65 : Index := 65#32
  let c0_158 : Index := 0#32
  ![v462.toNat, 65, 0]
def k0_off32 (k0_t1 : Fin k0_t1_loop.trips) : Fin 3 → Nat :=
  let c0_i32 : BitVec 32 := 0#32
  let c1_i32 : BitVec 32 := 1#32
  let arg9 : BitVec 32 := Scf.iv c0_i32 c1_i32 k0_t1
  let v465 : Index := Scalar.indexCast arg9
  let c66 : Index := 66#32
  let c0_159 : Index := 0#32
  ![v465.toNat, 66, 0]
def k0_off33 (k0_t1 : Fin k0_t1_loop.trips) : Fin 3 → Nat :=
  let c0_i32 : BitVec 32 := 0#32
  let c1_i32 : BitVec 32 := 1#32
  let arg9 : BitVec 32 := Scf.iv c0_i32 c1_i32 k0_t1
  let v468 : Index := Scalar.indexCast arg9
  let c67 : Index := 67#32
  let c0_160 : Index := 0#32
  ![v468.toNat, 67, 0]
def k0_off34 (k0_t1 : Fin k0_t1_loop.trips) : Fin 3 → Nat :=
  let c0_i32 : BitVec 32 := 0#32
  let c1_i32 : BitVec 32 := 1#32
  let arg9 : BitVec 32 := Scf.iv c0_i32 c1_i32 k0_t1
  let v471 : Index := Scalar.indexCast arg9
  let c68 : Index := 68#32
  let c0_161 : Index := 0#32
  ![v471.toNat, 68, 0]
def k0_off35 (k0_t1 : Fin k0_t1_loop.trips) : Fin 3 → Nat :=
  let c0_i32 : BitVec 32 := 0#32
  let c1_i32 : BitVec 32 := 1#32
  let arg9 : BitVec 32 := Scf.iv c0_i32 c1_i32 k0_t1
  let v474 : Index := Scalar.indexCast arg9
  let c69 : Index := 69#32
  let c0_162 : Index := 0#32
  ![v474.toNat, 69, 0]
def k0_off36 (k0_t1 : Fin k0_t1_loop.trips) : Fin 3 → Nat :=
  let c0_i32 : BitVec 32 := 0#32
  let c1_i32 : BitVec 32 := 1#32
  let arg9 : BitVec 32 := Scf.iv c0_i32 c1_i32 k0_t1
  let v477 : Index := Scalar.indexCast arg9
  let c70 : Index := 70#32
  let c0_163 : Index := 0#32
  ![v477.toNat, 70, 0]
def k0_off37 (k0_t1 : Fin k0_t1_loop.trips) : Fin 3 → Nat :=
  let c0_i32 : BitVec 32 := 0#32
  let c1_i32 : BitVec 32 := 1#32
  let arg9 : BitVec 32 := Scf.iv c0_i32 c1_i32 k0_t1
  let v480 : Index := Scalar.indexCast arg9
  let c71 : Index := 71#32
  let c0_164 : Index := 0#32
  ![v480.toNat, 71, 0]
def k0_off38 (k0_t1 : Fin k0_t1_loop.trips) : Fin 3 → Nat :=
  let c0_i32 : BitVec 32 := 0#32
  let c1_i32 : BitVec 32 := 1#32
  let arg9 : BitVec 32 := Scf.iv c0_i32 c1_i32 k0_t1
  let v499 : Index := Scalar.indexCast arg9
  let c66_173 : Index := 66#32
  let c0_174 : Index := 0#32
  ![v499.toNat, 66, 0]
def k0_off39 (k0_t1 : Fin k0_t1_loop.trips) : Fin 3 → Nat :=
  let c0_i32 : BitVec 32 := 0#32
  let c1_i32 : BitVec 32 := 1#32
  let arg9 : BitVec 32 := Scf.iv c0_i32 c1_i32 k0_t1
  let v502 : Index := Scalar.indexCast arg9
  let c67_175 : Index := 67#32
  let c0_176 : Index := 0#32
  ![v502.toNat, 67, 0]
def k0_off40 (k0_t1 : Fin k0_t1_loop.trips) : Fin 3 → Nat :=
  let c0_i32 : BitVec 32 := 0#32
  let c1_i32 : BitVec 32 := 1#32
  let arg9 : BitVec 32 := Scf.iv c0_i32 c1_i32 k0_t1
  let v505 : Index := Scalar.indexCast arg9
  let c68_177 : Index := 68#32
  let c0_178 : Index := 0#32
  ![v505.toNat, 68, 0]
def k0_off41 (k0_t1 : Fin k0_t1_loop.trips) : Fin 3 → Nat :=
  let c0_i32 : BitVec 32 := 0#32
  let c1_i32 : BitVec 32 := 1#32
  let arg9 : BitVec 32 := Scf.iv c0_i32 c1_i32 k0_t1
  let v508 : Index := Scalar.indexCast arg9
  let c69_179 : Index := 69#32
  let c0_180 : Index := 0#32
  ![v508.toNat, 69, 0]
def k0_off42 (k0_t1 : Fin k0_t1_loop.trips) : Fin 3 → Nat :=
  let c0_i32 : BitVec 32 := 0#32
  let c1_i32 : BitVec 32 := 1#32
  let arg9 : BitVec 32 := Scf.iv c0_i32 c1_i32 k0_t1
  let v511 : Index := Scalar.indexCast arg9
  let c70_181 : Index := 70#32
  let c0_182 : Index := 0#32
  ![v511.toNat, 70, 0]
def k0_off43 (k0_t1 : Fin k0_t1_loop.trips) : Fin 3 → Nat :=
  let c0_i32 : BitVec 32 := 0#32
  let c1_i32 : BitVec 32 := 1#32
  let arg9 : BitVec 32 := Scf.iv c0_i32 c1_i32 k0_t1
  let v514 : Index := Scalar.indexCast arg9
  let c71_183 : Index := 71#32
  let c0_184 : Index := 0#32
  ![v514.toNat, 71, 0]
def k0_off44 (k0_t1 : Fin k0_t1_loop.trips) : Fin 4 → Nat :=
  let c0_i32 : BitVec 32 := 0#32
  let c1_i32 : BitVec 32 := 1#32
  let arg9 : BitVec 32 := Scf.iv c0_i32 c1_i32 k0_t1
  let v603 : Index := Scalar.indexCast arg9
  let c8 : Index := 8#32
  let c0_213 : Index := 0#32
  ![v603.toNat, 8, 0, 0]
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_224 : BitVec 32 := 128#32
  let v639 : BitVec 32 := Scalar.muli arg9 c128_i32_224
  v639
def k0_off45 (k0_t1 : Fin k0_t1_loop.trips) : Fin 2 → Nat :=
  let c16 : Index := 16#32
  let c0_i32 : BitVec 32 := 0#32
  let c1_i32 : BitVec 32 := 1#32
  let arg9 : BitVec 32 := Scf.iv c0_i32 c1_i32 k0_t1
  let c128_i32_224 : BitVec 32 := 128#32
  let v639 : BitVec 32 := Scalar.muli arg9 c128_i32_224
  let v640 : BitVec 32 := v639
  let v641 : Index := Scalar.indexCast v640
  ![16, v641.toNat]
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_236 : BitVec 32 := 128#32
  let v677 : BitVec 32 := Scalar.muli arg9 c128_i32_236
  v677
def k0_off46 (k0_t1 : Fin k0_t1_loop.trips) : Fin 2 → Nat :=
  let c336 : Index := 336#32
  let c0_i32 : BitVec 32 := 0#32
  let c1_i32 : BitVec 32 := 1#32
  let arg9 : BitVec 32 := Scf.iv c0_i32 c1_i32 k0_t1
  let c128_i32_236 : BitVec 32 := 128#32
  let v677 : BitVec 32 := Scalar.muli arg9 c128_i32_236
  let v678 : BitVec 32 := v677
  let v679 : Index := Scalar.indexCast v678
  ![336, v679.toNat]
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_248 : BitVec 32 := 128#32
  let v715 : BitVec 32 := Scalar.muli arg9 c128_i32_248
  v715
def k0_off47 (k0_t1 : Fin k0_t1_loop.trips) : Fin 2 → Nat :=
  let c656 : Index := 656#32
  let c0_i32 : BitVec 32 := 0#32
  let c1_i32 : BitVec 32 := 1#32
  let arg9 : BitVec 32 := Scf.iv c0_i32 c1_i32 k0_t1
  let c128_i32_248 : BitVec 32 := 128#32
  let v715 : BitVec 32 := Scalar.muli arg9 c128_i32_248
  let v716 : BitVec 32 := v715
  let v717 : Index := Scalar.indexCast v716
  ![656, v717.toNat]
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_260 : BitVec 32 := 128#32
  let v753 : BitVec 32 := Scalar.muli arg9 c128_i32_260
  v753
def k0_off48 (k0_t1 : Fin k0_t1_loop.trips) : Fin 2 → Nat :=
  let c976 : Index := 976#32
  let c0_i32 : BitVec 32 := 0#32
  let c1_i32 : BitVec 32 := 1#32
  let arg9 : BitVec 32 := Scf.iv c0_i32 c1_i32 k0_t1
  let c128_i32_260 : BitVec 32 := 128#32
  let v753 : BitVec 32 := Scalar.muli arg9 c128_i32_260
  let v754 : BitVec 32 := v753
  let v755 : Index := Scalar.indexCast v754
  ![976, v755.toNat]
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_272 : BitVec 32 := 128#32
  let v791 : BitVec 32 := Scalar.muli arg9 c128_i32_272
  v791
def k0_off49 (k0_t1 : Fin k0_t1_loop.trips) : Fin 2 → Nat :=
  let c1296 : Index := 1296#32
  let c0_i32 : BitVec 32 := 0#32
  let c1_i32 : BitVec 32 := 1#32
  let arg9 : BitVec 32 := Scf.iv c0_i32 c1_i32 k0_t1
  let c128_i32_272 : BitVec 32 := 128#32
  let v791 : BitVec 32 := Scalar.muli arg9 c128_i32_272
  let v792 : BitVec 32 := v791
  let v793 : Index := Scalar.indexCast v792
  ![1296, v793.toNat]
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_284 : BitVec 32 := 128#32
  let v829 : BitVec 32 := Scalar.muli arg9 c128_i32_284
  v829
def k0_off50 (k0_t1 : Fin k0_t1_loop.trips) : Fin 2 → Nat :=
  let c1616 : Index := 1616#32
  let c0_i32 : BitVec 32 := 0#32
  let c1_i32 : BitVec 32 := 1#32
  let arg9 : BitVec 32 := Scf.iv c0_i32 c1_i32 k0_t1
  let c128_i32_284 : BitVec 32 := 128#32
  let v829 : BitVec 32 := Scalar.muli arg9 c128_i32_284
  let v830 : BitVec 32 := v829
  let v831 : Index := Scalar.indexCast v830
  ![1616, v831.toNat]
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_296 : BitVec 32 := 128#32
  let v867 : BitVec 32 := Scalar.muli arg9 c128_i32_296
  v867
def k0_off51 (k0_t1 : Fin k0_t1_loop.trips) : Fin 2 → Nat :=
  let c1936 : Index := 1936#32
  let c0_i32 : BitVec 32 := 0#32
  let c1_i32 : BitVec 32 := 1#32
  let arg9 : BitVec 32 := Scf.iv c0_i32 c1_i32 k0_t1
  let c128_i32_296 : BitVec 32 := 128#32
  let v867 : BitVec 32 := Scalar.muli arg9 c128_i32_296
  let v868 : BitVec 32 := v867
  let v869 : Index := Scalar.indexCast v868
  ![1936, v869.toNat]
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_308 : BitVec 32 := 128#32
  let v905 : BitVec 32 := Scalar.muli arg9 c128_i32_308
  v905
def k0_off52 (k0_t1 : Fin k0_t1_loop.trips) : Fin 2 → Nat :=
  let c2256 : Index := 2256#32
  let c0_i32 : BitVec 32 := 0#32
  let c1_i32 : BitVec 32 := 1#32
  let arg9 : BitVec 32 := Scf.iv c0_i32 c1_i32 k0_t1
  let c128_i32_308 : BitVec 32 := 128#32
  let v905 : BitVec 32 := Scalar.muli arg9 c128_i32_308
  let v906 : BitVec 32 := v905
  let v907 : Index := Scalar.indexCast v906
  ![2256, v907.toNat]
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_320 : BitVec 32 := 128#32
  let v943 : BitVec 32 := Scalar.muli arg9 c128_i32_320
  v943
def k0_off53 (k0_t1 : Fin k0_t1_loop.trips) : Fin 2 → Nat :=
  let c2576 : Index := 2576#32
  let c0_i32 : BitVec 32 := 0#32
  let c1_i32 : BitVec 32 := 1#32
  let arg9 : BitVec 32 := Scf.iv c0_i32 c1_i32 k0_t1
  let c128_i32_320 : BitVec 32 := 128#32
  let v943 : BitVec 32 := Scalar.muli arg9 c128_i32_320
  let v944 : BitVec 32 := v943
  let v945 : Index := Scalar.indexCast v944
  ![2576, v945.toNat]
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_332 : BitVec 32 := 128#32
  let v981 : BitVec 32 := Scalar.muli arg9 c128_i32_332
  v981
def k0_off54 (k0_t1 : Fin k0_t1_loop.trips) : Fin 2 → Nat :=
  let c2896 : Index := 2896#32
  let c0_i32 : BitVec 32 := 0#32
  let c1_i32 : BitVec 32 := 1#32
  let arg9 : BitVec 32 := Scf.iv c0_i32 c1_i32 k0_t1
  let c128_i32_332 : BitVec 32 := 128#32
  let v981 : BitVec 32 := Scalar.muli arg9 c128_i32_332
  let v982 : BitVec 32 := v981
  let v983 : Index := Scalar.indexCast v982
  ![2896, v983.toNat]
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_344 : BitVec 32 := 128#32
  let v1019 : BitVec 32 := Scalar.muli arg9 c128_i32_344
  v1019
def k0_off55 (k0_t1 : Fin k0_t1_loop.trips) : Fin 2 → Nat :=
  let c3216 : Index := 3216#32
  let c0_i32 : BitVec 32 := 0#32
  let c1_i32 : BitVec 32 := 1#32
  let arg9 : BitVec 32 := Scf.iv c0_i32 c1_i32 k0_t1
  let c128_i32_344 : BitVec 32 := 128#32
  let v1019 : BitVec 32 := Scalar.muli arg9 c128_i32_344
  let v1020 : BitVec 32 := v1019
  let v1021 : Index := Scalar.indexCast v1020
  ![3216, v1021.toNat]
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_356 : BitVec 32 := 128#32
  let v1057 : BitVec 32 := Scalar.muli arg9 c128_i32_356
  v1057
def k0_off56 (k0_t1 : Fin k0_t1_loop.trips) : Fin 2 → Nat :=
  let c3536 : Index := 3536#32
  let c0_i32 : BitVec 32 := 0#32
  let c1_i32 : BitVec 32 := 1#32
  let arg9 : BitVec 32 := Scf.iv c0_i32 c1_i32 k0_t1
  let c128_i32_356 : BitVec 32 := 128#32
  let v1057 : BitVec 32 := Scalar.muli arg9 c128_i32_356
  let v1058 : BitVec 32 := v1057
  let v1059 : Index := Scalar.indexCast v1058
  ![3536, v1059.toNat]
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_368 : BitVec 32 := 128#32
  let v1095 : BitVec 32 := Scalar.muli arg9 c128_i32_368
  v1095
def k0_off57 (k0_t1 : Fin k0_t1_loop.trips) : Fin 2 → Nat :=
  let c3856 : Index := 3856#32
  let c0_i32 : BitVec 32 := 0#32
  let c1_i32 : BitVec 32 := 1#32
  let arg9 : BitVec 32 := Scf.iv c0_i32 c1_i32 k0_t1
  let c128_i32_368 : BitVec 32 := 128#32
  let v1095 : BitVec 32 := Scalar.muli arg9 c128_i32_368
  let v1096 : BitVec 32 := v1095
  let v1097 : Index := Scalar.indexCast v1096
  ![3856, v1097.toNat]
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_380 : BitVec 32 := 128#32
  let v1133 : BitVec 32 := Scalar.muli arg9 c128_i32_380
  v1133
def k0_off58 (k0_t1 : Fin k0_t1_loop.trips) : Fin 2 → Nat :=
  let c4176 : Index := 4176#32
  let c0_i32 : BitVec 32 := 0#32
  let c1_i32 : BitVec 32 := 1#32
  let arg9 : BitVec 32 := Scf.iv c0_i32 c1_i32 k0_t1
  let c128_i32_380 : BitVec 32 := 128#32
  let v1133 : BitVec 32 := Scalar.muli arg9 c128_i32_380
  let v1134 : BitVec 32 := v1133
  let v1135 : Index := Scalar.indexCast v1134
  ![4176, v1135.toNat]
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_392 : BitVec 32 := 128#32
  let v1171 : BitVec 32 := Scalar.muli arg9 c128_i32_392
  v1171
def k0_off59 (k0_t1 : Fin k0_t1_loop.trips) : Fin 2 → Nat :=
  let c4496 : Index := 4496#32
  let c0_i32 : BitVec 32 := 0#32
  let c1_i32 : BitVec 32 := 1#32
  let arg9 : BitVec 32 := Scf.iv c0_i32 c1_i32 k0_t1
  let c128_i32_392 : BitVec 32 := 128#32
  let v1171 : BitVec 32 := Scalar.muli arg9 c128_i32_392
  let v1172 : BitVec 32 := v1171
  let v1173 : Index := Scalar.indexCast v1172
  ![4496, v1173.toNat]
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_404 : BitVec 32 := 128#32
  let v1209 : BitVec 32 := Scalar.muli arg9 c128_i32_404
  v1209
def k0_off60 (k0_t1 : Fin k0_t1_loop.trips) : Fin 2 → Nat :=
  let c4816 : Index := 4816#32
  let c0_i32 : BitVec 32 := 0#32
  let c1_i32 : BitVec 32 := 1#32
  let arg9 : BitVec 32 := Scf.iv c0_i32 c1_i32 k0_t1
  let c128_i32_404 : BitVec 32 := 128#32
  let v1209 : BitVec 32 := Scalar.muli arg9 c128_i32_404
  let v1210 : BitVec 32 := v1209
  let v1211 : Index := Scalar.indexCast v1210
  ![4816, v1211.toNat]
def k0_off61 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1215 : Index := Scalar.indexCast arg9
  let c114 : Index := 114#32
  let c0_405 : Index := 0#32
  ![v1215.toNat, 114, 0]
def k0_off62 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1218 : Index := Scalar.indexCast arg9
  let c115 : Index := 115#32
  let c0_406 : Index := 0#32
  ![v1218.toNat, 115, 0]
def k0_off63 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1221 : Index := Scalar.indexCast arg9
  let c116 : Index := 116#32
  let c0_407 : Index := 0#32
  ![v1221.toNat, 116, 0]
def k0_off64 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1224 : Index := Scalar.indexCast arg9
  let c117 : Index := 117#32
  let c0_408 : Index := 0#32
  ![v1224.toNat, 117, 0]
def k0_off65 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1227 : Index := Scalar.indexCast arg9
  let c118 : Index := 118#32
  let c0_409 : Index := 0#32
  ![v1227.toNat, 118, 0]
def k0_off66 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1230 : Index := Scalar.indexCast arg9
  let c119 : Index := 119#32
  let c0_410 : Index := 0#32
  ![v1230.toNat, 119, 0]
def k0_off67 (k0_t1 : Fin k0_t1_loop.trips) : Fin 4 → Nat :=
  let c0_i32 : BitVec 32 := 0#32
  let c1_i32 : BitVec 32 := 1#32
  let arg9 : BitVec 32 := Scf.iv c0_i32 c1_i32 k0_t1
  let v1319 : Index := Scalar.indexCast arg9
  let c16_449 : Index := 16#32
  let c0_450 : Index := 0#32
  ![v1319.toNat, 16, 0, 0]
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_454 : BitVec 32 := 128#32
  let v1331 : BitVec 32 := Scalar.muli arg9 c128_i32_454
  v1331
def k0_off68 (k0_t1 : Fin k0_t1_loop.trips) : Fin 2 → Nat :=
  let c32 : Index := 32#32
  let c0_i32 : BitVec 32 := 0#32
  let c1_i32 : BitVec 32 := 1#32
  let arg9 : BitVec 32 := Scf.iv c0_i32 c1_i32 k0_t1
  let c128_i32_454 : BitVec 32 := 128#32
  let v1331 : BitVec 32 := Scalar.muli arg9 c128_i32_454
  let v1332 : BitVec 32 := v1331
  let v1333 : Index := Scalar.indexCast v1332
  ![32, v1333.toNat]
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_458 : BitVec 32 := 128#32
  let v1345 : BitVec 32 := Scalar.muli arg9 c128_i32_458
  v1345
def k0_off69 (k0_t1 : Fin k0_t1_loop.trips) : Fin 2 → Nat :=
  let c352 : Index := 352#32
  let c0_i32 : BitVec 32 := 0#32
  let c1_i32 : BitVec 32 := 1#32
  let arg9 : BitVec 32 := Scf.iv c0_i32 c1_i32 k0_t1
  let c128_i32_458 : BitVec 32 := 128#32
  let v1345 : BitVec 32 := Scalar.muli arg9 c128_i32_458
  let v1346 : BitVec 32 := v1345
  let v1347 : Index := Scalar.indexCast v1346
  ![352, v1347.toNat]
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_462 : BitVec 32 := 128#32
  let v1359 : BitVec 32 := Scalar.muli arg9 c128_i32_462
  v1359
def k0_off70 (k0_t1 : Fin k0_t1_loop.trips) : Fin 2 → Nat :=
  let c672 : Index := 672#32
  let c0_i32 : BitVec 32 := 0#32
  let c1_i32 : BitVec 32 := 1#32
  let arg9 : BitVec 32 := Scf.iv c0_i32 c1_i32 k0_t1
  let c128_i32_462 : BitVec 32 := 128#32
  let v1359 : BitVec 32 := Scalar.muli arg9 c128_i32_462
  let v1360 : BitVec 32 := v1359
  let v1361 : Index := Scalar.indexCast v1360
  ![672, v1361.toNat]
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_466 : BitVec 32 := 128#32
  let v1373 : BitVec 32 := Scalar.muli arg9 c128_i32_466
  v1373
def k0_off71 (k0_t1 : Fin k0_t1_loop.trips) : Fin 2 → Nat :=
  let c992 : Index := 992#32
  let c0_i32 : BitVec 32 := 0#32
  let c1_i32 : BitVec 32 := 1#32
  let arg9 : BitVec 32 := Scf.iv c0_i32 c1_i32 k0_t1
  let c128_i32_466 : BitVec 32 := 128#32
  let v1373 : BitVec 32 := Scalar.muli arg9 c128_i32_466
  let v1374 : BitVec 32 := v1373
  let v1375 : Index := Scalar.indexCast v1374
  ![992, v1375.toNat]
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_470 : BitVec 32 := 128#32
  let v1387 : BitVec 32 := Scalar.muli arg9 c128_i32_470
  v1387
def k0_off72 (k0_t1 : Fin k0_t1_loop.trips) : Fin 2 → Nat :=
  let c1312 : Index := 1312#32
  let c0_i32 : BitVec 32 := 0#32
  let c1_i32 : BitVec 32 := 1#32
  let arg9 : BitVec 32 := Scf.iv c0_i32 c1_i32 k0_t1
  let c128_i32_470 : BitVec 32 := 128#32
  let v1387 : BitVec 32 := Scalar.muli arg9 c128_i32_470
  let v1388 : BitVec 32 := v1387
  let v1389 : Index := Scalar.indexCast v1388
  ![1312, v1389.toNat]
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_474 : BitVec 32 := 128#32
  let v1401 : BitVec 32 := Scalar.muli arg9 c128_i32_474
  v1401
def k0_off73 (k0_t1 : Fin k0_t1_loop.trips) : Fin 2 → Nat :=
  let c1632 : Index := 1632#32
  let c0_i32 : BitVec 32 := 0#32
  let c1_i32 : BitVec 32 := 1#32
  let arg9 : BitVec 32 := Scf.iv c0_i32 c1_i32 k0_t1
  let c128_i32_474 : BitVec 32 := 128#32
  let v1401 : BitVec 32 := Scalar.muli arg9 c128_i32_474
  let v1402 : BitVec 32 := v1401
  let v1403 : Index := Scalar.indexCast v1402
  ![1632, v1403.toNat]
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_478 : BitVec 32 := 128#32
  let v1415 : BitVec 32 := Scalar.muli arg9 c128_i32_478
  v1415
def k0_off74 (k0_t1 : Fin k0_t1_loop.trips) : Fin 2 → Nat :=
  let c1952 : Index := 1952#32
  let c0_i32 : BitVec 32 := 0#32
  let c1_i32 : BitVec 32 := 1#32
  let arg9 : BitVec 32 := Scf.iv c0_i32 c1_i32 k0_t1
  let c128_i32_478 : BitVec 32 := 128#32
  let v1415 : BitVec 32 := Scalar.muli arg9 c128_i32_478
  let v1416 : BitVec 32 := v1415
  let v1417 : Index := Scalar.indexCast v1416
  ![1952, v1417.toNat]
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_482 : BitVec 32 := 128#32
  let v1429 : BitVec 32 := Scalar.muli arg9 c128_i32_482
  v1429
def k0_off75 (k0_t1 : Fin k0_t1_loop.trips) : Fin 2 → Nat :=
  let c2272 : Index := 2272#32
  let c0_i32 : BitVec 32 := 0#32
  let c1_i32 : BitVec 32 := 1#32
  let arg9 : BitVec 32 := Scf.iv c0_i32 c1_i32 k0_t1
  let c128_i32_482 : BitVec 32 := 128#32
  let v1429 : BitVec 32 := Scalar.muli arg9 c128_i32_482
  let v1430 : BitVec 32 := v1429
  let v1431 : Index := Scalar.indexCast v1430
  ![2272, v1431.toNat]
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_486 : BitVec 32 := 128#32
  let v1443 : BitVec 32 := Scalar.muli arg9 c128_i32_486
  v1443
def k0_off76 (k0_t1 : Fin k0_t1_loop.trips) : Fin 2 → Nat :=
  let c2592 : Index := 2592#32
  let c0_i32 : BitVec 32 := 0#32
  let c1_i32 : BitVec 32 := 1#32
  let arg9 : BitVec 32 := Scf.iv c0_i32 c1_i32 k0_t1
  let c128_i32_486 : BitVec 32 := 128#32
  let v1443 : BitVec 32 := Scalar.muli arg9 c128_i32_486
  let v1444 : BitVec 32 := v1443
  let v1445 : Index := Scalar.indexCast v1444
  ![2592, v1445.toNat]
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_490 : BitVec 32 := 128#32
  let v1457 : BitVec 32 := Scalar.muli arg9 c128_i32_490
  v1457
def k0_off77 (k0_t1 : Fin k0_t1_loop.trips) : Fin 2 → Nat :=
  let c2912 : Index := 2912#32
  let c0_i32 : BitVec 32 := 0#32
  let c1_i32 : BitVec 32 := 1#32
  let arg9 : BitVec 32 := Scf.iv c0_i32 c1_i32 k0_t1
  let c128_i32_490 : BitVec 32 := 128#32
  let v1457 : BitVec 32 := Scalar.muli arg9 c128_i32_490
  let v1458 : BitVec 32 := v1457
  let v1459 : Index := Scalar.indexCast v1458
  ![2912, v1459.toNat]
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_494 : BitVec 32 := 128#32
  let v1471 : BitVec 32 := Scalar.muli arg9 c128_i32_494
  v1471
def k0_off78 (k0_t1 : Fin k0_t1_loop.trips) : Fin 2 → Nat :=
  let c3232 : Index := 3232#32
  let c0_i32 : BitVec 32 := 0#32
  let c1_i32 : BitVec 32 := 1#32
  let arg9 : BitVec 32 := Scf.iv c0_i32 c1_i32 k0_t1
  let c128_i32_494 : BitVec 32 := 128#32
  let v1471 : BitVec 32 := Scalar.muli arg9 c128_i32_494
  let v1472 : BitVec 32 := v1471
  let v1473 : Index := Scalar.indexCast v1472
  ![3232, v1473.toNat]
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_498 : BitVec 32 := 128#32
  let v1485 : BitVec 32 := Scalar.muli arg9 c128_i32_498
  v1485
def k0_off79 (k0_t1 : Fin k0_t1_loop.trips) : Fin 2 → Nat :=
  let c3552 : Index := 3552#32
  let c0_i32 : BitVec 32 := 0#32
  let c1_i32 : BitVec 32 := 1#32
  let arg9 : BitVec 32 := Scf.iv c0_i32 c1_i32 k0_t1
  let c128_i32_498 : BitVec 32 := 128#32
  let v1485 : BitVec 32 := Scalar.muli arg9 c128_i32_498
  let v1486 : BitVec 32 := v1485
  let v1487 : Index := Scalar.indexCast v1486
  ![3552, v1487.toNat]
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_502 : BitVec 32 := 128#32
  let v1499 : BitVec 32 := Scalar.muli arg9 c128_i32_502
  v1499
def k0_off80 (k0_t1 : Fin k0_t1_loop.trips) : Fin 2 → Nat :=
  let c3872 : Index := 3872#32
  let c0_i32 : BitVec 32 := 0#32
  let c1_i32 : BitVec 32 := 1#32
  let arg9 : BitVec 32 := Scf.iv c0_i32 c1_i32 k0_t1
  let c128_i32_502 : BitVec 32 := 128#32
  let v1499 : BitVec 32 := Scalar.muli arg9 c128_i32_502
  let v1500 : BitVec 32 := v1499
  let v1501 : Index := Scalar.indexCast v1500
  ![3872, v1501.toNat]
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_506 : BitVec 32 := 128#32
  let v1513 : BitVec 32 := Scalar.muli arg9 c128_i32_506
  v1513
def k0_off81 (k0_t1 : Fin k0_t1_loop.trips) : Fin 2 → Nat :=
  let c4192 : Index := 4192#32
  let c0_i32 : BitVec 32 := 0#32
  let c1_i32 : BitVec 32 := 1#32
  let arg9 : BitVec 32 := Scf.iv c0_i32 c1_i32 k0_t1
  let c128_i32_506 : BitVec 32 := 128#32
  let v1513 : BitVec 32 := Scalar.muli arg9 c128_i32_506
  let v1514 : BitVec 32 := v1513
  let v1515 : Index := Scalar.indexCast v1514
  ![4192, v1515.toNat]
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_510 : BitVec 32 := 128#32
  let v1527 : BitVec 32 := Scalar.muli arg9 c128_i32_510
  v1527
def k0_off82 (k0_t1 : Fin k0_t1_loop.trips) : Fin 2 → Nat :=
  let c4512 : Index := 4512#32
  let c0_i32 : BitVec 32 := 0#32
  let c1_i32 : BitVec 32 := 1#32
  let arg9 : BitVec 32 := Scf.iv c0_i32 c1_i32 k0_t1
  let c128_i32_510 : BitVec 32 := 128#32
  let v1527 : BitVec 32 := Scalar.muli arg9 c128_i32_510
  let v1528 : BitVec 32 := v1527
  let v1529 : Index := Scalar.indexCast v1528
  ![4512, v1529.toNat]
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_514 : BitVec 32 := 128#32
  let v1541 : BitVec 32 := Scalar.muli arg9 c128_i32_514
  v1541
def k0_off83 (k0_t1 : Fin k0_t1_loop.trips) : Fin 2 → Nat :=
  let c4832 : Index := 4832#32
  let c0_i32 : BitVec 32 := 0#32
  let c1_i32 : BitVec 32 := 1#32
  let arg9 : BitVec 32 := Scf.iv c0_i32 c1_i32 k0_t1
  let c128_i32_514 : BitVec 32 := 128#32
  let v1541 : BitVec 32 := Scalar.muli arg9 c128_i32_514
  let v1542 : BitVec 32 := v1541
  let v1543 : Index := Scalar.indexCast v1542
  ![4832, v1543.toNat]
def k0_off84 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1547 : Index := Scalar.indexCast arg9
  let c162 : Index := 162#32
  let c0_515 : Index := 0#32
  ![v1547.toNat, 162, 0]
def k0_off85 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1550 : Index := Scalar.indexCast arg9
  let c163 : Index := 163#32
  let c0_516 : Index := 0#32
  ![v1550.toNat, 163, 0]
def k0_off86 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1553 : Index := Scalar.indexCast arg9
  let c164 : Index := 164#32
  let c0_517 : Index := 0#32
  ![v1553.toNat, 164, 0]
def k0_off87 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1556 : Index := Scalar.indexCast arg9
  let c165 : Index := 165#32
  let c0_518 : Index := 0#32
  ![v1556.toNat, 165, 0]
def k0_off88 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1559 : Index := Scalar.indexCast arg9
  let c166 : Index := 166#32
  let c0_519 : Index := 0#32
  ![v1559.toNat, 166, 0]
def k0_off89 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1562 : Index := Scalar.indexCast arg9
  let c167 : Index := 167#32
  let c0_520 : Index := 0#32
  ![v1562.toNat, 167, 0]
def k0_off90 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1651 : Index := Scalar.indexCast arg9
  let c165_559 : Index := 165#32
  let c0_560 : Index := 0#32
  ![v1651.toNat, 165, 0]
def k0_off91 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1654 : Index := Scalar.indexCast arg9
  let c166_561 : Index := 166#32
  let c0_562 : Index := 0#32
  ![v1654.toNat, 166, 0]
def k0_off92 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1657 : Index := Scalar.indexCast arg9
  let c167_563 : Index := 167#32
  let c0_564 : Index := 0#32
  ![v1657.toNat, 167, 0]
def k0_off93 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1660 : Index := Scalar.indexCast arg9
  let c168 : Index := 168#32
  let c0_565 : Index := 0#32
  ![v1660.toNat, 168, 0]
def k0_off94 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1663 : Index := Scalar.indexCast arg9
  let c169 : Index := 169#32
  let c0_566 : Index := 0#32
  ![v1663.toNat, 169, 0]
def k0_off95 (k0_t1 : Fin k0_t1_loop.trips) : Fin 4 → Nat :=
  let c0_i32 : BitVec 32 := 0#32
  let c1_i32 : BitVec 32 := 1#32
  let arg9 : BitVec 32 := Scf.iv c0_i32 c1_i32 k0_t1
  let v1749 : Index := Scalar.indexCast arg9
  let c24 : Index := 24#32
  let c0_591 : Index := 0#32
  ![v1749.toNat, 24, 0, 0]
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_598 : BitVec 32 := 128#32
  let v1775 : BitVec 32 := Scalar.muli arg9 c128_i32_598
  v1775
def k0_off96 (k0_t1 : Fin k0_t1_loop.trips) : Fin 2 → Nat :=
  let c48 : Index := 48#32
  let c0_i32 : BitVec 32 := 0#32
  let c1_i32 : BitVec 32 := 1#32
  let arg9 : BitVec 32 := Scf.iv c0_i32 c1_i32 k0_t1
  let c128_i32_598 : BitVec 32 := 128#32
  let v1775 : BitVec 32 := Scalar.muli arg9 c128_i32_598
  let v1776 : BitVec 32 := v1775
  let v1777 : Index := Scalar.indexCast v1776
  ![48, v1777.toNat]
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_606 : BitVec 32 := 128#32
  let v1803 : BitVec 32 := Scalar.muli arg9 c128_i32_606
  v1803
def k0_off97 (k0_t1 : Fin k0_t1_loop.trips) : Fin 2 → Nat :=
  let c368 : Index := 368#32
  let c0_i32 : BitVec 32 := 0#32
  let c1_i32 : BitVec 32 := 1#32
  let arg9 : BitVec 32 := Scf.iv c0_i32 c1_i32 k0_t1
  let c128_i32_606 : BitVec 32 := 128#32
  let v1803 : BitVec 32 := Scalar.muli arg9 c128_i32_606
  let v1804 : BitVec 32 := v1803
  let v1805 : Index := Scalar.indexCast v1804
  ![368, v1805.toNat]
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_614 : BitVec 32 := 128#32
  let v1831 : BitVec 32 := Scalar.muli arg9 c128_i32_614
  v1831
def k0_off98 (k0_t1 : Fin k0_t1_loop.trips) : Fin 2 → Nat :=
  let c688 : Index := 688#32
  let c0_i32 : BitVec 32 := 0#32
  let c1_i32 : BitVec 32 := 1#32
  let arg9 : BitVec 32 := Scf.iv c0_i32 c1_i32 k0_t1
  let c128_i32_614 : BitVec 32 := 128#32
  let v1831 : BitVec 32 := Scalar.muli arg9 c128_i32_614
  let v1832 : BitVec 32 := v1831
  let v1833 : Index := Scalar.indexCast v1832
  ![688, v1833.toNat]
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_622 : BitVec 32 := 128#32
  let v1859 : BitVec 32 := Scalar.muli arg9 c128_i32_622
  v1859
def k0_off99 (k0_t1 : Fin k0_t1_loop.trips) : Fin 2 → Nat :=
  let c1008 : Index := 1008#32
  let c0_i32 : BitVec 32 := 0#32
  let c1_i32 : BitVec 32 := 1#32
  let arg9 : BitVec 32 := Scf.iv c0_i32 c1_i32 k0_t1
  let c128_i32_622 : BitVec 32 := 128#32
  let v1859 : BitVec 32 := Scalar.muli arg9 c128_i32_622
  let v1860 : BitVec 32 := v1859
  let v1861 : Index := Scalar.indexCast v1860
  ![1008, v1861.toNat]
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_630 : BitVec 32 := 128#32
  let v1887 : BitVec 32 := Scalar.muli arg9 c128_i32_630
  v1887
def k0_off100 (k0_t1 : Fin k0_t1_loop.trips) : Fin 2 → Nat :=
  let c1328 : Index := 1328#32
  let c0_i32 : BitVec 32 := 0#32
  let c1_i32 : BitVec 32 := 1#32
  let arg9 : BitVec 32 := Scf.iv c0_i32 c1_i32 k0_t1
  let c128_i32_630 : BitVec 32 := 128#32
  let v1887 : BitVec 32 := Scalar.muli arg9 c128_i32_630
  let v1888 : BitVec 32 := v1887
  let v1889 : Index := Scalar.indexCast v1888
  ![1328, v1889.toNat]
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_638 : BitVec 32 := 128#32
  let v1915 : BitVec 32 := Scalar.muli arg9 c128_i32_638
  v1915
def k0_off101 (k0_t1 : Fin k0_t1_loop.trips) : Fin 2 → Nat :=
  let c1648 : Index := 1648#32
  let c0_i32 : BitVec 32 := 0#32
  let c1_i32 : BitVec 32 := 1#32
  let arg9 : BitVec 32 := Scf.iv c0_i32 c1_i32 k0_t1
  let c128_i32_638 : BitVec 32 := 128#32
  let v1915 : BitVec 32 := Scalar.muli arg9 c128_i32_638
  let v1916 : BitVec 32 := v1915
  let v1917 : Index := Scalar.indexCast v1916
  ![1648, v1917.toNat]
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_646 : BitVec 32 := 128#32
  let v1943 : BitVec 32 := Scalar.muli arg9 c128_i32_646
  v1943
def k0_off102 (k0_t1 : Fin k0_t1_loop.trips) : Fin 2 → Nat :=
  let c1968 : Index := 1968#32
  let c0_i32 : BitVec 32 := 0#32
  let c1_i32 : BitVec 32 := 1#32
  let arg9 : BitVec 32 := Scf.iv c0_i32 c1_i32 k0_t1
  let c128_i32_646 : BitVec 32 := 128#32
  let v1943 : BitVec 32 := Scalar.muli arg9 c128_i32_646
  let v1944 : BitVec 32 := v1943
  let v1945 : Index := Scalar.indexCast v1944
  ![1968, v1945.toNat]
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_654 : BitVec 32 := 128#32
  let v1971 : BitVec 32 := Scalar.muli arg9 c128_i32_654
  v1971
def k0_off103 (k0_t1 : Fin k0_t1_loop.trips) : Fin 2 → Nat :=
  let c2288 : Index := 2288#32
  let c0_i32 : BitVec 32 := 0#32
  let c1_i32 : BitVec 32 := 1#32
  let arg9 : BitVec 32 := Scf.iv c0_i32 c1_i32 k0_t1
  let c128_i32_654 : BitVec 32 := 128#32
  let v1971 : BitVec 32 := Scalar.muli arg9 c128_i32_654
  let v1972 : BitVec 32 := v1971
  let v1973 : Index := Scalar.indexCast v1972
  ![2288, v1973.toNat]
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_662 : BitVec 32 := 128#32
  let v1999 : BitVec 32 := Scalar.muli arg9 c128_i32_662
  v1999
def k0_off104 (k0_t1 : Fin k0_t1_loop.trips) : Fin 2 → Nat :=
  let c2608 : Index := 2608#32
  let c0_i32 : BitVec 32 := 0#32
  let c1_i32 : BitVec 32 := 1#32
  let arg9 : BitVec 32 := Scf.iv c0_i32 c1_i32 k0_t1
  let c128_i32_662 : BitVec 32 := 128#32
  let v1999 : BitVec 32 := Scalar.muli arg9 c128_i32_662
  let v2000 : BitVec 32 := v1999
  let v2001 : Index := Scalar.indexCast v2000
  ![2608, v2001.toNat]
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_670 : BitVec 32 := 128#32
  let v2027 : BitVec 32 := Scalar.muli arg9 c128_i32_670
  v2027
def k0_off105 (k0_t1 : Fin k0_t1_loop.trips) : Fin 2 → Nat :=
  let c2928 : Index := 2928#32
  let c0_i32 : BitVec 32 := 0#32
  let c1_i32 : BitVec 32 := 1#32
  let arg9 : BitVec 32 := Scf.iv c0_i32 c1_i32 k0_t1
  let c128_i32_670 : BitVec 32 := 128#32
  let v2027 : BitVec 32 := Scalar.muli arg9 c128_i32_670
  let v2028 : BitVec 32 := v2027
  let v2029 : Index := Scalar.indexCast v2028
  ![2928, v2029.toNat]
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_678 : BitVec 32 := 128#32
  let v2055 : BitVec 32 := Scalar.muli arg9 c128_i32_678
  v2055
def k0_off106 (k0_t1 : Fin k0_t1_loop.trips) : Fin 2 → Nat :=
  let c3248 : Index := 3248#32
  let c0_i32 : BitVec 32 := 0#32
  let c1_i32 : BitVec 32 := 1#32
  let arg9 : BitVec 32 := Scf.iv c0_i32 c1_i32 k0_t1
  let c128_i32_678 : BitVec 32 := 128#32
  let v2055 : BitVec 32 := Scalar.muli arg9 c128_i32_678
  let v2056 : BitVec 32 := v2055
  let v2057 : Index := Scalar.indexCast v2056
  ![3248, v2057.toNat]
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_686 : BitVec 32 := 128#32
  let v2083 : BitVec 32 := Scalar.muli arg9 c128_i32_686
  v2083
def k0_off107 (k0_t1 : Fin k0_t1_loop.trips) : Fin 2 → Nat :=
  let c3568 : Index := 3568#32
  let c0_i32 : BitVec 32 := 0#32
  let c1_i32 : BitVec 32 := 1#32
  let arg9 : BitVec 32 := Scf.iv c0_i32 c1_i32 k0_t1
  let c128_i32_686 : BitVec 32 := 128#32
  let v2083 : BitVec 32 := Scalar.muli arg9 c128_i32_686
  let v2084 : BitVec 32 := v2083
  let v2085 : Index := Scalar.indexCast v2084
  ![3568, v2085.toNat]
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_694 : BitVec 32 := 128#32
  let v2111 : BitVec 32 := Scalar.muli arg9 c128_i32_694
  v2111
def k0_off108 (k0_t1 : Fin k0_t1_loop.trips) : Fin 2 → Nat :=
  let c3888 : Index := 3888#32
  let c0_i32 : BitVec 32 := 0#32
  let c1_i32 : BitVec 32 := 1#32
  let arg9 : BitVec 32 := Scf.iv c0_i32 c1_i32 k0_t1
  let c128_i32_694 : BitVec 32 := 128#32
  let v2111 : BitVec 32 := Scalar.muli arg9 c128_i32_694
  let v2112 : BitVec 32 := v2111
  let v2113 : Index := Scalar.indexCast v2112
  ![3888, v2113.toNat]
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_702 : BitVec 32 := 128#32
  let v2139 : BitVec 32 := Scalar.muli arg9 c128_i32_702
  v2139
def k0_off109 (k0_t1 : Fin k0_t1_loop.trips) : Fin 2 → Nat :=
  let c4208 : Index := 4208#32
  let c0_i32 : BitVec 32 := 0#32
  let c1_i32 : BitVec 32 := 1#32
  let arg9 : BitVec 32 := Scf.iv c0_i32 c1_i32 k0_t1
  let c128_i32_702 : BitVec 32 := 128#32
  let v2139 : BitVec 32 := Scalar.muli arg9 c128_i32_702
  let v2140 : BitVec 32 := v2139
  let v2141 : Index := Scalar.indexCast v2140
  ![4208, v2141.toNat]
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_710 : BitVec 32 := 128#32
  let v2167 : BitVec 32 := Scalar.muli arg9 c128_i32_710
  v2167
def k0_off110 (k0_t1 : Fin k0_t1_loop.trips) : Fin 2 → Nat :=
  let c4528 : Index := 4528#32
  let c0_i32 : BitVec 32 := 0#32
  let c1_i32 : BitVec 32 := 1#32
  let arg9 : BitVec 32 := Scf.iv c0_i32 c1_i32 k0_t1
  let c128_i32_710 : BitVec 32 := 128#32
  let v2167 : BitVec 32 := Scalar.muli arg9 c128_i32_710
  let v2168 : BitVec 32 := v2167
  let v2169 : Index := Scalar.indexCast v2168
  ![4528, v2169.toNat]
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_718 : BitVec 32 := 128#32
  let v2195 : BitVec 32 := Scalar.muli arg9 c128_i32_718
  v2195
def k0_off111 (k0_t1 : Fin k0_t1_loop.trips) : Fin 2 → Nat :=
  let c4848 : Index := 4848#32
  let c0_i32 : BitVec 32 := 0#32
  let c1_i32 : BitVec 32 := 1#32
  let arg9 : BitVec 32 := Scf.iv c0_i32 c1_i32 k0_t1
  let c128_i32_718 : BitVec 32 := 128#32
  let v2195 : BitVec 32 := Scalar.muli arg9 c128_i32_718
  let v2196 : BitVec 32 := v2195
  let v2197 : Index := Scalar.indexCast v2196
  ![4848, v2197.toNat]
def k0_off112 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2201 : Index := Scalar.indexCast arg9
  let c205 : Index := 205#32
  let c0_719 : Index := 0#32
  ![v2201.toNat, 205, 0]
def k0_off113 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2204 : Index := Scalar.indexCast arg9
  let c206 : Index := 206#32
  let c0_720 : Index := 0#32
  ![v2204.toNat, 206, 0]
def k0_off114 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2207 : Index := Scalar.indexCast arg9
  let c207 : Index := 207#32
  let c0_721 : Index := 0#32
  ![v2207.toNat, 207, 0]
def k0_off115 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2210 : Index := Scalar.indexCast arg9
  let c208 : Index := 208#32
  let c0_722 : Index := 0#32
  ![v2210.toNat, 208, 0]
def k0_off116 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2213 : Index := Scalar.indexCast arg9
  let c209 : Index := 209#32
  let c0_723 : Index := 0#32
  ![v2213.toNat, 209, 0]
def k0_off117 (k0_t1 : Fin k0_t1_loop.trips) : Fin 4 → Nat :=
  let c0_i32 : BitVec 32 := 0#32
  let c1_i32 : BitVec 32 := 1#32
  let arg9 : BitVec 32 := Scf.iv c0_i32 c1_i32 k0_t1
  let v2299 : Index := Scalar.indexCast arg9
  let c32_761 : Index := 32#32
  let c0_762 : Index := 0#32
  ![v2299.toNat, 32, 0, 0]
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_766 : BitVec 32 := 128#32
  let v2311 : BitVec 32 := Scalar.muli arg9 c128_i32_766
  v2311
def k0_off118 (k0_t1 : Fin k0_t1_loop.trips) : Fin 2 → Nat :=
  let c64_767 : Index := 64#32
  let c0_i32 : BitVec 32 := 0#32
  let c1_i32 : BitVec 32 := 1#32
  let arg9 : BitVec 32 := Scf.iv c0_i32 c1_i32 k0_t1
  let c128_i32_766 : BitVec 32 := 128#32
  let v2311 : BitVec 32 := Scalar.muli arg9 c128_i32_766
  let v2312 : BitVec 32 := v2311
  let v2313 : Index := Scalar.indexCast v2312
  ![64, v2313.toNat]
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_771 : BitVec 32 := 128#32
  let v2325 : BitVec 32 := Scalar.muli arg9 c128_i32_771
  v2325
def k0_off119 (k0_t1 : Fin k0_t1_loop.trips) : Fin 2 → Nat :=
  let c384 : Index := 384#32
  let c0_i32 : BitVec 32 := 0#32
  let c1_i32 : BitVec 32 := 1#32
  let arg9 : BitVec 32 := Scf.iv c0_i32 c1_i32 k0_t1
  let c128_i32_771 : BitVec 32 := 128#32
  let v2325 : BitVec 32 := Scalar.muli arg9 c128_i32_771
  let v2326 : BitVec 32 := v2325
  let v2327 : Index := Scalar.indexCast v2326
  ![384, v2327.toNat]
def k0_mult68 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_775 : BitVec 32 := 128#32
  let v2339 : BitVec 32 := Scalar.muli arg9 c128_i32_775
  v2339
def k0_off120 (k0_t1 : Fin k0_t1_loop.trips) : Fin 2 → Nat :=
  let c704 : Index := 704#32
  let c0_i32 : BitVec 32 := 0#32
  let c1_i32 : BitVec 32 := 1#32
  let arg9 : BitVec 32 := Scf.iv c0_i32 c1_i32 k0_t1
  let c128_i32_775 : BitVec 32 := 128#32
  let v2339 : BitVec 32 := Scalar.muli arg9 c128_i32_775
  let v2340 : BitVec 32 := v2339
  let v2341 : Index := Scalar.indexCast v2340
  ![704, v2341.toNat]
def k0_mult69 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_779 : BitVec 32 := 128#32
  let v2353 : BitVec 32 := Scalar.muli arg9 c128_i32_779
  v2353
def k0_off121 (k0_t1 : Fin k0_t1_loop.trips) : Fin 2 → Nat :=
  let c1024 : Index := 1024#32
  let c0_i32 : BitVec 32 := 0#32
  let c1_i32 : BitVec 32 := 1#32
  let arg9 : BitVec 32 := Scf.iv c0_i32 c1_i32 k0_t1
  let c128_i32_779 : BitVec 32 := 128#32
  let v2353 : BitVec 32 := Scalar.muli arg9 c128_i32_779
  let v2354 : BitVec 32 := v2353
  let v2355 : Index := Scalar.indexCast v2354
  ![1024, v2355.toNat]
def k0_mult70 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_783 : BitVec 32 := 128#32
  let v2367 : BitVec 32 := Scalar.muli arg9 c128_i32_783
  v2367
def k0_off122 (k0_t1 : Fin k0_t1_loop.trips) : Fin 2 → Nat :=
  let c1344 : Index := 1344#32
  let c0_i32 : BitVec 32 := 0#32
  let c1_i32 : BitVec 32 := 1#32
  let arg9 : BitVec 32 := Scf.iv c0_i32 c1_i32 k0_t1
  let c128_i32_783 : BitVec 32 := 128#32
  let v2367 : BitVec 32 := Scalar.muli arg9 c128_i32_783
  let v2368 : BitVec 32 := v2367
  let v2369 : Index := Scalar.indexCast v2368
  ![1344, v2369.toNat]
def k0_mult71 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_787 : BitVec 32 := 128#32
  let v2381 : BitVec 32 := Scalar.muli arg9 c128_i32_787
  v2381
def k0_off123 (k0_t1 : Fin k0_t1_loop.trips) : Fin 2 → Nat :=
  let c1664 : Index := 1664#32
  let c0_i32 : BitVec 32 := 0#32
  let c1_i32 : BitVec 32 := 1#32
  let arg9 : BitVec 32 := Scf.iv c0_i32 c1_i32 k0_t1
  let c128_i32_787 : BitVec 32 := 128#32
  let v2381 : BitVec 32 := Scalar.muli arg9 c128_i32_787
  let v2382 : BitVec 32 := v2381
  let v2383 : Index := Scalar.indexCast v2382
  ![1664, v2383.toNat]
def k0_mult72 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_791 : BitVec 32 := 128#32
  let v2395 : BitVec 32 := Scalar.muli arg9 c128_i32_791
  v2395
def k0_off124 (k0_t1 : Fin k0_t1_loop.trips) : Fin 2 → Nat :=
  let c1984 : Index := 1984#32
  let c0_i32 : BitVec 32 := 0#32
  let c1_i32 : BitVec 32 := 1#32
  let arg9 : BitVec 32 := Scf.iv c0_i32 c1_i32 k0_t1
  let c128_i32_791 : BitVec 32 := 128#32
  let v2395 : BitVec 32 := Scalar.muli arg9 c128_i32_791
  let v2396 : BitVec 32 := v2395
  let v2397 : Index := Scalar.indexCast v2396
  ![1984, v2397.toNat]
def k0_mult73 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_795 : BitVec 32 := 128#32
  let v2409 : BitVec 32 := Scalar.muli arg9 c128_i32_795
  v2409
def k0_off125 (k0_t1 : Fin k0_t1_loop.trips) : Fin 2 → Nat :=
  let c2304 : Index := 2304#32
  let c0_i32 : BitVec 32 := 0#32
  let c1_i32 : BitVec 32 := 1#32
  let arg9 : BitVec 32 := Scf.iv c0_i32 c1_i32 k0_t1
  let c128_i32_795 : BitVec 32 := 128#32
  let v2409 : BitVec 32 := Scalar.muli arg9 c128_i32_795
  let v2410 : BitVec 32 := v2409
  let v2411 : Index := Scalar.indexCast v2410
  ![2304, v2411.toNat]
def k0_mult74 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_799 : BitVec 32 := 128#32
  let v2423 : BitVec 32 := Scalar.muli arg9 c128_i32_799
  v2423
def k0_off126 (k0_t1 : Fin k0_t1_loop.trips) : Fin 2 → Nat :=
  let c2624 : Index := 2624#32
  let c0_i32 : BitVec 32 := 0#32
  let c1_i32 : BitVec 32 := 1#32
  let arg9 : BitVec 32 := Scf.iv c0_i32 c1_i32 k0_t1
  let c128_i32_799 : BitVec 32 := 128#32
  let v2423 : BitVec 32 := Scalar.muli arg9 c128_i32_799
  let v2424 : BitVec 32 := v2423
  let v2425 : Index := Scalar.indexCast v2424
  ![2624, v2425.toNat]
def k0_mult75 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_803 : BitVec 32 := 128#32
  let v2437 : BitVec 32 := Scalar.muli arg9 c128_i32_803
  v2437
def k0_off127 (k0_t1 : Fin k0_t1_loop.trips) : Fin 2 → Nat :=
  let c2944 : Index := 2944#32
  let c0_i32 : BitVec 32 := 0#32
  let c1_i32 : BitVec 32 := 1#32
  let arg9 : BitVec 32 := Scf.iv c0_i32 c1_i32 k0_t1
  let c128_i32_803 : BitVec 32 := 128#32
  let v2437 : BitVec 32 := Scalar.muli arg9 c128_i32_803
  let v2438 : BitVec 32 := v2437
  let v2439 : Index := Scalar.indexCast v2438
  ![2944, v2439.toNat]
def k0_mult76 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_807 : BitVec 32 := 128#32
  let v2451 : BitVec 32 := Scalar.muli arg9 c128_i32_807
  v2451
def k0_off128 (k0_t1 : Fin k0_t1_loop.trips) : Fin 2 → Nat :=
  let c3264 : Index := 3264#32
  let c0_i32 : BitVec 32 := 0#32
  let c1_i32 : BitVec 32 := 1#32
  let arg9 : BitVec 32 := Scf.iv c0_i32 c1_i32 k0_t1
  let c128_i32_807 : BitVec 32 := 128#32
  let v2451 : BitVec 32 := Scalar.muli arg9 c128_i32_807
  let v2452 : BitVec 32 := v2451
  let v2453 : Index := Scalar.indexCast v2452
  ![3264, v2453.toNat]
def k0_mult77 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_811 : BitVec 32 := 128#32
  let v2465 : BitVec 32 := Scalar.muli arg9 c128_i32_811
  v2465
def k0_off129 (k0_t1 : Fin k0_t1_loop.trips) : Fin 2 → Nat :=
  let c3584 : Index := 3584#32
  let c0_i32 : BitVec 32 := 0#32
  let c1_i32 : BitVec 32 := 1#32
  let arg9 : BitVec 32 := Scf.iv c0_i32 c1_i32 k0_t1
  let c128_i32_811 : BitVec 32 := 128#32
  let v2465 : BitVec 32 := Scalar.muli arg9 c128_i32_811
  let v2466 : BitVec 32 := v2465
  let v2467 : Index := Scalar.indexCast v2466
  ![3584, v2467.toNat]
def k0_mult78 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_815 : BitVec 32 := 128#32
  let v2479 : BitVec 32 := Scalar.muli arg9 c128_i32_815
  v2479
def k0_off130 (k0_t1 : Fin k0_t1_loop.trips) : Fin 2 → Nat :=
  let c3904 : Index := 3904#32
  let c0_i32 : BitVec 32 := 0#32
  let c1_i32 : BitVec 32 := 1#32
  let arg9 : BitVec 32 := Scf.iv c0_i32 c1_i32 k0_t1
  let c128_i32_815 : BitVec 32 := 128#32
  let v2479 : BitVec 32 := Scalar.muli arg9 c128_i32_815
  let v2480 : BitVec 32 := v2479
  let v2481 : Index := Scalar.indexCast v2480
  ![3904, v2481.toNat]
def k0_mult79 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_819 : BitVec 32 := 128#32
  let v2493 : BitVec 32 := Scalar.muli arg9 c128_i32_819
  v2493
def k0_off131 (k0_t1 : Fin k0_t1_loop.trips) : Fin 2 → Nat :=
  let c4224 : Index := 4224#32
  let c0_i32 : BitVec 32 := 0#32
  let c1_i32 : BitVec 32 := 1#32
  let arg9 : BitVec 32 := Scf.iv c0_i32 c1_i32 k0_t1
  let c128_i32_819 : BitVec 32 := 128#32
  let v2493 : BitVec 32 := Scalar.muli arg9 c128_i32_819
  let v2494 : BitVec 32 := v2493
  let v2495 : Index := Scalar.indexCast v2494
  ![4224, v2495.toNat]
def k0_mult80 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_823 : BitVec 32 := 128#32
  let v2507 : BitVec 32 := Scalar.muli arg9 c128_i32_823
  v2507
def k0_off132 (k0_t1 : Fin k0_t1_loop.trips) : Fin 2 → Nat :=
  let c4544 : Index := 4544#32
  let c0_i32 : BitVec 32 := 0#32
  let c1_i32 : BitVec 32 := 1#32
  let arg9 : BitVec 32 := Scf.iv c0_i32 c1_i32 k0_t1
  let c128_i32_823 : BitVec 32 := 128#32
  let v2507 : BitVec 32 := Scalar.muli arg9 c128_i32_823
  let v2508 : BitVec 32 := v2507
  let v2509 : Index := Scalar.indexCast v2508
  ![4544, v2509.toNat]
def k0_mult81 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_827 : BitVec 32 := 128#32
  let v2521 : BitVec 32 := Scalar.muli arg9 c128_i32_827
  v2521
def k0_off133 (k0_t1 : Fin k0_t1_loop.trips) : Fin 2 → Nat :=
  let c4864 : Index := 4864#32
  let c0_i32 : BitVec 32 := 0#32
  let c1_i32 : BitVec 32 := 1#32
  let arg9 : BitVec 32 := Scf.iv c0_i32 c1_i32 k0_t1
  let c128_i32_827 : BitVec 32 := 128#32
  let v2521 : BitVec 32 := Scalar.muli arg9 c128_i32_827
  let v2522 : BitVec 32 := v2521
  let v2523 : Index := Scalar.indexCast v2522
  ![4864, v2523.toNat]
def k0_off134 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2527 : Index := Scalar.indexCast arg9
  let c245 : Index := 245#32
  let c0_828 : Index := 0#32
  ![v2527.toNat, 245, 0]
def k0_off135 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2530 : Index := Scalar.indexCast arg9
  let c246 : Index := 246#32
  let c0_829 : Index := 0#32
  ![v2530.toNat, 246, 0]
def k0_off136 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2533 : Index := Scalar.indexCast arg9
  let c247 : Index := 247#32
  let c0_830 : Index := 0#32
  ![v2533.toNat, 247, 0]
def k0_off137 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2536 : Index := Scalar.indexCast arg9
  let c248 : Index := 248#32
  let c0_831 : Index := 0#32
  ![v2536.toNat, 248, 0]
def k0_off138 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2539 : Index := Scalar.indexCast arg9
  let c249 : Index := 249#32
  let c0_832 : Index := 0#32
  ![v2539.toNat, 249, 0]
def k0_off139 (k0_t1 : Fin k0_t1_loop.trips) : Fin 4 → Nat :=
  let c0_i32 : BitVec 32 := 0#32
  let c1_i32 : BitVec 32 := 1#32
  let arg9 : BitVec 32 := Scf.iv c0_i32 c1_i32 k0_t1
  let v2625 : Index := Scalar.indexCast arg9
  let c40 : Index := 40#32
  let c0_870 : Index := 0#32
  ![v2625.toNat, 40, 0, 0]
def k0_mult82 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_874 : BitVec 32 := 128#32
  let v2637 : BitVec 32 := Scalar.muli arg9 c128_i32_874
  v2637
def k0_off140 (k0_t1 : Fin k0_t1_loop.trips) : Fin 2 → Nat :=
  let c80 : Index := 80#32
  let c0_i32 : BitVec 32 := 0#32
  let c1_i32 : BitVec 32 := 1#32
  let arg9 : BitVec 32 := Scf.iv c0_i32 c1_i32 k0_t1
  let c128_i32_874 : BitVec 32 := 128#32
  let v2637 : BitVec 32 := Scalar.muli arg9 c128_i32_874
  let v2638 : BitVec 32 := v2637
  let v2639 : Index := Scalar.indexCast v2638
  ![80, v2639.toNat]
def k0_mult83 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_878 : BitVec 32 := 128#32
  let v2651 : BitVec 32 := Scalar.muli arg9 c128_i32_878
  v2651
def k0_off141 (k0_t1 : Fin k0_t1_loop.trips) : Fin 2 → Nat :=
  let c400 : Index := 400#32
  let c0_i32 : BitVec 32 := 0#32
  let c1_i32 : BitVec 32 := 1#32
  let arg9 : BitVec 32 := Scf.iv c0_i32 c1_i32 k0_t1
  let c128_i32_878 : BitVec 32 := 128#32
  let v2651 : BitVec 32 := Scalar.muli arg9 c128_i32_878
  let v2652 : BitVec 32 := v2651
  let v2653 : Index := Scalar.indexCast v2652
  ![400, v2653.toNat]
def k0_mult84 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_882 : BitVec 32 := 128#32
  let v2665 : BitVec 32 := Scalar.muli arg9 c128_i32_882
  v2665
def k0_off142 (k0_t1 : Fin k0_t1_loop.trips) : Fin 2 → Nat :=
  let c720 : Index := 720#32
  let c0_i32 : BitVec 32 := 0#32
  let c1_i32 : BitVec 32 := 1#32
  let arg9 : BitVec 32 := Scf.iv c0_i32 c1_i32 k0_t1
  let c128_i32_882 : BitVec 32 := 128#32
  let v2665 : BitVec 32 := Scalar.muli arg9 c128_i32_882
  let v2666 : BitVec 32 := v2665
  let v2667 : Index := Scalar.indexCast v2666
  ![720, v2667.toNat]
def k0_mult85 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_886 : BitVec 32 := 128#32
  let v2679 : BitVec 32 := Scalar.muli arg9 c128_i32_886
  v2679
def k0_off143 (k0_t1 : Fin k0_t1_loop.trips) : Fin 2 → Nat :=
  let c1040 : Index := 1040#32
  let c0_i32 : BitVec 32 := 0#32
  let c1_i32 : BitVec 32 := 1#32
  let arg9 : BitVec 32 := Scf.iv c0_i32 c1_i32 k0_t1
  let c128_i32_886 : BitVec 32 := 128#32
  let v2679 : BitVec 32 := Scalar.muli arg9 c128_i32_886
  let v2680 : BitVec 32 := v2679
  let v2681 : Index := Scalar.indexCast v2680
  ![1040, v2681.toNat]
def k0_mult86 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_890 : BitVec 32 := 128#32
  let v2693 : BitVec 32 := Scalar.muli arg9 c128_i32_890
  v2693
def k0_off144 (k0_t1 : Fin k0_t1_loop.trips) : Fin 2 → Nat :=
  let c1360 : Index := 1360#32
  let c0_i32 : BitVec 32 := 0#32
  let c1_i32 : BitVec 32 := 1#32
  let arg9 : BitVec 32 := Scf.iv c0_i32 c1_i32 k0_t1
  let c128_i32_890 : BitVec 32 := 128#32
  let v2693 : BitVec 32 := Scalar.muli arg9 c128_i32_890
  let v2694 : BitVec 32 := v2693
  let v2695 : Index := Scalar.indexCast v2694
  ![1360, v2695.toNat]
def k0_mult87 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_894 : BitVec 32 := 128#32
  let v2707 : BitVec 32 := Scalar.muli arg9 c128_i32_894
  v2707
def k0_off145 (k0_t1 : Fin k0_t1_loop.trips) : Fin 2 → Nat :=
  let c1680 : Index := 1680#32
  let c0_i32 : BitVec 32 := 0#32
  let c1_i32 : BitVec 32 := 1#32
  let arg9 : BitVec 32 := Scf.iv c0_i32 c1_i32 k0_t1
  let c128_i32_894 : BitVec 32 := 128#32
  let v2707 : BitVec 32 := Scalar.muli arg9 c128_i32_894
  let v2708 : BitVec 32 := v2707
  let v2709 : Index := Scalar.indexCast v2708
  ![1680, v2709.toNat]
def k0_mult88 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_898 : BitVec 32 := 128#32
  let v2721 : BitVec 32 := Scalar.muli arg9 c128_i32_898
  v2721
def k0_off146 (k0_t1 : Fin k0_t1_loop.trips) : Fin 2 → Nat :=
  let c2000 : Index := 2000#32
  let c0_i32 : BitVec 32 := 0#32
  let c1_i32 : BitVec 32 := 1#32
  let arg9 : BitVec 32 := Scf.iv c0_i32 c1_i32 k0_t1
  let c128_i32_898 : BitVec 32 := 128#32
  let v2721 : BitVec 32 := Scalar.muli arg9 c128_i32_898
  let v2722 : BitVec 32 := v2721
  let v2723 : Index := Scalar.indexCast v2722
  ![2000, v2723.toNat]
def k0_mult89 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_902 : BitVec 32 := 128#32
  let v2735 : BitVec 32 := Scalar.muli arg9 c128_i32_902
  v2735
def k0_off147 (k0_t1 : Fin k0_t1_loop.trips) : Fin 2 → Nat :=
  let c2320 : Index := 2320#32
  let c0_i32 : BitVec 32 := 0#32
  let c1_i32 : BitVec 32 := 1#32
  let arg9 : BitVec 32 := Scf.iv c0_i32 c1_i32 k0_t1
  let c128_i32_902 : BitVec 32 := 128#32
  let v2735 : BitVec 32 := Scalar.muli arg9 c128_i32_902
  let v2736 : BitVec 32 := v2735
  let v2737 : Index := Scalar.indexCast v2736
  ![2320, v2737.toNat]
def k0_mult90 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_906 : BitVec 32 := 128#32
  let v2749 : BitVec 32 := Scalar.muli arg9 c128_i32_906
  v2749
def k0_off148 (k0_t1 : Fin k0_t1_loop.trips) : Fin 2 → Nat :=
  let c2640 : Index := 2640#32
  let c0_i32 : BitVec 32 := 0#32
  let c1_i32 : BitVec 32 := 1#32
  let arg9 : BitVec 32 := Scf.iv c0_i32 c1_i32 k0_t1
  let c128_i32_906 : BitVec 32 := 128#32
  let v2749 : BitVec 32 := Scalar.muli arg9 c128_i32_906
  let v2750 : BitVec 32 := v2749
  let v2751 : Index := Scalar.indexCast v2750
  ![2640, v2751.toNat]
def k0_mult91 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_910 : BitVec 32 := 128#32
  let v2763 : BitVec 32 := Scalar.muli arg9 c128_i32_910
  v2763
def k0_off149 (k0_t1 : Fin k0_t1_loop.trips) : Fin 2 → Nat :=
  let c2960 : Index := 2960#32
  let c0_i32 : BitVec 32 := 0#32
  let c1_i32 : BitVec 32 := 1#32
  let arg9 : BitVec 32 := Scf.iv c0_i32 c1_i32 k0_t1
  let c128_i32_910 : BitVec 32 := 128#32
  let v2763 : BitVec 32 := Scalar.muli arg9 c128_i32_910
  let v2764 : BitVec 32 := v2763
  let v2765 : Index := Scalar.indexCast v2764
  ![2960, v2765.toNat]
def k0_mult92 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_914 : BitVec 32 := 128#32
  let v2777 : BitVec 32 := Scalar.muli arg9 c128_i32_914
  v2777
def k0_off150 (k0_t1 : Fin k0_t1_loop.trips) : Fin 2 → Nat :=
  let c3280 : Index := 3280#32
  let c0_i32 : BitVec 32 := 0#32
  let c1_i32 : BitVec 32 := 1#32
  let arg9 : BitVec 32 := Scf.iv c0_i32 c1_i32 k0_t1
  let c128_i32_914 : BitVec 32 := 128#32
  let v2777 : BitVec 32 := Scalar.muli arg9 c128_i32_914
  let v2778 : BitVec 32 := v2777
  let v2779 : Index := Scalar.indexCast v2778
  ![3280, v2779.toNat]
def k0_mult93 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_918 : BitVec 32 := 128#32
  let v2791 : BitVec 32 := Scalar.muli arg9 c128_i32_918
  v2791
def k0_off151 (k0_t1 : Fin k0_t1_loop.trips) : Fin 2 → Nat :=
  let c3600 : Index := 3600#32
  let c0_i32 : BitVec 32 := 0#32
  let c1_i32 : BitVec 32 := 1#32
  let arg9 : BitVec 32 := Scf.iv c0_i32 c1_i32 k0_t1
  let c128_i32_918 : BitVec 32 := 128#32
  let v2791 : BitVec 32 := Scalar.muli arg9 c128_i32_918
  let v2792 : BitVec 32 := v2791
  let v2793 : Index := Scalar.indexCast v2792
  ![3600, v2793.toNat]
def k0_mult94 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_922 : BitVec 32 := 128#32
  let v2805 : BitVec 32 := Scalar.muli arg9 c128_i32_922
  v2805
def k0_off152 (k0_t1 : Fin k0_t1_loop.trips) : Fin 2 → Nat :=
  let c3920 : Index := 3920#32
  let c0_i32 : BitVec 32 := 0#32
  let c1_i32 : BitVec 32 := 1#32
  let arg9 : BitVec 32 := Scf.iv c0_i32 c1_i32 k0_t1
  let c128_i32_922 : BitVec 32 := 128#32
  let v2805 : BitVec 32 := Scalar.muli arg9 c128_i32_922
  let v2806 : BitVec 32 := v2805
  let v2807 : Index := Scalar.indexCast v2806
  ![3920, v2807.toNat]
def k0_mult95 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_926 : BitVec 32 := 128#32
  let v2819 : BitVec 32 := Scalar.muli arg9 c128_i32_926
  v2819
def k0_off153 (k0_t1 : Fin k0_t1_loop.trips) : Fin 2 → Nat :=
  let c4240 : Index := 4240#32
  let c0_i32 : BitVec 32 := 0#32
  let c1_i32 : BitVec 32 := 1#32
  let arg9 : BitVec 32 := Scf.iv c0_i32 c1_i32 k0_t1
  let c128_i32_926 : BitVec 32 := 128#32
  let v2819 : BitVec 32 := Scalar.muli arg9 c128_i32_926
  let v2820 : BitVec 32 := v2819
  let v2821 : Index := Scalar.indexCast v2820
  ![4240, v2821.toNat]
def k0_mult96 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_930 : BitVec 32 := 128#32
  let v2833 : BitVec 32 := Scalar.muli arg9 c128_i32_930
  v2833
def k0_off154 (k0_t1 : Fin k0_t1_loop.trips) : Fin 2 → Nat :=
  let c4560 : Index := 4560#32
  let c0_i32 : BitVec 32 := 0#32
  let c1_i32 : BitVec 32 := 1#32
  let arg9 : BitVec 32 := Scf.iv c0_i32 c1_i32 k0_t1
  let c128_i32_930 : BitVec 32 := 128#32
  let v2833 : BitVec 32 := Scalar.muli arg9 c128_i32_930
  let v2834 : BitVec 32 := v2833
  let v2835 : Index := Scalar.indexCast v2834
  ![4560, v2835.toNat]
def k0_mult97 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_934 : BitVec 32 := 128#32
  let v2847 : BitVec 32 := Scalar.muli arg9 c128_i32_934
  v2847
def k0_off155 (k0_t1 : Fin k0_t1_loop.trips) : Fin 2 → Nat :=
  let c4880 : Index := 4880#32
  let c0_i32 : BitVec 32 := 0#32
  let c1_i32 : BitVec 32 := 1#32
  let arg9 : BitVec 32 := Scf.iv c0_i32 c1_i32 k0_t1
  let c128_i32_934 : BitVec 32 := 128#32
  let v2847 : BitVec 32 := Scalar.muli arg9 c128_i32_934
  let v2848 : BitVec 32 := v2847
  let v2849 : Index := Scalar.indexCast v2848
  ![4880, v2849.toNat]
def k0_off156 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2853 : Index := Scalar.indexCast arg9
  let c285 : Index := 285#32
  let c0_935 : Index := 0#32
  ![v2853.toNat, 285, 0]
def k0_off157 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2856 : Index := Scalar.indexCast arg9
  let c286 : Index := 286#32
  let c0_936 : Index := 0#32
  ![v2856.toNat, 286, 0]
def k0_off158 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2859 : Index := Scalar.indexCast arg9
  let c287 : Index := 287#32
  let c0_937 : Index := 0#32
  ![v2859.toNat, 287, 0]
def k0_off159 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2862 : Index := Scalar.indexCast arg9
  let c288 : Index := 288#32
  let c0_938 : Index := 0#32
  ![v2862.toNat, 288, 0]
def k0_off160 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2865 : Index := Scalar.indexCast arg9
  let c289 : Index := 289#32
  let c0_939 : Index := 0#32
  ![v2865.toNat, 289, 0]
def k0_off161 (k0_t1 : Fin k0_t1_loop.trips) : Fin 4 → Nat :=
  let c0_i32 : BitVec 32 := 0#32
  let c1_i32 : BitVec 32 := 1#32
  let arg9 : BitVec 32 := Scf.iv c0_i32 c1_i32 k0_t1
  let v2951 : Index := Scalar.indexCast arg9
  let c48_977 : Index := 48#32
  let c0_978 : Index := 0#32
  ![v2951.toNat, 48, 0, 0]
def k0_mult98 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_982 : BitVec 32 := 128#32
  let v2963 : BitVec 32 := Scalar.muli arg9 c128_i32_982
  v2963
def k0_off162 (k0_t1 : Fin k0_t1_loop.trips) : Fin 2 → Nat :=
  let c96 : Index := 96#32
  let c0_i32 : BitVec 32 := 0#32
  let c1_i32 : BitVec 32 := 1#32
  let arg9 : BitVec 32 := Scf.iv c0_i32 c1_i32 k0_t1
  let c128_i32_982 : BitVec 32 := 128#32
  let v2963 : BitVec 32 := Scalar.muli arg9 c128_i32_982
  let v2964 : BitVec 32 := v2963
  let v2965 : Index := Scalar.indexCast v2964
  ![96, v2965.toNat]
def k0_mult99 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_986 : BitVec 32 := 128#32
  let v2977 : BitVec 32 := Scalar.muli arg9 c128_i32_986
  v2977
def k0_off163 (k0_t1 : Fin k0_t1_loop.trips) : Fin 2 → Nat :=
  let c416 : Index := 416#32
  let c0_i32 : BitVec 32 := 0#32
  let c1_i32 : BitVec 32 := 1#32
  let arg9 : BitVec 32 := Scf.iv c0_i32 c1_i32 k0_t1
  let c128_i32_986 : BitVec 32 := 128#32
  let v2977 : BitVec 32 := Scalar.muli arg9 c128_i32_986
  let v2978 : BitVec 32 := v2977
  let v2979 : Index := Scalar.indexCast v2978
  ![416, v2979.toNat]
def k0_mult100 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_990 : BitVec 32 := 128#32
  let v2991 : BitVec 32 := Scalar.muli arg9 c128_i32_990
  v2991
def k0_off164 (k0_t1 : Fin k0_t1_loop.trips) : Fin 2 → Nat :=
  let c736 : Index := 736#32
  let c0_i32 : BitVec 32 := 0#32
  let c1_i32 : BitVec 32 := 1#32
  let arg9 : BitVec 32 := Scf.iv c0_i32 c1_i32 k0_t1
  let c128_i32_990 : BitVec 32 := 128#32
  let v2991 : BitVec 32 := Scalar.muli arg9 c128_i32_990
  let v2992 : BitVec 32 := v2991
  let v2993 : Index := Scalar.indexCast v2992
  ![736, v2993.toNat]
def k0_mult101 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_994 : BitVec 32 := 128#32
  let v3005 : BitVec 32 := Scalar.muli arg9 c128_i32_994
  v3005
def k0_off165 (k0_t1 : Fin k0_t1_loop.trips) : Fin 2 → Nat :=
  let c1056 : Index := 1056#32
  let c0_i32 : BitVec 32 := 0#32
  let c1_i32 : BitVec 32 := 1#32
  let arg9 : BitVec 32 := Scf.iv c0_i32 c1_i32 k0_t1
  let c128_i32_994 : BitVec 32 := 128#32
  let v3005 : BitVec 32 := Scalar.muli arg9 c128_i32_994
  let v3006 : BitVec 32 := v3005
  let v3007 : Index := Scalar.indexCast v3006
  ![1056, v3007.toNat]
def k0_mult102 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_998 : BitVec 32 := 128#32
  let v3019 : BitVec 32 := Scalar.muli arg9 c128_i32_998
  v3019
def k0_off166 (k0_t1 : Fin k0_t1_loop.trips) : Fin 2 → Nat :=
  let c1376 : Index := 1376#32
  let c0_i32 : BitVec 32 := 0#32
  let c1_i32 : BitVec 32 := 1#32
  let arg9 : BitVec 32 := Scf.iv c0_i32 c1_i32 k0_t1
  let c128_i32_998 : BitVec 32 := 128#32
  let v3019 : BitVec 32 := Scalar.muli arg9 c128_i32_998
  let v3020 : BitVec 32 := v3019
  let v3021 : Index := Scalar.indexCast v3020
  ![1376, v3021.toNat]
def k0_mult103 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1002 : BitVec 32 := 128#32
  let v3033 : BitVec 32 := Scalar.muli arg9 c128_i32_1002
  v3033
def k0_off167 (k0_t1 : Fin k0_t1_loop.trips) : Fin 2 → Nat :=
  let c1696 : Index := 1696#32
  let c0_i32 : BitVec 32 := 0#32
  let c1_i32 : BitVec 32 := 1#32
  let arg9 : BitVec 32 := Scf.iv c0_i32 c1_i32 k0_t1
  let c128_i32_1002 : BitVec 32 := 128#32
  let v3033 : BitVec 32 := Scalar.muli arg9 c128_i32_1002
  let v3034 : BitVec 32 := v3033
  let v3035 : Index := Scalar.indexCast v3034
  ![1696, v3035.toNat]
def k0_mult104 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1006 : BitVec 32 := 128#32
  let v3047 : BitVec 32 := Scalar.muli arg9 c128_i32_1006
  v3047
def k0_off168 (k0_t1 : Fin k0_t1_loop.trips) : Fin 2 → Nat :=
  let c2016 : Index := 2016#32
  let c0_i32 : BitVec 32 := 0#32
  let c1_i32 : BitVec 32 := 1#32
  let arg9 : BitVec 32 := Scf.iv c0_i32 c1_i32 k0_t1
  let c128_i32_1006 : BitVec 32 := 128#32
  let v3047 : BitVec 32 := Scalar.muli arg9 c128_i32_1006
  let v3048 : BitVec 32 := v3047
  let v3049 : Index := Scalar.indexCast v3048
  ![2016, v3049.toNat]
def k0_mult105 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1010 : BitVec 32 := 128#32
  let v3061 : BitVec 32 := Scalar.muli arg9 c128_i32_1010
  v3061
def k0_off169 (k0_t1 : Fin k0_t1_loop.trips) : Fin 2 → Nat :=
  let c2336 : Index := 2336#32
  let c0_i32 : BitVec 32 := 0#32
  let c1_i32 : BitVec 32 := 1#32
  let arg9 : BitVec 32 := Scf.iv c0_i32 c1_i32 k0_t1
  let c128_i32_1010 : BitVec 32 := 128#32
  let v3061 : BitVec 32 := Scalar.muli arg9 c128_i32_1010
  let v3062 : BitVec 32 := v3061
  let v3063 : Index := Scalar.indexCast v3062
  ![2336, v3063.toNat]
def k0_mult106 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1014 : BitVec 32 := 128#32
  let v3075 : BitVec 32 := Scalar.muli arg9 c128_i32_1014
  v3075
def k0_off170 (k0_t1 : Fin k0_t1_loop.trips) : Fin 2 → Nat :=
  let c2656 : Index := 2656#32
  let c0_i32 : BitVec 32 := 0#32
  let c1_i32 : BitVec 32 := 1#32
  let arg9 : BitVec 32 := Scf.iv c0_i32 c1_i32 k0_t1
  let c128_i32_1014 : BitVec 32 := 128#32
  let v3075 : BitVec 32 := Scalar.muli arg9 c128_i32_1014
  let v3076 : BitVec 32 := v3075
  let v3077 : Index := Scalar.indexCast v3076
  ![2656, v3077.toNat]
def k0_mult107 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1018 : BitVec 32 := 128#32
  let v3089 : BitVec 32 := Scalar.muli arg9 c128_i32_1018
  v3089
def k0_off171 (k0_t1 : Fin k0_t1_loop.trips) : Fin 2 → Nat :=
  let c2976 : Index := 2976#32
  let c0_i32 : BitVec 32 := 0#32
  let c1_i32 : BitVec 32 := 1#32
  let arg9 : BitVec 32 := Scf.iv c0_i32 c1_i32 k0_t1
  let c128_i32_1018 : BitVec 32 := 128#32
  let v3089 : BitVec 32 := Scalar.muli arg9 c128_i32_1018
  let v3090 : BitVec 32 := v3089
  let v3091 : Index := Scalar.indexCast v3090
  ![2976, v3091.toNat]
def k0_mult108 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1022 : BitVec 32 := 128#32
  let v3103 : BitVec 32 := Scalar.muli arg9 c128_i32_1022
  v3103
def k0_off172 (k0_t1 : Fin k0_t1_loop.trips) : Fin 2 → Nat :=
  let c3296 : Index := 3296#32
  let c0_i32 : BitVec 32 := 0#32
  let c1_i32 : BitVec 32 := 1#32
  let arg9 : BitVec 32 := Scf.iv c0_i32 c1_i32 k0_t1
  let c128_i32_1022 : BitVec 32 := 128#32
  let v3103 : BitVec 32 := Scalar.muli arg9 c128_i32_1022
  let v3104 : BitVec 32 := v3103
  let v3105 : Index := Scalar.indexCast v3104
  ![3296, v3105.toNat]
def k0_mult109 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1026 : BitVec 32 := 128#32
  let v3117 : BitVec 32 := Scalar.muli arg9 c128_i32_1026
  v3117
def k0_off173 (k0_t1 : Fin k0_t1_loop.trips) : Fin 2 → Nat :=
  let c3616 : Index := 3616#32
  let c0_i32 : BitVec 32 := 0#32
  let c1_i32 : BitVec 32 := 1#32
  let arg9 : BitVec 32 := Scf.iv c0_i32 c1_i32 k0_t1
  let c128_i32_1026 : BitVec 32 := 128#32
  let v3117 : BitVec 32 := Scalar.muli arg9 c128_i32_1026
  let v3118 : BitVec 32 := v3117
  let v3119 : Index := Scalar.indexCast v3118
  ![3616, v3119.toNat]
def k0_mult110 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1030 : BitVec 32 := 128#32
  let v3131 : BitVec 32 := Scalar.muli arg9 c128_i32_1030
  v3131
def k0_off174 (k0_t1 : Fin k0_t1_loop.trips) : Fin 2 → Nat :=
  let c3936 : Index := 3936#32
  let c0_i32 : BitVec 32 := 0#32
  let c1_i32 : BitVec 32 := 1#32
  let arg9 : BitVec 32 := Scf.iv c0_i32 c1_i32 k0_t1
  let c128_i32_1030 : BitVec 32 := 128#32
  let v3131 : BitVec 32 := Scalar.muli arg9 c128_i32_1030
  let v3132 : BitVec 32 := v3131
  let v3133 : Index := Scalar.indexCast v3132
  ![3936, v3133.toNat]
def k0_mult111 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1034 : BitVec 32 := 128#32
  let v3145 : BitVec 32 := Scalar.muli arg9 c128_i32_1034
  v3145
def k0_off175 (k0_t1 : Fin k0_t1_loop.trips) : Fin 2 → Nat :=
  let c4256 : Index := 4256#32
  let c0_i32 : BitVec 32 := 0#32
  let c1_i32 : BitVec 32 := 1#32
  let arg9 : BitVec 32 := Scf.iv c0_i32 c1_i32 k0_t1
  let c128_i32_1034 : BitVec 32 := 128#32
  let v3145 : BitVec 32 := Scalar.muli arg9 c128_i32_1034
  let v3146 : BitVec 32 := v3145
  let v3147 : Index := Scalar.indexCast v3146
  ![4256, v3147.toNat]
def k0_mult112 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1038 : BitVec 32 := 128#32
  let v3159 : BitVec 32 := Scalar.muli arg9 c128_i32_1038
  v3159
def k0_off176 (k0_t1 : Fin k0_t1_loop.trips) : Fin 2 → Nat :=
  let c4576 : Index := 4576#32
  let c0_i32 : BitVec 32 := 0#32
  let c1_i32 : BitVec 32 := 1#32
  let arg9 : BitVec 32 := Scf.iv c0_i32 c1_i32 k0_t1
  let c128_i32_1038 : BitVec 32 := 128#32
  let v3159 : BitVec 32 := Scalar.muli arg9 c128_i32_1038
  let v3160 : BitVec 32 := v3159
  let v3161 : Index := Scalar.indexCast v3160
  ![4576, v3161.toNat]
def k0_mult113 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1042 : BitVec 32 := 128#32
  let v3173 : BitVec 32 := Scalar.muli arg9 c128_i32_1042
  v3173
def k0_off177 (k0_t1 : Fin k0_t1_loop.trips) : Fin 2 → Nat :=
  let c4896 : Index := 4896#32
  let c0_i32 : BitVec 32 := 0#32
  let c1_i32 : BitVec 32 := 1#32
  let arg9 : BitVec 32 := Scf.iv c0_i32 c1_i32 k0_t1
  let c128_i32_1042 : BitVec 32 := 128#32
  let v3173 : BitVec 32 := Scalar.muli arg9 c128_i32_1042
  let v3174 : BitVec 32 := v3173
  let v3175 : Index := Scalar.indexCast v3174
  ![4896, v3175.toNat]
def k0_off178 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3179 : Index := Scalar.indexCast arg9
  let c325 : Index := 325#32
  let c0_1043 : Index := 0#32
  ![v3179.toNat, 325, 0]
def k0_off179 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3182 : Index := Scalar.indexCast arg9
  let c326 : Index := 326#32
  let c0_1044 : Index := 0#32
  ![v3182.toNat, 326, 0]
def k0_off180 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3185 : Index := Scalar.indexCast arg9
  let c327 : Index := 327#32
  let c0_1045 : Index := 0#32
  ![v3185.toNat, 327, 0]
def k0_off181 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3188 : Index := Scalar.indexCast arg9
  let c328 : Index := 328#32
  let c0_1046 : Index := 0#32
  ![v3188.toNat, 328, 0]
def k0_off182 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3191 : Index := Scalar.indexCast arg9
  let c329 : Index := 329#32
  let c0_1047 : Index := 0#32
  ![v3191.toNat, 329, 0]
def k0_off183 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3277 : Index := Scalar.indexCast arg9
  let c330 : Index := 330#32
  let c0_1085 : Index := 0#32
  ![v3277.toNat, 330, 0]
def k0_off184 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3280 : Index := Scalar.indexCast arg9
  let c331 : Index := 331#32
  let c0_1086 : Index := 0#32
  ![v3280.toNat, 331, 0]
def k0_off185 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3283 : Index := Scalar.indexCast arg9
  let c332 : Index := 332#32
  let c0_1087 : Index := 0#32
  ![v3283.toNat, 332, 0]
def k0_off186 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3286 : Index := Scalar.indexCast arg9
  let c333 : Index := 333#32
  let c0_1088 : Index := 0#32
  ![v3286.toNat, 333, 0]
def k0_off187 (k0_t1 : Fin k0_t1_loop.trips) : Fin 4 → Nat :=
  let c0_i32 : BitVec 32 := 0#32
  let c1_i32 : BitVec 32 := 1#32
  let arg9 : BitVec 32 := Scf.iv c0_i32 c1_i32 k0_t1
  let v3313 : Index := Scalar.indexCast arg9
  let c56 : Index := 56#32
  let c0_1101 : Index := 0#32
  ![v3313.toNat, 56, 0, 0]
def k0_mult114 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1109 : BitVec 32 := 128#32
  let v3339 : BitVec 32 := Scalar.muli arg9 c128_i32_1109
  v3339
def k0_off188 (k0_t1 : Fin k0_t1_loop.trips) : Fin 2 → Nat :=
  let c112 : Index := 112#32
  let c0_i32 : BitVec 32 := 0#32
  let c1_i32 : BitVec 32 := 1#32
  let arg9 : BitVec 32 := Scf.iv c0_i32 c1_i32 k0_t1
  let c128_i32_1109 : BitVec 32 := 128#32
  let v3339 : BitVec 32 := Scalar.muli arg9 c128_i32_1109
  let v3340 : BitVec 32 := v3339
  let v3341 : Index := Scalar.indexCast v3340
  ![112, v3341.toNat]
def k0_mult115 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1117 : BitVec 32 := 128#32
  let v3367 : BitVec 32 := Scalar.muli arg9 c128_i32_1117
  v3367
def k0_off189 (k0_t1 : Fin k0_t1_loop.trips) : Fin 2 → Nat :=
  let c432 : Index := 432#32
  let c0_i32 : BitVec 32 := 0#32
  let c1_i32 : BitVec 32 := 1#32
  let arg9 : BitVec 32 := Scf.iv c0_i32 c1_i32 k0_t1
  let c128_i32_1117 : BitVec 32 := 128#32
  let v3367 : BitVec 32 := Scalar.muli arg9 c128_i32_1117
  let v3368 : BitVec 32 := v3367
  let v3369 : Index := Scalar.indexCast v3368
  ![432, v3369.toNat]
def k0_mult116 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1125 : BitVec 32 := 128#32
  let v3395 : BitVec 32 := Scalar.muli arg9 c128_i32_1125
  v3395
def k0_off190 (k0_t1 : Fin k0_t1_loop.trips) : Fin 2 → Nat :=
  let c752 : Index := 752#32
  let c0_i32 : BitVec 32 := 0#32
  let c1_i32 : BitVec 32 := 1#32
  let arg9 : BitVec 32 := Scf.iv c0_i32 c1_i32 k0_t1
  let c128_i32_1125 : BitVec 32 := 128#32
  let v3395 : BitVec 32 := Scalar.muli arg9 c128_i32_1125
  let v3396 : BitVec 32 := v3395
  let v3397 : Index := Scalar.indexCast v3396
  ![752, v3397.toNat]
def k0_mult117 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1133 : BitVec 32 := 128#32
  let v3423 : BitVec 32 := Scalar.muli arg9 c128_i32_1133
  v3423
def k0_off191 (k0_t1 : Fin k0_t1_loop.trips) : Fin 2 → Nat :=
  let c1072 : Index := 1072#32
  let c0_i32 : BitVec 32 := 0#32
  let c1_i32 : BitVec 32 := 1#32
  let arg9 : BitVec 32 := Scf.iv c0_i32 c1_i32 k0_t1
  let c128_i32_1133 : BitVec 32 := 128#32
  let v3423 : BitVec 32 := Scalar.muli arg9 c128_i32_1133
  let v3424 : BitVec 32 := v3423
  let v3425 : Index := Scalar.indexCast v3424
  ![1072, v3425.toNat]
def k0_mult118 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1141 : BitVec 32 := 128#32
  let v3451 : BitVec 32 := Scalar.muli arg9 c128_i32_1141
  v3451
def k0_off192 (k0_t1 : Fin k0_t1_loop.trips) : Fin 2 → Nat :=
  let c1392 : Index := 1392#32
  let c0_i32 : BitVec 32 := 0#32
  let c1_i32 : BitVec 32 := 1#32
  let arg9 : BitVec 32 := Scf.iv c0_i32 c1_i32 k0_t1
  let c128_i32_1141 : BitVec 32 := 128#32
  let v3451 : BitVec 32 := Scalar.muli arg9 c128_i32_1141
  let v3452 : BitVec 32 := v3451
  let v3453 : Index := Scalar.indexCast v3452
  ![1392, v3453.toNat]
def k0_mult119 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1149 : BitVec 32 := 128#32
  let v3479 : BitVec 32 := Scalar.muli arg9 c128_i32_1149
  v3479
def k0_off193 (k0_t1 : Fin k0_t1_loop.trips) : Fin 2 → Nat :=
  let c1712 : Index := 1712#32
  let c0_i32 : BitVec 32 := 0#32
  let c1_i32 : BitVec 32 := 1#32
  let arg9 : BitVec 32 := Scf.iv c0_i32 c1_i32 k0_t1
  let c128_i32_1149 : BitVec 32 := 128#32
  let v3479 : BitVec 32 := Scalar.muli arg9 c128_i32_1149
  let v3480 : BitVec 32 := v3479
  let v3481 : Index := Scalar.indexCast v3480
  ![1712, v3481.toNat]
def k0_mult120 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1157 : BitVec 32 := 128#32
  let v3507 : BitVec 32 := Scalar.muli arg9 c128_i32_1157
  v3507
def k0_off194 (k0_t1 : Fin k0_t1_loop.trips) : Fin 2 → Nat :=
  let c2032 : Index := 2032#32
  let c0_i32 : BitVec 32 := 0#32
  let c1_i32 : BitVec 32 := 1#32
  let arg9 : BitVec 32 := Scf.iv c0_i32 c1_i32 k0_t1
  let c128_i32_1157 : BitVec 32 := 128#32
  let v3507 : BitVec 32 := Scalar.muli arg9 c128_i32_1157
  let v3508 : BitVec 32 := v3507
  let v3509 : Index := Scalar.indexCast v3508
  ![2032, v3509.toNat]
def k0_mult121 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1165 : BitVec 32 := 128#32
  let v3535 : BitVec 32 := Scalar.muli arg9 c128_i32_1165
  v3535
def k0_off195 (k0_t1 : Fin k0_t1_loop.trips) : Fin 2 → Nat :=
  let c2352 : Index := 2352#32
  let c0_i32 : BitVec 32 := 0#32
  let c1_i32 : BitVec 32 := 1#32
  let arg9 : BitVec 32 := Scf.iv c0_i32 c1_i32 k0_t1
  let c128_i32_1165 : BitVec 32 := 128#32
  let v3535 : BitVec 32 := Scalar.muli arg9 c128_i32_1165
  let v3536 : BitVec 32 := v3535
  let v3537 : Index := Scalar.indexCast v3536
  ![2352, v3537.toNat]
def k0_mult122 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1173 : BitVec 32 := 128#32
  let v3563 : BitVec 32 := Scalar.muli arg9 c128_i32_1173
  v3563
def k0_off196 (k0_t1 : Fin k0_t1_loop.trips) : Fin 2 → Nat :=
  let c2672 : Index := 2672#32
  let c0_i32 : BitVec 32 := 0#32
  let c1_i32 : BitVec 32 := 1#32
  let arg9 : BitVec 32 := Scf.iv c0_i32 c1_i32 k0_t1
  let c128_i32_1173 : BitVec 32 := 128#32
  let v3563 : BitVec 32 := Scalar.muli arg9 c128_i32_1173
  let v3564 : BitVec 32 := v3563
  let v3565 : Index := Scalar.indexCast v3564
  ![2672, v3565.toNat]
def k0_mult123 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1181 : BitVec 32 := 128#32
  let v3591 : BitVec 32 := Scalar.muli arg9 c128_i32_1181
  v3591
def k0_off197 (k0_t1 : Fin k0_t1_loop.trips) : Fin 2 → Nat :=
  let c2992 : Index := 2992#32
  let c0_i32 : BitVec 32 := 0#32
  let c1_i32 : BitVec 32 := 1#32
  let arg9 : BitVec 32 := Scf.iv c0_i32 c1_i32 k0_t1
  let c128_i32_1181 : BitVec 32 := 128#32
  let v3591 : BitVec 32 := Scalar.muli arg9 c128_i32_1181
  let v3592 : BitVec 32 := v3591
  let v3593 : Index := Scalar.indexCast v3592
  ![2992, v3593.toNat]
def k0_mult124 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1189 : BitVec 32 := 128#32
  let v3619 : BitVec 32 := Scalar.muli arg9 c128_i32_1189
  v3619
def k0_off198 (k0_t1 : Fin k0_t1_loop.trips) : Fin 2 → Nat :=
  let c3312 : Index := 3312#32
  let c0_i32 : BitVec 32 := 0#32
  let c1_i32 : BitVec 32 := 1#32
  let arg9 : BitVec 32 := Scf.iv c0_i32 c1_i32 k0_t1
  let c128_i32_1189 : BitVec 32 := 128#32
  let v3619 : BitVec 32 := Scalar.muli arg9 c128_i32_1189
  let v3620 : BitVec 32 := v3619
  let v3621 : Index := Scalar.indexCast v3620
  ![3312, v3621.toNat]
def k0_mult125 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1197 : BitVec 32 := 128#32
  let v3647 : BitVec 32 := Scalar.muli arg9 c128_i32_1197
  v3647
def k0_off199 (k0_t1 : Fin k0_t1_loop.trips) : Fin 2 → Nat :=
  let c3632 : Index := 3632#32
  let c0_i32 : BitVec 32 := 0#32
  let c1_i32 : BitVec 32 := 1#32
  let arg9 : BitVec 32 := Scf.iv c0_i32 c1_i32 k0_t1
  let c128_i32_1197 : BitVec 32 := 128#32
  let v3647 : BitVec 32 := Scalar.muli arg9 c128_i32_1197
  let v3648 : BitVec 32 := v3647
  let v3649 : Index := Scalar.indexCast v3648
  ![3632, v3649.toNat]
def k0_mult126 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1205 : BitVec 32 := 128#32
  let v3675 : BitVec 32 := Scalar.muli arg9 c128_i32_1205
  v3675
def k0_off200 (k0_t1 : Fin k0_t1_loop.trips) : Fin 2 → Nat :=
  let c3952 : Index := 3952#32
  let c0_i32 : BitVec 32 := 0#32
  let c1_i32 : BitVec 32 := 1#32
  let arg9 : BitVec 32 := Scf.iv c0_i32 c1_i32 k0_t1
  let c128_i32_1205 : BitVec 32 := 128#32
  let v3675 : BitVec 32 := Scalar.muli arg9 c128_i32_1205
  let v3676 : BitVec 32 := v3675
  let v3677 : Index := Scalar.indexCast v3676
  ![3952, v3677.toNat]
def k0_mult127 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1213 : BitVec 32 := 128#32
  let v3703 : BitVec 32 := Scalar.muli arg9 c128_i32_1213
  v3703
def k0_off201 (k0_t1 : Fin k0_t1_loop.trips) : Fin 2 → Nat :=
  let c4272 : Index := 4272#32
  let c0_i32 : BitVec 32 := 0#32
  let c1_i32 : BitVec 32 := 1#32
  let arg9 : BitVec 32 := Scf.iv c0_i32 c1_i32 k0_t1
  let c128_i32_1213 : BitVec 32 := 128#32
  let v3703 : BitVec 32 := Scalar.muli arg9 c128_i32_1213
  let v3704 : BitVec 32 := v3703
  let v3705 : Index := Scalar.indexCast v3704
  ![4272, v3705.toNat]
def k0_mult128 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1221 : BitVec 32 := 128#32
  let v3731 : BitVec 32 := Scalar.muli arg9 c128_i32_1221
  v3731
def k0_off202 (k0_t1 : Fin k0_t1_loop.trips) : Fin 2 → Nat :=
  let c4592 : Index := 4592#32
  let c0_i32 : BitVec 32 := 0#32
  let c1_i32 : BitVec 32 := 1#32
  let arg9 : BitVec 32 := Scf.iv c0_i32 c1_i32 k0_t1
  let c128_i32_1221 : BitVec 32 := 128#32
  let v3731 : BitVec 32 := Scalar.muli arg9 c128_i32_1221
  let v3732 : BitVec 32 := v3731
  let v3733 : Index := Scalar.indexCast v3732
  ![4592, v3733.toNat]
def k0_mult129 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1229 : BitVec 32 := 128#32
  let v3759 : BitVec 32 := Scalar.muli arg9 c128_i32_1229
  v3759
def k0_off203 (k0_t1 : Fin k0_t1_loop.trips) : Fin 2 → Nat :=
  let c4912 : Index := 4912#32
  let c0_i32 : BitVec 32 := 0#32
  let c1_i32 : BitVec 32 := 1#32
  let arg9 : BitVec 32 := Scf.iv c0_i32 c1_i32 k0_t1
  let c128_i32_1229 : BitVec 32 := 128#32
  let v3759 : BitVec 32 := Scalar.muli arg9 c128_i32_1229
  let v3760 : BitVec 32 := v3759
  let v3761 : Index := Scalar.indexCast v3760
  ![4912, v3761.toNat]
def k0_off204 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3765 : Index := Scalar.indexCast arg9
  let c362 : Index := 362#32
  let c0_1230 : Index := 0#32
  ![v3765.toNat, 362, 0]
def k0_off205 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3768 : Index := Scalar.indexCast arg9
  let c363 : Index := 363#32
  let c0_1231 : Index := 0#32
  ![v3768.toNat, 363, 0]
def k0_off206 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3771 : Index := Scalar.indexCast arg9
  let c364 : Index := 364#32
  let c0_1232 : Index := 0#32
  ![v3771.toNat, 364, 0]
def k0_off207 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3774 : Index := Scalar.indexCast arg9
  let c365 : Index := 365#32
  let c0_1233 : Index := 0#32
  ![v3774.toNat, 365, 0]
def k0_off208 (k0_t1 : Fin k0_t1_loop.trips) : Fin 4 → Nat :=
  let c0_i32 : BitVec 32 := 0#32
  let c1_i32 : BitVec 32 := 1#32
  let arg9 : BitVec 32 := Scf.iv c0_i32 c1_i32 k0_t1
  let v3801 : Index := Scalar.indexCast arg9
  let c64_1246 : Index := 64#32
  let c0_1247 : Index := 0#32
  ![v3801.toNat, 64, 0, 0]
def k0_mult130 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1251 : BitVec 32 := 128#32
  let v3813 : BitVec 32 := Scalar.muli arg9 c128_i32_1251
  v3813
def k0_off209 (k0_t1 : Fin k0_t1_loop.trips) : Fin 2 → Nat :=
  let c128 : Index := 128#32
  let c0_i32 : BitVec 32 := 0#32
  let c1_i32 : BitVec 32 := 1#32
  let arg9 : BitVec 32 := Scf.iv c0_i32 c1_i32 k0_t1
  let c128_i32_1251 : BitVec 32 := 128#32
  let v3813 : BitVec 32 := Scalar.muli arg9 c128_i32_1251
  let v3814 : BitVec 32 := v3813
  let v3815 : Index := Scalar.indexCast v3814
  ![128, v3815.toNat]
def k0_mult131 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1255 : BitVec 32 := 128#32
  let v3827 : BitVec 32 := Scalar.muli arg9 c128_i32_1255
  v3827
def k0_off210 (k0_t1 : Fin k0_t1_loop.trips) : Fin 2 → Nat :=
  let c448 : Index := 448#32
  let c0_i32 : BitVec 32 := 0#32
  let c1_i32 : BitVec 32 := 1#32
  let arg9 : BitVec 32 := Scf.iv c0_i32 c1_i32 k0_t1
  let c128_i32_1255 : BitVec 32 := 128#32
  let v3827 : BitVec 32 := Scalar.muli arg9 c128_i32_1255
  let v3828 : BitVec 32 := v3827
  let v3829 : Index := Scalar.indexCast v3828
  ![448, v3829.toNat]
def k0_mult132 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1259 : BitVec 32 := 128#32
  let v3841 : BitVec 32 := Scalar.muli arg9 c128_i32_1259
  v3841
def k0_off211 (k0_t1 : Fin k0_t1_loop.trips) : Fin 2 → Nat :=
  let c768 : Index := 768#32
  let c0_i32 : BitVec 32 := 0#32
  let c1_i32 : BitVec 32 := 1#32
  let arg9 : BitVec 32 := Scf.iv c0_i32 c1_i32 k0_t1
  let c128_i32_1259 : BitVec 32 := 128#32
  let v3841 : BitVec 32 := Scalar.muli arg9 c128_i32_1259
  let v3842 : BitVec 32 := v3841
  let v3843 : Index := Scalar.indexCast v3842
  ![768, v3843.toNat]
def k0_mult133 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1263 : BitVec 32 := 128#32
  let v3855 : BitVec 32 := Scalar.muli arg9 c128_i32_1263
  v3855
def k0_off212 (k0_t1 : Fin k0_t1_loop.trips) : Fin 2 → Nat :=
  let c1088 : Index := 1088#32
  let c0_i32 : BitVec 32 := 0#32
  let c1_i32 : BitVec 32 := 1#32
  let arg9 : BitVec 32 := Scf.iv c0_i32 c1_i32 k0_t1
  let c128_i32_1263 : BitVec 32 := 128#32
  let v3855 : BitVec 32 := Scalar.muli arg9 c128_i32_1263
  let v3856 : BitVec 32 := v3855
  let v3857 : Index := Scalar.indexCast v3856
  ![1088, v3857.toNat]
def k0_mult134 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1267 : BitVec 32 := 128#32
  let v3869 : BitVec 32 := Scalar.muli arg9 c128_i32_1267
  v3869
def k0_off213 (k0_t1 : Fin k0_t1_loop.trips) : Fin 2 → Nat :=
  let c1408 : Index := 1408#32
  let c0_i32 : BitVec 32 := 0#32
  let c1_i32 : BitVec 32 := 1#32
  let arg9 : BitVec 32 := Scf.iv c0_i32 c1_i32 k0_t1
  let c128_i32_1267 : BitVec 32 := 128#32
  let v3869 : BitVec 32 := Scalar.muli arg9 c128_i32_1267
  let v3870 : BitVec 32 := v3869
  let v3871 : Index := Scalar.indexCast v3870
  ![1408, v3871.toNat]
def k0_mult135 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1271 : BitVec 32 := 128#32
  let v3883 : BitVec 32 := Scalar.muli arg9 c128_i32_1271
  v3883
def k0_off214 (k0_t1 : Fin k0_t1_loop.trips) : Fin 2 → Nat :=
  let c1728 : Index := 1728#32
  let c0_i32 : BitVec 32 := 0#32
  let c1_i32 : BitVec 32 := 1#32
  let arg9 : BitVec 32 := Scf.iv c0_i32 c1_i32 k0_t1
  let c128_i32_1271 : BitVec 32 := 128#32
  let v3883 : BitVec 32 := Scalar.muli arg9 c128_i32_1271
  let v3884 : BitVec 32 := v3883
  let v3885 : Index := Scalar.indexCast v3884
  ![1728, v3885.toNat]
def k0_mult136 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1275 : BitVec 32 := 128#32
  let v3897 : BitVec 32 := Scalar.muli arg9 c128_i32_1275
  v3897
def k0_off215 (k0_t1 : Fin k0_t1_loop.trips) : Fin 2 → Nat :=
  let c2048 : Index := 2048#32
  let c0_i32 : BitVec 32 := 0#32
  let c1_i32 : BitVec 32 := 1#32
  let arg9 : BitVec 32 := Scf.iv c0_i32 c1_i32 k0_t1
  let c128_i32_1275 : BitVec 32 := 128#32
  let v3897 : BitVec 32 := Scalar.muli arg9 c128_i32_1275
  let v3898 : BitVec 32 := v3897
  let v3899 : Index := Scalar.indexCast v3898
  ![2048, v3899.toNat]
def k0_mult137 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1279 : BitVec 32 := 128#32
  let v3911 : BitVec 32 := Scalar.muli arg9 c128_i32_1279
  v3911
def k0_off216 (k0_t1 : Fin k0_t1_loop.trips) : Fin 2 → Nat :=
  let c2368 : Index := 2368#32
  let c0_i32 : BitVec 32 := 0#32
  let c1_i32 : BitVec 32 := 1#32
  let arg9 : BitVec 32 := Scf.iv c0_i32 c1_i32 k0_t1
  let c128_i32_1279 : BitVec 32 := 128#32
  let v3911 : BitVec 32 := Scalar.muli arg9 c128_i32_1279
  let v3912 : BitVec 32 := v3911
  let v3913 : Index := Scalar.indexCast v3912
  ![2368, v3913.toNat]
def k0_mult138 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1283 : BitVec 32 := 128#32
  let v3925 : BitVec 32 := Scalar.muli arg9 c128_i32_1283
  v3925
def k0_off217 (k0_t1 : Fin k0_t1_loop.trips) : Fin 2 → Nat :=
  let c2688 : Index := 2688#32
  let c0_i32 : BitVec 32 := 0#32
  let c1_i32 : BitVec 32 := 1#32
  let arg9 : BitVec 32 := Scf.iv c0_i32 c1_i32 k0_t1
  let c128_i32_1283 : BitVec 32 := 128#32
  let v3925 : BitVec 32 := Scalar.muli arg9 c128_i32_1283
  let v3926 : BitVec 32 := v3925
  let v3927 : Index := Scalar.indexCast v3926
  ![2688, v3927.toNat]
def k0_mult139 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1287 : BitVec 32 := 128#32
  let v3939 : BitVec 32 := Scalar.muli arg9 c128_i32_1287
  v3939
def k0_off218 (k0_t1 : Fin k0_t1_loop.trips) : Fin 2 → Nat :=
  let c3008 : Index := 3008#32
  let c0_i32 : BitVec 32 := 0#32
  let c1_i32 : BitVec 32 := 1#32
  let arg9 : BitVec 32 := Scf.iv c0_i32 c1_i32 k0_t1
  let c128_i32_1287 : BitVec 32 := 128#32
  let v3939 : BitVec 32 := Scalar.muli arg9 c128_i32_1287
  let v3940 : BitVec 32 := v3939
  let v3941 : Index := Scalar.indexCast v3940
  ![3008, v3941.toNat]
def k0_mult140 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1291 : BitVec 32 := 128#32
  let v3953 : BitVec 32 := Scalar.muli arg9 c128_i32_1291
  v3953
def k0_off219 (k0_t1 : Fin k0_t1_loop.trips) : Fin 2 → Nat :=
  let c3328 : Index := 3328#32
  let c0_i32 : BitVec 32 := 0#32
  let c1_i32 : BitVec 32 := 1#32
  let arg9 : BitVec 32 := Scf.iv c0_i32 c1_i32 k0_t1
  let c128_i32_1291 : BitVec 32 := 128#32
  let v3953 : BitVec 32 := Scalar.muli arg9 c128_i32_1291
  let v3954 : BitVec 32 := v3953
  let v3955 : Index := Scalar.indexCast v3954
  ![3328, v3955.toNat]
def k0_mult141 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1295 : BitVec 32 := 128#32
  let v3967 : BitVec 32 := Scalar.muli arg9 c128_i32_1295
  v3967
def k0_off220 (k0_t1 : Fin k0_t1_loop.trips) : Fin 2 → Nat :=
  let c3648 : Index := 3648#32
  let c0_i32 : BitVec 32 := 0#32
  let c1_i32 : BitVec 32 := 1#32
  let arg9 : BitVec 32 := Scf.iv c0_i32 c1_i32 k0_t1
  let c128_i32_1295 : BitVec 32 := 128#32
  let v3967 : BitVec 32 := Scalar.muli arg9 c128_i32_1295
  let v3968 : BitVec 32 := v3967
  let v3969 : Index := Scalar.indexCast v3968
  ![3648, v3969.toNat]
def k0_mult142 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1299 : BitVec 32 := 128#32
  let v3981 : BitVec 32 := Scalar.muli arg9 c128_i32_1299
  v3981
def k0_off221 (k0_t1 : Fin k0_t1_loop.trips) : Fin 2 → Nat :=
  let c3968 : Index := 3968#32
  let c0_i32 : BitVec 32 := 0#32
  let c1_i32 : BitVec 32 := 1#32
  let arg9 : BitVec 32 := Scf.iv c0_i32 c1_i32 k0_t1
  let c128_i32_1299 : BitVec 32 := 128#32
  let v3981 : BitVec 32 := Scalar.muli arg9 c128_i32_1299
  let v3982 : BitVec 32 := v3981
  let v3983 : Index := Scalar.indexCast v3982
  ![3968, v3983.toNat]
def k0_mult143 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1303 : BitVec 32 := 128#32
  let v3995 : BitVec 32 := Scalar.muli arg9 c128_i32_1303
  v3995
def k0_off222 (k0_t1 : Fin k0_t1_loop.trips) : Fin 2 → Nat :=
  let c4288 : Index := 4288#32
  let c0_i32 : BitVec 32 := 0#32
  let c1_i32 : BitVec 32 := 1#32
  let arg9 : BitVec 32 := Scf.iv c0_i32 c1_i32 k0_t1
  let c128_i32_1303 : BitVec 32 := 128#32
  let v3995 : BitVec 32 := Scalar.muli arg9 c128_i32_1303
  let v3996 : BitVec 32 := v3995
  let v3997 : Index := Scalar.indexCast v3996
  ![4288, v3997.toNat]
def k0_mult144 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1307 : BitVec 32 := 128#32
  let v4009 : BitVec 32 := Scalar.muli arg9 c128_i32_1307
  v4009
def k0_off223 (k0_t1 : Fin k0_t1_loop.trips) : Fin 2 → Nat :=
  let c4608 : Index := 4608#32
  let c0_i32 : BitVec 32 := 0#32
  let c1_i32 : BitVec 32 := 1#32
  let arg9 : BitVec 32 := Scf.iv c0_i32 c1_i32 k0_t1
  let c128_i32_1307 : BitVec 32 := 128#32
  let v4009 : BitVec 32 := Scalar.muli arg9 c128_i32_1307
  let v4010 : BitVec 32 := v4009
  let v4011 : Index := Scalar.indexCast v4010
  ![4608, v4011.toNat]
def k0_mult145 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1311 : BitVec 32 := 128#32
  let v4023 : BitVec 32 := Scalar.muli arg9 c128_i32_1311
  v4023
def k0_off224 (k0_t1 : Fin k0_t1_loop.trips) : Fin 2 → Nat :=
  let c4928 : Index := 4928#32
  let c0_i32 : BitVec 32 := 0#32
  let c1_i32 : BitVec 32 := 1#32
  let arg9 : BitVec 32 := Scf.iv c0_i32 c1_i32 k0_t1
  let c128_i32_1311 : BitVec 32 := 128#32
  let v4023 : BitVec 32 := Scalar.muli arg9 c128_i32_1311
  let v4024 : BitVec 32 := v4023
  let v4025 : Index := Scalar.indexCast v4024
  ![4928, v4025.toNat]
def k0_off225 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4029 : Index := Scalar.indexCast arg9
  let c394 : Index := 394#32
  let c0_1312 : Index := 0#32
  ![v4029.toNat, 394, 0]
def k0_off226 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4032 : Index := Scalar.indexCast arg9
  let c395 : Index := 395#32
  let c0_1313 : Index := 0#32
  ![v4032.toNat, 395, 0]
def k0_off227 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4035 : Index := Scalar.indexCast arg9
  let c396 : Index := 396#32
  let c0_1314 : Index := 0#32
  ![v4035.toNat, 396, 0]
def k0_off228 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4038 : Index := Scalar.indexCast arg9
  let c397 : Index := 397#32
  let c0_1315 : Index := 0#32
  ![v4038.toNat, 397, 0]
def k0_off229 (k0_t1 : Fin k0_t1_loop.trips) : Fin 4 → Nat :=
  let c0_i32 : BitVec 32 := 0#32
  let c1_i32 : BitVec 32 := 1#32
  let arg9 : BitVec 32 := Scf.iv c0_i32 c1_i32 k0_t1
  let v4065 : Index := Scalar.indexCast arg9
  let c72 : Index := 72#32
  let c0_1328 : Index := 0#32
  ![v4065.toNat, 72, 0, 0]
def k0_mult146 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1332 : BitVec 32 := 128#32
  let v4077 : BitVec 32 := Scalar.muli arg9 c128_i32_1332
  v4077
def k0_off230 (k0_t1 : Fin k0_t1_loop.trips) : Fin 2 → Nat :=
  let c144 : Index := 144#32
  let c0_i32 : BitVec 32 := 0#32
  let c1_i32 : BitVec 32 := 1#32
  let arg9 : BitVec 32 := Scf.iv c0_i32 c1_i32 k0_t1
  let c128_i32_1332 : BitVec 32 := 128#32
  let v4077 : BitVec 32 := Scalar.muli arg9 c128_i32_1332
  let v4078 : BitVec 32 := v4077
  let v4079 : Index := Scalar.indexCast v4078
  ![144, v4079.toNat]
def k0_mult147 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1336 : BitVec 32 := 128#32
  let v4091 : BitVec 32 := Scalar.muli arg9 c128_i32_1336
  v4091
def k0_off231 (k0_t1 : Fin k0_t1_loop.trips) : Fin 2 → Nat :=
  let c464 : Index := 464#32
  let c0_i32 : BitVec 32 := 0#32
  let c1_i32 : BitVec 32 := 1#32
  let arg9 : BitVec 32 := Scf.iv c0_i32 c1_i32 k0_t1
  let c128_i32_1336 : BitVec 32 := 128#32
  let v4091 : BitVec 32 := Scalar.muli arg9 c128_i32_1336
  let v4092 : BitVec 32 := v4091
  let v4093 : Index := Scalar.indexCast v4092
  ![464, v4093.toNat]
def k0_mult148 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1340 : BitVec 32 := 128#32
  let v4105 : BitVec 32 := Scalar.muli arg9 c128_i32_1340
  v4105
def k0_off232 (k0_t1 : Fin k0_t1_loop.trips) : Fin 2 → Nat :=
  let c784 : Index := 784#32
  let c0_i32 : BitVec 32 := 0#32
  let c1_i32 : BitVec 32 := 1#32
  let arg9 : BitVec 32 := Scf.iv c0_i32 c1_i32 k0_t1
  let c128_i32_1340 : BitVec 32 := 128#32
  let v4105 : BitVec 32 := Scalar.muli arg9 c128_i32_1340
  let v4106 : BitVec 32 := v4105
  let v4107 : Index := Scalar.indexCast v4106
  ![784, v4107.toNat]
def k0_mult149 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1344 : BitVec 32 := 128#32
  let v4119 : BitVec 32 := Scalar.muli arg9 c128_i32_1344
  v4119
def k0_off233 (k0_t1 : Fin k0_t1_loop.trips) : Fin 2 → Nat :=
  let c1104 : Index := 1104#32
  let c0_i32 : BitVec 32 := 0#32
  let c1_i32 : BitVec 32 := 1#32
  let arg9 : BitVec 32 := Scf.iv c0_i32 c1_i32 k0_t1
  let c128_i32_1344 : BitVec 32 := 128#32
  let v4119 : BitVec 32 := Scalar.muli arg9 c128_i32_1344
  let v4120 : BitVec 32 := v4119
  let v4121 : Index := Scalar.indexCast v4120
  ![1104, v4121.toNat]
def k0_mult150 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1348 : BitVec 32 := 128#32
  let v4133 : BitVec 32 := Scalar.muli arg9 c128_i32_1348
  v4133
def k0_off234 (k0_t1 : Fin k0_t1_loop.trips) : Fin 2 → Nat :=
  let c1424 : Index := 1424#32
  let c0_i32 : BitVec 32 := 0#32
  let c1_i32 : BitVec 32 := 1#32
  let arg9 : BitVec 32 := Scf.iv c0_i32 c1_i32 k0_t1
  let c128_i32_1348 : BitVec 32 := 128#32
  let v4133 : BitVec 32 := Scalar.muli arg9 c128_i32_1348
  let v4134 : BitVec 32 := v4133
  let v4135 : Index := Scalar.indexCast v4134
  ![1424, v4135.toNat]
def k0_mult151 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1352 : BitVec 32 := 128#32
  let v4147 : BitVec 32 := Scalar.muli arg9 c128_i32_1352
  v4147
def k0_off235 (k0_t1 : Fin k0_t1_loop.trips) : Fin 2 → Nat :=
  let c1744 : Index := 1744#32
  let c0_i32 : BitVec 32 := 0#32
  let c1_i32 : BitVec 32 := 1#32
  let arg9 : BitVec 32 := Scf.iv c0_i32 c1_i32 k0_t1
  let c128_i32_1352 : BitVec 32 := 128#32
  let v4147 : BitVec 32 := Scalar.muli arg9 c128_i32_1352
  let v4148 : BitVec 32 := v4147
  let v4149 : Index := Scalar.indexCast v4148
  ![1744, v4149.toNat]
def k0_mult152 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1356 : BitVec 32 := 128#32
  let v4161 : BitVec 32 := Scalar.muli arg9 c128_i32_1356
  v4161
def k0_off236 (k0_t1 : Fin k0_t1_loop.trips) : Fin 2 → Nat :=
  let c2064 : Index := 2064#32
  let c0_i32 : BitVec 32 := 0#32
  let c1_i32 : BitVec 32 := 1#32
  let arg9 : BitVec 32 := Scf.iv c0_i32 c1_i32 k0_t1
  let c128_i32_1356 : BitVec 32 := 128#32
  let v4161 : BitVec 32 := Scalar.muli arg9 c128_i32_1356
  let v4162 : BitVec 32 := v4161
  let v4163 : Index := Scalar.indexCast v4162
  ![2064, v4163.toNat]
def k0_mult153 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1360 : BitVec 32 := 128#32
  let v4175 : BitVec 32 := Scalar.muli arg9 c128_i32_1360
  v4175
def k0_off237 (k0_t1 : Fin k0_t1_loop.trips) : Fin 2 → Nat :=
  let c2384 : Index := 2384#32
  let c0_i32 : BitVec 32 := 0#32
  let c1_i32 : BitVec 32 := 1#32
  let arg9 : BitVec 32 := Scf.iv c0_i32 c1_i32 k0_t1
  let c128_i32_1360 : BitVec 32 := 128#32
  let v4175 : BitVec 32 := Scalar.muli arg9 c128_i32_1360
  let v4176 : BitVec 32 := v4175
  let v4177 : Index := Scalar.indexCast v4176
  ![2384, v4177.toNat]
def k0_mult154 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1364 : BitVec 32 := 128#32
  let v4189 : BitVec 32 := Scalar.muli arg9 c128_i32_1364
  v4189
def k0_off238 (k0_t1 : Fin k0_t1_loop.trips) : Fin 2 → Nat :=
  let c2704 : Index := 2704#32
  let c0_i32 : BitVec 32 := 0#32
  let c1_i32 : BitVec 32 := 1#32
  let arg9 : BitVec 32 := Scf.iv c0_i32 c1_i32 k0_t1
  let c128_i32_1364 : BitVec 32 := 128#32
  let v4189 : BitVec 32 := Scalar.muli arg9 c128_i32_1364
  let v4190 : BitVec 32 := v4189
  let v4191 : Index := Scalar.indexCast v4190
  ![2704, v4191.toNat]
def k0_mult155 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1368 : BitVec 32 := 128#32
  let v4203 : BitVec 32 := Scalar.muli arg9 c128_i32_1368
  v4203
def k0_off239 (k0_t1 : Fin k0_t1_loop.trips) : Fin 2 → Nat :=
  let c3024 : Index := 3024#32
  let c0_i32 : BitVec 32 := 0#32
  let c1_i32 : BitVec 32 := 1#32
  let arg9 : BitVec 32 := Scf.iv c0_i32 c1_i32 k0_t1
  let c128_i32_1368 : BitVec 32 := 128#32
  let v4203 : BitVec 32 := Scalar.muli arg9 c128_i32_1368
  let v4204 : BitVec 32 := v4203
  let v4205 : Index := Scalar.indexCast v4204
  ![3024, v4205.toNat]
def k0_mult156 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1372 : BitVec 32 := 128#32
  let v4217 : BitVec 32 := Scalar.muli arg9 c128_i32_1372
  v4217
def k0_off240 (k0_t1 : Fin k0_t1_loop.trips) : Fin 2 → Nat :=
  let c3344 : Index := 3344#32
  let c0_i32 : BitVec 32 := 0#32
  let c1_i32 : BitVec 32 := 1#32
  let arg9 : BitVec 32 := Scf.iv c0_i32 c1_i32 k0_t1
  let c128_i32_1372 : BitVec 32 := 128#32
  let v4217 : BitVec 32 := Scalar.muli arg9 c128_i32_1372
  let v4218 : BitVec 32 := v4217
  let v4219 : Index := Scalar.indexCast v4218
  ![3344, v4219.toNat]
def k0_mult157 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1376 : BitVec 32 := 128#32
  let v4231 : BitVec 32 := Scalar.muli arg9 c128_i32_1376
  v4231
def k0_off241 (k0_t1 : Fin k0_t1_loop.trips) : Fin 2 → Nat :=
  let c3664 : Index := 3664#32
  let c0_i32 : BitVec 32 := 0#32
  let c1_i32 : BitVec 32 := 1#32
  let arg9 : BitVec 32 := Scf.iv c0_i32 c1_i32 k0_t1
  let c128_i32_1376 : BitVec 32 := 128#32
  let v4231 : BitVec 32 := Scalar.muli arg9 c128_i32_1376
  let v4232 : BitVec 32 := v4231
  let v4233 : Index := Scalar.indexCast v4232
  ![3664, v4233.toNat]
def k0_mult158 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1380 : BitVec 32 := 128#32
  let v4245 : BitVec 32 := Scalar.muli arg9 c128_i32_1380
  v4245
def k0_off242 (k0_t1 : Fin k0_t1_loop.trips) : Fin 2 → Nat :=
  let c3984 : Index := 3984#32
  let c0_i32 : BitVec 32 := 0#32
  let c1_i32 : BitVec 32 := 1#32
  let arg9 : BitVec 32 := Scf.iv c0_i32 c1_i32 k0_t1
  let c128_i32_1380 : BitVec 32 := 128#32
  let v4245 : BitVec 32 := Scalar.muli arg9 c128_i32_1380
  let v4246 : BitVec 32 := v4245
  let v4247 : Index := Scalar.indexCast v4246
  ![3984, v4247.toNat]
def k0_mult159 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1384 : BitVec 32 := 128#32
  let v4259 : BitVec 32 := Scalar.muli arg9 c128_i32_1384
  v4259
def k0_off243 (k0_t1 : Fin k0_t1_loop.trips) : Fin 2 → Nat :=
  let c4304 : Index := 4304#32
  let c0_i32 : BitVec 32 := 0#32
  let c1_i32 : BitVec 32 := 1#32
  let arg9 : BitVec 32 := Scf.iv c0_i32 c1_i32 k0_t1
  let c128_i32_1384 : BitVec 32 := 128#32
  let v4259 : BitVec 32 := Scalar.muli arg9 c128_i32_1384
  let v4260 : BitVec 32 := v4259
  let v4261 : Index := Scalar.indexCast v4260
  ![4304, v4261.toNat]
def k0_mult160 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1388 : BitVec 32 := 128#32
  let v4273 : BitVec 32 := Scalar.muli arg9 c128_i32_1388
  v4273
def k0_off244 (k0_t1 : Fin k0_t1_loop.trips) : Fin 2 → Nat :=
  let c4624 : Index := 4624#32
  let c0_i32 : BitVec 32 := 0#32
  let c1_i32 : BitVec 32 := 1#32
  let arg9 : BitVec 32 := Scf.iv c0_i32 c1_i32 k0_t1
  let c128_i32_1388 : BitVec 32 := 128#32
  let v4273 : BitVec 32 := Scalar.muli arg9 c128_i32_1388
  let v4274 : BitVec 32 := v4273
  let v4275 : Index := Scalar.indexCast v4274
  ![4624, v4275.toNat]
def k0_mult161 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1392 : BitVec 32 := 128#32
  let v4287 : BitVec 32 := Scalar.muli arg9 c128_i32_1392
  v4287
def k0_off245 (k0_t1 : Fin k0_t1_loop.trips) : Fin 2 → Nat :=
  let c4944 : Index := 4944#32
  let c0_i32 : BitVec 32 := 0#32
  let c1_i32 : BitVec 32 := 1#32
  let arg9 : BitVec 32 := Scf.iv c0_i32 c1_i32 k0_t1
  let c128_i32_1392 : BitVec 32 := 128#32
  let v4287 : BitVec 32 := Scalar.muli arg9 c128_i32_1392
  let v4288 : BitVec 32 := v4287
  let v4289 : Index := Scalar.indexCast v4288
  ![4944, v4289.toNat]
def k0_off246 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4293 : Index := Scalar.indexCast arg9
  let c426 : Index := 426#32
  let c0_1393 : Index := 0#32
  ![v4293.toNat, 426, 0]
def k0_off247 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4296 : Index := Scalar.indexCast arg9
  let c427 : Index := 427#32
  let c0_1394 : Index := 0#32
  ![v4296.toNat, 427, 0]
def k0_off248 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4299 : Index := Scalar.indexCast arg9
  let c428 : Index := 428#32
  let c0_1395 : Index := 0#32
  ![v4299.toNat, 428, 0]
def k0_off249 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4302 : Index := Scalar.indexCast arg9
  let c429 : Index := 429#32
  let c0_1396 : Index := 0#32
  ![v4302.toNat, 429, 0]
def k0_off250 (k0_t1 : Fin k0_t1_loop.trips) : Fin 4 → Nat :=
  let c0_i32 : BitVec 32 := 0#32
  let c1_i32 : BitVec 32 := 1#32
  let arg9 : BitVec 32 := Scf.iv c0_i32 c1_i32 k0_t1
  let v4329 : Index := Scalar.indexCast arg9
  let c80_1409 : Index := 80#32
  let c0_1410 : Index := 0#32
  ![v4329.toNat, 80, 0, 0]
def k0_mult162 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1414 : BitVec 32 := 128#32
  let v4341 : BitVec 32 := Scalar.muli arg9 c128_i32_1414
  v4341
def k0_off251 (k0_t1 : Fin k0_t1_loop.trips) : Fin 2 → Nat :=
  let c160 : Index := 160#32
  let c0_i32 : BitVec 32 := 0#32
  let c1_i32 : BitVec 32 := 1#32
  let arg9 : BitVec 32 := Scf.iv c0_i32 c1_i32 k0_t1
  let c128_i32_1414 : BitVec 32 := 128#32
  let v4341 : BitVec 32 := Scalar.muli arg9 c128_i32_1414
  let v4342 : BitVec 32 := v4341
  let v4343 : Index := Scalar.indexCast v4342
  ![160, v4343.toNat]
def k0_mult163 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1418 : BitVec 32 := 128#32
  let v4355 : BitVec 32 := Scalar.muli arg9 c128_i32_1418
  v4355
def k0_off252 (k0_t1 : Fin k0_t1_loop.trips) : Fin 2 → Nat :=
  let c480 : Index := 480#32
  let c0_i32 : BitVec 32 := 0#32
  let c1_i32 : BitVec 32 := 1#32
  let arg9 : BitVec 32 := Scf.iv c0_i32 c1_i32 k0_t1
  let c128_i32_1418 : BitVec 32 := 128#32
  let v4355 : BitVec 32 := Scalar.muli arg9 c128_i32_1418
  let v4356 : BitVec 32 := v4355
  let v4357 : Index := Scalar.indexCast v4356
  ![480, v4357.toNat]
def k0_mult164 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1422 : BitVec 32 := 128#32
  let v4369 : BitVec 32 := Scalar.muli arg9 c128_i32_1422
  v4369
def k0_off253 (k0_t1 : Fin k0_t1_loop.trips) : Fin 2 → Nat :=
  let c800 : Index := 800#32
  let c0_i32 : BitVec 32 := 0#32
  let c1_i32 : BitVec 32 := 1#32
  let arg9 : BitVec 32 := Scf.iv c0_i32 c1_i32 k0_t1
  let c128_i32_1422 : BitVec 32 := 128#32
  let v4369 : BitVec 32 := Scalar.muli arg9 c128_i32_1422
  let v4370 : BitVec 32 := v4369
  let v4371 : Index := Scalar.indexCast v4370
  ![800, v4371.toNat]
def k0_mult165 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1426 : BitVec 32 := 128#32
  let v4383 : BitVec 32 := Scalar.muli arg9 c128_i32_1426
  v4383
def k0_off254 (k0_t1 : Fin k0_t1_loop.trips) : Fin 2 → Nat :=
  let c1120 : Index := 1120#32
  let c0_i32 : BitVec 32 := 0#32
  let c1_i32 : BitVec 32 := 1#32
  let arg9 : BitVec 32 := Scf.iv c0_i32 c1_i32 k0_t1
  let c128_i32_1426 : BitVec 32 := 128#32
  let v4383 : BitVec 32 := Scalar.muli arg9 c128_i32_1426
  let v4384 : BitVec 32 := v4383
  let v4385 : Index := Scalar.indexCast v4384
  ![1120, v4385.toNat]
def k0_mult166 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1430 : BitVec 32 := 128#32
  let v4397 : BitVec 32 := Scalar.muli arg9 c128_i32_1430
  v4397
def k0_off255 (k0_t1 : Fin k0_t1_loop.trips) : Fin 2 → Nat :=
  let c1440 : Index := 1440#32
  let c0_i32 : BitVec 32 := 0#32
  let c1_i32 : BitVec 32 := 1#32
  let arg9 : BitVec 32 := Scf.iv c0_i32 c1_i32 k0_t1
  let c128_i32_1430 : BitVec 32 := 128#32
  let v4397 : BitVec 32 := Scalar.muli arg9 c128_i32_1430
  let v4398 : BitVec 32 := v4397
  let v4399 : Index := Scalar.indexCast v4398
  ![1440, v4399.toNat]
def k0_mult167 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1434 : BitVec 32 := 128#32
  let v4411 : BitVec 32 := Scalar.muli arg9 c128_i32_1434
  v4411
def k0_off256 (k0_t1 : Fin k0_t1_loop.trips) : Fin 2 → Nat :=
  let c1760 : Index := 1760#32
  let c0_i32 : BitVec 32 := 0#32
  let c1_i32 : BitVec 32 := 1#32
  let arg9 : BitVec 32 := Scf.iv c0_i32 c1_i32 k0_t1
  let c128_i32_1434 : BitVec 32 := 128#32
  let v4411 : BitVec 32 := Scalar.muli arg9 c128_i32_1434
  let v4412 : BitVec 32 := v4411
  let v4413 : Index := Scalar.indexCast v4412
  ![1760, v4413.toNat]
def k0_mult168 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1438 : BitVec 32 := 128#32
  let v4425 : BitVec 32 := Scalar.muli arg9 c128_i32_1438
  v4425
def k0_off257 (k0_t1 : Fin k0_t1_loop.trips) : Fin 2 → Nat :=
  let c2080 : Index := 2080#32
  let c0_i32 : BitVec 32 := 0#32
  let c1_i32 : BitVec 32 := 1#32
  let arg9 : BitVec 32 := Scf.iv c0_i32 c1_i32 k0_t1
  let c128_i32_1438 : BitVec 32 := 128#32
  let v4425 : BitVec 32 := Scalar.muli arg9 c128_i32_1438
  let v4426 : BitVec 32 := v4425
  let v4427 : Index := Scalar.indexCast v4426
  ![2080, v4427.toNat]
def k0_mult169 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1442 : BitVec 32 := 128#32
  let v4439 : BitVec 32 := Scalar.muli arg9 c128_i32_1442
  v4439
def k0_off258 (k0_t1 : Fin k0_t1_loop.trips) : Fin 2 → Nat :=
  let c2400 : Index := 2400#32
  let c0_i32 : BitVec 32 := 0#32
  let c1_i32 : BitVec 32 := 1#32
  let arg9 : BitVec 32 := Scf.iv c0_i32 c1_i32 k0_t1
  let c128_i32_1442 : BitVec 32 := 128#32
  let v4439 : BitVec 32 := Scalar.muli arg9 c128_i32_1442
  let v4440 : BitVec 32 := v4439
  let v4441 : Index := Scalar.indexCast v4440
  ![2400, v4441.toNat]
def k0_mult170 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1446 : BitVec 32 := 128#32
  let v4453 : BitVec 32 := Scalar.muli arg9 c128_i32_1446
  v4453
def k0_off259 (k0_t1 : Fin k0_t1_loop.trips) : Fin 2 → Nat :=
  let c2720 : Index := 2720#32
  let c0_i32 : BitVec 32 := 0#32
  let c1_i32 : BitVec 32 := 1#32
  let arg9 : BitVec 32 := Scf.iv c0_i32 c1_i32 k0_t1
  let c128_i32_1446 : BitVec 32 := 128#32
  let v4453 : BitVec 32 := Scalar.muli arg9 c128_i32_1446
  let v4454 : BitVec 32 := v4453
  let v4455 : Index := Scalar.indexCast v4454
  ![2720, v4455.toNat]
def k0_mult171 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1450 : BitVec 32 := 128#32
  let v4467 : BitVec 32 := Scalar.muli arg9 c128_i32_1450
  v4467
def k0_off260 (k0_t1 : Fin k0_t1_loop.trips) : Fin 2 → Nat :=
  let c3040 : Index := 3040#32
  let c0_i32 : BitVec 32 := 0#32
  let c1_i32 : BitVec 32 := 1#32
  let arg9 : BitVec 32 := Scf.iv c0_i32 c1_i32 k0_t1
  let c128_i32_1450 : BitVec 32 := 128#32
  let v4467 : BitVec 32 := Scalar.muli arg9 c128_i32_1450
  let v4468 : BitVec 32 := v4467
  let v4469 : Index := Scalar.indexCast v4468
  ![3040, v4469.toNat]
def k0_mult172 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1454 : BitVec 32 := 128#32
  let v4481 : BitVec 32 := Scalar.muli arg9 c128_i32_1454
  v4481
def k0_off261 (k0_t1 : Fin k0_t1_loop.trips) : Fin 2 → Nat :=
  let c3360 : Index := 3360#32
  let c0_i32 : BitVec 32 := 0#32
  let c1_i32 : BitVec 32 := 1#32
  let arg9 : BitVec 32 := Scf.iv c0_i32 c1_i32 k0_t1
  let c128_i32_1454 : BitVec 32 := 128#32
  let v4481 : BitVec 32 := Scalar.muli arg9 c128_i32_1454
  let v4482 : BitVec 32 := v4481
  let v4483 : Index := Scalar.indexCast v4482
  ![3360, v4483.toNat]
def k0_mult173 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1458 : BitVec 32 := 128#32
  let v4495 : BitVec 32 := Scalar.muli arg9 c128_i32_1458
  v4495
def k0_off262 (k0_t1 : Fin k0_t1_loop.trips) : Fin 2 → Nat :=
  let c3680 : Index := 3680#32
  let c0_i32 : BitVec 32 := 0#32
  let c1_i32 : BitVec 32 := 1#32
  let arg9 : BitVec 32 := Scf.iv c0_i32 c1_i32 k0_t1
  let c128_i32_1458 : BitVec 32 := 128#32
  let v4495 : BitVec 32 := Scalar.muli arg9 c128_i32_1458
  let v4496 : BitVec 32 := v4495
  let v4497 : Index := Scalar.indexCast v4496
  ![3680, v4497.toNat]
def k0_mult174 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1462 : BitVec 32 := 128#32
  let v4509 : BitVec 32 := Scalar.muli arg9 c128_i32_1462
  v4509
def k0_off263 (k0_t1 : Fin k0_t1_loop.trips) : Fin 2 → Nat :=
  let c4000 : Index := 4000#32
  let c0_i32 : BitVec 32 := 0#32
  let c1_i32 : BitVec 32 := 1#32
  let arg9 : BitVec 32 := Scf.iv c0_i32 c1_i32 k0_t1
  let c128_i32_1462 : BitVec 32 := 128#32
  let v4509 : BitVec 32 := Scalar.muli arg9 c128_i32_1462
  let v4510 : BitVec 32 := v4509
  let v4511 : Index := Scalar.indexCast v4510
  ![4000, v4511.toNat]
def k0_mult175 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1466 : BitVec 32 := 128#32
  let v4523 : BitVec 32 := Scalar.muli arg9 c128_i32_1466
  v4523
def k0_off264 (k0_t1 : Fin k0_t1_loop.trips) : Fin 2 → Nat :=
  let c4320 : Index := 4320#32
  let c0_i32 : BitVec 32 := 0#32
  let c1_i32 : BitVec 32 := 1#32
  let arg9 : BitVec 32 := Scf.iv c0_i32 c1_i32 k0_t1
  let c128_i32_1466 : BitVec 32 := 128#32
  let v4523 : BitVec 32 := Scalar.muli arg9 c128_i32_1466
  let v4524 : BitVec 32 := v4523
  let v4525 : Index := Scalar.indexCast v4524
  ![4320, v4525.toNat]
def k0_mult176 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1470 : BitVec 32 := 128#32
  let v4537 : BitVec 32 := Scalar.muli arg9 c128_i32_1470
  v4537
def k0_off265 (k0_t1 : Fin k0_t1_loop.trips) : Fin 2 → Nat :=
  let c4640 : Index := 4640#32
  let c0_i32 : BitVec 32 := 0#32
  let c1_i32 : BitVec 32 := 1#32
  let arg9 : BitVec 32 := Scf.iv c0_i32 c1_i32 k0_t1
  let c128_i32_1470 : BitVec 32 := 128#32
  let v4537 : BitVec 32 := Scalar.muli arg9 c128_i32_1470
  let v4538 : BitVec 32 := v4537
  let v4539 : Index := Scalar.indexCast v4538
  ![4640, v4539.toNat]
def k0_mult177 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1474 : BitVec 32 := 128#32
  let v4551 : BitVec 32 := Scalar.muli arg9 c128_i32_1474
  v4551
def k0_off266 (k0_t1 : Fin k0_t1_loop.trips) : Fin 2 → Nat :=
  let c4960 : Index := 4960#32
  let c0_i32 : BitVec 32 := 0#32
  let c1_i32 : BitVec 32 := 1#32
  let arg9 : BitVec 32 := Scf.iv c0_i32 c1_i32 k0_t1
  let c128_i32_1474 : BitVec 32 := 128#32
  let v4551 : BitVec 32 := Scalar.muli arg9 c128_i32_1474
  let v4552 : BitVec 32 := v4551
  let v4553 : Index := Scalar.indexCast v4552
  ![4960, v4553.toNat]
def k0_off267 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4557 : Index := Scalar.indexCast arg9
  let c458 : Index := 458#32
  let c0_1475 : Index := 0#32
  ![v4557.toNat, 458, 0]
def k0_off268 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4560 : Index := Scalar.indexCast arg9
  let c459 : Index := 459#32
  let c0_1476 : Index := 0#32
  ![v4560.toNat, 459, 0]
def k0_off269 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4563 : Index := Scalar.indexCast arg9
  let c460 : Index := 460#32
  let c0_1477 : Index := 0#32
  ![v4563.toNat, 460, 0]
def k0_off270 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4566 : Index := Scalar.indexCast arg9
  let c461 : Index := 461#32
  let c0_1478 : Index := 0#32
  ![v4566.toNat, 461, 0]
def k0_off271 (k0_t1 : Fin k0_t1_loop.trips) : Fin 4 → Nat :=
  let c0_i32 : BitVec 32 := 0#32
  let c1_i32 : BitVec 32 := 1#32
  let arg9 : BitVec 32 := Scf.iv c0_i32 c1_i32 k0_t1
  let v4593 : Index := Scalar.indexCast arg9
  let c88 : Index := 88#32
  let c0_1491 : Index := 0#32
  ![v4593.toNat, 88, 0, 0]
def k0_mult178 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1495 : BitVec 32 := 128#32
  let v4605 : BitVec 32 := Scalar.muli arg9 c128_i32_1495
  v4605
def k0_off272 (k0_t1 : Fin k0_t1_loop.trips) : Fin 2 → Nat :=
  let c176 : Index := 176#32
  let c0_i32 : BitVec 32 := 0#32
  let c1_i32 : BitVec 32 := 1#32
  let arg9 : BitVec 32 := Scf.iv c0_i32 c1_i32 k0_t1
  let c128_i32_1495 : BitVec 32 := 128#32
  let v4605 : BitVec 32 := Scalar.muli arg9 c128_i32_1495
  let v4606 : BitVec 32 := v4605
  let v4607 : Index := Scalar.indexCast v4606
  ![176, v4607.toNat]
def k0_mult179 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1499 : BitVec 32 := 128#32
  let v4619 : BitVec 32 := Scalar.muli arg9 c128_i32_1499
  v4619
def k0_off273 (k0_t1 : Fin k0_t1_loop.trips) : Fin 2 → Nat :=
  let c496 : Index := 496#32
  let c0_i32 : BitVec 32 := 0#32
  let c1_i32 : BitVec 32 := 1#32
  let arg9 : BitVec 32 := Scf.iv c0_i32 c1_i32 k0_t1
  let c128_i32_1499 : BitVec 32 := 128#32
  let v4619 : BitVec 32 := Scalar.muli arg9 c128_i32_1499
  let v4620 : BitVec 32 := v4619
  let v4621 : Index := Scalar.indexCast v4620
  ![496, v4621.toNat]
def k0_mult180 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1503 : BitVec 32 := 128#32
  let v4633 : BitVec 32 := Scalar.muli arg9 c128_i32_1503
  v4633
def k0_off274 (k0_t1 : Fin k0_t1_loop.trips) : Fin 2 → Nat :=
  let c816 : Index := 816#32
  let c0_i32 : BitVec 32 := 0#32
  let c1_i32 : BitVec 32 := 1#32
  let arg9 : BitVec 32 := Scf.iv c0_i32 c1_i32 k0_t1
  let c128_i32_1503 : BitVec 32 := 128#32
  let v4633 : BitVec 32 := Scalar.muli arg9 c128_i32_1503
  let v4634 : BitVec 32 := v4633
  let v4635 : Index := Scalar.indexCast v4634
  ![816, v4635.toNat]
def k0_mult181 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1507 : BitVec 32 := 128#32
  let v4647 : BitVec 32 := Scalar.muli arg9 c128_i32_1507
  v4647
def k0_off275 (k0_t1 : Fin k0_t1_loop.trips) : Fin 2 → Nat :=
  let c1136 : Index := 1136#32
  let c0_i32 : BitVec 32 := 0#32
  let c1_i32 : BitVec 32 := 1#32
  let arg9 : BitVec 32 := Scf.iv c0_i32 c1_i32 k0_t1
  let c128_i32_1507 : BitVec 32 := 128#32
  let v4647 : BitVec 32 := Scalar.muli arg9 c128_i32_1507
  let v4648 : BitVec 32 := v4647
  let v4649 : Index := Scalar.indexCast v4648
  ![1136, v4649.toNat]
def k0_mult182 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1511 : BitVec 32 := 128#32
  let v4661 : BitVec 32 := Scalar.muli arg9 c128_i32_1511
  v4661
def k0_off276 (k0_t1 : Fin k0_t1_loop.trips) : Fin 2 → Nat :=
  let c1456 : Index := 1456#32
  let c0_i32 : BitVec 32 := 0#32
  let c1_i32 : BitVec 32 := 1#32
  let arg9 : BitVec 32 := Scf.iv c0_i32 c1_i32 k0_t1
  let c128_i32_1511 : BitVec 32 := 128#32
  let v4661 : BitVec 32 := Scalar.muli arg9 c128_i32_1511
  let v4662 : BitVec 32 := v4661
  let v4663 : Index := Scalar.indexCast v4662
  ![1456, v4663.toNat]
def k0_mult183 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1515 : BitVec 32 := 128#32
  let v4675 : BitVec 32 := Scalar.muli arg9 c128_i32_1515
  v4675
def k0_off277 (k0_t1 : Fin k0_t1_loop.trips) : Fin 2 → Nat :=
  let c1776 : Index := 1776#32
  let c0_i32 : BitVec 32 := 0#32
  let c1_i32 : BitVec 32 := 1#32
  let arg9 : BitVec 32 := Scf.iv c0_i32 c1_i32 k0_t1
  let c128_i32_1515 : BitVec 32 := 128#32
  let v4675 : BitVec 32 := Scalar.muli arg9 c128_i32_1515
  let v4676 : BitVec 32 := v4675
  let v4677 : Index := Scalar.indexCast v4676
  ![1776, v4677.toNat]
def k0_mult184 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1519 : BitVec 32 := 128#32
  let v4689 : BitVec 32 := Scalar.muli arg9 c128_i32_1519
  v4689
def k0_off278 (k0_t1 : Fin k0_t1_loop.trips) : Fin 2 → Nat :=
  let c2096 : Index := 2096#32
  let c0_i32 : BitVec 32 := 0#32
  let c1_i32 : BitVec 32 := 1#32
  let arg9 : BitVec 32 := Scf.iv c0_i32 c1_i32 k0_t1
  let c128_i32_1519 : BitVec 32 := 128#32
  let v4689 : BitVec 32 := Scalar.muli arg9 c128_i32_1519
  let v4690 : BitVec 32 := v4689
  let v4691 : Index := Scalar.indexCast v4690
  ![2096, v4691.toNat]
def k0_mult185 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1523 : BitVec 32 := 128#32
  let v4703 : BitVec 32 := Scalar.muli arg9 c128_i32_1523
  v4703
def k0_off279 (k0_t1 : Fin k0_t1_loop.trips) : Fin 2 → Nat :=
  let c2416 : Index := 2416#32
  let c0_i32 : BitVec 32 := 0#32
  let c1_i32 : BitVec 32 := 1#32
  let arg9 : BitVec 32 := Scf.iv c0_i32 c1_i32 k0_t1
  let c128_i32_1523 : BitVec 32 := 128#32
  let v4703 : BitVec 32 := Scalar.muli arg9 c128_i32_1523
  let v4704 : BitVec 32 := v4703
  let v4705 : Index := Scalar.indexCast v4704
  ![2416, v4705.toNat]
def k0_mult186 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1527 : BitVec 32 := 128#32
  let v4717 : BitVec 32 := Scalar.muli arg9 c128_i32_1527
  v4717
def k0_off280 (k0_t1 : Fin k0_t1_loop.trips) : Fin 2 → Nat :=
  let c2736 : Index := 2736#32
  let c0_i32 : BitVec 32 := 0#32
  let c1_i32 : BitVec 32 := 1#32
  let arg9 : BitVec 32 := Scf.iv c0_i32 c1_i32 k0_t1
  let c128_i32_1527 : BitVec 32 := 128#32
  let v4717 : BitVec 32 := Scalar.muli arg9 c128_i32_1527
  let v4718 : BitVec 32 := v4717
  let v4719 : Index := Scalar.indexCast v4718
  ![2736, v4719.toNat]
def k0_mult187 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1531 : BitVec 32 := 128#32
  let v4731 : BitVec 32 := Scalar.muli arg9 c128_i32_1531
  v4731
def k0_off281 (k0_t1 : Fin k0_t1_loop.trips) : Fin 2 → Nat :=
  let c3056 : Index := 3056#32
  let c0_i32 : BitVec 32 := 0#32
  let c1_i32 : BitVec 32 := 1#32
  let arg9 : BitVec 32 := Scf.iv c0_i32 c1_i32 k0_t1
  let c128_i32_1531 : BitVec 32 := 128#32
  let v4731 : BitVec 32 := Scalar.muli arg9 c128_i32_1531
  let v4732 : BitVec 32 := v4731
  let v4733 : Index := Scalar.indexCast v4732
  ![3056, v4733.toNat]
def k0_mult188 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1535 : BitVec 32 := 128#32
  let v4745 : BitVec 32 := Scalar.muli arg9 c128_i32_1535
  v4745
def k0_off282 (k0_t1 : Fin k0_t1_loop.trips) : Fin 2 → Nat :=
  let c3376 : Index := 3376#32
  let c0_i32 : BitVec 32 := 0#32
  let c1_i32 : BitVec 32 := 1#32
  let arg9 : BitVec 32 := Scf.iv c0_i32 c1_i32 k0_t1
  let c128_i32_1535 : BitVec 32 := 128#32
  let v4745 : BitVec 32 := Scalar.muli arg9 c128_i32_1535
  let v4746 : BitVec 32 := v4745
  let v4747 : Index := Scalar.indexCast v4746
  ![3376, v4747.toNat]
def k0_mult189 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1539 : BitVec 32 := 128#32
  let v4759 : BitVec 32 := Scalar.muli arg9 c128_i32_1539
  v4759
def k0_off283 (k0_t1 : Fin k0_t1_loop.trips) : Fin 2 → Nat :=
  let c3696 : Index := 3696#32
  let c0_i32 : BitVec 32 := 0#32
  let c1_i32 : BitVec 32 := 1#32
  let arg9 : BitVec 32 := Scf.iv c0_i32 c1_i32 k0_t1
  let c128_i32_1539 : BitVec 32 := 128#32
  let v4759 : BitVec 32 := Scalar.muli arg9 c128_i32_1539
  let v4760 : BitVec 32 := v4759
  let v4761 : Index := Scalar.indexCast v4760
  ![3696, v4761.toNat]
def k0_mult190 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1543 : BitVec 32 := 128#32
  let v4773 : BitVec 32 := Scalar.muli arg9 c128_i32_1543
  v4773
def k0_off284 (k0_t1 : Fin k0_t1_loop.trips) : Fin 2 → Nat :=
  let c4016 : Index := 4016#32
  let c0_i32 : BitVec 32 := 0#32
  let c1_i32 : BitVec 32 := 1#32
  let arg9 : BitVec 32 := Scf.iv c0_i32 c1_i32 k0_t1
  let c128_i32_1543 : BitVec 32 := 128#32
  let v4773 : BitVec 32 := Scalar.muli arg9 c128_i32_1543
  let v4774 : BitVec 32 := v4773
  let v4775 : Index := Scalar.indexCast v4774
  ![4016, v4775.toNat]
def k0_mult191 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1547 : BitVec 32 := 128#32
  let v4787 : BitVec 32 := Scalar.muli arg9 c128_i32_1547
  v4787
def k0_off285 (k0_t1 : Fin k0_t1_loop.trips) : Fin 2 → Nat :=
  let c4336 : Index := 4336#32
  let c0_i32 : BitVec 32 := 0#32
  let c1_i32 : BitVec 32 := 1#32
  let arg9 : BitVec 32 := Scf.iv c0_i32 c1_i32 k0_t1
  let c128_i32_1547 : BitVec 32 := 128#32
  let v4787 : BitVec 32 := Scalar.muli arg9 c128_i32_1547
  let v4788 : BitVec 32 := v4787
  let v4789 : Index := Scalar.indexCast v4788
  ![4336, v4789.toNat]
def k0_mult192 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1551 : BitVec 32 := 128#32
  let v4801 : BitVec 32 := Scalar.muli arg9 c128_i32_1551
  v4801
def k0_off286 (k0_t1 : Fin k0_t1_loop.trips) : Fin 2 → Nat :=
  let c4656 : Index := 4656#32
  let c0_i32 : BitVec 32 := 0#32
  let c1_i32 : BitVec 32 := 1#32
  let arg9 : BitVec 32 := Scf.iv c0_i32 c1_i32 k0_t1
  let c128_i32_1551 : BitVec 32 := 128#32
  let v4801 : BitVec 32 := Scalar.muli arg9 c128_i32_1551
  let v4802 : BitVec 32 := v4801
  let v4803 : Index := Scalar.indexCast v4802
  ![4656, v4803.toNat]
def k0_mult193 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1555 : BitVec 32 := 128#32
  let v4815 : BitVec 32 := Scalar.muli arg9 c128_i32_1555
  v4815
def k0_off287 (k0_t1 : Fin k0_t1_loop.trips) : Fin 2 → Nat :=
  let c4976 : Index := 4976#32
  let c0_i32 : BitVec 32 := 0#32
  let c1_i32 : BitVec 32 := 1#32
  let arg9 : BitVec 32 := Scf.iv c0_i32 c1_i32 k0_t1
  let c128_i32_1555 : BitVec 32 := 128#32
  let v4815 : BitVec 32 := Scalar.muli arg9 c128_i32_1555
  let v4816 : BitVec 32 := v4815
  let v4817 : Index := Scalar.indexCast v4816
  ![4976, v4817.toNat]
def k0_off288 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4821 : Index := Scalar.indexCast arg9
  let c490 : Index := 490#32
  let c0_1556 : Index := 0#32
  ![v4821.toNat, 490, 0]
def k0_off289 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4824 : Index := Scalar.indexCast arg9
  let c491 : Index := 491#32
  let c0_1557 : Index := 0#32
  ![v4824.toNat, 491, 0]
def k0_off290 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4827 : Index := Scalar.indexCast arg9
  let c492 : Index := 492#32
  let c0_1558 : Index := 0#32
  ![v4827.toNat, 492, 0]
def k0_off291 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4830 : Index := Scalar.indexCast arg9
  let c493 : Index := 493#32
  let c0_1559 : Index := 0#32
  ![v4830.toNat, 493, 0]
def k0_off292 (k0_t1 : Fin k0_t1_loop.trips) : Fin 4 → Nat :=
  let c0_i32 : BitVec 32 := 0#32
  let c1_i32 : BitVec 32 := 1#32
  let arg9 : BitVec 32 := Scf.iv c0_i32 c1_i32 k0_t1
  let v4857 : Index := Scalar.indexCast arg9
  let c96_1572 : Index := 96#32
  let c0_1573 : Index := 0#32
  ![v4857.toNat, 96, 0, 0]
def k0_mult194 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1577 : BitVec 32 := 128#32
  let v4869 : BitVec 32 := Scalar.muli arg9 c128_i32_1577
  v4869
def k0_off293 (k0_t1 : Fin k0_t1_loop.trips) : Fin 2 → Nat :=
  let c192 : Index := 192#32
  let c0_i32 : BitVec 32 := 0#32
  let c1_i32 : BitVec 32 := 1#32
  let arg9 : BitVec 32 := Scf.iv c0_i32 c1_i32 k0_t1
  let c128_i32_1577 : BitVec 32 := 128#32
  let v4869 : BitVec 32 := Scalar.muli arg9 c128_i32_1577
  let v4870 : BitVec 32 := v4869
  let v4871 : Index := Scalar.indexCast v4870
  ![192, v4871.toNat]
def k0_mult195 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1581 : BitVec 32 := 128#32
  let v4883 : BitVec 32 := Scalar.muli arg9 c128_i32_1581
  v4883
def k0_off294 (k0_t1 : Fin k0_t1_loop.trips) : Fin 2 → Nat :=
  let c512 : Index := 512#32
  let c0_i32 : BitVec 32 := 0#32
  let c1_i32 : BitVec 32 := 1#32
  let arg9 : BitVec 32 := Scf.iv c0_i32 c1_i32 k0_t1
  let c128_i32_1581 : BitVec 32 := 128#32
  let v4883 : BitVec 32 := Scalar.muli arg9 c128_i32_1581
  let v4884 : BitVec 32 := v4883
  let v4885 : Index := Scalar.indexCast v4884
  ![512, v4885.toNat]
def k0_mult196 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1585 : BitVec 32 := 128#32
  let v4897 : BitVec 32 := Scalar.muli arg9 c128_i32_1585
  v4897
def k0_off295 (k0_t1 : Fin k0_t1_loop.trips) : Fin 2 → Nat :=
  let c832 : Index := 832#32
  let c0_i32 : BitVec 32 := 0#32
  let c1_i32 : BitVec 32 := 1#32
  let arg9 : BitVec 32 := Scf.iv c0_i32 c1_i32 k0_t1
  let c128_i32_1585 : BitVec 32 := 128#32
  let v4897 : BitVec 32 := Scalar.muli arg9 c128_i32_1585
  let v4898 : BitVec 32 := v4897
  let v4899 : Index := Scalar.indexCast v4898
  ![832, v4899.toNat]
def k0_mult197 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1589 : BitVec 32 := 128#32
  let v4911 : BitVec 32 := Scalar.muli arg9 c128_i32_1589
  v4911
def k0_off296 (k0_t1 : Fin k0_t1_loop.trips) : Fin 2 → Nat :=
  let c1152 : Index := 1152#32
  let c0_i32 : BitVec 32 := 0#32
  let c1_i32 : BitVec 32 := 1#32
  let arg9 : BitVec 32 := Scf.iv c0_i32 c1_i32 k0_t1
  let c128_i32_1589 : BitVec 32 := 128#32
  let v4911 : BitVec 32 := Scalar.muli arg9 c128_i32_1589
  let v4912 : BitVec 32 := v4911
  let v4913 : Index := Scalar.indexCast v4912
  ![1152, v4913.toNat]
def k0_mult198 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1593 : BitVec 32 := 128#32
  let v4925 : BitVec 32 := Scalar.muli arg9 c128_i32_1593
  v4925
def k0_off297 (k0_t1 : Fin k0_t1_loop.trips) : Fin 2 → Nat :=
  let c1472 : Index := 1472#32
  let c0_i32 : BitVec 32 := 0#32
  let c1_i32 : BitVec 32 := 1#32
  let arg9 : BitVec 32 := Scf.iv c0_i32 c1_i32 k0_t1
  let c128_i32_1593 : BitVec 32 := 128#32
  let v4925 : BitVec 32 := Scalar.muli arg9 c128_i32_1593
  let v4926 : BitVec 32 := v4925
  let v4927 : Index := Scalar.indexCast v4926
  ![1472, v4927.toNat]
def k0_mult199 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1597 : BitVec 32 := 128#32
  let v4939 : BitVec 32 := Scalar.muli arg9 c128_i32_1597
  v4939
def k0_off298 (k0_t1 : Fin k0_t1_loop.trips) : Fin 2 → Nat :=
  let c1792 : Index := 1792#32
  let c0_i32 : BitVec 32 := 0#32
  let c1_i32 : BitVec 32 := 1#32
  let arg9 : BitVec 32 := Scf.iv c0_i32 c1_i32 k0_t1
  let c128_i32_1597 : BitVec 32 := 128#32
  let v4939 : BitVec 32 := Scalar.muli arg9 c128_i32_1597
  let v4940 : BitVec 32 := v4939
  let v4941 : Index := Scalar.indexCast v4940
  ![1792, v4941.toNat]
def k0_mult200 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1601 : BitVec 32 := 128#32
  let v4953 : BitVec 32 := Scalar.muli arg9 c128_i32_1601
  v4953
def k0_off299 (k0_t1 : Fin k0_t1_loop.trips) : Fin 2 → Nat :=
  let c2112 : Index := 2112#32
  let c0_i32 : BitVec 32 := 0#32
  let c1_i32 : BitVec 32 := 1#32
  let arg9 : BitVec 32 := Scf.iv c0_i32 c1_i32 k0_t1
  let c128_i32_1601 : BitVec 32 := 128#32
  let v4953 : BitVec 32 := Scalar.muli arg9 c128_i32_1601
  let v4954 : BitVec 32 := v4953
  let v4955 : Index := Scalar.indexCast v4954
  ![2112, v4955.toNat]
def k0_mult201 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1605 : BitVec 32 := 128#32
  let v4967 : BitVec 32 := Scalar.muli arg9 c128_i32_1605
  v4967
def k0_off300 (k0_t1 : Fin k0_t1_loop.trips) : Fin 2 → Nat :=
  let c2432 : Index := 2432#32
  let c0_i32 : BitVec 32 := 0#32
  let c1_i32 : BitVec 32 := 1#32
  let arg9 : BitVec 32 := Scf.iv c0_i32 c1_i32 k0_t1
  let c128_i32_1605 : BitVec 32 := 128#32
  let v4967 : BitVec 32 := Scalar.muli arg9 c128_i32_1605
  let v4968 : BitVec 32 := v4967
  let v4969 : Index := Scalar.indexCast v4968
  ![2432, v4969.toNat]
def k0_mult202 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1609 : BitVec 32 := 128#32
  let v4981 : BitVec 32 := Scalar.muli arg9 c128_i32_1609
  v4981
def k0_off301 (k0_t1 : Fin k0_t1_loop.trips) : Fin 2 → Nat :=
  let c2752 : Index := 2752#32
  let c0_i32 : BitVec 32 := 0#32
  let c1_i32 : BitVec 32 := 1#32
  let arg9 : BitVec 32 := Scf.iv c0_i32 c1_i32 k0_t1
  let c128_i32_1609 : BitVec 32 := 128#32
  let v4981 : BitVec 32 := Scalar.muli arg9 c128_i32_1609
  let v4982 : BitVec 32 := v4981
  let v4983 : Index := Scalar.indexCast v4982
  ![2752, v4983.toNat]
def k0_mult203 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1613 : BitVec 32 := 128#32
  let v4995 : BitVec 32 := Scalar.muli arg9 c128_i32_1613
  v4995
def k0_off302 (k0_t1 : Fin k0_t1_loop.trips) : Fin 2 → Nat :=
  let c3072 : Index := 3072#32
  let c0_i32 : BitVec 32 := 0#32
  let c1_i32 : BitVec 32 := 1#32
  let arg9 : BitVec 32 := Scf.iv c0_i32 c1_i32 k0_t1
  let c128_i32_1613 : BitVec 32 := 128#32
  let v4995 : BitVec 32 := Scalar.muli arg9 c128_i32_1613
  let v4996 : BitVec 32 := v4995
  let v4997 : Index := Scalar.indexCast v4996
  ![3072, v4997.toNat]
def k0_mult204 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1617 : BitVec 32 := 128#32
  let v5009 : BitVec 32 := Scalar.muli arg9 c128_i32_1617
  v5009
def k0_off303 (k0_t1 : Fin k0_t1_loop.trips) : Fin 2 → Nat :=
  let c3392 : Index := 3392#32
  let c0_i32 : BitVec 32 := 0#32
  let c1_i32 : BitVec 32 := 1#32
  let arg9 : BitVec 32 := Scf.iv c0_i32 c1_i32 k0_t1
  let c128_i32_1617 : BitVec 32 := 128#32
  let v5009 : BitVec 32 := Scalar.muli arg9 c128_i32_1617
  let v5010 : BitVec 32 := v5009
  let v5011 : Index := Scalar.indexCast v5010
  ![3392, v5011.toNat]
def k0_mult205 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1621 : BitVec 32 := 128#32
  let v5023 : BitVec 32 := Scalar.muli arg9 c128_i32_1621
  v5023
def k0_off304 (k0_t1 : Fin k0_t1_loop.trips) : Fin 2 → Nat :=
  let c3712 : Index := 3712#32
  let c0_i32 : BitVec 32 := 0#32
  let c1_i32 : BitVec 32 := 1#32
  let arg9 : BitVec 32 := Scf.iv c0_i32 c1_i32 k0_t1
  let c128_i32_1621 : BitVec 32 := 128#32
  let v5023 : BitVec 32 := Scalar.muli arg9 c128_i32_1621
  let v5024 : BitVec 32 := v5023
  let v5025 : Index := Scalar.indexCast v5024
  ![3712, v5025.toNat]
def k0_mult206 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1625 : BitVec 32 := 128#32
  let v5037 : BitVec 32 := Scalar.muli arg9 c128_i32_1625
  v5037
def k0_off305 (k0_t1 : Fin k0_t1_loop.trips) : Fin 2 → Nat :=
  let c4032 : Index := 4032#32
  let c0_i32 : BitVec 32 := 0#32
  let c1_i32 : BitVec 32 := 1#32
  let arg9 : BitVec 32 := Scf.iv c0_i32 c1_i32 k0_t1
  let c128_i32_1625 : BitVec 32 := 128#32
  let v5037 : BitVec 32 := Scalar.muli arg9 c128_i32_1625
  let v5038 : BitVec 32 := v5037
  let v5039 : Index := Scalar.indexCast v5038
  ![4032, v5039.toNat]
def k0_mult207 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1629 : BitVec 32 := 128#32
  let v5051 : BitVec 32 := Scalar.muli arg9 c128_i32_1629
  v5051
def k0_off306 (k0_t1 : Fin k0_t1_loop.trips) : Fin 2 → Nat :=
  let c4352 : Index := 4352#32
  let c0_i32 : BitVec 32 := 0#32
  let c1_i32 : BitVec 32 := 1#32
  let arg9 : BitVec 32 := Scf.iv c0_i32 c1_i32 k0_t1
  let c128_i32_1629 : BitVec 32 := 128#32
  let v5051 : BitVec 32 := Scalar.muli arg9 c128_i32_1629
  let v5052 : BitVec 32 := v5051
  let v5053 : Index := Scalar.indexCast v5052
  ![4352, v5053.toNat]
def k0_mult208 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1633 : BitVec 32 := 128#32
  let v5065 : BitVec 32 := Scalar.muli arg9 c128_i32_1633
  v5065
def k0_off307 (k0_t1 : Fin k0_t1_loop.trips) : Fin 2 → Nat :=
  let c4672 : Index := 4672#32
  let c0_i32 : BitVec 32 := 0#32
  let c1_i32 : BitVec 32 := 1#32
  let arg9 : BitVec 32 := Scf.iv c0_i32 c1_i32 k0_t1
  let c128_i32_1633 : BitVec 32 := 128#32
  let v5065 : BitVec 32 := Scalar.muli arg9 c128_i32_1633
  let v5066 : BitVec 32 := v5065
  let v5067 : Index := Scalar.indexCast v5066
  ![4672, v5067.toNat]
def k0_mult209 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1637 : BitVec 32 := 128#32
  let v5079 : BitVec 32 := Scalar.muli arg9 c128_i32_1637
  v5079
def k0_off308 (k0_t1 : Fin k0_t1_loop.trips) : Fin 2 → Nat :=
  let c4992 : Index := 4992#32
  let c0_i32 : BitVec 32 := 0#32
  let c1_i32 : BitVec 32 := 1#32
  let arg9 : BitVec 32 := Scf.iv c0_i32 c1_i32 k0_t1
  let c128_i32_1637 : BitVec 32 := 128#32
  let v5079 : BitVec 32 := Scalar.muli arg9 c128_i32_1637
  let v5080 : BitVec 32 := v5079
  let v5081 : Index := Scalar.indexCast v5080
  ![4992, v5081.toNat]
def k0_off309 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5085 : Index := Scalar.indexCast arg9
  let c522 : Index := 522#32
  let c0_1638 : Index := 0#32
  ![v5085.toNat, 522, 0]
def k0_off310 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5088 : Index := Scalar.indexCast arg9
  let c523 : Index := 523#32
  let c0_1639 : Index := 0#32
  ![v5088.toNat, 523, 0]
def k0_off311 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5091 : Index := Scalar.indexCast arg9
  let c524 : Index := 524#32
  let c0_1640 : Index := 0#32
  ![v5091.toNat, 524, 0]
def k0_off312 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5094 : Index := Scalar.indexCast arg9
  let c525 : Index := 525#32
  let c0_1641 : Index := 0#32
  ![v5094.toNat, 525, 0]
def k0_off313 (k0_t1 : Fin k0_t1_loop.trips) : Fin 4 → Nat :=
  let c0_i32 : BitVec 32 := 0#32
  let c1_i32 : BitVec 32 := 1#32
  let arg9 : BitVec 32 := Scf.iv c0_i32 c1_i32 k0_t1
  let v5121 : Index := Scalar.indexCast arg9
  let c104 : Index := 104#32
  let c0_1654 : Index := 0#32
  ![v5121.toNat, 104, 0, 0]
def k0_mult210 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1658 : BitVec 32 := 128#32
  let v5133 : BitVec 32 := Scalar.muli arg9 c128_i32_1658
  v5133
def k0_off314 (k0_t1 : Fin k0_t1_loop.trips) : Fin 2 → Nat :=
  let c208_1659 : Index := 208#32
  let c0_i32 : BitVec 32 := 0#32
  let c1_i32 : BitVec 32 := 1#32
  let arg9 : BitVec 32 := Scf.iv c0_i32 c1_i32 k0_t1
  let c128_i32_1658 : BitVec 32 := 128#32
  let v5133 : BitVec 32 := Scalar.muli arg9 c128_i32_1658
  let v5134 : BitVec 32 := v5133
  let v5135 : Index := Scalar.indexCast v5134
  ![208, v5135.toNat]
def k0_mult211 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1663 : BitVec 32 := 128#32
  let v5147 : BitVec 32 := Scalar.muli arg9 c128_i32_1663
  v5147
def k0_off315 (k0_t1 : Fin k0_t1_loop.trips) : Fin 2 → Nat :=
  let c528 : Index := 528#32
  let c0_i32 : BitVec 32 := 0#32
  let c1_i32 : BitVec 32 := 1#32
  let arg9 : BitVec 32 := Scf.iv c0_i32 c1_i32 k0_t1
  let c128_i32_1663 : BitVec 32 := 128#32
  let v5147 : BitVec 32 := Scalar.muli arg9 c128_i32_1663
  let v5148 : BitVec 32 := v5147
  let v5149 : Index := Scalar.indexCast v5148
  ![528, v5149.toNat]
def k0_mult212 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1667 : BitVec 32 := 128#32
  let v5161 : BitVec 32 := Scalar.muli arg9 c128_i32_1667
  v5161
def k0_off316 (k0_t1 : Fin k0_t1_loop.trips) : Fin 2 → Nat :=
  let c848 : Index := 848#32
  let c0_i32 : BitVec 32 := 0#32
  let c1_i32 : BitVec 32 := 1#32
  let arg9 : BitVec 32 := Scf.iv c0_i32 c1_i32 k0_t1
  let c128_i32_1667 : BitVec 32 := 128#32
  let v5161 : BitVec 32 := Scalar.muli arg9 c128_i32_1667
  let v5162 : BitVec 32 := v5161
  let v5163 : Index := Scalar.indexCast v5162
  ![848, v5163.toNat]
def k0_mult213 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1671 : BitVec 32 := 128#32
  let v5175 : BitVec 32 := Scalar.muli arg9 c128_i32_1671
  v5175
def k0_off317 (k0_t1 : Fin k0_t1_loop.trips) : Fin 2 → Nat :=
  let c1168 : Index := 1168#32
  let c0_i32 : BitVec 32 := 0#32
  let c1_i32 : BitVec 32 := 1#32
  let arg9 : BitVec 32 := Scf.iv c0_i32 c1_i32 k0_t1
  let c128_i32_1671 : BitVec 32 := 128#32
  let v5175 : BitVec 32 := Scalar.muli arg9 c128_i32_1671
  let v5176 : BitVec 32 := v5175
  let v5177 : Index := Scalar.indexCast v5176
  ![1168, v5177.toNat]
def k0_mult214 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1675 : BitVec 32 := 128#32
  let v5189 : BitVec 32 := Scalar.muli arg9 c128_i32_1675
  v5189
def k0_off318 (k0_t1 : Fin k0_t1_loop.trips) : Fin 2 → Nat :=
  let c1488 : Index := 1488#32
  let c0_i32 : BitVec 32 := 0#32
  let c1_i32 : BitVec 32 := 1#32
  let arg9 : BitVec 32 := Scf.iv c0_i32 c1_i32 k0_t1
  let c128_i32_1675 : BitVec 32 := 128#32
  let v5189 : BitVec 32 := Scalar.muli arg9 c128_i32_1675
  let v5190 : BitVec 32 := v5189
  let v5191 : Index := Scalar.indexCast v5190
  ![1488, v5191.toNat]
def k0_mult215 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1679 : BitVec 32 := 128#32
  let v5203 : BitVec 32 := Scalar.muli arg9 c128_i32_1679
  v5203
def k0_off319 (k0_t1 : Fin k0_t1_loop.trips) : Fin 2 → Nat :=
  let c1808 : Index := 1808#32
  let c0_i32 : BitVec 32 := 0#32
  let c1_i32 : BitVec 32 := 1#32
  let arg9 : BitVec 32 := Scf.iv c0_i32 c1_i32 k0_t1
  let c128_i32_1679 : BitVec 32 := 128#32
  let v5203 : BitVec 32 := Scalar.muli arg9 c128_i32_1679
  let v5204 : BitVec 32 := v5203
  let v5205 : Index := Scalar.indexCast v5204
  ![1808, v5205.toNat]
def k0_mult216 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1683 : BitVec 32 := 128#32
  let v5217 : BitVec 32 := Scalar.muli arg9 c128_i32_1683
  v5217
def k0_off320 (k0_t1 : Fin k0_t1_loop.trips) : Fin 2 → Nat :=
  let c2128 : Index := 2128#32
  let c0_i32 : BitVec 32 := 0#32
  let c1_i32 : BitVec 32 := 1#32
  let arg9 : BitVec 32 := Scf.iv c0_i32 c1_i32 k0_t1
  let c128_i32_1683 : BitVec 32 := 128#32
  let v5217 : BitVec 32 := Scalar.muli arg9 c128_i32_1683
  let v5218 : BitVec 32 := v5217
  let v5219 : Index := Scalar.indexCast v5218
  ![2128, v5219.toNat]
def k0_mult217 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1687 : BitVec 32 := 128#32
  let v5231 : BitVec 32 := Scalar.muli arg9 c128_i32_1687
  v5231
def k0_off321 (k0_t1 : Fin k0_t1_loop.trips) : Fin 2 → Nat :=
  let c2448 : Index := 2448#32
  let c0_i32 : BitVec 32 := 0#32
  let c1_i32 : BitVec 32 := 1#32
  let arg9 : BitVec 32 := Scf.iv c0_i32 c1_i32 k0_t1
  let c128_i32_1687 : BitVec 32 := 128#32
  let v5231 : BitVec 32 := Scalar.muli arg9 c128_i32_1687
  let v5232 : BitVec 32 := v5231
  let v5233 : Index := Scalar.indexCast v5232
  ![2448, v5233.toNat]
def k0_mult218 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1691 : BitVec 32 := 128#32
  let v5245 : BitVec 32 := Scalar.muli arg9 c128_i32_1691
  v5245
def k0_off322 (k0_t1 : Fin k0_t1_loop.trips) : Fin 2 → Nat :=
  let c2768 : Index := 2768#32
  let c0_i32 : BitVec 32 := 0#32
  let c1_i32 : BitVec 32 := 1#32
  let arg9 : BitVec 32 := Scf.iv c0_i32 c1_i32 k0_t1
  let c128_i32_1691 : BitVec 32 := 128#32
  let v5245 : BitVec 32 := Scalar.muli arg9 c128_i32_1691
  let v5246 : BitVec 32 := v5245
  let v5247 : Index := Scalar.indexCast v5246
  ![2768, v5247.toNat]
def k0_mult219 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1695 : BitVec 32 := 128#32
  let v5259 : BitVec 32 := Scalar.muli arg9 c128_i32_1695
  v5259
def k0_off323 (k0_t1 : Fin k0_t1_loop.trips) : Fin 2 → Nat :=
  let c3088 : Index := 3088#32
  let c0_i32 : BitVec 32 := 0#32
  let c1_i32 : BitVec 32 := 1#32
  let arg9 : BitVec 32 := Scf.iv c0_i32 c1_i32 k0_t1
  let c128_i32_1695 : BitVec 32 := 128#32
  let v5259 : BitVec 32 := Scalar.muli arg9 c128_i32_1695
  let v5260 : BitVec 32 := v5259
  let v5261 : Index := Scalar.indexCast v5260
  ![3088, v5261.toNat]
def k0_mult220 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1699 : BitVec 32 := 128#32
  let v5273 : BitVec 32 := Scalar.muli arg9 c128_i32_1699
  v5273
def k0_off324 (k0_t1 : Fin k0_t1_loop.trips) : Fin 2 → Nat :=
  let c3408 : Index := 3408#32
  let c0_i32 : BitVec 32 := 0#32
  let c1_i32 : BitVec 32 := 1#32
  let arg9 : BitVec 32 := Scf.iv c0_i32 c1_i32 k0_t1
  let c128_i32_1699 : BitVec 32 := 128#32
  let v5273 : BitVec 32 := Scalar.muli arg9 c128_i32_1699
  let v5274 : BitVec 32 := v5273
  let v5275 : Index := Scalar.indexCast v5274
  ![3408, v5275.toNat]
def k0_mult221 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1703 : BitVec 32 := 128#32
  let v5287 : BitVec 32 := Scalar.muli arg9 c128_i32_1703
  v5287
def k0_off325 (k0_t1 : Fin k0_t1_loop.trips) : Fin 2 → Nat :=
  let c3728 : Index := 3728#32
  let c0_i32 : BitVec 32 := 0#32
  let c1_i32 : BitVec 32 := 1#32
  let arg9 : BitVec 32 := Scf.iv c0_i32 c1_i32 k0_t1
  let c128_i32_1703 : BitVec 32 := 128#32
  let v5287 : BitVec 32 := Scalar.muli arg9 c128_i32_1703
  let v5288 : BitVec 32 := v5287
  let v5289 : Index := Scalar.indexCast v5288
  ![3728, v5289.toNat]
def k0_mult222 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1707 : BitVec 32 := 128#32
  let v5301 : BitVec 32 := Scalar.muli arg9 c128_i32_1707
  v5301
def k0_off326 (k0_t1 : Fin k0_t1_loop.trips) : Fin 2 → Nat :=
  let c4048 : Index := 4048#32
  let c0_i32 : BitVec 32 := 0#32
  let c1_i32 : BitVec 32 := 1#32
  let arg9 : BitVec 32 := Scf.iv c0_i32 c1_i32 k0_t1
  let c128_i32_1707 : BitVec 32 := 128#32
  let v5301 : BitVec 32 := Scalar.muli arg9 c128_i32_1707
  let v5302 : BitVec 32 := v5301
  let v5303 : Index := Scalar.indexCast v5302
  ![4048, v5303.toNat]
def k0_mult223 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1711 : BitVec 32 := 128#32
  let v5315 : BitVec 32 := Scalar.muli arg9 c128_i32_1711
  v5315
def k0_off327 (k0_t1 : Fin k0_t1_loop.trips) : Fin 2 → Nat :=
  let c4368 : Index := 4368#32
  let c0_i32 : BitVec 32 := 0#32
  let c1_i32 : BitVec 32 := 1#32
  let arg9 : BitVec 32 := Scf.iv c0_i32 c1_i32 k0_t1
  let c128_i32_1711 : BitVec 32 := 128#32
  let v5315 : BitVec 32 := Scalar.muli arg9 c128_i32_1711
  let v5316 : BitVec 32 := v5315
  let v5317 : Index := Scalar.indexCast v5316
  ![4368, v5317.toNat]
def k0_mult224 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1715 : BitVec 32 := 128#32
  let v5329 : BitVec 32 := Scalar.muli arg9 c128_i32_1715
  v5329
def k0_off328 (k0_t1 : Fin k0_t1_loop.trips) : Fin 2 → Nat :=
  let c4688 : Index := 4688#32
  let c0_i32 : BitVec 32 := 0#32
  let c1_i32 : BitVec 32 := 1#32
  let arg9 : BitVec 32 := Scf.iv c0_i32 c1_i32 k0_t1
  let c128_i32_1715 : BitVec 32 := 128#32
  let v5329 : BitVec 32 := Scalar.muli arg9 c128_i32_1715
  let v5330 : BitVec 32 := v5329
  let v5331 : Index := Scalar.indexCast v5330
  ![4688, v5331.toNat]
def k0_mult225 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1719 : BitVec 32 := 128#32
  let v5343 : BitVec 32 := Scalar.muli arg9 c128_i32_1719
  v5343
def k0_off329 (k0_t1 : Fin k0_t1_loop.trips) : Fin 2 → Nat :=
  let c5008 : Index := 5008#32
  let c0_i32 : BitVec 32 := 0#32
  let c1_i32 : BitVec 32 := 1#32
  let arg9 : BitVec 32 := Scf.iv c0_i32 c1_i32 k0_t1
  let c128_i32_1719 : BitVec 32 := 128#32
  let v5343 : BitVec 32 := Scalar.muli arg9 c128_i32_1719
  let v5344 : BitVec 32 := v5343
  let v5345 : Index := Scalar.indexCast v5344
  ![5008, v5345.toNat]
def k0_off330 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5349 : Index := Scalar.indexCast arg9
  let c554 : Index := 554#32
  let c0_1720 : Index := 0#32
  ![v5349.toNat, 554, 0]
def k0_off331 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5352 : Index := Scalar.indexCast arg9
  let c555 : Index := 555#32
  let c0_1721 : Index := 0#32
  ![v5352.toNat, 555, 0]
def k0_off332 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5355 : Index := Scalar.indexCast arg9
  let c556 : Index := 556#32
  let c0_1722 : Index := 0#32
  ![v5355.toNat, 556, 0]
def k0_off333 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5358 : Index := Scalar.indexCast arg9
  let c557 : Index := 557#32
  let c0_1723 : Index := 0#32
  ![v5358.toNat, 557, 0]
def k0_off334 (k0_t1 : Fin k0_t1_loop.trips) : Fin 4 → Nat :=
  let c0_i32 : BitVec 32 := 0#32
  let c1_i32 : BitVec 32 := 1#32
  let arg9 : BitVec 32 := Scf.iv c0_i32 c1_i32 k0_t1
  let v5385 : Index := Scalar.indexCast arg9
  let c112_1736 : Index := 112#32
  let c0_1737 : Index := 0#32
  ![v5385.toNat, 112, 0, 0]
def k0_mult226 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1741 : BitVec 32 := 128#32
  let v5397 : BitVec 32 := Scalar.muli arg9 c128_i32_1741
  v5397
def k0_off335 (k0_t1 : Fin k0_t1_loop.trips) : Fin 2 → Nat :=
  let c224 : Index := 224#32
  let c0_i32 : BitVec 32 := 0#32
  let c1_i32 : BitVec 32 := 1#32
  let arg9 : BitVec 32 := Scf.iv c0_i32 c1_i32 k0_t1
  let c128_i32_1741 : BitVec 32 := 128#32
  let v5397 : BitVec 32 := Scalar.muli arg9 c128_i32_1741
  let v5398 : BitVec 32 := v5397
  let v5399 : Index := Scalar.indexCast v5398
  ![224, v5399.toNat]
def k0_mult227 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1745 : BitVec 32 := 128#32
  let v5411 : BitVec 32 := Scalar.muli arg9 c128_i32_1745
  v5411
def k0_off336 (k0_t1 : Fin k0_t1_loop.trips) : Fin 2 → Nat :=
  let c544 : Index := 544#32
  let c0_i32 : BitVec 32 := 0#32
  let c1_i32 : BitVec 32 := 1#32
  let arg9 : BitVec 32 := Scf.iv c0_i32 c1_i32 k0_t1
  let c128_i32_1745 : BitVec 32 := 128#32
  let v5411 : BitVec 32 := Scalar.muli arg9 c128_i32_1745
  let v5412 : BitVec 32 := v5411
  let v5413 : Index := Scalar.indexCast v5412
  ![544, v5413.toNat]
def k0_mult228 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1749 : BitVec 32 := 128#32
  let v5425 : BitVec 32 := Scalar.muli arg9 c128_i32_1749
  v5425
def k0_off337 (k0_t1 : Fin k0_t1_loop.trips) : Fin 2 → Nat :=
  let c864 : Index := 864#32
  let c0_i32 : BitVec 32 := 0#32
  let c1_i32 : BitVec 32 := 1#32
  let arg9 : BitVec 32 := Scf.iv c0_i32 c1_i32 k0_t1
  let c128_i32_1749 : BitVec 32 := 128#32
  let v5425 : BitVec 32 := Scalar.muli arg9 c128_i32_1749
  let v5426 : BitVec 32 := v5425
  let v5427 : Index := Scalar.indexCast v5426
  ![864, v5427.toNat]
def k0_mult229 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1753 : BitVec 32 := 128#32
  let v5439 : BitVec 32 := Scalar.muli arg9 c128_i32_1753
  v5439
def k0_off338 (k0_t1 : Fin k0_t1_loop.trips) : Fin 2 → Nat :=
  let c1184 : Index := 1184#32
  let c0_i32 : BitVec 32 := 0#32
  let c1_i32 : BitVec 32 := 1#32
  let arg9 : BitVec 32 := Scf.iv c0_i32 c1_i32 k0_t1
  let c128_i32_1753 : BitVec 32 := 128#32
  let v5439 : BitVec 32 := Scalar.muli arg9 c128_i32_1753
  let v5440 : BitVec 32 := v5439
  let v5441 : Index := Scalar.indexCast v5440
  ![1184, v5441.toNat]
def k0_mult230 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1757 : BitVec 32 := 128#32
  let v5453 : BitVec 32 := Scalar.muli arg9 c128_i32_1757
  v5453
def k0_off339 (k0_t1 : Fin k0_t1_loop.trips) : Fin 2 → Nat :=
  let c1504 : Index := 1504#32
  let c0_i32 : BitVec 32 := 0#32
  let c1_i32 : BitVec 32 := 1#32
  let arg9 : BitVec 32 := Scf.iv c0_i32 c1_i32 k0_t1
  let c128_i32_1757 : BitVec 32 := 128#32
  let v5453 : BitVec 32 := Scalar.muli arg9 c128_i32_1757
  let v5454 : BitVec 32 := v5453
  let v5455 : Index := Scalar.indexCast v5454
  ![1504, v5455.toNat]
def k0_mult231 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1761 : BitVec 32 := 128#32
  let v5467 : BitVec 32 := Scalar.muli arg9 c128_i32_1761
  v5467
def k0_off340 (k0_t1 : Fin k0_t1_loop.trips) : Fin 2 → Nat :=
  let c1824 : Index := 1824#32
  let c0_i32 : BitVec 32 := 0#32
  let c1_i32 : BitVec 32 := 1#32
  let arg9 : BitVec 32 := Scf.iv c0_i32 c1_i32 k0_t1
  let c128_i32_1761 : BitVec 32 := 128#32
  let v5467 : BitVec 32 := Scalar.muli arg9 c128_i32_1761
  let v5468 : BitVec 32 := v5467
  let v5469 : Index := Scalar.indexCast v5468
  ![1824, v5469.toNat]
def k0_mult232 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1765 : BitVec 32 := 128#32
  let v5481 : BitVec 32 := Scalar.muli arg9 c128_i32_1765
  v5481
def k0_off341 (k0_t1 : Fin k0_t1_loop.trips) : Fin 2 → Nat :=
  let c2144 : Index := 2144#32
  let c0_i32 : BitVec 32 := 0#32
  let c1_i32 : BitVec 32 := 1#32
  let arg9 : BitVec 32 := Scf.iv c0_i32 c1_i32 k0_t1
  let c128_i32_1765 : BitVec 32 := 128#32
  let v5481 : BitVec 32 := Scalar.muli arg9 c128_i32_1765
  let v5482 : BitVec 32 := v5481
  let v5483 : Index := Scalar.indexCast v5482
  ![2144, v5483.toNat]
def k0_mult233 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1769 : BitVec 32 := 128#32
  let v5495 : BitVec 32 := Scalar.muli arg9 c128_i32_1769
  v5495
def k0_off342 (k0_t1 : Fin k0_t1_loop.trips) : Fin 2 → Nat :=
  let c2464 : Index := 2464#32
  let c0_i32 : BitVec 32 := 0#32
  let c1_i32 : BitVec 32 := 1#32
  let arg9 : BitVec 32 := Scf.iv c0_i32 c1_i32 k0_t1
  let c128_i32_1769 : BitVec 32 := 128#32
  let v5495 : BitVec 32 := Scalar.muli arg9 c128_i32_1769
  let v5496 : BitVec 32 := v5495
  let v5497 : Index := Scalar.indexCast v5496
  ![2464, v5497.toNat]
def k0_mult234 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1773 : BitVec 32 := 128#32
  let v5509 : BitVec 32 := Scalar.muli arg9 c128_i32_1773
  v5509
def k0_off343 (k0_t1 : Fin k0_t1_loop.trips) : Fin 2 → Nat :=
  let c2784 : Index := 2784#32
  let c0_i32 : BitVec 32 := 0#32
  let c1_i32 : BitVec 32 := 1#32
  let arg9 : BitVec 32 := Scf.iv c0_i32 c1_i32 k0_t1
  let c128_i32_1773 : BitVec 32 := 128#32
  let v5509 : BitVec 32 := Scalar.muli arg9 c128_i32_1773
  let v5510 : BitVec 32 := v5509
  let v5511 : Index := Scalar.indexCast v5510
  ![2784, v5511.toNat]
def k0_mult235 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1777 : BitVec 32 := 128#32
  let v5523 : BitVec 32 := Scalar.muli arg9 c128_i32_1777
  v5523
def k0_off344 (k0_t1 : Fin k0_t1_loop.trips) : Fin 2 → Nat :=
  let c3104 : Index := 3104#32
  let c0_i32 : BitVec 32 := 0#32
  let c1_i32 : BitVec 32 := 1#32
  let arg9 : BitVec 32 := Scf.iv c0_i32 c1_i32 k0_t1
  let c128_i32_1777 : BitVec 32 := 128#32
  let v5523 : BitVec 32 := Scalar.muli arg9 c128_i32_1777
  let v5524 : BitVec 32 := v5523
  let v5525 : Index := Scalar.indexCast v5524
  ![3104, v5525.toNat]
def k0_mult236 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1781 : BitVec 32 := 128#32
  let v5537 : BitVec 32 := Scalar.muli arg9 c128_i32_1781
  v5537
def k0_off345 (k0_t1 : Fin k0_t1_loop.trips) : Fin 2 → Nat :=
  let c3424 : Index := 3424#32
  let c0_i32 : BitVec 32 := 0#32
  let c1_i32 : BitVec 32 := 1#32
  let arg9 : BitVec 32 := Scf.iv c0_i32 c1_i32 k0_t1
  let c128_i32_1781 : BitVec 32 := 128#32
  let v5537 : BitVec 32 := Scalar.muli arg9 c128_i32_1781
  let v5538 : BitVec 32 := v5537
  let v5539 : Index := Scalar.indexCast v5538
  ![3424, v5539.toNat]
def k0_mult237 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1785 : BitVec 32 := 128#32
  let v5551 : BitVec 32 := Scalar.muli arg9 c128_i32_1785
  v5551
def k0_off346 (k0_t1 : Fin k0_t1_loop.trips) : Fin 2 → Nat :=
  let c3744 : Index := 3744#32
  let c0_i32 : BitVec 32 := 0#32
  let c1_i32 : BitVec 32 := 1#32
  let arg9 : BitVec 32 := Scf.iv c0_i32 c1_i32 k0_t1
  let c128_i32_1785 : BitVec 32 := 128#32
  let v5551 : BitVec 32 := Scalar.muli arg9 c128_i32_1785
  let v5552 : BitVec 32 := v5551
  let v5553 : Index := Scalar.indexCast v5552
  ![3744, v5553.toNat]
def k0_mult238 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1789 : BitVec 32 := 128#32
  let v5565 : BitVec 32 := Scalar.muli arg9 c128_i32_1789
  v5565
def k0_off347 (k0_t1 : Fin k0_t1_loop.trips) : Fin 2 → Nat :=
  let c4064 : Index := 4064#32
  let c0_i32 : BitVec 32 := 0#32
  let c1_i32 : BitVec 32 := 1#32
  let arg9 : BitVec 32 := Scf.iv c0_i32 c1_i32 k0_t1
  let c128_i32_1789 : BitVec 32 := 128#32
  let v5565 : BitVec 32 := Scalar.muli arg9 c128_i32_1789
  let v5566 : BitVec 32 := v5565
  let v5567 : Index := Scalar.indexCast v5566
  ![4064, v5567.toNat]
def k0_mult239 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1793 : BitVec 32 := 128#32
  let v5579 : BitVec 32 := Scalar.muli arg9 c128_i32_1793
  v5579
def k0_off348 (k0_t1 : Fin k0_t1_loop.trips) : Fin 2 → Nat :=
  let c4384 : Index := 4384#32
  let c0_i32 : BitVec 32 := 0#32
  let c1_i32 : BitVec 32 := 1#32
  let arg9 : BitVec 32 := Scf.iv c0_i32 c1_i32 k0_t1
  let c128_i32_1793 : BitVec 32 := 128#32
  let v5579 : BitVec 32 := Scalar.muli arg9 c128_i32_1793
  let v5580 : BitVec 32 := v5579
  let v5581 : Index := Scalar.indexCast v5580
  ![4384, v5581.toNat]
def k0_mult240 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1797 : BitVec 32 := 128#32
  let v5593 : BitVec 32 := Scalar.muli arg9 c128_i32_1797
  v5593
def k0_off349 (k0_t1 : Fin k0_t1_loop.trips) : Fin 2 → Nat :=
  let c4704 : Index := 4704#32
  let c0_i32 : BitVec 32 := 0#32
  let c1_i32 : BitVec 32 := 1#32
  let arg9 : BitVec 32 := Scf.iv c0_i32 c1_i32 k0_t1
  let c128_i32_1797 : BitVec 32 := 128#32
  let v5593 : BitVec 32 := Scalar.muli arg9 c128_i32_1797
  let v5594 : BitVec 32 := v5593
  let v5595 : Index := Scalar.indexCast v5594
  ![4704, v5595.toNat]
def k0_mult241 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1801 : BitVec 32 := 128#32
  let v5607 : BitVec 32 := Scalar.muli arg9 c128_i32_1801
  v5607
def k0_off350 (k0_t1 : Fin k0_t1_loop.trips) : Fin 2 → Nat :=
  let c5024 : Index := 5024#32
  let c0_i32 : BitVec 32 := 0#32
  let c1_i32 : BitVec 32 := 1#32
  let arg9 : BitVec 32 := Scf.iv c0_i32 c1_i32 k0_t1
  let c128_i32_1801 : BitVec 32 := 128#32
  let v5607 : BitVec 32 := Scalar.muli arg9 c128_i32_1801
  let v5608 : BitVec 32 := v5607
  let v5609 : Index := Scalar.indexCast v5608
  ![5024, v5609.toNat]
def k0_off351 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5613 : Index := Scalar.indexCast arg9
  let c586 : Index := 586#32
  let c0_1802 : Index := 0#32
  ![v5613.toNat, 586, 0]
def k0_off352 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5616 : Index := Scalar.indexCast arg9
  let c587 : Index := 587#32
  let c0_1803 : Index := 0#32
  ![v5616.toNat, 587, 0]
def k0_off353 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5619 : Index := Scalar.indexCast arg9
  let c588 : Index := 588#32
  let c0_1804 : Index := 0#32
  ![v5619.toNat, 588, 0]
def k0_off354 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5622 : Index := Scalar.indexCast arg9
  let c589 : Index := 589#32
  let c0_1805 : Index := 0#32
  ![v5622.toNat, 589, 0]
def k0_off355 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5649 : Index := Scalar.indexCast arg9
  let c588_1818 : Index := 588#32
  let c0_1819 : Index := 0#32
  ![v5649.toNat, 588, 0]
def k0_off356 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5652 : Index := Scalar.indexCast arg9
  let c589_1820 : Index := 589#32
  let c0_1821 : Index := 0#32
  ![v5652.toNat, 589, 0]
def k0_off357 (k0_t1 : Fin k0_t1_loop.trips) : Fin 3 → Nat :=
  let c0_i32 : BitVec 32 := 0#32
  let c1_i32 : BitVec 32 := 1#32
  let arg9 : BitVec 32 := Scf.iv c0_i32 c1_i32 k0_t1
  let v5655 : Index := Scalar.indexCast arg9
  let c590 : Index := 590#32
  let c0_1822 : Index := 0#32
  ![v5655.toNat, 590, 0]
def k0_off358 (k0_t1 : Fin k0_t1_loop.trips) : Fin 4 → Nat :=
  let c0_i32 : BitVec 32 := 0#32
  let c1_i32 : BitVec 32 := 1#32
  let arg9 : BitVec 32 := Scf.iv c0_i32 c1_i32 k0_t1
  let v5717 : Index := Scalar.indexCast arg9
  let c120 : Index := 120#32
  let c0_1848 : Index := 0#32
  ![v5717.toNat, 120, 0, 0]
def k0_mult242 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1856 : BitVec 32 := 128#32
  let v5743 : BitVec 32 := Scalar.muli arg9 c128_i32_1856
  v5743
def k0_off359 (k0_t1 : Fin k0_t1_loop.trips) : Fin 2 → Nat :=
  let c240 : Index := 240#32
  let c0_i32 : BitVec 32 := 0#32
  let c1_i32 : BitVec 32 := 1#32
  let arg9 : BitVec 32 := Scf.iv c0_i32 c1_i32 k0_t1
  let c128_i32_1856 : BitVec 32 := 128#32
  let v5743 : BitVec 32 := Scalar.muli arg9 c128_i32_1856
  let v5744 : BitVec 32 := v5743
  let v5745 : Index := Scalar.indexCast v5744
  ![240, v5745.toNat]
def k0_mult243 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1864 : BitVec 32 := 128#32
  let v5771 : BitVec 32 := Scalar.muli arg9 c128_i32_1864
  v5771
def k0_off360 (k0_t1 : Fin k0_t1_loop.trips) : Fin 2 → Nat :=
  let c560 : Index := 560#32
  let c0_i32 : BitVec 32 := 0#32
  let c1_i32 : BitVec 32 := 1#32
  let arg9 : BitVec 32 := Scf.iv c0_i32 c1_i32 k0_t1
  let c128_i32_1864 : BitVec 32 := 128#32
  let v5771 : BitVec 32 := Scalar.muli arg9 c128_i32_1864
  let v5772 : BitVec 32 := v5771
  let v5773 : Index := Scalar.indexCast v5772
  ![560, v5773.toNat]
def k0_mult244 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1872 : BitVec 32 := 128#32
  let v5799 : BitVec 32 := Scalar.muli arg9 c128_i32_1872
  v5799
def k0_off361 (k0_t1 : Fin k0_t1_loop.trips) : Fin 2 → Nat :=
  let c880 : Index := 880#32
  let c0_i32 : BitVec 32 := 0#32
  let c1_i32 : BitVec 32 := 1#32
  let arg9 : BitVec 32 := Scf.iv c0_i32 c1_i32 k0_t1
  let c128_i32_1872 : BitVec 32 := 128#32
  let v5799 : BitVec 32 := Scalar.muli arg9 c128_i32_1872
  let v5800 : BitVec 32 := v5799
  let v5801 : Index := Scalar.indexCast v5800
  ![880, v5801.toNat]
def k0_mult245 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1880 : BitVec 32 := 128#32
  let v5827 : BitVec 32 := Scalar.muli arg9 c128_i32_1880
  v5827
def k0_off362 (k0_t1 : Fin k0_t1_loop.trips) : Fin 2 → Nat :=
  let c1200 : Index := 1200#32
  let c0_i32 : BitVec 32 := 0#32
  let c1_i32 : BitVec 32 := 1#32
  let arg9 : BitVec 32 := Scf.iv c0_i32 c1_i32 k0_t1
  let c128_i32_1880 : BitVec 32 := 128#32
  let v5827 : BitVec 32 := Scalar.muli arg9 c128_i32_1880
  let v5828 : BitVec 32 := v5827
  let v5829 : Index := Scalar.indexCast v5828
  ![1200, v5829.toNat]
def k0_mult246 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1888 : BitVec 32 := 128#32
  let v5855 : BitVec 32 := Scalar.muli arg9 c128_i32_1888
  v5855
def k0_off363 (k0_t1 : Fin k0_t1_loop.trips) : Fin 2 → Nat :=
  let c1520 : Index := 1520#32
  let c0_i32 : BitVec 32 := 0#32
  let c1_i32 : BitVec 32 := 1#32
  let arg9 : BitVec 32 := Scf.iv c0_i32 c1_i32 k0_t1
  let c128_i32_1888 : BitVec 32 := 128#32
  let v5855 : BitVec 32 := Scalar.muli arg9 c128_i32_1888
  let v5856 : BitVec 32 := v5855
  let v5857 : Index := Scalar.indexCast v5856
  ![1520, v5857.toNat]
def k0_mult247 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1896 : BitVec 32 := 128#32
  let v5883 : BitVec 32 := Scalar.muli arg9 c128_i32_1896
  v5883
def k0_off364 (k0_t1 : Fin k0_t1_loop.trips) : Fin 2 → Nat :=
  let c1840 : Index := 1840#32
  let c0_i32 : BitVec 32 := 0#32
  let c1_i32 : BitVec 32 := 1#32
  let arg9 : BitVec 32 := Scf.iv c0_i32 c1_i32 k0_t1
  let c128_i32_1896 : BitVec 32 := 128#32
  let v5883 : BitVec 32 := Scalar.muli arg9 c128_i32_1896
  let v5884 : BitVec 32 := v5883
  let v5885 : Index := Scalar.indexCast v5884
  ![1840, v5885.toNat]
def k0_mult248 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1904 : BitVec 32 := 128#32
  let v5911 : BitVec 32 := Scalar.muli arg9 c128_i32_1904
  v5911
def k0_off365 (k0_t1 : Fin k0_t1_loop.trips) : Fin 2 → Nat :=
  let c2160 : Index := 2160#32
  let c0_i32 : BitVec 32 := 0#32
  let c1_i32 : BitVec 32 := 1#32
  let arg9 : BitVec 32 := Scf.iv c0_i32 c1_i32 k0_t1
  let c128_i32_1904 : BitVec 32 := 128#32
  let v5911 : BitVec 32 := Scalar.muli arg9 c128_i32_1904
  let v5912 : BitVec 32 := v5911
  let v5913 : Index := Scalar.indexCast v5912
  ![2160, v5913.toNat]
def k0_mult249 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1912 : BitVec 32 := 128#32
  let v5939 : BitVec 32 := Scalar.muli arg9 c128_i32_1912
  v5939
def k0_off366 (k0_t1 : Fin k0_t1_loop.trips) : Fin 2 → Nat :=
  let c2480 : Index := 2480#32
  let c0_i32 : BitVec 32 := 0#32
  let c1_i32 : BitVec 32 := 1#32
  let arg9 : BitVec 32 := Scf.iv c0_i32 c1_i32 k0_t1
  let c128_i32_1912 : BitVec 32 := 128#32
  let v5939 : BitVec 32 := Scalar.muli arg9 c128_i32_1912
  let v5940 : BitVec 32 := v5939
  let v5941 : Index := Scalar.indexCast v5940
  ![2480, v5941.toNat]
def k0_mult250 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1920 : BitVec 32 := 128#32
  let v5967 : BitVec 32 := Scalar.muli arg9 c128_i32_1920
  v5967
def k0_off367 (k0_t1 : Fin k0_t1_loop.trips) : Fin 2 → Nat :=
  let c2800 : Index := 2800#32
  let c0_i32 : BitVec 32 := 0#32
  let c1_i32 : BitVec 32 := 1#32
  let arg9 : BitVec 32 := Scf.iv c0_i32 c1_i32 k0_t1
  let c128_i32_1920 : BitVec 32 := 128#32
  let v5967 : BitVec 32 := Scalar.muli arg9 c128_i32_1920
  let v5968 : BitVec 32 := v5967
  let v5969 : Index := Scalar.indexCast v5968
  ![2800, v5969.toNat]
def k0_mult251 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1928 : BitVec 32 := 128#32
  let v5995 : BitVec 32 := Scalar.muli arg9 c128_i32_1928
  v5995
def k0_off368 (k0_t1 : Fin k0_t1_loop.trips) : Fin 2 → Nat :=
  let c3120 : Index := 3120#32
  let c0_i32 : BitVec 32 := 0#32
  let c1_i32 : BitVec 32 := 1#32
  let arg9 : BitVec 32 := Scf.iv c0_i32 c1_i32 k0_t1
  let c128_i32_1928 : BitVec 32 := 128#32
  let v5995 : BitVec 32 := Scalar.muli arg9 c128_i32_1928
  let v5996 : BitVec 32 := v5995
  let v5997 : Index := Scalar.indexCast v5996
  ![3120, v5997.toNat]
def k0_mult252 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1936 : BitVec 32 := 128#32
  let v6023 : BitVec 32 := Scalar.muli arg9 c128_i32_1936
  v6023
def k0_off369 (k0_t1 : Fin k0_t1_loop.trips) : Fin 2 → Nat :=
  let c3440 : Index := 3440#32
  let c0_i32 : BitVec 32 := 0#32
  let c1_i32 : BitVec 32 := 1#32
  let arg9 : BitVec 32 := Scf.iv c0_i32 c1_i32 k0_t1
  let c128_i32_1936 : BitVec 32 := 128#32
  let v6023 : BitVec 32 := Scalar.muli arg9 c128_i32_1936
  let v6024 : BitVec 32 := v6023
  let v6025 : Index := Scalar.indexCast v6024
  ![3440, v6025.toNat]
def k0_mult253 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1944 : BitVec 32 := 128#32
  let v6051 : BitVec 32 := Scalar.muli arg9 c128_i32_1944
  v6051
def k0_off370 (k0_t1 : Fin k0_t1_loop.trips) : Fin 2 → Nat :=
  let c3760 : Index := 3760#32
  let c0_i32 : BitVec 32 := 0#32
  let c1_i32 : BitVec 32 := 1#32
  let arg9 : BitVec 32 := Scf.iv c0_i32 c1_i32 k0_t1
  let c128_i32_1944 : BitVec 32 := 128#32
  let v6051 : BitVec 32 := Scalar.muli arg9 c128_i32_1944
  let v6052 : BitVec 32 := v6051
  let v6053 : Index := Scalar.indexCast v6052
  ![3760, v6053.toNat]
def k0_mult254 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1952 : BitVec 32 := 128#32
  let v6079 : BitVec 32 := Scalar.muli arg9 c128_i32_1952
  v6079
def k0_off371 (k0_t1 : Fin k0_t1_loop.trips) : Fin 2 → Nat :=
  let c4080 : Index := 4080#32
  let c0_i32 : BitVec 32 := 0#32
  let c1_i32 : BitVec 32 := 1#32
  let arg9 : BitVec 32 := Scf.iv c0_i32 c1_i32 k0_t1
  let c128_i32_1952 : BitVec 32 := 128#32
  let v6079 : BitVec 32 := Scalar.muli arg9 c128_i32_1952
  let v6080 : BitVec 32 := v6079
  let v6081 : Index := Scalar.indexCast v6080
  ![4080, v6081.toNat]
def k0_mult255 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1960 : BitVec 32 := 128#32
  let v6107 : BitVec 32 := Scalar.muli arg9 c128_i32_1960
  v6107
def k0_off372 (k0_t1 : Fin k0_t1_loop.trips) : Fin 2 → Nat :=
  let c4400 : Index := 4400#32
  let c0_i32 : BitVec 32 := 0#32
  let c1_i32 : BitVec 32 := 1#32
  let arg9 : BitVec 32 := Scf.iv c0_i32 c1_i32 k0_t1
  let c128_i32_1960 : BitVec 32 := 128#32
  let v6107 : BitVec 32 := Scalar.muli arg9 c128_i32_1960
  let v6108 : BitVec 32 := v6107
  let v6109 : Index := Scalar.indexCast v6108
  ![4400, v6109.toNat]
def k0_mult256 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1968 : BitVec 32 := 128#32
  let v6135 : BitVec 32 := Scalar.muli arg9 c128_i32_1968
  v6135
def k0_off373 (k0_t1 : Fin k0_t1_loop.trips) : Fin 2 → Nat :=
  let c4720 : Index := 4720#32
  let c0_i32 : BitVec 32 := 0#32
  let c1_i32 : BitVec 32 := 1#32
  let arg9 : BitVec 32 := Scf.iv c0_i32 c1_i32 k0_t1
  let c128_i32_1968 : BitVec 32 := 128#32
  let v6135 : BitVec 32 := Scalar.muli arg9 c128_i32_1968
  let v6136 : BitVec 32 := v6135
  let v6137 : Index := Scalar.indexCast v6136
  ![4720, v6137.toNat]
def k0_mult257 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_1976 : BitVec 32 := 128#32
  let v6163 : BitVec 32 := Scalar.muli arg9 c128_i32_1976
  v6163
def k0_off374 (k0_t1 : Fin k0_t1_loop.trips) : Fin 2 → Nat :=
  let c5040 : Index := 5040#32
  let c0_i32 : BitVec 32 := 0#32
  let c1_i32 : BitVec 32 := 1#32
  let arg9 : BitVec 32 := Scf.iv c0_i32 c1_i32 k0_t1
  let c128_i32_1976 : BitVec 32 := 128#32
  let v6163 : BitVec 32 := Scalar.muli arg9 c128_i32_1976
  let v6164 : BitVec 32 := v6163
  let v6165 : Index := Scalar.indexCast v6164
  ![5040, v6165.toNat]
def k0_off375 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6169 : Index := Scalar.indexCast arg9
  let c612 : Index := 612#32
  let c0_1977 : Index := 0#32
  ![v6169.toNat, 612, 0]
def k0_off376 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6172 : Index := Scalar.indexCast arg9
  let c613 : Index := 613#32
  let c0_1978 : Index := 0#32
  ![v6172.toNat, 613, 0]
def k0_off377 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6175 : Index := Scalar.indexCast arg9
  let c614 : Index := 614#32
  let c0_1979 : Index := 0#32
  ![v6175.toNat, 614, 0]
def k0_off378 (k0_t1 : Fin k0_t1_loop.trips) : Fin 4 → Nat :=
  let c0_i32 : BitVec 32 := 0#32
  let c1_i32 : BitVec 32 := 1#32
  let arg9 : BitVec 32 := Scf.iv c0_i32 c1_i32 k0_t1
  let v6237 : Index := Scalar.indexCast arg9
  let c128_2007 : Index := 128#32
  let c0_2008 : Index := 0#32
  ![v6237.toNat, 128, 0, 0]
def k0_mult258 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2012 : BitVec 32 := 128#32
  let v6249 : BitVec 32 := Scalar.muli arg9 c128_i32_2012
  v6249
def k0_off379 (k0_t1 : Fin k0_t1_loop.trips) : Fin 2 → Nat :=
  let c256 : Index := 256#32
  let c0_i32 : BitVec 32 := 0#32
  let c1_i32 : BitVec 32 := 1#32
  let arg9 : BitVec 32 := Scf.iv c0_i32 c1_i32 k0_t1
  let c128_i32_2012 : BitVec 32 := 128#32
  let v6249 : BitVec 32 := Scalar.muli arg9 c128_i32_2012
  let v6250 : BitVec 32 := v6249
  let v6251 : Index := Scalar.indexCast v6250
  ![256, v6251.toNat]
def k0_mult259 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2016 : BitVec 32 := 128#32
  let v6263 : BitVec 32 := Scalar.muli arg9 c128_i32_2016
  v6263
def k0_off380 (k0_t1 : Fin k0_t1_loop.trips) : Fin 2 → Nat :=
  let c576 : Index := 576#32
  let c0_i32 : BitVec 32 := 0#32
  let c1_i32 : BitVec 32 := 1#32
  let arg9 : BitVec 32 := Scf.iv c0_i32 c1_i32 k0_t1
  let c128_i32_2016 : BitVec 32 := 128#32
  let v6263 : BitVec 32 := Scalar.muli arg9 c128_i32_2016
  let v6264 : BitVec 32 := v6263
  let v6265 : Index := Scalar.indexCast v6264
  ![576, v6265.toNat]
def k0_mult260 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2020 : BitVec 32 := 128#32
  let v6277 : BitVec 32 := Scalar.muli arg9 c128_i32_2020
  v6277
def k0_off381 (k0_t1 : Fin k0_t1_loop.trips) : Fin 2 → Nat :=
  let c896 : Index := 896#32
  let c0_i32 : BitVec 32 := 0#32
  let c1_i32 : BitVec 32 := 1#32
  let arg9 : BitVec 32 := Scf.iv c0_i32 c1_i32 k0_t1
  let c128_i32_2020 : BitVec 32 := 128#32
  let v6277 : BitVec 32 := Scalar.muli arg9 c128_i32_2020
  let v6278 : BitVec 32 := v6277
  let v6279 : Index := Scalar.indexCast v6278
  ![896, v6279.toNat]
def k0_mult261 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2024 : BitVec 32 := 128#32
  let v6291 : BitVec 32 := Scalar.muli arg9 c128_i32_2024
  v6291
def k0_off382 (k0_t1 : Fin k0_t1_loop.trips) : Fin 2 → Nat :=
  let c1216 : Index := 1216#32
  let c0_i32 : BitVec 32 := 0#32
  let c1_i32 : BitVec 32 := 1#32
  let arg9 : BitVec 32 := Scf.iv c0_i32 c1_i32 k0_t1
  let c128_i32_2024 : BitVec 32 := 128#32
  let v6291 : BitVec 32 := Scalar.muli arg9 c128_i32_2024
  let v6292 : BitVec 32 := v6291
  let v6293 : Index := Scalar.indexCast v6292
  ![1216, v6293.toNat]
def k0_mult262 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2028 : BitVec 32 := 128#32
  let v6305 : BitVec 32 := Scalar.muli arg9 c128_i32_2028
  v6305
def k0_off383 (k0_t1 : Fin k0_t1_loop.trips) : Fin 2 → Nat :=
  let c1536 : Index := 1536#32
  let c0_i32 : BitVec 32 := 0#32
  let c1_i32 : BitVec 32 := 1#32
  let arg9 : BitVec 32 := Scf.iv c0_i32 c1_i32 k0_t1
  let c128_i32_2028 : BitVec 32 := 128#32
  let v6305 : BitVec 32 := Scalar.muli arg9 c128_i32_2028
  let v6306 : BitVec 32 := v6305
  let v6307 : Index := Scalar.indexCast v6306
  ![1536, v6307.toNat]
def k0_mult263 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2032 : BitVec 32 := 128#32
  let v6319 : BitVec 32 := Scalar.muli arg9 c128_i32_2032
  v6319
def k0_off384 (k0_t1 : Fin k0_t1_loop.trips) : Fin 2 → Nat :=
  let c1856 : Index := 1856#32
  let c0_i32 : BitVec 32 := 0#32
  let c1_i32 : BitVec 32 := 1#32
  let arg9 : BitVec 32 := Scf.iv c0_i32 c1_i32 k0_t1
  let c128_i32_2032 : BitVec 32 := 128#32
  let v6319 : BitVec 32 := Scalar.muli arg9 c128_i32_2032
  let v6320 : BitVec 32 := v6319
  let v6321 : Index := Scalar.indexCast v6320
  ![1856, v6321.toNat]
def k0_mult264 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2036 : BitVec 32 := 128#32
  let v6333 : BitVec 32 := Scalar.muli arg9 c128_i32_2036
  v6333
def k0_off385 (k0_t1 : Fin k0_t1_loop.trips) : Fin 2 → Nat :=
  let c2176 : Index := 2176#32
  let c0_i32 : BitVec 32 := 0#32
  let c1_i32 : BitVec 32 := 1#32
  let arg9 : BitVec 32 := Scf.iv c0_i32 c1_i32 k0_t1
  let c128_i32_2036 : BitVec 32 := 128#32
  let v6333 : BitVec 32 := Scalar.muli arg9 c128_i32_2036
  let v6334 : BitVec 32 := v6333
  let v6335 : Index := Scalar.indexCast v6334
  ![2176, v6335.toNat]
def k0_mult265 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2040 : BitVec 32 := 128#32
  let v6347 : BitVec 32 := Scalar.muli arg9 c128_i32_2040
  v6347
def k0_off386 (k0_t1 : Fin k0_t1_loop.trips) : Fin 2 → Nat :=
  let c2496 : Index := 2496#32
  let c0_i32 : BitVec 32 := 0#32
  let c1_i32 : BitVec 32 := 1#32
  let arg9 : BitVec 32 := Scf.iv c0_i32 c1_i32 k0_t1
  let c128_i32_2040 : BitVec 32 := 128#32
  let v6347 : BitVec 32 := Scalar.muli arg9 c128_i32_2040
  let v6348 : BitVec 32 := v6347
  let v6349 : Index := Scalar.indexCast v6348
  ![2496, v6349.toNat]
def k0_mult266 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2044 : BitVec 32 := 128#32
  let v6361 : BitVec 32 := Scalar.muli arg9 c128_i32_2044
  v6361
def k0_off387 (k0_t1 : Fin k0_t1_loop.trips) : Fin 2 → Nat :=
  let c2816 : Index := 2816#32
  let c0_i32 : BitVec 32 := 0#32
  let c1_i32 : BitVec 32 := 1#32
  let arg9 : BitVec 32 := Scf.iv c0_i32 c1_i32 k0_t1
  let c128_i32_2044 : BitVec 32 := 128#32
  let v6361 : BitVec 32 := Scalar.muli arg9 c128_i32_2044
  let v6362 : BitVec 32 := v6361
  let v6363 : Index := Scalar.indexCast v6362
  ![2816, v6363.toNat]
def k0_mult267 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2048 : BitVec 32 := 128#32
  let v6375 : BitVec 32 := Scalar.muli arg9 c128_i32_2048
  v6375
def k0_off388 (k0_t1 : Fin k0_t1_loop.trips) : Fin 2 → Nat :=
  let c3136 : Index := 3136#32
  let c0_i32 : BitVec 32 := 0#32
  let c1_i32 : BitVec 32 := 1#32
  let arg9 : BitVec 32 := Scf.iv c0_i32 c1_i32 k0_t1
  let c128_i32_2048 : BitVec 32 := 128#32
  let v6375 : BitVec 32 := Scalar.muli arg9 c128_i32_2048
  let v6376 : BitVec 32 := v6375
  let v6377 : Index := Scalar.indexCast v6376
  ![3136, v6377.toNat]
def k0_mult268 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2052 : BitVec 32 := 128#32
  let v6389 : BitVec 32 := Scalar.muli arg9 c128_i32_2052
  v6389
def k0_off389 (k0_t1 : Fin k0_t1_loop.trips) : Fin 2 → Nat :=
  let c3456 : Index := 3456#32
  let c0_i32 : BitVec 32 := 0#32
  let c1_i32 : BitVec 32 := 1#32
  let arg9 : BitVec 32 := Scf.iv c0_i32 c1_i32 k0_t1
  let c128_i32_2052 : BitVec 32 := 128#32
  let v6389 : BitVec 32 := Scalar.muli arg9 c128_i32_2052
  let v6390 : BitVec 32 := v6389
  let v6391 : Index := Scalar.indexCast v6390
  ![3456, v6391.toNat]
def k0_mult269 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2056 : BitVec 32 := 128#32
  let v6403 : BitVec 32 := Scalar.muli arg9 c128_i32_2056
  v6403
def k0_off390 (k0_t1 : Fin k0_t1_loop.trips) : Fin 2 → Nat :=
  let c3776 : Index := 3776#32
  let c0_i32 : BitVec 32 := 0#32
  let c1_i32 : BitVec 32 := 1#32
  let arg9 : BitVec 32 := Scf.iv c0_i32 c1_i32 k0_t1
  let c128_i32_2056 : BitVec 32 := 128#32
  let v6403 : BitVec 32 := Scalar.muli arg9 c128_i32_2056
  let v6404 : BitVec 32 := v6403
  let v6405 : Index := Scalar.indexCast v6404
  ![3776, v6405.toNat]
def k0_mult270 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2060 : BitVec 32 := 128#32
  let v6417 : BitVec 32 := Scalar.muli arg9 c128_i32_2060
  v6417
def k0_off391 (k0_t1 : Fin k0_t1_loop.trips) : Fin 2 → Nat :=
  let c4096 : Index := 4096#32
  let c0_i32 : BitVec 32 := 0#32
  let c1_i32 : BitVec 32 := 1#32
  let arg9 : BitVec 32 := Scf.iv c0_i32 c1_i32 k0_t1
  let c128_i32_2060 : BitVec 32 := 128#32
  let v6417 : BitVec 32 := Scalar.muli arg9 c128_i32_2060
  let v6418 : BitVec 32 := v6417
  let v6419 : Index := Scalar.indexCast v6418
  ![4096, v6419.toNat]
def k0_mult271 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2064 : BitVec 32 := 128#32
  let v6431 : BitVec 32 := Scalar.muli arg9 c128_i32_2064
  v6431
def k0_off392 (k0_t1 : Fin k0_t1_loop.trips) : Fin 2 → Nat :=
  let c4416 : Index := 4416#32
  let c0_i32 : BitVec 32 := 0#32
  let c1_i32 : BitVec 32 := 1#32
  let arg9 : BitVec 32 := Scf.iv c0_i32 c1_i32 k0_t1
  let c128_i32_2064 : BitVec 32 := 128#32
  let v6431 : BitVec 32 := Scalar.muli arg9 c128_i32_2064
  let v6432 : BitVec 32 := v6431
  let v6433 : Index := Scalar.indexCast v6432
  ![4416, v6433.toNat]
def k0_mult272 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2068 : BitVec 32 := 128#32
  let v6445 : BitVec 32 := Scalar.muli arg9 c128_i32_2068
  v6445
def k0_off393 (k0_t1 : Fin k0_t1_loop.trips) : Fin 2 → Nat :=
  let c4736 : Index := 4736#32
  let c0_i32 : BitVec 32 := 0#32
  let c1_i32 : BitVec 32 := 1#32
  let arg9 : BitVec 32 := Scf.iv c0_i32 c1_i32 k0_t1
  let c128_i32_2068 : BitVec 32 := 128#32
  let v6445 : BitVec 32 := Scalar.muli arg9 c128_i32_2068
  let v6446 : BitVec 32 := v6445
  let v6447 : Index := Scalar.indexCast v6446
  ![4736, v6447.toNat]
def k0_mult273 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2072 : BitVec 32 := 128#32
  let v6459 : BitVec 32 := Scalar.muli arg9 c128_i32_2072
  v6459
def k0_off394 (k0_t1 : Fin k0_t1_loop.trips) : Fin 2 → Nat :=
  let c5056 : Index := 5056#32
  let c0_i32 : BitVec 32 := 0#32
  let c1_i32 : BitVec 32 := 1#32
  let arg9 : BitVec 32 := Scf.iv c0_i32 c1_i32 k0_t1
  let c128_i32_2072 : BitVec 32 := 128#32
  let v6459 : BitVec 32 := Scalar.muli arg9 c128_i32_2072
  let v6460 : BitVec 32 := v6459
  let v6461 : Index := Scalar.indexCast v6460
  ![5056, v6461.toNat]
def k0_off395 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6465 : Index := Scalar.indexCast arg9
  let c636 : Index := 636#32
  let c0_2073 : Index := 0#32
  ![v6465.toNat, 636, 0]
def k0_off396 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6468 : Index := Scalar.indexCast arg9
  let c637 : Index := 637#32
  let c0_2074 : Index := 0#32
  ![v6468.toNat, 637, 0]
def k0_off397 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6471 : Index := Scalar.indexCast arg9
  let c638 : Index := 638#32
  let c0_2075 : Index := 0#32
  ![v6471.toNat, 638, 0]
def k0_off398 (k0_t1 : Fin k0_t1_loop.trips) : Fin 4 → Nat :=
  let c0_i32 : BitVec 32 := 0#32
  let c1_i32 : BitVec 32 := 1#32
  let arg9 : BitVec 32 := Scf.iv c0_i32 c1_i32 k0_t1
  let v6533 : Index := Scalar.indexCast arg9
  let c136 : Index := 136#32
  let c0_2103 : Index := 0#32
  ![v6533.toNat, 136, 0, 0]
def k0_mult274 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2107 : BitVec 32 := 128#32
  let v6545 : BitVec 32 := Scalar.muli arg9 c128_i32_2107
  v6545
def k0_off399 (k0_t1 : Fin k0_t1_loop.trips) : Fin 2 → Nat :=
  let c272 : Index := 272#32
  let c0_i32 : BitVec 32 := 0#32
  let c1_i32 : BitVec 32 := 1#32
  let arg9 : BitVec 32 := Scf.iv c0_i32 c1_i32 k0_t1
  let c128_i32_2107 : BitVec 32 := 128#32
  let v6545 : BitVec 32 := Scalar.muli arg9 c128_i32_2107
  let v6546 : BitVec 32 := v6545
  let v6547 : Index := Scalar.indexCast v6546
  ![272, v6547.toNat]
def k0_mult275 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2111 : BitVec 32 := 128#32
  let v6559 : BitVec 32 := Scalar.muli arg9 c128_i32_2111
  v6559
def k0_off400 (k0_t1 : Fin k0_t1_loop.trips) : Fin 2 → Nat :=
  let c592 : Index := 592#32
  let c0_i32 : BitVec 32 := 0#32
  let c1_i32 : BitVec 32 := 1#32
  let arg9 : BitVec 32 := Scf.iv c0_i32 c1_i32 k0_t1
  let c128_i32_2111 : BitVec 32 := 128#32
  let v6559 : BitVec 32 := Scalar.muli arg9 c128_i32_2111
  let v6560 : BitVec 32 := v6559
  let v6561 : Index := Scalar.indexCast v6560
  ![592, v6561.toNat]
def k0_mult276 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2115 : BitVec 32 := 128#32
  let v6573 : BitVec 32 := Scalar.muli arg9 c128_i32_2115
  v6573
def k0_off401 (k0_t1 : Fin k0_t1_loop.trips) : Fin 2 → Nat :=
  let c912 : Index := 912#32
  let c0_i32 : BitVec 32 := 0#32
  let c1_i32 : BitVec 32 := 1#32
  let arg9 : BitVec 32 := Scf.iv c0_i32 c1_i32 k0_t1
  let c128_i32_2115 : BitVec 32 := 128#32
  let v6573 : BitVec 32 := Scalar.muli arg9 c128_i32_2115
  let v6574 : BitVec 32 := v6573
  let v6575 : Index := Scalar.indexCast v6574
  ![912, v6575.toNat]
def k0_mult277 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2119 : BitVec 32 := 128#32
  let v6587 : BitVec 32 := Scalar.muli arg9 c128_i32_2119
  v6587
def k0_off402 (k0_t1 : Fin k0_t1_loop.trips) : Fin 2 → Nat :=
  let c1232 : Index := 1232#32
  let c0_i32 : BitVec 32 := 0#32
  let c1_i32 : BitVec 32 := 1#32
  let arg9 : BitVec 32 := Scf.iv c0_i32 c1_i32 k0_t1
  let c128_i32_2119 : BitVec 32 := 128#32
  let v6587 : BitVec 32 := Scalar.muli arg9 c128_i32_2119
  let v6588 : BitVec 32 := v6587
  let v6589 : Index := Scalar.indexCast v6588
  ![1232, v6589.toNat]
def k0_mult278 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2123 : BitVec 32 := 128#32
  let v6601 : BitVec 32 := Scalar.muli arg9 c128_i32_2123
  v6601
def k0_off403 (k0_t1 : Fin k0_t1_loop.trips) : Fin 2 → Nat :=
  let c1552 : Index := 1552#32
  let c0_i32 : BitVec 32 := 0#32
  let c1_i32 : BitVec 32 := 1#32
  let arg9 : BitVec 32 := Scf.iv c0_i32 c1_i32 k0_t1
  let c128_i32_2123 : BitVec 32 := 128#32
  let v6601 : BitVec 32 := Scalar.muli arg9 c128_i32_2123
  let v6602 : BitVec 32 := v6601
  let v6603 : Index := Scalar.indexCast v6602
  ![1552, v6603.toNat]
def k0_mult279 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2127 : BitVec 32 := 128#32
  let v6615 : BitVec 32 := Scalar.muli arg9 c128_i32_2127
  v6615
def k0_off404 (k0_t1 : Fin k0_t1_loop.trips) : Fin 2 → Nat :=
  let c1872 : Index := 1872#32
  let c0_i32 : BitVec 32 := 0#32
  let c1_i32 : BitVec 32 := 1#32
  let arg9 : BitVec 32 := Scf.iv c0_i32 c1_i32 k0_t1
  let c128_i32_2127 : BitVec 32 := 128#32
  let v6615 : BitVec 32 := Scalar.muli arg9 c128_i32_2127
  let v6616 : BitVec 32 := v6615
  let v6617 : Index := Scalar.indexCast v6616
  ![1872, v6617.toNat]
def k0_mult280 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2131 : BitVec 32 := 128#32
  let v6629 : BitVec 32 := Scalar.muli arg9 c128_i32_2131
  v6629
def k0_off405 (k0_t1 : Fin k0_t1_loop.trips) : Fin 2 → Nat :=
  let c2192 : Index := 2192#32
  let c0_i32 : BitVec 32 := 0#32
  let c1_i32 : BitVec 32 := 1#32
  let arg9 : BitVec 32 := Scf.iv c0_i32 c1_i32 k0_t1
  let c128_i32_2131 : BitVec 32 := 128#32
  let v6629 : BitVec 32 := Scalar.muli arg9 c128_i32_2131
  let v6630 : BitVec 32 := v6629
  let v6631 : Index := Scalar.indexCast v6630
  ![2192, v6631.toNat]
def k0_mult281 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2135 : BitVec 32 := 128#32
  let v6643 : BitVec 32 := Scalar.muli arg9 c128_i32_2135
  v6643
def k0_off406 (k0_t1 : Fin k0_t1_loop.trips) : Fin 2 → Nat :=
  let c2512 : Index := 2512#32
  let c0_i32 : BitVec 32 := 0#32
  let c1_i32 : BitVec 32 := 1#32
  let arg9 : BitVec 32 := Scf.iv c0_i32 c1_i32 k0_t1
  let c128_i32_2135 : BitVec 32 := 128#32
  let v6643 : BitVec 32 := Scalar.muli arg9 c128_i32_2135
  let v6644 : BitVec 32 := v6643
  let v6645 : Index := Scalar.indexCast v6644
  ![2512, v6645.toNat]
def k0_mult282 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2139 : BitVec 32 := 128#32
  let v6657 : BitVec 32 := Scalar.muli arg9 c128_i32_2139
  v6657
def k0_off407 (k0_t1 : Fin k0_t1_loop.trips) : Fin 2 → Nat :=
  let c2832 : Index := 2832#32
  let c0_i32 : BitVec 32 := 0#32
  let c1_i32 : BitVec 32 := 1#32
  let arg9 : BitVec 32 := Scf.iv c0_i32 c1_i32 k0_t1
  let c128_i32_2139 : BitVec 32 := 128#32
  let v6657 : BitVec 32 := Scalar.muli arg9 c128_i32_2139
  let v6658 : BitVec 32 := v6657
  let v6659 : Index := Scalar.indexCast v6658
  ![2832, v6659.toNat]
def k0_mult283 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2143 : BitVec 32 := 128#32
  let v6671 : BitVec 32 := Scalar.muli arg9 c128_i32_2143
  v6671
def k0_off408 (k0_t1 : Fin k0_t1_loop.trips) : Fin 2 → Nat :=
  let c3152 : Index := 3152#32
  let c0_i32 : BitVec 32 := 0#32
  let c1_i32 : BitVec 32 := 1#32
  let arg9 : BitVec 32 := Scf.iv c0_i32 c1_i32 k0_t1
  let c128_i32_2143 : BitVec 32 := 128#32
  let v6671 : BitVec 32 := Scalar.muli arg9 c128_i32_2143
  let v6672 : BitVec 32 := v6671
  let v6673 : Index := Scalar.indexCast v6672
  ![3152, v6673.toNat]
def k0_mult284 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2147 : BitVec 32 := 128#32
  let v6685 : BitVec 32 := Scalar.muli arg9 c128_i32_2147
  v6685
def k0_off409 (k0_t1 : Fin k0_t1_loop.trips) : Fin 2 → Nat :=
  let c3472 : Index := 3472#32
  let c0_i32 : BitVec 32 := 0#32
  let c1_i32 : BitVec 32 := 1#32
  let arg9 : BitVec 32 := Scf.iv c0_i32 c1_i32 k0_t1
  let c128_i32_2147 : BitVec 32 := 128#32
  let v6685 : BitVec 32 := Scalar.muli arg9 c128_i32_2147
  let v6686 : BitVec 32 := v6685
  let v6687 : Index := Scalar.indexCast v6686
  ![3472, v6687.toNat]
def k0_mult285 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2151 : BitVec 32 := 128#32
  let v6699 : BitVec 32 := Scalar.muli arg9 c128_i32_2151
  v6699
def k0_off410 (k0_t1 : Fin k0_t1_loop.trips) : Fin 2 → Nat :=
  let c3792 : Index := 3792#32
  let c0_i32 : BitVec 32 := 0#32
  let c1_i32 : BitVec 32 := 1#32
  let arg9 : BitVec 32 := Scf.iv c0_i32 c1_i32 k0_t1
  let c128_i32_2151 : BitVec 32 := 128#32
  let v6699 : BitVec 32 := Scalar.muli arg9 c128_i32_2151
  let v6700 : BitVec 32 := v6699
  let v6701 : Index := Scalar.indexCast v6700
  ![3792, v6701.toNat]
def k0_mult286 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2155 : BitVec 32 := 128#32
  let v6713 : BitVec 32 := Scalar.muli arg9 c128_i32_2155
  v6713
def k0_off411 (k0_t1 : Fin k0_t1_loop.trips) : Fin 2 → Nat :=
  let c4112 : Index := 4112#32
  let c0_i32 : BitVec 32 := 0#32
  let c1_i32 : BitVec 32 := 1#32
  let arg9 : BitVec 32 := Scf.iv c0_i32 c1_i32 k0_t1
  let c128_i32_2155 : BitVec 32 := 128#32
  let v6713 : BitVec 32 := Scalar.muli arg9 c128_i32_2155
  let v6714 : BitVec 32 := v6713
  let v6715 : Index := Scalar.indexCast v6714
  ![4112, v6715.toNat]
def k0_mult287 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2159 : BitVec 32 := 128#32
  let v6727 : BitVec 32 := Scalar.muli arg9 c128_i32_2159
  v6727
def k0_off412 (k0_t1 : Fin k0_t1_loop.trips) : Fin 2 → Nat :=
  let c4432 : Index := 4432#32
  let c0_i32 : BitVec 32 := 0#32
  let c1_i32 : BitVec 32 := 1#32
  let arg9 : BitVec 32 := Scf.iv c0_i32 c1_i32 k0_t1
  let c128_i32_2159 : BitVec 32 := 128#32
  let v6727 : BitVec 32 := Scalar.muli arg9 c128_i32_2159
  let v6728 : BitVec 32 := v6727
  let v6729 : Index := Scalar.indexCast v6728
  ![4432, v6729.toNat]
def k0_mult288 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2163 : BitVec 32 := 128#32
  let v6741 : BitVec 32 := Scalar.muli arg9 c128_i32_2163
  v6741
def k0_off413 (k0_t1 : Fin k0_t1_loop.trips) : Fin 2 → Nat :=
  let c4752 : Index := 4752#32
  let c0_i32 : BitVec 32 := 0#32
  let c1_i32 : BitVec 32 := 1#32
  let arg9 : BitVec 32 := Scf.iv c0_i32 c1_i32 k0_t1
  let c128_i32_2163 : BitVec 32 := 128#32
  let v6741 : BitVec 32 := Scalar.muli arg9 c128_i32_2163
  let v6742 : BitVec 32 := v6741
  let v6743 : Index := Scalar.indexCast v6742
  ![4752, v6743.toNat]
def k0_mult289 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2167 : BitVec 32 := 128#32
  let v6755 : BitVec 32 := Scalar.muli arg9 c128_i32_2167
  v6755
def k0_off414 (k0_t1 : Fin k0_t1_loop.trips) : Fin 2 → Nat :=
  let c5072 : Index := 5072#32
  let c0_i32 : BitVec 32 := 0#32
  let c1_i32 : BitVec 32 := 1#32
  let arg9 : BitVec 32 := Scf.iv c0_i32 c1_i32 k0_t1
  let c128_i32_2167 : BitVec 32 := 128#32
  let v6755 : BitVec 32 := Scalar.muli arg9 c128_i32_2167
  let v6756 : BitVec 32 := v6755
  let v6757 : Index := Scalar.indexCast v6756
  ![5072, v6757.toNat]
def k0_off415 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6761 : Index := Scalar.indexCast arg9
  let c660 : Index := 660#32
  let c0_2168 : Index := 0#32
  ![v6761.toNat, 660, 0]
def k0_off416 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6764 : Index := Scalar.indexCast arg9
  let c661 : Index := 661#32
  let c0_2169 : Index := 0#32
  ![v6764.toNat, 661, 0]
def k0_off417 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6767 : Index := Scalar.indexCast arg9
  let c662 : Index := 662#32
  let c0_2170 : Index := 0#32
  ![v6767.toNat, 662, 0]
def k0_off418 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6829 : Index := Scalar.indexCast arg9
  let c666 : Index := 666#32
  let c0_2198 : Index := 0#32
  ![v6829.toNat, 666, 0]
def k0_off419 (k0_t1 : Fin k0_t1_loop.trips) : Fin 3 → Nat :=
  let c0_i32 : BitVec 32 := 0#32
  let c1_i32 : BitVec 32 := 1#32
  let arg9 : BitVec 32 := Scf.iv c0_i32 c1_i32 k0_t1
  let v6832 : Index := Scalar.indexCast arg9
  let c667 : Index := 667#32
  let c0_2199 : Index := 0#32
  ![v6832.toNat, 667, 0]
def k0_off420 (k0_t1 : Fin k0_t1_loop.trips) : Fin 4 → Nat :=
  let c0_i32 : BitVec 32 := 0#32
  let c1_i32 : BitVec 32 := 1#32
  let arg9 : BitVec 32 := Scf.iv c0_i32 c1_i32 k0_t1
  let v6863 : Index := Scalar.indexCast arg9
  let c144_2214 : Index := 144#32
  let c0_2215 : Index := 0#32
  ![v6863.toNat, 144, 0, 0]
def k0_mult290 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2223 : BitVec 32 := 128#32
  let v6889 : BitVec 32 := Scalar.muli arg9 c128_i32_2223
  v6889
def k0_off421 (k0_t1 : Fin k0_t1_loop.trips) : Fin 2 → Nat :=
  let c288_2224 : Index := 288#32
  let c0_i32 : BitVec 32 := 0#32
  let c1_i32 : BitVec 32 := 1#32
  let arg9 : BitVec 32 := Scf.iv c0_i32 c1_i32 k0_t1
  let c128_i32_2223 : BitVec 32 := 128#32
  let v6889 : BitVec 32 := Scalar.muli arg9 c128_i32_2223
  let v6890 : BitVec 32 := v6889
  let v6891 : Index := Scalar.indexCast v6890
  ![288, v6891.toNat]
def k0_mult291 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2232 : BitVec 32 := 128#32
  let v6917 : BitVec 32 := Scalar.muli arg9 c128_i32_2232
  v6917
def k0_off422 (k0_t1 : Fin k0_t1_loop.trips) : Fin 2 → Nat :=
  let c608 : Index := 608#32
  let c0_i32 : BitVec 32 := 0#32
  let c1_i32 : BitVec 32 := 1#32
  let arg9 : BitVec 32 := Scf.iv c0_i32 c1_i32 k0_t1
  let c128_i32_2232 : BitVec 32 := 128#32
  let v6917 : BitVec 32 := Scalar.muli arg9 c128_i32_2232
  let v6918 : BitVec 32 := v6917
  let v6919 : Index := Scalar.indexCast v6918
  ![608, v6919.toNat]
def k0_mult292 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2240 : BitVec 32 := 128#32
  let v6945 : BitVec 32 := Scalar.muli arg9 c128_i32_2240
  v6945
def k0_off423 (k0_t1 : Fin k0_t1_loop.trips) : Fin 2 → Nat :=
  let c928 : Index := 928#32
  let c0_i32 : BitVec 32 := 0#32
  let c1_i32 : BitVec 32 := 1#32
  let arg9 : BitVec 32 := Scf.iv c0_i32 c1_i32 k0_t1
  let c128_i32_2240 : BitVec 32 := 128#32
  let v6945 : BitVec 32 := Scalar.muli arg9 c128_i32_2240
  let v6946 : BitVec 32 := v6945
  let v6947 : Index := Scalar.indexCast v6946
  ![928, v6947.toNat]
def k0_mult293 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2248 : BitVec 32 := 128#32
  let v6973 : BitVec 32 := Scalar.muli arg9 c128_i32_2248
  v6973
def k0_off424 (k0_t1 : Fin k0_t1_loop.trips) : Fin 2 → Nat :=
  let c1248 : Index := 1248#32
  let c0_i32 : BitVec 32 := 0#32
  let c1_i32 : BitVec 32 := 1#32
  let arg9 : BitVec 32 := Scf.iv c0_i32 c1_i32 k0_t1
  let c128_i32_2248 : BitVec 32 := 128#32
  let v6973 : BitVec 32 := Scalar.muli arg9 c128_i32_2248
  let v6974 : BitVec 32 := v6973
  let v6975 : Index := Scalar.indexCast v6974
  ![1248, v6975.toNat]
def k0_mult294 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2256 : BitVec 32 := 128#32
  let v7001 : BitVec 32 := Scalar.muli arg9 c128_i32_2256
  v7001
def k0_off425 (k0_t1 : Fin k0_t1_loop.trips) : Fin 2 → Nat :=
  let c1568 : Index := 1568#32
  let c0_i32 : BitVec 32 := 0#32
  let c1_i32 : BitVec 32 := 1#32
  let arg9 : BitVec 32 := Scf.iv c0_i32 c1_i32 k0_t1
  let c128_i32_2256 : BitVec 32 := 128#32
  let v7001 : BitVec 32 := Scalar.muli arg9 c128_i32_2256
  let v7002 : BitVec 32 := v7001
  let v7003 : Index := Scalar.indexCast v7002
  ![1568, v7003.toNat]
def k0_mult295 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2264 : BitVec 32 := 128#32
  let v7029 : BitVec 32 := Scalar.muli arg9 c128_i32_2264
  v7029
def k0_off426 (k0_t1 : Fin k0_t1_loop.trips) : Fin 2 → Nat :=
  let c1888 : Index := 1888#32
  let c0_i32 : BitVec 32 := 0#32
  let c1_i32 : BitVec 32 := 1#32
  let arg9 : BitVec 32 := Scf.iv c0_i32 c1_i32 k0_t1
  let c128_i32_2264 : BitVec 32 := 128#32
  let v7029 : BitVec 32 := Scalar.muli arg9 c128_i32_2264
  let v7030 : BitVec 32 := v7029
  let v7031 : Index := Scalar.indexCast v7030
  ![1888, v7031.toNat]
def k0_mult296 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2272 : BitVec 32 := 128#32
  let v7057 : BitVec 32 := Scalar.muli arg9 c128_i32_2272
  v7057
def k0_off427 (k0_t1 : Fin k0_t1_loop.trips) : Fin 2 → Nat :=
  let c2208 : Index := 2208#32
  let c0_i32 : BitVec 32 := 0#32
  let c1_i32 : BitVec 32 := 1#32
  let arg9 : BitVec 32 := Scf.iv c0_i32 c1_i32 k0_t1
  let c128_i32_2272 : BitVec 32 := 128#32
  let v7057 : BitVec 32 := Scalar.muli arg9 c128_i32_2272
  let v7058 : BitVec 32 := v7057
  let v7059 : Index := Scalar.indexCast v7058
  ![2208, v7059.toNat]
def k0_mult297 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2280 : BitVec 32 := 128#32
  let v7085 : BitVec 32 := Scalar.muli arg9 c128_i32_2280
  v7085
def k0_off428 (k0_t1 : Fin k0_t1_loop.trips) : Fin 2 → Nat :=
  let c2528 : Index := 2528#32
  let c0_i32 : BitVec 32 := 0#32
  let c1_i32 : BitVec 32 := 1#32
  let arg9 : BitVec 32 := Scf.iv c0_i32 c1_i32 k0_t1
  let c128_i32_2280 : BitVec 32 := 128#32
  let v7085 : BitVec 32 := Scalar.muli arg9 c128_i32_2280
  let v7086 : BitVec 32 := v7085
  let v7087 : Index := Scalar.indexCast v7086
  ![2528, v7087.toNat]
def k0_mult298 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2288 : BitVec 32 := 128#32
  let v7113 : BitVec 32 := Scalar.muli arg9 c128_i32_2288
  v7113
def k0_off429 (k0_t1 : Fin k0_t1_loop.trips) : Fin 2 → Nat :=
  let c2848 : Index := 2848#32
  let c0_i32 : BitVec 32 := 0#32
  let c1_i32 : BitVec 32 := 1#32
  let arg9 : BitVec 32 := Scf.iv c0_i32 c1_i32 k0_t1
  let c128_i32_2288 : BitVec 32 := 128#32
  let v7113 : BitVec 32 := Scalar.muli arg9 c128_i32_2288
  let v7114 : BitVec 32 := v7113
  let v7115 : Index := Scalar.indexCast v7114
  ![2848, v7115.toNat]
def k0_mult299 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2296 : BitVec 32 := 128#32
  let v7141 : BitVec 32 := Scalar.muli arg9 c128_i32_2296
  v7141
def k0_off430 (k0_t1 : Fin k0_t1_loop.trips) : Fin 2 → Nat :=
  let c3168 : Index := 3168#32
  let c0_i32 : BitVec 32 := 0#32
  let c1_i32 : BitVec 32 := 1#32
  let arg9 : BitVec 32 := Scf.iv c0_i32 c1_i32 k0_t1
  let c128_i32_2296 : BitVec 32 := 128#32
  let v7141 : BitVec 32 := Scalar.muli arg9 c128_i32_2296
  let v7142 : BitVec 32 := v7141
  let v7143 : Index := Scalar.indexCast v7142
  ![3168, v7143.toNat]
def k0_mult300 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2304 : BitVec 32 := 128#32
  let v7169 : BitVec 32 := Scalar.muli arg9 c128_i32_2304
  v7169
def k0_off431 (k0_t1 : Fin k0_t1_loop.trips) : Fin 2 → Nat :=
  let c3488 : Index := 3488#32
  let c0_i32 : BitVec 32 := 0#32
  let c1_i32 : BitVec 32 := 1#32
  let arg9 : BitVec 32 := Scf.iv c0_i32 c1_i32 k0_t1
  let c128_i32_2304 : BitVec 32 := 128#32
  let v7169 : BitVec 32 := Scalar.muli arg9 c128_i32_2304
  let v7170 : BitVec 32 := v7169
  let v7171 : Index := Scalar.indexCast v7170
  ![3488, v7171.toNat]
def k0_mult301 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2312 : BitVec 32 := 128#32
  let v7197 : BitVec 32 := Scalar.muli arg9 c128_i32_2312
  v7197
def k0_off432 (k0_t1 : Fin k0_t1_loop.trips) : Fin 2 → Nat :=
  let c3808 : Index := 3808#32
  let c0_i32 : BitVec 32 := 0#32
  let c1_i32 : BitVec 32 := 1#32
  let arg9 : BitVec 32 := Scf.iv c0_i32 c1_i32 k0_t1
  let c128_i32_2312 : BitVec 32 := 128#32
  let v7197 : BitVec 32 := Scalar.muli arg9 c128_i32_2312
  let v7198 : BitVec 32 := v7197
  let v7199 : Index := Scalar.indexCast v7198
  ![3808, v7199.toNat]
def k0_mult302 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2320 : BitVec 32 := 128#32
  let v7225 : BitVec 32 := Scalar.muli arg9 c128_i32_2320
  v7225
def k0_off433 (k0_t1 : Fin k0_t1_loop.trips) : Fin 2 → Nat :=
  let c4128 : Index := 4128#32
  let c0_i32 : BitVec 32 := 0#32
  let c1_i32 : BitVec 32 := 1#32
  let arg9 : BitVec 32 := Scf.iv c0_i32 c1_i32 k0_t1
  let c128_i32_2320 : BitVec 32 := 128#32
  let v7225 : BitVec 32 := Scalar.muli arg9 c128_i32_2320
  let v7226 : BitVec 32 := v7225
  let v7227 : Index := Scalar.indexCast v7226
  ![4128, v7227.toNat]
def k0_mult303 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2328 : BitVec 32 := 128#32
  let v7253 : BitVec 32 := Scalar.muli arg9 c128_i32_2328
  v7253
def k0_off434 (k0_t1 : Fin k0_t1_loop.trips) : Fin 2 → Nat :=
  let c4448 : Index := 4448#32
  let c0_i32 : BitVec 32 := 0#32
  let c1_i32 : BitVec 32 := 1#32
  let arg9 : BitVec 32 := Scf.iv c0_i32 c1_i32 k0_t1
  let c128_i32_2328 : BitVec 32 := 128#32
  let v7253 : BitVec 32 := Scalar.muli arg9 c128_i32_2328
  let v7254 : BitVec 32 := v7253
  let v7255 : Index := Scalar.indexCast v7254
  ![4448, v7255.toNat]
def k0_mult304 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2336 : BitVec 32 := 128#32
  let v7281 : BitVec 32 := Scalar.muli arg9 c128_i32_2336
  v7281
def k0_off435 (k0_t1 : Fin k0_t1_loop.trips) : Fin 2 → Nat :=
  let c4768 : Index := 4768#32
  let c0_i32 : BitVec 32 := 0#32
  let c1_i32 : BitVec 32 := 1#32
  let arg9 : BitVec 32 := Scf.iv c0_i32 c1_i32 k0_t1
  let c128_i32_2336 : BitVec 32 := 128#32
  let v7281 : BitVec 32 := Scalar.muli arg9 c128_i32_2336
  let v7282 : BitVec 32 := v7281
  let v7283 : Index := Scalar.indexCast v7282
  ![4768, v7283.toNat]
def k0_mult305 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2344 : BitVec 32 := 128#32
  let v7309 : BitVec 32 := Scalar.muli arg9 c128_i32_2344
  v7309
def k0_off436 (k0_t1 : Fin k0_t1_loop.trips) : Fin 2 → Nat :=
  let c5088 : Index := 5088#32
  let c0_i32 : BitVec 32 := 0#32
  let c1_i32 : BitVec 32 := 1#32
  let arg9 : BitVec 32 := Scf.iv c0_i32 c1_i32 k0_t1
  let c128_i32_2344 : BitVec 32 := 128#32
  let v7309 : BitVec 32 := Scalar.muli arg9 c128_i32_2344
  let v7310 : BitVec 32 := v7309
  let v7311 : Index := Scalar.indexCast v7310
  ![5088, v7311.toNat]
def k0_off437 (k0_t1 : Fin k0_t1_loop.trips) : Fin 3 → Nat :=
  let c0_i32 : BitVec 32 := 0#32
  let c1_i32 : BitVec 32 := 1#32
  let arg9 : BitVec 32 := Scf.iv c0_i32 c1_i32 k0_t1
  let v7315 : Index := Scalar.indexCast arg9
  let c682 : Index := 682#32
  let c0_2345 : Index := 0#32
  ![v7315.toNat, 682, 0]
def k0_off438 (k0_t1 : Fin k0_t1_loop.trips) : Fin 3 → Nat :=
  let c0_i32 : BitVec 32 := 0#32
  let c1_i32 : BitVec 32 := 1#32
  let arg9 : BitVec 32 := Scf.iv c0_i32 c1_i32 k0_t1
  let v7318 : Index := Scalar.indexCast arg9
  let c683 : Index := 683#32
  let c0_2346 : Index := 0#32
  ![v7318.toNat, 683, 0]
def k0_off439 (k0_t1 : Fin k0_t1_loop.trips) : Fin 4 → Nat :=
  let c0_i32 : BitVec 32 := 0#32
  let c1_i32 : BitVec 32 := 1#32
  let arg9 : BitVec 32 := Scf.iv c0_i32 c1_i32 k0_t1
  let v7349 : Index := Scalar.indexCast arg9
  let c152 : Index := 152#32
  let c0_2361 : Index := 0#32
  ![v7349.toNat, 152, 0, 0]
def k0_mult306 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2365 : BitVec 32 := 128#32
  let v7361 : BitVec 32 := Scalar.muli arg9 c128_i32_2365
  v7361
def k0_off440 (k0_t1 : Fin k0_t1_loop.trips) : Fin 2 → Nat :=
  let c304 : Index := 304#32
  let c0_i32 : BitVec 32 := 0#32
  let c1_i32 : BitVec 32 := 1#32
  let arg9 : BitVec 32 := Scf.iv c0_i32 c1_i32 k0_t1
  let c128_i32_2365 : BitVec 32 := 128#32
  let v7361 : BitVec 32 := Scalar.muli arg9 c128_i32_2365
  let v7362 : BitVec 32 := v7361
  let v7363 : Index := Scalar.indexCast v7362
  ![304, v7363.toNat]
def k0_mult307 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2369 : BitVec 32 := 128#32
  let v7375 : BitVec 32 := Scalar.muli arg9 c128_i32_2369
  v7375
def k0_off441 (k0_t1 : Fin k0_t1_loop.trips) : Fin 2 → Nat :=
  let c624 : Index := 624#32
  let c0_i32 : BitVec 32 := 0#32
  let c1_i32 : BitVec 32 := 1#32
  let arg9 : BitVec 32 := Scf.iv c0_i32 c1_i32 k0_t1
  let c128_i32_2369 : BitVec 32 := 128#32
  let v7375 : BitVec 32 := Scalar.muli arg9 c128_i32_2369
  let v7376 : BitVec 32 := v7375
  let v7377 : Index := Scalar.indexCast v7376
  ![624, v7377.toNat]
def k0_mult308 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2373 : BitVec 32 := 128#32
  let v7389 : BitVec 32 := Scalar.muli arg9 c128_i32_2373
  v7389
def k0_off442 (k0_t1 : Fin k0_t1_loop.trips) : Fin 2 → Nat :=
  let c944 : Index := 944#32
  let c0_i32 : BitVec 32 := 0#32
  let c1_i32 : BitVec 32 := 1#32
  let arg9 : BitVec 32 := Scf.iv c0_i32 c1_i32 k0_t1
  let c128_i32_2373 : BitVec 32 := 128#32
  let v7389 : BitVec 32 := Scalar.muli arg9 c128_i32_2373
  let v7390 : BitVec 32 := v7389
  let v7391 : Index := Scalar.indexCast v7390
  ![944, v7391.toNat]
def k0_mult309 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2377 : BitVec 32 := 128#32
  let v7403 : BitVec 32 := Scalar.muli arg9 c128_i32_2377
  v7403
def k0_off443 (k0_t1 : Fin k0_t1_loop.trips) : Fin 2 → Nat :=
  let c1264 : Index := 1264#32
  let c0_i32 : BitVec 32 := 0#32
  let c1_i32 : BitVec 32 := 1#32
  let arg9 : BitVec 32 := Scf.iv c0_i32 c1_i32 k0_t1
  let c128_i32_2377 : BitVec 32 := 128#32
  let v7403 : BitVec 32 := Scalar.muli arg9 c128_i32_2377
  let v7404 : BitVec 32 := v7403
  let v7405 : Index := Scalar.indexCast v7404
  ![1264, v7405.toNat]
def k0_mult310 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2381 : BitVec 32 := 128#32
  let v7417 : BitVec 32 := Scalar.muli arg9 c128_i32_2381
  v7417
def k0_off444 (k0_t1 : Fin k0_t1_loop.trips) : Fin 2 → Nat :=
  let c1584 : Index := 1584#32
  let c0_i32 : BitVec 32 := 0#32
  let c1_i32 : BitVec 32 := 1#32
  let arg9 : BitVec 32 := Scf.iv c0_i32 c1_i32 k0_t1
  let c128_i32_2381 : BitVec 32 := 128#32
  let v7417 : BitVec 32 := Scalar.muli arg9 c128_i32_2381
  let v7418 : BitVec 32 := v7417
  let v7419 : Index := Scalar.indexCast v7418
  ![1584, v7419.toNat]
def k0_mult311 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2385 : BitVec 32 := 128#32
  let v7431 : BitVec 32 := Scalar.muli arg9 c128_i32_2385
  v7431
def k0_off445 (k0_t1 : Fin k0_t1_loop.trips) : Fin 2 → Nat :=
  let c1904 : Index := 1904#32
  let c0_i32 : BitVec 32 := 0#32
  let c1_i32 : BitVec 32 := 1#32
  let arg9 : BitVec 32 := Scf.iv c0_i32 c1_i32 k0_t1
  let c128_i32_2385 : BitVec 32 := 128#32
  let v7431 : BitVec 32 := Scalar.muli arg9 c128_i32_2385
  let v7432 : BitVec 32 := v7431
  let v7433 : Index := Scalar.indexCast v7432
  ![1904, v7433.toNat]
def k0_mult312 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2389 : BitVec 32 := 128#32
  let v7445 : BitVec 32 := Scalar.muli arg9 c128_i32_2389
  v7445
def k0_off446 (k0_t1 : Fin k0_t1_loop.trips) : Fin 2 → Nat :=
  let c2224 : Index := 2224#32
  let c0_i32 : BitVec 32 := 0#32
  let c1_i32 : BitVec 32 := 1#32
  let arg9 : BitVec 32 := Scf.iv c0_i32 c1_i32 k0_t1
  let c128_i32_2389 : BitVec 32 := 128#32
  let v7445 : BitVec 32 := Scalar.muli arg9 c128_i32_2389
  let v7446 : BitVec 32 := v7445
  let v7447 : Index := Scalar.indexCast v7446
  ![2224, v7447.toNat]
def k0_mult313 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2393 : BitVec 32 := 128#32
  let v7459 : BitVec 32 := Scalar.muli arg9 c128_i32_2393
  v7459
def k0_off447 (k0_t1 : Fin k0_t1_loop.trips) : Fin 2 → Nat :=
  let c2544 : Index := 2544#32
  let c0_i32 : BitVec 32 := 0#32
  let c1_i32 : BitVec 32 := 1#32
  let arg9 : BitVec 32 := Scf.iv c0_i32 c1_i32 k0_t1
  let c128_i32_2393 : BitVec 32 := 128#32
  let v7459 : BitVec 32 := Scalar.muli arg9 c128_i32_2393
  let v7460 : BitVec 32 := v7459
  let v7461 : Index := Scalar.indexCast v7460
  ![2544, v7461.toNat]
def k0_mult314 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2397 : BitVec 32 := 128#32
  let v7473 : BitVec 32 := Scalar.muli arg9 c128_i32_2397
  v7473
def k0_off448 (k0_t1 : Fin k0_t1_loop.trips) : Fin 2 → Nat :=
  let c2864 : Index := 2864#32
  let c0_i32 : BitVec 32 := 0#32
  let c1_i32 : BitVec 32 := 1#32
  let arg9 : BitVec 32 := Scf.iv c0_i32 c1_i32 k0_t1
  let c128_i32_2397 : BitVec 32 := 128#32
  let v7473 : BitVec 32 := Scalar.muli arg9 c128_i32_2397
  let v7474 : BitVec 32 := v7473
  let v7475 : Index := Scalar.indexCast v7474
  ![2864, v7475.toNat]
def k0_mult315 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2401 : BitVec 32 := 128#32
  let v7487 : BitVec 32 := Scalar.muli arg9 c128_i32_2401
  v7487
def k0_off449 (k0_t1 : Fin k0_t1_loop.trips) : Fin 2 → Nat :=
  let c3184 : Index := 3184#32
  let c0_i32 : BitVec 32 := 0#32
  let c1_i32 : BitVec 32 := 1#32
  let arg9 : BitVec 32 := Scf.iv c0_i32 c1_i32 k0_t1
  let c128_i32_2401 : BitVec 32 := 128#32
  let v7487 : BitVec 32 := Scalar.muli arg9 c128_i32_2401
  let v7488 : BitVec 32 := v7487
  let v7489 : Index := Scalar.indexCast v7488
  ![3184, v7489.toNat]
def k0_mult316 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2405 : BitVec 32 := 128#32
  let v7501 : BitVec 32 := Scalar.muli arg9 c128_i32_2405
  v7501
def k0_off450 (k0_t1 : Fin k0_t1_loop.trips) : Fin 2 → Nat :=
  let c3504 : Index := 3504#32
  let c0_i32 : BitVec 32 := 0#32
  let c1_i32 : BitVec 32 := 1#32
  let arg9 : BitVec 32 := Scf.iv c0_i32 c1_i32 k0_t1
  let c128_i32_2405 : BitVec 32 := 128#32
  let v7501 : BitVec 32 := Scalar.muli arg9 c128_i32_2405
  let v7502 : BitVec 32 := v7501
  let v7503 : Index := Scalar.indexCast v7502
  ![3504, v7503.toNat]
def k0_mult317 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2409 : BitVec 32 := 128#32
  let v7515 : BitVec 32 := Scalar.muli arg9 c128_i32_2409
  v7515
def k0_off451 (k0_t1 : Fin k0_t1_loop.trips) : Fin 2 → Nat :=
  let c3824 : Index := 3824#32
  let c0_i32 : BitVec 32 := 0#32
  let c1_i32 : BitVec 32 := 1#32
  let arg9 : BitVec 32 := Scf.iv c0_i32 c1_i32 k0_t1
  let c128_i32_2409 : BitVec 32 := 128#32
  let v7515 : BitVec 32 := Scalar.muli arg9 c128_i32_2409
  let v7516 : BitVec 32 := v7515
  let v7517 : Index := Scalar.indexCast v7516
  ![3824, v7517.toNat]
def k0_mult318 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2413 : BitVec 32 := 128#32
  let v7529 : BitVec 32 := Scalar.muli arg9 c128_i32_2413
  v7529
def k0_off452 (k0_t1 : Fin k0_t1_loop.trips) : Fin 2 → Nat :=
  let c4144 : Index := 4144#32
  let c0_i32 : BitVec 32 := 0#32
  let c1_i32 : BitVec 32 := 1#32
  let arg9 : BitVec 32 := Scf.iv c0_i32 c1_i32 k0_t1
  let c128_i32_2413 : BitVec 32 := 128#32
  let v7529 : BitVec 32 := Scalar.muli arg9 c128_i32_2413
  let v7530 : BitVec 32 := v7529
  let v7531 : Index := Scalar.indexCast v7530
  ![4144, v7531.toNat]
def k0_mult319 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2417 : BitVec 32 := 128#32
  let v7543 : BitVec 32 := Scalar.muli arg9 c128_i32_2417
  v7543
def k0_off453 (k0_t1 : Fin k0_t1_loop.trips) : Fin 2 → Nat :=
  let c4464 : Index := 4464#32
  let c0_i32 : BitVec 32 := 0#32
  let c1_i32 : BitVec 32 := 1#32
  let arg9 : BitVec 32 := Scf.iv c0_i32 c1_i32 k0_t1
  let c128_i32_2417 : BitVec 32 := 128#32
  let v7543 : BitVec 32 := Scalar.muli arg9 c128_i32_2417
  let v7544 : BitVec 32 := v7543
  let v7545 : Index := Scalar.indexCast v7544
  ![4464, v7545.toNat]
def k0_mult320 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2421 : BitVec 32 := 128#32
  let v7557 : BitVec 32 := Scalar.muli arg9 c128_i32_2421
  v7557
def k0_off454 (k0_t1 : Fin k0_t1_loop.trips) : Fin 2 → Nat :=
  let c4784 : Index := 4784#32
  let c0_i32 : BitVec 32 := 0#32
  let c1_i32 : BitVec 32 := 1#32
  let arg9 : BitVec 32 := Scf.iv c0_i32 c1_i32 k0_t1
  let c128_i32_2421 : BitVec 32 := 128#32
  let v7557 : BitVec 32 := Scalar.muli arg9 c128_i32_2421
  let v7558 : BitVec 32 := v7557
  let v7559 : Index := Scalar.indexCast v7558
  ![4784, v7559.toNat]
def k0_mult321 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_2425 : BitVec 32 := 128#32
  let v7571 : BitVec 32 := Scalar.muli arg9 c128_i32_2425
  v7571
def k0_off455 (k0_t1 : Fin k0_t1_loop.trips) : Fin 2 → Nat :=
  let c5104 : Index := 5104#32
  let c0_i32 : BitVec 32 := 0#32
  let c1_i32 : BitVec 32 := 1#32
  let arg9 : BitVec 32 := Scf.iv c0_i32 c1_i32 k0_t1
  let c128_i32_2425 : BitVec 32 := 128#32
  let v7571 : BitVec 32 := Scalar.muli arg9 c128_i32_2425
  let v7572 : BitVec 32 := v7571
  let v7573 : Index := Scalar.indexCast v7572
  ![5104, v7573.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S698x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S24x256x5120 : Shape := ⟨3, ![24, 256, 5120]⟩
abbrev S5120 : Shape := ⟨1, ![5120]⟩
abbrev S27648x698 : Shape := ⟨2, ![27648, 698]⟩
abbrev S27648x160 : Shape := ⟨2, ![27648, 160]⟩
abbrev S27648x72 : Shape := ⟨2, ![27648, 72]⟩
abbrev S27648x72x1 : Shape := ⟨3, ![27648, 72, 1]⟩
abbrev S32 : Shape := ⟨1, ![32]⟩
abbrev S1x1x32 : Shape := ⟨3, ![1, 1, 32]⟩
abbrev S27648x72x32 : Shape := ⟨3, ![27648, 72, 32]⟩
abbrev S_ : Shape := ⟨0, ![]⟩
abbrev S27648x2304 : Shape := ⟨2, ![27648, 2304]⟩
abbrev S27648x288 : Shape := ⟨2, ![27648, 288]⟩
abbrev S27648x9 : Shape := ⟨2, ![27648, 9]⟩
abbrev S27648x9x32 : Shape := ⟨3, ![27648, 9, 32]⟩
abbrev S27648x108 : Shape := ⟨2, ![27648, 108]⟩
abbrev S27648x108x1 : Shape := ⟨3, ![27648, 108, 1]⟩
abbrev S27648x108x32 : Shape := ⟨3, ![27648, 108, 32]⟩
abbrev S27648x3456 : Shape := ⟨2, ![27648, 3456]⟩
abbrev S27648x576 : Shape := ⟨2, ![27648, 576]⟩
abbrev S27648x18 : Shape := ⟨2, ![27648, 18]⟩
abbrev S27648x18x32 : Shape := ⟨3, ![27648, 18, 32]⟩
abbrev S27648x170 : Shape := ⟨2, ![27648, 170]⟩
abbrev S27648x170x1 : Shape := ⟨3, ![27648, 170, 1]⟩
abbrev S27648x170x32 : Shape := ⟨3, ![27648, 170, 32]⟩
abbrev S27648x5440 : Shape := ⟨2, ![27648, 5440]⟩
abbrev S27648x1088 : Shape := ⟨2, ![27648, 1088]⟩
abbrev S27648x34 : Shape := ⟨2, ![27648, 34]⟩
abbrev S27648x34x32 : Shape := ⟨3, ![27648, 34, 32]⟩
abbrev S27648x244 : Shape := ⟨2, ![27648, 244]⟩
abbrev S27648x244x1 : Shape := ⟨3, ![27648, 244, 1]⟩
abbrev S27648x244x32 : Shape := ⟨3, ![27648, 244, 32]⟩
abbrev S27648x7808 : Shape := ⟨2, ![27648, 7808]⟩
abbrev S27648x1952 : Shape := ⟨2, ![27648, 1952]⟩
abbrev S27648x61 : Shape := ⟨2, ![27648, 61]⟩
abbrev S27648x61x32 : Shape := ⟨3, ![27648, 61, 32]⟩
abbrev S27648x84 : Shape := ⟨2, ![27648, 84]⟩
abbrev S27648x84x1 : Shape := ⟨3, ![27648, 84, 1]⟩
abbrev S27648x84x32 : Shape := ⟨3, ![27648, 84, 32]⟩
abbrev S27648x2688 : Shape := ⟨2, ![27648, 2688]⟩
abbrev S27648x896 : Shape := ⟨2, ![27648, 896]⟩
abbrev S27648x28 : Shape := ⟨2, ![27648, 28]⟩
abbrev S27648x28x32 : Shape := ⟨3, ![27648, 28, 32]⟩
abbrev S27648x20 : Shape := ⟨2, ![27648, 20]⟩
abbrev S27648x20x1 : Shape := ⟨3, ![27648, 20, 1]⟩
abbrev S27648x20x32 : Shape := ⟨3, ![27648, 20, 32]⟩
abbrev S27648x640 : Shape := ⟨2, ![27648, 640]⟩
abbrev S27648x320 : Shape := ⟨2, ![27648, 320]⟩
abbrev S27648x10 : Shape := ⟨2, ![27648, 10]⟩
abbrev S27648x10x32 : Shape := ⟨3, ![27648, 10, 32]⟩
abbrev S27648x5120 : Shape := ⟨2, ![27648, 5120]⟩
abbrev S5120x1 : Shape := ⟨2, ![5120, 1]⟩
abbrev S1 : Shape := ⟨1, ![1]⟩
abbrev S1x1 : Shape := ⟨2, ![1, 1]⟩
abbrev S24x256x27648 : Shape := ⟨3, ![24, 256, 27648]⟩

abbrev nBuf : Space → Nat
  | .hbm => 260
  | .vmem => 0
  | .smem => 0
  | _ => 0

abbrev hbmTy0_0 (i : Nat) : BufTy := match i % 128 with
  | 0 => ⟨S24x256x5120, .bf16⟩
  | 1 => ⟨S5120, .i32⟩
  | 2 => ⟨S27648x698, .i32⟩
  | 3 => ⟨S27648x160, .bf16⟩
  | 4 => ⟨S27648x72, .i32⟩
  | 5 => ⟨S27648x72x1, .i32⟩
  | 6 => ⟨S32, .i32⟩
  | 7 => ⟨S1x1x32, .i32⟩
  | 8 => ⟨S27648x72x32, .i32⟩
  | 9 => ⟨S27648x72x32, .i32⟩
  | 10 => ⟨S27648x72x32, .i32⟩
  | 11 => ⟨S_, .i32⟩
  | 12 => ⟨S27648x72x32, .i32⟩
  | 13 => ⟨S27648x72x32, .i32⟩
  | 14 => ⟨S27648x2304, .i32⟩
  | 15 => ⟨S27648x288, .i32⟩
  | 16 => ⟨S27648x288, .i32⟩
  | 17 => ⟨S_, .i32⟩
  | 18 => ⟨S27648x288, .i32⟩
  | 19 => ⟨S27648x288, .i32⟩
  | 20 => ⟨S27648x288, .i32⟩
  | 21 => ⟨S27648x288, .i32⟩
  | 22 => ⟨S_, .i32⟩
  | 23 => ⟨S27648x288, .i32⟩
  | 24 => ⟨S27648x288, .i32⟩
  | 25 => ⟨S27648x288, .i32⟩
  | 26 => ⟨S27648x288, .i32⟩
  | 27 => ⟨S_, .i32⟩
  | 28 => ⟨S27648x288, .i32⟩
  | 29 => ⟨S27648x288, .i32⟩
  | 30 => ⟨S27648x288, .i32⟩
  | 31 => ⟨S27648x288, .i32⟩
  | 32 => ⟨S_, .i32⟩
  | 33 => ⟨S27648x288, .i32⟩
  | 34 => ⟨S27648x288, .i32⟩
  | 35 => ⟨S27648x288, .i32⟩
  | 36 => ⟨S27648x288, .i32⟩
  | 37 => ⟨S_, .i32⟩
  | 38 => ⟨S27648x288, .i32⟩
  | 39 => ⟨S27648x288, .i32⟩
  | 40 => ⟨S27648x288, .i32⟩
  | 41 => ⟨S27648x288, .i32⟩
  | 42 => ⟨S_, .i32⟩
  | 43 => ⟨S27648x288, .i32⟩
  | 44 => ⟨S27648x288, .i32⟩
  | 45 => ⟨S27648x288, .i32⟩
  | 46 => ⟨S27648x288, .i32⟩
  | 47 => ⟨S_, .i32⟩
  | 48 => ⟨S27648x288, .i32⟩
  | 49 => ⟨S27648x288, .i32⟩
  | 50 => ⟨S27648x288, .i32⟩
  | 51 => ⟨S27648x9, .bf16⟩
  | 52 => ⟨S27648x9x32, .bf16⟩
  | 53 => ⟨S27648x288, .bf16⟩
  | 54 => ⟨S27648x288, .bf16⟩
  | 55 => ⟨S_, .bf16⟩
  | 56 => ⟨S27648x288, .bf16⟩
  | 57 => ⟨S27648x288, .bf16⟩
  | 58 => ⟨S27648x288, .bf16⟩
  | 59 => ⟨S27648x108, .i32⟩
  | 60 => ⟨S27648x108x1, .i32⟩
  | 61 => ⟨S32, .i32⟩
  | 62 => ⟨S1x1x32, .i32⟩
  | 63 => ⟨S27648x108x32, .i32⟩
  | 64 => ⟨S27648x108x32, .i32⟩
  | 65 => ⟨S27648x108x32, .i32⟩
  | 66 => ⟨S_, .i32⟩
  | 67 => ⟨S27648x108x32, .i32⟩
  | 68 => ⟨S27648x108x32, .i32⟩
  | 69 => ⟨S27648x3456, .i32⟩
  | 70 => ⟨S27648x576, .i32⟩
  | 71 => ⟨S27648x576, .i32⟩
  | 72 => ⟨S_, .i32⟩
  | 73 => ⟨S27648x576, .i32⟩
  | 74 => ⟨S27648x576, .i32⟩
  | 75 => ⟨S27648x576, .i32⟩
  | 76 => ⟨S27648x576, .i32⟩
  | 77 => ⟨S_, .i32⟩
  | 78 => ⟨S27648x576, .i32⟩
  | 79 => ⟨S27648x576, .i32⟩
  | 80 => ⟨S27648x576, .i32⟩
  | 81 => ⟨S27648x576, .i32⟩
  | 82 => ⟨S_, .i32⟩
  | 83 => ⟨S27648x576, .i32⟩
  | 84 => ⟨S27648x576, .i32⟩
  | 85 => ⟨S27648x576, .i32⟩
  | 86 => ⟨S27648x576, .i32⟩
  | 87 => ⟨S_, .i32⟩
  | 88 => ⟨S27648x576, .i32⟩
  | 89 => ⟨S27648x576, .i32⟩
  | 90 => ⟨S27648x576, .i32⟩
  | 91 => ⟨S27648x576, .i32⟩
  | 92 => ⟨S_, .i32⟩
  | 93 => ⟨S27648x576, .i32⟩
  | 94 => ⟨S27648x576, .i32⟩
  | 95 => ⟨S27648x576, .i32⟩
  | 96 => ⟨S27648x18, .bf16⟩
  | 97 => ⟨S27648x18x32, .bf16⟩
  | 98 => ⟨S27648x576, .bf16⟩
  | 99 => ⟨S27648x576, .bf16⟩
  | 100 => ⟨S_, .bf16⟩
  | 101 => ⟨S27648x576, .bf16⟩
  | 102 => ⟨S27648x576, .bf16⟩
  | 103 => ⟨S27648x576, .bf16⟩
  | 104 => ⟨S27648x170, .i32⟩
  | 105 => ⟨S27648x170x1, .i32⟩
  | 106 => ⟨S32, .i32⟩
  | 107 => ⟨S1x1x32, .i32⟩
  | 108 => ⟨S27648x170x32, .i32⟩
  | 109 => ⟨S27648x170x32, .i32⟩
  | 110 => ⟨S27648x170x32, .i32⟩
  | 111 => ⟨S_, .i32⟩
  | 112 => ⟨S27648x170x32, .i32⟩
  | 113 => ⟨S27648x170x32, .i32⟩
  | 114 => ⟨S27648x5440, .i32⟩
  | 115 => ⟨S27648x1088, .i32⟩
  | 116 => ⟨S27648x1088, .i32⟩
  | 117 => ⟨S_, .i32⟩
  | 118 => ⟨S27648x1088, .i32⟩
  | 119 => ⟨S27648x1088, .i32⟩
  | 120 => ⟨S27648x1088, .i32⟩
  | 121 => ⟨S27648x1088, .i32⟩
  | 122 => ⟨S_, .i32⟩
  | 123 => ⟨S27648x1088, .i32⟩
  | 124 => ⟨S27648x1088, .i32⟩
  | 125 => ⟨S27648x1088, .i32⟩
  | 126 => ⟨S27648x1088, .i32⟩
  | 127 => ⟨S_, .i32⟩
  | _ => ⟨S24x256x5120, .bf16⟩

abbrev hbmTy0_1 (i : Nat) : BufTy := match i % 128 with
  | 0 => ⟨S27648x1088, .i32⟩
  | 1 => ⟨S27648x1088, .i32⟩
  | 2 => ⟨S27648x1088, .i32⟩
  | 3 => ⟨S27648x1088, .i32⟩
  | 4 => ⟨S_, .i32⟩
  | 5 => ⟨S27648x1088, .i32⟩
  | 6 => ⟨S27648x1088, .i32⟩
  | 7 => ⟨S27648x1088, .i32⟩
  | 8 => ⟨S27648x34, .bf16⟩
  | 9 => ⟨S27648x34x32, .bf16⟩
  | 10 => ⟨S27648x1088, .bf16⟩
  | 11 => ⟨S27648x1088, .bf16⟩
  | 12 => ⟨S_, .bf16⟩
  | 13 => ⟨S27648x1088, .bf16⟩
  | 14 => ⟨S27648x1088, .bf16⟩
  | 15 => ⟨S27648x1088, .bf16⟩
  | 16 => ⟨S27648x244, .i32⟩
  | 17 => ⟨S27648x244x1, .i32⟩
  | 18 => ⟨S32, .i32⟩
  | 19 => ⟨S1x1x32, .i32⟩
  | 20 => ⟨S27648x244x32, .i32⟩
  | 21 => ⟨S27648x244x32, .i32⟩
  | 22 => ⟨S27648x244x32, .i32⟩
  | 23 => ⟨S_, .i32⟩
  | 24 => ⟨S27648x244x32, .i32⟩
  | 25 => ⟨S27648x244x32, .i32⟩
  | 26 => ⟨S27648x7808, .i32⟩
  | 27 => ⟨S27648x1952, .i32⟩
  | 28 => ⟨S27648x1952, .i32⟩
  | 29 => ⟨S_, .i32⟩
  | 30 => ⟨S27648x1952, .i32⟩
  | 31 => ⟨S27648x1952, .i32⟩
  | 32 => ⟨S27648x1952, .i32⟩
  | 33 => ⟨S27648x1952, .i32⟩
  | 34 => ⟨S_, .i32⟩
  | 35 => ⟨S27648x1952, .i32⟩
  | 36 => ⟨S27648x1952, .i32⟩
  | 37 => ⟨S27648x1952, .i32⟩
  | 38 => ⟨S27648x1952, .i32⟩
  | 39 => ⟨S_, .i32⟩
  | 40 => ⟨S27648x1952, .i32⟩
  | 41 => ⟨S27648x1952, .i32⟩
  | 42 => ⟨S27648x1952, .i32⟩
  | 43 => ⟨S27648x61, .bf16⟩
  | 44 => ⟨S27648x61x32, .bf16⟩
  | 45 => ⟨S27648x1952, .bf16⟩
  | 46 => ⟨S27648x1952, .bf16⟩
  | 47 => ⟨S_, .bf16⟩
  | 48 => ⟨S27648x1952, .bf16⟩
  | 49 => ⟨S27648x1952, .bf16⟩
  | 50 => ⟨S27648x1952, .bf16⟩
  | 51 => ⟨S27648x84, .i32⟩
  | 52 => ⟨S27648x84x1, .i32⟩
  | 53 => ⟨S32, .i32⟩
  | 54 => ⟨S1x1x32, .i32⟩
  | 55 => ⟨S27648x84x32, .i32⟩
  | 56 => ⟨S27648x84x32, .i32⟩
  | 57 => ⟨S27648x84x32, .i32⟩
  | 58 => ⟨S_, .i32⟩
  | 59 => ⟨S27648x84x32, .i32⟩
  | 60 => ⟨S27648x84x32, .i32⟩
  | 61 => ⟨S27648x2688, .i32⟩
  | 62 => ⟨S27648x896, .i32⟩
  | 63 => ⟨S27648x896, .i32⟩
  | 64 => ⟨S_, .i32⟩
  | 65 => ⟨S27648x896, .i32⟩
  | 66 => ⟨S27648x896, .i32⟩
  | 67 => ⟨S27648x896, .i32⟩
  | 68 => ⟨S27648x896, .i32⟩
  | 69 => ⟨S_, .i32⟩
  | 70 => ⟨S27648x896, .i32⟩
  | 71 => ⟨S27648x896, .i32⟩
  | 72 => ⟨S27648x896, .i32⟩
  | 73 => ⟨S27648x28, .bf16⟩
  | 74 => ⟨S27648x28x32, .bf16⟩
  | 75 => ⟨S27648x896, .bf16⟩
  | 76 => ⟨S27648x896, .bf16⟩
  | 77 => ⟨S_, .bf16⟩
  | 78 => ⟨S27648x896, .bf16⟩
  | 79 => ⟨S27648x896, .bf16⟩
  | 80 => ⟨S27648x896, .bf16⟩
  | 81 => ⟨S27648x20, .i32⟩
  | 82 => ⟨S27648x20x1, .i32⟩
  | 83 => ⟨S32, .i32⟩
  | 84 => ⟨S1x1x32, .i32⟩
  | 85 => ⟨S27648x20x32, .i32⟩
  | 86 => ⟨S27648x20x32, .i32⟩
  | 87 => ⟨S27648x20x32, .i32⟩
  | 88 => ⟨S_, .i32⟩
  | 89 => ⟨S27648x20x32, .i32⟩
  | 90 => ⟨S27648x20x32, .i32⟩
  | 91 => ⟨S27648x640, .i32⟩
  | 92 => ⟨S27648x320, .i32⟩
  | 93 => ⟨S27648x320, .i32⟩
  | 94 => ⟨S_, .i32⟩
  | 95 => ⟨S27648x320, .i32⟩
  | 96 => ⟨S27648x320, .i32⟩
  | 97 => ⟨S27648x320, .i32⟩
  | 98 => ⟨S27648x10, .bf16⟩
  | 99 => ⟨S27648x10x32, .bf16⟩
  | 100 => ⟨S27648x320, .bf16⟩
  | 101 => ⟨S27648x320, .bf16⟩
  | 102 => ⟨S_, .bf16⟩
  | 103 => ⟨S27648x320, .bf16⟩
  | 104 => ⟨S27648x320, .bf16⟩
  | 105 => ⟨S27648x320, .bf16⟩
  | 106 => ⟨S27648x5120, .bf16⟩
  | 107 => ⟨S_, .i32⟩
  | 108 => ⟨S5120, .i32⟩
  | 109 => ⟨S5120, .i1⟩
  | 110 => ⟨S_, .i32⟩
  | 111 => ⟨S5120, .i32⟩
  | 112 => ⟨S5120, .i32⟩
  | 113 => ⟨S5120, .i32⟩
  | 114 => ⟨S5120x1, .i32⟩
  | 115 => ⟨S1, .i32⟩
  | 116 => ⟨S_, .i32⟩
  | 117 => ⟨S5120x1, .i32⟩
  | 118 => ⟨S5120x1, .i1⟩
  | 119 => ⟨S1x1, .i32⟩
  | 120 => ⟨S5120x1, .i32⟩
  | 121 => ⟨S5120x1, .i1⟩
  | 122 => ⟨S5120x1, .i1⟩
  | 123 => ⟨S_, .i1⟩
  | 124 => ⟨S5120, .i1⟩
  | 125 => ⟨S24x256x5120, .bf16⟩
  | 126 => ⟨S24x256x5120, .i1⟩
  | 127 => ⟨S_, .bf16⟩
  | _ => ⟨S24x256x5120, .bf16⟩

abbrev hbmTy0_2 (i : Nat) : BufTy := match i % 128 with
  | 0 => ⟨S24x256x5120, .bf16⟩
  | 1 => ⟨S24x256x5120, .bf16⟩
  | 2 => ⟨S24x256x27648, .f32⟩
  | 3 => ⟨S24x256x27648, .bf16⟩
  | _ => ⟨S24x256x5120, .bf16⟩

abbrev hbmTy (i : Nat) : BufTy := match i / 128 with
  | 0 => hbmTy0_0 i
  | 1 => hbmTy0_1 i
  | 2 => hbmTy0_2 i
  | _ => ⟨S24x256x5120, .bf16⟩

abbrev bufTy : (tb : Table) → Fin (tcTables nBuf tb) → BufTy
  | .hbm, ⟨i, _⟩ => hbmTy i
  | _, _ => ⟨S24x256x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_12 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_c_14 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_c_15 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_c_16 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_c_17 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_c_18 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_19 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_c_20 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_c_21 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_c_22 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_23 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_24 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_c_25 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_c_26 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_c_27 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_28 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_c_29 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_c_30 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_cst_31 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_call0_c : Ref sig .tc := ⟨.hbm, 235, rfl⟩
abbrev main_call0_v0 : Ref sig .tc := ⟨.hbm, 236, rfl⟩
abbrev main_call0_v1 : Ref sig .tc := ⟨.hbm, 237, rfl⟩
abbrev main_call0_c_0 : Ref sig .tc := ⟨.hbm, 238, rfl⟩
abbrev main_call0_v2 : Ref sig .tc := ⟨.hbm, 239, rfl⟩
abbrev main_call0_v3 : Ref sig .tc := ⟨.hbm, 240, rfl⟩
abbrev main_call0_v4 : Ref sig .tc := ⟨.hbm, 241, rfl⟩
abbrev main_call0_v5 : Ref sig .tc := ⟨.hbm, 242, rfl⟩
abbrev main_call0_c_1 : Ref sig .tc := ⟨.hbm, 243, rfl⟩
abbrev main_call0_c_2 : Ref sig .tc := ⟨.hbm, 244, rfl⟩
abbrev main_call0_v6 : Ref sig .tc := ⟨.hbm, 245, rfl⟩
abbrev main_call0_v7 : Ref sig .tc := ⟨.hbm, 246, rfl⟩
abbrev main_call0_v8 : Ref sig .tc := ⟨.hbm, 247, rfl⟩
abbrev main_call0_v9 : Ref sig .tc := ⟨.hbm, 248, rfl⟩
abbrev main_call0_v10 : Ref sig .tc := ⟨.hbm, 249, rfl⟩
abbrev main_call0_v11 : Ref sig .tc := ⟨.hbm, 250, rfl⟩
abbrev main_call0_c_3 : Ref sig .tc := ⟨.hbm, 251, rfl⟩
abbrev main_call0_v12 : Ref sig .tc := ⟨.hbm, 252, rfl⟩
abbrev main_call0_v13 : Ref sig .tc := ⟨.hbm, 253, rfl⟩
abbrev main_call0_v14 : Ref sig .tc := ⟨.hbm, 254, rfl⟩
abbrev main_call0_cst : Ref sig .tc := ⟨.hbm, 255, rfl⟩
abbrev main_call0_v15 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩

abbrev nD : Nat := 1
abbrev τ : Topo := Topo.v7x

variable {F : FTy → Type} [FloatOps F]
-- ==== Gather.lean ====
abbrev S24x256x5120 : Shape := ⟨3, ![24, 256, 5120]⟩
abbrev S5120 : Shape := ⟨1, ![5120]⟩
abbrev S6144x5120 : Shape := ⟨2, ![6144, 5120]⟩
abbrev S256x5120 : Shape := ⟨2, ![256, 5120]⟩
abbrev S5120x128 : Shape := ⟨2, ![5120, 128]⟩
abbrev S128x128 : Shape := ⟨2, ![128, 128]⟩
abbrev S256x128 : Shape := ⟨2, ![256, 128]⟩
abbrev S1 : Shape := ⟨1, ![1]⟩
abbrev S1x128 : Shape := ⟨2, ![1, 128]⟩

abbrev nBuf : Space → Nat
  | .hbm => 3
  | .vmem => 6
  | .smem => 2
  | _ => 0

abbrev bufTy : (tb : Table) → Fin (tcTables nBuf tb) → BufTy
  | .hbm, ⟨0, _⟩ => ⟨S24x256x5120, .bf16⟩
  | .hbm, ⟨1, _⟩ => ⟨S6144x5120, .bf16⟩
  | .hbm, ⟨2, _⟩ => ⟨S6144x5120, .bf16⟩
  | .local _ .vmem, ⟨0, _⟩ => ⟨S256x5120, .bf16⟩
  | .local _ .vmem, ⟨1, _⟩ => ⟨S256x5120, .bf16⟩
  | .local _ .vmem, ⟨2, _⟩ => ⟨S256x5120, .bf16⟩
  | .local _ .vmem, ⟨3, _⟩ => ⟨S256x5120, .bf16⟩
  | .local _ .vmem, ⟨4, _⟩ => ⟨S5120x128, .i32⟩
  | .local _ .vmem, ⟨5, _⟩ => ⟨S128x128, .i32⟩
  | .local _ .smem, ⟨0, _⟩ => ⟨S5120, .i32⟩
  | .local _ .smem, ⟨1, _⟩ => ⟨S5120, .i32⟩
  | _, _ => ⟨S24x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩
abbrev main_c : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![24], ![false]⟩

abbrev pre0 : Pipeline.Prefetch sig := ⟨2, ![main_arg1.idx, main_c.idx], fun | 0 => main_arg1.names | 1 => main_c.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c40_i32 : BitVec 32 := 40#32
  let v0 : BitVec 32 := Scalar.addi c0_i32 c40_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v2 : BitVec 32 := Scalar.muli arg7 c128_i32
  v2
def k0_off1 (k0_t1 : Fin k0_t1_loop.trips) : Fin 2 → Nat :=
  let c0 : Index := 0#32
  let c0_i32 : BitVec 32 := 0#32
  let c1_i32 : BitVec 32 := 1#32
  let arg7 : BitVec 32 := Scf.iv c0_i32 c1_i32 k0_t1
  let c128_i32 : BitVec 32 := 128#32
  let v2 : BitVec 32 := Scalar.muli arg7 c128_i32
  let v3 : BitVec 32 := v2
  let v4 : Index := Scalar.indexCast v3
  ![0, v4.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v2 : BitVec 32 := Scalar.muli arg7 c128_i32
  let v3 : BitVec 32 := v2
  let v9 : Index := Scalar.indexCast v3
  let c0_5 : Index := 0#32
  ![v9.toNat, 0]
@[reducible] def k0_t2_loop : Scf.Loop 32 :=
  let c0_i32_1 : BitVec 32 := 0#32
  let c40_i32_2 : BitVec 32 := 40#32
  let v1 : BitVec 32 := Scalar.addi c0_i32_1 c40_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  v2
def k0_off3 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c0_i32_5 : BitVec 32 := 0#32
  let v4 : BitVec 32 := Scalar.addi v3 c0_i32_5
  let v5 : Index := Scalar.indexCast v4
  ![v5.toNat]
def k0_off4 (v6 : BitVec 32) : Fin 1 → Nat :=
  let v7 : Index := Scalar.indexCast v6
  ![v7.toNat]

def k0_chk1 (v6 : BitVec 32) : Prop :=
  (∀ a, (k0_off4 v6) a + S1.size a ≤ S5120.size a)
theorem k0_off4_inb : ∀ (v6 : BitVec 32) (k0_hw1 : k0_chk1 v6), ∀ a, (k0_off4 v6) a + S1.size a ≤ S5120.size a := fun v6 k0_hw1 => k0_hw1

def k0_off5 (v8 : BitVec 32) : Fin 2 → Nat :=
  let v9 : Index := Scalar.indexCast v8
  let c0 : Index := 0#32
  ![v9.toNat, 0]

def k0_chk2 (v8 : BitVec 32) : Prop :=
  (∀ a, (k0_off5 v8) a + S1x128.size a ≤ S5120x128.size a)
theorem k0_off5_inb : ∀ (v8 : BitVec 32) (k0_hw2 : k0_chk2 v8), ∀ a, (k0_off5 v8) a + S1x128.size a ≤ S5120x128.size a := fun v8 k0_hw2 => k0_hw2

def k0_off6 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c1_i32_8 : BitVec 32 := 1#32
  let v14 : BitVec 32 := Scalar.addi v3 c1_i32_8
  let v15 : Index := Scalar.indexCast v14
  ![v15.toNat]
def k0_off7 (v16 : BitVec 32) : Fin 1 → Nat :=
  let v17 : Index := Scalar.indexCast v16
  ![v17.toNat]

def k0_chk3 (v16 : BitVec 32) : Prop :=
  (∀ a, (k0_off7 v16) a + S1.size a ≤ S5120.size a)
theorem k0_off7_inb : ∀ (v16 : BitVec 32) (k0_hw3 : k0_chk3 v16), ∀ a, (k0_off7 v16) a + S1.size a ≤ S5120.size a := fun v16 k0_hw3 => k0_hw3

def k0_off8 (v18 : BitVec 32) : Fin 2 → Nat :=
  let v19 : Index := Scalar.indexCast v18
  let c0_9 : Index := 0#32
  ![v19.toNat, 0]

def k0_chk4 (v18 : BitVec 32) : Prop :=
  (∀ a, (k0_off8 v18) a + S1x128.size a ≤ S5120x128.size a)
theorem k0_off8_inb : ∀ (v18 : BitVec 32) (k0_hw4 : k0_chk4 v18), ∀ a, (k0_off8 v18) a + S1x128.size a ≤ S5120x128.size a := fun v18 k0_hw4 => k0_hw4

def k0_off9 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c2_i32 : BitVec 32 := 2#32
  let v24 : BitVec 32 := Scalar.addi v3 c2_i32
  let v25 : Index := Scalar.indexCast v24
  ![v25.toNat]
def k0_off10 (v26 : BitVec 32) : Fin 1 → Nat :=
  let v27 : Index := Scalar.indexCast v26
  ![v27.toNat]

def k0_chk5 (v26 : BitVec 32) : Prop :=
  (∀ a, (k0_off10 v26) a + S1.size a ≤ S5120.size a)
theorem k0_off10_inb : ∀ (v26 : BitVec 32) (k0_hw5 : k0_chk5 v26), ∀ a, (k0_off10 v26) a + S1.size a ≤ S5120.size a := fun v26 k0_hw5 => k0_hw5

def k0_off11 (v28 : BitVec 32) : Fin 2 → Nat :=
  let v29 : Index := Scalar.indexCast v28
  let c0_11 : Index := 0#32
  ![v29.toNat, 0]

def k0_chk6 (v28 : BitVec 32) : Prop :=
  (∀ a, (k0_off11 v28) a + S1x128.size a ≤ S5120x128.size a)
theorem k0_off11_inb : ∀ (v28 : BitVec 32) (k0_hw6 : k0_chk6 v28), ∀ a, (k0_off11 v28) a + S1x128.size a ≤ S5120x128.size a := fun v28 k0_hw6 => k0_hw6

def k0_off12 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c3_i32 : BitVec 32 := 3#32
  let v34 : BitVec 32 := Scalar.addi v3 c3_i32
  let v35 : Index := Scalar.indexCast v34
  ![v35.toNat]
def k0_off13 (v36 : BitVec 32) : Fin 1 → Nat :=
  let v37 : Index := Scalar.indexCast v36
  ![v37.toNat]

def k0_chk7 (v36 : BitVec 32) : Prop :=
  (∀ a, (k0_off13 v36) a + S1.size a ≤ S5120.size a)
theorem k0_off13_inb : ∀ (v36 : BitVec 32) (k0_hw7 : k0_chk7 v36), ∀ a, (k0_off13 v36) a + S1.size a ≤ S5120.size a := fun v36 k0_hw7 => k0_hw7

def k0_off14 (v38 : BitVec 32) : Fin 2 → Nat :=
  let v39 : Index := Scalar.indexCast v38
  let c0_13 : Index := 0#32
  ![v39.toNat, 0]

def k0_chk8 (v38 : BitVec 32) : Prop :=
  (∀ a, (k0_off14 v38) a + S1x128.size a ≤ S5120x128.size a)
theorem k0_off14_inb : ∀ (v38 : BitVec 32) (k0_hw8 : k0_chk8 v38), ∀ a, (k0_off14 v38) a + S1x128.size a ≤ S5120x128.size a := fun v38 k0_hw8 => k0_hw8

def k0_off15 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c4_i32 : BitVec 32 := 4#32
  let v44 : BitVec 32 := Scalar.addi v3 c4_i32
  let v45 : Index := Scalar.indexCast v44
  ![v45.toNat]
def k0_off16 (v46 : BitVec 32) : Fin 1 → Nat :=
  let v47 : Index := Scalar.indexCast v46
  ![v47.toNat]

def k0_chk9 (v46 : BitVec 32) : Prop :=
  (∀ a, (k0_off16 v46) a + S1.size a ≤ S5120.size a)
theorem k0_off16_inb : ∀ (v46 : BitVec 32) (k0_hw9 : k0_chk9 v46), ∀ a, (k0_off16 v46) a + S1.size a ≤ S5120.size a := fun v46 k0_hw9 => k0_hw9

def k0_off17 (v48 : BitVec 32) : Fin 2 → Nat :=
  let v49 : Index := Scalar.indexCast v48
  let c0_15 : Index := 0#32
  ![v49.toNat, 0]

def k0_chk10 (v48 : BitVec 32) : Prop :=
  (∀ a, (k0_off17 v48) a + S1x128.size a ≤ S5120x128.size a)
theorem k0_off17_inb : ∀ (v48 : BitVec 32) (k0_hw10 : k0_chk10 v48), ∀ a, (k0_off17 v48) a + S1x128.size a ≤ S5120x128.size a := fun v48 k0_hw10 => k0_hw10

def k0_off18 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c5_i32 : BitVec 32 := 5#32
  let v54 : BitVec 32 := Scalar.addi v3 c5_i32
  let v55 : Index := Scalar.indexCast v54
  ![v55.toNat]
def k0_off19 (v56 : BitVec 32) : Fin 1 → Nat :=
  let v57 : Index := Scalar.indexCast v56
  ![v57.toNat]

def k0_chk11 (v56 : BitVec 32) : Prop :=
  (∀ a, (k0_off19 v56) a + S1.size a ≤ S5120.size a)
theorem k0_off19_inb : ∀ (v56 : BitVec 32) (k0_hw11 : k0_chk11 v56), ∀ a, (k0_off19 v56) a + S1.size a ≤ S5120.size a := fun v56 k0_hw11 => k0_hw11

def k0_off20 (v58 : BitVec 32) : Fin 2 → Nat :=
  let v59 : Index := Scalar.indexCast v58
  let c0_17 : Index := 0#32
  ![v59.toNat, 0]

def k0_chk12 (v58 : BitVec 32) : Prop :=
  (∀ a, (k0_off20 v58) a + S1x128.size a ≤ S5120x128.size a)
theorem k0_off20_inb : ∀ (v58 : BitVec 32) (k0_hw12 : k0_chk12 v58), ∀ a, (k0_off20 v58) a + S1x128.size a ≤ S5120x128.size a := fun v58 k0_hw12 => k0_hw12

def k0_off21 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c6_i32 : BitVec 32 := 6#32
  let v64 : BitVec 32 := Scalar.addi v3 c6_i32
  let v65 : Index := Scalar.indexCast v64
  ![v65.toNat]
def k0_off22 (v66 : BitVec 32) : Fin 1 → Nat :=
  let v67 : Index := Scalar.indexCast v66
  ![v67.toNat]

def k0_chk13 (v66 : BitVec 32) : Prop :=
  (∀ a, (k0_off22 v66) a + S1.size a ≤ S5120.size a)
theorem k0_off22_inb : ∀ (v66 : BitVec 32) (k0_hw13 : k0_chk13 v66), ∀ a, (k0_off22 v66) a + S1.size a ≤ S5120.size a := fun v66 k0_hw13 => k0_hw13

def k0_off23 (v68 : BitVec 32) : Fin 2 → Nat :=
  let v69 : Index := Scalar.indexCast v68
  let c0_19 : Index := 0#32
  ![v69.toNat, 0]

def k0_chk14 (v68 : BitVec 32) : Prop :=
  (∀ a, (k0_off23 v68) a + S1x128.size a ≤ S5120x128.size a)
theorem k0_off23_inb : ∀ (v68 : BitVec 32) (k0_hw14 : k0_chk14 v68), ∀ a, (k0_off23 v68) a + S1x128.size a ≤ S5120x128.size a := fun v68 k0_hw14 => k0_hw14

def k0_off24 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c7_i32 : BitVec 32 := 7#32
  let v74 : BitVec 32 := Scalar.addi v3 c7_i32
  let v75 : Index := Scalar.indexCast v74
  ![v75.toNat]
def k0_off25 (v76 : BitVec 32) : Fin 1 → Nat :=
  let v77 : Index := Scalar.indexCast v76
  ![v77.toNat]

def k0_chk15 (v76 : BitVec 32) : Prop :=
  (∀ a, (k0_off25 v76) a + S1.size a ≤ S5120.size a)
theorem k0_off25_inb : ∀ (v76 : BitVec 32) (k0_hw15 : k0_chk15 v76), ∀ a, (k0_off25 v76) a + S1.size a ≤ S5120.size a := fun v76 k0_hw15 => k0_hw15

def k0_off26 (v78 : BitVec 32) : Fin 2 → Nat :=
  let v79 : Index := Scalar.indexCast v78
  let c0_21 : Index := 0#32
  ![v79.toNat, 0]

def k0_chk16 (v78 : BitVec 32) : Prop :=
  (∀ a, (k0_off26 v78) a + S1x128.size a ≤ S5120x128.size a)
theorem k0_off26_inb : ∀ (v78 : BitVec 32) (k0_hw16 : k0_chk16 v78), ∀ a, (k0_off26 v78) a + S1x128.size a ≤ S5120x128.size a := fun v78 k0_hw16 => k0_hw16

def k0_off27 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c8_i32 : BitVec 32 := 8#32
  let v84 : BitVec 32 := Scalar.addi v3 c8_i32
  let v85 : Index := Scalar.indexCast v84
  ![v85.toNat]
def k0_off28 (v86 : BitVec 32) : Fin 1 → Nat :=
  let v87 : Index := Scalar.indexCast v86
  ![v87.toNat]

def k0_chk17 (v86 : BitVec 32) : Prop :=
  (∀ a, (k0_off28 v86) a + S1.size a ≤ S5120.size a)
theorem k0_off28_inb : ∀ (v86 : BitVec 32) (k0_hw17 : k0_chk17 v86), ∀ a, (k0_off28 v86) a + S1.size a ≤ S5120.size a := fun v86 k0_hw17 => k0_hw17

def k0_off29 (v88 : BitVec 32) : Fin 2 → Nat :=
  let v89 : Index := Scalar.indexCast v88
  let c0_23 : Index := 0#32
  ![v89.toNat, 0]

def k0_chk18 (v88 : BitVec 32) : Prop :=
  (∀ a, (k0_off29 v88) a + S1x128.size a ≤ S5120x128.size a)
theorem k0_off29_inb : ∀ (v88 : BitVec 32) (k0_hw18 : k0_chk18 v88), ∀ a, (k0_off29 v88) a + S1x128.size a ≤ S5120x128.size a := fun v88 k0_hw18 => k0_hw18

def k0_off30 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c9_i32 : BitVec 32 := 9#32
  let v94 : BitVec 32 := Scalar.addi v3 c9_i32
  let v95 : Index := Scalar.indexCast v94
  ![v95.toNat]
def k0_off31 (v96 : BitVec 32) : Fin 1 → Nat :=
  let v97 : Index := Scalar.indexCast v96
  ![v97.toNat]

def k0_chk19 (v96 : BitVec 32) : Prop :=
  (∀ a, (k0_off31 v96) a + S1.size a ≤ S5120.size a)
theorem k0_off31_inb : ∀ (v96 : BitVec 32) (k0_hw19 : k0_chk19 v96), ∀ a, (k0_off31 v96) a + S1.size a ≤ S5120.size a := fun v96 k0_hw19 => k0_hw19

def k0_off32 (v98 : BitVec 32) : Fin 2 → Nat :=
  let v99 : Index := Scalar.indexCast v98
  let c0_25 : Index := 0#32
  ![v99.toNat, 0]

def k0_chk20 (v98 : BitVec 32) : Prop :=
  (∀ a, (k0_off32 v98) a + S1x128.size a ≤ S5120x128.size a)
theorem k0_off32_inb : ∀ (v98 : BitVec 32) (k0_hw20 : k0_chk20 v98), ∀ a, (k0_off32 v98) a + S1x128.size a ≤ S5120x128.size a := fun v98 k0_hw20 => k0_hw20

def k0_off33 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c10_i32 : BitVec 32 := 10#32
  let v104 : BitVec 32 := Scalar.addi v3 c10_i32
  let v105 : Index := Scalar.indexCast v104
  ![v105.toNat]
def k0_off34 (v106 : BitVec 32) : Fin 1 → Nat :=
  let v107 : Index := Scalar.indexCast v106
  ![v107.toNat]

def k0_chk21 (v106 : BitVec 32) : Prop :=
  (∀ a, (k0_off34 v106) a + S1.size a ≤ S5120.size a)
theorem k0_off34_inb : ∀ (v106 : BitVec 32) (k0_hw21 : k0_chk21 v106), ∀ a, (k0_off34 v106) a + S1.size a ≤ S5120.size a := fun v106 k0_hw21 => k0_hw21

def k0_off35 (v108 : BitVec 32) : Fin 2 → Nat :=
  let v109 : Index := Scalar.indexCast v108
  let c0_27 : Index := 0#32
  ![v109.toNat, 0]

def k0_chk22 (v108 : BitVec 32) : Prop :=
  (∀ a, (k0_off35 v108) a + S1x128.size a ≤ S5120x128.size a)
theorem k0_off35_inb : ∀ (v108 : BitVec 32) (k0_hw22 : k0_chk22 v108), ∀ a, (k0_off35 v108) a + S1x128.size a ≤ S5120x128.size a := fun v108 k0_hw22 => k0_hw22

def k0_off36 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c11_i32 : BitVec 32 := 11#32
  let v114 : BitVec 32 := Scalar.addi v3 c11_i32
  let v115 : Index := Scalar.indexCast v114
  ![v115.toNat]
def k0_off37 (v116 : BitVec 32) : Fin 1 → Nat :=
  let v117 : Index := Scalar.indexCast v116
  ![v117.toNat]

def k0_chk23 (v116 : BitVec 32) : Prop :=
  (∀ a, (k0_off37 v116) a + S1.size a ≤ S5120.size a)
theorem k0_off37_inb : ∀ (v116 : BitVec 32) (k0_hw23 : k0_chk23 v116), ∀ a, (k0_off37 v116) a + S1.size a ≤ S5120.size a := fun v116 k0_hw23 => k0_hw23

def k0_off38 (v118 : BitVec 32) : Fin 2 → Nat :=
  let v119 : Index := Scalar.indexCast v118
  let c0_29 : Index := 0#32
  ![v119.toNat, 0]

def k0_chk24 (v118 : BitVec 32) : Prop :=
  (∀ a, (k0_off38 v118) a + S1x128.size a ≤ S5120x128.size a)
theorem k0_off38_inb : ∀ (v118 : BitVec 32) (k0_hw24 : k0_chk24 v118), ∀ a, (k0_off38 v118) a + S1x128.size a ≤ S5120x128.size a := fun v118 k0_hw24 => k0_hw24

def k0_off39 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c12_i32 : BitVec 32 := 12#32
  let v124 : BitVec 32 := Scalar.addi v3 c12_i32
  let v125 : Index := Scalar.indexCast v124
  ![v125.toNat]
def k0_off40 (v126 : BitVec 32) : Fin 1 → Nat :=
  let v127 : Index := Scalar.indexCast v126
  ![v127.toNat]

def k0_chk25 (v126 : BitVec 32) : Prop :=
  (∀ a, (k0_off40 v126) a + S1.size a ≤ S5120.size a)
theorem k0_off40_inb : ∀ (v126 : BitVec 32) (k0_hw25 : k0_chk25 v126), ∀ a, (k0_off40 v126) a + S1.size a ≤ S5120.size a := fun v126 k0_hw25 => k0_hw25

def k0_off41 (v128 : BitVec 32) : Fin 2 → Nat :=
  let v129 : Index := Scalar.indexCast v128
  let c0_31 : Index := 0#32
  ![v129.toNat, 0]

def k0_chk26 (v128 : BitVec 32) : Prop :=
  (∀ a, (k0_off41 v128) a + S1x128.size a ≤ S5120x128.size a)
theorem k0_off41_inb : ∀ (v128 : BitVec 32) (k0_hw26 : k0_chk26 v128), ∀ a, (k0_off41 v128) a + S1x128.size a ≤ S5120x128.size a := fun v128 k0_hw26 => k0_hw26

def k0_off42 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c13_i32 : BitVec 32 := 13#32
  let v134 : BitVec 32 := Scalar.addi v3 c13_i32
  let v135 : Index := Scalar.indexCast v134
  ![v135.toNat]
def k0_off43 (v136 : BitVec 32) : Fin 1 → Nat :=
  let v137 : Index := Scalar.indexCast v136
  ![v137.toNat]

def k0_chk27 (v136 : BitVec 32) : Prop :=
  (∀ a, (k0_off43 v136) a + S1.size a ≤ S5120.size a)
theorem k0_off43_inb : ∀ (v136 : BitVec 32) (k0_hw27 : k0_chk27 v136), ∀ a, (k0_off43 v136) a + S1.size a ≤ S5120.size a := fun v136 k0_hw27 => k0_hw27

def k0_off44 (v138 : BitVec 32) : Fin 2 → Nat :=
  let v139 : Index := Scalar.indexCast v138
  let c0_33 : Index := 0#32
  ![v139.toNat, 0]

def k0_chk28 (v138 : BitVec 32) : Prop :=
  (∀ a, (k0_off44 v138) a + S1x128.size a ≤ S5120x128.size a)
theorem k0_off44_inb : ∀ (v138 : BitVec 32) (k0_hw28 : k0_chk28 v138), ∀ a, (k0_off44 v138) a + S1x128.size a ≤ S5120x128.size a := fun v138 k0_hw28 => k0_hw28

def k0_off45 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c14_i32 : BitVec 32 := 14#32
  let v144 : BitVec 32 := Scalar.addi v3 c14_i32
  let v145 : Index := Scalar.indexCast v144
  ![v145.toNat]
def k0_off46 (v146 : BitVec 32) : Fin 1 → Nat :=
  let v147 : Index := Scalar.indexCast v146
  ![v147.toNat]

def k0_chk29 (v146 : BitVec 32) : Prop :=
  (∀ a, (k0_off46 v146) a + S1.size a ≤ S5120.size a)
theorem k0_off46_inb : ∀ (v146 : BitVec 32) (k0_hw29 : k0_chk29 v146), ∀ a, (k0_off46 v146) a + S1.size a ≤ S5120.size a := fun v146 k0_hw29 => k0_hw29

def k0_off47 (v148 : BitVec 32) : Fin 2 → Nat :=
  let v149 : Index := Scalar.indexCast v148
  let c0_35 : Index := 0#32
  ![v149.toNat, 0]

def k0_chk30 (v148 : BitVec 32) : Prop :=
  (∀ a, (k0_off47 v148) a + S1x128.size a ≤ S5120x128.size a)
theorem k0_off47_inb : ∀ (v148 : BitVec 32) (k0_hw30 : k0_chk30 v148), ∀ a, (k0_off47 v148) a + S1x128.size a ≤ S5120x128.size a := fun v148 k0_hw30 => k0_hw30

def k0_off48 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c15_i32 : BitVec 32 := 15#32
  let v154 : BitVec 32 := Scalar.addi v3 c15_i32
  let v155 : Index := Scalar.indexCast v154
  ![v155.toNat]
def k0_off49 (v156 : BitVec 32) : Fin 1 → Nat :=
  let v157 : Index := Scalar.indexCast v156
  ![v157.toNat]

def k0_chk31 (v156 : BitVec 32) : Prop :=
  (∀ a, (k0_off49 v156) a + S1.size a ≤ S5120.size a)
theorem k0_off49_inb : ∀ (v156 : BitVec 32) (k0_hw31 : k0_chk31 v156), ∀ a, (k0_off49 v156) a + S1.size a ≤ S5120.size a := fun v156 k0_hw31 => k0_hw31

def k0_off50 (v158 : BitVec 32) : Fin 2 → Nat :=
  let v159 : Index := Scalar.indexCast v158
  let c0_37 : Index := 0#32
  ![v159.toNat, 0]

def k0_chk32 (v158 : BitVec 32) : Prop :=
  (∀ a, (k0_off50 v158) a + S1x128.size a ≤ S5120x128.size a)
theorem k0_off50_inb : ∀ (v158 : BitVec 32) (k0_hw32 : k0_chk32 v158), ∀ a, (k0_off50 v158) a + S1x128.size a ≤ S5120x128.size a := fun v158 k0_hw32 => k0_hw32

def k0_off51 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c16_i32 : BitVec 32 := 16#32
  let v164 : BitVec 32 := Scalar.addi v3 c16_i32
  let v165 : Index := Scalar.indexCast v164
  ![v165.toNat]
def k0_off52 (v166 : BitVec 32) : Fin 1 → Nat :=
  let v167 : Index := Scalar.indexCast v166
  ![v167.toNat]

def k0_chk33 (v166 : BitVec 32) : Prop :=
  (∀ a, (k0_off52 v166) a + S1.size a ≤ S5120.size a)
theorem k0_off52_inb : ∀ (v166 : BitVec 32) (k0_hw33 : k0_chk33 v166), ∀ a, (k0_off52 v166) a + S1.size a ≤ S5120.size a := fun v166 k0_hw33 => k0_hw33

def k0_off53 (v168 : BitVec 32) : Fin 2 → Nat :=
  let v169 : Index := Scalar.indexCast v168
  let c0_39 : Index := 0#32
  ![v169.toNat, 0]

def k0_chk34 (v168 : BitVec 32) : Prop :=
  (∀ a, (k0_off53 v168) a + S1x128.size a ≤ S5120x128.size a)
theorem k0_off53_inb : ∀ (v168 : BitVec 32) (k0_hw34 : k0_chk34 v168), ∀ a, (k0_off53 v168) a + S1x128.size a ≤ S5120x128.size a := fun v168 k0_hw34 => k0_hw34

def k0_off54 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c17_i32 : BitVec 32 := 17#32
  let v174 : BitVec 32 := Scalar.addi v3 c17_i32
  let v175 : Index := Scalar.indexCast v174
  ![v175.toNat]
def k0_off55 (v176 : BitVec 32) : Fin 1 → Nat :=
  let v177 : Index := Scalar.indexCast v176
  ![v177.toNat]

def k0_chk35 (v176 : BitVec 32) : Prop :=
  (∀ a, (k0_off55 v176) a + S1.size a ≤ S5120.size a)
theorem k0_off55_inb : ∀ (v176 : BitVec 32) (k0_hw35 : k0_chk35 v176), ∀ a, (k0_off55 v176) a + S1.size a ≤ S5120.size a := fun v176 k0_hw35 => k0_hw35

def k0_off56 (v178 : BitVec 32) : Fin 2 → Nat :=
  let v179 : Index := Scalar.indexCast v178
  let c0_41 : Index := 0#32
  ![v179.toNat, 0]

def k0_chk36 (v178 : BitVec 32) : Prop :=
  (∀ a, (k0_off56 v178) a + S1x128.size a ≤ S5120x128.size a)
theorem k0_off56_inb : ∀ (v178 : BitVec 32) (k0_hw36 : k0_chk36 v178), ∀ a, (k0_off56 v178) a + S1x128.size a ≤ S5120x128.size a := fun v178 k0_hw36 => k0_hw36

def k0_off57 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c18_i32 : BitVec 32 := 18#32
  let v184 : BitVec 32 := Scalar.addi v3 c18_i32
  let v185 : Index := Scalar.indexCast v184
  ![v185.toNat]
def k0_off58 (v186 : BitVec 32) : Fin 1 → Nat :=
  let v187 : Index := Scalar.indexCast v186
  ![v187.toNat]

def k0_chk37 (v186 : BitVec 32) : Prop :=
  (∀ a, (k0_off58 v186) a + S1.size a ≤ S5120.size a)
theorem k0_off58_inb : ∀ (v186 : BitVec 32) (k0_hw37 : k0_chk37 v186), ∀ a, (k0_off58 v186) a + S1.size a ≤ S5120.size a := fun v186 k0_hw37 => k0_hw37

def k0_off59 (v188 : BitVec 32) : Fin 2 → Nat :=
  let v189 : Index := Scalar.indexCast v188
  let c0_43 : Index := 0#32
  ![v189.toNat, 0]

def k0_chk38 (v188 : BitVec 32) : Prop :=
  (∀ a, (k0_off59 v188) a + S1x128.size a ≤ S5120x128.size a)
theorem k0_off59_inb : ∀ (v188 : BitVec 32) (k0_hw38 : k0_chk38 v188), ∀ a, (k0_off59 v188) a + S1x128.size a ≤ S5120x128.size a := fun v188 k0_hw38 => k0_hw38

def k0_off60 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c19_i32 : BitVec 32 := 19#32
  let v194 : BitVec 32 := Scalar.addi v3 c19_i32
  let v195 : Index := Scalar.indexCast v194
  ![v195.toNat]
def k0_off61 (v196 : BitVec 32) : Fin 1 → Nat :=
  let v197 : Index := Scalar.indexCast v196
  ![v197.toNat]

def k0_chk39 (v196 : BitVec 32) : Prop :=
  (∀ a, (k0_off61 v196) a + S1.size a ≤ S5120.size a)
theorem k0_off61_inb : ∀ (v196 : BitVec 32) (k0_hw39 : k0_chk39 v196), ∀ a, (k0_off61 v196) a + S1.size a ≤ S5120.size a := fun v196 k0_hw39 => k0_hw39

def k0_off62 (v198 : BitVec 32) : Fin 2 → Nat :=
  let v199 : Index := Scalar.indexCast v198
  let c0_45 : Index := 0#32
  ![v199.toNat, 0]

def k0_chk40 (v198 : BitVec 32) : Prop :=
  (∀ a, (k0_off62 v198) a + S1x128.size a ≤ S5120x128.size a)
theorem k0_off62_inb : ∀ (v198 : BitVec 32) (k0_hw40 : k0_chk40 v198), ∀ a, (k0_off62 v198) a + S1x128.size a ≤ S5120x128.size a := fun v198 k0_hw40 => k0_hw40

def k0_off63 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c20_i32 : BitVec 32 := 20#32
  let v204 : BitVec 32 := Scalar.addi v3 c20_i32
  let v205 : Index := Scalar.indexCast v204
  ![v205.toNat]
def k0_off64 (v206 : BitVec 32) : Fin 1 → Nat :=
  let v207 : Index := Scalar.indexCast v206
  ![v207.toNat]

def k0_chk41 (v206 : BitVec 32) : Prop :=
  (∀ a, (k0_off64 v206) a + S1.size a ≤ S5120.size a)
theorem k0_off64_inb : ∀ (v206 : BitVec 32) (k0_hw41 : k0_chk41 v206), ∀ a, (k0_off64 v206) a + S1.size a ≤ S5120.size a := fun v206 k0_hw41 => k0_hw41

def k0_off65 (v208 : BitVec 32) : Fin 2 → Nat :=
  let v209 : Index := Scalar.indexCast v208
  let c0_47 : Index := 0#32
  ![v209.toNat, 0]

def k0_chk42 (v208 : BitVec 32) : Prop :=
  (∀ a, (k0_off65 v208) a + S1x128.size a ≤ S5120x128.size a)
theorem k0_off65_inb : ∀ (v208 : BitVec 32) (k0_hw42 : k0_chk42 v208), ∀ a, (k0_off65 v208) a + S1x128.size a ≤ S5120x128.size a := fun v208 k0_hw42 => k0_hw42

def k0_off66 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c21_i32 : BitVec 32 := 21#32
  let v214 : BitVec 32 := Scalar.addi v3 c21_i32
  let v215 : Index := Scalar.indexCast v214
  ![v215.toNat]
def k0_off67 (v216 : BitVec 32) : Fin 1 → Nat :=
  let v217 : Index := Scalar.indexCast v216
  ![v217.toNat]

def k0_chk43 (v216 : BitVec 32) : Prop :=
  (∀ a, (k0_off67 v216) a + S1.size a ≤ S5120.size a)
theorem k0_off67_inb : ∀ (v216 : BitVec 32) (k0_hw43 : k0_chk43 v216), ∀ a, (k0_off67 v216) a + S1.size a ≤ S5120.size a := fun v216 k0_hw43 => k0_hw43

def k0_off68 (v218 : BitVec 32) : Fin 2 → Nat :=
  let v219 : Index := Scalar.indexCast v218
  let c0_49 : Index := 0#32
  ![v219.toNat, 0]

def k0_chk44 (v218 : BitVec 32) : Prop :=
  (∀ a, (k0_off68 v218) a + S1x128.size a ≤ S5120x128.size a)
theorem k0_off68_inb : ∀ (v218 : BitVec 32) (k0_hw44 : k0_chk44 v218), ∀ a, (k0_off68 v218) a + S1x128.size a ≤ S5120x128.size a := fun v218 k0_hw44 => k0_hw44

def k0_off69 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c22_i32 : BitVec 32 := 22#32
  let v224 : BitVec 32 := Scalar.addi v3 c22_i32
  let v225 : Index := Scalar.indexCast v224
  ![v225.toNat]
def k0_off70 (v226 : BitVec 32) : Fin 1 → Nat :=
  let v227 : Index := Scalar.indexCast v226
  ![v227.toNat]

def k0_chk45 (v226 : BitVec 32) : Prop :=
  (∀ a, (k0_off70 v226) a + S1.size a ≤ S5120.size a)
theorem k0_off70_inb : ∀ (v226 : BitVec 32) (k0_hw45 : k0_chk45 v226), ∀ a, (k0_off70 v226) a + S1.size a ≤ S5120.size a := fun v226 k0_hw45 => k0_hw45

def k0_off71 (v228 : BitVec 32) : Fin 2 → Nat :=
  let v229 : Index := Scalar.indexCast v228
  let c0_51 : Index := 0#32
  ![v229.toNat, 0]

def k0_chk46 (v228 : BitVec 32) : Prop :=
  (∀ a, (k0_off71 v228) a + S1x128.size a ≤ S5120x128.size a)
theorem k0_off71_inb : ∀ (v228 : BitVec 32) (k0_hw46 : k0_chk46 v228), ∀ a, (k0_off71 v228) a + S1x128.size a ≤ S5120x128.size a := fun v228 k0_hw46 => k0_hw46

def k0_off72 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c23_i32 : BitVec 32 := 23#32
  let v234 : BitVec 32 := Scalar.addi v3 c23_i32
  let v235 : Index := Scalar.indexCast v234
  ![v235.toNat]
def k0_off73 (v236 : BitVec 32) : Fin 1 → Nat :=
  let v237 : Index := Scalar.indexCast v236
  ![v237.toNat]

def k0_chk47 (v236 : BitVec 32) : Prop :=
  (∀ a, (k0_off73 v236) a + S1.size a ≤ S5120.size a)
theorem k0_off73_inb : ∀ (v236 : BitVec 32) (k0_hw47 : k0_chk47 v236), ∀ a, (k0_off73 v236) a + S1.size a ≤ S5120.size a := fun v236 k0_hw47 => k0_hw47

def k0_off74 (v238 : BitVec 32) : Fin 2 → Nat :=
  let v239 : Index := Scalar.indexCast v238
  let c0_53 : Index := 0#32
  ![v239.toNat, 0]

def k0_chk48 (v238 : BitVec 32) : Prop :=
  (∀ a, (k0_off74 v238) a + S1x128.size a ≤ S5120x128.size a)
theorem k0_off74_inb : ∀ (v238 : BitVec 32) (k0_hw48 : k0_chk48 v238), ∀ a, (k0_off74 v238) a + S1x128.size a ≤ S5120x128.size a := fun v238 k0_hw48 => k0_hw48

def k0_off75 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c24_i32 : BitVec 32 := 24#32
  let v244 : BitVec 32 := Scalar.addi v3 c24_i32
  let v245 : Index := Scalar.indexCast v244
  ![v245.toNat]
def k0_off76 (v246 : BitVec 32) : Fin 1 → Nat :=
  let v247 : Index := Scalar.indexCast v246
  ![v247.toNat]

def k0_chk49 (v246 : BitVec 32) : Prop :=
  (∀ a, (k0_off76 v246) a + S1.size a ≤ S5120.size a)
theorem k0_off76_inb : ∀ (v246 : BitVec 32) (k0_hw49 : k0_chk49 v246), ∀ a, (k0_off76 v246) a + S1.size a ≤ S5120.size a := fun v246 k0_hw49 => k0_hw49

def k0_off77 (v248 : BitVec 32) : Fin 2 → Nat :=
  let v249 : Index := Scalar.indexCast v248
  let c0_55 : Index := 0#32
  ![v249.toNat, 0]

def k0_chk50 (v248 : BitVec 32) : Prop :=
  (∀ a, (k0_off77 v248) a + S1x128.size a ≤ S5120x128.size a)
theorem k0_off77_inb : ∀ (v248 : BitVec 32) (k0_hw50 : k0_chk50 v248), ∀ a, (k0_off77 v248) a + S1x128.size a ≤ S5120x128.size a := fun v248 k0_hw50 => k0_hw50

def k0_off78 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c25_i32 : BitVec 32 := 25#32
  let v254 : BitVec 32 := Scalar.addi v3 c25_i32
  let v255 : Index := Scalar.indexCast v254
  ![v255.toNat]
def k0_off79 (v256 : BitVec 32) : Fin 1 → Nat :=
  let v257 : Index := Scalar.indexCast v256
  ![v257.toNat]

def k0_chk51 (v256 : BitVec 32) : Prop :=
  (∀ a, (k0_off79 v256) a + S1.size a ≤ S5120.size a)
theorem k0_off79_inb : ∀ (v256 : BitVec 32) (k0_hw51 : k0_chk51 v256), ∀ a, (k0_off79 v256) a + S1.size a ≤ S5120.size a := fun v256 k0_hw51 => k0_hw51

def k0_off80 (v258 : BitVec 32) : Fin 2 → Nat :=
  let v259 : Index := Scalar.indexCast v258
  let c0_57 : Index := 0#32
  ![v259.toNat, 0]

def k0_chk52 (v258 : BitVec 32) : Prop :=
  (∀ a, (k0_off80 v258) a + S1x128.size a ≤ S5120x128.size a)
theorem k0_off80_inb : ∀ (v258 : BitVec 32) (k0_hw52 : k0_chk52 v258), ∀ a, (k0_off80 v258) a + S1x128.size a ≤ S5120x128.size a := fun v258 k0_hw52 => k0_hw52

def k0_off81 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c26_i32 : BitVec 32 := 26#32
  let v264 : BitVec 32 := Scalar.addi v3 c26_i32
  let v265 : Index := Scalar.indexCast v264
  ![v265.toNat]
def k0_off82 (v266 : BitVec 32) : Fin 1 → Nat :=
  let v267 : Index := Scalar.indexCast v266
  ![v267.toNat]

def k0_chk53 (v266 : BitVec 32) : Prop :=
  (∀ a, (k0_off82 v266) a + S1.size a ≤ S5120.size a)
theorem k0_off82_inb : ∀ (v266 : BitVec 32) (k0_hw53 : k0_chk53 v266), ∀ a, (k0_off82 v266) a + S1.size a ≤ S5120.size a := fun v266 k0_hw53 => k0_hw53

def k0_off83 (v268 : BitVec 32) : Fin 2 → Nat :=
  let v269 : Index := Scalar.indexCast v268
  let c0_59 : Index := 0#32
  ![v269.toNat, 0]

def k0_chk54 (v268 : BitVec 32) : Prop :=
  (∀ a, (k0_off83 v268) a + S1x128.size a ≤ S5120x128.size a)
theorem k0_off83_inb : ∀ (v268 : BitVec 32) (k0_hw54 : k0_chk54 v268), ∀ a, (k0_off83 v268) a + S1x128.size a ≤ S5120x128.size a := fun v268 k0_hw54 => k0_hw54

def k0_off84 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c27_i32 : BitVec 32 := 27#32
  let v274 : BitVec 32 := Scalar.addi v3 c27_i32
  let v275 : Index := Scalar.indexCast v274
  ![v275.toNat]
def k0_off85 (v276 : BitVec 32) : Fin 1 → Nat :=
  let v277 : Index := Scalar.indexCast v276
  ![v277.toNat]

def k0_chk55 (v276 : BitVec 32) : Prop :=
  (∀ a, (k0_off85 v276) a + S1.size a ≤ S5120.size a)
theorem k0_off85_inb : ∀ (v276 : BitVec 32) (k0_hw55 : k0_chk55 v276), ∀ a, (k0_off85 v276) a + S1.size a ≤ S5120.size a := fun v276 k0_hw55 => k0_hw55

def k0_off86 (v278 : BitVec 32) : Fin 2 → Nat :=
  let v279 : Index := Scalar.indexCast v278
  let c0_61 : Index := 0#32
  ![v279.toNat, 0]

def k0_chk56 (v278 : BitVec 32) : Prop :=
  (∀ a, (k0_off86 v278) a + S1x128.size a ≤ S5120x128.size a)
theorem k0_off86_inb : ∀ (v278 : BitVec 32) (k0_hw56 : k0_chk56 v278), ∀ a, (k0_off86 v278) a + S1x128.size a ≤ S5120x128.size a := fun v278 k0_hw56 => k0_hw56

def k0_off87 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c28_i32 : BitVec 32 := 28#32
  let v284 : BitVec 32 := Scalar.addi v3 c28_i32
  let v285 : Index := Scalar.indexCast v284
  ![v285.toNat]
def k0_off88 (v286 : BitVec 32) : Fin 1 → Nat :=
  let v287 : Index := Scalar.indexCast v286
  ![v287.toNat]

def k0_chk57 (v286 : BitVec 32) : Prop :=
  (∀ a, (k0_off88 v286) a + S1.size a ≤ S5120.size a)
theorem k0_off88_inb : ∀ (v286 : BitVec 32) (k0_hw57 : k0_chk57 v286), ∀ a, (k0_off88 v286) a + S1.size a ≤ S5120.size a := fun v286 k0_hw57 => k0_hw57

def k0_off89 (v288 : BitVec 32) : Fin 2 → Nat :=
  let v289 : Index := Scalar.indexCast v288
  let c0_63 : Index := 0#32
  ![v289.toNat, 0]

def k0_chk58 (v288 : BitVec 32) : Prop :=
  (∀ a, (k0_off89 v288) a + S1x128.size a ≤ S5120x128.size a)
theorem k0_off89_inb : ∀ (v288 : BitVec 32) (k0_hw58 : k0_chk58 v288), ∀ a, (k0_off89 v288) a + S1x128.size a ≤ S5120x128.size a := fun v288 k0_hw58 => k0_hw58

def k0_off90 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c29_i32 : BitVec 32 := 29#32
  let v294 : BitVec 32 := Scalar.addi v3 c29_i32
  let v295 : Index := Scalar.indexCast v294
  ![v295.toNat]
def k0_off91 (v296 : BitVec 32) : Fin 1 → Nat :=
  let v297 : Index := Scalar.indexCast v296
  ![v297.toNat]

def k0_chk59 (v296 : BitVec 32) : Prop :=
  (∀ a, (k0_off91 v296) a + S1.size a ≤ S5120.size a)
theorem k0_off91_inb : ∀ (v296 : BitVec 32) (k0_hw59 : k0_chk59 v296), ∀ a, (k0_off91 v296) a + S1.size a ≤ S5120.size a := fun v296 k0_hw59 => k0_hw59

def k0_off92 (v298 : BitVec 32) : Fin 2 → Nat :=
  let v299 : Index := Scalar.indexCast v298
  let c0_65 : Index := 0#32
  ![v299.toNat, 0]

def k0_chk60 (v298 : BitVec 32) : Prop :=
  (∀ a, (k0_off92 v298) a + S1x128.size a ≤ S5120x128.size a)
theorem k0_off92_inb : ∀ (v298 : BitVec 32) (k0_hw60 : k0_chk60 v298), ∀ a, (k0_off92 v298) a + S1x128.size a ≤ S5120x128.size a := fun v298 k0_hw60 => k0_hw60

def k0_off93 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c30_i32 : BitVec 32 := 30#32
  let v304 : BitVec 32 := Scalar.addi v3 c30_i32
  let v305 : Index := Scalar.indexCast v304
  ![v305.toNat]
def k0_off94 (v306 : BitVec 32) : Fin 1 → Nat :=
  let v307 : Index := Scalar.indexCast v306
  ![v307.toNat]

def k0_chk61 (v306 : BitVec 32) : Prop :=
  (∀ a, (k0_off94 v306) a + S1.size a ≤ S5120.size a)
theorem k0_off94_inb : ∀ (v306 : BitVec 32) (k0_hw61 : k0_chk61 v306), ∀ a, (k0_off94 v306) a + S1.size a ≤ S5120.size a := fun v306 k0_hw61 => k0_hw61

def k0_off95 (v308 : BitVec 32) : Fin 2 → Nat :=
  let v309 : Index := Scalar.indexCast v308
  let c0_67 : Index := 0#32
  ![v309.toNat, 0]

def k0_chk62 (v308 : BitVec 32) : Prop :=
  (∀ a, (k0_off95 v308) a + S1x128.size a ≤ S5120x128.size a)
theorem k0_off95_inb : ∀ (v308 : BitVec 32) (k0_hw62 : k0_chk62 v308), ∀ a, (k0_off95 v308) a + S1x128.size a ≤ S5120x128.size a := fun v308 k0_hw62 => k0_hw62

def k0_off96 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c31_i32 : BitVec 32 := 31#32
  let v314 : BitVec 32 := Scalar.addi v3 c31_i32
  let v315 : Index := Scalar.indexCast v314
  ![v315.toNat]
def k0_off97 (v316 : BitVec 32) : Fin 1 → Nat :=
  let v317 : Index := Scalar.indexCast v316
  ![v317.toNat]

def k0_chk63 (v316 : BitVec 32) : Prop :=
  (∀ a, (k0_off97 v316) a + S1.size a ≤ S5120.size a)
theorem k0_off97_inb : ∀ (v316 : BitVec 32) (k0_hw63 : k0_chk63 v316), ∀ a, (k0_off97 v316) a + S1.size a ≤ S5120.size a := fun v316 k0_hw63 => k0_hw63

def k0_off98 (v318 : BitVec 32) : Fin 2 → Nat :=
  let v319 : Index := Scalar.indexCast v318
  let c0_69 : Index := 0#32
  ![v319.toNat, 0]

def k0_chk64 (v318 : BitVec 32) : Prop :=
  (∀ a, (k0_off98 v318) a + S1x128.size a ≤ S5120x128.size a)
theorem k0_off98_inb : ∀ (v318 : BitVec 32) (k0_hw64 : k0_chk64 v318), ∀ a, (k0_off98 v318) a + S1x128.size a ≤ S5120x128.size a := fun v318 k0_hw64 => k0_hw64

def k0_off99 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c32_i32 : BitVec 32 := 32#32
  let v324 : BitVec 32 := Scalar.addi v3 c32_i32
  let v325 : Index := Scalar.indexCast v324
  ![v325.toNat]
def k0_off100 (v326 : BitVec 32) : Fin 1 → Nat :=
  let v327 : Index := Scalar.indexCast v326
  ![v327.toNat]

def k0_chk65 (v326 : BitVec 32) : Prop :=
  (∀ a, (k0_off100 v326) a + S1.size a ≤ S5120.size a)
theorem k0_off100_inb : ∀ (v326 : BitVec 32) (k0_hw65 : k0_chk65 v326), ∀ a, (k0_off100 v326) a + S1.size a ≤ S5120.size a := fun v326 k0_hw65 => k0_hw65

def k0_off101 (v328 : BitVec 32) : Fin 2 → Nat :=
  let v329 : Index := Scalar.indexCast v328
  let c0_71 : Index := 0#32
  ![v329.toNat, 0]

def k0_chk66 (v328 : BitVec 32) : Prop :=
  (∀ a, (k0_off101 v328) a + S1x128.size a ≤ S5120x128.size a)
theorem k0_off101_inb : ∀ (v328 : BitVec 32) (k0_hw66 : k0_chk66 v328), ∀ a, (k0_off101 v328) a + S1x128.size a ≤ S5120x128.size a := fun v328 k0_hw66 => k0_hw66

def k0_off102 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c33_i32 : BitVec 32 := 33#32
  let v334 : BitVec 32 := Scalar.addi v3 c33_i32
  let v335 : Index := Scalar.indexCast v334
  ![v335.toNat]
def k0_off103 (v336 : BitVec 32) : Fin 1 → Nat :=
  let v337 : Index := Scalar.indexCast v336
  ![v337.toNat]

def k0_chk67 (v336 : BitVec 32) : Prop :=
  (∀ a, (k0_off103 v336) a + S1.size a ≤ S5120.size a)
theorem k0_off103_inb : ∀ (v336 : BitVec 32) (k0_hw67 : k0_chk67 v336), ∀ a, (k0_off103 v336) a + S1.size a ≤ S5120.size a := fun v336 k0_hw67 => k0_hw67

def k0_off104 (v338 : BitVec 32) : Fin 2 → Nat :=
  let v339 : Index := Scalar.indexCast v338
  let c0_73 : Index := 0#32
  ![v339.toNat, 0]

def k0_chk68 (v338 : BitVec 32) : Prop :=
  (∀ a, (k0_off104 v338) a + S1x128.size a ≤ S5120x128.size a)
theorem k0_off104_inb : ∀ (v338 : BitVec 32) (k0_hw68 : k0_chk68 v338), ∀ a, (k0_off104 v338) a + S1x128.size a ≤ S5120x128.size a := fun v338 k0_hw68 => k0_hw68

def k0_off105 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c34_i32 : BitVec 32 := 34#32
  let v344 : BitVec 32 := Scalar.addi v3 c34_i32
  let v345 : Index := Scalar.indexCast v344
  ![v345.toNat]
def k0_off106 (v346 : BitVec 32) : Fin 1 → Nat :=
  let v347 : Index := Scalar.indexCast v346
  ![v347.toNat]

def k0_chk69 (v346 : BitVec 32) : Prop :=
  (∀ a, (k0_off106 v346) a + S1.size a ≤ S5120.size a)
theorem k0_off106_inb : ∀ (v346 : BitVec 32) (k0_hw69 : k0_chk69 v346), ∀ a, (k0_off106 v346) a + S1.size a ≤ S5120.size a := fun v346 k0_hw69 => k0_hw69

def k0_off107 (v348 : BitVec 32) : Fin 2 → Nat :=
  let v349 : Index := Scalar.indexCast v348
  let c0_75 : Index := 0#32
  ![v349.toNat, 0]

def k0_chk70 (v348 : BitVec 32) : Prop :=
  (∀ a, (k0_off107 v348) a + S1x128.size a ≤ S5120x128.size a)
theorem k0_off107_inb : ∀ (v348 : BitVec 32) (k0_hw70 : k0_chk70 v348), ∀ a, (k0_off107 v348) a + S1x128.size a ≤ S5120x128.size a := fun v348 k0_hw70 => k0_hw70

def k0_off108 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c35_i32 : BitVec 32 := 35#32
  let v354 : BitVec 32 := Scalar.addi v3 c35_i32
  let v355 : Index := Scalar.indexCast v354
  ![v355.toNat]
def k0_off109 (v356 : BitVec 32) : Fin 1 → Nat :=
  let v357 : Index := Scalar.indexCast v356
  ![v357.toNat]

def k0_chk71 (v356 : BitVec 32) : Prop :=
  (∀ a, (k0_off109 v356) a + S1.size a ≤ S5120.size a)
theorem k0_off109_inb : ∀ (v356 : BitVec 32) (k0_hw71 : k0_chk71 v356), ∀ a, (k0_off109 v356) a + S1.size a ≤ S5120.size a := fun v356 k0_hw71 => k0_hw71

def k0_off110 (v358 : BitVec 32) : Fin 2 → Nat :=
  let v359 : Index := Scalar.indexCast v358
  let c0_77 : Index := 0#32
  ![v359.toNat, 0]

def k0_chk72 (v358 : BitVec 32) : Prop :=
  (∀ a, (k0_off110 v358) a + S1x128.size a ≤ S5120x128.size a)
theorem k0_off110_inb : ∀ (v358 : BitVec 32) (k0_hw72 : k0_chk72 v358), ∀ a, (k0_off110 v358) a + S1x128.size a ≤ S5120x128.size a := fun v358 k0_hw72 => k0_hw72

def k0_off111 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c36_i32 : BitVec 32 := 36#32
  let v364 : BitVec 32 := Scalar.addi v3 c36_i32
  let v365 : Index := Scalar.indexCast v364
  ![v365.toNat]
def k0_off112 (v366 : BitVec 32) : Fin 1 → Nat :=
  let v367 : Index := Scalar.indexCast v366
  ![v367.toNat]

def k0_chk73 (v366 : BitVec 32) : Prop :=
  (∀ a, (k0_off112 v366) a + S1.size a ≤ S5120.size a)
theorem k0_off112_inb : ∀ (v366 : BitVec 32) (k0_hw73 : k0_chk73 v366), ∀ a, (k0_off112 v366) a + S1.size a ≤ S5120.size a := fun v366 k0_hw73 => k0_hw73

def k0_off113 (v368 : BitVec 32) : Fin 2 → Nat :=
  let v369 : Index := Scalar.indexCast v368
  let c0_79 : Index := 0#32
  ![v369.toNat, 0]

def k0_chk74 (v368 : BitVec 32) : Prop :=
  (∀ a, (k0_off113 v368) a + S1x128.size a ≤ S5120x128.size a)
theorem k0_off113_inb : ∀ (v368 : BitVec 32) (k0_hw74 : k0_chk74 v368), ∀ a, (k0_off113 v368) a + S1x128.size a ≤ S5120x128.size a := fun v368 k0_hw74 => k0_hw74

def k0_off114 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c37_i32 : BitVec 32 := 37#32
  let v374 : BitVec 32 := Scalar.addi v3 c37_i32
  let v375 : Index := Scalar.indexCast v374
  ![v375.toNat]
def k0_off115 (v376 : BitVec 32) : Fin 1 → Nat :=
  let v377 : Index := Scalar.indexCast v376
  ![v377.toNat]

def k0_chk75 (v376 : BitVec 32) : Prop :=
  (∀ a, (k0_off115 v376) a + S1.size a ≤ S5120.size a)
theorem k0_off115_inb : ∀ (v376 : BitVec 32) (k0_hw75 : k0_chk75 v376), ∀ a, (k0_off115 v376) a + S1.size a ≤ S5120.size a := fun v376 k0_hw75 => k0_hw75

def k0_off116 (v378 : BitVec 32) : Fin 2 → Nat :=
  let v379 : Index := Scalar.indexCast v378
  let c0_81 : Index := 0#32
  ![v379.toNat, 0]

def k0_chk76 (v378 : BitVec 32) : Prop :=
  (∀ a, (k0_off116 v378) a + S1x128.size a ≤ S5120x128.size a)
theorem k0_off116_inb : ∀ (v378 : BitVec 32) (k0_hw76 : k0_chk76 v378), ∀ a, (k0_off116 v378) a + S1x128.size a ≤ S5120x128.size a := fun v378 k0_hw76 => k0_hw76

def k0_off117 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c38_i32 : BitVec 32 := 38#32
  let v384 : BitVec 32 := Scalar.addi v3 c38_i32
  let v385 : Index := Scalar.indexCast v384
  ![v385.toNat]
def k0_off118 (v386 : BitVec 32) : Fin 1 → Nat :=
  let v387 : Index := Scalar.indexCast v386
  ![v387.toNat]

def k0_chk77 (v386 : BitVec 32) : Prop :=
  (∀ a, (k0_off118 v386) a + S1.size a ≤ S5120.size a)
theorem k0_off118_inb : ∀ (v386 : BitVec 32) (k0_hw77 : k0_chk77 v386), ∀ a, (k0_off118 v386) a + S1.size a ≤ S5120.size a := fun v386 k0_hw77 => k0_hw77

def k0_off119 (v388 : BitVec 32) : Fin 2 → Nat :=
  let v389 : Index := Scalar.indexCast v388
  let c0_83 : Index := 0#32
  ![v389.toNat, 0]

def k0_chk78 (v388 : BitVec 32) : Prop :=
  (∀ a, (k0_off119 v388) a + S1x128.size a ≤ S5120x128.size a)
theorem k0_off119_inb : ∀ (v388 : BitVec 32) (k0_hw78 : k0_chk78 v388), ∀ a, (k0_off119 v388) a + S1x128.size a ≤ S5120x128.size a := fun v388 k0_hw78 => k0_hw78

def k0_off120 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c39_i32 : BitVec 32 := 39#32
  let v394 : BitVec 32 := Scalar.addi v3 c39_i32
  let v395 : Index := Scalar.indexCast v394
  ![v395.toNat]
def k0_off121 (v396 : BitVec 32) : Fin 1 → Nat :=
  let v397 : Index := Scalar.indexCast v396
  ![v397.toNat]

def k0_chk79 (v396 : BitVec 32) : Prop :=
  (∀ a, (k0_off121 v396) a + S1.size a ≤ S5120.size a)
theorem k0_off121_inb : ∀ (v396 : BitVec 32) (k0_hw79 : k0_chk79 v396), ∀ a, (k0_off121 v396) a + S1.size a ≤ S5120.size a := fun v396 k0_hw79 => k0_hw79

def k0_off122 (v398 : BitVec 32) : Fin 2 → Nat :=
  let v399 : Index := Scalar.indexCast v398
  let c0_85 : Index := 0#32
  ![v399.toNat, 0]

def k0_chk80 (v398 : BitVec 32) : Prop :=
  (∀ a, (k0_off122 v398) a + S1x128.size a ≤ S5120x128.size a)
theorem k0_off122_inb : ∀ (v398 : BitVec 32) (k0_hw80 : k0_chk80 v398), ∀ a, (k0_off122 v398) a + S1x128.size a ≤ S5120x128.size a := fun v398 k0_hw80 => k0_hw80

def k0_off123 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c40_i32_87 : BitVec 32 := 40#32
  let v404 : BitVec 32 := Scalar.addi v3 c40_i32_87
  let v405 : Index := Scalar.indexCast v404
  ![v405.toNat]
def k0_off124 (v406 : BitVec 32) : Fin 1 → Nat :=
  let v407 : Index := Scalar.indexCast v406
  ![v407.toNat]

def k0_chk81 (v406 : BitVec 32) : Prop :=
  (∀ a, (k0_off124 v406) a + S1.size a ≤ S5120.size a)
theorem k0_off124_inb : ∀ (v406 : BitVec 32) (k0_hw81 : k0_chk81 v406), ∀ a, (k0_off124 v406) a + S1.size a ≤ S5120.size a := fun v406 k0_hw81 => k0_hw81

def k0_off125 (v408 : BitVec 32) : Fin 2 → Nat :=
  let v409 : Index := Scalar.indexCast v408
  let c0_88 : Index := 0#32
  ![v409.toNat, 0]

def k0_chk82 (v408 : BitVec 32) : Prop :=
  (∀ a, (k0_off125 v408) a + S1x128.size a ≤ S5120x128.size a)
theorem k0_off125_inb : ∀ (v408 : BitVec 32) (k0_hw82 : k0_chk82 v408), ∀ a, (k0_off125 v408) a + S1x128.size a ≤ S5120x128.size a := fun v408 k0_hw82 => k0_hw82

def k0_off126 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c41_i32 : BitVec 32 := 41#32
  let v414 : BitVec 32 := Scalar.addi v3 c41_i32
  let v415 : Index := Scalar.indexCast v414
  ![v415.toNat]
def k0_off127 (v416 : BitVec 32) : Fin 1 → Nat :=
  let v417 : Index := Scalar.indexCast v416
  ![v417.toNat]

def k0_chk83 (v416 : BitVec 32) : Prop :=
  (∀ a, (k0_off127 v416) a + S1.size a ≤ S5120.size a)
theorem k0_off127_inb : ∀ (v416 : BitVec 32) (k0_hw83 : k0_chk83 v416), ∀ a, (k0_off127 v416) a + S1.size a ≤ S5120.size a := fun v416 k0_hw83 => k0_hw83

def k0_off128 (v418 : BitVec 32) : Fin 2 → Nat :=
  let v419 : Index := Scalar.indexCast v418
  let c0_90 : Index := 0#32
  ![v419.toNat, 0]

def k0_chk84 (v418 : BitVec 32) : Prop :=
  (∀ a, (k0_off128 v418) a + S1x128.size a ≤ S5120x128.size a)
theorem k0_off128_inb : ∀ (v418 : BitVec 32) (k0_hw84 : k0_chk84 v418), ∀ a, (k0_off128 v418) a + S1x128.size a ≤ S5120x128.size a := fun v418 k0_hw84 => k0_hw84

def k0_off129 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c42_i32 : BitVec 32 := 42#32
  let v424 : BitVec 32 := Scalar.addi v3 c42_i32
  let v425 : Index := Scalar.indexCast v424
  ![v425.toNat]
def k0_off130 (v426 : BitVec 32) : Fin 1 → Nat :=
  let v427 : Index := Scalar.indexCast v426
  ![v427.toNat]

def k0_chk85 (v426 : BitVec 32) : Prop :=
  (∀ a, (k0_off130 v426) a + S1.size a ≤ S5120.size a)
theorem k0_off130_inb : ∀ (v426 : BitVec 32) (k0_hw85 : k0_chk85 v426), ∀ a, (k0_off130 v426) a + S1.size a ≤ S5120.size a := fun v426 k0_hw85 => k0_hw85

def k0_off131 (v428 : BitVec 32) : Fin 2 → Nat :=
  let v429 : Index := Scalar.indexCast v428
  let c0_92 : Index := 0#32
  ![v429.toNat, 0]

def k0_chk86 (v428 : BitVec 32) : Prop :=
  (∀ a, (k0_off131 v428) a + S1x128.size a ≤ S5120x128.size a)
theorem k0_off131_inb : ∀ (v428 : BitVec 32) (k0_hw86 : k0_chk86 v428), ∀ a, (k0_off131 v428) a + S1x128.size a ≤ S5120x128.size a := fun v428 k0_hw86 => k0_hw86

def k0_off132 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c43_i32 : BitVec 32 := 43#32
  let v434 : BitVec 32 := Scalar.addi v3 c43_i32
  let v435 : Index := Scalar.indexCast v434
  ![v435.toNat]
def k0_off133 (v436 : BitVec 32) : Fin 1 → Nat :=
  let v437 : Index := Scalar.indexCast v436
  ![v437.toNat]

def k0_chk87 (v436 : BitVec 32) : Prop :=
  (∀ a, (k0_off133 v436) a + S1.size a ≤ S5120.size a)
theorem k0_off133_inb : ∀ (v436 : BitVec 32) (k0_hw87 : k0_chk87 v436), ∀ a, (k0_off133 v436) a + S1.size a ≤ S5120.size a := fun v436 k0_hw87 => k0_hw87

def k0_off134 (v438 : BitVec 32) : Fin 2 → Nat :=
  let v439 : Index := Scalar.indexCast v438
  let c0_94 : Index := 0#32
  ![v439.toNat, 0]

def k0_chk88 (v438 : BitVec 32) : Prop :=
  (∀ a, (k0_off134 v438) a + S1x128.size a ≤ S5120x128.size a)
theorem k0_off134_inb : ∀ (v438 : BitVec 32) (k0_hw88 : k0_chk88 v438), ∀ a, (k0_off134 v438) a + S1x128.size a ≤ S5120x128.size a := fun v438 k0_hw88 => k0_hw88

def k0_off135 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c44_i32 : BitVec 32 := 44#32
  let v444 : BitVec 32 := Scalar.addi v3 c44_i32
  let v445 : Index := Scalar.indexCast v444
  ![v445.toNat]
def k0_off136 (v446 : BitVec 32) : Fin 1 → Nat :=
  let v447 : Index := Scalar.indexCast v446
  ![v447.toNat]

def k0_chk89 (v446 : BitVec 32) : Prop :=
  (∀ a, (k0_off136 v446) a + S1.size a ≤ S5120.size a)
theorem k0_off136_inb : ∀ (v446 : BitVec 32) (k0_hw89 : k0_chk89 v446), ∀ a, (k0_off136 v446) a + S1.size a ≤ S5120.size a := fun v446 k0_hw89 => k0_hw89

def k0_off137 (v448 : BitVec 32) : Fin 2 → Nat :=
  let v449 : Index := Scalar.indexCast v448
  let c0_96 : Index := 0#32
  ![v449.toNat, 0]

def k0_chk90 (v448 : BitVec 32) : Prop :=
  (∀ a, (k0_off137 v448) a + S1x128.size a ≤ S5120x128.size a)
theorem k0_off137_inb : ∀ (v448 : BitVec 32) (k0_hw90 : k0_chk90 v448), ∀ a, (k0_off137 v448) a + S1x128.size a ≤ S5120x128.size a := fun v448 k0_hw90 => k0_hw90

def k0_off138 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c45_i32 : BitVec 32 := 45#32
  let v454 : BitVec 32 := Scalar.addi v3 c45_i32
  let v455 : Index := Scalar.indexCast v454
  ![v455.toNat]
def k0_off139 (v456 : BitVec 32) : Fin 1 → Nat :=
  let v457 : Index := Scalar.indexCast v456
  ![v457.toNat]

def k0_chk91 (v456 : BitVec 32) : Prop :=
  (∀ a, (k0_off139 v456) a + S1.size a ≤ S5120.size a)
theorem k0_off139_inb : ∀ (v456 : BitVec 32) (k0_hw91 : k0_chk91 v456), ∀ a, (k0_off139 v456) a + S1.size a ≤ S5120.size a := fun v456 k0_hw91 => k0_hw91

def k0_off140 (v458 : BitVec 32) : Fin 2 → Nat :=
  let v459 : Index := Scalar.indexCast v458
  let c0_98 : Index := 0#32
  ![v459.toNat, 0]

def k0_chk92 (v458 : BitVec 32) : Prop :=
  (∀ a, (k0_off140 v458) a + S1x128.size a ≤ S5120x128.size a)
theorem k0_off140_inb : ∀ (v458 : BitVec 32) (k0_hw92 : k0_chk92 v458), ∀ a, (k0_off140 v458) a + S1x128.size a ≤ S5120x128.size a := fun v458 k0_hw92 => k0_hw92

def k0_off141 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c46_i32 : BitVec 32 := 46#32
  let v464 : BitVec 32 := Scalar.addi v3 c46_i32
  let v465 : Index := Scalar.indexCast v464
  ![v465.toNat]
def k0_off142 (v466 : BitVec 32) : Fin 1 → Nat :=
  let v467 : Index := Scalar.indexCast v466
  ![v467.toNat]

def k0_chk93 (v466 : BitVec 32) : Prop :=
  (∀ a, (k0_off142 v466) a + S1.size a ≤ S5120.size a)
theorem k0_off142_inb : ∀ (v466 : BitVec 32) (k0_hw93 : k0_chk93 v466), ∀ a, (k0_off142 v466) a + S1.size a ≤ S5120.size a := fun v466 k0_hw93 => k0_hw93

def k0_off143 (v468 : BitVec 32) : Fin 2 → Nat :=
  let v469 : Index := Scalar.indexCast v468
  let c0_100 : Index := 0#32
  ![v469.toNat, 0]

def k0_chk94 (v468 : BitVec 32) : Prop :=
  (∀ a, (k0_off143 v468) a + S1x128.size a ≤ S5120x128.size a)
theorem k0_off143_inb : ∀ (v468 : BitVec 32) (k0_hw94 : k0_chk94 v468), ∀ a, (k0_off143 v468) a + S1x128.size a ≤ S5120x128.size a := fun v468 k0_hw94 => k0_hw94

def k0_off144 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c47_i32 : BitVec 32 := 47#32
  let v474 : BitVec 32 := Scalar.addi v3 c47_i32
  let v475 : Index := Scalar.indexCast v474
  ![v475.toNat]
def k0_off145 (v476 : BitVec 32) : Fin 1 → Nat :=
  let v477 : Index := Scalar.indexCast v476
  ![v477.toNat]

def k0_chk95 (v476 : BitVec 32) : Prop :=
  (∀ a, (k0_off145 v476) a + S1.size a ≤ S5120.size a)
theorem k0_off145_inb : ∀ (v476 : BitVec 32) (k0_hw95 : k0_chk95 v476), ∀ a, (k0_off145 v476) a + S1.size a ≤ S5120.size a := fun v476 k0_hw95 => k0_hw95

def k0_off146 (v478 : BitVec 32) : Fin 2 → Nat :=
  let v479 : Index := Scalar.indexCast v478
  let c0_102 : Index := 0#32
  ![v479.toNat, 0]

def k0_chk96 (v478 : BitVec 32) : Prop :=
  (∀ a, (k0_off146 v478) a + S1x128.size a ≤ S5120x128.size a)
theorem k0_off146_inb : ∀ (v478 : BitVec 32) (k0_hw96 : k0_chk96 v478), ∀ a, (k0_off146 v478) a + S1x128.size a ≤ S5120x128.size a := fun v478 k0_hw96 => k0_hw96

def k0_off147 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c48_i32 : BitVec 32 := 48#32
  let v484 : BitVec 32 := Scalar.addi v3 c48_i32
  let v485 : Index := Scalar.indexCast v484
  ![v485.toNat]
def k0_off148 (v486 : BitVec 32) : Fin 1 → Nat :=
  let v487 : Index := Scalar.indexCast v486
  ![v487.toNat]

def k0_chk97 (v486 : BitVec 32) : Prop :=
  (∀ a, (k0_off148 v486) a + S1.size a ≤ S5120.size a)
theorem k0_off148_inb : ∀ (v486 : BitVec 32) (k0_hw97 : k0_chk97 v486), ∀ a, (k0_off148 v486) a + S1.size a ≤ S5120.size a := fun v486 k0_hw97 => k0_hw97

def k0_off149 (v488 : BitVec 32) : Fin 2 → Nat :=
  let v489 : Index := Scalar.indexCast v488
  let c0_104 : Index := 0#32
  ![v489.toNat, 0]

def k0_chk98 (v488 : BitVec 32) : Prop :=
  (∀ a, (k0_off149 v488) a + S1x128.size a ≤ S5120x128.size a)
theorem k0_off149_inb : ∀ (v488 : BitVec 32) (k0_hw98 : k0_chk98 v488), ∀ a, (k0_off149 v488) a + S1x128.size a ≤ S5120x128.size a := fun v488 k0_hw98 => k0_hw98

def k0_off150 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c49_i32 : BitVec 32 := 49#32
  let v494 : BitVec 32 := Scalar.addi v3 c49_i32
  let v495 : Index := Scalar.indexCast v494
  ![v495.toNat]
def k0_off151 (v496 : BitVec 32) : Fin 1 → Nat :=
  let v497 : Index := Scalar.indexCast v496
  ![v497.toNat]

def k0_chk99 (v496 : BitVec 32) : Prop :=
  (∀ a, (k0_off151 v496) a + S1.size a ≤ S5120.size a)
theorem k0_off151_inb : ∀ (v496 : BitVec 32) (k0_hw99 : k0_chk99 v496), ∀ a, (k0_off151 v496) a + S1.size a ≤ S5120.size a := fun v496 k0_hw99 => k0_hw99

def k0_off152 (v498 : BitVec 32) : Fin 2 → Nat :=
  let v499 : Index := Scalar.indexCast v498
  let c0_106 : Index := 0#32
  ![v499.toNat, 0]

def k0_chk100 (v498 : BitVec 32) : Prop :=
  (∀ a, (k0_off152 v498) a + S1x128.size a ≤ S5120x128.size a)
theorem k0_off152_inb : ∀ (v498 : BitVec 32) (k0_hw100 : k0_chk100 v498), ∀ a, (k0_off152 v498) a + S1x128.size a ≤ S5120x128.size a := fun v498 k0_hw100 => k0_hw100

def k0_off153 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c50_i32 : BitVec 32 := 50#32
  let v504 : BitVec 32 := Scalar.addi v3 c50_i32
  let v505 : Index := Scalar.indexCast v504
  ![v505.toNat]
def k0_off154 (v506 : BitVec 32) : Fin 1 → Nat :=
  let v507 : Index := Scalar.indexCast v506
  ![v507.toNat]

def k0_chk101 (v506 : BitVec 32) : Prop :=
  (∀ a, (k0_off154 v506) a + S1.size a ≤ S5120.size a)
theorem k0_off154_inb : ∀ (v506 : BitVec 32) (k0_hw101 : k0_chk101 v506), ∀ a, (k0_off154 v506) a + S1.size a ≤ S5120.size a := fun v506 k0_hw101 => k0_hw101

def k0_off155 (v508 : BitVec 32) : Fin 2 → Nat :=
  let v509 : Index := Scalar.indexCast v508
  let c0_108 : Index := 0#32
  ![v509.toNat, 0]

def k0_chk102 (v508 : BitVec 32) : Prop :=
  (∀ a, (k0_off155 v508) a + S1x128.size a ≤ S5120x128.size a)
theorem k0_off155_inb : ∀ (v508 : BitVec 32) (k0_hw102 : k0_chk102 v508), ∀ a, (k0_off155 v508) a + S1x128.size a ≤ S5120x128.size a := fun v508 k0_hw102 => k0_hw102

def k0_off156 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c51_i32 : BitVec 32 := 51#32
  let v514 : BitVec 32 := Scalar.addi v3 c51_i32
  let v515 : Index := Scalar.indexCast v514
  ![v515.toNat]
def k0_off157 (v516 : BitVec 32) : Fin 1 → Nat :=
  let v517 : Index := Scalar.indexCast v516
  ![v517.toNat]

def k0_chk103 (v516 : BitVec 32) : Prop :=
  (∀ a, (k0_off157 v516) a + S1.size a ≤ S5120.size a)
theorem k0_off157_inb : ∀ (v516 : BitVec 32) (k0_hw103 : k0_chk103 v516), ∀ a, (k0_off157 v516) a + S1.size a ≤ S5120.size a := fun v516 k0_hw103 => k0_hw103

def k0_off158 (v518 : BitVec 32) : Fin 2 → Nat :=
  let v519 : Index := Scalar.indexCast v518
  let c0_110 : Index := 0#32
  ![v519.toNat, 0]

def k0_chk104 (v518 : BitVec 32) : Prop :=
  (∀ a, (k0_off158 v518) a + S1x128.size a ≤ S5120x128.size a)
theorem k0_off158_inb : ∀ (v518 : BitVec 32) (k0_hw104 : k0_chk104 v518), ∀ a, (k0_off158 v518) a + S1x128.size a ≤ S5120x128.size a := fun v518 k0_hw104 => k0_hw104

def k0_off159 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c52_i32 : BitVec 32 := 52#32
  let v524 : BitVec 32 := Scalar.addi v3 c52_i32
  let v525 : Index := Scalar.indexCast v524
  ![v525.toNat]
def k0_off160 (v526 : BitVec 32) : Fin 1 → Nat :=
  let v527 : Index := Scalar.indexCast v526
  ![v527.toNat]

def k0_chk105 (v526 : BitVec 32) : Prop :=
  (∀ a, (k0_off160 v526) a + S1.size a ≤ S5120.size a)
theorem k0_off160_inb : ∀ (v526 : BitVec 32) (k0_hw105 : k0_chk105 v526), ∀ a, (k0_off160 v526) a + S1.size a ≤ S5120.size a := fun v526 k0_hw105 => k0_hw105

def k0_off161 (v528 : BitVec 32) : Fin 2 → Nat :=
  let v529 : Index := Scalar.indexCast v528
  let c0_112 : Index := 0#32
  ![v529.toNat, 0]

def k0_chk106 (v528 : BitVec 32) : Prop :=
  (∀ a, (k0_off161 v528) a + S1x128.size a ≤ S5120x128.size a)
theorem k0_off161_inb : ∀ (v528 : BitVec 32) (k0_hw106 : k0_chk106 v528), ∀ a, (k0_off161 v528) a + S1x128.size a ≤ S5120x128.size a := fun v528 k0_hw106 => k0_hw106

def k0_off162 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c53_i32 : BitVec 32 := 53#32
  let v534 : BitVec 32 := Scalar.addi v3 c53_i32
  let v535 : Index := Scalar.indexCast v534
  ![v535.toNat]
def k0_off163 (v536 : BitVec 32) : Fin 1 → Nat :=
  let v537 : Index := Scalar.indexCast v536
  ![v537.toNat]

def k0_chk107 (v536 : BitVec 32) : Prop :=
  (∀ a, (k0_off163 v536) a + S1.size a ≤ S5120.size a)
theorem k0_off163_inb : ∀ (v536 : BitVec 32) (k0_hw107 : k0_chk107 v536), ∀ a, (k0_off163 v536) a + S1.size a ≤ S5120.size a := fun v536 k0_hw107 => k0_hw107

def k0_off164 (v538 : BitVec 32) : Fin 2 → Nat :=
  let v539 : Index := Scalar.indexCast v538
  let c0_114 : Index := 0#32
  ![v539.toNat, 0]

def k0_chk108 (v538 : BitVec 32) : Prop :=
  (∀ a, (k0_off164 v538) a + S1x128.size a ≤ S5120x128.size a)
theorem k0_off164_inb : ∀ (v538 : BitVec 32) (k0_hw108 : k0_chk108 v538), ∀ a, (k0_off164 v538) a + S1x128.size a ≤ S5120x128.size a := fun v538 k0_hw108 => k0_hw108

def k0_off165 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c54_i32 : BitVec 32 := 54#32
  let v544 : BitVec 32 := Scalar.addi v3 c54_i32
  let v545 : Index := Scalar.indexCast v544
  ![v545.toNat]
def k0_off166 (v546 : BitVec 32) : Fin 1 → Nat :=
  let v547 : Index := Scalar.indexCast v546
  ![v547.toNat]

def k0_chk109 (v546 : BitVec 32) : Prop :=
  (∀ a, (k0_off166 v546) a + S1.size a ≤ S5120.size a)
theorem k0_off166_inb : ∀ (v546 : BitVec 32) (k0_hw109 : k0_chk109 v546), ∀ a, (k0_off166 v546) a + S1.size a ≤ S5120.size a := fun v546 k0_hw109 => k0_hw109

def k0_off167 (v548 : BitVec 32) : Fin 2 → Nat :=
  let v549 : Index := Scalar.indexCast v548
  let c0_116 : Index := 0#32
  ![v549.toNat, 0]

def k0_chk110 (v548 : BitVec 32) : Prop :=
  (∀ a, (k0_off167 v548) a + S1x128.size a ≤ S5120x128.size a)
theorem k0_off167_inb : ∀ (v548 : BitVec 32) (k0_hw110 : k0_chk110 v548), ∀ a, (k0_off167 v548) a + S1x128.size a ≤ S5120x128.size a := fun v548 k0_hw110 => k0_hw110

def k0_off168 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c55_i32 : BitVec 32 := 55#32
  let v554 : BitVec 32 := Scalar.addi v3 c55_i32
  let v555 : Index := Scalar.indexCast v554
  ![v555.toNat]
def k0_off169 (v556 : BitVec 32) : Fin 1 → Nat :=
  let v557 : Index := Scalar.indexCast v556
  ![v557.toNat]

def k0_chk111 (v556 : BitVec 32) : Prop :=
  (∀ a, (k0_off169 v556) a + S1.size a ≤ S5120.size a)
theorem k0_off169_inb : ∀ (v556 : BitVec 32) (k0_hw111 : k0_chk111 v556), ∀ a, (k0_off169 v556) a + S1.size a ≤ S5120.size a := fun v556 k0_hw111 => k0_hw111

def k0_off170 (v558 : BitVec 32) : Fin 2 → Nat :=
  let v559 : Index := Scalar.indexCast v558
  let c0_118 : Index := 0#32
  ![v559.toNat, 0]

def k0_chk112 (v558 : BitVec 32) : Prop :=
  (∀ a, (k0_off170 v558) a + S1x128.size a ≤ S5120x128.size a)
theorem k0_off170_inb : ∀ (v558 : BitVec 32) (k0_hw112 : k0_chk112 v558), ∀ a, (k0_off170 v558) a + S1x128.size a ≤ S5120x128.size a := fun v558 k0_hw112 => k0_hw112

def k0_off171 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c56_i32 : BitVec 32 := 56#32
  let v564 : BitVec 32 := Scalar.addi v3 c56_i32
  let v565 : Index := Scalar.indexCast v564
  ![v565.toNat]
def k0_off172 (v566 : BitVec 32) : Fin 1 → Nat :=
  let v567 : Index := Scalar.indexCast v566
  ![v567.toNat]

def k0_chk113 (v566 : BitVec 32) : Prop :=
  (∀ a, (k0_off172 v566) a + S1.size a ≤ S5120.size a)
theorem k0_off172_inb : ∀ (v566 : BitVec 32) (k0_hw113 : k0_chk113 v566), ∀ a, (k0_off172 v566) a + S1.size a ≤ S5120.size a := fun v566 k0_hw113 => k0_hw113

def k0_off173 (v568 : BitVec 32) : Fin 2 → Nat :=
  let v569 : Index := Scalar.indexCast v568
  let c0_120 : Index := 0#32
  ![v569.toNat, 0]

def k0_chk114 (v568 : BitVec 32) : Prop :=
  (∀ a, (k0_off173 v568) a + S1x128.size a ≤ S5120x128.size a)
theorem k0_off173_inb : ∀ (v568 : BitVec 32) (k0_hw114 : k0_chk114 v568), ∀ a, (k0_off173 v568) a + S1x128.size a ≤ S5120x128.size a := fun v568 k0_hw114 => k0_hw114

def k0_off174 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c57_i32 : BitVec 32 := 57#32
  let v574 : BitVec 32 := Scalar.addi v3 c57_i32
  let v575 : Index := Scalar.indexCast v574
  ![v575.toNat]
def k0_off175 (v576 : BitVec 32) : Fin 1 → Nat :=
  let v577 : Index := Scalar.indexCast v576
  ![v577.toNat]

def k0_chk115 (v576 : BitVec 32) : Prop :=
  (∀ a, (k0_off175 v576) a + S1.size a ≤ S5120.size a)
theorem k0_off175_inb : ∀ (v576 : BitVec 32) (k0_hw115 : k0_chk115 v576), ∀ a, (k0_off175 v576) a + S1.size a ≤ S5120.size a := fun v576 k0_hw115 => k0_hw115

def k0_off176 (v578 : BitVec 32) : Fin 2 → Nat :=
  let v579 : Index := Scalar.indexCast v578
  let c0_122 : Index := 0#32
  ![v579.toNat, 0]

def k0_chk116 (v578 : BitVec 32) : Prop :=
  (∀ a, (k0_off176 v578) a + S1x128.size a ≤ S5120x128.size a)
theorem k0_off176_inb : ∀ (v578 : BitVec 32) (k0_hw116 : k0_chk116 v578), ∀ a, (k0_off176 v578) a + S1x128.size a ≤ S5120x128.size a := fun v578 k0_hw116 => k0_hw116

def k0_off177 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c58_i32 : BitVec 32 := 58#32
  let v584 : BitVec 32 := Scalar.addi v3 c58_i32
  let v585 : Index := Scalar.indexCast v584
  ![v585.toNat]
def k0_off178 (v586 : BitVec 32) : Fin 1 → Nat :=
  let v587 : Index := Scalar.indexCast v586
  ![v587.toNat]

def k0_chk117 (v586 : BitVec 32) : Prop :=
  (∀ a, (k0_off178 v586) a + S1.size a ≤ S5120.size a)
theorem k0_off178_inb : ∀ (v586 : BitVec 32) (k0_hw117 : k0_chk117 v586), ∀ a, (k0_off178 v586) a + S1.size a ≤ S5120.size a := fun v586 k0_hw117 => k0_hw117

def k0_off179 (v588 : BitVec 32) : Fin 2 → Nat :=
  let v589 : Index := Scalar.indexCast v588
  let c0_124 : Index := 0#32
  ![v589.toNat, 0]

def k0_chk118 (v588 : BitVec 32) : Prop :=
  (∀ a, (k0_off179 v588) a + S1x128.size a ≤ S5120x128.size a)
theorem k0_off179_inb : ∀ (v588 : BitVec 32) (k0_hw118 : k0_chk118 v588), ∀ a, (k0_off179 v588) a + S1x128.size a ≤ S5120x128.size a := fun v588 k0_hw118 => k0_hw118

def k0_off180 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c59_i32 : BitVec 32 := 59#32
  let v594 : BitVec 32 := Scalar.addi v3 c59_i32
  let v595 : Index := Scalar.indexCast v594
  ![v595.toNat]
def k0_off181 (v596 : BitVec 32) : Fin 1 → Nat :=
  let v597 : Index := Scalar.indexCast v596
  ![v597.toNat]

def k0_chk119 (v596 : BitVec 32) : Prop :=
  (∀ a, (k0_off181 v596) a + S1.size a ≤ S5120.size a)
theorem k0_off181_inb : ∀ (v596 : BitVec 32) (k0_hw119 : k0_chk119 v596), ∀ a, (k0_off181 v596) a + S1.size a ≤ S5120.size a := fun v596 k0_hw119 => k0_hw119

def k0_off182 (v598 : BitVec 32) : Fin 2 → Nat :=
  let v599 : Index := Scalar.indexCast v598
  let c0_126 : Index := 0#32
  ![v599.toNat, 0]

def k0_chk120 (v598 : BitVec 32) : Prop :=
  (∀ a, (k0_off182 v598) a + S1x128.size a ≤ S5120x128.size a)
theorem k0_off182_inb : ∀ (v598 : BitVec 32) (k0_hw120 : k0_chk120 v598), ∀ a, (k0_off182 v598) a + S1x128.size a ≤ S5120x128.size a := fun v598 k0_hw120 => k0_hw120

def k0_off183 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c60_i32 : BitVec 32 := 60#32
  let v604 : BitVec 32 := Scalar.addi v3 c60_i32
  let v605 : Index := Scalar.indexCast v604
  ![v605.toNat]
def k0_off184 (v606 : BitVec 32) : Fin 1 → Nat :=
  let v607 : Index := Scalar.indexCast v606
  ![v607.toNat]

def k0_chk121 (v606 : BitVec 32) : Prop :=
  (∀ a, (k0_off184 v606) a + S1.size a ≤ S5120.size a)
theorem k0_off184_inb : ∀ (v606 : BitVec 32) (k0_hw121 : k0_chk121 v606), ∀ a, (k0_off184 v606) a + S1.size a ≤ S5120.size a := fun v606 k0_hw121 => k0_hw121

def k0_off185 (v608 : BitVec 32) : Fin 2 → Nat :=
  let v609 : Index := Scalar.indexCast v608
  let c0_128 : Index := 0#32
  ![v609.toNat, 0]

def k0_chk122 (v608 : BitVec 32) : Prop :=
  (∀ a, (k0_off185 v608) a + S1x128.size a ≤ S5120x128.size a)
theorem k0_off185_inb : ∀ (v608 : BitVec 32) (k0_hw122 : k0_chk122 v608), ∀ a, (k0_off185 v608) a + S1x128.size a ≤ S5120x128.size a := fun v608 k0_hw122 => k0_hw122

def k0_off186 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c61_i32 : BitVec 32 := 61#32
  let v614 : BitVec 32 := Scalar.addi v3 c61_i32
  let v615 : Index := Scalar.indexCast v614
  ![v615.toNat]
def k0_off187 (v616 : BitVec 32) : Fin 1 → Nat :=
  let v617 : Index := Scalar.indexCast v616
  ![v617.toNat]

def k0_chk123 (v616 : BitVec 32) : Prop :=
  (∀ a, (k0_off187 v616) a + S1.size a ≤ S5120.size a)
theorem k0_off187_inb : ∀ (v616 : BitVec 32) (k0_hw123 : k0_chk123 v616), ∀ a, (k0_off187 v616) a + S1.size a ≤ S5120.size a := fun v616 k0_hw123 => k0_hw123

def k0_off188 (v618 : BitVec 32) : Fin 2 → Nat :=
  let v619 : Index := Scalar.indexCast v618
  let c0_130 : Index := 0#32
  ![v619.toNat, 0]

def k0_chk124 (v618 : BitVec 32) : Prop :=
  (∀ a, (k0_off188 v618) a + S1x128.size a ≤ S5120x128.size a)
theorem k0_off188_inb : ∀ (v618 : BitVec 32) (k0_hw124 : k0_chk124 v618), ∀ a, (k0_off188 v618) a + S1x128.size a ≤ S5120x128.size a := fun v618 k0_hw124 => k0_hw124

def k0_off189 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c62_i32 : BitVec 32 := 62#32
  let v624 : BitVec 32 := Scalar.addi v3 c62_i32
  let v625 : Index := Scalar.indexCast v624
  ![v625.toNat]
def k0_off190 (v626 : BitVec 32) : Fin 1 → Nat :=
  let v627 : Index := Scalar.indexCast v626
  ![v627.toNat]

def k0_chk125 (v626 : BitVec 32) : Prop :=
  (∀ a, (k0_off190 v626) a + S1.size a ≤ S5120.size a)
theorem k0_off190_inb : ∀ (v626 : BitVec 32) (k0_hw125 : k0_chk125 v626), ∀ a, (k0_off190 v626) a + S1.size a ≤ S5120.size a := fun v626 k0_hw125 => k0_hw125

def k0_off191 (v628 : BitVec 32) : Fin 2 → Nat :=
  let v629 : Index := Scalar.indexCast v628
  let c0_132 : Index := 0#32
  ![v629.toNat, 0]

def k0_chk126 (v628 : BitVec 32) : Prop :=
  (∀ a, (k0_off191 v628) a + S1x128.size a ≤ S5120x128.size a)
theorem k0_off191_inb : ∀ (v628 : BitVec 32) (k0_hw126 : k0_chk126 v628), ∀ a, (k0_off191 v628) a + S1x128.size a ≤ S5120x128.size a := fun v628 k0_hw126 => k0_hw126

def k0_off192 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c63_i32 : BitVec 32 := 63#32
  let v634 : BitVec 32 := Scalar.addi v3 c63_i32
  let v635 : Index := Scalar.indexCast v634
  ![v635.toNat]
def k0_off193 (v636 : BitVec 32) : Fin 1 → Nat :=
  let v637 : Index := Scalar.indexCast v636
  ![v637.toNat]

def k0_chk127 (v636 : BitVec 32) : Prop :=
  (∀ a, (k0_off193 v636) a + S1.size a ≤ S5120.size a)
theorem k0_off193_inb : ∀ (v636 : BitVec 32) (k0_hw127 : k0_chk127 v636), ∀ a, (k0_off193 v636) a + S1.size a ≤ S5120.size a := fun v636 k0_hw127 => k0_hw127

def k0_off194 (v638 : BitVec 32) : Fin 2 → Nat :=
  let v639 : Index := Scalar.indexCast v638
  let c0_134 : Index := 0#32
  ![v639.toNat, 0]

def k0_chk128 (v638 : BitVec 32) : Prop :=
  (∀ a, (k0_off194 v638) a + S1x128.size a ≤ S5120x128.size a)
theorem k0_off194_inb : ∀ (v638 : BitVec 32) (k0_hw128 : k0_chk128 v638), ∀ a, (k0_off194 v638) a + S1x128.size a ≤ S5120x128.size a := fun v638 k0_hw128 => k0_hw128

def k0_off195 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c64_i32 : BitVec 32 := 64#32
  let v644 : BitVec 32 := Scalar.addi v3 c64_i32
  let v645 : Index := Scalar.indexCast v644
  ![v645.toNat]
def k0_off196 (v646 : BitVec 32) : Fin 1 → Nat :=
  let v647 : Index := Scalar.indexCast v646
  ![v647.toNat]

def k0_chk129 (v646 : BitVec 32) : Prop :=
  (∀ a, (k0_off196 v646) a + S1.size a ≤ S5120.size a)
theorem k0_off196_inb : ∀ (v646 : BitVec 32) (k0_hw129 : k0_chk129 v646), ∀ a, (k0_off196 v646) a + S1.size a ≤ S5120.size a := fun v646 k0_hw129 => k0_hw129

def k0_off197 (v648 : BitVec 32) : Fin 2 → Nat :=
  let v649 : Index := Scalar.indexCast v648
  let c0_136 : Index := 0#32
  ![v649.toNat, 0]

def k0_chk130 (v648 : BitVec 32) : Prop :=
  (∀ a, (k0_off197 v648) a + S1x128.size a ≤ S5120x128.size a)
theorem k0_off197_inb : ∀ (v648 : BitVec 32) (k0_hw130 : k0_chk130 v648), ∀ a, (k0_off197 v648) a + S1x128.size a ≤ S5120x128.size a := fun v648 k0_hw130 => k0_hw130

def k0_off198 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c65_i32 : BitVec 32 := 65#32
  let v654 : BitVec 32 := Scalar.addi v3 c65_i32
  let v655 : Index := Scalar.indexCast v654
  ![v655.toNat]
def k0_off199 (v656 : BitVec 32) : Fin 1 → Nat :=
  let v657 : Index := Scalar.indexCast v656
  ![v657.toNat]

def k0_chk131 (v656 : BitVec 32) : Prop :=
  (∀ a, (k0_off199 v656) a + S1.size a ≤ S5120.size a)
theorem k0_off199_inb : ∀ (v656 : BitVec 32) (k0_hw131 : k0_chk131 v656), ∀ a, (k0_off199 v656) a + S1.size a ≤ S5120.size a := fun v656 k0_hw131 => k0_hw131

def k0_off200 (v658 : BitVec 32) : Fin 2 → Nat :=
  let v659 : Index := Scalar.indexCast v658
  let c0_138 : Index := 0#32
  ![v659.toNat, 0]

def k0_chk132 (v658 : BitVec 32) : Prop :=
  (∀ a, (k0_off200 v658) a + S1x128.size a ≤ S5120x128.size a)
theorem k0_off200_inb : ∀ (v658 : BitVec 32) (k0_hw132 : k0_chk132 v658), ∀ a, (k0_off200 v658) a + S1x128.size a ≤ S5120x128.size a := fun v658 k0_hw132 => k0_hw132

def k0_off201 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c66_i32 : BitVec 32 := 66#32
  let v664 : BitVec 32 := Scalar.addi v3 c66_i32
  let v665 : Index := Scalar.indexCast v664
  ![v665.toNat]
def k0_off202 (v666 : BitVec 32) : Fin 1 → Nat :=
  let v667 : Index := Scalar.indexCast v666
  ![v667.toNat]

def k0_chk133 (v666 : BitVec 32) : Prop :=
  (∀ a, (k0_off202 v666) a + S1.size a ≤ S5120.size a)
theorem k0_off202_inb : ∀ (v666 : BitVec 32) (k0_hw133 : k0_chk133 v666), ∀ a, (k0_off202 v666) a + S1.size a ≤ S5120.size a := fun v666 k0_hw133 => k0_hw133

def k0_off203 (v668 : BitVec 32) : Fin 2 → Nat :=
  let v669 : Index := Scalar.indexCast v668
  let c0_140 : Index := 0#32
  ![v669.toNat, 0]

def k0_chk134 (v668 : BitVec 32) : Prop :=
  (∀ a, (k0_off203 v668) a + S1x128.size a ≤ S5120x128.size a)
theorem k0_off203_inb : ∀ (v668 : BitVec 32) (k0_hw134 : k0_chk134 v668), ∀ a, (k0_off203 v668) a + S1x128.size a ≤ S5120x128.size a := fun v668 k0_hw134 => k0_hw134

def k0_off204 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c67_i32 : BitVec 32 := 67#32
  let v674 : BitVec 32 := Scalar.addi v3 c67_i32
  let v675 : Index := Scalar.indexCast v674
  ![v675.toNat]
def k0_off205 (v676 : BitVec 32) : Fin 1 → Nat :=
  let v677 : Index := Scalar.indexCast v676
  ![v677.toNat]

def k0_chk135 (v676 : BitVec 32) : Prop :=
  (∀ a, (k0_off205 v676) a + S1.size a ≤ S5120.size a)
theorem k0_off205_inb : ∀ (v676 : BitVec 32) (k0_hw135 : k0_chk135 v676), ∀ a, (k0_off205 v676) a + S1.size a ≤ S5120.size a := fun v676 k0_hw135 => k0_hw135

def k0_off206 (v678 : BitVec 32) : Fin 2 → Nat :=
  let v679 : Index := Scalar.indexCast v678
  let c0_142 : Index := 0#32
  ![v679.toNat, 0]

def k0_chk136 (v678 : BitVec 32) : Prop :=
  (∀ a, (k0_off206 v678) a + S1x128.size a ≤ S5120x128.size a)
theorem k0_off206_inb : ∀ (v678 : BitVec 32) (k0_hw136 : k0_chk136 v678), ∀ a, (k0_off206 v678) a + S1x128.size a ≤ S5120x128.size a := fun v678 k0_hw136 => k0_hw136

def k0_off207 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c68_i32 : BitVec 32 := 68#32
  let v684 : BitVec 32 := Scalar.addi v3 c68_i32
  let v685 : Index := Scalar.indexCast v684
  ![v685.toNat]
def k0_off208 (v686 : BitVec 32) : Fin 1 → Nat :=
  let v687 : Index := Scalar.indexCast v686
  ![v687.toNat]

def k0_chk137 (v686 : BitVec 32) : Prop :=
  (∀ a, (k0_off208 v686) a + S1.size a ≤ S5120.size a)
theorem k0_off208_inb : ∀ (v686 : BitVec 32) (k0_hw137 : k0_chk137 v686), ∀ a, (k0_off208 v686) a + S1.size a ≤ S5120.size a := fun v686 k0_hw137 => k0_hw137

def k0_off209 (v688 : BitVec 32) : Fin 2 → Nat :=
  let v689 : Index := Scalar.indexCast v688
  let c0_144 : Index := 0#32
  ![v689.toNat, 0]

def k0_chk138 (v688 : BitVec 32) : Prop :=
  (∀ a, (k0_off209 v688) a + S1x128.size a ≤ S5120x128.size a)
theorem k0_off209_inb : ∀ (v688 : BitVec 32) (k0_hw138 : k0_chk138 v688), ∀ a, (k0_off209 v688) a + S1x128.size a ≤ S5120x128.size a := fun v688 k0_hw138 => k0_hw138

def k0_off210 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c69_i32 : BitVec 32 := 69#32
  let v694 : BitVec 32 := Scalar.addi v3 c69_i32
  let v695 : Index := Scalar.indexCast v694
  ![v695.toNat]
def k0_off211 (v696 : BitVec 32) : Fin 1 → Nat :=
  let v697 : Index := Scalar.indexCast v696
  ![v697.toNat]

def k0_chk139 (v696 : BitVec 32) : Prop :=
  (∀ a, (k0_off211 v696) a + S1.size a ≤ S5120.size a)
theorem k0_off211_inb : ∀ (v696 : BitVec 32) (k0_hw139 : k0_chk139 v696), ∀ a, (k0_off211 v696) a + S1.size a ≤ S5120.size a := fun v696 k0_hw139 => k0_hw139

def k0_off212 (v698 : BitVec 32) : Fin 2 → Nat :=
  let v699 : Index := Scalar.indexCast v698
  let c0_146 : Index := 0#32
  ![v699.toNat, 0]

def k0_chk140 (v698 : BitVec 32) : Prop :=
  (∀ a, (k0_off212 v698) a + S1x128.size a ≤ S5120x128.size a)
theorem k0_off212_inb : ∀ (v698 : BitVec 32) (k0_hw140 : k0_chk140 v698), ∀ a, (k0_off212 v698) a + S1x128.size a ≤ S5120x128.size a := fun v698 k0_hw140 => k0_hw140

def k0_off213 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c70_i32 : BitVec 32 := 70#32
  let v704 : BitVec 32 := Scalar.addi v3 c70_i32
  let v705 : Index := Scalar.indexCast v704
  ![v705.toNat]
def k0_off214 (v706 : BitVec 32) : Fin 1 → Nat :=
  let v707 : Index := Scalar.indexCast v706
  ![v707.toNat]

def k0_chk141 (v706 : BitVec 32) : Prop :=
  (∀ a, (k0_off214 v706) a + S1.size a ≤ S5120.size a)
theorem k0_off214_inb : ∀ (v706 : BitVec 32) (k0_hw141 : k0_chk141 v706), ∀ a, (k0_off214 v706) a + S1.size a ≤ S5120.size a := fun v706 k0_hw141 => k0_hw141

def k0_off215 (v708 : BitVec 32) : Fin 2 → Nat :=
  let v709 : Index := Scalar.indexCast v708
  let c0_148 : Index := 0#32
  ![v709.toNat, 0]

def k0_chk142 (v708 : BitVec 32) : Prop :=
  (∀ a, (k0_off215 v708) a + S1x128.size a ≤ S5120x128.size a)
theorem k0_off215_inb : ∀ (v708 : BitVec 32) (k0_hw142 : k0_chk142 v708), ∀ a, (k0_off215 v708) a + S1x128.size a ≤ S5120x128.size a := fun v708 k0_hw142 => k0_hw142

def k0_off216 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c71_i32 : BitVec 32 := 71#32
  let v714 : BitVec 32 := Scalar.addi v3 c71_i32
  let v715 : Index := Scalar.indexCast v714
  ![v715.toNat]
def k0_off217 (v716 : BitVec 32) : Fin 1 → Nat :=
  let v717 : Index := Scalar.indexCast v716
  ![v717.toNat]

def k0_chk143 (v716 : BitVec 32) : Prop :=
  (∀ a, (k0_off217 v716) a + S1.size a ≤ S5120.size a)
theorem k0_off217_inb : ∀ (v716 : BitVec 32) (k0_hw143 : k0_chk143 v716), ∀ a, (k0_off217 v716) a + S1.size a ≤ S5120.size a := fun v716 k0_hw143 => k0_hw143

def k0_off218 (v718 : BitVec 32) : Fin 2 → Nat :=
  let v719 : Index := Scalar.indexCast v718
  let c0_150 : Index := 0#32
  ![v719.toNat, 0]

def k0_chk144 (v718 : BitVec 32) : Prop :=
  (∀ a, (k0_off218 v718) a + S1x128.size a ≤ S5120x128.size a)
theorem k0_off218_inb : ∀ (v718 : BitVec 32) (k0_hw144 : k0_chk144 v718), ∀ a, (k0_off218 v718) a + S1x128.size a ≤ S5120x128.size a := fun v718 k0_hw144 => k0_hw144

def k0_off219 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c72_i32 : BitVec 32 := 72#32
  let v724 : BitVec 32 := Scalar.addi v3 c72_i32
  let v725 : Index := Scalar.indexCast v724
  ![v725.toNat]
def k0_off220 (v726 : BitVec 32) : Fin 1 → Nat :=
  let v727 : Index := Scalar.indexCast v726
  ![v727.toNat]

def k0_chk145 (v726 : BitVec 32) : Prop :=
  (∀ a, (k0_off220 v726) a + S1.size a ≤ S5120.size a)
theorem k0_off220_inb : ∀ (v726 : BitVec 32) (k0_hw145 : k0_chk145 v726), ∀ a, (k0_off220 v726) a + S1.size a ≤ S5120.size a := fun v726 k0_hw145 => k0_hw145

def k0_off221 (v728 : BitVec 32) : Fin 2 → Nat :=
  let v729 : Index := Scalar.indexCast v728
  let c0_152 : Index := 0#32
  ![v729.toNat, 0]

def k0_chk146 (v728 : BitVec 32) : Prop :=
  (∀ a, (k0_off221 v728) a + S1x128.size a ≤ S5120x128.size a)
theorem k0_off221_inb : ∀ (v728 : BitVec 32) (k0_hw146 : k0_chk146 v728), ∀ a, (k0_off221 v728) a + S1x128.size a ≤ S5120x128.size a := fun v728 k0_hw146 => k0_hw146

def k0_off222 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c73_i32 : BitVec 32 := 73#32
  let v734 : BitVec 32 := Scalar.addi v3 c73_i32
  let v735 : Index := Scalar.indexCast v734
  ![v735.toNat]
def k0_off223 (v736 : BitVec 32) : Fin 1 → Nat :=
  let v737 : Index := Scalar.indexCast v736
  ![v737.toNat]

def k0_chk147 (v736 : BitVec 32) : Prop :=
  (∀ a, (k0_off223 v736) a + S1.size a ≤ S5120.size a)
theorem k0_off223_inb : ∀ (v736 : BitVec 32) (k0_hw147 : k0_chk147 v736), ∀ a, (k0_off223 v736) a + S1.size a ≤ S5120.size a := fun v736 k0_hw147 => k0_hw147

def k0_off224 (v738 : BitVec 32) : Fin 2 → Nat :=
  let v739 : Index := Scalar.indexCast v738
  let c0_154 : Index := 0#32
  ![v739.toNat, 0]

def k0_chk148 (v738 : BitVec 32) : Prop :=
  (∀ a, (k0_off224 v738) a + S1x128.size a ≤ S5120x128.size a)
theorem k0_off224_inb : ∀ (v738 : BitVec 32) (k0_hw148 : k0_chk148 v738), ∀ a, (k0_off224 v738) a + S1x128.size a ≤ S5120x128.size a := fun v738 k0_hw148 => k0_hw148

def k0_off225 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c74_i32 : BitVec 32 := 74#32
  let v744 : BitVec 32 := Scalar.addi v3 c74_i32
  let v745 : Index := Scalar.indexCast v744
  ![v745.toNat]
def k0_off226 (v746 : BitVec 32) : Fin 1 → Nat :=
  let v747 : Index := Scalar.indexCast v746
  ![v747.toNat]

def k0_chk149 (v746 : BitVec 32) : Prop :=
  (∀ a, (k0_off226 v746) a + S1.size a ≤ S5120.size a)
theorem k0_off226_inb : ∀ (v746 : BitVec 32) (k0_hw149 : k0_chk149 v746), ∀ a, (k0_off226 v746) a + S1.size a ≤ S5120.size a := fun v746 k0_hw149 => k0_hw149

def k0_off227 (v748 : BitVec 32) : Fin 2 → Nat :=
  let v749 : Index := Scalar.indexCast v748
  let c0_156 : Index := 0#32
  ![v749.toNat, 0]

def k0_chk150 (v748 : BitVec 32) : Prop :=
  (∀ a, (k0_off227 v748) a + S1x128.size a ≤ S5120x128.size a)
theorem k0_off227_inb : ∀ (v748 : BitVec 32) (k0_hw150 : k0_chk150 v748), ∀ a, (k0_off227 v748) a + S1x128.size a ≤ S5120x128.size a := fun v748 k0_hw150 => k0_hw150

def k0_off228 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c75_i32 : BitVec 32 := 75#32
  let v754 : BitVec 32 := Scalar.addi v3 c75_i32
  let v755 : Index := Scalar.indexCast v754
  ![v755.toNat]
def k0_off229 (v756 : BitVec 32) : Fin 1 → Nat :=
  let v757 : Index := Scalar.indexCast v756
  ![v757.toNat]

def k0_chk151 (v756 : BitVec 32) : Prop :=
  (∀ a, (k0_off229 v756) a + S1.size a ≤ S5120.size a)
theorem k0_off229_inb : ∀ (v756 : BitVec 32) (k0_hw151 : k0_chk151 v756), ∀ a, (k0_off229 v756) a + S1.size a ≤ S5120.size a := fun v756 k0_hw151 => k0_hw151

def k0_off230 (v758 : BitVec 32) : Fin 2 → Nat :=
  let v759 : Index := Scalar.indexCast v758
  let c0_158 : Index := 0#32
  ![v759.toNat, 0]

def k0_chk152 (v758 : BitVec 32) : Prop :=
  (∀ a, (k0_off230 v758) a + S1x128.size a ≤ S5120x128.size a)
theorem k0_off230_inb : ∀ (v758 : BitVec 32) (k0_hw152 : k0_chk152 v758), ∀ a, (k0_off230 v758) a + S1x128.size a ≤ S5120x128.size a := fun v758 k0_hw152 => k0_hw152

def k0_off231 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c76_i32 : BitVec 32 := 76#32
  let v764 : BitVec 32 := Scalar.addi v3 c76_i32
  let v765 : Index := Scalar.indexCast v764
  ![v765.toNat]
def k0_off232 (v766 : BitVec 32) : Fin 1 → Nat :=
  let v767 : Index := Scalar.indexCast v766
  ![v767.toNat]

def k0_chk153 (v766 : BitVec 32) : Prop :=
  (∀ a, (k0_off232 v766) a + S1.size a ≤ S5120.size a)
theorem k0_off232_inb : ∀ (v766 : BitVec 32) (k0_hw153 : k0_chk153 v766), ∀ a, (k0_off232 v766) a + S1.size a ≤ S5120.size a := fun v766 k0_hw153 => k0_hw153

def k0_off233 (v768 : BitVec 32) : Fin 2 → Nat :=
  let v769 : Index := Scalar.indexCast v768
  let c0_160 : Index := 0#32
  ![v769.toNat, 0]

def k0_chk154 (v768 : BitVec 32) : Prop :=
  (∀ a, (k0_off233 v768) a + S1x128.size a ≤ S5120x128.size a)
theorem k0_off233_inb : ∀ (v768 : BitVec 32) (k0_hw154 : k0_chk154 v768), ∀ a, (k0_off233 v768) a + S1x128.size a ≤ S5120x128.size a := fun v768 k0_hw154 => k0_hw154

def k0_off234 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c77_i32 : BitVec 32 := 77#32
  let v774 : BitVec 32 := Scalar.addi v3 c77_i32
  let v775 : Index := Scalar.indexCast v774
  ![v775.toNat]
def k0_off235 (v776 : BitVec 32) : Fin 1 → Nat :=
  let v777 : Index := Scalar.indexCast v776
  ![v777.toNat]

def k0_chk155 (v776 : BitVec 32) : Prop :=
  (∀ a, (k0_off235 v776) a + S1.size a ≤ S5120.size a)
theorem k0_off235_inb : ∀ (v776 : BitVec 32) (k0_hw155 : k0_chk155 v776), ∀ a, (k0_off235 v776) a + S1.size a ≤ S5120.size a := fun v776 k0_hw155 => k0_hw155

def k0_off236 (v778 : BitVec 32) : Fin 2 → Nat :=
  let v779 : Index := Scalar.indexCast v778
  let c0_162 : Index := 0#32
  ![v779.toNat, 0]

def k0_chk156 (v778 : BitVec 32) : Prop :=
  (∀ a, (k0_off236 v778) a + S1x128.size a ≤ S5120x128.size a)
theorem k0_off236_inb : ∀ (v778 : BitVec 32) (k0_hw156 : k0_chk156 v778), ∀ a, (k0_off236 v778) a + S1x128.size a ≤ S5120x128.size a := fun v778 k0_hw156 => k0_hw156

def k0_off237 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c78_i32 : BitVec 32 := 78#32
  let v784 : BitVec 32 := Scalar.addi v3 c78_i32
  let v785 : Index := Scalar.indexCast v784
  ![v785.toNat]
def k0_off238 (v786 : BitVec 32) : Fin 1 → Nat :=
  let v787 : Index := Scalar.indexCast v786
  ![v787.toNat]

def k0_chk157 (v786 : BitVec 32) : Prop :=
  (∀ a, (k0_off238 v786) a + S1.size a ≤ S5120.size a)
theorem k0_off238_inb : ∀ (v786 : BitVec 32) (k0_hw157 : k0_chk157 v786), ∀ a, (k0_off238 v786) a + S1.size a ≤ S5120.size a := fun v786 k0_hw157 => k0_hw157

def k0_off239 (v788 : BitVec 32) : Fin 2 → Nat :=
  let v789 : Index := Scalar.indexCast v788
  let c0_164 : Index := 0#32
  ![v789.toNat, 0]

def k0_chk158 (v788 : BitVec 32) : Prop :=
  (∀ a, (k0_off239 v788) a + S1x128.size a ≤ S5120x128.size a)
theorem k0_off239_inb : ∀ (v788 : BitVec 32) (k0_hw158 : k0_chk158 v788), ∀ a, (k0_off239 v788) a + S1x128.size a ≤ S5120x128.size a := fun v788 k0_hw158 => k0_hw158

def k0_off240 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c79_i32 : BitVec 32 := 79#32
  let v794 : BitVec 32 := Scalar.addi v3 c79_i32
  let v795 : Index := Scalar.indexCast v794
  ![v795.toNat]
def k0_off241 (v796 : BitVec 32) : Fin 1 → Nat :=
  let v797 : Index := Scalar.indexCast v796
  ![v797.toNat]

def k0_chk159 (v796 : BitVec 32) : Prop :=
  (∀ a, (k0_off241 v796) a + S1.size a ≤ S5120.size a)
theorem k0_off241_inb : ∀ (v796 : BitVec 32) (k0_hw159 : k0_chk159 v796), ∀ a, (k0_off241 v796) a + S1.size a ≤ S5120.size a := fun v796 k0_hw159 => k0_hw159

def k0_off242 (v798 : BitVec 32) : Fin 2 → Nat :=
  let v799 : Index := Scalar.indexCast v798
  let c0_166 : Index := 0#32
  ![v799.toNat, 0]

def k0_chk160 (v798 : BitVec 32) : Prop :=
  (∀ a, (k0_off242 v798) a + S1x128.size a ≤ S5120x128.size a)
theorem k0_off242_inb : ∀ (v798 : BitVec 32) (k0_hw160 : k0_chk160 v798), ∀ a, (k0_off242 v798) a + S1x128.size a ≤ S5120x128.size a := fun v798 k0_hw160 => k0_hw160

def k0_off243 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c80_i32 : BitVec 32 := 80#32
  let v804 : BitVec 32 := Scalar.addi v3 c80_i32
  let v805 : Index := Scalar.indexCast v804
  ![v805.toNat]
def k0_off244 (v806 : BitVec 32) : Fin 1 → Nat :=
  let v807 : Index := Scalar.indexCast v806
  ![v807.toNat]

def k0_chk161 (v806 : BitVec 32) : Prop :=
  (∀ a, (k0_off244 v806) a + S1.size a ≤ S5120.size a)
theorem k0_off244_inb : ∀ (v806 : BitVec 32) (k0_hw161 : k0_chk161 v806), ∀ a, (k0_off244 v806) a + S1.size a ≤ S5120.size a := fun v806 k0_hw161 => k0_hw161

def k0_off245 (v808 : BitVec 32) : Fin 2 → Nat :=
  let v809 : Index := Scalar.indexCast v808
  let c0_168 : Index := 0#32
  ![v809.toNat, 0]

def k0_chk162 (v808 : BitVec 32) : Prop :=
  (∀ a, (k0_off245 v808) a + S1x128.size a ≤ S5120x128.size a)
theorem k0_off245_inb : ∀ (v808 : BitVec 32) (k0_hw162 : k0_chk162 v808), ∀ a, (k0_off245 v808) a + S1x128.size a ≤ S5120x128.size a := fun v808 k0_hw162 => k0_hw162

def k0_off246 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c81_i32 : BitVec 32 := 81#32
  let v814 : BitVec 32 := Scalar.addi v3 c81_i32
  let v815 : Index := Scalar.indexCast v814
  ![v815.toNat]
def k0_off247 (v816 : BitVec 32) : Fin 1 → Nat :=
  let v817 : Index := Scalar.indexCast v816
  ![v817.toNat]

def k0_chk163 (v816 : BitVec 32) : Prop :=
  (∀ a, (k0_off247 v816) a + S1.size a ≤ S5120.size a)
theorem k0_off247_inb : ∀ (v816 : BitVec 32) (k0_hw163 : k0_chk163 v816), ∀ a, (k0_off247 v816) a + S1.size a ≤ S5120.size a := fun v816 k0_hw163 => k0_hw163

def k0_off248 (v818 : BitVec 32) : Fin 2 → Nat :=
  let v819 : Index := Scalar.indexCast v818
  let c0_170 : Index := 0#32
  ![v819.toNat, 0]

def k0_chk164 (v818 : BitVec 32) : Prop :=
  (∀ a, (k0_off248 v818) a + S1x128.size a ≤ S5120x128.size a)
theorem k0_off248_inb : ∀ (v818 : BitVec 32) (k0_hw164 : k0_chk164 v818), ∀ a, (k0_off248 v818) a + S1x128.size a ≤ S5120x128.size a := fun v818 k0_hw164 => k0_hw164

def k0_off249 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c82_i32 : BitVec 32 := 82#32
  let v824 : BitVec 32 := Scalar.addi v3 c82_i32
  let v825 : Index := Scalar.indexCast v824
  ![v825.toNat]
def k0_off250 (v826 : BitVec 32) : Fin 1 → Nat :=
  let v827 : Index := Scalar.indexCast v826
  ![v827.toNat]

def k0_chk165 (v826 : BitVec 32) : Prop :=
  (∀ a, (k0_off250 v826) a + S1.size a ≤ S5120.size a)
theorem k0_off250_inb : ∀ (v826 : BitVec 32) (k0_hw165 : k0_chk165 v826), ∀ a, (k0_off250 v826) a + S1.size a ≤ S5120.size a := fun v826 k0_hw165 => k0_hw165

def k0_off251 (v828 : BitVec 32) : Fin 2 → Nat :=
  let v829 : Index := Scalar.indexCast v828
  let c0_172 : Index := 0#32
  ![v829.toNat, 0]

def k0_chk166 (v828 : BitVec 32) : Prop :=
  (∀ a, (k0_off251 v828) a + S1x128.size a ≤ S5120x128.size a)
theorem k0_off251_inb : ∀ (v828 : BitVec 32) (k0_hw166 : k0_chk166 v828), ∀ a, (k0_off251 v828) a + S1x128.size a ≤ S5120x128.size a := fun v828 k0_hw166 => k0_hw166

def k0_off252 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c83_i32 : BitVec 32 := 83#32
  let v834 : BitVec 32 := Scalar.addi v3 c83_i32
  let v835 : Index := Scalar.indexCast v834
  ![v835.toNat]
def k0_off253 (v836 : BitVec 32) : Fin 1 → Nat :=
  let v837 : Index := Scalar.indexCast v836
  ![v837.toNat]

def k0_chk167 (v836 : BitVec 32) : Prop :=
  (∀ a, (k0_off253 v836) a + S1.size a ≤ S5120.size a)
theorem k0_off253_inb : ∀ (v836 : BitVec 32) (k0_hw167 : k0_chk167 v836), ∀ a, (k0_off253 v836) a + S1.size a ≤ S5120.size a := fun v836 k0_hw167 => k0_hw167

def k0_off254 (v838 : BitVec 32) : Fin 2 → Nat :=
  let v839 : Index := Scalar.indexCast v838
  let c0_174 : Index := 0#32
  ![v839.toNat, 0]

def k0_chk168 (v838 : BitVec 32) : Prop :=
  (∀ a, (k0_off254 v838) a + S1x128.size a ≤ S5120x128.size a)
theorem k0_off254_inb : ∀ (v838 : BitVec 32) (k0_hw168 : k0_chk168 v838), ∀ a, (k0_off254 v838) a + S1x128.size a ≤ S5120x128.size a := fun v838 k0_hw168 => k0_hw168

def k0_off255 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c84_i32 : BitVec 32 := 84#32
  let v844 : BitVec 32 := Scalar.addi v3 c84_i32
  let v845 : Index := Scalar.indexCast v844
  ![v845.toNat]
def k0_off256 (v846 : BitVec 32) : Fin 1 → Nat :=
  let v847 : Index := Scalar.indexCast v846
  ![v847.toNat]

def k0_chk169 (v846 : BitVec 32) : Prop :=
  (∀ a, (k0_off256 v846) a + S1.size a ≤ S5120.size a)
theorem k0_off256_inb : ∀ (v846 : BitVec 32) (k0_hw169 : k0_chk169 v846), ∀ a, (k0_off256 v846) a + S1.size a ≤ S5120.size a := fun v846 k0_hw169 => k0_hw169

def k0_off257 (v848 : BitVec 32) : Fin 2 → Nat :=
  let v849 : Index := Scalar.indexCast v848
  let c0_176 : Index := 0#32
  ![v849.toNat, 0]

def k0_chk170 (v848 : BitVec 32) : Prop :=
  (∀ a, (k0_off257 v848) a + S1x128.size a ≤ S5120x128.size a)
theorem k0_off257_inb : ∀ (v848 : BitVec 32) (k0_hw170 : k0_chk170 v848), ∀ a, (k0_off257 v848) a + S1x128.size a ≤ S5120x128.size a := fun v848 k0_hw170 => k0_hw170

def k0_off258 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c85_i32 : BitVec 32 := 85#32
  let v854 : BitVec 32 := Scalar.addi v3 c85_i32
  let v855 : Index := Scalar.indexCast v854
  ![v855.toNat]
def k0_off259 (v856 : BitVec 32) : Fin 1 → Nat :=
  let v857 : Index := Scalar.indexCast v856
  ![v857.toNat]

def k0_chk171 (v856 : BitVec 32) : Prop :=
  (∀ a, (k0_off259 v856) a + S1.size a ≤ S5120.size a)
theorem k0_off259_inb : ∀ (v856 : BitVec 32) (k0_hw171 : k0_chk171 v856), ∀ a, (k0_off259 v856) a + S1.size a ≤ S5120.size a := fun v856 k0_hw171 => k0_hw171

def k0_off260 (v858 : BitVec 32) : Fin 2 → Nat :=
  let v859 : Index := Scalar.indexCast v858
  let c0_178 : Index := 0#32
  ![v859.toNat, 0]

def k0_chk172 (v858 : BitVec 32) : Prop :=
  (∀ a, (k0_off260 v858) a + S1x128.size a ≤ S5120x128.size a)
theorem k0_off260_inb : ∀ (v858 : BitVec 32) (k0_hw172 : k0_chk172 v858), ∀ a, (k0_off260 v858) a + S1x128.size a ≤ S5120x128.size a := fun v858 k0_hw172 => k0_hw172

def k0_off261 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c86_i32 : BitVec 32 := 86#32
  let v864 : BitVec 32 := Scalar.addi v3 c86_i32
  let v865 : Index := Scalar.indexCast v864
  ![v865.toNat]
def k0_off262 (v866 : BitVec 32) : Fin 1 → Nat :=
  let v867 : Index := Scalar.indexCast v866
  ![v867.toNat]

def k0_chk173 (v866 : BitVec 32) : Prop :=
  (∀ a, (k0_off262 v866) a + S1.size a ≤ S5120.size a)
theorem k0_off262_inb : ∀ (v866 : BitVec 32) (k0_hw173 : k0_chk173 v866), ∀ a, (k0_off262 v866) a + S1.size a ≤ S5120.size a := fun v866 k0_hw173 => k0_hw173

def k0_off263 (v868 : BitVec 32) : Fin 2 → Nat :=
  let v869 : Index := Scalar.indexCast v868
  let c0_180 : Index := 0#32
  ![v869.toNat, 0]

def k0_chk174 (v868 : BitVec 32) : Prop :=
  (∀ a, (k0_off263 v868) a + S1x128.size a ≤ S5120x128.size a)
theorem k0_off263_inb : ∀ (v868 : BitVec 32) (k0_hw174 : k0_chk174 v868), ∀ a, (k0_off263 v868) a + S1x128.size a ≤ S5120x128.size a := fun v868 k0_hw174 => k0_hw174

def k0_off264 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c87_i32 : BitVec 32 := 87#32
  let v874 : BitVec 32 := Scalar.addi v3 c87_i32
  let v875 : Index := Scalar.indexCast v874
  ![v875.toNat]
def k0_off265 (v876 : BitVec 32) : Fin 1 → Nat :=
  let v877 : Index := Scalar.indexCast v876
  ![v877.toNat]

def k0_chk175 (v876 : BitVec 32) : Prop :=
  (∀ a, (k0_off265 v876) a + S1.size a ≤ S5120.size a)
theorem k0_off265_inb : ∀ (v876 : BitVec 32) (k0_hw175 : k0_chk175 v876), ∀ a, (k0_off265 v876) a + S1.size a ≤ S5120.size a := fun v876 k0_hw175 => k0_hw175

def k0_off266 (v878 : BitVec 32) : Fin 2 → Nat :=
  let v879 : Index := Scalar.indexCast v878
  let c0_182 : Index := 0#32
  ![v879.toNat, 0]

def k0_chk176 (v878 : BitVec 32) : Prop :=
  (∀ a, (k0_off266 v878) a + S1x128.size a ≤ S5120x128.size a)
theorem k0_off266_inb : ∀ (v878 : BitVec 32) (k0_hw176 : k0_chk176 v878), ∀ a, (k0_off266 v878) a + S1x128.size a ≤ S5120x128.size a := fun v878 k0_hw176 => k0_hw176

def k0_off267 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c88_i32 : BitVec 32 := 88#32
  let v884 : BitVec 32 := Scalar.addi v3 c88_i32
  let v885 : Index := Scalar.indexCast v884
  ![v885.toNat]
def k0_off268 (v886 : BitVec 32) : Fin 1 → Nat :=
  let v887 : Index := Scalar.indexCast v886
  ![v887.toNat]

def k0_chk177 (v886 : BitVec 32) : Prop :=
  (∀ a, (k0_off268 v886) a + S1.size a ≤ S5120.size a)
theorem k0_off268_inb : ∀ (v886 : BitVec 32) (k0_hw177 : k0_chk177 v886), ∀ a, (k0_off268 v886) a + S1.size a ≤ S5120.size a := fun v886 k0_hw177 => k0_hw177

def k0_off269 (v888 : BitVec 32) : Fin 2 → Nat :=
  let v889 : Index := Scalar.indexCast v888
  let c0_184 : Index := 0#32
  ![v889.toNat, 0]

def k0_chk178 (v888 : BitVec 32) : Prop :=
  (∀ a, (k0_off269 v888) a + S1x128.size a ≤ S5120x128.size a)
theorem k0_off269_inb : ∀ (v888 : BitVec 32) (k0_hw178 : k0_chk178 v888), ∀ a, (k0_off269 v888) a + S1x128.size a ≤ S5120x128.size a := fun v888 k0_hw178 => k0_hw178

def k0_off270 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c89_i32 : BitVec 32 := 89#32
  let v894 : BitVec 32 := Scalar.addi v3 c89_i32
  let v895 : Index := Scalar.indexCast v894
  ![v895.toNat]
def k0_off271 (v896 : BitVec 32) : Fin 1 → Nat :=
  let v897 : Index := Scalar.indexCast v896
  ![v897.toNat]

def k0_chk179 (v896 : BitVec 32) : Prop :=
  (∀ a, (k0_off271 v896) a + S1.size a ≤ S5120.size a)
theorem k0_off271_inb : ∀ (v896 : BitVec 32) (k0_hw179 : k0_chk179 v896), ∀ a, (k0_off271 v896) a + S1.size a ≤ S5120.size a := fun v896 k0_hw179 => k0_hw179

def k0_off272 (v898 : BitVec 32) : Fin 2 → Nat :=
  let v899 : Index := Scalar.indexCast v898
  let c0_186 : Index := 0#32
  ![v899.toNat, 0]

def k0_chk180 (v898 : BitVec 32) : Prop :=
  (∀ a, (k0_off272 v898) a + S1x128.size a ≤ S5120x128.size a)
theorem k0_off272_inb : ∀ (v898 : BitVec 32) (k0_hw180 : k0_chk180 v898), ∀ a, (k0_off272 v898) a + S1x128.size a ≤ S5120x128.size a := fun v898 k0_hw180 => k0_hw180

def k0_off273 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c90_i32 : BitVec 32 := 90#32
  let v904 : BitVec 32 := Scalar.addi v3 c90_i32
  let v905 : Index := Scalar.indexCast v904
  ![v905.toNat]
def k0_off274 (v906 : BitVec 32) : Fin 1 → Nat :=
  let v907 : Index := Scalar.indexCast v906
  ![v907.toNat]

def k0_chk181 (v906 : BitVec 32) : Prop :=
  (∀ a, (k0_off274 v906) a + S1.size a ≤ S5120.size a)
theorem k0_off274_inb : ∀ (v906 : BitVec 32) (k0_hw181 : k0_chk181 v906), ∀ a, (k0_off274 v906) a + S1.size a ≤ S5120.size a := fun v906 k0_hw181 => k0_hw181

def k0_off275 (v908 : BitVec 32) : Fin 2 → Nat :=
  let v909 : Index := Scalar.indexCast v908
  let c0_188 : Index := 0#32
  ![v909.toNat, 0]

def k0_chk182 (v908 : BitVec 32) : Prop :=
  (∀ a, (k0_off275 v908) a + S1x128.size a ≤ S5120x128.size a)
theorem k0_off275_inb : ∀ (v908 : BitVec 32) (k0_hw182 : k0_chk182 v908), ∀ a, (k0_off275 v908) a + S1x128.size a ≤ S5120x128.size a := fun v908 k0_hw182 => k0_hw182

def k0_off276 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c91_i32 : BitVec 32 := 91#32
  let v914 : BitVec 32 := Scalar.addi v3 c91_i32
  let v915 : Index := Scalar.indexCast v914
  ![v915.toNat]
def k0_off277 (v916 : BitVec 32) : Fin 1 → Nat :=
  let v917 : Index := Scalar.indexCast v916
  ![v917.toNat]

def k0_chk183 (v916 : BitVec 32) : Prop :=
  (∀ a, (k0_off277 v916) a + S1.size a ≤ S5120.size a)
theorem k0_off277_inb : ∀ (v916 : BitVec 32) (k0_hw183 : k0_chk183 v916), ∀ a, (k0_off277 v916) a + S1.size a ≤ S5120.size a := fun v916 k0_hw183 => k0_hw183

def k0_off278 (v918 : BitVec 32) : Fin 2 → Nat :=
  let v919 : Index := Scalar.indexCast v918
  let c0_190 : Index := 0#32
  ![v919.toNat, 0]

def k0_chk184 (v918 : BitVec 32) : Prop :=
  (∀ a, (k0_off278 v918) a + S1x128.size a ≤ S5120x128.size a)
theorem k0_off278_inb : ∀ (v918 : BitVec 32) (k0_hw184 : k0_chk184 v918), ∀ a, (k0_off278 v918) a + S1x128.size a ≤ S5120x128.size a := fun v918 k0_hw184 => k0_hw184

def k0_off279 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c92_i32 : BitVec 32 := 92#32
  let v924 : BitVec 32 := Scalar.addi v3 c92_i32
  let v925 : Index := Scalar.indexCast v924
  ![v925.toNat]
def k0_off280 (v926 : BitVec 32) : Fin 1 → Nat :=
  let v927 : Index := Scalar.indexCast v926
  ![v927.toNat]

def k0_chk185 (v926 : BitVec 32) : Prop :=
  (∀ a, (k0_off280 v926) a + S1.size a ≤ S5120.size a)
theorem k0_off280_inb : ∀ (v926 : BitVec 32) (k0_hw185 : k0_chk185 v926), ∀ a, (k0_off280 v926) a + S1.size a ≤ S5120.size a := fun v926 k0_hw185 => k0_hw185

def k0_off281 (v928 : BitVec 32) : Fin 2 → Nat :=
  let v929 : Index := Scalar.indexCast v928
  let c0_192 : Index := 0#32
  ![v929.toNat, 0]

def k0_chk186 (v928 : BitVec 32) : Prop :=
  (∀ a, (k0_off281 v928) a + S1x128.size a ≤ S5120x128.size a)
theorem k0_off281_inb : ∀ (v928 : BitVec 32) (k0_hw186 : k0_chk186 v928), ∀ a, (k0_off281 v928) a + S1x128.size a ≤ S5120x128.size a := fun v928 k0_hw186 => k0_hw186

def k0_off282 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c93_i32 : BitVec 32 := 93#32
  let v934 : BitVec 32 := Scalar.addi v3 c93_i32
  let v935 : Index := Scalar.indexCast v934
  ![v935.toNat]
def k0_off283 (v936 : BitVec 32) : Fin 1 → Nat :=
  let v937 : Index := Scalar.indexCast v936
  ![v937.toNat]

def k0_chk187 (v936 : BitVec 32) : Prop :=
  (∀ a, (k0_off283 v936) a + S1.size a ≤ S5120.size a)
theorem k0_off283_inb : ∀ (v936 : BitVec 32) (k0_hw187 : k0_chk187 v936), ∀ a, (k0_off283 v936) a + S1.size a ≤ S5120.size a := fun v936 k0_hw187 => k0_hw187

def k0_off284 (v938 : BitVec 32) : Fin 2 → Nat :=
  let v939 : Index := Scalar.indexCast v938
  let c0_194 : Index := 0#32
  ![v939.toNat, 0]

def k0_chk188 (v938 : BitVec 32) : Prop :=
  (∀ a, (k0_off284 v938) a + S1x128.size a ≤ S5120x128.size a)
theorem k0_off284_inb : ∀ (v938 : BitVec 32) (k0_hw188 : k0_chk188 v938), ∀ a, (k0_off284 v938) a + S1x128.size a ≤ S5120x128.size a := fun v938 k0_hw188 => k0_hw188

def k0_off285 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c94_i32 : BitVec 32 := 94#32
  let v944 : BitVec 32 := Scalar.addi v3 c94_i32
  let v945 : Index := Scalar.indexCast v944
  ![v945.toNat]
def k0_off286 (v946 : BitVec 32) : Fin 1 → Nat :=
  let v947 : Index := Scalar.indexCast v946
  ![v947.toNat]

def k0_chk189 (v946 : BitVec 32) : Prop :=
  (∀ a, (k0_off286 v946) a + S1.size a ≤ S5120.size a)
theorem k0_off286_inb : ∀ (v946 : BitVec 32) (k0_hw189 : k0_chk189 v946), ∀ a, (k0_off286 v946) a + S1.size a ≤ S5120.size a := fun v946 k0_hw189 => k0_hw189

def k0_off287 (v948 : BitVec 32) : Fin 2 → Nat :=
  let v949 : Index := Scalar.indexCast v948
  let c0_196 : Index := 0#32
  ![v949.toNat, 0]

def k0_chk190 (v948 : BitVec 32) : Prop :=
  (∀ a, (k0_off287 v948) a + S1x128.size a ≤ S5120x128.size a)
theorem k0_off287_inb : ∀ (v948 : BitVec 32) (k0_hw190 : k0_chk190 v948), ∀ a, (k0_off287 v948) a + S1x128.size a ≤ S5120x128.size a := fun v948 k0_hw190 => k0_hw190

def k0_off288 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c95_i32 : BitVec 32 := 95#32
  let v954 : BitVec 32 := Scalar.addi v3 c95_i32
  let v955 : Index := Scalar.indexCast v954
  ![v955.toNat]
def k0_off289 (v956 : BitVec 32) : Fin 1 → Nat :=
  let v957 : Index := Scalar.indexCast v956
  ![v957.toNat]

def k0_chk191 (v956 : BitVec 32) : Prop :=
  (∀ a, (k0_off289 v956) a + S1.size a ≤ S5120.size a)
theorem k0_off289_inb : ∀ (v956 : BitVec 32) (k0_hw191 : k0_chk191 v956), ∀ a, (k0_off289 v956) a + S1.size a ≤ S5120.size a := fun v956 k0_hw191 => k0_hw191

def k0_off290 (v958 : BitVec 32) : Fin 2 → Nat :=
  let v959 : Index := Scalar.indexCast v958
  let c0_198 : Index := 0#32
  ![v959.toNat, 0]

def k0_chk192 (v958 : BitVec 32) : Prop :=
  (∀ a, (k0_off290 v958) a + S1x128.size a ≤ S5120x128.size a)
theorem k0_off290_inb : ∀ (v958 : BitVec 32) (k0_hw192 : k0_chk192 v958), ∀ a, (k0_off290 v958) a + S1x128.size a ≤ S5120x128.size a := fun v958 k0_hw192 => k0_hw192

def k0_off291 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c96_i32 : BitVec 32 := 96#32
  let v964 : BitVec 32 := Scalar.addi v3 c96_i32
  let v965 : Index := Scalar.indexCast v964
  ![v965.toNat]
def k0_off292 (v966 : BitVec 32) : Fin 1 → Nat :=
  let v967 : Index := Scalar.indexCast v966
  ![v967.toNat]

def k0_chk193 (v966 : BitVec 32) : Prop :=
  (∀ a, (k0_off292 v966) a + S1.size a ≤ S5120.size a)
theorem k0_off292_inb : ∀ (v966 : BitVec 32) (k0_hw193 : k0_chk193 v966), ∀ a, (k0_off292 v966) a + S1.size a ≤ S5120.size a := fun v966 k0_hw193 => k0_hw193

def k0_off293 (v968 : BitVec 32) : Fin 2 → Nat :=
  let v969 : Index := Scalar.indexCast v968
  let c0_200 : Index := 0#32
  ![v969.toNat, 0]

def k0_chk194 (v968 : BitVec 32) : Prop :=
  (∀ a, (k0_off293 v968) a + S1x128.size a ≤ S5120x128.size a)
theorem k0_off293_inb : ∀ (v968 : BitVec 32) (k0_hw194 : k0_chk194 v968), ∀ a, (k0_off293 v968) a + S1x128.size a ≤ S5120x128.size a := fun v968 k0_hw194 => k0_hw194

def k0_off294 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c97_i32 : BitVec 32 := 97#32
  let v974 : BitVec 32 := Scalar.addi v3 c97_i32
  let v975 : Index := Scalar.indexCast v974
  ![v975.toNat]
def k0_off295 (v976 : BitVec 32) : Fin 1 → Nat :=
  let v977 : Index := Scalar.indexCast v976
  ![v977.toNat]

def k0_chk195 (v976 : BitVec 32) : Prop :=
  (∀ a, (k0_off295 v976) a + S1.size a ≤ S5120.size a)
theorem k0_off295_inb : ∀ (v976 : BitVec 32) (k0_hw195 : k0_chk195 v976), ∀ a, (k0_off295 v976) a + S1.size a ≤ S5120.size a := fun v976 k0_hw195 => k0_hw195

def k0_off296 (v978 : BitVec 32) : Fin 2 → Nat :=
  let v979 : Index := Scalar.indexCast v978
  let c0_202 : Index := 0#32
  ![v979.toNat, 0]

def k0_chk196 (v978 : BitVec 32) : Prop :=
  (∀ a, (k0_off296 v978) a + S1x128.size a ≤ S5120x128.size a)
theorem k0_off296_inb : ∀ (v978 : BitVec 32) (k0_hw196 : k0_chk196 v978), ∀ a, (k0_off296 v978) a + S1x128.size a ≤ S5120x128.size a := fun v978 k0_hw196 => k0_hw196

def k0_off297 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c98_i32 : BitVec 32 := 98#32
  let v984 : BitVec 32 := Scalar.addi v3 c98_i32
  let v985 : Index := Scalar.indexCast v984
  ![v985.toNat]
def k0_off298 (v986 : BitVec 32) : Fin 1 → Nat :=
  let v987 : Index := Scalar.indexCast v986
  ![v987.toNat]

def k0_chk197 (v986 : BitVec 32) : Prop :=
  (∀ a, (k0_off298 v986) a + S1.size a ≤ S5120.size a)
theorem k0_off298_inb : ∀ (v986 : BitVec 32) (k0_hw197 : k0_chk197 v986), ∀ a, (k0_off298 v986) a + S1.size a ≤ S5120.size a := fun v986 k0_hw197 => k0_hw197

def k0_off299 (v988 : BitVec 32) : Fin 2 → Nat :=
  let v989 : Index := Scalar.indexCast v988
  let c0_204 : Index := 0#32
  ![v989.toNat, 0]

def k0_chk198 (v988 : BitVec 32) : Prop :=
  (∀ a, (k0_off299 v988) a + S1x128.size a ≤ S5120x128.size a)
theorem k0_off299_inb : ∀ (v988 : BitVec 32) (k0_hw198 : k0_chk198 v988), ∀ a, (k0_off299 v988) a + S1x128.size a ≤ S5120x128.size a := fun v988 k0_hw198 => k0_hw198

def k0_off300 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c99_i32 : BitVec 32 := 99#32
  let v994 : BitVec 32 := Scalar.addi v3 c99_i32
  let v995 : Index := Scalar.indexCast v994
  ![v995.toNat]
def k0_off301 (v996 : BitVec 32) : Fin 1 → Nat :=
  let v997 : Index := Scalar.indexCast v996
  ![v997.toNat]

def k0_chk199 (v996 : BitVec 32) : Prop :=
  (∀ a, (k0_off301 v996) a + S1.size a ≤ S5120.size a)
theorem k0_off301_inb : ∀ (v996 : BitVec 32) (k0_hw199 : k0_chk199 v996), ∀ a, (k0_off301 v996) a + S1.size a ≤ S5120.size a := fun v996 k0_hw199 => k0_hw199

def k0_off302 (v998 : BitVec 32) : Fin 2 → Nat :=
  let v999 : Index := Scalar.indexCast v998
  let c0_206 : Index := 0#32
  ![v999.toNat, 0]

def k0_chk200 (v998 : BitVec 32) : Prop :=
  (∀ a, (k0_off302 v998) a + S1x128.size a ≤ S5120x128.size a)
theorem k0_off302_inb : ∀ (v998 : BitVec 32) (k0_hw200 : k0_chk200 v998), ∀ a, (k0_off302 v998) a + S1x128.size a ≤ S5120x128.size a := fun v998 k0_hw200 => k0_hw200

def k0_off303 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c100_i32 : BitVec 32 := 100#32
  let v1004 : BitVec 32 := Scalar.addi v3 c100_i32
  let v1005 : Index := Scalar.indexCast v1004
  ![v1005.toNat]
def k0_off304 (v1006 : BitVec 32) : Fin 1 → Nat :=
  let v1007 : Index := Scalar.indexCast v1006
  ![v1007.toNat]

def k0_chk201 (v1006 : BitVec 32) : Prop :=
  (∀ a, (k0_off304 v1006) a + S1.size a ≤ S5120.size a)
theorem k0_off304_inb : ∀ (v1006 : BitVec 32) (k0_hw201 : k0_chk201 v1006), ∀ a, (k0_off304 v1006) a + S1.size a ≤ S5120.size a := fun v1006 k0_hw201 => k0_hw201

def k0_off305 (v1008 : BitVec 32) : Fin 2 → Nat :=
  let v1009 : Index := Scalar.indexCast v1008
  let c0_208 : Index := 0#32
  ![v1009.toNat, 0]

def k0_chk202 (v1008 : BitVec 32) : Prop :=
  (∀ a, (k0_off305 v1008) a + S1x128.size a ≤ S5120x128.size a)
theorem k0_off305_inb : ∀ (v1008 : BitVec 32) (k0_hw202 : k0_chk202 v1008), ∀ a, (k0_off305 v1008) a + S1x128.size a ≤ S5120x128.size a := fun v1008 k0_hw202 => k0_hw202

def k0_off306 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c101_i32 : BitVec 32 := 101#32
  let v1014 : BitVec 32 := Scalar.addi v3 c101_i32
  let v1015 : Index := Scalar.indexCast v1014
  ![v1015.toNat]
def k0_off307 (v1016 : BitVec 32) : Fin 1 → Nat :=
  let v1017 : Index := Scalar.indexCast v1016
  ![v1017.toNat]

def k0_chk203 (v1016 : BitVec 32) : Prop :=
  (∀ a, (k0_off307 v1016) a + S1.size a ≤ S5120.size a)
theorem k0_off307_inb : ∀ (v1016 : BitVec 32) (k0_hw203 : k0_chk203 v1016), ∀ a, (k0_off307 v1016) a + S1.size a ≤ S5120.size a := fun v1016 k0_hw203 => k0_hw203

def k0_off308 (v1018 : BitVec 32) : Fin 2 → Nat :=
  let v1019 : Index := Scalar.indexCast v1018
  let c0_210 : Index := 0#32
  ![v1019.toNat, 0]

def k0_chk204 (v1018 : BitVec 32) : Prop :=
  (∀ a, (k0_off308 v1018) a + S1x128.size a ≤ S5120x128.size a)
theorem k0_off308_inb : ∀ (v1018 : BitVec 32) (k0_hw204 : k0_chk204 v1018), ∀ a, (k0_off308 v1018) a + S1x128.size a ≤ S5120x128.size a := fun v1018 k0_hw204 => k0_hw204

def k0_off309 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c102_i32 : BitVec 32 := 102#32
  let v1024 : BitVec 32 := Scalar.addi v3 c102_i32
  let v1025 : Index := Scalar.indexCast v1024
  ![v1025.toNat]
def k0_off310 (v1026 : BitVec 32) : Fin 1 → Nat :=
  let v1027 : Index := Scalar.indexCast v1026
  ![v1027.toNat]

def k0_chk205 (v1026 : BitVec 32) : Prop :=
  (∀ a, (k0_off310 v1026) a + S1.size a ≤ S5120.size a)
theorem k0_off310_inb : ∀ (v1026 : BitVec 32) (k0_hw205 : k0_chk205 v1026), ∀ a, (k0_off310 v1026) a + S1.size a ≤ S5120.size a := fun v1026 k0_hw205 => k0_hw205

def k0_off311 (v1028 : BitVec 32) : Fin 2 → Nat :=
  let v1029 : Index := Scalar.indexCast v1028
  let c0_212 : Index := 0#32
  ![v1029.toNat, 0]

def k0_chk206 (v1028 : BitVec 32) : Prop :=
  (∀ a, (k0_off311 v1028) a + S1x128.size a ≤ S5120x128.size a)
theorem k0_off311_inb : ∀ (v1028 : BitVec 32) (k0_hw206 : k0_chk206 v1028), ∀ a, (k0_off311 v1028) a + S1x128.size a ≤ S5120x128.size a := fun v1028 k0_hw206 => k0_hw206

def k0_off312 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c103_i32 : BitVec 32 := 103#32
  let v1034 : BitVec 32 := Scalar.addi v3 c103_i32
  let v1035 : Index := Scalar.indexCast v1034
  ![v1035.toNat]
def k0_off313 (v1036 : BitVec 32) : Fin 1 → Nat :=
  let v1037 : Index := Scalar.indexCast v1036
  ![v1037.toNat]

def k0_chk207 (v1036 : BitVec 32) : Prop :=
  (∀ a, (k0_off313 v1036) a + S1.size a ≤ S5120.size a)
theorem k0_off313_inb : ∀ (v1036 : BitVec 32) (k0_hw207 : k0_chk207 v1036), ∀ a, (k0_off313 v1036) a + S1.size a ≤ S5120.size a := fun v1036 k0_hw207 => k0_hw207

def k0_off314 (v1038 : BitVec 32) : Fin 2 → Nat :=
  let v1039 : Index := Scalar.indexCast v1038
  let c0_214 : Index := 0#32
  ![v1039.toNat, 0]

def k0_chk208 (v1038 : BitVec 32) : Prop :=
  (∀ a, (k0_off314 v1038) a + S1x128.size a ≤ S5120x128.size a)
theorem k0_off314_inb : ∀ (v1038 : BitVec 32) (k0_hw208 : k0_chk208 v1038), ∀ a, (k0_off314 v1038) a + S1x128.size a ≤ S5120x128.size a := fun v1038 k0_hw208 => k0_hw208

def k0_off315 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c104_i32 : BitVec 32 := 104#32
  let v1044 : BitVec 32 := Scalar.addi v3 c104_i32
  let v1045 : Index := Scalar.indexCast v1044
  ![v1045.toNat]
def k0_off316 (v1046 : BitVec 32) : Fin 1 → Nat :=
  let v1047 : Index := Scalar.indexCast v1046
  ![v1047.toNat]

def k0_chk209 (v1046 : BitVec 32) : Prop :=
  (∀ a, (k0_off316 v1046) a + S1.size a ≤ S5120.size a)
theorem k0_off316_inb : ∀ (v1046 : BitVec 32) (k0_hw209 : k0_chk209 v1046), ∀ a, (k0_off316 v1046) a + S1.size a ≤ S5120.size a := fun v1046 k0_hw209 => k0_hw209

def k0_off317 (v1048 : BitVec 32) : Fin 2 → Nat :=
  let v1049 : Index := Scalar.indexCast v1048
  let c0_216 : Index := 0#32
  ![v1049.toNat, 0]

def k0_chk210 (v1048 : BitVec 32) : Prop :=
  (∀ a, (k0_off317 v1048) a + S1x128.size a ≤ S5120x128.size a)
theorem k0_off317_inb : ∀ (v1048 : BitVec 32) (k0_hw210 : k0_chk210 v1048), ∀ a, (k0_off317 v1048) a + S1x128.size a ≤ S5120x128.size a := fun v1048 k0_hw210 => k0_hw210

def k0_off318 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c105_i32 : BitVec 32 := 105#32
  let v1054 : BitVec 32 := Scalar.addi v3 c105_i32
  let v1055 : Index := Scalar.indexCast v1054
  ![v1055.toNat]
def k0_off319 (v1056 : BitVec 32) : Fin 1 → Nat :=
  let v1057 : Index := Scalar.indexCast v1056
  ![v1057.toNat]

def k0_chk211 (v1056 : BitVec 32) : Prop :=
  (∀ a, (k0_off319 v1056) a + S1.size a ≤ S5120.size a)
theorem k0_off319_inb : ∀ (v1056 : BitVec 32) (k0_hw211 : k0_chk211 v1056), ∀ a, (k0_off319 v1056) a + S1.size a ≤ S5120.size a := fun v1056 k0_hw211 => k0_hw211

def k0_off320 (v1058 : BitVec 32) : Fin 2 → Nat :=
  let v1059 : Index := Scalar.indexCast v1058
  let c0_218 : Index := 0#32
  ![v1059.toNat, 0]

def k0_chk212 (v1058 : BitVec 32) : Prop :=
  (∀ a, (k0_off320 v1058) a + S1x128.size a ≤ S5120x128.size a)
theorem k0_off320_inb : ∀ (v1058 : BitVec 32) (k0_hw212 : k0_chk212 v1058), ∀ a, (k0_off320 v1058) a + S1x128.size a ≤ S5120x128.size a := fun v1058 k0_hw212 => k0_hw212

def k0_off321 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c106_i32 : BitVec 32 := 106#32
  let v1064 : BitVec 32 := Scalar.addi v3 c106_i32
  let v1065 : Index := Scalar.indexCast v1064
  ![v1065.toNat]
def k0_off322 (v1066 : BitVec 32) : Fin 1 → Nat :=
  let v1067 : Index := Scalar.indexCast v1066
  ![v1067.toNat]

def k0_chk213 (v1066 : BitVec 32) : Prop :=
  (∀ a, (k0_off322 v1066) a + S1.size a ≤ S5120.size a)
theorem k0_off322_inb : ∀ (v1066 : BitVec 32) (k0_hw213 : k0_chk213 v1066), ∀ a, (k0_off322 v1066) a + S1.size a ≤ S5120.size a := fun v1066 k0_hw213 => k0_hw213

def k0_off323 (v1068 : BitVec 32) : Fin 2 → Nat :=
  let v1069 : Index := Scalar.indexCast v1068
  let c0_220 : Index := 0#32
  ![v1069.toNat, 0]

def k0_chk214 (v1068 : BitVec 32) : Prop :=
  (∀ a, (k0_off323 v1068) a + S1x128.size a ≤ S5120x128.size a)
theorem k0_off323_inb : ∀ (v1068 : BitVec 32) (k0_hw214 : k0_chk214 v1068), ∀ a, (k0_off323 v1068) a + S1x128.size a ≤ S5120x128.size a := fun v1068 k0_hw214 => k0_hw214

def k0_off324 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c107_i32 : BitVec 32 := 107#32
  let v1074 : BitVec 32 := Scalar.addi v3 c107_i32
  let v1075 : Index := Scalar.indexCast v1074
  ![v1075.toNat]
def k0_off325 (v1076 : BitVec 32) : Fin 1 → Nat :=
  let v1077 : Index := Scalar.indexCast v1076
  ![v1077.toNat]

def k0_chk215 (v1076 : BitVec 32) : Prop :=
  (∀ a, (k0_off325 v1076) a + S1.size a ≤ S5120.size a)
theorem k0_off325_inb : ∀ (v1076 : BitVec 32) (k0_hw215 : k0_chk215 v1076), ∀ a, (k0_off325 v1076) a + S1.size a ≤ S5120.size a := fun v1076 k0_hw215 => k0_hw215

def k0_off326 (v1078 : BitVec 32) : Fin 2 → Nat :=
  let v1079 : Index := Scalar.indexCast v1078
  let c0_222 : Index := 0#32
  ![v1079.toNat, 0]

def k0_chk216 (v1078 : BitVec 32) : Prop :=
  (∀ a, (k0_off326 v1078) a + S1x128.size a ≤ S5120x128.size a)
theorem k0_off326_inb : ∀ (v1078 : BitVec 32) (k0_hw216 : k0_chk216 v1078), ∀ a, (k0_off326 v1078) a + S1x128.size a ≤ S5120x128.size a := fun v1078 k0_hw216 => k0_hw216

def k0_off327 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c108_i32 : BitVec 32 := 108#32
  let v1084 : BitVec 32 := Scalar.addi v3 c108_i32
  let v1085 : Index := Scalar.indexCast v1084
  ![v1085.toNat]
def k0_off328 (v1086 : BitVec 32) : Fin 1 → Nat :=
  let v1087 : Index := Scalar.indexCast v1086
  ![v1087.toNat]

def k0_chk217 (v1086 : BitVec 32) : Prop :=
  (∀ a, (k0_off328 v1086) a + S1.size a ≤ S5120.size a)
theorem k0_off328_inb : ∀ (v1086 : BitVec 32) (k0_hw217 : k0_chk217 v1086), ∀ a, (k0_off328 v1086) a + S1.size a ≤ S5120.size a := fun v1086 k0_hw217 => k0_hw217

def k0_off329 (v1088 : BitVec 32) : Fin 2 → Nat :=
  let v1089 : Index := Scalar.indexCast v1088
  let c0_224 : Index := 0#32
  ![v1089.toNat, 0]

def k0_chk218 (v1088 : BitVec 32) : Prop :=
  (∀ a, (k0_off329 v1088) a + S1x128.size a ≤ S5120x128.size a)
theorem k0_off329_inb : ∀ (v1088 : BitVec 32) (k0_hw218 : k0_chk218 v1088), ∀ a, (k0_off329 v1088) a + S1x128.size a ≤ S5120x128.size a := fun v1088 k0_hw218 => k0_hw218

def k0_off330 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c109_i32 : BitVec 32 := 109#32
  let v1094 : BitVec 32 := Scalar.addi v3 c109_i32
  let v1095 : Index := Scalar.indexCast v1094
  ![v1095.toNat]
def k0_off331 (v1096 : BitVec 32) : Fin 1 → Nat :=
  let v1097 : Index := Scalar.indexCast v1096
  ![v1097.toNat]

def k0_chk219 (v1096 : BitVec 32) : Prop :=
  (∀ a, (k0_off331 v1096) a + S1.size a ≤ S5120.size a)
theorem k0_off331_inb : ∀ (v1096 : BitVec 32) (k0_hw219 : k0_chk219 v1096), ∀ a, (k0_off331 v1096) a + S1.size a ≤ S5120.size a := fun v1096 k0_hw219 => k0_hw219

def k0_off332 (v1098 : BitVec 32) : Fin 2 → Nat :=
  let v1099 : Index := Scalar.indexCast v1098
  let c0_226 : Index := 0#32
  ![v1099.toNat, 0]

def k0_chk220 (v1098 : BitVec 32) : Prop :=
  (∀ a, (k0_off332 v1098) a + S1x128.size a ≤ S5120x128.size a)
theorem k0_off332_inb : ∀ (v1098 : BitVec 32) (k0_hw220 : k0_chk220 v1098), ∀ a, (k0_off332 v1098) a + S1x128.size a ≤ S5120x128.size a := fun v1098 k0_hw220 => k0_hw220

def k0_off333 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c110_i32 : BitVec 32 := 110#32
  let v1104 : BitVec 32 := Scalar.addi v3 c110_i32
  let v1105 : Index := Scalar.indexCast v1104
  ![v1105.toNat]
def k0_off334 (v1106 : BitVec 32) : Fin 1 → Nat :=
  let v1107 : Index := Scalar.indexCast v1106
  ![v1107.toNat]

def k0_chk221 (v1106 : BitVec 32) : Prop :=
  (∀ a, (k0_off334 v1106) a + S1.size a ≤ S5120.size a)
theorem k0_off334_inb : ∀ (v1106 : BitVec 32) (k0_hw221 : k0_chk221 v1106), ∀ a, (k0_off334 v1106) a + S1.size a ≤ S5120.size a := fun v1106 k0_hw221 => k0_hw221

def k0_off335 (v1108 : BitVec 32) : Fin 2 → Nat :=
  let v1109 : Index := Scalar.indexCast v1108
  let c0_228 : Index := 0#32
  ![v1109.toNat, 0]

def k0_chk222 (v1108 : BitVec 32) : Prop :=
  (∀ a, (k0_off335 v1108) a + S1x128.size a ≤ S5120x128.size a)
theorem k0_off335_inb : ∀ (v1108 : BitVec 32) (k0_hw222 : k0_chk222 v1108), ∀ a, (k0_off335 v1108) a + S1x128.size a ≤ S5120x128.size a := fun v1108 k0_hw222 => k0_hw222

def k0_off336 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c111_i32 : BitVec 32 := 111#32
  let v1114 : BitVec 32 := Scalar.addi v3 c111_i32
  let v1115 : Index := Scalar.indexCast v1114
  ![v1115.toNat]
def k0_off337 (v1116 : BitVec 32) : Fin 1 → Nat :=
  let v1117 : Index := Scalar.indexCast v1116
  ![v1117.toNat]

def k0_chk223 (v1116 : BitVec 32) : Prop :=
  (∀ a, (k0_off337 v1116) a + S1.size a ≤ S5120.size a)
theorem k0_off337_inb : ∀ (v1116 : BitVec 32) (k0_hw223 : k0_chk223 v1116), ∀ a, (k0_off337 v1116) a + S1.size a ≤ S5120.size a := fun v1116 k0_hw223 => k0_hw223

def k0_off338 (v1118 : BitVec 32) : Fin 2 → Nat :=
  let v1119 : Index := Scalar.indexCast v1118
  let c0_230 : Index := 0#32
  ![v1119.toNat, 0]

def k0_chk224 (v1118 : BitVec 32) : Prop :=
  (∀ a, (k0_off338 v1118) a + S1x128.size a ≤ S5120x128.size a)
theorem k0_off338_inb : ∀ (v1118 : BitVec 32) (k0_hw224 : k0_chk224 v1118), ∀ a, (k0_off338 v1118) a + S1x128.size a ≤ S5120x128.size a := fun v1118 k0_hw224 => k0_hw224

def k0_off339 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c112_i32 : BitVec 32 := 112#32
  let v1124 : BitVec 32 := Scalar.addi v3 c112_i32
  let v1125 : Index := Scalar.indexCast v1124
  ![v1125.toNat]
def k0_off340 (v1126 : BitVec 32) : Fin 1 → Nat :=
  let v1127 : Index := Scalar.indexCast v1126
  ![v1127.toNat]

def k0_chk225 (v1126 : BitVec 32) : Prop :=
  (∀ a, (k0_off340 v1126) a + S1.size a ≤ S5120.size a)
theorem k0_off340_inb : ∀ (v1126 : BitVec 32) (k0_hw225 : k0_chk225 v1126), ∀ a, (k0_off340 v1126) a + S1.size a ≤ S5120.size a := fun v1126 k0_hw225 => k0_hw225

def k0_off341 (v1128 : BitVec 32) : Fin 2 → Nat :=
  let v1129 : Index := Scalar.indexCast v1128
  let c0_232 : Index := 0#32
  ![v1129.toNat, 0]

def k0_chk226 (v1128 : BitVec 32) : Prop :=
  (∀ a, (k0_off341 v1128) a + S1x128.size a ≤ S5120x128.size a)
theorem k0_off341_inb : ∀ (v1128 : BitVec 32) (k0_hw226 : k0_chk226 v1128), ∀ a, (k0_off341 v1128) a + S1x128.size a ≤ S5120x128.size a := fun v1128 k0_hw226 => k0_hw226

def k0_off342 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c113_i32 : BitVec 32 := 113#32
  let v1134 : BitVec 32 := Scalar.addi v3 c113_i32
  let v1135 : Index := Scalar.indexCast v1134
  ![v1135.toNat]
def k0_off343 (v1136 : BitVec 32) : Fin 1 → Nat :=
  let v1137 : Index := Scalar.indexCast v1136
  ![v1137.toNat]

def k0_chk227 (v1136 : BitVec 32) : Prop :=
  (∀ a, (k0_off343 v1136) a + S1.size a ≤ S5120.size a)
theorem k0_off343_inb : ∀ (v1136 : BitVec 32) (k0_hw227 : k0_chk227 v1136), ∀ a, (k0_off343 v1136) a + S1.size a ≤ S5120.size a := fun v1136 k0_hw227 => k0_hw227

def k0_off344 (v1138 : BitVec 32) : Fin 2 → Nat :=
  let v1139 : Index := Scalar.indexCast v1138
  let c0_234 : Index := 0#32
  ![v1139.toNat, 0]

def k0_chk228 (v1138 : BitVec 32) : Prop :=
  (∀ a, (k0_off344 v1138) a + S1x128.size a ≤ S5120x128.size a)
theorem k0_off344_inb : ∀ (v1138 : BitVec 32) (k0_hw228 : k0_chk228 v1138), ∀ a, (k0_off344 v1138) a + S1x128.size a ≤ S5120x128.size a := fun v1138 k0_hw228 => k0_hw228

def k0_off345 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c114_i32 : BitVec 32 := 114#32
  let v1144 : BitVec 32 := Scalar.addi v3 c114_i32
  let v1145 : Index := Scalar.indexCast v1144
  ![v1145.toNat]
def k0_off346 (v1146 : BitVec 32) : Fin 1 → Nat :=
  let v1147 : Index := Scalar.indexCast v1146
  ![v1147.toNat]

def k0_chk229 (v1146 : BitVec 32) : Prop :=
  (∀ a, (k0_off346 v1146) a + S1.size a ≤ S5120.size a)
theorem k0_off346_inb : ∀ (v1146 : BitVec 32) (k0_hw229 : k0_chk229 v1146), ∀ a, (k0_off346 v1146) a + S1.size a ≤ S5120.size a := fun v1146 k0_hw229 => k0_hw229

def k0_off347 (v1148 : BitVec 32) : Fin 2 → Nat :=
  let v1149 : Index := Scalar.indexCast v1148
  let c0_236 : Index := 0#32
  ![v1149.toNat, 0]

def k0_chk230 (v1148 : BitVec 32) : Prop :=
  (∀ a, (k0_off347 v1148) a + S1x128.size a ≤ S5120x128.size a)
theorem k0_off347_inb : ∀ (v1148 : BitVec 32) (k0_hw230 : k0_chk230 v1148), ∀ a, (k0_off347 v1148) a + S1x128.size a ≤ S5120x128.size a := fun v1148 k0_hw230 => k0_hw230

def k0_off348 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c115_i32 : BitVec 32 := 115#32
  let v1154 : BitVec 32 := Scalar.addi v3 c115_i32
  let v1155 : Index := Scalar.indexCast v1154
  ![v1155.toNat]
def k0_off349 (v1156 : BitVec 32) : Fin 1 → Nat :=
  let v1157 : Index := Scalar.indexCast v1156
  ![v1157.toNat]

def k0_chk231 (v1156 : BitVec 32) : Prop :=
  (∀ a, (k0_off349 v1156) a + S1.size a ≤ S5120.size a)
theorem k0_off349_inb : ∀ (v1156 : BitVec 32) (k0_hw231 : k0_chk231 v1156), ∀ a, (k0_off349 v1156) a + S1.size a ≤ S5120.size a := fun v1156 k0_hw231 => k0_hw231

def k0_off350 (v1158 : BitVec 32) : Fin 2 → Nat :=
  let v1159 : Index := Scalar.indexCast v1158
  let c0_238 : Index := 0#32
  ![v1159.toNat, 0]

def k0_chk232 (v1158 : BitVec 32) : Prop :=
  (∀ a, (k0_off350 v1158) a + S1x128.size a ≤ S5120x128.size a)
theorem k0_off350_inb : ∀ (v1158 : BitVec 32) (k0_hw232 : k0_chk232 v1158), ∀ a, (k0_off350 v1158) a + S1x128.size a ≤ S5120x128.size a := fun v1158 k0_hw232 => k0_hw232

def k0_off351 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c116_i32 : BitVec 32 := 116#32
  let v1164 : BitVec 32 := Scalar.addi v3 c116_i32
  let v1165 : Index := Scalar.indexCast v1164
  ![v1165.toNat]
def k0_off352 (v1166 : BitVec 32) : Fin 1 → Nat :=
  let v1167 : Index := Scalar.indexCast v1166
  ![v1167.toNat]

def k0_chk233 (v1166 : BitVec 32) : Prop :=
  (∀ a, (k0_off352 v1166) a + S1.size a ≤ S5120.size a)
theorem k0_off352_inb : ∀ (v1166 : BitVec 32) (k0_hw233 : k0_chk233 v1166), ∀ a, (k0_off352 v1166) a + S1.size a ≤ S5120.size a := fun v1166 k0_hw233 => k0_hw233

def k0_off353 (v1168 : BitVec 32) : Fin 2 → Nat :=
  let v1169 : Index := Scalar.indexCast v1168
  let c0_240 : Index := 0#32
  ![v1169.toNat, 0]

def k0_chk234 (v1168 : BitVec 32) : Prop :=
  (∀ a, (k0_off353 v1168) a + S1x128.size a ≤ S5120x128.size a)
theorem k0_off353_inb : ∀ (v1168 : BitVec 32) (k0_hw234 : k0_chk234 v1168), ∀ a, (k0_off353 v1168) a + S1x128.size a ≤ S5120x128.size a := fun v1168 k0_hw234 => k0_hw234

def k0_off354 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c117_i32 : BitVec 32 := 117#32
  let v1174 : BitVec 32 := Scalar.addi v3 c117_i32
  let v1175 : Index := Scalar.indexCast v1174
  ![v1175.toNat]
def k0_off355 (v1176 : BitVec 32) : Fin 1 → Nat :=
  let v1177 : Index := Scalar.indexCast v1176
  ![v1177.toNat]

def k0_chk235 (v1176 : BitVec 32) : Prop :=
  (∀ a, (k0_off355 v1176) a + S1.size a ≤ S5120.size a)
theorem k0_off355_inb : ∀ (v1176 : BitVec 32) (k0_hw235 : k0_chk235 v1176), ∀ a, (k0_off355 v1176) a + S1.size a ≤ S5120.size a := fun v1176 k0_hw235 => k0_hw235

def k0_off356 (v1178 : BitVec 32) : Fin 2 → Nat :=
  let v1179 : Index := Scalar.indexCast v1178
  let c0_242 : Index := 0#32
  ![v1179.toNat, 0]

def k0_chk236 (v1178 : BitVec 32) : Prop :=
  (∀ a, (k0_off356 v1178) a + S1x128.size a ≤ S5120x128.size a)
theorem k0_off356_inb : ∀ (v1178 : BitVec 32) (k0_hw236 : k0_chk236 v1178), ∀ a, (k0_off356 v1178) a + S1x128.size a ≤ S5120x128.size a := fun v1178 k0_hw236 => k0_hw236

def k0_off357 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c118_i32 : BitVec 32 := 118#32
  let v1184 : BitVec 32 := Scalar.addi v3 c118_i32
  let v1185 : Index := Scalar.indexCast v1184
  ![v1185.toNat]
def k0_off358 (v1186 : BitVec 32) : Fin 1 → Nat :=
  let v1187 : Index := Scalar.indexCast v1186
  ![v1187.toNat]

def k0_chk237 (v1186 : BitVec 32) : Prop :=
  (∀ a, (k0_off358 v1186) a + S1.size a ≤ S5120.size a)
theorem k0_off358_inb : ∀ (v1186 : BitVec 32) (k0_hw237 : k0_chk237 v1186), ∀ a, (k0_off358 v1186) a + S1.size a ≤ S5120.size a := fun v1186 k0_hw237 => k0_hw237

def k0_off359 (v1188 : BitVec 32) : Fin 2 → Nat :=
  let v1189 : Index := Scalar.indexCast v1188
  let c0_244 : Index := 0#32
  ![v1189.toNat, 0]

def k0_chk238 (v1188 : BitVec 32) : Prop :=
  (∀ a, (k0_off359 v1188) a + S1x128.size a ≤ S5120x128.size a)
theorem k0_off359_inb : ∀ (v1188 : BitVec 32) (k0_hw238 : k0_chk238 v1188), ∀ a, (k0_off359 v1188) a + S1x128.size a ≤ S5120x128.size a := fun v1188 k0_hw238 => k0_hw238

def k0_off360 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c119_i32 : BitVec 32 := 119#32
  let v1194 : BitVec 32 := Scalar.addi v3 c119_i32
  let v1195 : Index := Scalar.indexCast v1194
  ![v1195.toNat]
def k0_off361 (v1196 : BitVec 32) : Fin 1 → Nat :=
  let v1197 : Index := Scalar.indexCast v1196
  ![v1197.toNat]

def k0_chk239 (v1196 : BitVec 32) : Prop :=
  (∀ a, (k0_off361 v1196) a + S1.size a ≤ S5120.size a)
theorem k0_off361_inb : ∀ (v1196 : BitVec 32) (k0_hw239 : k0_chk239 v1196), ∀ a, (k0_off361 v1196) a + S1.size a ≤ S5120.size a := fun v1196 k0_hw239 => k0_hw239

def k0_off362 (v1198 : BitVec 32) : Fin 2 → Nat :=
  let v1199 : Index := Scalar.indexCast v1198
  let c0_246 : Index := 0#32
  ![v1199.toNat, 0]

def k0_chk240 (v1198 : BitVec 32) : Prop :=
  (∀ a, (k0_off362 v1198) a + S1x128.size a ≤ S5120x128.size a)
theorem k0_off362_inb : ∀ (v1198 : BitVec 32) (k0_hw240 : k0_chk240 v1198), ∀ a, (k0_off362 v1198) a + S1x128.size a ≤ S5120x128.size a := fun v1198 k0_hw240 => k0_hw240

def k0_off363 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c120_i32 : BitVec 32 := 120#32
  let v1204 : BitVec 32 := Scalar.addi v3 c120_i32
  let v1205 : Index := Scalar.indexCast v1204
  ![v1205.toNat]
def k0_off364 (v1206 : BitVec 32) : Fin 1 → Nat :=
  let v1207 : Index := Scalar.indexCast v1206
  ![v1207.toNat]

def k0_chk241 (v1206 : BitVec 32) : Prop :=
  (∀ a, (k0_off364 v1206) a + S1.size a ≤ S5120.size a)
theorem k0_off364_inb : ∀ (v1206 : BitVec 32) (k0_hw241 : k0_chk241 v1206), ∀ a, (k0_off364 v1206) a + S1.size a ≤ S5120.size a := fun v1206 k0_hw241 => k0_hw241

def k0_off365 (v1208 : BitVec 32) : Fin 2 → Nat :=
  let v1209 : Index := Scalar.indexCast v1208
  let c0_248 : Index := 0#32
  ![v1209.toNat, 0]

def k0_chk242 (v1208 : BitVec 32) : Prop :=
  (∀ a, (k0_off365 v1208) a + S1x128.size a ≤ S5120x128.size a)
theorem k0_off365_inb : ∀ (v1208 : BitVec 32) (k0_hw242 : k0_chk242 v1208), ∀ a, (k0_off365 v1208) a + S1x128.size a ≤ S5120x128.size a := fun v1208 k0_hw242 => k0_hw242

def k0_off366 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c121_i32 : BitVec 32 := 121#32
  let v1214 : BitVec 32 := Scalar.addi v3 c121_i32
  let v1215 : Index := Scalar.indexCast v1214
  ![v1215.toNat]
def k0_off367 (v1216 : BitVec 32) : Fin 1 → Nat :=
  let v1217 : Index := Scalar.indexCast v1216
  ![v1217.toNat]

def k0_chk243 (v1216 : BitVec 32) : Prop :=
  (∀ a, (k0_off367 v1216) a + S1.size a ≤ S5120.size a)
theorem k0_off367_inb : ∀ (v1216 : BitVec 32) (k0_hw243 : k0_chk243 v1216), ∀ a, (k0_off367 v1216) a + S1.size a ≤ S5120.size a := fun v1216 k0_hw243 => k0_hw243

def k0_off368 (v1218 : BitVec 32) : Fin 2 → Nat :=
  let v1219 : Index := Scalar.indexCast v1218
  let c0_250 : Index := 0#32
  ![v1219.toNat, 0]

def k0_chk244 (v1218 : BitVec 32) : Prop :=
  (∀ a, (k0_off368 v1218) a + S1x128.size a ≤ S5120x128.size a)
theorem k0_off368_inb : ∀ (v1218 : BitVec 32) (k0_hw244 : k0_chk244 v1218), ∀ a, (k0_off368 v1218) a + S1x128.size a ≤ S5120x128.size a := fun v1218 k0_hw244 => k0_hw244

def k0_off369 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c122_i32 : BitVec 32 := 122#32
  let v1224 : BitVec 32 := Scalar.addi v3 c122_i32
  let v1225 : Index := Scalar.indexCast v1224
  ![v1225.toNat]
def k0_off370 (v1226 : BitVec 32) : Fin 1 → Nat :=
  let v1227 : Index := Scalar.indexCast v1226
  ![v1227.toNat]

def k0_chk245 (v1226 : BitVec 32) : Prop :=
  (∀ a, (k0_off370 v1226) a + S1.size a ≤ S5120.size a)
theorem k0_off370_inb : ∀ (v1226 : BitVec 32) (k0_hw245 : k0_chk245 v1226), ∀ a, (k0_off370 v1226) a + S1.size a ≤ S5120.size a := fun v1226 k0_hw245 => k0_hw245

def k0_off371 (v1228 : BitVec 32) : Fin 2 → Nat :=
  let v1229 : Index := Scalar.indexCast v1228
  let c0_252 : Index := 0#32
  ![v1229.toNat, 0]

def k0_chk246 (v1228 : BitVec 32) : Prop :=
  (∀ a, (k0_off371 v1228) a + S1x128.size a ≤ S5120x128.size a)
theorem k0_off371_inb : ∀ (v1228 : BitVec 32) (k0_hw246 : k0_chk246 v1228), ∀ a, (k0_off371 v1228) a + S1x128.size a ≤ S5120x128.size a := fun v1228 k0_hw246 => k0_hw246

def k0_off372 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c123_i32 : BitVec 32 := 123#32
  let v1234 : BitVec 32 := Scalar.addi v3 c123_i32
  let v1235 : Index := Scalar.indexCast v1234
  ![v1235.toNat]
def k0_off373 (v1236 : BitVec 32) : Fin 1 → Nat :=
  let v1237 : Index := Scalar.indexCast v1236
  ![v1237.toNat]

def k0_chk247 (v1236 : BitVec 32) : Prop :=
  (∀ a, (k0_off373 v1236) a + S1.size a ≤ S5120.size a)
theorem k0_off373_inb : ∀ (v1236 : BitVec 32) (k0_hw247 : k0_chk247 v1236), ∀ a, (k0_off373 v1236) a + S1.size a ≤ S5120.size a := fun v1236 k0_hw247 => k0_hw247

def k0_off374 (v1238 : BitVec 32) : Fin 2 → Nat :=
  let v1239 : Index := Scalar.indexCast v1238
  let c0_254 : Index := 0#32
  ![v1239.toNat, 0]

def k0_chk248 (v1238 : BitVec 32) : Prop :=
  (∀ a, (k0_off374 v1238) a + S1x128.size a ≤ S5120x128.size a)
theorem k0_off374_inb : ∀ (v1238 : BitVec 32) (k0_hw248 : k0_chk248 v1238), ∀ a, (k0_off374 v1238) a + S1x128.size a ≤ S5120x128.size a := fun v1238 k0_hw248 => k0_hw248

def k0_off375 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c124_i32 : BitVec 32 := 124#32
  let v1244 : BitVec 32 := Scalar.addi v3 c124_i32
  let v1245 : Index := Scalar.indexCast v1244
  ![v1245.toNat]
def k0_off376 (v1246 : BitVec 32) : Fin 1 → Nat :=
  let v1247 : Index := Scalar.indexCast v1246
  ![v1247.toNat]

def k0_chk249 (v1246 : BitVec 32) : Prop :=
  (∀ a, (k0_off376 v1246) a + S1.size a ≤ S5120.size a)
theorem k0_off376_inb : ∀ (v1246 : BitVec 32) (k0_hw249 : k0_chk249 v1246), ∀ a, (k0_off376 v1246) a + S1.size a ≤ S5120.size a := fun v1246 k0_hw249 => k0_hw249

def k0_off377 (v1248 : BitVec 32) : Fin 2 → Nat :=
  let v1249 : Index := Scalar.indexCast v1248
  let c0_256 : Index := 0#32
  ![v1249.toNat, 0]

def k0_chk250 (v1248 : BitVec 32) : Prop :=
  (∀ a, (k0_off377 v1248) a + S1x128.size a ≤ S5120x128.size a)
theorem k0_off377_inb : ∀ (v1248 : BitVec 32) (k0_hw250 : k0_chk250 v1248), ∀ a, (k0_off377 v1248) a + S1x128.size a ≤ S5120x128.size a := fun v1248 k0_hw250 => k0_hw250

def k0_off378 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c125_i32 : BitVec 32 := 125#32
  let v1254 : BitVec 32 := Scalar.addi v3 c125_i32
  let v1255 : Index := Scalar.indexCast v1254
  ![v1255.toNat]
def k0_off379 (v1256 : BitVec 32) : Fin 1 → Nat :=
  let v1257 : Index := Scalar.indexCast v1256
  ![v1257.toNat]

def k0_chk251 (v1256 : BitVec 32) : Prop :=
  (∀ a, (k0_off379 v1256) a + S1.size a ≤ S5120.size a)
theorem k0_off379_inb : ∀ (v1256 : BitVec 32) (k0_hw251 : k0_chk251 v1256), ∀ a, (k0_off379 v1256) a + S1.size a ≤ S5120.size a := fun v1256 k0_hw251 => k0_hw251

def k0_off380 (v1258 : BitVec 32) : Fin 2 → Nat :=
  let v1259 : Index := Scalar.indexCast v1258
  let c0_258 : Index := 0#32
  ![v1259.toNat, 0]

def k0_chk252 (v1258 : BitVec 32) : Prop :=
  (∀ a, (k0_off380 v1258) a + S1x128.size a ≤ S5120x128.size a)
theorem k0_off380_inb : ∀ (v1258 : BitVec 32) (k0_hw252 : k0_chk252 v1258), ∀ a, (k0_off380 v1258) a + S1x128.size a ≤ S5120x128.size a := fun v1258 k0_hw252 => k0_hw252

def k0_off381 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c126_i32 : BitVec 32 := 126#32
  let v1264 : BitVec 32 := Scalar.addi v3 c126_i32
  let v1265 : Index := Scalar.indexCast v1264
  ![v1265.toNat]
def k0_off382 (v1266 : BitVec 32) : Fin 1 → Nat :=
  let v1267 : Index := Scalar.indexCast v1266
  ![v1267.toNat]

def k0_chk253 (v1266 : BitVec 32) : Prop :=
  (∀ a, (k0_off382 v1266) a + S1.size a ≤ S5120.size a)
theorem k0_off382_inb : ∀ (v1266 : BitVec 32) (k0_hw253 : k0_chk253 v1266), ∀ a, (k0_off382 v1266) a + S1.size a ≤ S5120.size a := fun v1266 k0_hw253 => k0_hw253

def k0_off383 (v1268 : BitVec 32) : Fin 2 → Nat :=
  let v1269 : Index := Scalar.indexCast v1268
  let c0_260 : Index := 0#32
  ![v1269.toNat, 0]

def k0_chk254 (v1268 : BitVec 32) : Prop :=
  (∀ a, (k0_off383 v1268) a + S1x128.size a ≤ S5120x128.size a)
theorem k0_off383_inb : ∀ (v1268 : BitVec 32) (k0_hw254 : k0_chk254 v1268), ∀ a, (k0_off383 v1268) a + S1x128.size a ≤ S5120x128.size a := fun v1268 k0_hw254 => k0_hw254

def k0_off384 (k0_t2 : Fin k0_t2_loop.trips) : Fin 1 → Nat :=
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let c127_i32 : BitVec 32 := 127#32
  let v1274 : BitVec 32 := Scalar.addi v3 c127_i32
  let v1275 : Index := Scalar.indexCast v1274
  ![v1275.toNat]
def k0_off385 (v1276 : BitVec 32) : Fin 1 → Nat :=
  let v1277 : Index := Scalar.indexCast v1276
  ![v1277.toNat]

def k0_chk255 (v1276 : BitVec 32) : Prop :=
  (∀ a, (k0_off385 v1276) a + S1.size a ≤ S5120.size a)
theorem k0_off385_inb : ∀ (v1276 : BitVec 32) (k0_hw255 : k0_chk255 v1276), ∀ a, (k0_off385 v1276) a + S1.size a ≤ S5120.size a := fun v1276 k0_hw255 => k0_hw255

def k0_off386 (v1278 : BitVec 32) : Fin 2 → Nat :=
  let v1279 : Index := Scalar.indexCast v1278
  let c0_262 : Index := 0#32
  ![v1279.toNat, 0]

def k0_chk256 (v1278 : BitVec 32) : Prop :=
  (∀ a, (k0_off386 v1278) a + S1x128.size a ≤ S5120x128.size a)
theorem k0_off386_inb : ∀ (v1278 : BitVec 32) (k0_hw256 : k0_chk256 v1278), ∀ a, (k0_off386 v1278) a + S1x128.size a ≤ S5120x128.size a := fun v1278 k0_hw256 => k0_hw256

def k0_off387 (k0_t2 : Fin k0_t2_loop.trips) : Fin 2 → Nat :=
  let c0_266 : Index := 0#32
  let c0_i32_1 : BitVec 32 := 0#32
  let c1_i32_3 : BitVec 32 := 1#32
  let arg7 : BitVec 32 := Scf.iv c0_i32_1 c1_i32_3 k0_t2
  let c128_i32 : BitVec 32 := 128#32
  let v2 : BitVec 32 := Scalar.muli arg7 c128_i32
  let v3 : BitVec 32 := v2
  let v1287 : Index := Scalar.indexCast v3
  ![0, v1287.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Gathered.lean ====
abbrev S24x256x5120 : Shape := ⟨3, ![24, 256, 5120]⟩
abbrev S5120 : Shape := ⟨1, ![5120]⟩
abbrev S_ : Shape := ⟨0, ![]⟩
abbrev S5120x1 : Shape := ⟨2, ![5120, 1]⟩
abbrev S1 : Shape := ⟨1, ![1]⟩
abbrev S1x1 : Shape := ⟨2, ![1, 1]⟩
abbrev S24x256x288 : Shape := ⟨3, ![24, 256, 288]⟩
abbrev S6144x9x8x2x2 : Shape := ⟨5, ![6144, 9, 8, 2, 2]⟩
abbrev S6144x8x2x9x2 : Shape := ⟨5, ![6144, 8, 2, 9, 2]⟩
abbrev S6144x16x9x2 : Shape := ⟨4, ![6144, 16, 9, 2]⟩
abbrev S24x256x576 : Shape := ⟨3, ![24, 256, 576]⟩
abbrev S6144x18x2x2x8 : Shape := ⟨5, ![6144, 18, 2, 2, 8]⟩
abbrev S6144x2x8x18x2 : Shape := ⟨5, ![6144, 2, 8, 18, 2]⟩
abbrev S6144x16x18x2 : Shape := ⟨4, ![6144, 16, 18, 2]⟩
abbrev S24x256x1088 : Shape := ⟨3, ![24, 256, 1088]⟩
abbrev S6144x34x1x2x16 : Shape := ⟨5, ![6144, 34, 1, 2, 16]⟩
abbrev S6144x1x16x34x2 : Shape := ⟨5, ![6144, 1, 16, 34, 2]⟩
abbrev S6144x16x34x2 : Shape := ⟨4, ![6144, 16, 34, 2]⟩
abbrev S24x256x1952 : Shape := ⟨3, ![24, 256, 1952]⟩
abbrev S6144x61x4x2x4 : Shape := ⟨5, ![6144, 61, 4, 2, 4]⟩
abbrev S6144x4x4x61x2 : Shape := ⟨5, ![6144, 4, 4, 61, 2]⟩
abbrev S6144x16x61x2 : Shape := ⟨4, ![6144, 16, 61, 2]⟩
abbrev S24x256x896 : Shape := ⟨3, ![24, 256, 896]⟩
abbrev S6144x28x1x2x16 : Shape := ⟨5, ![6144, 28, 1, 2, 16]⟩
abbrev S6144x1x16x28x2 : Shape := ⟨5, ![6144, 1, 16, 28, 2]⟩
abbrev S6144x16x28x2 : Shape := ⟨4, ![6144, 16, 28, 2]⟩
abbrev S24x256x320 : Shape := ⟨3, ![24, 256, 320]⟩
abbrev S6144x10x2x2x8 : Shape := ⟨5, ![6144, 10, 2, 2, 8]⟩
abbrev S6144x2x8x10x2 : Shape := ⟨5, ![6144, 2, 8, 10, 2]⟩
abbrev S6144x16x10x2 : Shape := ⟨4, ![6144, 16, 10, 2]⟩
abbrev S6144x16x160x2 : Shape := ⟨4, ![6144, 16, 160, 2]⟩
abbrev S6144x5120 : Shape := ⟨2, ![6144, 5120]⟩

abbrev nBuf : Space → Nat
  | .hbm => 51
  | .vmem => 0
  | .smem => 0
  | _ => 0

abbrev bufTy : (tb : Table) → Fin (tcTables nBuf tb) → BufTy
  | .hbm, ⟨0, _⟩ => ⟨S24x256x5120, .bf16⟩
  | .hbm, ⟨1, _⟩ => ⟨S5120, .i32⟩
  | .hbm, ⟨2, _⟩ => ⟨S_, .i32⟩
  | .hbm, ⟨3, _⟩ => ⟨S5120, .i32⟩
  | .hbm, ⟨4, _⟩ => ⟨S5120, .i1⟩
  | .hbm, ⟨5, _⟩ => ⟨S_, .i32⟩
  | .hbm, ⟨6, _⟩ => ⟨S5120, .i32⟩
  | .hbm, ⟨7, _⟩ => ⟨S5120, .i32⟩
  | .hbm, ⟨8, _⟩ => ⟨S5120, .i32⟩
  | .hbm, ⟨9, _⟩ => ⟨S5120x1, .i32⟩
  | .hbm, ⟨10, _⟩ => ⟨S1, .i32⟩
  | .hbm, ⟨11, _⟩ => ⟨S_, .i32⟩
  | .hbm, ⟨12, _⟩ => ⟨S5120x1, .i32⟩
  | .hbm, ⟨13, _⟩ => ⟨S5120x1, .i1⟩
  | .hbm, ⟨14, _⟩ => ⟨S1x1, .i32⟩
  | .hbm, ⟨15, _⟩ => ⟨S5120x1, .i32⟩
  | .hbm, ⟨16, _⟩ => ⟨S5120x1, .i1⟩
  | .hbm, ⟨17, _⟩ => ⟨S5120x1, .i1⟩
  | .hbm, ⟨18, _⟩ => ⟨S_, .i1⟩
  | .hbm, ⟨19, _⟩ => ⟨S5120, .i1⟩
  | .hbm, ⟨20, _⟩ => ⟨S24x256x5120, .bf16⟩
  | .hbm, ⟨21, _⟩ => ⟨S24x256x5120, .i1⟩
  | .hbm, ⟨22, _⟩ => ⟨S_, .bf16⟩
  | .hbm, ⟨23, _⟩ => ⟨S24x256x5120, .bf16⟩
  | .hbm, ⟨24, _⟩ => ⟨S24x256x5120, .bf16⟩
  | .hbm, ⟨25, _⟩ => ⟨S24x256x288, .bf16⟩
  | .hbm, ⟨26, _⟩ => ⟨S6144x9x8x2x2, .bf16⟩
  | .hbm, ⟨27, _⟩ => ⟨S6144x8x2x9x2, .bf16⟩
  | .hbm, ⟨28, _⟩ => ⟨S6144x16x9x2, .bf16⟩
  | .hbm, ⟨29, _⟩ => ⟨S24x256x576, .bf16⟩
  | .hbm, ⟨30, _⟩ => ⟨S6144x18x2x2x8, .bf16⟩
  | .hbm, ⟨31, _⟩ => ⟨S6144x2x8x18x2, .bf16⟩
  | .hbm, ⟨32, _⟩ => ⟨S6144x16x18x2, .bf16⟩
  | .hbm, ⟨33, _⟩ => ⟨S24x256x1088, .bf16⟩
  | .hbm, ⟨34, _⟩ => ⟨S6144x34x1x2x16, .bf16⟩
  | .hbm, ⟨35, _⟩ => ⟨S6144x1x16x34x2, .bf16⟩
  | .hbm, ⟨36, _⟩ => ⟨S6144x16x34x2, .bf16⟩
  | .hbm, ⟨37, _⟩ => ⟨S24x256x1952, .bf16⟩
  | .hbm, ⟨38, _⟩ => ⟨S6144x61x4x2x4, .bf16⟩
  | .hbm, ⟨39, _⟩ => ⟨S6144x4x4x61x2, .bf16⟩
  | .hbm, ⟨40, _⟩ => ⟨S6144x16x61x2, .bf16⟩
  | .hbm, ⟨41, _⟩ => ⟨S24x256x896, .bf16⟩
  | .hbm, ⟨42, _⟩ => ⟨S6144x28x1x2x16, .bf16⟩
  | .hbm, ⟨43, _⟩ => ⟨S6144x1x16x28x2, .bf16⟩
  | .hbm, ⟨44, _⟩ => ⟨S6144x16x28x2, .bf16⟩
  | .hbm, ⟨45, _⟩ => ⟨S24x256x320, .bf16⟩
  | .hbm, ⟨46, _⟩ => ⟨S6144x10x2x2x8, .bf16⟩
  | .hbm, ⟨47, _⟩ => ⟨S6144x2x8x10x2, .bf16⟩
  | .hbm, ⟨48, _⟩ => ⟨S6144x16x10x2, .bf16⟩
  | .hbm, ⟨49, _⟩ => ⟨S6144x16x160x2, .bf16⟩
  | .hbm, ⟨50, _⟩ => ⟨S6144x5120, .bf16⟩
  | _, _ => ⟨S24x256x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Proof.RunBits.lean ====
/-
  The run of the program (hand-written): what one trip of the column loop stores into the weight scratch, that
  the four trips' tiles cover it and depend on the staged words and scales alone, the body's triple, the pipeline's proof
  data, the launch and the frame.
-/
module

public import proofs.«01_k».proof.Proof.Gen.Kernel.Frame
public import proofs.«01_k».proof.Proof.Gen.Kernel.Loops
public import proofs.«01_k».proof.Proof.Gen.Kernel.Skeleton
public import Idealize.ShloMosaic.Lib.Claim

@[expose] public section

set_option maxRecDepth 65536

noncomputable section

namespace Cert.Proof.RunBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The tiles one trip stores -/

section Pieces

variable (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x128 .i32) (harg7 : arg7.IsWhole) (arg8 : Memref sig .tc .vmem S5120x512 .bf16) (harg8 : arg8.IsWhole)
  (X_arg3 : BufTy.Contents (Elt F) arg3.view.ty) (X_arg4 : BufTy.Contents (Elt F) arg4.view.ty)

/-- The tiles trip `k` of the column loop stores into the weight scratch, last first, over scratches of unknown contents. -/
def tiles (k : Fin k0_t1_loop.trips) : List (View.Piece (Elt F) S5120x512 .bf16) :=
  (trip_k0_t1 (F := F) Variants.none c none i arg2 harg2 arg3 harg3 arg4 harg4 arg5 harg5 arg6 harg6 arg7 harg7 arg8 harg8 X_arg3 X_arg4 k).2.2.1 arg6.view.junk arg7.view.junk arg8.view.junk

/-- They do not depend on what the scratches held before the trip: every word and scale loaded was stored by the trip itself. -/
theorem tiles_det (k : Fin k0_t1_loop.trips) (f6 f7 f8) :
    (trip_k0_t1 (F := F) Variants.none c none i arg2 harg2 arg3 harg3 arg4 harg4 arg5 harg5 arg6 harg6 arg7 harg7 arg8 harg8 X_arg3 X_arg4 k).2.2.1 f6 f7 f8
      = tiles c i arg2 harg2 arg3 harg3 arg4 harg4 arg5 harg5 arg6 harg6 arg7 harg7 arg8 harg8 X_arg3 X_arg4 k := by
  unfold tiles trip_k0_t1; rfl

/-- The tiles of all four trips, last first. -/
def allTiles : List (View.Piece (Elt F) S5120x512 .bf16) :=
  tiles c i arg2 harg2 arg3 harg3 arg4 harg4 arg5 harg5 arg6 harg6 arg7 harg7 arg8 harg8 X_arg3 X_arg4 ⟨3, by decide⟩
    ++ (tiles c i arg2 harg2 arg3 harg3 arg4 harg4 arg5 harg5 arg6 harg6 arg7 harg7 arg8 harg8 X_arg3 X_arg4 ⟨2, by decide⟩
    ++ (tiles c i arg2 harg2 arg3 harg3 arg4 harg4 arg5 harg5 arg6 harg6 arg7 harg7 arg8 harg8 X_arg3 X_arg4 ⟨1, by decide⟩
    ++ (tiles c i arg2 harg2 arg3 harg3 arg4 harg4 arg5 harg5 arg6 harg6 arg7 harg7 arg8 harg8 X_arg3 X_arg4 ⟨0, by decide⟩ ++ [])))

/-- One more trip puts its tiles in front. -/
theorem pieces_succ (G6 G7 G8) (k : Fin k0_t1_loop.trips) :
    (pb_k0_t1 (F := F) Variants.none c none i arg2 harg2 arg3 harg3 arg4 harg4 arg5 harg5 arg6 harg6 arg7 harg7 arg8 harg8 X_arg3 X_arg4 G6 G7 G8 (k.val + 1)).2.2
      = tiles c i arg2 harg2 arg3 harg3 arg4 harg4 arg5 harg5 arg6 harg6 arg7 harg7 arg8 harg8 X_arg3 X_arg4 k ++ (pb_k0_t1 (F := F) Variants.none c none i arg2 harg2 arg3 harg3 arg4 harg4 arg5 harg5 arg6 harg6 arg7 harg7 arg8 harg8 X_arg3 X_arg4 G6 G7 G8 k.val).2.2 := by
  rw [pb_k0_t1_succ]; dsimp only; rw [tiles_det]

/-- What the loop leaves in the weight scratch: the tiles of the four trips, whatever the scratches held. -/
theorem pieces_all (G6 G7 G8) :
    (pb_k0_t1 (F := F) Variants.none c none i arg2 harg2 arg3 harg3 arg4 harg4 arg5 harg5 arg6 harg6 arg7 harg7 arg8 harg8 X_arg3 X_arg4 G6 G7 G8 k0_t1_loop.trips).2.2 = allTiles c i arg2 harg2 arg3 harg3 arg4 harg4 arg5 harg5 arg6 harg6 arg7 harg7 arg8 harg8 X_arg3 X_arg4 := by
  unfold allTiles
  have h3 := pieces_succ c i arg2 harg2 arg3 harg3 arg4 harg4 arg5 harg5 arg6 harg6 arg7 harg7 arg8 harg8 X_arg3 X_arg4 G6 G7 G8 ⟨3, by decide⟩
  have h2 := pieces_succ c i arg2 harg2 arg3 harg3 arg4 harg4 arg5 harg5 arg6 harg6 arg7 harg7 arg8 harg8 X_arg3 X_arg4 G6 G7 G8 ⟨2, by decide⟩
  have h1 := pieces_succ c i arg2 harg2 arg3 harg3 arg4 harg4 arg5 harg5 arg6 harg6 arg7 harg7 arg8 harg8 X_arg3 X_arg4 G6 G7 G8 ⟨1, by decide⟩
  have h0 := pieces_succ c i arg2 harg2 arg3 harg3 arg4 harg4 arg5 harg5 arg6 harg6 arg7 harg7 arg8 harg8 X_arg3 X_arg4 G6 G7 G8 ⟨0, by decide⟩
  refine (congrArg (fun n => (pb_k0_t1 (F := F) Variants.none c none i arg2 harg2 arg3 harg3 arg4 harg4 arg5 harg5 arg6 harg6 arg7 harg7 arg8 harg8 X_arg3 X_arg4 G6 G7 G8 n).2.2) (show k0_t1_loop.trips = 3 + 1 from by decide)).trans (h3.trans ?_)
  refine congrArg _ (h2.trans ?_)
  refine congrArg _ (h1.trans ?_)
  exact congrArg _ h0

/-- They cover the weight scratch: 320 tiles of 16 rows for each of the four column blocks. -/
theorem cover_all (y : S5120x512.Idx) :
    ∃ pc ∈ allTiles c i arg2 harg2 arg3 harg3 arg4 harg4 arg5 harg5 arg6 harg6 arg7 harg7 arg8 harg8 X_arg3 X_arg4, y ∈ pc.1.set :=
  View.cover_of_tiledL (allTiles c i arg2 harg2 arg3 harg3 arg4 harg4 arg5 harg5 arg6 harg6 arg7 harg7 arg8 harg8 X_arg3 X_arg4) ![16, 128] (by sl_kernel_rfl) y

end Pieces

/-! ## The body -/

abbrev r0_0 : Rect S1536x5120 := Rect.unit (s := S1536x5120) ![0, 0] S1536x5120.size inb_S1536x5120_S1536x5120_0_0
abbrev r0_3 : Rect S1536x512 := Rect.unit (s := S1536x512) ![0, 0] S1536x512.size inb_S1536x512_S1536x512_0_0
abbrev r0_8 : Rect S5120x512 := Rect.unit (s := S5120x512) ![0, 0] S5120x512.size inb_S5120x512_S5120x512_0_0

/-- The weight scratch at the matrix product, from the staged words `x1` and scales `x2`. -/
def weights (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x128 .i32) (harg7 : arg7.IsWhole) (arg8 : Memref sig .tc .vmem S5120x512 .bf16) (harg8 : arg8.IsWhole) (x1 : Vec F S698x512 .i32) (x2 : Vec F S160x512 .bf16) : Vec F S5120x512 .bf16 :=
  View.canon (allTiles c i arg2 harg2 arg3 harg3 arg4 harg4 arg5 harg5 arg6 harg6 arg7 harg7 arg8 harg8 (harg3.unread x1) (harg4.unread x2))

/-- What the body leaves in the output window's buffer. -/
def out0_3 (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x128 .i32) (harg7 : arg7.IsWhole) (arg8 : Memref sig .tc .vmem S5120x512 .bf16) (harg8 : arg8.IsWhole) (x0 : Vec F S1536x5120 .bf16) (x1 : Vec F S698x512 .i32) (x2 : Vec F S160x512 .bf16) : Vec F S1536x512 .bf16 :=
  View.canon [⟨r0_3, k0_pay3 (View.ld x0 r0_0) (View.ld (weights c i arg2 harg2 arg3 harg3 arg4 harg4 arg5 harg5 arg6 harg6 arg7 harg7 arg8 harg8 x1 x2) r0_8)⟩]

theorem cover0_3 (p0 : Vec F S1536x512 .bf16) (y : S1536x512.Idx) :
    ∃ pc ∈ ([⟨r0_3, p0⟩] : List (View.Piece (Elt F) S1536x512 .bf16)), y ∈ pc.1.set :=
  View.cover_of_tiled [⟨r0_3, p0⟩] S1536x512.size (by rfl) y

set_option maxHeartbeats 1600000 in
/-- The kernel body on whole memrefs: the inputs' at read contents, the output's and the scratches' at anything, runs to
    the continuation holding the inputs' as they were, the output's at `out0_3` of them and the scratches' at something. -/
theorem sound_kernel (E : Set ℕ) (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x128 .i32) (harg7 : arg7.IsWhole) (arg8 : Memref sig .tc .vmem S5120x512 .bf16) (harg8 : arg8.IsWhole)
    (x0 : Vec F S1536x5120 .bf16) (x1 : Vec F S698x512 .i32) (x2 : Vec F S160x512 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 c i arg2 harg2 arg3 harg3 arg4 harg4 arg5 harg5 arg6 harg6 arg7 harg7 arg8 harg8 x0 x1 x2)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dequant_matmul i arg2 harg2 arg3 harg3 arg4 harg4 arg5 harg5 arg6 harg6 arg7 harg7 arg8 harg8) K := by
  simp only [cc0_dequant_matmul_eq_skeleton]; unfold cc0_dequant_matmul_skel
  unfold owns
  iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
  obtain rfl := harg2.eq_unread hf0
  obtain rfl := harg3.eq_unread hf1
  obtain rfl := harg4.eq_unread hf2
  sl_exec
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro
    rw [View.read_writes_eq_canon _ _ _ (cover0_3 _)]
    unfold out0_3
    unfold weights
    congr 3
    rw [View.readAt_eq_ld, hf0]
    congr 1
    unfold sound_kernel.sl.v3
    rw [View.readAt_eq_ld, pieces_all, View.read_writes_eq_canon _ _ _ (cover_all c i arg2 harg2 arg3 harg3 arg4 harg4 arg5 harg5 arg6 harg6 arg7 harg7 arg8 harg8 _ _)]
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

/-! ## The pipeline's proof data -/

/-- What the body leaves in the output window's buffer at point `t`, from the windows' blocks there. -/
def outAt (c : Dev nD) (t : Fin cfg0.N) (x0 : Vec F S1536x5120 .bf16) (x1 : Vec F S698x512 .i32) (x2 : Vec F S160x512 .bf16) : Vec F S1536x512 .bf16 :=
  out0_3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) x0 x1 x2

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt c t (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outAt c t (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The three scratches of the scoped rest as whole memrefs at some contents. -/
theorem scratches (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) := by
  rw [scopedRest0_eq]; simp only [owns_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl]
  unfold Pipeline.ΦA outAt
  rw [scratches]
  iintro ⟨⟨⟨H6, H7, H8⟩, Hr⟩, Ho, ⟨%d0, H0⟩, ⟨%d1, H1⟩, ⟨%d2, H2⟩, ⟨%d3, H3⟩⟩
  iapply (sound_kernel Set.univ c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  iintro ⟨H0, H1, H2, H3, H6, H7, H8⟩
  isplitl [H6 H7 H8 Hr]
  · isplitl [H6 H7 H8]
    · isplitl [H6]; · iexact H6
      isplitl [H7]; · iexact H7
      iexact H8
    iexact Hr
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, the reshape after the region runs on it, and
    every semaphore counter ends at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.RunBits

end
-- ==== Proof.RunIdeal.lean ====
/-
  The run of the idealized program (hand-written): what one trip of the column loop stores into the weight scratch, that
  the four trips' tiles cover it and depend on the staged words and scales alone, the body's triple, the pipeline's proof
  data, the launch and the frame.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim

@[expose] public section

set_option maxRecDepth 65536

noncomputable section

namespace Cert.Proof.RunIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tiles one trip stores -/

section Pieces

variable (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x2x128 .bf16) (harg7 : arg7.IsWhole) (arg8 : Memref sig .tc .vmem S5120x512 .bf16) (harg8 : arg8.IsWhole)
  (X_arg3 : BufTy.Contents (Elt F) arg3.view.ty) (X_arg4 : BufTy.Contents (Elt F) arg4.view.ty)

/-- The tiles trip `k` of the column loop stores into the weight scratch, last first, over scratches of unknown contents. -/
def tiles (k : Fin k0_t1_loop.trips) : List (View.Piece (Elt F) S5120x512 .bf16) :=
  (trip_k0_t1 (F := F) Variants.none c none i arg2 harg2 arg3 harg3 arg4 harg4 arg5 harg5 arg6 harg6 arg7 harg7 arg8 harg8 X_arg3 X_arg4 k).2.2.1 arg6.view.junk arg7.view.junk arg8.view.junk

/-- They do not depend on what the scratches held before the trip: every word and scale loaded was stored by the trip itself. -/
theorem tiles_det (k : Fin k0_t1_loop.trips) (f6 f7 f8) :
    (trip_k0_t1 (F := F) Variants.none c none i arg2 harg2 arg3 harg3 arg4 harg4 arg5 harg5 arg6 harg6 arg7 harg7 arg8 harg8 X_arg3 X_arg4 k).2.2.1 f6 f7 f8
      = tiles c i arg2 harg2 arg3 harg3 arg4 harg4 arg5 harg5 arg6 harg6 arg7 harg7 arg8 harg8 X_arg3 X_arg4 k := by
  unfold tiles trip_k0_t1; rfl

/-- The tiles of all four trips, last first. -/
def allTiles : List (View.Piece (Elt F) S5120x512 .bf16) :=
  tiles c i arg2 harg2 arg3 harg3 arg4 harg4 arg5 harg5 arg6 harg6 arg7 harg7 arg8 harg8 X_arg3 X_arg4 ⟨3, by decide⟩
    ++ (tiles c i arg2 harg2 arg3 harg3 arg4 harg4 arg5 harg5 arg6 harg6 arg7 harg7 arg8 harg8 X_arg3 X_arg4 ⟨2, by decide⟩
    ++ (tiles c i arg2 harg2 arg3 harg3 arg4 harg4 arg5 harg5 arg6 harg6 arg7 harg7 arg8 harg8 X_arg3 X_arg4 ⟨1, by decide⟩
    ++ (tiles c i arg2 harg2 arg3 harg3 arg4 harg4 arg5 harg5 arg6 harg6 arg7 harg7 arg8 harg8 X_arg3 X_arg4 ⟨0, by decide⟩ ++ [])))

/-- One more trip puts its tiles in front. -/
theorem pieces_succ (G6 G7 G8) (k : Fin k0_t1_loop.trips) :
    (pb_k0_t1 (F := F) Variants.none c none i arg2 harg2 arg3 harg3 arg4 harg4 arg5 harg5 arg6 harg6 arg7 harg7 arg8 harg8 X_arg3 X_arg4 G6 G7 G8 (k.val + 1)).2.2
      = tiles c i arg2 harg2 arg3 harg3 arg4 harg4 arg5 harg5 arg6 harg6 arg7 harg7 arg8 harg8 X_arg3 X_arg4 k ++ (pb_k0_t1 (F := F) Variants.none c none i arg2 harg2 arg3 harg3 arg4 harg4 arg5 harg5 arg6 harg6 arg7 harg7 arg8 harg8 X_arg3 X_arg4 G6 G7 G8 k.val).2.2 := by
  rw [pb_k0_t1_succ]; dsimp only; rw [tiles_det]

/-- What the loop leaves in the weight scratch: the tiles of the four trips, whatever the scratches held. -/
theorem pieces_all (G6 G7 G8) :
    (pb_k0_t1 (F := F) Variants.none c none i arg2 harg2 arg3 harg3 arg4 harg4 arg5 harg5 arg6 harg6 arg7 harg7 arg8 harg8 X_arg3 X_arg4 G6 G7 G8 k0_t1_loop.trips).2.2 = allTiles c i arg2 harg2 arg3 harg3 arg4 harg4 arg5 harg5 arg6 harg6 arg7 harg7 arg8 harg8 X_arg3 X_arg4 := by
  unfold allTiles
  have h3 := pieces_succ c i arg2 harg2 arg3 harg3 arg4 harg4 arg5 harg5 arg6 harg6 arg7 harg7 arg8 harg8 X_arg3 X_arg4 G6 G7 G8 ⟨3, by decide⟩
  have h2 := pieces_succ c i arg2 harg2 arg3 harg3 arg4 harg4 arg5 harg5 arg6 harg6 arg7 harg7 arg8 harg8 X_arg3 X_arg4 G6 G7 G8 ⟨2, by decide⟩
  have h1 := pieces_succ c i arg2 harg2 arg3 harg3 arg4 harg4 arg5 harg5 arg6 harg6 arg7 harg7 arg8 harg8 X_arg3 X_arg4 G6 G7 G8 ⟨1, by decide⟩
  have h0 := pieces_succ c i arg2 harg2 arg3 harg3 arg4 harg4 arg5 harg5 arg6 harg6 arg7 harg7 arg8 harg8 X_arg3 X_arg4 G6 G7 G8 ⟨0, by decide⟩
  refine (congrArg (fun n => (pb_k0_t1 (F := F) Variants.none c none i arg2 harg2 arg3 harg3 arg4 harg4 arg5 harg5 arg6 harg6 arg7 harg7 arg8 harg8 X_arg3 X_arg4 G6 G7 G8 n).2.2) (show k0_t1_loop.trips = 3 + 1 from by decide)).trans (h3.trans ?_)
  refine congrArg _ (h2.trans ?_)
  refine congrArg _ (h1.trans ?_)
  exact congrArg _ h0

/-- They cover the weight scratch: 320 tiles of 16 rows for each of the four column blocks. -/
theorem cover_all (y : S5120x512.Idx) :
    ∃ pc ∈ allTiles c i arg2 harg2 arg3 harg3 arg4 harg4 arg5 harg5 arg6 harg6 arg7 harg7 arg8 harg8 X_arg3 X_arg4, y ∈ pc.1.set :=
  View.cover_of_tiledL (allTiles c i arg2 harg2 arg3 harg3 arg4 harg4 arg5 harg5 arg6 harg6 arg7 harg7 arg8 harg8 X_arg3 X_arg4) ![16, 128] (by sl_kernel_rfl) y

end Pieces

/-! ## The body -/

abbrev r0_0 : Rect S1536x5120 := Rect.unit (s := S1536x5120) ![0, 0] S1536x5120.size inb_S1536x5120_S1536x5120_0_0
abbrev r0_3 : Rect S1536x512 := Rect.unit (s := S1536x512) ![0, 0] S1536x512.size inb_S1536x512_S1536x512_0_0
abbrev r0_8 : Rect S5120x512 := Rect.unit (s := S5120x512) ![0, 0] S5120x512.size inb_S5120x512_S5120x512_0_0

/-- The weight scratch at the matrix product, from the staged words `x1` and scales `x2`. -/
def weights (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x2x128 .bf16) (harg7 : arg7.IsWhole) (arg8 : Memref sig .tc .vmem S5120x512 .bf16) (harg8 : arg8.IsWhole) (x1 : Vec F S698x512 .i32) (x2 : Vec F S160x512 .bf16) : Vec F S5120x512 .bf16 :=
  View.canon (allTiles c i arg2 harg2 arg3 harg3 arg4 harg4 arg5 harg5 arg6 harg6 arg7 harg7 arg8 harg8 (harg3.unread x1) (harg4.unread x2))

/-- What the body leaves in the output window's buffer. -/
def out0_3 (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x2x128 .bf16) (harg7 : arg7.IsWhole) (arg8 : Memref sig .tc .vmem S5120x512 .bf16) (harg8 : arg8.IsWhole) (x0 : Vec F S1536x5120 .bf16) (x1 : Vec F S698x512 .i32) (x2 : Vec F S160x512 .bf16) : Vec F S1536x512 .bf16 :=
  View.canon [⟨r0_3, k0_pay3 (View.ld x0 r0_0) (View.ld (weights c i arg2 harg2 arg3 harg3 arg4 harg4 arg5 harg5 arg6 harg6 arg7 harg7 arg8 harg8 x1 x2) r0_8)⟩]

theorem cover0_3 (p0 : Vec F S1536x512 .bf16) (y : S1536x512.Idx) :
    ∃ pc ∈ ([⟨r0_3, p0⟩] : List (View.Piece (Elt F) S1536x512 .bf16)), y ∈ pc.1.set :=
  View.cover_of_tiled [⟨r0_3, p0⟩] S1536x512.size (by rfl) y

set_option maxHeartbeats 1600000 in
/-- The kernel body on whole memrefs: the inputs' at read contents, the output's and the scratches' at anything, runs to
    the continuation holding the inputs' as they were, the output's at `out0_3` of them and the scratches' at something. -/
theorem sound_kernel (E : Set ℕ) (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x2x128 .bf16) (harg7 : arg7.IsWhole) (arg8 : Memref sig .tc .vmem S5120x512 .bf16) (harg8 : arg8.IsWhole)
    (x0 : Vec F S1536x5120 .bf16) (x1 : Vec F S698x512 .i32) (x2 : Vec F S160x512 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 c i arg2 harg2 arg3 harg3 arg4 harg4 arg5 harg5 arg6 harg6 arg7 harg7 arg8 harg8 x0 x1 x2)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dequant_matmul i arg2 harg2 arg3 harg3 arg4 harg4 arg5 harg5 arg6 harg6 arg7 harg7 arg8 harg8) K := by
  simp only [cc0_dequant_matmul_eq_skeleton]; unfold cc0_dequant_matmul_skel
  unfold owns
  iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
  obtain rfl := harg2.eq_unread hf0
  obtain rfl := harg3.eq_unread hf1
  obtain rfl := harg4.eq_unread hf2
  sl_exec
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro
    rw [View.read_writes_eq_canon _ _ _ (cover0_3 _)]
    unfold out0_3
    unfold weights
    congr 3
    rw [View.readAt_eq_ld, hf0]
    congr 1
    unfold sound_kernel.sl.v3
    rw [View.readAt_eq_ld, pieces_all, View.read_writes_eq_canon _ _ _ (cover_all c i arg2 harg2 arg3 harg3 arg4 harg4 arg5 harg5 arg6 harg6 arg7 harg7 arg8 harg8 _ _)]
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

/-! ## The pipeline's proof data -/

/-- What the body leaves in the output window's buffer at point `t`, from the windows' blocks there. -/
def outAt (c : Dev nD) (t : Fin cfg0.N) (x0 : Vec F S1536x5120 .bf16) (x1 : Vec F S698x512 .i32) (x2 : Vec F S160x512 .bf16) : Vec F S1536x512 .bf16 :=
  out0_3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) x0 x1 x2

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt c t (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outAt c t (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The three scratches of the scoped rest as whole memrefs at some contents. -/
theorem scratches (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) := by
  rw [scopedRest0_eq]; simp only [owns_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl]
  unfold Pipeline.ΦA outAt
  rw [scratches]
  iintro ⟨⟨⟨H6, H7, H8⟩, Hr⟩, Ho, ⟨%d0, H0⟩, ⟨%d1, H1⟩, ⟨%d2, H2⟩, ⟨%d3, H3⟩⟩
  iapply (sound_kernel Set.univ c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  iintro ⟨H0, H1, H2, H3, H6, H7, H8⟩
  isplitl [H6 H7 H8 Hr]
  · isplitl [H6 H7 H8]
    · isplitl [H6]; · iexact H6
      isplitl [H7]; · iexact H7
      iexact H8
    iexact Hr
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, the reshape after the region runs on it, and
    every semaphore counter ends at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.RunIdeal

end
-- ==== Proof.Frames.lean ====
/- The frames of the three programs and the `preserves` claim (hand-written). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RunBits
public import proofs.«01_k».proof.Proof.RunIdeal
public import Idealize.ShloMosaic.Lib.Bf16PairInverse
public import Idealize.ShloMosaic.Lib.Quiescent

@[expose] public section

noncomputable section

open Idealize.ShloMosaic Idealize.SL.Sem

namespace Cert.Proof.Frames

/-- The kernel's program terminates, leaves its arguments unchanged and every semaphore counter at zero. -/
theorem frame_p : Cert.quiescent_Kernel := fun m ρ _ => Cert.Proof.RunBits.frame m ρ

/-- The same of the idealized program. -/
theorem frame_pi : Cert.quiescent_KernelIdeal := fun m ρ _ => Cert.Proof.RunIdeal.frame m ρ

/-- The same of the reference, which declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites of the idealization, each an instance of its rule: the scale scratch re-typed as pairs of bf16, its
    stores and loads, the sixteen-bit reading of the scales, and the exit of the packed words as bf16 rows. -/
theorem preserves : Cert.preserves_Kernel_KernelIdeal :=
  open Cert.KernelIdeal IdealRules.bf16_pair in
  ⟨bufferStatement S4x160x2x128 S4x160x1x128, halfStatement S160x128, statement S1x160x2x128 S1x160x1x128,
    statement S1x8x2x128 S1x8x1x128, statement S16x128 S8x128⟩

end Cert.Proof.Frames

end
-- ==== Proof.Codes.lean ====
/-
  The field reader of the kernel (hand-written): how one vector of words is shifted, masked and joined so that the low
  bits of its two 16-bit halves are two codes of the group, over any words that can be shifted, masked and joined; and
  which bits of the packed words those two codes are.
-/
module

public import Idealize.ShloMosaic.Lib.Claim

@[expose] public section

set_option maxRecDepth 65536

namespace Cert.Proof.Codes

/-- Words that can be shifted right and left by a constant, masked with a constant and joined. -/
class WordOps (α : Type) where
  srl : Nat → α → α
  sll : Nat → α → α
  mask : Nat → α → α
  or : α → α → α

open WordOps

variable {α : Type} [WordOps α]

/-- A right shift, none at all by zero. -/
def srl0 (n : Nat) (x : α) : α := if n = 0 then x else srl n x

/-- The constant in both halves of a word. -/
def dup (n : Nat) : Nat := n * 65537

/-- Stream `i` of a group's words: at 5 bits, and at 3 and 6 bits by triples, two 16-bit streams side by side. -/
def stream (bits : Nat) (w : Nat → α) (i : Nat) : α :=
  if bits = 5 then
    if i = 0 then or (mask 65535 (w 0)) (mask 4294901760 (w 2))
    else if i = 1 then or (srl 16 (w 0)) (sll 16 (w 3))
    else if i = 2 then or (mask 65535 (w 1)) (mask 4294901760 (w 3))
    else if i = 3 then or (srl 16 (w 1)) (sll 16 (w 4))
    else or (mask 65535 (w 2)) (mask 4294901760 (w 4))
  else if bits = 3 ∨ bits = 6 then
    if i % 3 = 0 then or (mask 65535 (w (i / 3 * 3))) (mask 4294901760 (w (i / 3 * 3 + 1)))
    else if i % 3 = 1 then or (srl 16 (w (i / 3 * 3))) (sll 16 (w (i / 3 * 3 + 2)))
    else or (mask 65535 (w (i / 3 * 3 + 1))) (mask 4294901760 (w (i / 3 * 3 + 2)))
  else w i

/-- The distance between the two channels of a pair, by bit width. -/
def pairStride (bits : Nat) : Nat :=
  if bits = 8 then 2 else if bits = 6 then 8 else if bits = 5 then 16 else if bits = 4 then 4 else if bits = 3 then 16 else 8

/-- The first channel, within its group, of pair `t`. -/
def pairField (bits t : Nat) : Nat := t / pairStride bits * (2 * pairStride bits) + t % pairStride bits

/-- A field of a stream that may run over into the next stream. -/
def runField (bits : Nat) (w : Nat → α) (i sh : Nat) : α :=
  if 16 < sh + bits then
    or (mask (dup (2 ^ (16 - sh) - 1)) (srl0 sh (stream bits w i)))
      (mask (dup ((2 ^ bits - 1) / 2 ^ (16 - sh) * 2 ^ (16 - sh))) (sll (16 - sh) (stream bits w (i + 1))))
  else srl0 sh (stream bits w i)

/-- The word whose two halves' low bits are the codes of pair `t`. -/
def pairCode (bits t : Nat) (w : Nat → α) : α :=
  if bits = 8 ∨ bits = 4 ∨ bits = 2 then
    srl0 (pairField bits t * bits % 32) (w (pairField bits t * bits / 32))
  else
    runField bits w (pairField bits t / (2 * pairStride bits) * 3 + pairField bits t % (2 * pairStride bits) * bits / 16)
      (pairField bits t % (2 * pairStride bits) * bits % 16)

/-! ## The same reader on words and on the places their bits come from -/

instance : WordOps (BitVec 32) where
  srl n x := x >>> n
  sll n x := x <<< n
  mask n x := x &&& BitVec.ofNat 32 n
  or x y := x ||| y

/-- For each bit of a word, the bits (word, place) it is the join of. -/
abbrev Src := Nat → List (Nat × Nat)

instance : WordOps Src where
  srl n e := fun p => if p + n < 32 then e (p + n) else []
  sll n e := fun p => if n ≤ p then e (p - n) else []
  mask n e := fun p => if n.testBit p then e p else []
  or e f := fun p => e p ++ f p

/-- `e` says of every bit of `x` which bits of the words `w` it is the join of. -/
def Reads (w : Nat → BitVec 32) (x : BitVec 32) (e : Src) : Prop :=
  ∀ p, p < 32 → x.getLsbD p = (e p).any fun q => (w q.1).getLsbD q.2

section Reads

variable {w : Nat → BitVec 32} {x y : BitVec 32} {e f : Src}

/-- A right shift reads the bits higher up. -/
theorem reads_srl (n : Nat) (h : Reads w x e) : Reads w (srl n x) (srl n e) := by
  intro p hp
  show (x >>> n).getLsbD p = (if p + n < 32 then e (p + n) else []).any _
  rw [BitVec.getLsbD_ushiftRight]
  split_ifs with hn
  · rw [Nat.add_comm n p]; exact h _ hn
  · rw [BitVec.getLsbD_of_ge _ _ (by omega)]; rfl

/-- A left shift reads the bits lower down. -/
theorem reads_sll (n : Nat) (h : Reads w x e) : Reads w (sll n x) (sll n e) := by
  intro p hp
  show (x <<< n).getLsbD p = (if n ≤ p then e (p - n) else []).any _
  rw [BitVec.getLsbD_shiftLeft]
  split_ifs with hn
  · rw [h _ (by omega)]; simp [hp, hn]
  · simp [Nat.lt_of_not_le hn]

/-- A mask keeps the bits it has. -/
theorem reads_mask (n : Nat) (h : Reads w x e) : Reads w (mask n x) (mask n e) := by
  intro p hp
  show (x &&& BitVec.ofNat 32 n).getLsbD p = (if n.testBit p then e p else []).any _
  rw [BitVec.getLsbD_and, BitVec.getLsbD_ofNat, h p hp]
  split_ifs with hn <;> simp [hp, hn]

/-- A join has the bits of both. -/
theorem reads_or (h : Reads w x e) (h' : Reads w y f) : Reads w (or x y) (or e f) := by
  intro p hp
  show (x ||| y).getLsbD p = (e p ++ f p).any _
  rw [BitVec.getLsbD_or, h p hp, h' p hp, List.any_append]

/-- A shift by a constant that may be zero. -/
theorem reads_srl0 (n : Nat) (h : Reads w x e) : Reads w (srl0 n x) (srl0 n e) := by
  unfold srl0; split_ifs
  · exact h
  · exact reads_srl n h

end Reads

/-- The words themselves: bit `p` of word `i`. -/
def wordSrc (i : Nat) : Src := fun p => [(i, p)]

theorem reads_word (w : Nat → BitVec 32) (i : Nat) : Reads w (w i) (wordSrc i) := by
  intro p _; simp [wordSrc]

/-- A choice by the same condition on both sides. -/
theorem reads_ite {w : Nat → BitVec 32} {x y : BitVec 32} {e f : Src} {c : Prop} [Decidable c] (h : Reads w x e) (h' : Reads w y f) :
    Reads w (if c then x else y) (if c then e else f) := by
  by_cases hc : c
  · rw [if_pos hc, if_pos hc]; exact h
  · rw [if_neg hc, if_neg hc]; exact h'

theorem reads_stream (w : Nat → BitVec 32) (bits i : Nat) : Reads w (stream bits w i) (stream bits wordSrc i) := by
  have hl (a b : Nat) : Reads w (or (mask 65535 (w a)) (mask 4294901760 (w b))) (or (mask 65535 (wordSrc a)) (mask 4294901760 (wordSrc b))) :=
    reads_or (reads_mask _ (reads_word w _)) (reads_mask _ (reads_word w _))
  have hs (a b : Nat) : Reads w (or (srl 16 (w a)) (sll 16 (w b))) (or (srl 16 (wordSrc a)) (sll 16 (wordSrc b))) :=
    reads_or (reads_srl _ (reads_word w _)) (reads_sll _ (reads_word w _))
  exact reads_ite (reads_ite (hl _ _) (reads_ite (hs _ _) (reads_ite (hl _ _) (reads_ite (hs _ _) (hl _ _)))))
    (reads_ite (reads_ite (hl _ _) (reads_ite (hs _ _) (hl _ _))) (reads_word w _))

/-- The reader on words has the bits the reader on places says. -/
theorem reads_pairCode (w : Nat → BitVec 32) (bits t : Nat) : Reads w (pairCode bits t w) (pairCode bits t wordSrc) :=
  reads_ite (reads_srl0 _ (reads_word w _))
    (reads_ite
      (reads_or (reads_mask _ (reads_srl0 _ (reads_stream w _ _))) (reads_mask _ (reads_sll _ (reads_stream w _ _))))
      (reads_srl0 _ (reads_stream w _ _)))

/-- The channel, within its group, that half `h` of pair `t` holds. -/
def chan (bits t h : Nat) : Nat := pairField bits t + h * pairStride bits

/-- Bit `b` of the code in half `h` of pair `t` is bit `j * bits + b` of the group's bit stream, `j` the channel. -/
def codesOk : Bool :=
  [8, 6, 5, 4, 3, 2].all fun bits => (List.range 16).all fun t => (List.range 2).all fun h => (List.range bits).all fun b =>
    (pairCode bits t wordSrc : Src) (16 * h + b) == [((chan bits t h * bits + b) / 32, (chan bits t h * bits + b) % 32)]

theorem codesOk_eq : codesOk = true := by decide +kernel

/-- Bit `b` of a code on the words. -/
theorem getLsbD_pairCode (w : Nat → BitVec 32) {bits t h b : Nat} (hb : bits ∈ [8, 6, 5, 4, 3, 2]) (ht : t < 16) (hh : h < 2)
    (hbb : b < bits) :
    (pairCode bits t w).getLsbD (16 * h + b)
      = (w ((chan bits t h * bits + b) / 32)).getLsbD ((chan bits t h * bits + b) % 32) := by
  have hall := codesOk_eq
  unfold codesOk at hall
  rw [List.all_eq_true] at hall
  have h1 := hall bits hb
  rw [List.all_eq_true] at h1
  have h2 := h1 t (List.mem_range.2 ht)
  rw [List.all_eq_true] at h2
  have h3 := h2 h (List.mem_range.2 hh)
  rw [List.all_eq_true] at h3
  have h4 := eq_of_beq (h3 b (List.mem_range.2 hbb))
  have hb8 : bits ≤ 8 := by simp at hb; omega
  rw [reads_pairCode w bits t _ (by omega), h4]
  simp

end Cert.Proof.Codes
-- ==== Proof.Numbers.lean ====
/-
  The numbers behind the packed codes (hand-written): a code as a field of its group's bit stream, the centred code times
  its scale as the weight, and the bfloat16 patterns the kernel builds read as numbers.
-/
module

public import proofs.«01_k».proof.Proof.Codes
public import Idealize.ShloMosaic.Lib.ValueIdx
public import Idealize.ShloMosaic.Lib.IdealHost

@[expose] public section

set_option maxRecDepth 65536

noncomputable section

namespace Cert.Proof.Numbers

open Idealize.ShloMosaic
open Cert.Proof.Codes

/-- The bit width of range `r`. -/
def bitsOf (r : Nat) : Nat := [8, 6, 5, 4, 3, 2].getD r 2
/-- The first group of range `r`. -/
def groupOf (r : Nat) : Nat := [0, 9, 27, 61, 122, 150].getD r 0
/-- The first word row of range `r`. -/
def wordOf (r : Nat) : Nat := [0, 72, 180, 350, 594, 678].getD r 0
/-- The range of group `g`. -/
def rangeOf (g : Nat) : Nat := if g < 9 then 0 else if g < 27 then 1 else if g < 61 then 2 else if g < 122 then 3 else if g < 150 then 4 else 5

/-- Field `j` of `bits` bits of the bit stream of the words `w`. -/
def field (bits : Nat) (w : Nat → BitVec 32) (j : Nat) : Nat :=
  Nat.ofBits fun b : Fin bits => (w ((j * bits + b.val) / 32)).getLsbD ((j * bits + b.val) % 32)

/-- Word `i` of group `g` of a column of words. -/
def groupWord (q : Nat → BitVec 32) (g i : Nat) : BitVec 32 :=
  q (wordOf (rangeOf g) + (g - groupOf (rangeOf g)) * bitsOf (rangeOf g) + i)

/-- The weight of channel `j` of group `g` in a column of words `q` and scales `s`: the centred code times the scale. -/
def weight (q : Nat → BitVec 32) (s : Nat → EReal) (g j : Nat) : EReal :=
  (((field (bitsOf (rangeOf g)) (groupWord q g) j : ℝ) - (2 ^ (bitsOf (rangeOf g) - 1) : ℝ) : ℝ) : EReal) * s g

theorem field_lt (bits : Nat) (w : Nat → BitVec 32) (j : Nat) : field bits w j < 2 ^ bits := Nat.ofBits_lt_two_pow _

theorem testBit_field {bits b : Nat} (w : Nat → BitVec 32) (j : Nat) (hb : b < bits) :
    (field bits w j).testBit b = (w ((j * bits + b) / 32)).getLsbD ((j * bits + b) % 32) :=
  Nat.testBit_ofBits_lt _ b hb

/-- Words with the field's bits below and none above are the field. -/
theorem eq_field {bits : Nat} (w : Nat → BitVec 32) (j n : Nat)
    (h : ∀ b, n.testBit b = if b < bits then (w ((j * bits + b) / 32)).getLsbD ((j * bits + b) % 32) else false) :
    n = field bits w j := by
  apply Nat.eq_of_testBit_eq
  intro b
  rw [h b]
  split_ifs with hb
  · exact (testBit_field w j hb).symm
  · exact (Nat.testBit_ofBits_ge _ b (by omega)).symm

/-- Seven fraction bits under the exponent of 128. -/
theorem ofBits_128 (n : Nat) (h : n < 128) : Ideal.ofBits .bf16 (BitVec.ofNat 16 (17152 + n)) = ((128 + n : ℝ) : EReal) := by
  have h1 : ((BitVec.ofNat 16 (17152 + n)).extractLsb' (8 + 7) 1 == 1#1) = false := by
    revert n; decide +kernel
  have h2 : ((BitVec.ofNat 16 (17152 + n)).extractLsb' 7 8).toNat = 134 := by
    revert n; decide +kernel
  have h3 : ((BitVec.ofNat 16 (17152 + n)).extractLsb' 0 7).toNat = n := by
    revert n; decide +kernel
  show Ideal.ieee 8 7 _ = _
  unfold Ideal.ieee
  simp only [h1, h2, h3]
  norm_num

/-- Seven fraction bits under the exponent of 2048. -/
theorem ofBits_2048 (n : Nat) (h : n < 128) : Ideal.ofBits .bf16 (BitVec.ofNat 16 (17664 + n)) = ((2048 + 16 * n : ℝ) : EReal) := by
  have h1 : ((BitVec.ofNat 16 (17664 + n)).extractLsb' (8 + 7) 1 == 1#1) = false := by
    revert n; decide +kernel
  have h2 : ((BitVec.ofNat 16 (17664 + n)).extractLsb' 7 8).toNat = 138 := by
    revert n; decide +kernel
  have h3 : ((BitVec.ofNat 16 (17664 + n)).extractLsb' 0 7).toNat = n := by
    revert n; decide +kernel
  show Ideal.ieee 8 7 _ = _
  unfold Ideal.ieee
  simp only [h1, h2, h3]
  rw [if_neg (by decide), if_neg (by decide)]
  congr 1
  push_cast
  norm_num
  ring

theorem dup_testBit : ∀ b < 8, ∀ h < 2, ∀ p < 16, (dup (2 ^ b - 1)).testBit (16 * h + p) = decide (p < b) := by decide +kernel
theorem exp128_testBit : ∀ h < 2, ∀ p < 16, (1124090624 : Nat).testBit (16 * h + p) = if p < 7 then false else (134 : Nat).testBit (p - 7) := by decide +kernel
theorem exp2048_testBit : ∀ h < 2, ∀ p < 16, (1157645568 : Nat).testBit (16 * h + p) = if p < 7 then false else (138 : Nat).testBit (p - 7) := by decide +kernel

/-- One half of a masked word joined with an exponent in both halves. -/
theorem half_eq (x : BitVec 32) {b h n E e : Nat} (hb : b < 8) (hh : h < 2) (hn : n < 2 ^ b)
    (hE : ∀ h < 2, ∀ p < 16, E.testBit (16 * h + p) = if p < 7 then false else e.testBit (p - 7))
    (hx : ∀ p < b, x.getLsbD (16 * h + p) = n.testBit p) :
    ((x &&& BitVec.ofNat 32 (dup (2 ^ b - 1))) ||| BitVec.ofNat 32 E).extractLsb' (16 * h) 16 = BitVec.ofNat 16 (2 ^ 7 * e + n) := by
  have hn7 : n < 2 ^ 7 := Nat.lt_of_lt_of_le hn (Nat.pow_le_pow_right (by decide) (by omega))
  apply BitVec.eq_of_getLsbD_eq
  intro p hp
  have h32 : 16 * h + p < 32 := by omega
  rw [BitVec.getLsbD_extractLsb', BitVec.getLsbD_or, BitVec.getLsbD_and, BitVec.getLsbD_ofNat, BitVec.getLsbD_ofNat,
    BitVec.getLsbD_ofNat, dup_testBit b hb h hh p hp, hE h hh p hp, Nat.testBit_two_pow_mul_add e hn7]
  by_cases hpb : p < b
  · have hp7 : p < 7 := by omega
    rw [hx p hpb]; simp [hp, h32, hpb, hp7]
  · have hz : n.testBit p = false := Nat.testBit_lt_two_pow (Nat.lt_of_lt_of_le hn (Nat.pow_le_pow_right (by decide) (by omega)))
    by_cases hp7 : p < 7
    · simp [hp, h32, hpb, hp7, hz]
    · simp [hp, h32, hpb, hp7]

/-- The pattern the kernel builds from the low bits of one half, at the exponent of 128. -/
theorem half_128 (x : BitVec 32) {b h n : Nat} (hb : b < 8) (hh : h < 2) (hn : n < 2 ^ b)
    (hx : ∀ p < b, x.getLsbD (16 * h + p) = n.testBit p) :
    Ideal.ofBits .bf16 (((x &&& BitVec.ofNat 32 (dup (2 ^ b - 1))) ||| BitVec.ofNat 32 1124090624).extractLsb' (16 * h) 16) = ((128 + n : ℝ) : EReal) := by
  rw [half_eq x hb hh hn exp128_testBit hx]
  exact ofBits_128 n (Nat.lt_of_lt_of_le hn (show 2 ^ b ≤ 2 ^ 7 from Nat.pow_le_pow_right (by decide) (by omega)))

/-- … and at the exponent of 2048. -/
theorem half_2048 (x : BitVec 32) {b h n : Nat} (hb : b < 8) (hh : h < 2) (hn : n < 2 ^ b)
    (hx : ∀ p < b, x.getLsbD (16 * h + p) = n.testBit p) :
    Ideal.ofBits .bf16 (((x &&& BitVec.ofNat 32 (dup (2 ^ b - 1))) ||| BitVec.ofNat 32 1157645568).extractLsb' (16 * h) 16) = ((2048 + 16 * n : ℝ) : EReal) := by
  rw [half_eq x hb hh hn exp2048_testBit hx]
  exact ofBits_2048 n (Nat.lt_of_lt_of_le hn (show 2 ^ b ≤ 2 ^ 7 from Nat.pow_le_pow_right (by decide) (by omega)))

/-- The centred code of a half as the kernel computes it below 8 bits. -/
theorem centred_128 (x : BitVec 32) {b h n : Nat} (hb0 : 0 < b) (hb : b < 8) (hh : h < 2) (hn : n < 2 ^ b)
    (hx : ∀ p < b, x.getLsbD (16 * h + p) = n.testBit p) :
    Ideal.ofBits .bf16 (((x &&& BitVec.ofNat 32 (dup (2 ^ b - 1))) ||| BitVec.ofNat 32 1124090624).extractLsb' (16 * h) 16)
        - Ideal.ofBits .bf16 (BitVec.ofNat 16 (17152 + 2 ^ (b - 1)))
      = (((n : ℝ) - (2 ^ (b - 1) : ℝ) : ℝ) : EReal) := by
  rw [half_128 x hb hh hn hx, ofBits_128 _ (Nat.lt_of_lt_of_le (Nat.pow_lt_pow_right (m := b - 1) (n := 7) (by decide) (by omega)) (by decide)),
    ← EReal.coe_sub]
  congr 1
  push_cast
  ring

/-- … and at 8 bits, from the two nibbles. -/
theorem centred_8 (x : BitVec 32) {h n : Nat} (hh : h < 2) (hn : n < 2 ^ 8) (hx : ∀ p < 8, x.getLsbD (16 * h + p) = n.testBit p) :
    (Ideal.ofBits .bf16 ((((x >>> 4) &&& BitVec.ofNat 32 983055) ||| BitVec.ofNat 32 1157645568).extractLsb' (16 * h) 16) - Ideal.ofBits .bf16 0x4508#16)
        + (Ideal.ofBits .bf16 (((x &&& BitVec.ofNat 32 983055) ||| BitVec.ofNat 32 1124090624).extractLsb' (16 * h) 16) - Ideal.ofBits .bf16 0x4300#16)
      = (((n : ℝ) - (2 ^ (8 - 1) : ℝ) : ℝ) : EReal) := by
  have e1 := half_2048 (x >>> 4) (b := 4) (h := h) (n := n / 2 ^ 4) (by decide) hh (by omega) (by
    intro p hp
    rw [BitVec.getLsbD_ushiftRight, show 4 + (16 * h + p) = 16 * h + (p + 4) by omega, hx (p + 4) (by omega), Nat.testBit_div_two_pow])
  have e2 := half_128 x (b := 4) (h := h) (n := n % 2 ^ 4) (by decide) hh (Nat.mod_lt _ (by decide)) (by
    intro p hp
    rw [hx p (by omega), Nat.testBit_mod_two_pow]; simp [hp])
  have e3 := ofBits_2048 8 (by decide)
  have e4 := ofBits_128 0 (by decide)
  have en : (n : ℝ) = 16 * ((n / 2 ^ 4 : ℕ) : ℝ) + ((n % 2 ^ 4 : ℕ) : ℝ) := by
    exact_mod_cast (show n = 16 * (n / 2 ^ 4) + n % 2 ^ 4 by omega)
  change Ideal.ofBits .bf16 0x4508#16 = _ at e3
  change Ideal.ofBits .bf16 0x4300#16 = _ at e4
  rw [show (983055 : Nat) = dup (2 ^ 4 - 1) from rfl, e1, e2, e3, e4, ← EReal.coe_sub, ← EReal.coe_sub, ← EReal.coe_add]
  congr 1
  rw [en]
  push_cast
  ring

end Cert.Proof.Numbers
-- ==== Proof.HostVals.lean ====
/-
  What the kernel's launch finds in its arrays (hand-written): the activations taken by the permutation and laid out by
  pairs, and the two transposed weight arrays.
-/
module

public import proofs.«01_k».proof.Proof.Numbers
public import proofs.«01_k».proof.Proof.Gen.KernelIdeal.Frame
public import Idealize.ShloMosaic.Lib.Pipeline.Value
public import proofs.«01_k».proof.Proof.Gen.ReferenceIdeal.Read

@[expose] public section

set_option maxRecDepth 65536

noncomputable section

namespace Cert.Proof.HostVals

open Cert.KernelIdeal Cert.KernelIdeal.Gen
open Idealize.ShloMosaic Idealize.ShloMosaic.TcCoe Idealize.ShloMosaic.ValueIdx
open Cert.Proof.Codes Cert.Proof.Numbers

/-- The shapes of one range's layout: `U` groups of `A` blocks of two halves of `d` channels, from channel `off` on. -/
structure LayoutShapes (U A d R off : Nat) : Prop where
  hAd : A * d = 16
  hd : 0 < d
  hR : R = U * 32
  hoff : off + R ≤ 5120
  cut : S24x256x5120.Slices ![0, 0, off] ⟨3, ![24, 256, R]⟩
  split : Shape.ShapeCasts ⟨3, ![24, 256, R]⟩ ⟨5, ![6144, U, A, 2, d]⟩
  turn : Shape.Transposes ⟨5, ![6144, U, A, 2, d]⟩ [0, 2, 4, 1, 3] ⟨5, ![6144, A, d, U, 2]⟩
  join : Shape.ShapeCasts ⟨5, ![6144, A, d, U, 2]⟩ ⟨4, ![6144, 16, U, 2]⟩

variable {α : Type}

section Layout

variable {U A d R off : Nat}

/-- One range of the activations, laid out by pairs, groups and halves. -/
def layout (h : LayoutShapes U A d R off) (x : S24x256x5120.Idx → α) : (⟨4, ![6144, 16, U, 2]⟩ : Shape).Idx → α :=
  shapeCast ⟨4, ![6144, 16, U, 2]⟩
    (transpose ⟨5, ![6144, A, d, U, 2]⟩ [0, 2, 4, 1, 3]
      (shapeCast ⟨5, ![6144, U, A, 2, d]⟩ (extractStridedSlice ⟨3, ![24, 256, R]⟩ ![0, 0, off] x h.cut) h.split) h.turn) h.join

/-- Half `v` of pair `p` of group `u` is the group's channel `p / d * (2 d) + p % d + v d`. -/
theorem layout_apply (h : LayoutShapes U A d R off) (x : S24x256x5120.Idx → α) (n : Fin 6144) (p : Fin 16) (u : Fin U) (v : Fin 2)
    (k : Fin 5120) (hk : k.val = off + 32 * u.val + (p.val / d * (2 * d) + p.val % d + v.val * d)) :
    layout h x (ix4 n p u v) = x (ix3 ⟨n.val / 256, by have := n.isLt; omega⟩ ⟨n.val % 256, Nat.mod_lt _ (by decide)⟩ k) := by
  have hn := n.isLt
  have hp := p.isLt
  have hu := u.isLt
  have hv := v.isLt
  have hd := h.hd
  have hR := h.hR
  have hm : p.val % d < d := Nat.mod_lt _ hd
  have hpd : d * (p.val / d) + p.val % d = p.val := Nat.div_add_mod _ _
  have hA : p.val / d < A := by rw [Nat.div_lt_iff_lt_mul hd, h.hAd]; exact hp
  have hr : 32 * u.val + (p.val / d * (2 * d) + p.val % d + v.val * d) < R := by
    have h1 : (p.val / d + 1) * d ≤ A * d := Nat.mul_le_mul_right _ hA
    have h2 : v.val * d ≤ 1 * d := Nat.mul_le_mul_right _ (by omega)
    have h3 : p.val / d * (2 * d) = 2 * (p.val / d * d) := by ring
    rw [Nat.add_mul, h.hAd] at h1
    omega
  unfold layout
  refine (shapeCast_apply _ h.join _ (ix5 n ⟨p.val / d, hA⟩ ⟨p.val % d, hm⟩ u v : Shape.Idx ⟨5, ![6144, A, d, U, 2]⟩) ?_).trans ?_
  · rw [Shape.rowMajor_val_five, Shape.rowMajor_val_four]
    show ((((n.val * A + p.val / d) * d + p.val % d) * U + u.val) * 2 + v.val) = ((n.val * 16 + p.val) * U + u.val) * 2 + v.val
    have e : (n.val * A + p.val / d) * d + p.val % d = n.val * 16 + p.val := by
      calc _ = n.val * (A * d) + (d * (p.val / d) + p.val % d) := by ring
        _ = _ := by rw [h.hAd, hpd]
    rw [e]
  refine (transpose_apply _ _ h.turn _ (ix5 n u ⟨p.val / d, hA⟩ v ⟨p.val % d, hm⟩ : Shape.Idx ⟨5, ![6144, U, A, 2, d]⟩) (fun b => match b with
    | ⟨0, _⟩ => rfl | ⟨1, _⟩ => rfl | ⟨2, _⟩ => rfl | ⟨3, _⟩ => rfl | ⟨4, _⟩ => rfl)).trans ?_
  refine (shapeCast_apply _ h.split _ (ix3 ⟨n.val / 256, by omega⟩ ⟨n.val % 256, Nat.mod_lt _ (by decide)⟩ ⟨_, hr⟩ : Shape.Idx ⟨3, ![24, 256, R]⟩) ?_).trans ?_
  · rw [Shape.rowMajor_val_five, Shape.rowMajor_val_three]
    show (n.val / 256 * 256 + n.val % 256) * R + (32 * u.val + (p.val / d * (2 * d) + p.val % d + v.val * d))
      = (((n.val * U + u.val) * A + p.val / d) * 2 + v.val) * d + p.val % d
    have e : n.val / 256 * 256 + n.val % 256 = n.val := by omega
    rw [e, hR]
    calc _ = n.val * U * 2 * 16 + u.val * 2 * 16 + (p.val / d * (2 * d) + p.val % d + v.val * d) := by ring
      _ = n.val * U * 2 * (A * d) + u.val * 2 * (A * d) + (p.val / d * (2 * d) + p.val % d + v.val * d) := by rw [h.hAd]
      _ = _ := by ring
  refine extractStridedSlice_apply _ _ h.cut _ _ (fun a => match a with
    | ⟨0, _⟩ => by show n.val / 256 = 0 + n.val / 256; omega
    | ⟨1, _⟩ => by show n.val % 256 = 0 + n.val % 256; omega
    | ⟨2, _⟩ => by show k.val = off + (32 * u.val + (p.val / d * (2 * d) + p.val % d + v.val * d)); rw [hk, Nat.add_assoc])

end Layout

theorem layout8 : LayoutShapes 9 8 2 288 0 := ⟨rfl, by decide, rfl, by decide, slices_S24x256x5120_S24x256x288_0_0_0, shapeCasts_S24x256x288_S6144x9x8x2x2, transposes_S6144x9x8x2x2_S6144x8x2x9x2_0_2_4_1_3, shapeCasts_S6144x8x2x9x2_S6144x16x9x2⟩
theorem layout6 : LayoutShapes 18 2 8 576 288 := ⟨rfl, by decide, rfl, by decide, slices_S24x256x5120_S24x256x576_0_0_288, shapeCasts_S24x256x576_S6144x18x2x2x8, transposes_S6144x18x2x2x8_S6144x2x8x18x2_0_2_4_1_3, shapeCasts_S6144x2x8x18x2_S6144x16x18x2⟩
theorem layout5 : LayoutShapes 34 1 16 1088 864 := ⟨rfl, by decide, rfl, by decide, slices_S24x256x5120_S24x256x1088_0_0_864, shapeCasts_S24x256x1088_S6144x34x1x2x16, transposes_S6144x34x1x2x16_S6144x1x16x34x2_0_2_4_1_3, shapeCasts_S6144x1x16x34x2_S6144x16x34x2⟩
theorem layout4 : LayoutShapes 61 4 4 1952 1952 := ⟨rfl, by decide, rfl, by decide, slices_S24x256x5120_S24x256x1952_0_0_1952, shapeCasts_S24x256x1952_S6144x61x4x2x4, transposes_S6144x61x4x2x4_S6144x4x4x61x2_0_2_4_1_3, shapeCasts_S6144x4x4x61x2_S6144x16x61x2⟩
theorem layout3 : LayoutShapes 28 1 16 896 3904 := ⟨rfl, by decide, rfl, by decide, slices_S24x256x5120_S24x256x896_0_0_3904, shapeCasts_S24x256x896_S6144x28x1x2x16, transposes_S6144x28x1x2x16_S6144x1x16x28x2_0_2_4_1_3, shapeCasts_S6144x1x16x28x2_S6144x16x28x2⟩
theorem layout2 : LayoutShapes 10 2 8 320 4800 := ⟨rfl, by decide, rfl, by decide, slices_S24x256x5120_S24x256x320_0_0_4800, shapeCasts_S24x256x320_S6144x10x2x2x8, transposes_S6144x10x2x2x8_S6144x2x8x10x2_0_2_4_1_3, shapeCasts_S6144x2x8x10x2_S6144x16x10x2⟩

/-- The six ranges. -/
def parts (x : S24x256x5120.Idx → α) : List ((s : Shape) × (s.Idx → α)) :=
  [⟨S6144x16x9x2, layout layout8 x⟩, ⟨S6144x16x18x2, layout layout6 x⟩, ⟨S6144x16x34x2, layout layout5 x⟩,
    ⟨S6144x16x61x2, layout layout4 x⟩, ⟨S6144x16x28x2, layout layout3 x⟩, ⟨S6144x16x10x2, layout layout2 x⟩]

/-- The activations laid out by pairs. -/
def laidOut (x : S24x256x5120.Idx → α) : S6144x5120.Idx → α :=
  shapeCast S6144x5120 (concatenate S6144x16x160x2 2 (parts x) concatenates_S6144x16x9x2_S6144x16x18x2_S6144x16x34x2_S6144x16x61x2_S6144x16x28x2_S6144x16x10x2_S6144x16x160x2_d2)
    shapeCasts_S6144x16x160x2_S6144x5120

/-- The channel that row `r` of the scratch, and column `r` of the laid-out activations, hold. -/
def chanOf (r : Nat) : Nat := 32 * (r % 320 / 2) + chan (bitsOf (rangeOf (r % 320 / 2))) (r / 320) (r % 2)

/-- One range's piece of the layout. -/
theorem piece {U A d R off : Nat} (h : LayoutShapes U A d R off) (x : S24x256x5120.Idx → α) (k : Nat) (hk : k < (parts x).length)
    (hxk : (parts x)[k] = ⟨⟨4, ![6144, 16, U, 2]⟩, layout h x⟩) (pre : Nat)
    (hpre : ((((parts x).take k).map (·.1)).map fun s => if h : s.rank = S6144x16x160x2.rank then s.size ((2 : Fin S6144x16x160x2.rank).cast h.symm) else 0).sum = pre)
    (hoff : off = 32 * pre) (bits : Nat) (hbits : pairStride bits = d) (n : Fin 6144) (p : Fin 16) (g : Fin 160) (v : Fin 2) (hlo : pre ≤ g.val) (hhi : g.val < pre + U)
    (c : Fin 5120) (hc : c.val = 32 * g.val + chan bits p.val v.val) :
    concatenate S6144x16x160x2 2 (parts x) concatenates_S6144x16x9x2_S6144x16x18x2_S6144x16x34x2_S6144x16x61x2_S6144x16x28x2_S6144x16x10x2_S6144x16x160x2_d2 (ix4 n p g v)
      = x (ix3 ⟨n.val / 256, by have := n.isLt; omega⟩ ⟨n.val % 256, Nat.mod_lt _ (by decide)⟩ c) := by
  refine (concatenate_apply_piece (t := S6144x16x160x2) 2 (parts x) _ (ix4 n p g v) k hk _ (layout h x) hxk rfl pre hpre
    (ix4 n p ⟨g.val - pre, by omega⟩ v : Shape.Idx ⟨4, ![6144, 16, U, 2]⟩) (fun b hb => match b with
      | ⟨0, _⟩ => rfl | ⟨1, _⟩ => rfl | ⟨2, _⟩ => absurd rfl hb | ⟨3, _⟩ => rfl) (by show pre + (g.val - pre) = g.val; omega)).trans ?_
  refine layout_apply h x n p _ v c ?_
  rw [hc]
  unfold chan pairField
  rw [hbits]
  dsimp only
  omega

/-- Column `r` of the laid-out activations is channel `chanOf r`. -/
theorem laidOut_apply (x : S24x256x5120.Idx → α) (n : Fin 6144) (r c : Fin 5120) (hc : c.val = chanOf r.val) :
    laidOut x (ix2 n r) = x (ix3 ⟨n.val / 256, by have := n.isLt; omega⟩ ⟨n.val % 256, Nat.mod_lt _ (by decide)⟩ c) := by
  have hr := r.isLt
  unfold laidOut
  refine (shapeCast_apply _ shapeCasts_S6144x16x160x2_S6144x5120 _
    (ix4 n ⟨r.val / 320, by omega⟩ ⟨r.val % 320 / 2, by omega⟩ ⟨r.val % 2, by omega⟩ : S6144x16x160x2.Idx) ?_).trans ?_
  · rw [Shape.rowMajor_val_four, Shape.rowMajor_val_two]
    show ((n.val * 16 + r.val / 320) * 160 + r.val % 320 / 2) * 2 + r.val % 2 = n.val * 5120 + r.val
    omega
  have hg : r.val % 320 / 2 < 160 := by omega
  generalize hG : (⟨r.val % 320 / 2, hg⟩ : Fin 160) = g
  have hgv : g.val = r.val % 320 / 2 := by rw [← hG]
  unfold chanOf at hc
  rw [← hgv] at hc
  have hgl := g.isLt
  have key (r' : Nat) (h : rangeOf g.val = r') : c.val = 32 * g.val + chan (bitsOf r') (r.val / 320) (r.val % 2) := by rw [hc, h]
  unfold rangeOf at key
  rcases lt_or_ge g.val 9 with h | h
  · exact piece layout8 x 0 (show 0 < 6 by decide) rfl 0 rfl rfl 8 rfl n _ g _ (Nat.zero_le _) h c (key 0 (by split_ifs <;> omega))
  rcases lt_or_ge g.val 27 with h' | h'
  · exact piece layout6 x 1 (show 1 < 6 by decide) rfl 9 rfl rfl 6 rfl n _ g _ h h' c (key 1 (by split_ifs <;> omega))
  rcases lt_or_ge g.val 61 with h | h
  · exact piece layout5 x 2 (show 2 < 6 by decide) rfl 27 rfl rfl 5 rfl n _ g _ h' h c (key 2 (by split_ifs <;> omega))
  rcases lt_or_ge g.val 122 with h' | h'
  · exact piece layout4 x 3 (show 3 < 6 by decide) rfl 61 rfl rfl 4 rfl n _ g _ h h' c (key 3 (by split_ifs <;> omega))
  rcases lt_or_ge g.val 150 with h | h
  · exact piece layout3 x 4 (show 4 < 6 by decide) rfl 122 rfl rfl 3 rfl n _ g _ h' h c (key 4 (by split_ifs <;> omega))
  · exact piece layout2 x 5 (show 5 < 6 by decide) rfl 150 rfl rfl 2 rfl n _ g _ h hgl c (key 5 (by split_ifs <;> omega))

/-! ## The launch's arrays -/

section Launch

variable (m : (ℓ : Loc nD τ sig) → Buf (Elt Ideal) ℓ)

/-- A run of one operation list after another. -/
theorem after_append {Val : EltTy → Type} (a b : List (HloOp τ sig Val)) (W : Valuation τ sig Val) :
    StableHlo.after (a ++ b) W = StableHlo.after b (StableHlo.after a W) := by
  induction a generalizing W with
  | nil => rfl
  | cons op a ih => simpa using ih _

/-- The concatenation as a function of its six operands. -/
def joinSix (u0 : FVec Ideal S6144x16x9x2 .bf16) (u1 : FVec Ideal S6144x16x18x2 .bf16) (u2 : FVec Ideal S6144x16x34x2 .bf16) (u3 : FVec Ideal S6144x16x61x2 .bf16) (u4 : FVec Ideal S6144x16x28x2 .bf16) (u5 : FVec Ideal S6144x16x10x2 .bf16) : FVec Ideal S6144x16x160x2 .bf16 :=
  concatenate S6144x16x160x2 2 [⟨S6144x16x9x2, u0⟩, ⟨S6144x16x18x2, u1⟩, ⟨S6144x16x34x2, u2⟩, ⟨S6144x16x61x2, u3⟩, ⟨S6144x16x28x2, u4⟩, ⟨S6144x16x10x2, u5⟩] concatenates_S6144x16x9x2_S6144x16x18x2_S6144x16x34x2_S6144x16x61x2_S6144x16x28x2_S6144x16x10x2_S6144x16x160x2_d2

/-- The operations of the six ranges, and those that follow them. -/
theorem layoutOps_eq : (hostOps0_1 : List (HloOp τ sig (Elt Ideal))) = hostOps0_1.take 24 ++ hostOps0_1.drop 24 := rfl

/-- The layout operations leave the laid-out activations in their last array. -/
theorem after_layout (W : Valuation τ sig (Elt Ideal)) :
    StableHlo.after hostOps0_1 W (Proc.devRef .tc main_v26) = laidOut (W (Proc.devRef .tc main_v0)) := by
  have tail (W' : Valuation τ sig (Elt Ideal)) : StableHlo.after ((hostOps0_1 : List (HloOp τ sig (Elt Ideal))).drop 24) W' (Proc.devRef .tc main_v26)
      = shapeCast S6144x5120 (joinSix (W' (Proc.devRef .tc main_v4)) (W' (Proc.devRef .tc main_v8)) (W' (Proc.devRef .tc main_v12)) (W' (Proc.devRef .tc main_v16)) (W' (Proc.devRef .tc main_v20)) (W' (Proc.devRef .tc main_v24)))
          shapeCasts_S6144x16x160x2_S6144x5120 := by
    simp only [List.drop]
    after_results
    rfl
  have hv4 : StableHlo.after ((hostOps0_1 : List (HloOp τ sig (Elt Ideal))).take 24) W (Proc.devRef .tc main_v4) = layout layout8 (W (Proc.devRef .tc main_v0)) := by
    simp only [List.take]
    after_results
    rfl
  have hv8 : StableHlo.after ((hostOps0_1 : List (HloOp τ sig (Elt Ideal))).take 24) W (Proc.devRef .tc main_v8) = layout layout6 (W (Proc.devRef .tc main_v0)) := by
    simp only [List.take]
    after_results
    rfl
  have hv12 : StableHlo.after ((hostOps0_1 : List (HloOp τ sig (Elt Ideal))).take 24) W (Proc.devRef .tc main_v12) = layout layout5 (W (Proc.devRef .tc main_v0)) := by
    simp only [List.take]
    after_results
    rfl
  have hv16 : StableHlo.after ((hostOps0_1 : List (HloOp τ sig (Elt Ideal))).take 24) W (Proc.devRef .tc main_v16) = layout layout4 (W (Proc.devRef .tc main_v0)) := by
    simp only [List.take]
    after_results
    rfl
  have hv20 : StableHlo.after ((hostOps0_1 : List (HloOp τ sig (Elt Ideal))).take 24) W (Proc.devRef .tc main_v20) = layout layout3 (W (Proc.devRef .tc main_v0)) := by
    simp only [List.take]
    after_results
    rfl
  have hv24 : StableHlo.after ((hostOps0_1 : List (HloOp τ sig (Elt Ideal))).take 24) W (Proc.devRef .tc main_v24) = layout layout2 (W (Proc.devRef .tc main_v0)) := by
    simp only [List.take]
    after_results
    rfl
  rw [layoutOps_eq, after_append, tail, hv4, hv8, hv12, hv16, hv20, hv24]
  rfl

theorem after_words (W : Valuation τ sig (Elt Ideal)) :
    StableHlo.after hostOps0_1 W (Proc.devRef .tc main_v27) = transpose S698x27648 [1, 0] (W (Proc.devRef .tc main_arg2)) transposes_S27648x698_S698x27648_1_0 := by
  after_results
theorem after_scales (W : Valuation τ sig (Elt Ideal)) :
    StableHlo.after hostOps0_1 W (Proc.devRef .tc main_v28) = transpose S160x27648 [1, 0] (W (Proc.devRef .tc main_arg3)) transposes_S27648x160_S160x27648_1_0 := by
  after_results

/-- The activations taken by the permutation, in both programs the same term. -/
theorem after_take (W : Valuation τ sig (Elt Ideal)) :
    StableHlo.after hostOps0 W (Proc.devRef .tc main_v0)
      = Cert.ReferenceIdeal.Read.val_main_v197 (F := Ideal) (W (Proc.devRef .tc main_arg0)) (W (Proc.devRef .tc main_arg1)) := by
  after_results
  rfl

theorem take_arg2 (W : Valuation τ sig (Elt Ideal)) : StableHlo.after hostOps0 W (Proc.devRef .tc main_arg2) = W (Proc.devRef .tc main_arg2) := by
  after_results
theorem take_arg3 (W : Valuation τ sig (Elt Ideal)) : StableHlo.after hostOps0 W (Proc.devRef .tc main_arg3) = W (Proc.devRef .tc main_arg3) := by
  after_results

/-- The activations the launch finds. -/
theorem V_acts (c : Dev nD) : V m c main_v26
    = laidOut (Cert.ReferenceIdeal.Read.val_main_v197 (F := Ideal) (m ((c : Thread nD τ).loc main_arg0)) (m ((c : Thread nD τ).loc main_arg1))) := by
  show StableHlo.after (List.flatten [hostOps0, hostOps0_1]) _ _ = _
  rw [List.flatten_cons, List.flatten_cons, List.flatten_nil, List.append_nil, after_append, after_layout, after_take]

/-- The words the launch finds: transposed. -/
theorem V_words (c : Dev nD) : V m c main_v27 = transpose S698x27648 [1, 0] (m ((c : Thread nD τ).loc main_arg2)) transposes_S27648x698_S698x27648_1_0 := by
  show StableHlo.after (List.flatten [hostOps0, hostOps0_1]) _ _ = _
  rw [List.flatten_cons, List.flatten_cons, List.flatten_nil, List.append_nil, after_append, after_words, take_arg2]

/-- The scales the launch finds: transposed. -/
theorem V_scales (c : Dev nD) : V m c main_v28 = transpose S160x27648 [1, 0] (m ((c : Thread nD τ).loc main_arg3)) transposes_S27648x160_S160x27648_1_0 := by
  show StableHlo.after (List.flatten [hostOps0, hostOps0_1]) _ _ = _
  rw [List.flatten_cons, List.flatten_cons, List.flatten_nil, List.append_nil, after_append, after_scales, take_arg3]

end Launch

end Cert.Proof.HostVals

end
-- ==== Proof.Tiles.lean ====
/-
  The tiles one trip of the column loop stores (hand-written), each by its place in the list: the pair of channels and
  the block of eight groups it belongs to give the rectangle, the words read and the scales multiplied.
-/
module

public import proofs.«01_k».proof.Proof.RunIdeal
public import proofs.«01_k».proof.Proof.Numbers

@[expose] public section

set_option maxRecDepth 65536

noncomputable section

namespace Cert.Proof.Tiles

open Cert.KernelIdeal Cert.KernelIdeal.Gen
open Idealize.ShloMosaic Idealize.ShloMosaic.TcCoe Idealize.ShloMosaic.Tactic
open Cert.Proof.Codes Cert.Proof.Numbers

variable {F : FTy → Type} [FloatOps F]

/-- The field reader's operations on a vector of words, as the kernel states them. -/
instance : WordOps (IVec S8x128 32) where
  srl n x := shrui x (broadcast S8x128 (BitVec.ofNat 32 n))
  sll n x := shli x (broadcast S8x128 (BitVec.ofNat 32 n))
  mask n x := andi x (broadcast S8x128 (BitVec.ofNat 32 n))
  or x y := ori x y

/-- The first word row of group `8 v`, counted as range `r` counts. -/
def startOf (v r : Nat) : Nat := wordOf r + 8 * v * bitsOf r - groupOf r * bitsOf r

/-- Two halves masked and given an exponent, read as numbers. -/
def half (m e : Nat) (x : IVec S8x128 32) : FVec F S16x128 .bf16 :=
  bitcastToFloat .bf16 (bitcast S16x128 16 (ori (andi x (broadcast S8x128 (BitVec.ofNat 32 m))) (broadcast S8x128 (BitVec.ofNat 32 e))) bitcasts_S8x128_w32_S16x128_w16)

/-- The centred codes of two halves at a bit width. -/
def valVec (bits : Nat) (x : IVec S8x128 32) : FVec F S16x128 .bf16 :=
  if bits = 8 then
    addf (subf (half 983055 1157645568 (shrui x (broadcast S8x128 4#32))) (broadcast S16x128 (Scalar.ofBits .bf16 0x4508#16)))
      (subf (half 983055 1124090624 x) (broadcast S16x128 (Scalar.ofBits .bf16 0x4300#16)))
  else
    subf (half (dup (2 ^ bits - 1)) 1124090624 x) (broadcast S16x128 (Scalar.ofBits .bf16 (BitVec.ofNat 16 (17152 + 2 ^ (bits - 1)))))

/-- The column the trip's tiles begin at, and the slice of the scratches it stages into, as the kernel computes them. -/
def colOf (k : Fin k0_t1_loop.trips) : Nat := (Scalar.indexCast (Scalar.muli (Scf.iv 0#32 1#32 k) 128#32)).toNat
def slotOf (k : Fin k0_t1_loop.trips) : Nat := (Scalar.indexCast (Scf.iv 0#32 1#32 k)).toNat

theorem colOf_eq (k : Fin k0_t1_loop.trips) : colOf k = 128 * k.val := by revert k; decide +kernel
theorem slotOf_eq (k : Fin k0_t1_loop.trips) : slotOf k = k.val := by revert k; decide +kernel
theorem trips_eq : k0_t1_loop.trips = 4 := by decide +kernel

/-- Whether the block's first (`false`) or last (`true`) group says the range. -/
def partOf (v : Nat) (b : Bool) : Nat := rangeOf (8 * v + if b then 7 else 0)

theorem start_lt : ∀ v : Fin 20, ∀ b : Bool, ∀ i : Fin 8,
    startOf v.val (partOf v.val b) + i.val % bitsOf (partOf v.val b) + bitsOf (partOf v.val b) * 7 < 698 := by decide +kernel

theorem start_lt' (v : Fin 20) (b : Bool) (i : Nat) :
    startOf v.val (partOf v.val b) + i % bitsOf (partOf v.val b) + bitsOf (partOf v.val b) * 7 < 698 := by
  have hb : ∀ v : Fin 20, ∀ b : Bool, 0 < bitsOf (partOf v.val b) ∧ bitsOf (partOf v.val b) ≤ 8 := by decide +kernel
  have h := start_lt v b ⟨i % bitsOf (partOf v.val b), by have := Nat.mod_lt i (hb v b).1; have := (hb v b).2; omega⟩
  simpa using h

/-- The strided rows of words a block reads for word `i` of its groups. -/
def wordRect (k : Fin k0_t1_loop.trips) (v : Fin 20) (b : Bool) (i : Nat) : LoadRect S4x704x128 where
  off := ![slotOf k, startOf v.val (partOf v.val b) + i % bitsOf (partOf v.val b), 0]
  size := S1x8x128.size
  stride := ![1, bitsOf (partOf v.val b), 1]
  inb := by
    have h := start_lt' v b i
    have hk := slotOf_eq k
    have hk4 : k.val < 4 := k.isLt.trans_eq trips_eq
    intro a; right
    fin_cases a
    · show slotOf k + 1 * (1 - 1) < 4; omega
    · show startOf v.val (partOf v.val b) + i % bitsOf (partOf v.val b) + bitsOf (partOf v.val b) * (8 - 1) < 704; omega
    · show 0 + 1 * (128 - 1) < 128; omega

/-- The scale rows a block reads. -/
def scaleRect (k : Fin k0_t1_loop.trips) (v : Fin 20) : Rect S4x160x2x128 :=
  Rect.unit ![slotOf k, 8 * v.val, 0, 0] S1x8x2x128.size (by
    have hk := slotOf_eq k
    have hk4 : k.val < 4 := k.isLt.trans_eq trips_eq
    have hv := v.isLt
    intro a
    fin_cases a
    · show slotOf k + 1 ≤ 4; omega
    · show 8 * v.val + 8 ≤ 160; omega
    · show 0 + 2 ≤ 2; omega
    · show 0 + 128 ≤ 128; omega)

/-- Where in the weight scratch the tile of pair `t` and block `v` lies. -/
def tileRect (k : Fin k0_t1_loop.trips) (n : Fin 320) : Rect S5120x512 :=
  Rect.unit ![(n.val % 16 * 160 + 8 * (n.val / 16)) * 2, colOf k] S16x128.size (by
    have hk := colOf_eq k
    have hk4 : k.val < 4 := k.isLt.trans_eq trips_eq
    have hn := n.isLt
    intro a
    fin_cases a
    · show (n.val % 16 * 160 + 8 * (n.val / 16)) * 2 + 16 ≤ 5120; omega
    · show colOf k + 128 ≤ 512; omega)

section Payload

variable (arg3 : Memref sig .tc .vmem S698x512 .i32) (arg4 : Memref sig .tc .vmem S160x512 .bf16) (arg6 : Memref sig .tc .vmem S4x704x128 .i32) (arg7 : Memref sig .tc .vmem S4x160x2x128 .bf16)
  (X_arg3 : BufTy.Contents (Elt F) arg3.view.ty) (X_arg4 : BufTy.Contents (Elt F) arg4.view.ty) (k : Fin k0_t1_loop.trips)

/-- Word `i` of the eight groups of block `v`. -/
def words (v : Fin 20) (b : Bool) (i : Nat) : IVec S8x128 32 :=
  shapeCast S8x128 (arg6.view.readCov (trip_k0_t1.sl.HW_arg6_1 arg3 X_arg3 k) (wordRect k v b i)) shapeCasts_S1x8x128_S8x128

/-- The centred codes of pair `t` of block `v`, by one of its two ranges. -/
def partVec (v : Fin 20) (t : Nat) (b : Bool) : FVec F S16x128 .bf16 :=
  valVec (bitsOf (partOf v.val b)) (pairCode (bitsOf (partOf v.val b)) t (words arg3 arg6 X_arg3 k v b))

/-- The centred codes of pair `t` of block `v`: at a block of two ranges, the rows of the groups before the second range's
    first from the one and the others from the other. -/
def codeVec (v : Fin 20) (t : Nat) : FVec F S16x128 .bf16 :=
  if partOf v.val false = partOf v.val true then partVec arg3 arg6 X_arg3 k v t false
  else
    interleaveRows S16x128
      (select (cmpi .slt (iota .tc S8x128 32 [0] iota_S8x128_d0_w32) (broadcast S8x128 (BitVec.ofNat 32 (groupOf (partOf v.val true) - 8 * v.val))))
        (rowsOfParity 0 S8x128 (partVec arg3 arg6 X_arg3 k v t false) bitcasts_S16x128_w16_S8x128_w32)
        (rowsOfParity 0 S8x128 (partVec arg3 arg6 X_arg3 k v t true) bitcasts_S16x128_w16_S8x128_w32))
      (select (cmpi .slt (iota .tc S8x128 32 [0] iota_S8x128_d0_w32) (broadcast S8x128 (BitVec.ofNat 32 (groupOf (partOf v.val true) - 8 * v.val))))
        (rowsOfParity 1 S8x128 (partVec arg3 arg6 X_arg3 k v t false) bitcasts_S16x128_w16_S8x128_w32)
        (rowsOfParity 1 S8x128 (partVec arg3 arg6 X_arg3 k v t true) bitcasts_S16x128_w16_S8x128_w32))
      bitcasts_S16x128_w16_S8x128_w32

/-- The scales of block `v`, each row once per half. -/
def scaleVec (v : Fin 20) : FVec F S16x128 .bf16 :=
  k0_pay22 (arg7.view.readCov (trip_k0_t1.sl.HW_arg7_1 arg4 X_arg4 k) (scaleRect k v).toLoadRect)

/-- The tile of pair `n % 16` and block `n / 16`. -/
def tile (n : Fin 320) : View.Piece (Elt F) S5120x512 .bf16 :=
  ⟨tileRect k n, shapeCast S16x128 (mulf (codeVec arg3 arg6 X_arg3 k ⟨n.val / 16, by omega⟩ (n.val % 16)) (scaleVec arg4 arg7 X_arg4 k ⟨n.val / 16, by omega⟩)) shapeCasts_S16x128_S16x128⟩

/-- The first `n` tiles, last first. -/
def tileList : (n : Nat) → n ≤ 320 → List (View.Piece (Elt F) S5120x512 .bf16)
  | 0, _ => []
  | n + 1, h => tile arg3 arg4 arg6 arg7 X_arg3 X_arg4 k ⟨n, h⟩ :: tileList n (Nat.le_of_succ_le h)

end Payload

/-- The list the trip's run recorded is the list of these tiles. -/
theorem tiles_eq (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x2x128 .bf16) (harg7 : arg7.IsWhole) (arg8 : Memref sig .tc .vmem S5120x512 .bf16) (harg8 : arg8.IsWhole)
    (X_arg3 : BufTy.Contents (Elt F) arg3.view.ty) (X_arg4 : BufTy.Contents (Elt F) arg4.view.ty) (k : Fin k0_t1_loop.trips) :
    RunIdeal.tiles c i arg2 harg2 arg3 harg3 arg4 harg4 arg5 harg5 arg6 harg6 arg7 harg7 arg8 harg8 X_arg3 X_arg4 k
      = tileList arg3 arg4 arg6 arg7 X_arg3 X_arg4 k 320 (Nat.le_refl _) := by
  sl_kernel_rfl

end Cert.Proof.Tiles
-- ==== Proof.Weights.lean ====
/-
  The weight scratch after the column loop, element by element (hand-written): row `R` of column `C` is the weight of the
  channel of pair `R / 320` in half `R % 2` of group `R % 320 / 2`.
-/
module

public import proofs.«01_k».proof.Proof.Tiles
public import Idealize.ShloMosaic.Lib.Pipeline.Value
public import Idealize.ShloMosaic.Lib.BitcastPair

@[expose] public section

set_option maxRecDepth 65536

noncomputable section

namespace Cert.Proof.Weights

open Cert.KernelIdeal Cert.KernelIdeal.Gen
open Idealize.ShloMosaic Idealize.ShloMosaic.TcCoe Idealize.ShloMosaic.Tactic Idealize.ShloMosaic.ValueIdx
open Cert.Proof.Codes Cert.Proof.Numbers Cert.Proof.Tiles

theorem trip_lt (k : Fin k0_t1_loop.trips) : k.val < 4 := k.isLt.trans_eq trips_eq

theorem off1_eq (k : Fin k0_t1_loop.trips) : k0_off1 k = ![0, 128 * k.val] := by revert k; decide +kernel
theorem off2_eq (k : Fin k0_t1_loop.trips) : k0_off2 k = ![k.val, 0, 0] := by revert k; decide +kernel
theorem off3_eq (k : Fin k0_t1_loop.trips) : k0_off3 k = ![0, 128 * k.val] := by revert k; decide +kernel
theorem off4_eq (k : Fin k0_t1_loop.trips) : k0_off4 k = ![k.val, 0, 0, 0] := by revert k; decide +kernel

/-- Two vectors interleaved, at an index: the half row of the one or the other by the row's parity. -/
theorem interleave_apply {α : Type} (lo hi : S8x128.Idx → α) (r : Fin 16) (l : Fin 128) :
    interleaveRows S16x128 lo hi bitcasts_S16x128_w16_S8x128_w32 (ix2 r l : S16x128.Idx)
      = if r.val % 2 = 0 then lo (ix2 ⟨r.val / 2, by omega⟩ l) else hi (ix2 ⟨r.val / 2, by omega⟩ l) := by
  have hrow : S16x128.row (ix2 r l : S16x128.Idx) = r.val := rfl
  unfold interleaveRows
  rw [hrow]
  split_ifs <;>
    · first | refine congrArg lo ?_ | refine congrArg hi ?_
      funext d
      apply Fin.ext
      match d with
      | ⟨0, _⟩ => rfl
      | ⟨1, _⟩ => rfl

/-- The rows of one parity, at an index. -/
theorem parity_apply {α : Type} (p : Fin 2) (x : S16x128.Idx → α) (a : Fin 8) (l : Fin 128) :
    rowsOfParity p S8x128 x bitcasts_S16x128_w16_S8x128_w32 (ix2 a l : S8x128.Idx) = x (ix2 ⟨2 * a.val + p.val, by omega⟩ l) := by
  unfold rowsOfParity
  congr 1
  funext d
  apply Fin.ext
  match d with
  | ⟨0, _⟩ => rfl
  | ⟨1, _⟩ => rfl

section Loads

variable (arg3 : Memref sig .tc .vmem S698x512 .i32) (harg3 : arg3.IsWhole) (arg4 : Memref sig .tc .vmem S160x512 .bf16) (harg4 : arg4.IsWhole) (arg6 : Memref sig .tc .vmem S4x704x128 .i32) (arg7 : Memref sig .tc .vmem S4x160x2x128 .bf16)
  (x1 : Vec Ideal S698x512 .i32) (x2 : Vec Ideal S160x512 .bf16) (k : Fin k0_t1_loop.trips)

/-- A word a block reads is the word of the block's array the trip staged. -/
theorem words_apply (v : Fin 20) (b : Bool) (i : Nat) (a : Fin 8) (l : Fin 128) :
    words (F := Ideal) arg3 arg6 (harg3.unread x1) k v b i (ix2 a l)
      = x1 (ix2 ⟨startOf v.val (partOf v.val b) + i % bitsOf (partOf v.val b) + bitsOf (partOf v.val b) * a.val, by
            have h := start_lt' v b i
            have := Nat.mul_le_mul_left (bitsOf (partOf v.val b)) (show a.val ≤ 7 by omega)
            omega⟩
          ⟨128 * k.val + l.val, by have := trip_lt k; omega⟩) := by
  have h698 : startOf v.val (partOf v.val b) + i % bitsOf (partOf v.val b) + bitsOf (partOf v.val b) * a.val < 698 := by
    have h := start_lt' v b i
    have := Nat.mul_le_mul_left (bitsOf (partOf v.val b)) (show a.val ≤ 7 by omega)
    omega
  refine (shapeCast_apply (s := S1x8x128) (t := S8x128) _ _ (ix2 a l) (ix3 (0 : Fin 1) a l) (by
    rw [Shape.rowMajor_val_three, Shape.rowMajor_val_two]; simp)).trans ?_
  refine (congrFun (View.readCov_eq_canon' _ _ _) _).trans ?_
  have hidx : (wordRect k v b i).idx (ix3 (0 : Fin 1) a l : S1x8x128.Idx)
      = (Rect.unit (s := S4x704x128) (k0_off2 k) S1x698x128.size (k0_off2_inb k)).emb
          (ix3 (0 : Fin 1) ⟨startOf v.val (partOf v.val b) + i % bitsOf (partOf v.val b) + bitsOf (partOf v.val b) * a.val, h698⟩ l : S1x698x128.Idx) := by
    funext d
    apply Fin.ext
    have h20 : k0_off2 k 0 = k.val := congrFun (off2_eq k) 0
    have h21 : k0_off2 k 1 = 0 := congrFun (off2_eq k) 1
    have h22 : k0_off2 k 2 = 0 := congrFun (off2_eq k) 2
    have hs := slotOf_eq k
    match d with
    | ⟨0, _⟩ => show slotOf k + 1 * 0 = k0_off2 k 0 + 1 * 0; omega
    | ⟨1, _⟩ => show (startOf v.val (partOf v.val b) + i % bitsOf (partOf v.val b)) + bitsOf (partOf v.val b) * a.val = k0_off2 k 1 + 1 * (startOf v.val (partOf v.val b) + i % bitsOf (partOf v.val b) + bitsOf (partOf v.val b) * a.val); omega
    | ⟨2, _⟩ => show 0 + 1 * l.val = k0_off2 k 2 + 1 * l.val; omega
  refine (congrArg (View.canon (trip_k0_t1.sl.HW_arg6_1 arg3 (harg3.unread x1) k)) hidx).trans ?_
  refine (View.canon_cons_emb _ _ _ _).trans ?_
  refine (shapeCast_apply (s := S698x128) (t := S1x698x128) _ _ _
    (ix2 ⟨startOf v.val (partOf v.val b) + i % bitsOf (partOf v.val b) + bitsOf (partOf v.val b) * a.val, h698⟩ l) (by
    rw [Shape.rowMajor_val_three, Shape.rowMajor_val_two]; simp)).trans ?_
  refine (shapeCast_apply (s := S698x128) (t := S698x128) _ _ _
    (ix2 ⟨startOf v.val (partOf v.val b) + i % bitsOf (partOf v.val b) + bitsOf (partOf v.val b) * a.val, h698⟩ l) rfl).trans ?_
  refine (View.readAt_apply _ _ _).trans ?_
  rw [harg3.read_unread]
  congr 1
  funext d
  apply Fin.ext
  have h10 : k0_off1 k 0 = 0 := congrFun (off1_eq k) 0
  have h11 : k0_off1 k 1 = 128 * k.val := congrFun (off1_eq k) 1
  match d with
  | ⟨0, _⟩ =>
    show k0_off1 k 0 + 1 * (startOf v.val (partOf v.val b) + i % bitsOf (partOf v.val b) + bitsOf (partOf v.val b) * a.val)
      = startOf v.val (partOf v.val b) + i % bitsOf (partOf v.val b) + bitsOf (partOf v.val b) * a.val
    omega
  | ⟨1, _⟩ => show k0_off1 k 1 + 1 * l.val = 128 * k.val + l.val; omega

/-- A scale a block reads is the scale of the block's array the trip staged, the same for both halves. -/
theorem scale_apply (v : Fin 20) (r : Fin 16) (l : Fin 128) :
    scaleVec (F := Ideal) arg4 arg7 (harg4.unread x2) k v (ix2 r l)
      = x2 (ix2 ⟨8 * v.val + r.val / 2, by omega⟩ ⟨128 * k.val + l.val, by have := trip_lt k; omega⟩) := by
  have hraw (p : Fin 2) : (arg7.view.readCov (trip_k0_t1.sl.HW_arg7_1 arg4 (harg4.unread x2) k) (scaleRect k v).toLoadRect : S1x8x2x128.Idx → Elt Ideal .bf16)
        (ix4 (0 : Fin 1) ⟨r.val / 2, by omega⟩ p l : S1x8x2x128.Idx)
      = x2 (ix2 ⟨8 * v.val + r.val / 2, by omega⟩ ⟨128 * k.val + l.val, by have := trip_lt k; omega⟩) := by
    refine (congrFun (View.readCov_eq_canon' _ _ _) _).trans ?_
    have hidx : (scaleRect k v).toLoadRect.idx (ix4 (0 : Fin 1) ⟨r.val / 2, by omega⟩ p l : S1x8x2x128.Idx)
        = (Rect.unit (s := S4x160x2x128) (k0_off4 k) S1x160x2x128.size (k0_off4_inb k)).emb
            (ix4 (0 : Fin 1) ⟨8 * v.val + r.val / 2, by omega⟩ p l : S1x160x2x128.Idx) := by
      funext d
      apply Fin.ext
      have h40 : k0_off4 k 0 = k.val := congrFun (off4_eq k) 0
      have h41 : k0_off4 k 1 = 0 := congrFun (off4_eq k) 1
      have h42 : k0_off4 k 2 = 0 := congrFun (off4_eq k) 2
      have h43 : k0_off4 k 3 = 0 := congrFun (off4_eq k) 3
      have hs := slotOf_eq k
      match d with
      | ⟨0, _⟩ => show slotOf k + 1 * 0 = k0_off4 k 0 + 1 * 0; omega
      | ⟨1, _⟩ => show 8 * v.val + 1 * (r.val / 2) = k0_off4 k 1 + 1 * (8 * v.val + r.val / 2); omega
      | ⟨2, _⟩ => show 0 + 1 * p.val = k0_off4 k 2 + 1 * p.val; omega
      | ⟨3, _⟩ => show 0 + 1 * l.val = k0_off4 k 3 + 1 * l.val; omega
    refine (congrArg (View.canon (trip_k0_t1.sl.HW_arg7_1 arg4 (harg4.unread x2) k)) hidx).trans ?_
    refine (View.canon_cons_emb _ _ _ _).trans ?_
    have hlo : shapeCast S1x160x1x128 (trip_k0_t1.sl.v30_lo arg4 (harg4.unread x2) k) shapeCasts_S1x160x128_S1x160x1x128
          (ix4 (0 : Fin 1) ⟨8 * v.val + r.val / 2, by omega⟩ (0 : Fin 1) l : S1x160x1x128.Idx)
        = x2 (ix2 ⟨8 * v.val + r.val / 2, by omega⟩ ⟨128 * k.val + l.val, by have := trip_lt k; omega⟩) := by
      refine (shapeCast_apply (s := S1x160x128) (t := S1x160x1x128) _ _ _ (ix3 (0 : Fin 1) ⟨8 * v.val + r.val / 2, by omega⟩ l) (by
        rw [Shape.rowMajor_val_three, Shape.rowMajor_val_four]; simp)).trans ?_
      refine (shapeCast_apply (s := S160x128) (t := S1x160x128) _ _ _ (ix2 ⟨8 * v.val + r.val / 2, by omega⟩ l) (by
        rw [Shape.rowMajor_val_three, Shape.rowMajor_val_two]; simp)).trans ?_
      refine (shapeCast_apply (s := S160x128) (t := S160x128) _ _ _ (ix2 ⟨8 * v.val + r.val / 2, by omega⟩ l) rfl).trans ?_
      refine (View.readAt_apply _ _ _).trans ?_
      rw [harg4.read_unread]
      congr 1
      funext d
      apply Fin.ext
      have h30 : k0_off3 k 0 = 0 := congrFun (off3_eq k) 0
      have h31 : k0_off3 k 1 = 128 * k.val := congrFun (off3_eq k) 1
      match d with
      | ⟨0, _⟩ => show k0_off3 k 0 + 1 * (8 * v.val + r.val / 2) = 8 * v.val + r.val / 2; omega
      | ⟨1, _⟩ => show k0_off3 k 1 + 1 * l.val = 128 * k.val + l.val; omega
    refine Eq.trans ?_ hlo
    refine (ite_self _ : (if S1x160x2x128.row _ % 2 = 0 then _ else _) = _).trans ?_
    congr 1
    funext d
    apply Fin.ext
    match d with
    | ⟨0, _⟩ => rfl
    | ⟨1, _⟩ => rfl
    | ⟨2, _⟩ => show p.val / 2 = 0; omega
    | ⟨3, _⟩ => rfl
  have hpar (p : Fin 2) : shapeCast S8x128 (shapeCast S1x8x128 (rowsOfParity p S1x8x1x128 (arg7.view.readCov (trip_k0_t1.sl.HW_arg7_1 arg4 (harg4.unread x2) k) (scaleRect k v).toLoadRect : S1x8x2x128.Idx → Elt Ideal .bf16) bitcasts_S1x8x2x128_w16_S1x8x1x128_w32) shapeCasts_S1x8x1x128_S1x8x128) shapeCasts_S1x8x128_S8x128
        (ix2 ⟨r.val / 2, by omega⟩ l : S8x128.Idx)
      = x2 (ix2 ⟨8 * v.val + r.val / 2, by omega⟩ ⟨128 * k.val + l.val, by have := trip_lt k; omega⟩) := by
    refine (shapeCast_apply (s := S1x8x128) (t := S8x128) _ _ _ (ix3 (0 : Fin 1) ⟨r.val / 2, by omega⟩ l) (by
      rw [Shape.rowMajor_val_three, Shape.rowMajor_val_two]; simp)).trans ?_
    refine (shapeCast_apply (s := S1x8x1x128) (t := S1x8x128) _ _ _ (ix4 (0 : Fin 1) ⟨r.val / 2, by omega⟩ (0 : Fin 1) l) (by
      rw [Shape.rowMajor_val_three, Shape.rowMajor_val_four]; simp)).trans ?_
    refine Eq.trans ?_ (hraw p)
    unfold rowsOfParity
    congr 1
    funext d
    apply Fin.ext
    match d with
    | ⟨0, _⟩ => rfl
    | ⟨1, _⟩ => rfl
    | ⟨2, _⟩ => show 2 * 0 + p.val = p.val; omega
    | ⟨3, _⟩ => rfl
  unfold scaleVec k0_pay22
  refine (interleave_apply _ _ r l).trans ?_
  split_ifs
  · exact hpar 0
  · exact hpar 1

end Loads

/-! ## The centred codes -/

/-- A masked half read as a number. -/
theorem half_apply (m e : Nat) (x : IVec S8x128 32) (r : Fin 16) (l : Fin 128) :
    half (F := Ideal) m e x (ix2 r l)
      = Ideal.ofBits .bf16 (((x (ix2 ⟨r.val / 2, by omega⟩ l) &&& BitVec.ofNat 32 m) ||| BitVec.ofNat 32 e).extractLsb' (16 * (r.val % 2)) 16) := by
  unfold half
  show Ideal.ofBits .bf16 (bitcast S16x128 16 _ _ (ix2 r l)) = _
  congr 1
  refine (bitcast_32_16 _ _ _).trans ?_
  have hrow : S16x128.row (ix2 r l : S16x128.Idx) = r.val := rfl
  have hidx : ∀ hp, (bitcasts_S8x128_w32_S16x128_w16 : S8x128.Bitcasts 32 S16x128 16).srcIdx (ix2 r l : S16x128.Idx) (r.val / 2) hp
      = (ix2 ⟨r.val / 2, by omega⟩ l : S8x128.Idx) := by
    intro hp
    funext d
    apply Fin.ext
    match d with
    | ⟨0, _⟩ => rfl
    | ⟨1, _⟩ => rfl
  exact congrArg (fun z => ((x z &&& BitVec.ofNat 32 m) ||| BitVec.ofNat 32 e).extractLsb' (16 * (r.val % 2)) 16) (hidx _)

/-- `x` holds `y` at the index `p`. -/
def At (p : S8x128.Idx) (x : IVec S8x128 32) (y : BitVec 32) : Prop := x p = y

section At

variable {p : S8x128.Idx} {x x' : IVec S8x128 32} {y y' : BitVec 32}

theorem at_srl {n : Nat} (hn : n < 32) (h : At p x y) : At p (WordOps.srl n x) (WordOps.srl n y) := by
  show IntOp.shrui .vector (x p) (BitVec.ofNat 32 n) = y >>> n
  rw [show x p = y from h]
  have e : (BitVec.ofNat 32 n).toNat = n := by rw [BitVec.toNat_ofNat]; omega
  unfold IntOp.shrui
  rw [if_pos (by omega), BitVec.ushiftRight_eq', e]

theorem at_sll {n : Nat} (hn : n < 32) (h : At p x y) : At p (WordOps.sll n x) (WordOps.sll n y) := by
  show IntOp.shli .vector (x p) (BitVec.ofNat 32 n) = y <<< n
  rw [show x p = y from h]
  have e : (BitVec.ofNat 32 n).toNat = n := by rw [BitVec.toNat_ofNat]; omega
  unfold IntOp.shli
  rw [if_pos (by omega), BitVec.shiftLeft_eq', e]

theorem at_mask (n : Nat) (h : At p x y) : At p (WordOps.mask n x) (WordOps.mask n y) := by
  show x p &&& BitVec.ofNat 32 n = y &&& BitVec.ofNat 32 n
  rw [show x p = y from h]

theorem at_or (h : At p x y) (h' : At p x' y') : At p (WordOps.or x x') (WordOps.or y y') := by
  show x p ||| x' p = y ||| y'
  rw [show x p = y from h, show x' p = y' from h']

theorem at_srl0 {n : Nat} (hn : n < 32) (h : At p x y) : At p (srl0 n x) (srl0 n y) := by
  unfold srl0
  by_cases h0 : n = 0
  · rw [if_pos h0, if_pos h0]; exact h
  · rw [if_neg h0, if_neg h0]; exact at_srl hn h

theorem at_ite {c : Prop} [Decidable c] (h : At p x y) (h' : At p x' y') : At p (if c then x else x') (if c then y else y') := by
  by_cases hc : c
  · rw [if_pos hc, if_pos hc]; exact h
  · rw [if_neg hc, if_neg hc]; exact h'

end At

theorem at_stream (w : Nat → IVec S8x128 32) (p : S8x128.Idx) (bits i : Nat) :
    At p (stream bits w i) (stream bits (fun n => w n p) i) := by
  have hw (i : Nat) : At p (w i) (w i p) := rfl
  have hl (a b : Nat) : At p (WordOps.or (WordOps.mask 65535 (w a)) (WordOps.mask 4294901760 (w b)))
      (WordOps.or (WordOps.mask 65535 (w a p)) (WordOps.mask 4294901760 (w b p))) := at_or (at_mask _ (hw _)) (at_mask _ (hw _))
  have hs (a b : Nat) : At p (WordOps.or (WordOps.srl 16 (w a)) (WordOps.sll 16 (w b)))
      (WordOps.or (WordOps.srl 16 (w a p)) (WordOps.sll 16 (w b p))) := at_or (at_srl (by decide) (hw _)) (at_sll (by decide) (hw _))
  exact at_ite (at_ite (hl _ _) (at_ite (hs _ _) (at_ite (hl _ _) (at_ite (hs _ _) (hl _ _)))))
    (at_ite (at_ite (hl _ _) (at_ite (hs _ _) (hl _ _))) (hw _))

/-- The field reader on vectors is the field reader on each index's words. -/
theorem pairCode_apply (w : Nat → IVec S8x128 32) (p : S8x128.Idx) (bits t : Nat) :
    pairCode bits t w p = pairCode bits t fun n => w n p := by
  have h : At p (pairCode bits t w) (pairCode bits t fun n => w n p) := by
    have h16 (n : Nat) : n % 16 < 32 := by omega
    exact at_ite (at_srl0 (Nat.mod_lt _ (by decide)) rfl)
      (at_ite
        (at_or (at_mask _ (at_srl0 (h16 _) (at_stream w p _ _))) (at_mask _ (at_sll (by omega) (at_stream w p _ _))))
        (at_srl0 (h16 _) (at_stream w p _ _)))
  exact h

/-- Column `C` of a block's words. -/
def wordCol (x1 : Vec Ideal S698x512 .i32) (C : Fin 512) (n : Nat) : BitVec 32 := if h : n < 698 then x1 (ix2 ⟨n, h⟩ C) else 0#32
/-- Column `C` of a block's scales. -/
def scaleCol (x2 : Vec Ideal S160x512 .bf16) (C : Fin 512) (g : Nat) : EReal := if h : g < 160 then x2 (ix2 ⟨g, h⟩ C) else 0

theorem bits_mem (g : Nat) : bitsOf (rangeOf g) ∈ [8, 6, 5, 4, 3, 2] := by unfold rangeOf; split_ifs <;> decide

theorem start_row : ∀ v : Fin 20, ∀ b : Bool, ∀ a : Fin 8, ∀ i : Fin 8, partOf v.val b = rangeOf (8 * v.val + a.val) → i.val < bitsOf (partOf v.val b) →
    startOf v.val (partOf v.val b) + i.val % bitsOf (partOf v.val b) + bitsOf (partOf v.val b) * a.val
      = wordOf (rangeOf (8 * v.val + a.val)) + (8 * v.val + a.val - groupOf (rangeOf (8 * v.val + a.val))) * bitsOf (rangeOf (8 * v.val + a.val)) + i.val := by
  decide +kernel

theorem chan_lt : ∀ bits ∈ [8, 6, 5, 4, 3, 2], ∀ t < 16, ∀ h < 2, chan bits t h < 32 := by decide +kernel

section Codes

variable (arg3 : Memref sig .tc .vmem S698x512 .i32) (harg3 : arg3.IsWhole) (arg6 : Memref sig .tc .vmem S4x704x128 .i32)
  (x1 : Vec Ideal S698x512 .i32) (k : Fin k0_t1_loop.trips)

/-- The low bits of the two halves of a pair's word are its two codes. -/
theorem code_bits (v : Fin 20) (b : Bool) (t : Nat) (ht : t < 16) (h : Nat) (hh : h < 2) (a : Fin 8) (l : Fin 128)
    (C : Fin 512) (hC : C.val = 128 * k.val + l.val) (hv : partOf v.val b = rangeOf (8 * v.val + a.val)) (q : Nat) (hq : q < bitsOf (partOf v.val b)) :
    (pairCode (bitsOf (partOf v.val b)) t (words (F := Ideal) arg3 arg6 (harg3.unread x1) k v b) (ix2 a l)).getLsbD (16 * h + q)
      = (field (bitsOf (partOf v.val b)) (groupWord (wordCol x1 C) (8 * v.val + a.val)) (chan (bitsOf (partOf v.val b)) t h)).testBit q := by
  have hmem : bitsOf (partOf v.val b) ∈ [8, 6, 5, 4, 3, 2] := by rw [hv]; exact bits_mem _
  have hch := chan_lt _ hmem t ht h hh
  rw [pairCode_apply, getLsbD_pairCode _ hmem ht hh hq, testBit_field _ _ hq]
  congr 1
  have hlt : (chan (bitsOf (partOf v.val b)) t h * bitsOf (partOf v.val b) + q) / 32 < bitsOf (partOf v.val b) := by
    rw [Nat.div_lt_iff_lt_mul (by decide)]
    have := Nat.mul_le_mul_right (bitsOf (partOf v.val b)) (show chan (bitsOf (partOf v.val b)) t h ≤ 31 by omega)
    omega
  have h8 : bitsOf (partOf v.val b) ≤ 8 := by simp at hmem; omega
  generalize (chan (bitsOf (partOf v.val b)) t h * bitsOf (partOf v.val b) + q) / 32 = i at hlt
  have hrow := start_row v b a ⟨i, by omega⟩ hv hlt
  dsimp only at hrow
  rw [words_apply]
  unfold groupWord wordCol
  have hbound : startOf v.val (partOf v.val b) + i % bitsOf (partOf v.val b) + bitsOf (partOf v.val b) * a.val < 698 := by
    have h := start_lt' v b i
    have := Nat.mul_le_mul_left (bitsOf (partOf v.val b)) (show a.val ≤ 7 by omega)
    omega
  rw [dif_pos (by omega)]
  congr 1
  funext d
  apply Fin.ext
  match d with
  | ⟨0, _⟩ => exact hrow
  | ⟨1, _⟩ => exact hC.symm

/-- The centred code at row `r` of a block, by the range of the row's group. -/
theorem part_apply (v : Fin 20) (b : Bool) (t : Nat) (ht : t < 16) (r : Fin 16) (l : Fin 128)
    (C : Fin 512) (hC : C.val = 128 * k.val + l.val) (hv : partOf v.val b = rangeOf (8 * v.val + r.val / 2)) :
    partVec (F := Ideal) arg3 arg6 (harg3.unread x1) k v t b (ix2 r l)
      = (((field (bitsOf (rangeOf (8 * v.val + r.val / 2))) (groupWord (wordCol x1 C) (8 * v.val + r.val / 2))
            (chan (bitsOf (rangeOf (8 * v.val + r.val / 2))) t (r.val % 2)) : ℝ)
          - (2 ^ (bitsOf (rangeOf (8 * v.val + r.val / 2)) - 1) : ℝ) : ℝ) : EReal) := by
  have hbits := code_bits arg3 harg3 arg6 x1 k v b t ht (r.val % 2) (Nat.mod_lt _ (by decide)) ⟨r.val / 2, by omega⟩ l C hC hv
  have hn := field_lt (bitsOf (partOf v.val b)) (groupWord (wordCol x1 C) (8 * v.val + r.val / 2)) (chan (bitsOf (partOf v.val b)) t (r.val % 2))
  have hmem : bitsOf (partOf v.val b) ∈ [8, 6, 5, 4, 3, 2] := by rw [hv]; exact bits_mem _
  rw [← hv]
  unfold partVec valVec
  dsimp only at hbits
  generalize bitsOf (partOf v.val b) = bits at hbits hn hmem ⊢
  generalize pairCode bits t (words (F := Ideal) arg3 arg6 (harg3.unread x1) k v b) = w at hbits ⊢
  split_ifs with h8
  · subst h8
    show (half (F := Ideal) 983055 1157645568 _ (ix2 r l) - Ideal.ofBits .bf16 0x4508#16) + (half (F := Ideal) 983055 1124090624 _ (ix2 r l) - Ideal.ofBits .bf16 0x4300#16) = _
    rw [half_apply, half_apply]
    exact centred_8 _ (Nat.mod_lt _ (by decide)) hn hbits
  · show half (F := Ideal) (dup (2 ^ bits - 1)) 1124090624 _ (ix2 r l) - Ideal.ofBits .bf16 (BitVec.ofNat 16 (17152 + 2 ^ (bits - 1))) = _
    rw [half_apply]
    have hb : 0 < bits ∧ bits < 8 := by simp at hmem; omega
    exact centred_128 _ hb.1 hb.2 (Nat.mod_lt _ (by decide)) hn hbits

theorem part_same : ∀ v : Fin 20, ∀ a : Fin 8, partOf v.val false = partOf v.val true → partOf v.val false = rangeOf (8 * v.val + a.val) := by decide +kernel

theorem part_mixed : ∀ v : Fin 20, ∀ a : Fin 8, partOf v.val false ≠ partOf v.val true →
    (partOf v.val false = rangeOf (8 * v.val + a.val) ∧ IntOp.cmpi .slt (BitVec.ofNat 32 a.val) (BitVec.ofNat 32 (groupOf (partOf v.val true) - 8 * v.val)) = 1#1)
      ∨ (partOf v.val true = rangeOf (8 * v.val + a.val) ∧ IntOp.cmpi .slt (BitVec.ofNat 32 a.val) (BitVec.ofNat 32 (groupOf (partOf v.val true) - 8 * v.val)) = 0#1) := by
  decide +kernel

/-- The centred codes of a block are those of each row's group. -/
theorem codeVec_apply (v : Fin 20) (t : Nat) (ht : t < 16) (r : Fin 16) (l : Fin 128) (C : Fin 512) (hC : C.val = 128 * k.val + l.val) :
    codeVec (F := Ideal) arg3 arg6 (harg3.unread x1) k v t (ix2 r l)
      = (((field (bitsOf (rangeOf (8 * v.val + r.val / 2))) (groupWord (wordCol x1 C) (8 * v.val + r.val / 2))
            (chan (bitsOf (rangeOf (8 * v.val + r.val / 2))) t (r.val % 2)) : ℝ)
          - (2 ^ (bitsOf (rangeOf (8 * v.val + r.val / 2)) - 1) : ℝ) : ℝ) : EReal) := by
  unfold codeVec
  split_ifs with hp
  · exact part_apply arg3 harg3 arg6 x1 k v false t ht r l C hC (part_same v ⟨r.val / 2, by omega⟩ hp)
  · have hsel : ∀ p : Fin 2, p.val = r.val % 2 →
        select (cmpi .slt (iota .tc S8x128 32 [0] iota_S8x128_d0_w32) (broadcast S8x128 (BitVec.ofNat 32 (groupOf (partOf v.val true) - 8 * v.val))))
          (rowsOfParity p S8x128 (partVec (F := Ideal) arg3 arg6 (harg3.unread x1) k v t false) bitcasts_S16x128_w16_S8x128_w32)
          (rowsOfParity p S8x128 (partVec (F := Ideal) arg3 arg6 (harg3.unread x1) k v t true) bitcasts_S16x128_w16_S8x128_w32)
          (ix2 ⟨r.val / 2, by omega⟩ l)
        = (((field (bitsOf (rangeOf (8 * v.val + r.val / 2))) (groupWord (wordCol x1 C) (8 * v.val + r.val / 2))
              (chan (bitsOf (rangeOf (8 * v.val + r.val / 2))) t (r.val % 2)) : ℝ)
            - (2 ^ (bitsOf (rangeOf (8 * v.val + r.val / 2)) - 1) : ℝ) : ℝ) : EReal) := by
      intro p hpr
      have hr : (⟨2 * (r.val / 2) + p.val, by omega⟩ : Fin 16) = r := Fin.ext (by show 2 * (r.val / 2) + p.val = r.val; omega)
      have hiota : iota .tc S8x128 32 [0] iota_S8x128_d0_w32 (ix2 ⟨r.val / 2, by omega⟩ l : S8x128.Idx) = BitVec.ofNat 32 (r.val / 2) := iota_single_apply _ _ _ _ _ _
      rw [select_apply, parity_apply, parity_apply]
      show Scalar.select (IntOp.cmpi .slt (iota .tc S8x128 32 [0] iota_S8x128_d0_w32 (ix2 ⟨r.val / 2, by omega⟩ l : S8x128.Idx)) _) _ _ = _
      rw [hiota, hr]
      rcases part_mixed v ⟨r.val / 2, by omega⟩ hp with ⟨hv, hc⟩ | ⟨hv, hc⟩
      · refine (congrArg (fun c => Scalar.select c _ _) hc).trans ?_
        exact part_apply arg3 harg3 arg6 x1 k v false t ht r l C hC hv
      · refine (congrArg (fun c => Scalar.select c _ _) hc).trans ?_
        exact part_apply arg3 harg3 arg6 x1 k v true t ht r l C hC hv
    refine (interleave_apply _ _ r l).trans ?_
    split_ifs with h0
    · exact hsel 0 h0.symm
    · exact hsel 1 (by show 1 = r.val % 2; omega)

end Codes

/-! ## The tiles and the scratch -/

/-- The weight the scratch holds at an index. -/
def scratchAt (x1 : Vec Ideal S698x512 .i32) (x2 : Vec Ideal S160x512 .bf16) (y : S5120x512.Idx) : EReal :=
  weight (wordCol x1 (y 1)) (scaleCol x2 (y 1)) ((y 0).val % 320 / 2)
    (chan (bitsOf (rangeOf ((y 0).val % 320 / 2))) ((y 0).val / 320) ((y 0).val % 2))

section Scratch

variable (arg3 : Memref sig .tc .vmem S698x512 .i32) (harg3 : arg3.IsWhole) (arg4 : Memref sig .tc .vmem S160x512 .bf16) (harg4 : arg4.IsWhole) (arg6 : Memref sig .tc .vmem S4x704x128 .i32) (arg7 : Memref sig .tc .vmem S4x160x2x128 .bf16)
  (x1 : Vec Ideal S698x512 .i32) (x2 : Vec Ideal S160x512 .bf16) (k : Fin k0_t1_loop.trips)

/-- A tile holds the weights of its rectangle. -/
theorem tile_apply (n : Fin 320) (x : S16x128.Idx) :
    (tile (F := Ideal) arg3 arg4 arg6 arg7 (harg3.unread x1) (harg4.unread x2) k n).2 x = scratchAt x1 x2 ((tileRect k n).emb x) := by
  obtain ⟨r, l, rfl⟩ : ∃ (r : Fin 16) (l : Fin 128), x = ix2 r l := ⟨x 0, x 1, eq_ix2 x⟩
  have hk := trip_lt k
  have hcol := colOf_eq k
  have hn := n.isLt
  have h0 : ((tileRect k n).emb (ix2 r l : S16x128.Idx) 0).val = (n.val % 16 * 160 + 8 * (n.val / 16)) * 2 + r.val := by
    show (n.val % 16 * 160 + 8 * (n.val / 16)) * 2 + 1 * r.val = _; omega
  have h1 : (tileRect k n).emb (ix2 r l : S16x128.Idx) 1 = (⟨128 * k.val + l.val, by omega⟩ : Fin 512) := by
    apply Fin.ext
    show colOf k + 1 * l.val = 128 * k.val + l.val; omega
  unfold scratchAt
  rw [h0, h1]
  have e1 : ((n.val % 16 * 160 + 8 * (n.val / 16)) * 2 + r.val) % 320 / 2 = 8 * (n.val / 16) + r.val / 2 := by omega
  have e2 : ((n.val % 16 * 160 + 8 * (n.val / 16)) * 2 + r.val) / 320 = n.val % 16 := by omega
  have e3 : ((n.val % 16 * 160 + 8 * (n.val / 16)) * 2 + r.val) % 2 = r.val % 2 := by omega
  rw [e1, e2, e3]
  have hcast : (tile (F := Ideal) arg3 arg4 arg6 arg7 (harg3.unread x1) (harg4.unread x2) k n).2 (ix2 r l : S16x128.Idx)
      = mulf (codeVec (F := Ideal) arg3 arg6 (harg3.unread x1) k ⟨n.val / 16, by omega⟩ (n.val % 16)) (scaleVec (F := Ideal) arg4 arg7 (harg4.unread x2) k ⟨n.val / 16, by omega⟩) (ix2 r l) :=
    shapeCast_apply (s := S16x128) (t := S16x128) (mulf (codeVec (F := Ideal) arg3 arg6 (harg3.unread x1) k ⟨n.val / 16, by omega⟩ (n.val % 16)) (scaleVec (F := Ideal) arg4 arg7 (harg4.unread x2) k ⟨n.val / 16, by omega⟩))
      shapeCasts_S16x128_S16x128 (ix2 r l) (ix2 r l) rfl
  refine hcast.trans ?_
  have hc := codeVec_apply arg3 harg3 arg6 x1 k ⟨n.val / 16, by omega⟩ (n.val % 16) (Nat.mod_lt _ (by decide)) r l ⟨128 * k.val + l.val, by omega⟩ rfl
  have hs := scale_apply arg4 harg4 arg7 x2 k ⟨n.val / 16, by omega⟩ r l
  show codeVec (F := Ideal) arg3 arg6 (harg3.unread x1) k ⟨n.val / 16, by omega⟩ (n.val % 16) (ix2 r l)
      * scaleVec (F := Ideal) arg4 arg7 (harg4.unread x2) k ⟨n.val / 16, by omega⟩ (ix2 r l) = _
  rw [hc, hs]
  unfold weight
  congr 1
  unfold scaleCol
  rw [dif_pos (show 8 * (n.val / 16) + r.val / 2 < 160 by omega)]

theorem tileList_mem (n : Nat) (hn : n ≤ 320) (p : View.Piece (Elt Ideal) S5120x512 .bf16)
    (hp : p ∈ tileList (F := Ideal) arg3 arg4 arg6 arg7 (harg3.unread x1) (harg4.unread x2) k n hn) :
    ∃ i : Fin 320, p = tile (F := Ideal) arg3 arg4 arg6 arg7 (harg3.unread x1) (harg4.unread x2) k i := by
  induction n with
  | zero => exact absurd hp List.not_mem_nil
  | succ n ih =>
    rcases List.mem_cons.1 hp with h | h
    · exact ⟨_, h⟩
    · exact ih _ h

end Scratch

/-- The weight scratch after the column loop. -/
theorem weights_apply (c : Dev nD) (i : grid0.Coords) (arg2 : Memref sig .tc .vmem S1536x5120 .bf16) (harg2 : arg2.IsWhole) (arg3 : Memref sig .tc .vmem S698x512 .i32) (harg3 : arg3.IsWhole) (arg4 : Memref sig .tc .vmem S160x512 .bf16) (harg4 : arg4.IsWhole) (arg5 : Memref sig .tc .vmem S1536x512 .bf16) (harg5 : arg5.IsWhole) (arg6 : Memref sig .tc .vmem S4x704x128 .i32) (harg6 : arg6.IsWhole) (arg7 : Memref sig .tc .vmem S4x160x2x128 .bf16) (harg7 : arg7.IsWhole) (arg8 : Memref sig .tc .vmem S5120x512 .bf16) (harg8 : arg8.IsWhole)
    (x1 : Vec Ideal S698x512 .i32) (x2 : Vec Ideal S160x512 .bf16) (y : S5120x512.Idx) :
    RunIdeal.weights (F := Ideal) c i arg2 harg2 arg3 harg3 arg4 harg4 arg5 harg5 arg6 harg6 arg7 harg7 arg8 harg8 x1 x2 y = scratchAt x1 x2 y := by
  refine View.canon_apply_of_pieces (Val := Elt Ideal) (scratchAt x1 x2) _ ?_ y (RunIdeal.cover_all (F := Ideal) c i arg2 harg2 arg3 harg3 arg4 harg4 arg5 harg5 arg6 harg6 arg7 harg7 arg8 harg8 _ _ y)
  have hk (k : Fin k0_t1_loop.trips) : ∀ p ∈ RunIdeal.tiles (F := Ideal) c i arg2 harg2 arg3 harg3 arg4 harg4 arg5 harg5 arg6 harg6 arg7 harg7 arg8 harg8 (harg3.unread x1) (harg4.unread x2) k,
      ∀ x : p.1.shape.Idx, p.2 x = scratchAt x1 x2 (p.1.emb x) := by
    intro p hp
    rw [tiles_eq] at hp
    obtain ⟨n, rfl⟩ := tileList_mem arg3 harg3 arg4 harg4 arg6 arg7 x1 x2 k _ _ p hp
    exact tile_apply arg3 harg3 arg4 harg4 arg6 arg7 x1 x2 k n
  intro p hp
  unfold RunIdeal.allTiles at hp
  simp only [List.mem_append, List.not_mem_nil, or_false] at hp
  rcases hp with hp | hp | hp | hp <;> exact hk _ p hp

end Cert.Proof.Weights
-- ==== Proof.RefWeights.lean ====
/-
  The reference's weight matrix, element by element (hand-written): column `32 g + j` of row `n` is the weight of channel `j`
  of group `g`.
-/
module

public import proofs.«01_k».proof.Proof.Numbers
public import proofs.«01_k».proof.Proof.Gen.ReferenceIdeal.Read

@[expose] public section

set_option maxRecDepth 65536

noncomputable section

namespace Cert.Proof.RefWeights

open Cert.ReferenceIdeal Cert.ReferenceIdeal.Gen Cert.ReferenceIdeal.Read
open Idealize.ShloMosaic Idealize.ShloMosaic.TcCoe Idealize.ShloMosaic.ValueIdx
open Cert.Proof.Codes Cert.Proof.Numbers

/-- Row `n` of the words. -/
def rowWord (q : IVec S27648x698 32) (n : Fin 27648) (i : Nat) : BitVec 32 := if h : i < 698 then q (ix2 n ⟨i, h⟩) else 0#32
/-- Row `n` of the scales. -/
def rowScale (s : FVec Ideal S27648x160 .bf16) (n : Fin 27648) (g : Nat) : EReal := if h : g < 160 then s (ix2 n ⟨g, h⟩) else 0

abbrev Mat (w : Nat) : Shape := ⟨2, ![27648, w]⟩
abbrev Cube (w d : Nat) : Shape := ⟨3, ![27648, w, d]⟩

/-- The shapes of one range: `W` words, `L` bits, `R` channels and `U` groups, from word `base` and group `gbase` on. -/
structure RangeShapes (bits W L R U base gbase : Nat) : Prop where
  hW : W = U * bits
  hL : L = R * bits
  hL32 : L = W * 32
  hR : R = U * 32
  hbits : 0 < bits ∧ bits ≤ 8
  hbase : base + W ≤ 698
  hgbase : gbase + U ≤ 160
  words : S27648x698.Slices ![0, base] (Mat W)
  lift : (Mat W).ShapeCasts (Cube W 1)
  spread : (Cube W 1).BroadcastsInDim (Cube W 32) (![0, 1, 2] : Fin 3 → Fin 3)
  amounts : S1x1x32.BroadcastsInDim (Cube W 32) (![0, 1, 2] : Fin 3 → Fin 3)
  ones : S_.BroadcastsInDim (Cube W 32) (![] : Fin 0 → Fin 3)
  flat : (Cube W 32).ShapeCasts (Mat L)
  fill : S_.BroadcastsInDim (Mat R) (![] : Fin 0 → Fin 2)
  scales : S27648x160.Slices ![0, gbase] (Mat U)
  rep : (Mat U).BroadcastsInDim (Cube U 32) (![0, 1] : Fin 2 → Fin 3)
  reps : (Cube U 32).ShapeCasts (Mat R)

section Range

variable {bits W L R U base gbase : Nat}

theorem slicesBy (hL : L = R * bits) (hb : 0 < bits) {i : Nat} (hi : i < bits) : (Mat L).SlicesBy (![0, i] : Fin 2 → Nat) ![1, bits] (Mat R) := by
  refine ⟨rfl, fun a => ?_⟩
  match a with
  | ⟨0, _⟩ => exact ⟨Nat.one_pos, .inr (by show 0 + 1 * (27648 - 1) < 27648; decide)⟩
  | ⟨1, _⟩ =>
    refine ⟨hb, ?_⟩
    show R = 0 ∨ i + bits * (R - 1) < L
    rcases Nat.eq_zero_or_pos R with h | h
    · exact .inl h
    · right
      obtain ⟨r, rfl⟩ : ∃ r, R = r + 1 := ⟨R - 1, by omega⟩
      rw [hL, Nat.add_sub_cancel, Nat.add_mul, Nat.one_mul, Nat.mul_comm]; omega

/-- The bits of a range's words, one number each. -/
def bitStream (h : RangeShapes bits W L R U base gbase) (q : IVec S27648x698 32) : IVec (Mat L) 32 :=
  shapeCast (Mat L)
    (andi
      (Host.shrui
        (broadcastInDim (Cube W 32) ![0, 1, 2] h.spread (shapeCast (Cube W 1) (extractStridedSlice (Mat W) ![0, base] q h.words) h.lift))
        (broadcastInDim (Cube W 32) ![0, 1, 2] h.amounts (broadcastInDim S1x1x32 ![2] bcast_S32_S1x1x32_2 (iotaInDim S32 32 0))))
      (broadcastInDim (Cube W 32) ![] h.ones (constantI S_ 32 1#32)))
    h.flat

/-- The codes from their bits `0 … i`. -/
def codes (h : RangeShapes bits W L R U base gbase) (q : IVec S27648x698 32) : (i : Nat) → i < bits → IVec (Mat R) 32
  | 0, hi => Host.slice (Mat R) ![0, 0] ![1, bits] (bitStream h q) (slicesBy h.hL h.hbits.1 hi)
  | i + 1, hi => ori (codes h q i (Nat.lt_of_succ_lt hi))
      (Host.shli (Host.slice (Mat R) ![0, i + 1] ![1, bits] (bitStream h q) (slicesBy h.hL h.hbits.1 hi))
        (broadcastInDim (Mat R) ![] h.fill (constantI S_ 32 (BitVec.ofNat 32 (i + 1)))))

/-- The weights of a range. -/
def rangeWeights (h : RangeShapes bits W L R U base gbase) (zero : BitVec 16) (q : IVec S27648x698 32) (s : FVec Ideal S27648x160 .bf16) : FVec Ideal (Mat R) .bf16 :=
  mulf
    (subf (uitofp .bf16 (codes h q (bits - 1) (Nat.sub_lt h.hbits.1 Nat.one_pos)))
      (broadcastInDim (Mat R) ![] h.fill (constant (F := Ideal) S_ .bf16 zero)))
    (shapeCast (Mat R) (broadcastInDim (Cube U 32) ![0, 1] h.rep (extractStridedSlice (Mat U) ![0, gbase] s h.scales)) h.reps)

/-- A bit of the stream is a bit of its word. -/
theorem bitStream_apply (h : RangeShapes bits W L R U base gbase) (q : IVec S27648x698 32) (n : Fin 27648) (p : Fin L) :
    bitStream h q (ix2 n p) = (rowWord q n (base + p.val / 32) >>> (p.val % 32)) &&& 1#32 := by
  have hp := p.isLt
  have hL := h.hL32
  have hb := h.hbase
  have hW : p.val / 32 < W := by omega
  unfold bitStream
  refine (shapeCast_apply _ h.flat _ (ix3 n ⟨p.val / 32, hW⟩ ⟨p.val % 32, Nat.mod_lt _ (by decide)⟩ : (Cube W 32).Idx) ?_).trans ?_
  · rw [Shape.rowMajor_val_three, Shape.rowMajor_val_two]
    show (n.val * W + p.val / 32) * 32 + p.val % 32 = n.val * L + p.val
    have e : n.val * L = n.val * W * 32 := by rw [hL, Nat.mul_assoc]
    omega
  show (IntOp.shrui .host (broadcastInDim (Cube W 32) _ _ _ _) (broadcastInDim (Cube W 32) _ _ _ _)) &&& (broadcastInDim (Cube W 32) _ _ _ _) = _
  rw [broadcastInDim_apply _ h.spread _ _ (ix3 n ⟨p.val / 32, hW⟩ 0 : (Cube W 1).Idx) (fun a => match a with
    | ⟨0, _⟩ => by show n.val = if (27648 : Nat) = 1 then 0 else n.val; rw [if_neg (by decide)]
    | ⟨1, _⟩ => by show p.val / 32 = if W = 1 then 0 else p.val / 32; split_ifs <;> omega
    | ⟨2, _⟩ => by show 0 = if (1 : Nat) = 1 then 0 else p.val % 32; rw [if_pos rfl]),
    broadcastInDim_apply _ h.amounts _ _ (ix3 0 0 ⟨p.val % 32, Nat.mod_lt _ (by decide)⟩ : S1x1x32.Idx) (fun a => match a with
    | ⟨0, _⟩ => by show 0 = if (1 : Nat) = 1 then 0 else n.val; rw [if_pos rfl]
    | ⟨1, _⟩ => by show 0 = if (1 : Nat) = 1 then 0 else p.val / 32; rw [if_pos rfl]
    | ⟨2, _⟩ => by show p.val % 32 = if (32 : Nat) = 1 then 0 else p.val % 32; rw [if_neg (by decide)]),
    broadcastInDim_apply _ bcast_S32_S1x1x32_2 _ _ (ix1 ⟨p.val % 32, Nat.mod_lt _ (by decide)⟩ : S32.Idx) (fun a => match a with
    | ⟨0, _⟩ => by show p.val % 32 = if (32 : Nat) = 1 then 0 else p.val % 32; rw [if_neg (by decide)]),
    broadcastInDim_apply _ h.ones _ _ (fun a => a.elim0 : S_.Idx) (fun a => a.elim0),
    shapeCast_apply _ h.lift _ (ix2 n ⟨p.val / 32, hW⟩ : (Mat W).Idx) (by
      rw [Shape.rowMajor_val_three, Shape.rowMajor_val_two]
      show n.val * W + p.val / 32 = (n.val * W + p.val / 32) * 1 + 0; omega),
    extractStridedSlice_apply _ _ h.words _ (ix2 n ⟨base + p.val / 32, by omega⟩ : S27648x698.Idx) (fun a => match a with
    | ⟨0, _⟩ => by show n.val = 0 + n.val; omega
    | ⟨1, _⟩ => rfl)]
  show IntOp.shrui .host _ (BitVec.ofNat 32 (p.val % 32)) &&& 1#32 = _
  have e : (BitVec.ofNat 32 (p.val % 32)).toNat = p.val % 32 := by rw [BitVec.toNat_ofNat]; omega
  unfold IntOp.shrui
  rw [if_pos (by omega), BitVec.ushiftRight_eq', e]
  unfold rowWord
  rw [dif_pos (by omega)]

/-- Bit `0` of a masked shifted word is the word's bit; the others are clear. -/
theorem bit_and_one (x : BitVec 32) (k b : Nat) : ((x >>> k) &&& 1#32).getLsbD b = (decide (b = 0) && x.getLsbD k) := by
  rw [BitVec.getLsbD_and, BitVec.getLsbD_ushiftRight]
  rcases b with _ | b
  · simp
  · simp [BitVec.getLsbD_one]

/-- Bits `0 … i` of a code are its field's, the rest clear. -/
theorem codes_bit (h : RangeShapes bits W L R U base gbase) (q : IVec S27648x698 32) (n : Fin 27648) (m : Fin R) (i : Nat) (hi : i < bits) (b : Nat) :
    (codes h q i hi (ix2 n m)).getLsbD b
      = if b ≤ i then (rowWord q n (base + (m.val * bits + b) / 32)).getLsbD ((m.val * bits + b) % 32) else false := by
  have hm := m.isLt
  have hL := h.hL
  have hpos {i : Nat} (hi : i < bits) : m.val * bits + i < L := by
    have := Nat.mul_le_mul_right bits (show m.val + 1 ≤ R by omega)
    rw [Nat.add_mul] at this; omega
  have hslice (i : Nat) (hi : i < bits) : Host.slice (Mat R) ![0, i] ![1, bits] (bitStream h q) (slicesBy h.hL h.hbits.1 hi) (ix2 n m)
      = (rowWord q n (base + (m.val * bits + i) / 32) >>> ((m.val * bits + i) % 32)) &&& 1#32 := by
    refine Eq.trans ?_ (bitStream_apply h q n ⟨m.val * bits + i, hpos hi⟩)
    unfold Host.slice
    refine congrArg (bitStream h q) (funext fun a => Fin.ext ?_)
    match a with
    | ⟨0, _⟩ => show 0 + 1 * n.val = n.val; omega
    | ⟨1, _⟩ => show i + bits * m.val = m.val * bits + i; rw [Nat.mul_comm]; omega
  induction i with
  | zero =>
    unfold codes
    rw [hslice 0 hi, bit_and_one]
    rcases b with _ | b
    · simp
    · simp
  | succ i ih =>
    have e : (BitVec.ofNat 32 (i + 1)).toNat = i + 1 := by rw [BitVec.toNat_ofNat]; have := h.hbits.2; omega
    have hs : Host.shli (Host.slice (Mat R) ![0, i + 1] ![1, bits] (bitStream h q) (slicesBy h.hL h.hbits.1 hi))
        (broadcastInDim (Mat R) ![] h.fill (constantI S_ 32 (BitVec.ofNat 32 (i + 1)))) (ix2 n m)
        = ((rowWord q n (base + (m.val * bits + (i + 1)) / 32) >>> ((m.val * bits + (i + 1)) % 32)) &&& 1#32) <<< (i + 1) := by
      show IntOp.shli .host (Host.slice _ _ _ _ _ _) (broadcastInDim (Mat R) _ _ _ _) = _
      rw [hslice (i + 1) hi, broadcastInDim_apply _ h.fill _ _ (fun a => a.elim0 : S_.Idx) (fun a => a.elim0)]
      show IntOp.shli .host _ (BitVec.ofNat 32 (i + 1)) = _
      unfold IntOp.shli
      rw [if_pos (by have := h.hbits.2; omega), BitVec.shiftLeft_eq', e]
    show (codes h q i _ (ix2 n m) ||| Host.shli _ _ (ix2 n m)).getLsbD b = _
    rw [hs, BitVec.getLsbD_or, ih, BitVec.getLsbD_shiftLeft, bit_and_one]
    have hb8 := h.hbits.2
    by_cases h1 : b ≤ i
    · rw [if_pos h1, if_pos (by omega)]
      simp [show b < i + 1 by omega]
    · rw [if_neg h1]
      by_cases h2 : b = i + 1
      · subst h2
        rw [if_pos (le_refl _)]
        simp [show i + 1 < 32 by omega]
      · rw [if_neg (by omega)]
        simp [show ¬ b - (i + 1) = 0 by omega]

/-- A range's weights are its groups' channels' weights. -/
theorem rangeWeights_apply (h : RangeShapes bits W L R U base gbase) (zero : BitVec 16) (r : Nat)
    (hz : Ideal.ofBits .bf16 zero = ((2 ^ (bits - 1) : ℝ) : EReal))
    (hbits : bitsOf r = bits) (hword : wordOf r = base) (hgroup : groupOf r = gbase)
    (hr : ∀ u < U, rangeOf (gbase + u) = r)
    (q : IVec S27648x698 32) (s : FVec Ideal S27648x160 .bf16) (n : Fin 27648) (m : Fin R) :
    rangeWeights h zero q s (ix2 n m) = weight (rowWord q n) (rowScale s n) (gbase + m.val / 32) (m.val % 32) := by
  have hm := m.isLt
  have hR := h.hR
  have hU : m.val / 32 < U := by omega
  have hg := h.hgbase
  unfold rangeWeights weight
  show (FloatOps.uitofp (F := Ideal) .bf16 (codes h q _ _ (ix2 n m)) - broadcastInDim (Mat R) _ _ _ _) * (shapeCast (Mat R) _ _ _) = _
  rw [broadcastInDim_apply _ h.fill _ _ (fun a => a.elim0 : S_.Idx) (fun a => a.elim0),
    shapeCast_apply _ h.reps _ (ix3 n ⟨m.val / 32, hU⟩ ⟨m.val % 32, Nat.mod_lt _ (by decide)⟩ : (Cube U 32).Idx) (by
      rw [Shape.rowMajor_val_three, Shape.rowMajor_val_two]
      show (n.val * U + m.val / 32) * 32 + m.val % 32 = n.val * R + m.val
      have e : n.val * R = n.val * U * 32 := by rw [hR, Nat.mul_assoc]
      omega),
    broadcastInDim_apply _ h.rep _ _ (ix2 n ⟨m.val / 32, hU⟩ : (Mat U).Idx) (fun a => match a with
    | ⟨0, _⟩ => by show n.val = if (27648 : Nat) = 1 then 0 else n.val; rw [if_neg (by decide)]
    | ⟨1, _⟩ => by show m.val / 32 = if U = 1 then 0 else m.val / 32; split_ifs <;> omega),
    extractStridedSlice_apply _ _ h.scales _ (ix2 n ⟨gbase + m.val / 32, by omega⟩ : S27648x160.Idx) (fun a => match a with
    | ⟨0, _⟩ => by show n.val = 0 + n.val; omega
    | ⟨1, _⟩ => rfl)]
  have hs : s (ix2 n ⟨gbase + m.val / 32, by omega⟩ : S27648x160.Idx) = rowScale s n (gbase + m.val / 32) := by
    unfold rowScale; rw [dif_pos (by omega)]
  rw [hs]
  congr 1
  rw [hr _ hU, hbits]
  have hf : (codes h q (bits - 1) (Nat.sub_lt h.hbits.1 Nat.one_pos) (ix2 n m)).toNat = field bits (groupWord (rowWord q n) (gbase + m.val / 32)) (m.val % 32) := by
    apply eq_field
    intro b
    have hc := codes_bit h q n m (bits - 1) (Nat.sub_lt h.hbits.1 Nat.one_pos) b
    rw [← BitVec.getLsbD, hc]
    have hb0 := h.hbits.1
    by_cases hb : b < bits
    · rw [if_pos (by omega), if_pos hb]
      unfold groupWord
      rw [hr _ hU, hbits, hword, hgroup, Nat.add_sub_cancel_left]
      have e : m.val * bits + b = 32 * (m.val / 32 * bits) + (m.val % 32 * bits + b) := by
        have := Nat.div_add_mod m.val 32
        calc m.val * bits + b = (32 * (m.val / 32) + m.val % 32) * bits + b := by rw [this]
          _ = _ := by ring
      rw [e, Nat.mul_add_div (by decide), Nat.mul_add_mod, Nat.add_assoc]
    · rw [if_neg (by omega), if_neg hb]
  show (((codes h q _ _ (ix2 n m)).toNat : ℝ) : EReal) - Ideal.ofBits .bf16 zero = _
  rw [hf, hz]
  exact (EReal.coe_sub _ _).symm

end Range

theorem shapes8 : RangeShapes 8 72 2304 288 9 0 0 := ⟨rfl, rfl, rfl, rfl, by decide, by decide, by decide, slices_S27648x698_S27648x72_0_0, shapeCasts_S27648x72_S27648x72x1, bcast_S27648x72x1_S27648x72x32_0_1_2, bcast_S1x1x32_S27648x72x32_0_1_2, bcast_S_S27648x72x32, shapeCasts_S27648x72x32_S27648x2304, bcast_S_S27648x288, slices_S27648x160_S27648x9_0_0, bcast_S27648x9_S27648x9x32_0_1, shapeCasts_S27648x9x32_S27648x288⟩
theorem shapes6 : RangeShapes 6 108 3456 576 18 72 9 := ⟨rfl, rfl, rfl, rfl, by decide, by decide, by decide, slices_S27648x698_S27648x108_0_72, shapeCasts_S27648x108_S27648x108x1, bcast_S27648x108x1_S27648x108x32_0_1_2, bcast_S1x1x32_S27648x108x32_0_1_2, bcast_S_S27648x108x32, shapeCasts_S27648x108x32_S27648x3456, bcast_S_S27648x576, slices_S27648x160_S27648x18_0_9, bcast_S27648x18_S27648x18x32_0_1, shapeCasts_S27648x18x32_S27648x576⟩
theorem shapes5 : RangeShapes 5 170 5440 1088 34 180 27 := ⟨rfl, rfl, rfl, rfl, by decide, by decide, by decide, slices_S27648x698_S27648x170_0_180, shapeCasts_S27648x170_S27648x170x1, bcast_S27648x170x1_S27648x170x32_0_1_2, bcast_S1x1x32_S27648x170x32_0_1_2, bcast_S_S27648x170x32, shapeCasts_S27648x170x32_S27648x5440, bcast_S_S27648x1088, slices_S27648x160_S27648x34_0_27, bcast_S27648x34_S27648x34x32_0_1, shapeCasts_S27648x34x32_S27648x1088⟩
theorem shapes4 : RangeShapes 4 244 7808 1952 61 350 61 := ⟨rfl, rfl, rfl, rfl, by decide, by decide, by decide, slices_S27648x698_S27648x244_0_350, shapeCasts_S27648x244_S27648x244x1, bcast_S27648x244x1_S27648x244x32_0_1_2, bcast_S1x1x32_S27648x244x32_0_1_2, bcast_S_S27648x244x32, shapeCasts_S27648x244x32_S27648x7808, bcast_S_S27648x1952, slices_S27648x160_S27648x61_0_61, bcast_S27648x61_S27648x61x32_0_1, shapeCasts_S27648x61x32_S27648x1952⟩
theorem shapes3 : RangeShapes 3 84 2688 896 28 594 122 := ⟨rfl, rfl, rfl, rfl, by decide, by decide, by decide, slices_S27648x698_S27648x84_0_594, shapeCasts_S27648x84_S27648x84x1, bcast_S27648x84x1_S27648x84x32_0_1_2, bcast_S1x1x32_S27648x84x32_0_1_2, bcast_S_S27648x84x32, shapeCasts_S27648x84x32_S27648x2688, bcast_S_S27648x896, slices_S27648x160_S27648x28_0_122, bcast_S27648x28_S27648x28x32_0_1, shapeCasts_S27648x28x32_S27648x896⟩
theorem shapes2 : RangeShapes 2 20 640 320 10 678 150 := ⟨rfl, rfl, rfl, rfl, by decide, by decide, by decide, slices_S27648x698_S27648x20_0_678, shapeCasts_S27648x20_S27648x20x1, bcast_S27648x20x1_S27648x20x32_0_1_2, bcast_S1x1x32_S27648x20x32_0_1_2, bcast_S_S27648x20x32, shapeCasts_S27648x20x32_S27648x640, bcast_S_S27648x320, slices_S27648x160_S27648x10_0_150, bcast_S27648x10_S27648x10x32_0_1, shapeCasts_S27648x10x32_S27648x320⟩

theorem range8 (q : IVec S27648x698 32) (s : FVec Ideal S27648x160 .bf16) : val_main_v45 (F := Ideal) q s = rangeWeights shapes8 0x4300#16 q s := rfl
theorem range6 (q : IVec S27648x698 32) (s : FVec Ideal S27648x160 .bf16) : val_main_v83 (F := Ideal) q s = rangeWeights shapes6 0x4200#16 q s := rfl
theorem range5 (q : IVec S27648x698 32) (s : FVec Ideal S27648x160 .bf16) : val_main_v117 (F := Ideal) q s = rangeWeights shapes5 0x4180#16 q s := rfl
theorem range4 (q : IVec S27648x698 32) (s : FVec Ideal S27648x160 .bf16) : val_main_v147 (F := Ideal) q s = rangeWeights shapes4 0x4100#16 q s := rfl
theorem range3 (q : IVec S27648x698 32) (s : FVec Ideal S27648x160 .bf16) : val_main_v173 (F := Ideal) q s = rangeWeights shapes3 0x4080#16 q s := rfl
theorem range2 (q : IVec S27648x698 32) (s : FVec Ideal S27648x160 .bf16) : val_main_v195 (F := Ideal) q s = rangeWeights shapes2 0x4000#16 q s := rfl

/-- The exact powers of two the codes are centred by: a bfloat16 with no fraction bits. -/
theorem ofBits_pow (k : Nat) (hk : k < 8) : Ideal.ofBits .bf16 (BitVec.ofNat 16 (2 ^ 7 * (127 + k))) = ((2 ^ k : ℝ) : EReal) := by
  have h1 : ((BitVec.ofNat 16 (2 ^ 7 * (127 + k))).extractLsb' (8 + 7) 1 == 1#1) = false := by
    revert k; decide +kernel
  have h2 : ((BitVec.ofNat 16 (2 ^ 7 * (127 + k))).extractLsb' 7 8).toNat = 127 + k := by
    revert k; decide +kernel
  have h3 : ((BitVec.ofNat 16 (2 ^ 7 * (127 + k))).extractLsb' 0 7).toNat = 0 := by
    revert k; decide +kernel
  show Ideal.ieee 8 7 _ = _
  unfold Ideal.ieee
  simp only [h1, h2, h3]
  interval_cases k <;> norm_num

/-- The six ranges' weights. -/
def pieces (q : IVec S27648x698 32) (s : FVec Ideal S27648x160 .bf16) : List ((s : Shape) × (s.Idx → EReal)) :=
  [⟨S27648x288, val_main_v45 (F := Ideal) q s⟩, ⟨S27648x576, val_main_v83 (F := Ideal) q s⟩, ⟨S27648x1088, val_main_v117 (F := Ideal) q s⟩, ⟨S27648x1952, val_main_v147 (F := Ideal) q s⟩, ⟨S27648x896, val_main_v173 (F := Ideal) q s⟩, ⟨S27648x320, val_main_v195 (F := Ideal) q s⟩]

/-- The reference's weight matrix. -/
theorem refWeights_apply (q : IVec S27648x698 32) (s : FVec Ideal S27648x160 .bf16) (n : Fin 27648) (c : Fin 5120) :
    val_main_v196 (F := Ideal) q s (ix2 n c) = weight (rowWord q n) (rowScale s n) (c.val / 32) (c.val % 32) := by
  have hpiece (k : Nat) (R : Nat) (f : FVec Ideal (Mat R) .bf16) (pre gbase : Nat) (hpre32 : pre = 32 * gbase) (hc : pre ≤ c.val) (hcR : c.val < pre + R)
      (hk : k < (pieces q s).length)
      (hxk : (pieces q s)[k] = ⟨Mat R, f⟩)
      (hpre : ((((pieces q s).take k).map (·.1)).map fun s => if h : s.rank = S27648x5120.rank then s.size ((1 : Fin S27648x5120.rank).cast h.symm) else 0).sum = pre)
      (hf : ∀ m : Fin R, f (ix2 n m) = weight (rowWord q n) (rowScale s n) (gbase + m.val / 32) (m.val % 32)) :
      val_main_v196 (F := Ideal) q s (ix2 n c) = weight (rowWord q n) (rowScale s n) (c.val / 32) (c.val % 32) := by
    refine (concatenate_apply_piece (t := S27648x5120) 1 (pieces q s) concatenates_S27648x288_S27648x576_S27648x1088_S27648x1952_S27648x896_S27648x320_S27648x5120_d1 (ix2 n c) k hk (Mat R) f hxk rfl pre hpre (ix2 n ⟨c.val - pre, by omega⟩) ?_ ?_).trans ?_
    · intro b hb
      match b with
      | ⟨0, _⟩ => rfl
      | ⟨1, _⟩ => exact absurd rfl hb
    · show pre + (c.val - pre) = c.val; omega
    · rw [hf]
      congr 1
      · show gbase + (c.val - pre) / 32 = _; omega
      · show (c.val - pre) % 32 = _; omega
  have hc := c.isLt
  by_cases h8 : c.val < 288
  · exact hpiece 0 288 _ 0 0 rfl (by omega) (by omega) (by decide : _ < 6) rfl rfl fun m => by
      rw [range8]; exact rangeWeights_apply shapes8 _ 0 (ofBits_pow 7 (by decide)) rfl rfl rfl (by decide) q s n m
  by_cases h6 : c.val < 864
  · exact hpiece 1 576 _ 288 9 rfl (by omega) (by omega) (by decide : _ < 6) rfl rfl fun m => by
      rw [range6]; exact rangeWeights_apply shapes6 _ 1 (ofBits_pow 5 (by decide)) rfl rfl rfl (by decide) q s n m
  by_cases h5 : c.val < 1952
  · exact hpiece 2 1088 _ 864 27 rfl (by omega) (by omega) (by decide : _ < 6) rfl rfl fun m => by
      rw [range5]; exact rangeWeights_apply shapes5 _ 2 (ofBits_pow 4 (by decide)) rfl rfl rfl (by decide) q s n m
  by_cases h4 : c.val < 3904
  · exact hpiece 3 1952 _ 1952 61 rfl (by omega) (by omega) (by decide : _ < 6) rfl rfl fun m => by
      rw [range4]; exact rangeWeights_apply shapes4 _ 3 (ofBits_pow 3 (by decide)) rfl rfl rfl (by decide) q s n m
  by_cases h3 : c.val < 4800
  · exact hpiece 4 896 _ 3904 122 rfl (by omega) (by omega) (by decide : _ < 6) rfl rfl fun m => by
      rw [range3]; exact rangeWeights_apply shapes3 _ 4 (ofBits_pow 2 (by decide)) rfl rfl rfl (by decide) q s n m
  · exact hpiece 5 320 _ 4800 150 rfl (by omega) (by omega) (by decide : _ < 6) rfl rfl fun m => by
      rw [range2]; exact rangeWeights_apply shapes2 _ 5 (ofBits_pow 1 (by decide)) rfl rfl rfl (by decide) q s n m

end Cert.Proof.RefWeights
-- ==== Proof.Value.lean ====
/-
  The result of the kernel (hand-written): each block of the output array is the matrix product of its block of laid-out
  activations with the weight scratch, whose sum over the scratch's rows is the reference's sum over the channels in
  another order.
-/
module

public import proofs.«01_k».proof.Defs
public import proofs.«01_k».proof.Proof.HostVals
public import proofs.«01_k».proof.Proof.Gen.ReferenceIdeal.Run
public import proofs.«01_k».proof.Proof.Weights
public import proofs.«01_k».proof.Proof.RefWeights
public import proofs.«01_k».proof.Proof.RunIdeal
public import Idealize.ShloMosaic.Lib.Pipeline.ValueKit
public import Idealize.ShloMosaic.Lib.Pipeline.Covers
public import Idealize.ShloMosaic.Lib.MatmulPlain
public import Idealize.ShloMosaic.Lib.Claim

@[expose] public section

set_option maxRecDepth 65536

noncomputable section

namespace Cert.Proof.Value

open Cert.KernelIdeal Cert.KernelIdeal.Gen
open Idealize.ShloMosaic hiding ix2 ix3
open Idealize.ShloMosaic.TcCoe Idealize.ShloMosaic.ValueIdx
open Idealize.SL.Sem
open Cert.Proof.Codes Cert.Proof.Numbers Cert.Proof.Weights Cert.Proof.RefWeights Cert.Proof.HostVals

/-! ## The rows of the scratch are the channels in another order -/

theorem chan_inj : ∀ bits ∈ [8, 6, 5, 4, 3, 2], ∀ t < 16, ∀ h < 2, ∀ t' < 16, ∀ h' < 2, chan bits t h = chan bits t' h' → t = t' ∧ h = h' := by
  decide +kernel

theorem chan_row_lt (r : Nat) (hr : r < 5120) : chan (bitsOf (rangeOf (r % 320 / 2))) (r / 320) (r % 2) < 32 :=
  chan_lt _ (bits_mem _) _ (by omega) _ (by omega)

theorem chanOf_lt (r : Nat) (hr : r < 5120) : chanOf r < 5120 := by
  have := chan_row_lt r hr
  unfold chanOf; omega

/-- The channel of a row of the scratch. -/
def chanFin (r : Fin 5120) : Fin 5120 := ⟨chanOf r.val, chanOf_lt _ r.isLt⟩

theorem chanOf_div (r : Nat) (hr : r < 5120) : chanOf r / 32 = r % 320 / 2 := by
  have := chan_row_lt r hr
  unfold chanOf; omega

theorem chanOf_mod (r : Nat) (hr : r < 5120) : chanOf r % 32 = chan (bitsOf (rangeOf (r % 320 / 2))) (r / 320) (r % 2) := by
  have := chan_row_lt r hr
  unfold chanOf; omega

theorem chanFin_inj : Function.Injective chanFin := by
  intro r r' h
  have hv : chanOf r.val = chanOf r'.val := congrArg Fin.val h
  have hr := r.isLt
  have hr' := r'.isLt
  have h1 : r.val % 320 / 2 = r'.val % 320 / 2 := by rw [← chanOf_div _ hr, ← chanOf_div _ hr', hv]
  have h2 := chanOf_mod _ hr
  rw [hv, chanOf_mod _ hr', h1] at h2
  obtain ⟨h3, h4⟩ := chan_inj _ (bits_mem _) _ (by omega) _ (by omega) _ (by omega) _ (by omega) h2
  exact Fin.ext (by omega)

/-- A sum over the rows of the scratch is the sum over the channels. -/
theorem sum_chan (f : Fin 5120 → EReal) : ∑ r : Fin 5120, f (chanFin r) = ∑ k : Fin 5120, f k :=
  (Finite.injective_iff_bijective.1 chanFin_inj).sum_comp f

/-! ## One block -/

/-- A block of the output: the block of activations times the weights. -/
theorem outAt_apply (c : Dev nD) (t : Fin cfg0.N) (x0 : Vec Ideal S1536x5120 .bf16) (x1 : Vec Ideal S698x512 .i32) (x2 : Vec Ideal S160x512 .bf16)
    (r : Fin 1536) (C : Fin 512) :
    RunIdeal.outAt (F := Ideal) c t x0 x1 x2 (ix2 r C) = ∑ k : Fin 5120, x0 (ix2 r k) * scratchAt x1 x2 (ix2 k C) := by
  unfold RunIdeal.outAt RunIdeal.out0_3
  rw [View.canon_cons_unit_lit _ _ _ (by decide), View.ld_unit_lit _ _ (by decide), View.ld_unit_lit _ _ (by decide)]
  unfold k0_pay3
  dsimp only
  rw [shapeCast_self]
  refine (Ideal.matmul_plain_apply (φ₁ := .bf16) (φ₂ := .bf16) (M := 1536) (K := 5120) (N := 512) none x0 _ (constant (F := Ideal) S1536x512 .f32 0x00000000#32) r C).trans ?_
  rw [show (constant (F := Ideal) S1536x512 .f32 0x00000000#32) (ix2 r C) = (0 : EReal) from Ideal.ofBits_zero_f32, zero_add]
  exact Finset.sum_congr rfl fun k _ => congrArg (x0 (ix2 r k) * ·) (weights_apply c _ _ _ _ _ _ _ _ _ _ _ _ _ _ _ x1 x2 (ix2 k C))

theorem ofNat_toNat {n : Nat} (h : n < 2 ^ 32) : (BitVec.ofNat 32 n).toNat = n := by rw [BitVec.toNat_ofNat]; omega

theorem coord0_lt (t : Fin cfg0.N) : (grid0.coords t 0).val < 4 := (grid0.coords t 0).isLt
theorem coord1_lt (t : Fin cfg0.N) : (grid0.coords t 1).val < 54 := (grid0.coords t 1).isLt

theorem index0 (t : Fin cfg0.N) : win0_0.index t = ![(grid0.coords t 0).val, 0] := by
  show ![(BitVec.ofNat 32 (grid0.coords t 0).val).toNat, 0] = _
  rw [ofNat_toNat (by have := coord0_lt t; omega)]
theorem index1 (t : Fin cfg0.N) : win0_1.index t = ![0, (grid0.coords t 1).val] := by
  show ![0, (BitVec.ofNat 32 (grid0.coords t 1).val).toNat] = _
  rw [ofNat_toNat (by have := coord1_lt t; omega)]
theorem index2 (t : Fin cfg0.N) : win0_2.index t = ![0, (grid0.coords t 1).val] := by
  show ![0, (BitVec.ofNat 32 (grid0.coords t 1).val).toNat] = _
  rw [ofNat_toNat (by have := coord1_lt t; omega)]
theorem index3 (t : Fin cfg0.N) : win0_3.index t = ![(grid0.coords t 0).val, (grid0.coords t 1).val] := by
  show ![(BitVec.ofNat 32 (grid0.coords t 0).val).toNat, (BitVec.ofNat 32 (grid0.coords t 1).val).toNat] = _
  rw [ofNat_toNat (by have := coord0_lt t; omega), ofNat_toNat (by have := coord1_lt t; omega)]

/-! ## The output array -/

section Array

variable (m : (ℓ : Loc nD τ sig) → Buf (Elt Ideal) ℓ) (c : Dev nD)

/-- The activations after the permutation. -/
def taken : FVec Ideal S24x256x5120 .bf16 :=
  Cert.ReferenceIdeal.Read.val_main_v197 (F := Ideal) (m ((c : Thread nD τ).loc main_arg0)) (m ((c : Thread nD τ).loc main_arg1))

/-- An output element: the sum over the channels of activation times weight. -/
def outValue (n : Fin 6144) (o : Fin 27648) : EReal :=
  ∑ k : Fin 5120, taken m c (ix3 ⟨n.val / 256, by have := n.isLt; omega⟩ ⟨n.val % 256, Nat.mod_lt _ (by decide)⟩ k)
    * weight (rowWord (m ((c : Thread nD τ).loc main_arg2)) o) (rowScale (m ((c : Thread nD τ).loc main_arg3)) o) (k.val / 32) (k.val % 32)

def outArray : FVec Ideal S6144x27648 .bf16 := fun i => outValue m c (i 0) (i 1)

/-- A block of the activations, in the array. -/
theorem block_acts (t : Fin cfg0.N) (r : Fin 1536) (k : Fin 5120) (n : Fin 6144) (hn : n.val = (grid0.coords t 0).val * 1536 + r.val) :
    iblk m c 0 t (ix2 r k) = laidOut (taken m c) (ix2 n k) := by
  unfold iblk
  blk_simp
  rw [V_acts]
  refine congrArg (laidOut (taken m c)) (funext fun a => Fin.ext ?_)
  match a with
  | ⟨0, _⟩ => blk_simp; rw [index0]; exact hn.symm
  | ⟨1, _⟩ => blk_simp; rw [index0]; show 0 * 5120 + k.val = k.val; omega

/-- A block's column of words is a row of the words. -/
theorem block_words (t : Fin cfg0.N) (C : Fin 512) (o : Fin 27648) (ho : o.val = (grid0.coords t 1).val * 512 + C.val) :
    wordCol (iblk m c 1 t) C = rowWord (m ((c : Thread nD τ).loc main_arg2)) o := by
  funext i
  unfold wordCol rowWord
  split_ifs with h
  · unfold iblk
    blk_simp
    rw [V_words]
    refine transpose_apply _ _ _ _ _ (fun b => ?_)
    match b with
    | ⟨0, _⟩ => blk_simp; rw [index1]; show i = 0 * 698 + i; omega
    | ⟨1, _⟩ => blk_simp; rw [index1]; exact ho
  · rfl

/-- A block's column of scales is a row of the scales. -/
theorem block_scales (t : Fin cfg0.N) (C : Fin 512) (o : Fin 27648) (ho : o.val = (grid0.coords t 1).val * 512 + C.val) :
    scaleCol (iblk m c 2 t) C = rowScale (m ((c : Thread nD τ).loc main_arg3)) o := by
  funext g
  unfold scaleCol rowScale
  split_ifs with h
  · unfold iblk
    blk_simp
    rw [V_scales]
    refine transpose_apply _ _ _ _ _ (fun b => ?_)
    match b with
    | ⟨0, _⟩ => blk_simp; rw [index2]; show g = 0 * 160 + g; omega
    | ⟨1, _⟩ => blk_simp; rw [index2]; exact ho
  · rfl

/-- The output array after the run. -/
theorem arr_out : (RunIdeal.dats m 0 c).arrAt 3 cfg0.N = outArray m c := by
  refine (RunIdeal.dats m 0 c).arrAt_eq_of_covers 3 _ (by decide +kernel) fun t hf y => ?_
  blk_simp
  rw [RunIdeal.after0_3]
  have h0 := coord0_lt t
  have h1 := coord1_lt t
  obtain ⟨r, C, rfl⟩ : ∃ (r : Fin 1536) (C : Fin 512), y = ix2 r C := ⟨y 0, y 1, ValueIdx.eq_ix2 y⟩
  have hr := r.isLt
  have hC := C.isLt
  have e : (win0_3.blk t).view.emb (ix2 r C : S1536x512.Idx)
      = (ix2 ⟨(grid0.coords t 0).val * 1536 + r.val, by omega⟩ ⟨(grid0.coords t 1).val * 512 + C.val, by omega⟩ : S6144x27648.Idx) := by
    funext a
    apply Fin.ext
    match a with
    | ⟨0, _⟩ => blk_simp; rw [index3]; rfl
    | ⟨1, _⟩ => blk_simp; rw [index3]; rfl
  refine (outAt_apply c t _ _ _ r C).trans (Eq.trans ?_ (congrArg (outArray m c) e.symm))
  show _ = outValue m c ⟨(grid0.coords t 0).val * 1536 + r.val, _⟩ ⟨(grid0.coords t 1).val * 512 + C.val, _⟩
  unfold outValue
  refine Eq.trans ?_ (sum_chan _)
  refine Finset.sum_congr rfl fun k _ => ?_
  have hk := k.isLt
  rw [block_acts m c t r k ⟨(grid0.coords t 0).val * 1536 + r.val, by omega⟩ rfl, laidOut_apply (taken m c) _ k (chanFin k) rfl]
  congr 1
  show weight (wordCol (iblk m c 1 t) C) (scaleCol (iblk m c 2 t) C) (k.val % 320 / 2) _ = weight _ _ (chanOf k.val / 32) (chanOf k.val % 32)
  rw [chanOf_div _ hk, chanOf_mod _ hk, block_words m c t C ⟨(grid0.coords t 1).val * 512 + C.val, by omega⟩ rfl, block_scales m c t C ⟨(grid0.coords t 1).val * 512 + C.val, by omega⟩ rfl]

/-- The result array: the output array over the batch and the sequence. -/
theorem result_eq : Pipeline.afterTail₀ cfgs (RunIdeal.dats m) 0 (V0 m) [hostOps1] c main_v30
    = shapeCast S24x256x27648 (outArray m c) shapeCasts_S6144x27648_S24x256x27648 := by
  unfold Pipeline.afterTail₀
  rw [List.flatten_cons, List.flatten_nil, List.append_nil]
  have tail (W : Valuation τ sig (Elt Ideal)) : StableHlo.after hostOps1 W (Proc.devRef .tc main_v30)
      = shapeCast S24x256x27648 (W (Proc.devRef .tc main_v29)) shapeCasts_S6144x27648_S24x256x27648 := by
    after_results
    rfl
  rw [tail]
  refine congrArg (fun z => shapeCast S24x256x27648 z shapeCasts_S6144x27648_S24x256x27648) ?_
  exact (Pipeline.withArrays_arr spec0 (by decide) c (V0 m c) _ 3).trans (arr_out m c)

/-- The result array is the reference's. -/
theorem result_ref : shapeCast S24x256x27648 (outArray m c) shapeCasts_S6144x27648_S24x256x27648
    = Cert.ReferenceIdeal.Read.val_main_v199 (F := Ideal) (m ((c : Thread nD τ).loc main_arg0)) (m ((c : Thread nD τ).loc main_arg1)) (m ((c : Thread nD τ).loc main_arg2)) (m ((c : Thread nD τ).loc main_arg3)) := by
  funext i
  obtain ⟨b, p, o, rfl⟩ : ∃ (b : Fin 24) (p : Fin 256) (o : Fin 27648), i = ix3 b p o := ⟨i 0, i 1, i 2, ValueIdx.eq_ix3 i⟩
  have hb := b.isLt
  have hp := p.isLt
  refine (shapeCast_apply _ shapeCasts_S6144x27648_S24x256x27648 _ (ix2 ⟨b.val * 256 + p.val, by omega⟩ o : S6144x27648.Idx) ?_).trans ?_
  · rw [Shape.rowMajor_val_three, Shape.rowMajor_val_two]; rfl
  refine Eq.trans ?_ (Cert.ReferenceIdeal.Read.val_main_v198_apply _ _ _ _ _).symm
  show outValue m c ⟨b.val * 256 + p.val, _⟩ o = _
  unfold outValue
  refine Finset.sum_congr rfl fun k _ => ?_
  refine congrArg₂ (· * ·) (congrArg (taken m c) (funext fun a => Fin.ext ?_)) ?_
  · match a with
    | ⟨0, _⟩ => show (b.val * 256 + p.val) / 256 = b.val; omega
    | ⟨1, _⟩ => show (b.val * 256 + p.val) % 256 = p.val; omega
    | ⟨2, _⟩ => rfl
  · refine (refWeights_apply _ _ o k).symm.trans (congrArg _ (funext fun a => ?_))
    match a with
    | ⟨0, _⟩ => rfl
    | ⟨1, _⟩ => rfl

end Array

/-- The kernel's run, its result in closed form. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
          = Cert.ReferenceIdeal.Read.val_main_v199 (F := Ideal) (m ((c : Thread nD τ).loc main_arg0)) (m ((c : Thread nD τ).loc main_arg1)) (m ((c : Thread nD τ).loc main_arg2)) (m ((c : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans ((result_eq m c).trans (result_ref m c)),
      ((h c).2 main_arg0 (Pipeline.mem_restRefs_of main_arg0 (by decide) (by decide))).trans (W_main_arg0 m (RunIdeal.dats m) c),
      ((h c).2 main_arg1 (Pipeline.mem_restRefs_of main_arg1 (by decide) (by decide))).trans (W_main_arg1 m (RunIdeal.dats m) c),
      ((h c).2 main_arg2 (Pipeline.mem_restRefs_of main_arg2 (by decide) (by decide))).trans (W_main_arg2 m (RunIdeal.dats m) c),
      ((h c).2 main_arg3 (Pipeline.mem_restRefs_of main_arg3 (by decide) (by decide))).trans (W_main_arg3 m (RunIdeal.dats m) c)⟩)
    (RunIdeal.run_main m ρ)

/-- The reference's run, its result by name. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v199)
          = Cert.ReferenceIdeal.Read.val_main_v199 (F := Ideal) (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1))
              (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono
    (fun _ h c => ⟨(h c).1.trans (Cert.ReferenceIdeal.Read.val_main_v199_eq (F := Ideal) (StableHlo.launchContents m c)), (h c).2⟩)
    (Cert.ReferenceIdeal.Value.run (F := Ideal) m ρ)

/-- From equal arguments, both programs end and leave equal results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, run_kernel m g, (θ_run (Cert.ReferenceIdeal.defs (F := Ideal)) _ _).mono (fun r h c => ?_) (run_reference m' g')⟩
  refine ⟨(h c).1.trans ?_, (h c).2⟩
  obtain ⟨h0, h1, h2, h3⟩ := hargs c
  exact congr (congr (congr (congrArg (Cert.ReferenceIdeal.Read.val_main_v199 (F := Ideal)) h0) h1) h2) h3

end Cert.Proof.Value

end
-- ==== Proof.GatherTrip.lean ====
/-
  One trip of the gather's second loop (hand-written): 128 times a position of the table of source rows, the channel the
  permutation has there, and that channel's row of the transposed activations; then the rows, transposed back, stored as one
  column block of the output.
-/
module

public import proofs.«01_k».proof.Proof.Gen.Gather.Launch
public import proofs.«01_k».proof.Proof.Gen.Gather.Loops
public import proofs.«01_k».proof.Proof.Gen.Gather.Skeleton
public import Idealize.ShloMosaic.Lib.Claim

@[expose] public section

set_option maxRecDepth 65536

noncomputable section

namespace Cert.Proof.GatherTrip

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A word below 5120 is a position of a table of 5120 words. -/
theorem word_inside (w : BitVec 32) (h : w.toNat < 5120) : ∀ a, (![w.toNat] : Fin 1 → ℕ) a + S1.size a ≤ S5120.size a := by
  intro a; fin_cases a; show w.toNat + 1 ≤ 5120; omega

/-- A word below 5120 is a row of the transposed activations. -/
theorem row_inside (w : BitVec 32) (h : w.toNat < 5120) : ∀ a, (![w.toNat, 0] : Fin 2 → ℕ) a + S1x128.size a ≤ S5120x128.size a := by
  intro a; fin_cases a
  · show w.toNat + 1 ≤ 5120; omega
  · show 0 + 128 ≤ 128; omega

section Trip

variable (q1 q2 : PosShare TreeShare) (c : Dev nD) (i : grid0.Coords) (arg1 : Memref sig .tc .smem S5120 .i32) (harg1 : arg1.IsWhole) (arg2 : Memref sig .tc .smem S5120 .i32) (harg2 : arg2.IsWhole) (arg3 : Memref sig .tc .vmem S256x5120 .bf16) (harg3 : arg3.IsWhole) (arg4 : Memref sig .tc .vmem S256x5120 .bf16) (harg4 : arg4.IsWhole) (arg5 : Memref sig .tc .vmem S5120x128 .i32) (harg5 : arg5.IsWhole) (arg6 : Memref sig .tc .vmem S128x128 .i32) (harg6 : arg6.IsWhole)
  (X1 : BufTy.Contents (Elt F) arg1.view.ty) (X2 : BufTy.Contents (Elt F) arg2.view.ty) (X5 : BufTy.Contents (Elt F) arg5.view.ty)

/-- What a trip reads, the two tables and the transposed activations, at its contents, and what it writes at any. -/
abbrev Held (f4 : BufTy.Contents (Elt F) arg4.view.ty) (f6 : BufTy.Contents (Elt F) arg6.view.ty) : sProp 𝕄 :=
  iprop((arg1.view.loc (c : Thread nD τ) ↦[arg1.view.set]{q1} X1) ∗ (arg2.view.loc (c : Thread nD τ) ↦[arg2.view.set]{q2} X2)
    ∗ (arg5.view.loc (c : Thread nD τ) ↦[arg5.view.set]{fullShare} X5)
    ∗ (arg4.view.loc (c : Thread nD τ) ↦[arg4.view.set]{fullShare} f4) ∗ (arg6.view.loc (c : Thread nD τ) ↦[arg6.view.set]{fullShare} f6))

/-- One trip, every word of the two tables below 5120: the column block it stores is the run's own find. -/
@[irreducible] def trip (h1 : ∀ x : S5120.Idx, BitVec.toNat (w := 32) (arg1.view.read (Elt F) X1 x) < 5120)
    (h2 : ∀ x : S5120.Idx, BitVec.toNat (w := 32) (arg2.view.read (Elt F) X2 x) < 5120) (k : Fin k0_t2_loop.trips) :
    { L : List (View.Piece (Elt F) S256x5120 .bf16) // ∀ (E : Set ℕ) (f4 : BufTy.Contents (Elt F) arg4.view.ty) (f6 : BufTy.Contents (Elt F) arg6.view.ty),
      Held (F := F) q1 q2 c arg1 arg2 arg4 arg5 arg6 X1 X2 X5 f4 f6
      ⊢ wp frame (wpE (defs₀ (F := F)) Variants.none (c : Thread nD τ) none) E (k0_t2_body (F := F) i arg1 harg1 arg2 harg2 arg3 harg3 arg4 harg4 arg5 harg5 arg6 harg6 k PUnit.unit)
          (fun _ => iprop(∃ f6', Held (F := F) q1 q2 c arg1 arg2 arg4 arg5 arg6 X1 X2 X5 (arg4.view.writes (Elt F) f4 L) f6')) } := by
  have hk : k.val < 40 := Nat.lt_of_lt_of_le k.isLt k0_t2_abs.2.1
  refine ⟨?_, fun E f4 f6 => ?run⟩
  case run =>
    unfold k0_t2_body
    iintro ⟨H1, H2, H5, H4, H6⟩
    sl_exec (disch := first | exact word_inside _ (h2 _) | exact row_inside _ (h1 _))
    sl_step
    iexists _
    isplitl [H1]; · iexact H1
    isplitl [H2]; · iexact H2
    isplitl [H5]; · iexact H5
    isplitl [H4]; · iexact H4
    iexact H6

end Trip

end Cert.Proof.GatherTrip

end
-- ==== Proof.GatherRows.lean ====
/-
  What one trip of the gather's second loop stores (hand-written): row `j` of the small scratch is the row of the transposed
  activations that the two tables name for output position `128 k + j`, so the column block stored is, entry by entry, half a
  word of it.
-/
module

public import proofs.«01_k».proof.Proof.GatherTrip
public import Idealize.ShloMosaic.Lib.BitcastPair
public import Idealize.ShloMosaic.Lib.WritesUnit
public import Idealize.ShloMosaic.Lib.Pipeline.FrameBody
public import Idealize.ShloMosaic.Lib.Pipeline.Value

@[expose] public section

set_option maxRecDepth 65536

noncomputable section

namespace Cert.Proof.GatherRows

open Cert.Gather Cert.Gather.Gen
open Idealize.ShloMosaic Idealize.ShloMosaic.TcCoe Idealize.ShloMosaic.Tactic
open Idealize.SL.RA
open Cert.Proof.GatherTrip

variable {F : FTy → Type} [BitOps F]

/-- Output position `128 k + j`, as the kernel computes it. -/
def posOf (k : Fin k0_t2_loop.trips) (j : Nat) : Nat :=
  (Scalar.indexCast (Scalar.addi (Scalar.muli (Scf.iv 0#32 1#32 k) 128#32) (BitVec.ofNat 32 j))).toNat

theorem trips2 : k0_t2_loop.trips = 40 := by decide +kernel

theorem posOf_eq (k : Fin k0_t2_loop.trips) (j : Fin 128) : posOf k j.val = 128 * k.val + j.val := by revert k j; decide +kernel

theorem posOf_inside (k : Fin k0_t2_loop.trips) (j : Fin 128) :
    ∀ a, (![posOf k j.val] : Fin 1 → ℕ) a + S1.size a ≤ S5120.size a := by
  have h := posOf_eq k j
  have hk : k.val < 40 := k.isLt.trans_eq trips2
  have hj := j.isLt
  intro a; fin_cases a; show posOf k j.val + 1 ≤ 5120; omega

theorem one_pos : 0 < S1.numel := by decide

section Rows

variable (arg1 : Memref sig .tc .smem S5120 .i32) (arg2 : Memref sig .tc .smem S5120 .i32) (arg5 : Memref sig .tc .vmem S5120x128 .i32) (arg6 : Memref sig .tc .vmem S128x128 .i32)
  (X1 : BufTy.Contents (Elt F) arg1.view.ty) (X2 : BufTy.Contents (Elt F) arg2.view.ty) (X5 : BufTy.Contents (Elt F) arg5.view.ty)
  (h1 : ∀ x : S5120.Idx, BitVec.toNat (w := 32) (arg1.view.read (Elt F) X1 x) < 5120)
  (h2 : ∀ x : S5120.Idx, BitVec.toNat (w := 32) (arg2.view.read (Elt F) X2 x) < 5120)
  (k : Fin k0_t2_loop.trips)

/-- The source position loaded for output position `128 k + j`, -/
def srcWord (j : Fin 128) : BitVec 32 :=
  arg2.view.readAt (Elt F) (Rect.unit (s := S5120) ![posOf k j.val] S1.size (posOf_inside k j)).toLoadRect X2 (Shape.Idx.first one_pos)

/-- and the channel the permutation has at it. -/
def chanWord (j : Fin 128) : BitVec 32 :=
  arg1.view.readAt (Elt F) (Rect.unit (s := S5120) ![(srcWord arg2 X2 k j).toNat] S1.size (word_inside _ (h2 _))).toLoadRect X1 (Shape.Idx.first one_pos)

/-- Row `j` of the small scratch. -/
def row (j : Fin 128) : View.Piece (Elt F) S128x128 .i32 :=
  ⟨Rect.unit (s := S128x128) ![j.val, 0] S1x128.size (by intro a; have := j.isLt; fin_cases a <;> [(show j.val + 1 ≤ 128; omega); (show 0 + 128 ≤ 128; omega)]),
    shapeCast S1x128 (arg5.view.readAt (Elt F) (Rect.unit (s := S5120x128) ![(chanWord arg1 arg2 X1 X2 h2 k j).toNat, 0] S1x128.size (row_inside _ (h1 _))).toLoadRect X5) shapeCasts_S1x128_S1x128⟩

/-- The first `n` rows, last first. -/
def rowList : (n : Nat) → n ≤ 128 → List (View.Piece (Elt F) S128x128 .i32)
  | 0, _ => []
  | n + 1, h => row arg1 arg2 arg5 X1 X2 X5 h1 h2 k ⟨n, h⟩ :: rowList n (Nat.le_of_succ_le h)

/-- The list the trip's run recorded is the list of these rows. -/
theorem rows_eq : trip.sl.H6_128 arg1 arg2 arg5 X1 X2 X5 h1 h2 k = rowList arg1 arg2 arg5 X1 X2 X5 h1 h2 k 128 (Nat.le_refl _) := by
  sl_kernel_rfl

end Rows

end Cert.Proof.GatherRows

end
-- ==== Proof.GatherVals.lean ====
/-
  The values of the gather's two loops (hand-written): the first leaves the activations transposed, two rows to a word; one
  trip of the second puts, at each output position of its column block, the channel that the two tables name for it.
-/
module

public import proofs.«01_k».proof.Proof.GatherRows
public import Idealize.ShloMosaic.Lib.ValueIdxCore
public import Idealize.ShloMosaic.PureOps.BitExact

@[expose] public section

set_option maxRecDepth 65536

noncomputable section

namespace Cert.Proof.GatherVals

open Cert.Gather Cert.Gather.Gen
open Idealize.ShloMosaic Idealize.ShloMosaic.TcCoe Idealize.ShloMosaic.Tactic Idealize.ShloMosaic.ValueIdx
open Idealize.SL.RA
open Cert.Proof.GatherTrip Cert.Proof.GatherRows

/-- The channel at output position `p`: the permutation at the source position the table has there. -/
def chanAt (x1 x2 : S5120.Idx → BitVec 32) (h1 : ∀ x, (x1 x).toNat < 5120) (h2 : ∀ x, (x2 x).toNat < 5120) (p : Fin 5120) : Fin 5120 :=
  ⟨(x1 (ix1 ⟨(x2 (ix1 p : S5120.Idx)).toNat, h2 _⟩ : S5120.Idx)).toNat, h1 _⟩

/-! ## The first loop -/

/-- The activations transposed, rows `2 b` and `2 b + 1` in one word. -/
def packed (x : Vec Bits S256x5120 .bf16) : S5120x128.Idx → BitVec 32 := fun y =>
  (show BitVec 16 from x (ix2 ⟨2 * (y 1).val + 1, by have := idx2_lt1 y; omega⟩ (y 0)))
    ++ (show BitVec 16 from x (ix2 ⟨2 * (y 1).val, by have := idx2_lt1 y; omega⟩ (y 0)))

theorem trips1 : k0_t1_loop.trips = 40 := by decide +kernel
theorem off1_eq (k : Fin k0_t1_loop.trips) : k0_off1 k = ![0, 128 * k.val] := by revert k; decide +kernel
theorem off2_eq (k : Fin k0_t1_loop.trips) : k0_off2 k = ![128 * k.val, 0] := by revert k; decide +kernel
theorem off387_eq (k : Fin k0_t2_loop.trips) : k0_off387 k = ![0, 128 * k.val] := by revert k; decide +kernel

/-- A column block of the activations packed and transposed, at an index. -/
theorem pay1_apply (v : Vec Bits S256x128 .bf16) (a b : Fin 128) :
    k0_pay1 (F := Bits) v (ix2 a b)
      = (show BitVec 16 from v (ix2 ⟨2 * b.val + 1, by omega⟩ a)) ++ (show BitVec 16 from v (ix2 ⟨2 * b.val, by omega⟩ a)) := by
  unfold k0_pay1
  refine (shapeCast_apply (s := S128x128) (t := S128x128) _ _ _ (ix2 a b) rfl).trans ?_
  refine (transpose_apply _ _ _ _ (ix2 b a : S128x128.Idx) (fun d => match d with | ⟨0, _⟩ => rfl | ⟨1, _⟩ => rfl)).trans ?_
  rw [bitcast_16_32]
  have e (q : Nat) (hq : q < 256) (hp) : (bitcastToInt (F := Bits) (φ := .bf16) (shapeCast S256x128 (v : FVec Bits S256x128 .bf16) shapeCasts_S256x128_S256x128))
      (bitcasts_S256x128_w16_S128x128_w32.srcIdx (ix2 b a : S128x128.Idx) q hp) = (show BitVec 16 from v (ix2 ⟨q, hq⟩ a)) := by
    show (shapeCast S256x128 (v : FVec Bits S256x128 .bf16) shapeCasts_S256x128_S256x128 _ : BitVec 16) = _
    refine (shapeCast_apply (s := S256x128) (t := S256x128) v _ _ (ix2 ⟨q, hq⟩ a) ?_)
    refine congrArg (fun z => (Shape.rowMajor S256x128 z).val) ?_
    funext d
    apply Fin.ext
    match d with
    | ⟨0, _⟩ => rfl
    | ⟨1, _⟩ => rfl
  have hb := b.isLt
  congr 1
  · exact e _ (by show 2 * b.val + 1 < 256; omega) _
  · exact e _ (by show 2 * b.val < 256; omega) _

section Loop1

variable (c : Dev nD) (i : grid0.Coords) (arg1 : Memref sig .tc .smem S5120 .i32) (harg1 : arg1.IsWhole) (arg2 : Memref sig .tc .smem S5120 .i32) (harg2 : arg2.IsWhole) (arg3 : Memref sig .tc .vmem S256x5120 .bf16) (harg3 : arg3.IsWhole) (arg4 : Memref sig .tc .vmem S256x5120 .bf16) (harg4 : arg4.IsWhole) (arg5 : Memref sig .tc .vmem S5120x128 .i32) (harg5 : arg5.IsWhole) (arg6 : Memref sig .tc .vmem S128x128 .i32) (harg6 : arg6.IsWhole)
  (X3 : BufTy.Contents (Elt Bits) arg3.view.ty)

/-- The one block a trip of the first loop stores. -/
theorem tripL1 (k : Fin k0_t1_loop.trips) :
    tripL_k0_t1 (F := Bits) Variants.none c none i arg1 harg1 arg2 harg2 arg3 harg3 arg4 harg4 arg5 harg5 arg6 harg6 X3 k
      = [⟨Rect.unit (s := S5120x128) (k0_off2 k) S128x128.size (k0_off2_inb k),
          k0_pay1 (arg3.view.readAt (Elt Bits) (Rect.unit (s := S256x5120) (k0_off1 k) S256x128.size (k0_off1_inb k)).toLoadRect X3)⟩] := by
  unfold tripL_k0_t1 trip_k0_t1; rfl

/-- Every block stored is a block of the packed transposition. -/
theorem pieces1 (n : ℕ) (hn : n ≤ k0_t1_loop.trips) :
    ∀ p ∈ pb_k0_t1 (F := Bits) Variants.none c none i arg1 harg1 arg2 harg2 arg3 harg3 arg4 harg4 arg5 harg5 arg6 harg6 X3 n,
      ∀ x : p.1.shape.Idx, p.2 x = packed (arg3.view.read (Elt Bits) X3) (p.1.emb x) := by
  induction n with
  | zero => intro p hp; exact absurd hp List.not_mem_nil
  | succ n ih =>
    intro p hp
    have e := pb_k0_t1_succ (F := Bits) Variants.none c none i arg1 harg1 arg2 harg2 arg3 harg3 arg4 harg4 arg5 harg5 arg6 harg6 X3 ⟨n, hn⟩
    rw [show n + 1 = (⟨n, hn⟩ : Fin k0_t1_loop.trips).val + 1 from rfl, e, tripL1] at hp
    rcases List.mem_cons.mp hp with rfl | hp
    · intro x
      obtain ⟨a, b, rfl⟩ : ∃ (a b : Fin 128), x = (ix2 a b : S128x128.Idx) := ⟨x 0, x 1, funext fun d => match d with | ⟨0, _⟩ => rfl | ⟨1, _⟩ => rfl⟩
      refine (pay1_apply _ a b).trans ?_
      have hn' : n < 40 := Nat.lt_of_lt_of_eq hn trips1
      have ha := a.isLt
      have hb := b.isLt
      have o20 : k0_off2 ⟨n, hn⟩ 0 = 128 * n := congrFun (off2_eq ⟨n, hn⟩) 0
      have o21 : k0_off2 ⟨n, hn⟩ 1 = 0 := congrFun (off2_eq ⟨n, hn⟩) 1
      have o10 : k0_off1 ⟨n, hn⟩ 0 = 0 := congrFun (off1_eq ⟨n, hn⟩) 0
      have o11 : k0_off1 ⟨n, hn⟩ 1 = 128 * n := congrFun (off1_eq ⟨n, hn⟩) 1
      have hemb : (Rect.unit (s := S5120x128) (k0_off2 ⟨n, hn⟩) S128x128.size (k0_off2_inb ⟨n, hn⟩)).emb (ix2 a b : S128x128.Idx)
          = (ix2 ⟨128 * n + a.val, by omega⟩ b : S5120x128.Idx) := by
        funext d
        apply Fin.ext
        match d with
        | ⟨0, _⟩ => show k0_off2 ⟨n, hn⟩ 0 + 1 * a.val = 128 * n + a.val; omega
        | ⟨1, _⟩ => show k0_off2 ⟨n, hn⟩ 1 + 1 * b.val = b.val; omega
      refine Eq.trans ?_ (congrArg (packed _) hemb.symm)
      have e (q : Nat) (hq : q < 256) : arg3.view.readAt (Elt Bits) (Rect.unit (s := S256x5120) (k0_off1 ⟨n, hn⟩) S256x128.size (k0_off1_inb ⟨n, hn⟩)).toLoadRect X3 (ix2 ⟨q, hq⟩ a : S256x128.Idx)
          = arg3.view.read (Elt Bits) X3 (ix2 ⟨q, hq⟩ ⟨128 * n + a.val, by omega⟩ : S256x5120.Idx) := by
        refine (View.readAt_apply _ _ _).trans (congrArg _ ?_)
        funext d
        apply Fin.ext
        match d with
        | ⟨0, _⟩ => show k0_off1 ⟨n, hn⟩ 0 + 1 * q = q; omega
        | ⟨1, _⟩ => show k0_off1 ⟨n, hn⟩ 1 + 1 * a.val = 128 * n + a.val; omega
      exact congrArg₂ (fun u v : BitVec 16 => u ++ v) (e _ _) (e _ _)
    · exact ih (Nat.le_of_succ_le hn) p hp

/-- A place of rows below `128 n` lies in a block stored before trip `n`. -/
theorem cover1 (n : ℕ) (hn : n ≤ k0_t1_loop.trips) (y : S5120x128.Idx) (hy : (y 0).val < 128 * n) :
    ∃ p ∈ pb_k0_t1 (F := Bits) Variants.none c none i arg1 harg1 arg2 harg2 arg3 harg3 arg4 harg4 arg5 harg5 arg6 harg6 X3 n, y ∈ p.1.set := by
  induction n with
  | zero => omega
  | succ n ih =>
    have e := pb_k0_t1_succ (F := Bits) Variants.none c none i arg1 harg1 arg2 harg2 arg3 harg3 arg4 harg4 arg5 harg5 arg6 harg6 X3 ⟨n, hn⟩
    rw [show n + 1 = (⟨n, hn⟩ : Fin k0_t1_loop.trips).val + 1 from rfl, e, tripL1]
    by_cases h : (y 0).val < 128 * n
    · obtain ⟨p, hp, hm⟩ := ih (Nat.le_of_succ_le hn) h
      exact ⟨p, List.mem_append_right _ hp, hm⟩
    · suffices hm : y ∈ (Rect.unit (s := S5120x128) (k0_off2 ⟨n, hn⟩) S128x128.size (k0_off2_inb ⟨n, hn⟩)).set by
        exact ⟨_, List.mem_append_left _ (List.mem_singleton_self _), hm⟩
      refine Rect.mem_set_unit.mpr fun d => ?_
      have o20 : k0_off2 ⟨n, hn⟩ 0 = 128 * n := congrFun (off2_eq ⟨n, hn⟩) 0
      have o21 : k0_off2 ⟨n, hn⟩ 1 = 0 := congrFun (off2_eq ⟨n, hn⟩) 1
      have h1 := idx2_lt1 y
      match d with
      | ⟨0, _⟩ => show k0_off2 ⟨n, hn⟩ 0 ≤ (y 0).val ∧ (y 0).val < k0_off2 ⟨n, hn⟩ 0 + 128; omega
      | ⟨1, _⟩ => show k0_off2 ⟨n, hn⟩ 1 ≤ (y 1).val ∧ (y 1).val < k0_off2 ⟨n, hn⟩ 1 + 128; omega

/-- After the first loop the big scratch reads the packed transposition, whatever it held before. -/
theorem read_loop1 (G5 : BufTy.Contents (Elt Bits) arg5.view.ty) :
    arg5.view.read (Elt Bits) (arg5.view.writes (Elt Bits) G5 (pb_k0_t1 (F := Bits) Variants.none c none i arg1 harg1 arg2 harg2 arg3 harg3 arg4 harg4 arg5 harg5 arg6 harg6 X3 k0_t1_loop.trips))
      = packed (arg3.view.read (Elt Bits) X3) :=
  funext fun y => View.read_writes_apply_of_pieces _ _ _ _ (pieces1 c i arg1 harg1 arg2 harg2 arg3 harg3 arg4 harg4 arg5 harg5 arg6 harg6 X3 _ (Nat.le_refl _)) y
    (cover1 c i arg1 harg1 arg2 harg2 arg3 harg3 arg4 harg4 arg5 harg5 arg6 harg6 X3 _ (Nat.le_refl _) y (by rw [trips1]; have := idx2_lt0 y; omega))

end Loop1

/-! ## One trip of the second loop -/

section Trip2

variable (q1 q2 : PosShare TreeShare) (c : Dev nD) (i : grid0.Coords) (arg1 : Memref sig .tc .smem S5120 .i32) (harg1 : arg1.IsWhole) (arg2 : Memref sig .tc .smem S5120 .i32) (harg2 : arg2.IsWhole) (arg3 : Memref sig .tc .vmem S256x5120 .bf16) (harg3 : arg3.IsWhole) (arg4 : Memref sig .tc .vmem S256x5120 .bf16) (harg4 : arg4.IsWhole) (arg5 : Memref sig .tc .vmem S5120x128 .i32) (harg5 : arg5.IsWhole) (arg6 : Memref sig .tc .vmem S128x128 .i32) (harg6 : arg6.IsWhole)
  (X1 : BufTy.Contents (Elt Bits) arg1.view.ty) (X2 : BufTy.Contents (Elt Bits) arg2.view.ty) (X5 : BufTy.Contents (Elt Bits) arg5.view.ty)
  (h1 : ∀ x : S5120.Idx, BitVec.toNat (w := 32) (arg1.view.read (Elt Bits) X1 x) < 5120)
  (h2 : ∀ x : S5120.Idx, BitVec.toNat (w := 32) (arg2.view.read (Elt Bits) X2 x) < 5120)
  (k : Fin k0_t2_loop.trips)

/-- The position a trip is at for row `j`. -/
theorem pos_lt (j : Fin 128) : 128 * k.val + j.val < 5120 := by have := k.isLt.trans_eq trips2; omega

theorem srcWord_eq (j : Fin 128) :
    srcWord (F := Bits) arg2 X2 k j = arg2.view.read (Elt Bits) X2 (ix1 ⟨128 * k.val + j.val, pos_lt k j⟩ : S5120.Idx) := by
  unfold srcWord
  refine (View.readAt_apply _ _ _).trans (congrArg _ ?_)
  funext d
  apply Fin.ext
  match d with
  | ⟨0, _⟩ => show posOf k j.val + 1 * 0 = 128 * k.val + j.val; rw [posOf_eq]; omega

/-- The word loaded for row `j` is the channel of its position. -/
theorem chanWord_eq (j : Fin 128) :
    (chanWord (F := Bits) arg1 arg2 X1 X2 h2 k j).toNat
      = (chanAt (arg1.view.read (Elt Bits) X1) (arg2.view.read (Elt Bits) X2) h1 h2 ⟨128 * k.val + j.val, pos_lt k j⟩).val := by
  unfold chanWord chanAt
  dsimp only
  congr 1
  refine (View.readAt_apply _ _ _).trans (congrArg _ ?_)
  funext d
  apply Fin.ext
  match d with
  | ⟨0, _⟩ =>
    show (srcWord (F := Bits) arg2 X2 k j).toNat + 1 * 0 = BitVec.toNat (w := 32) (arg2.view.read (Elt Bits) X2 _)
    rw [srcWord_eq]; rfl

/-- What the small scratch holds at the end of the trip. -/
def small (x5 : S5120x128.Idx → BitVec 32) (f : Fin 5120 → Fin 5120) (k : Fin k0_t2_loop.trips) : S128x128.Idx → BitVec 32 := fun y =>
  x5 (ix2 (f ⟨128 * k.val + (y 0).val, pos_lt k (y 0)⟩) (y 1))

theorem row_agrees (j : Fin 128) (x : (row (F := Bits) arg1 arg2 arg5 X1 X2 X5 h1 h2 k j).1.shape.Idx) :
    (row (F := Bits) arg1 arg2 arg5 X1 X2 X5 h1 h2 k j).2 x
      = small (arg5.view.read (Elt Bits) X5) (chanAt (arg1.view.read (Elt Bits) X1) (arg2.view.read (Elt Bits) X2) h1 h2) k ((row (F := Bits) arg1 arg2 arg5 X1 X2 X5 h1 h2 k j).1.emb x) := by
  obtain ⟨b, rfl⟩ : ∃ (b : Fin 128), x = (ix2 (0 : Fin 1) b : S1x128.Idx) := ⟨x 1, funext fun d => match d with | ⟨0, _⟩ => Subsingleton.elim (α := Fin 1) _ _ | ⟨1, _⟩ => rfl⟩
  show shapeCast S1x128 (arg5.view.readAt (Elt Bits) (Rect.unit (s := S5120x128) ![(chanWord arg1 arg2 X1 X2 h2 k j).toNat, 0] S1x128.size (row_inside _ (h1 _))).toLoadRect X5) shapeCasts_S1x128_S1x128 (ix2 (0 : Fin 1) b : S1x128.Idx) = _
  unfold small
  refine (shapeCast_apply (s := S1x128) (t := S1x128) _ _ _ (ix2 (0 : Fin 1) b) rfl).trans ?_
  refine (View.readAt_apply _ _ _).trans (congrArg _ ?_)
  funext d
  apply Fin.ext
  match d with
  | ⟨0, _⟩ =>
    show (chanWord (F := Bits) arg1 arg2 X1 X2 h2 k j).toNat + 1 * 0 = _
    rw [chanWord_eq (h1 := h1)]
    show (chanAt _ _ h1 h2 _).val = (chanAt _ _ h1 h2 _).val
    refine congrArg (fun z => (chanAt _ _ h1 h2 z).val) (Fin.ext ?_)
    show 128 * k.val + j.val = 128 * k.val + (j.val + 1 * 0)
    omega
  | ⟨1, _⟩ => rfl

theorem rowList_mem (n : ℕ) (hn : n ≤ 128) (p) (hp : p ∈ rowList (F := Bits) arg1 arg2 arg5 X1 X2 X5 h1 h2 k n hn) :
    ∃ j : Fin 128, p = row (F := Bits) arg1 arg2 arg5 X1 X2 X5 h1 h2 k j := by
  induction n with
  | zero => exact absurd hp List.not_mem_nil
  | succ n ih =>
    rcases List.mem_cons.mp hp with rfl | hp
    · exact ⟨_, rfl⟩
    · exact ih _ hp

theorem mem_rowList (n : ℕ) (hn : n ≤ 128) (j : Fin 128) (hj : j.val < n) :
    row (F := Bits) arg1 arg2 arg5 X1 X2 X5 h1 h2 k j ∈ rowList (F := Bits) arg1 arg2 arg5 X1 X2 X5 h1 h2 k n hn := by
  induction n with
  | zero => omega
  | succ n ih =>
    unfold rowList
    by_cases h : j.val < n
    · exact List.mem_cons_of_mem _ (ih _ h)
    · have e : j = ⟨n, hn⟩ := Fin.ext (by show j.val = n; omega)
      subst e
      exact List.mem_cons_self

theorem row_set (y : S128x128.Idx) (inb : ∀ a, (![(y 0).val, 0] : Fin 2 → ℕ) a + S1x128.size a ≤ S128x128.size a) :
    y ∈ (Rect.unit (s := S128x128) ![(y 0).val, 0] S1x128.size inb).set := by
  refine (Rect.mem_set_unit (inb := inb)).mpr fun d => ?_
  have hy := idx2_lt1 y
  match d with
  | ⟨0, _⟩ => show (y 0).val ≤ (y 0).val ∧ (y 0).val < (y 0).val + 1; omega
  | ⟨1, _⟩ => show 0 ≤ (y 1).val ∧ (y 1).val < 0 + 128; omega

/-- The small scratch at the end of the trip. -/
theorem small_eq :
    View.canon (trip.sl.H6_128 (F := Bits) arg1 arg2 arg5 X1 X2 X5 h1 h2 k)
      = small (arg5.view.read (Elt Bits) X5) (chanAt (arg1.view.read (Elt Bits) X1) (arg2.view.read (Elt Bits) X2) h1 h2) k := by
  rw [rows_eq]
  funext y
  refine View.canon_apply_of_pieces _ _ (fun p hp => ?_) y ?_
  · obtain ⟨j, rfl⟩ := rowList_mem (hp := hp)
    exact row_agrees arg1 arg2 arg5 X1 X2 X5 h1 h2 k j
  · suffices hm : y ∈ (row (F := Bits) arg1 arg2 arg5 X1 X2 X5 h1 h2 k (y 0)).1.set by
      exact ⟨_, mem_rowList arg1 arg2 arg5 X1 X2 X5 h1 h2 k 128 (Nat.le_refl _) (y 0) (idx2_lt0 y), hm⟩
    exact row_set y (by intro a; have := idx2_lt0 y; fin_cases a <;> [(show (y 0).val + 1 ≤ 128; omega); (show 0 + 128 ≤ 128; omega)])

/-- A half of a word of the packed activations: the output from the words. -/
def unpacked (x5 : S5120x128.Idx → BitVec 32) (f : Fin 5120 → Fin 5120) : Vec Bits S256x5120 .bf16 := fun y =>
  (x5 (ix2 (f (y 1)) ⟨(y 0).val / 2, by have := idx2_lt0 y; omega⟩)).extractLsb' (16 * ((y 0).val % 2)) 16

theorem trip_list : (trip (F := Bits) q1 q2 c i arg1 harg1 arg2 harg2 arg3 harg3 arg4 harg4 arg5 harg5 arg6 harg6 X1 X2 X5 h1 h2 k).1
    = [⟨Rect.unit (s := S256x5120) (k0_off387 k) S256x128.size (k0_off387_inb k), k0_pay2 (F := Bits) (trip.sl.v1285 arg1 arg2 arg5 arg6 X1 X2 X5 h1 h2 k)⟩] := by
  unfold trip; rfl

/-- The column block stored, at an index. -/
theorem block_agrees (x : S256x128.Idx) :
    k0_pay2 (F := Bits) (trip.sl.v1285 arg1 arg2 arg5 arg6 X1 X2 X5 h1 h2 k) x
      = unpacked (arg5.view.read (Elt Bits) X5) (chanAt (arg1.view.read (Elt Bits) X1) (arg2.view.read (Elt Bits) X2) h1 h2)
          ((Rect.unit (s := S256x5120) (k0_off387 k) S256x128.size (k0_off387_inb k)).emb x) := by
  obtain ⟨a, b, rfl⟩ : ∃ (a : Fin 256) (b : Fin 128), x = (ix2 a b : S256x128.Idx) := ⟨x 0, x 1, funext fun d => match d with | ⟨0, _⟩ => rfl | ⟨1, _⟩ => rfl⟩
  have o0 : k0_off387 k 0 = 0 := congrFun (off387_eq k) 0
  have o1 : k0_off387 k 1 = 128 * k.val := congrFun (off387_eq k) 1
  have hemb : (Rect.unit (s := S256x5120) (k0_off387 k) S256x128.size (k0_off387_inb k)).emb (ix2 a b : S256x128.Idx)
      = (ix2 a ⟨128 * k.val + b.val, pos_lt k b⟩ : S256x5120.Idx) := by
    funext d
    apply Fin.ext
    match d with
    | ⟨0, _⟩ => show k0_off387 k 0 + 1 * a.val = a.val; omega
    | ⟨1, _⟩ => show k0_off387 k 1 + 1 * b.val = 128 * k.val + b.val; omega
  refine Eq.trans ?_ (congrArg (unpacked _ _) hemb.symm)
  unfold k0_pay2
  show bitcast S256x128 16 (trip.sl.v1285 arg1 arg2 arg5 arg6 X1 X2 X5 h1 h2 k) bitcasts_S128x128_w32_S256x128_w16 (ix2 a b : S256x128.Idx) = _
  rw [bitcast_32_16]
  show BitVec.extractLsb' (16 * (a.val % 2)) 16 _ = BitVec.extractLsb' (16 * (a.val % 2)) 16 _
  congr 1
  unfold trip.sl.v1285
  have ha := a.isLt
  refine (transpose_apply _ _ _ _ (ix2 b ⟨a.val / 2, by omega⟩ : S128x128.Idx) (fun d => match d with | ⟨0, _⟩ => rfl | ⟨1, _⟩ => rfl)).trans ?_
  unfold trip.sl.v1284
  refine (congrFun (View.readCov_eq_canon' _ _ _) _).trans ?_
  rw [small_eq]
  unfold small
  congr 1
  funext d
  apply Fin.ext
  match d with
  | ⟨0, _⟩ =>
    show (chanAt _ _ h1 h2 _).val = (chanAt _ _ h1 h2 _).val
    congr 3
    show 128 * k.val + (0 + 1 * b.val) = 128 * k.val + b.val
    omega
  | ⟨1, _⟩ => show 0 + 1 * (a.val / 2) = a.val / 2; omega

end Trip2

theorem extract_low (u v : BitVec 16) : (u ++ v).extractLsb' (16 * 0) 16 = v := by
  apply BitVec.eq_of_getLsbD_eq
  intro i hi
  rw [BitVec.getLsbD_extractLsb', BitVec.getLsbD_append]
  simp [hi]

theorem extract_high (u v : BitVec 16) : (u ++ v).extractLsb' (16 * 1) 16 = u := by
  apply BitVec.eq_of_getLsbD_eq
  intro i hi
  rw [BitVec.getLsbD_extractLsb', BitVec.getLsbD_append]
  simp [hi]

/-- The words of the first loop unpacked again: the channel's own column. -/
theorem unpacked_packed (x : Vec Bits S256x5120 .bf16) (f : Fin 5120 → Fin 5120) :
    unpacked (packed x) f = fun y => x (ix2 (y 0) (f (y 1))) := by
  funext y
  have h0 := idx2_lt0 y
  unfold unpacked packed
  show BitVec.extractLsb' (16 * ((y 0).val % 2)) 16 (_ ++ _) = _
  rcases Nat.mod_two_eq_zero_or_one (y 0).val with h | h
  · rw [h]
    refine Eq.trans (extract_low _ _) (show x (ix2 ⟨2 * ((y 0).val / 2), by omega⟩ (f (y 1)) : S256x5120.Idx) = _ from ?_)
    congr 2
    exact Fin.ext (by show 2 * ((y 0).val / 2) = (y 0).val; omega)
  · rw [h]
    refine Eq.trans (extract_high _ _) (show x (ix2 ⟨2 * ((y 0).val / 2) + 1, by omega⟩ (f (y 1)) : S256x5120.Idx) = _ from ?_)
    congr 2
    exact Fin.ext (by show 2 * ((y 0).val / 2) + 1 = (y 0).val; omega)

end Cert.Proof.GatherVals

end
-- ==== Proof.GatherBody.lean ====
/-
  The gather's body (hand-written): the second loop by its invariant, the column blocks its trips store, and the body's triple:
  from the two tables and a block of activations it leaves, in the output block, each row's channels in the tables' order.
-/
module

public import proofs.«01_k».proof.Proof.GatherVals

@[expose] public section

set_option maxRecDepth 65536

noncomputable section

namespace Cert.Proof.GatherBody

open Cert.Gather Cert.Gather.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Proof.GatherTrip Cert.Proof.GatherRows Cert.Proof.GatherVals

section Loop2

variable {F : FTy → Type} [BitOps F]

local notation "𝕄" => MT nD τ sig Unit (Elt F) ℕ (UR sig nD τ) ℕ

variable (q1 q2 : PosShare TreeShare) (c : Dev nD) (i : grid0.Coords) (arg1 : Memref sig .tc .smem S5120 .i32) (harg1 : arg1.IsWhole) (arg2 : Memref sig .tc .smem S5120 .i32) (harg2 : arg2.IsWhole) (arg3 : Memref sig .tc .vmem S256x5120 .bf16) (harg3 : arg3.IsWhole) (arg4 : Memref sig .tc .vmem S256x5120 .bf16) (harg4 : arg4.IsWhole) (arg5 : Memref sig .tc .vmem S5120x128 .i32) (harg5 : arg5.IsWhole) (arg6 : Memref sig .tc .vmem S128x128 .i32) (harg6 : arg6.IsWhole)
  (X1 : BufTy.Contents (Elt F) arg1.view.ty) (X2 : BufTy.Contents (Elt F) arg2.view.ty) (X5 : BufTy.Contents (Elt F) arg5.view.ty)
  (h1 : ∀ x : S5120.Idx, BitVec.toNat (w := 32) (arg1.view.read (Elt F) X1 x) < 5120)
  (h2 : ∀ x : S5120.Idx, BitVec.toNat (w := 32) (arg2.view.read (Elt F) X2 x) < 5120)

/-- Trip `k`'s column block in front of those before it. -/
@[irreducible] def pb2Step (k : ℕ) (prev : List (View.Piece (Elt F) S256x5120 .bf16)) : List (View.Piece (Elt F) S256x5120 .bf16) :=
  if h : k < k0_t2_loop.trips then
    (trip (F := F) q1 q2 c i arg1 harg1 arg2 harg2 arg3 harg3 arg4 harg4 arg5 harg5 arg6 harg6 X1 X2 X5 h1 h2 ⟨k, h⟩).1 ++ prev
  else prev

/-- The column blocks of the trips before `k`, the last first. -/
def pb2 : ℕ → List (View.Piece (Elt F) S256x5120 .bf16)
  | 0 => []
  | k + 1 => pb2Step q1 q2 c i arg1 harg1 arg2 harg2 arg3 harg3 arg4 harg4 arg5 harg5 arg6 harg6 X1 X2 X5 h1 h2 k (pb2 k)

theorem pb2_succ (k : Fin k0_t2_loop.trips) :
    pb2 (F := F) q1 q2 c i arg1 harg1 arg2 harg2 arg3 harg3 arg4 harg4 arg5 harg5 arg6 harg6 X1 X2 X5 h1 h2 (k.val + 1)
      = (trip (F := F) q1 q2 c i arg1 harg1 arg2 harg2 arg3 harg3 arg4 harg4 arg5 harg5 arg6 harg6 X1 X2 X5 h1 h2 k).1 ++ pb2 (F := F) q1 q2 c i arg1 harg1 arg2 harg2 arg3 harg3 arg4 harg4 arg5 harg5 arg6 harg6 X1 X2 X5 h1 h2 k.val := by
  rw [pb2.eq_2]; unfold pb2Step; exact dif_pos k.isLt

variable (G4 : BufTy.Contents (Elt F) arg4.view.ty)

/-- Before trip `k`: the tables and the packed activations as they were, the output block at the column blocks stored so far,
    the small scratch at anything. -/
abbrev inv2 (k : ℕ) (_u : PUnit) : sProp 𝕄 :=
  iprop((arg1.view.loc (c : Thread nD τ) ↦[arg1.view.set]{q1} X1) ∗ (arg2.view.loc (c : Thread nD τ) ↦[arg2.view.set]{q2} X2)
    ∗ (arg5.view.loc (c : Thread nD τ) ↦[arg5.view.set]{fullShare} X5)
    ∗ (∃ f, (arg4.view.loc (c : Thread nD τ) ↦[arg4.view.set]{fullShare} f) ∗ ⌜f = arg4.view.writes (Elt F) G4 (pb2 (F := F) q1 q2 c i arg1 harg1 arg2 harg2 arg3 harg3 arg4 harg4 arg5 harg5 arg6 harg6 X1 X2 X5 h1 h2 k)⌝)
    ∗ (∃ f6, (arg6.view.loc (c : Thread nD τ) ↦[arg6.view.set]{fullShare} f6)))

set_option warn.classDefReducibility false in
/-- The second loop by its invariant. -/
@[sl_loop] def loopInv2 (E : Set ℕ) :
    LoopInvTy_k0_t2 (F := F) Unit ℕ (UR sig nD τ) ℕ Variants.none c none E i arg1 harg1 arg2 harg2 arg3 harg3 arg4 harg4 arg5 harg5 arg6 harg6 where
  inv := inv2 (F := F) q1 q2 c i arg1 harg1 arg2 harg2 arg3 harg3 arg4 harg4 arg5 harg5 arg6 harg6 X1 X2 X5 h1 h2 G4
  step k acc := by
    iintro ⟨H1, H2, H5, ⟨%f4, H4, %h4⟩, ⟨%f6, H6⟩⟩
    iapply (wp_wand_r Idealize.ShloMosaic.frame (wpE (defs₀ (F := F)) Variants.none (c : Thread nD τ) none) E)
    isplitl [H1 H2 H5 H4 H6]
    · iapply ((trip (F := F) q1 q2 c i arg1 harg1 arg2 harg2 arg3 harg3 arg4 harg4 arg5 harg5 arg6 harg6 X1 X2 X5 h1 h2 k).2 E f4 f6)
      isplitl [H1]; · iexact H1
      isplitl [H2]; · iexact H2
      isplitl [H5]; · iexact H5
      isplitl [H4]; · iexact H4
      iexact H6
    · iintro %_ ⟨%f6', H1, H2, H5, H4, H6⟩
      isplitl [H1]; · iexact H1
      isplitl [H2]; · iexact H2
      isplitl [H5]; · iexact H5
      isplitl [H4]
      · rw [pb2_succ]
        iexists _; isplitl [H4]; · iexact H4
        ipureintro; rw [h4, ← View.writes_append]
      iexists _; iexact H6

end Loop2

/-! ## What the second loop leaves -/

section Values2

variable (q1 q2 : PosShare TreeShare) (c : Dev nD) (i : grid0.Coords) (arg1 : Memref sig .tc .smem S5120 .i32) (harg1 : arg1.IsWhole) (arg2 : Memref sig .tc .smem S5120 .i32) (harg2 : arg2.IsWhole) (arg3 : Memref sig .tc .vmem S256x5120 .bf16) (harg3 : arg3.IsWhole) (arg4 : Memref sig .tc .vmem S256x5120 .bf16) (harg4 : arg4.IsWhole) (arg5 : Memref sig .tc .vmem S5120x128 .i32) (harg5 : arg5.IsWhole) (arg6 : Memref sig .tc .vmem S128x128 .i32) (harg6 : arg6.IsWhole)
  (X1 : BufTy.Contents (Elt Bits) arg1.view.ty) (X2 : BufTy.Contents (Elt Bits) arg2.view.ty) (X5 : BufTy.Contents (Elt Bits) arg5.view.ty)
  (h1 : ∀ x : S5120.Idx, BitVec.toNat (w := 32) (arg1.view.read (Elt Bits) X1 x) < 5120)
  (h2 : ∀ x : S5120.Idx, BitVec.toNat (w := 32) (arg2.view.read (Elt Bits) X2 x) < 5120)

/-- Every column block stored holds the unpacked words of its positions' channels. -/
theorem pieces2 (n : ℕ) (hn : n ≤ k0_t2_loop.trips) :
    ∀ p ∈ pb2 (F := Bits) q1 q2 c i arg1 harg1 arg2 harg2 arg3 harg3 arg4 harg4 arg5 harg5 arg6 harg6 X1 X2 X5 h1 h2 n,
      ∀ x : p.1.shape.Idx, p.2 x = unpacked (arg5.view.read (Elt Bits) X5) (chanAt (arg1.view.read (Elt Bits) X1) (arg2.view.read (Elt Bits) X2) h1 h2) (p.1.emb x) := by
  induction n with
  | zero => intro p hp; exact absurd hp List.not_mem_nil
  | succ n ih =>
    intro p hp
    have e := pb2_succ (F := Bits) q1 q2 c i arg1 harg1 arg2 harg2 arg3 harg3 arg4 harg4 arg5 harg5 arg6 harg6 X1 X2 X5 h1 h2 ⟨n, hn⟩
    rw [show n + 1 = (⟨n, hn⟩ : Fin k0_t2_loop.trips).val + 1 from rfl, e, trip_list] at hp
    rcases List.mem_cons.mp hp with rfl | hp
    · intro x
      exact block_agrees arg1 arg2 arg5 arg6 X1 X2 X5 h1 h2 ⟨n, hn⟩ x
    · exact ih (Nat.le_of_succ_le hn) p hp

/-- A place of columns below `128 n` lies in a block stored before trip `n`. -/
theorem cover2 (n : ℕ) (hn : n ≤ k0_t2_loop.trips) (y : S256x5120.Idx) (hy : (y 1).val < 128 * n) :
    ∃ p ∈ pb2 (F := Bits) q1 q2 c i arg1 harg1 arg2 harg2 arg3 harg3 arg4 harg4 arg5 harg5 arg6 harg6 X1 X2 X5 h1 h2 n, y ∈ p.1.set := by
  induction n with
  | zero => omega
  | succ n ih =>
    have e := pb2_succ (F := Bits) q1 q2 c i arg1 harg1 arg2 harg2 arg3 harg3 arg4 harg4 arg5 harg5 arg6 harg6 X1 X2 X5 h1 h2 ⟨n, hn⟩
    rw [show n + 1 = (⟨n, hn⟩ : Fin k0_t2_loop.trips).val + 1 from rfl, e, trip_list]
    by_cases h : (y 1).val < 128 * n
    · obtain ⟨p, hp, hm⟩ := ih (Nat.le_of_succ_le hn) h
      exact ⟨p, List.mem_append_right _ hp, hm⟩
    · suffices hm : y ∈ (Rect.unit (s := S256x5120) (k0_off387 ⟨n, hn⟩) S256x128.size (k0_off387_inb ⟨n, hn⟩)).set by
        exact ⟨_, List.mem_append_left _ (List.mem_singleton_self _), hm⟩
      refine Rect.mem_set_unit.mpr fun d => ?_
      have o0 : k0_off387 ⟨n, hn⟩ 0 = 0 := congrFun (off387_eq ⟨n, hn⟩) 0
      have o1 : k0_off387 ⟨n, hn⟩ 1 = 128 * n := congrFun (off387_eq ⟨n, hn⟩) 1
      have h0 := idx2_lt0 y
      match d with
      | ⟨0, _⟩ => show k0_off387 ⟨n, hn⟩ 0 ≤ (y 0).val ∧ (y 0).val < k0_off387 ⟨n, hn⟩ 0 + 256; omega
      | ⟨1, _⟩ => show k0_off387 ⟨n, hn⟩ 1 ≤ (y 1).val ∧ (y 1).val < k0_off387 ⟨n, hn⟩ 1 + 128; omega

/-- After the second loop the output block reads the unpacked words of every position's channel. -/
theorem read_loop2 (G4 : BufTy.Contents (Elt Bits) arg4.view.ty) :
    arg4.view.read (Elt Bits) (arg4.view.writes (Elt Bits) G4 (pb2 (F := Bits) q1 q2 c i arg1 harg1 arg2 harg2 arg3 harg3 arg4 harg4 arg5 harg5 arg6 harg6 X1 X2 X5 h1 h2 k0_t2_loop.trips))
      = unpacked (arg5.view.read (Elt Bits) X5) (chanAt (arg1.view.read (Elt Bits) X1) (arg2.view.read (Elt Bits) X2) h1 h2) :=
  funext fun y => View.read_writes_apply_of_pieces _ _ _ _ (pieces2 q1 q2 c i arg1 harg1 arg2 harg2 arg3 harg3 arg4 harg4 arg5 harg5 arg6 harg6 X1 X2 X5 h1 h2 _ (Nat.le_refl _)) y
    (cover2 q1 q2 c i arg1 harg1 arg2 harg2 arg3 harg3 arg4 harg4 arg5 harg5 arg6 harg6 X1 X2 X5 h1 h2 _ (Nat.le_refl _) y (by rw [trips2]; have := idx2_lt1 y; omega))

end Values2

/-! ## The body -/

local notation "𝕄" => MT nD τ sig Unit (Elt Bits) ℕ (UR sig nD τ) ℕ

/-- The block of activations `x0` with its columns in the tables' order. -/
def moved (x0 : Vec Bits S256x5120 .bf16) (f : Fin 5120 → Fin 5120) : Vec Bits S256x5120 .bf16 := fun y => x0 (ix2 (y 0) (f (y 1)))

set_option maxHeartbeats 1600000 in
/-- The body on whole memrefs: the tables and the input block as they were, the output block the input's columns in the
    tables' order, the scratches at something. -/
theorem sound_kernel (E : Set ℕ) (q1 q2 : PosShare TreeShare) (c : Dev nD) (i : grid0.Coords) (arg1 : Memref sig .tc .smem S5120 .i32) (harg1 : arg1.IsWhole) (arg2 : Memref sig .tc .smem S5120 .i32) (harg2 : arg2.IsWhole) (arg3 : Memref sig .tc .vmem S256x5120 .bf16) (harg3 : arg3.IsWhole) (arg4 : Memref sig .tc .vmem S256x5120 .bf16) (harg4 : arg4.IsWhole) (arg5 : Memref sig .tc .vmem S5120x128 .i32) (harg5 : arg5.IsWhole) (arg6 : Memref sig .tc .vmem S128x128 .i32) (harg6 : arg6.IsWhole)
    (x1 x2 : Vec Bits S5120 .i32) (x0 : Vec Bits S256x5120 .bf16)
    (h1 : ∀ x : S5120.Idx, BitVec.toNat (w := 32) (x1 x) < 5120) (h2 : ∀ x : S5120.Idx, BitVec.toNat (w := 32) (x2 x) < 5120) (K : PUnit → sProp 𝕄) :
    iprop(owns (c : Thread nD τ) arg1 q1 x1 ∗ owns (c : Thread nD τ) arg2 q2 x2 ∗ owns (c : Thread nD τ) arg3 fullShare x0
        ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 q1 x1 ∗ owns (c : Thread nD τ) arg2 q2 x2 ∗ owns (c : Thread nD τ) arg3 fullShare x0
            ∗ owns (c : Thread nD τ) arg4 fullShare (moved x0 (chanAt x1 x2 h1 h2))
            ∗ (∃ d, owns (c : Thread nD τ) arg5 fullShare d) ∗ (∃ d, owns (c : Thread nD τ) arg6 fullShare d)) -∗ K ⟨⟩))
      ⊢ wp frame (wpE (defs₀ (F := Bits)) Variants.none c none) E (cc0_permute_x (F := Bits) i arg1 harg1 arg2 harg2 arg3 harg3 arg4 harg4 arg5 harg5 arg6 harg6) K := by
  simp only [cc0_permute_x_eq_skeleton]; unfold cc0_permute_x_skel
  unfold owns
  iintro ⟨⟨%f1, %hf1, H1⟩, ⟨%f2, %hf2, H2⟩, ⟨%f0, %hf0, H0⟩, ⟨%d4, %f4, -, H4⟩, ⟨%d5, %f5, -, H5⟩, ⟨%d6, %f6, -, H6⟩, Hk⟩
  subst hf1
  subst hf2
  sl_exec
  sl_step
  iapply Hk
  isplitl [H1]
  · iexists _; isplitr
    swap; · iexact H1
    ipureintro; rfl
  isplitl [H2]
  · iexists _; isplitr
    swap; · iexact H2
    ipureintro; rfl
  isplitl [H0]
  · iexists _; isplitr
    swap; · iexact H0
    ipureintro; exact hf0
  isplitl [H4]
  · iexists _; isplitr
    swap; · iexact H4
    ipureintro
    rw [read_loop2, read_loop1, hf0, unpacked_packed]
    rfl
  isplitl [H5]
  · iexists _; iexists _; isplitr
    swap; · iexact H5
    ipureintro; rfl
  iexists _; iexists _; isplitr
  swap; · iexact H6
  ipureintro; rfl

end Cert.Proof.GatherBody

end
-- ==== Proof.GatherRun.lean ====
/-
  The run of the gather (hand-written): the contents of memory when the pipeline is entered, its two tables, the body at every
  point of the grid, the launch, and what it leaves of every array.
-/
module

public import proofs.«01_k».proof.Proof.GatherBody
public import Idealize.ShloMosaic.Lib.Pipeline.FrameBody
public import Idealize.ShloMosaic.Lib.Pipeline.FrameSuffix

@[expose] public section

set_option maxRecDepth 65536

noncomputable section

namespace Cert.Proof.GatherRun

open Cert.Gather Cert.Gather.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.GatherVals Cert.Proof.GatherBody

local notation "𝕄" => MT nD τ sig Unit (Elt Bits) ℕ (UR sig nD τ) ℕ

variable (m : (ℓ : Loc nD τ sig) → Buf (Elt Bits) ℓ) (ρ : Dev nD → PrngReg)

/-! ## Memory when the pipeline is entered -/

/-- Core `c`'s buffers when the pipeline is entered. -/
abbrev V0 (c : Dev nD) : Valuation τ sig (Elt Bits) := StableHlo.after hostOps0 (fun b => m (c, b))
/-- The same read at a reference. -/
abbrev V (c : Dev nD) (b : Ref sig .tc) : Buf (Elt Bits) ((c : Thread nD τ).loc b) := V0 m c (Proc.devRef .tc b)

theorem hostOps0_fresh : (hostOps0 : List (HloOp τ sig (Elt Bits))).Forall fun op => op.fresh = ∅ := by
  simp only [List.Forall]; repeat' constructor

/-- The two host operations, then the pipeline. -/
theorem hmain : Pipeline.HMainP (Ix := Unit) (Name := ℕ) (U := UR sig nD τ) (Lvl := ℕ) (pcfgs (F := Bits)) 0 defs₀ Variants.none m (main (F := Bits)) (V m) :=
  Pipeline.hmainP_prefix pcfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.reshape_writes, Finset.mem_singleton]
    repeat' apply And.intro
    all_goals exact StableHlo.devRef_ne_of_ne (by decide)))

/-! ## The tables -/

/-- The tables when the pipeline is entered. -/
def tbl : pre0.Contents (Elt Bits) := fun j => V m (0 : Dev nD) (pre0.ref j)

theorem V_pre (c : Dev nD) (j : Fin 2) : V m c (pre0.ref j) = tbl m j := by
  obtain rfl : c = 0 := Subsingleton.elim _ _; rfl

/-- The contents as the pipeline admits them: no index map reads a table. -/
abbrev adm : (pcfg0 (F := Bits)).Adm := ⟨tbl m, trivial⟩
abbrev cfgM : Pipeline.Cfg sig Λ₀ := cfg0 (adm m)

/-- The permutation as the body reads it, -/
abbrev permTab : Vec Bits S5120 .i32 := tbl m 0
/-- and the table of source positions. -/
abbrev srcTab : Vec Bits S5120 .i32 := tbl m 1

theorem tables (c : Dev nD) : (Pipeline.ΦT pre0 (tbl m) c : sProp 𝕄)
    = iprop(owns (c : Thread nD τ) (Memref.whole main_arg1) fullShare.right (permTab m) ∗ owns (c : Thread nD τ) (Memref.whole main_c) fullShare.right (srcTab m)) := by
  unfold Pipeline.ΦT Pipeline.prefHeld
  rw [show (Finset.univ : Finset (Fin 2)) = insert (0 : Fin 2) {(1 : Fin 2)} from by decide, bigSep_insert (by decide), bigSep_singleton]
  simp only [owns_whole]
  rfl

/-- Both tables hold positions of a table of 5120 words. -/
structure InRange : Prop where
  perm : ∀ x : S5120.Idx, BitVec.toNat (w := 32) (permTab m x) < 5120
  src : ∀ x : S5120.Idx, BitVec.toNat (w := 32) (srcTab m x) < 5120

variable (hr : InRange m)

/-- The channel at an output position. -/
abbrev chan : Fin 5120 → Fin 5120 := chanAt (permTab m) (srcTab m) hr.perm hr.src

/-! ## The pipeline's proof data -/

/-- Window `w`'s block at point `t`. -/
def iblk (c : Dev nD) (w : Fin (cfgM m).W) (t : Fin (cfgM m).N) : (((cfgM m).win w).xblock ((cfgM m).grid.coords t)).Idx → Elt Bits ((cfgM m).win w).elt :=
  (((cfgM m).win w).blk t).view.read (Elt Bits) (V m c (Pipeline.arrRef spec0 w))

theorem before0_0_of {c : Dev nD} (dat : Dat τ (Elt Bits) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The proof data of the one pipeline on core `c`. -/
def dats (_ : Fin 1) (c : Dev nD) : Dat τ (Elt Bits) Unit ℕ (UR sig nD τ) ℕ (cfgM m) c where
  A w := V m c (Pipeline.arrRef spec0 w)
  after w t := match w with
    | ⟨0, _⟩ => iblk m c 0 t
    | ⟨1, _⟩ => moved (iblk m c 0 t) (chan m hr)
  Φ _ := iprop(Pipeline.ΦA spec0 c ∗ Pipeline.ΦT pre0 (tbl m) c)
  q _ := fullShare
  owed _ := 0

theorem A_eq (c : Dev nD) (w : Fin (cfgM m).W) : (dats m hr 0 c).A w = V m c (Pipeline.arrRef spec0 w) := by
  dsimp only [dats]
theorem after0_0 (c : Dev nD) (t : Fin (cfgM m).N) : (dats m hr 0 c).after 0 t = iblk m c 0 t := rfl
theorem after0_1 (c : Dev nD) (t : Fin (cfgM m).N) : (dats m hr 0 c).after 1 t = moved (iblk m c 0 t) (chan m hr) := rfl
theorem before0_0 (c : Dev nD) (t : Fin (cfgM m).N) (d) : (dats m hr 0 c).before 0 t d = iblk m c 0 t :=
  before0_0_of m (dats m hr 0 c) (A_eq m hr c 0) (after0_0 m hr c) t d

/-! ## The body at any point -/

abbrev st0_0 (t : Fin (cfgM m).N) := ((cfgM m).win 0).stage ((cfgM m).slots t 0)
abbrev st0_1 (t : Fin (cfgM m).N) := ((cfgM m).win 1).stage ((cfgM m).slots t 1)

/-- The body as the pipeline calls it at point `t`. -/
abbrev bodyAt0 (t : Fin (cfgM m).N) : Prog (TpuEff nD τ sig (Elt Bits) Λ₀ .tc) PUnit :=
  cc0_permute_x (grid0.coords t) (Memref.whole main_arg1) (Memref.isWhole_whole _) (Memref.whole main_c) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole cc0_scratch0) (Memref.isWhole_whole _) (Memref.whole cc0_scratch1) (Memref.isWhole_whole _)

/-- What the body is called with at point `t`, -/
def bodyPre (c : Dev nD) (t : Fin (cfgM m).N) : sProp 𝕄 :=
  iprop((dats m hr 0 c).Φ t.castSucc ∗ (dats m hr 0 c).owesAt () t.castSucc
    ∗ (∃ d, owns (c : Thread nD τ) (st0_0 m t) fullShare ((dats m hr 0 c).before 0 t d))
    ∗ (∃ d, owns (c : Thread nD τ) (st0_1 m t) fullShare ((dats m hr 0 c).before 1 t d)))

/-- and what it returns. -/
def bodyPost (c : Dev nD) (t : Fin (cfgM m).N) : sProp 𝕄 :=
  iprop((dats m hr 0 c).Φ t.succ ∗ (dats m hr 0 c).owesAt () t.succ
    ∗ owns (c : Thread nD τ) (st0_0 m t) fullShare ((dats m hr 0 c).after 0 t)
    ∗ owns (c : Thread nD τ) (st0_1 m t) fullShare ((dats m hr 0 c).after 1 t))

/-- The two scratches as whole memrefs at some contents. -/
theorem scratches (c : Dev nD) :
    (Pipeline.scopedRest (Ix := Unit) (Name := ℕ) (U := UR sig nD τ) (Lvl := ℕ) (Val := Elt Bits) spec0 c : sProp 𝕄)
      = iprop((∃ d, owns (c : Thread nD τ) (Memref.whole cc0_scratch0) fullShare d)
        ∗ (∃ d, owns (c : Thread nD τ) (Memref.whole cc0_scratch1) fullShare d)) := by
  rw [scopedRest0_eq]; simp only [owns_whole]

/-- The body at any point. -/
theorem sound_body (c : Dev nD) (t : Fin (cfgM m).N) :
    bodyPre m hr c t ⊢ wp frame (wpE (defs₀ (F := Bits)) Variants.none c none) Set.univ (bodyAt0 m t) (fun _ => bodyPost m hr c t) := by
  unfold bodyPre bodyPost bodyAt0
  simp only [before0_0]
  rw [show (dats m hr 0 c).Φ t.succ = (dats m hr 0 c).Φ t.castSucc from rfl,
    show (dats m hr 0 c).owesAt () t.succ = (dats m hr 0 c).owesAt () t.castSucc from rfl,
    after0_0, after0_1,
    show (dats m hr 0 c).Φ t.castSucc = iprop(Pipeline.ΦA spec0 c ∗ Pipeline.ΦT pre0 (tbl m) c) from rfl]
  unfold Pipeline.ΦA
  rw [scratches, tables]
  iintro ⟨⟨⟨⟨H5, H6⟩, Hr⟩, Ht1, Ht2⟩, Ho, ⟨%d0, H0⟩, ⟨%d1, H1⟩⟩
  iapply (sound_kernel Set.univ fullShare.right fullShare.right c _ _ _ _ _ _ _ _ _ _ _ _ _ (permTab m) (srcTab m) (iblk m c 0 t) hr.perm hr.src _)
  isplitl [Ht1]; · iexact Ht1
  isplitl [Ht2]; · iexact Ht2
  isplitl [H0]; · iexact H0
  isplitl [H1]; · iexists _; iexact H1
  isplitl [H5]; · iexact H5
  isplitl [H6]; · iexact H6
  iintro ⟨Ht1, Ht2, H0, H1, H5, H6⟩
  isplitl [H5 H6 Hr Ht1 Ht2]
  · isplitl [H5 H6 Hr]
    · isplitl [H5 H6]
      · isplitl [H5]; · iexact H5
        iexact H6
      iexact Hr
    isplitl [Ht1]; · iexact Ht1
    iexact Ht2
  isplitl [Ho]; · iexact Ho
  isplitl [H0]; · iexact H0
  iexact H1

theorem defs₀_row (t : Fin (cfgM m).N) :
    defs₀ (F := Bits) .tc (cfgM m).body ((cfgM m).bodyArgs t ((cfgM m).slots t)) = bodyAt0 m t := by
  unfold defs₀; rw [Defs.onTc_tc]

/-- The library's body obligation, at every point. -/
theorem body_obligation (c : Dev nD) : BodyObligation (dats m hr 0 c) (defs₀ (F := Bits)) Variants.none () Set.univ := fun t => by
  rw [bigSep_W0, bigSep_W0, defs₀_row]
  exact triple_restated (sound_body m hr c t) rfl .rfl fun _ => .rfl

/-! ## The run -/

set_option backward.isDefEq.respectTransparency.types false in
/-- The launch: every array of the pipeline ends at what the proof data say, every other buffer as the pipeline found it, and
    every semaphore counter at zero. -/
theorem run_main : θ_run defs (onTc (τ := τ) (main (F := Bits))) (s₀ m ρ)
    (fun r => (Pipeline.FramePost (Pipeline.pin (pcfgs (F := Bits)) (fun _ => adm m)) (dats m hr) 0 (V m)) r ∧ r.2.sem = fun _ => 0) :=
  Pipeline.θ_run_frameP (pcfgs (F := Bits)) (fun _ => adm m) (dats m hr) (0 : Fin 1) launch0 defs₀ Variants.none m ρ main
    (hbody := fun c => (body_obligation m hr c).loose) (hshare := fun c => (dats m hr 0 c).share_full fun _ => rfl)
    (howed := fun _ _ => rfl) (V := V m) (hmain := hmain m) (hA := A_eq m hr) (hpf := V_pre m) (hΦ := fun _ _ => rfl)
    (Q' := _) (hQ' := fun _ h => h)

/-- The result array after the run. -/
abbrev result (c : Dev nD) := (dats m hr 0 c).arrAt 1 (cfgM m).N

/-- What the run leaves: the result array, the arguments as they were, every semaphore counter at zero. -/
theorem run_all : θ_run defs (onTc (τ := τ) (main (F := Bits))) (s₀ m ρ)
    (fun r => (∀ c : Dev nD, r.2.mem ((c.tc : Thread nD τ).loc main_v1) = result m hr c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1 1,
    ((h.1 c).2 main_arg0 (Pipeline.mem_restRefs_of main_arg0 (by decide) (by exact (by decide : ∀ w, Pipeline.arrRef spec0 w ≠ main_arg0)))).trans (V_main_arg0 m c),
    ((h.1 c).2 main_arg1 (Pipeline.mem_restRefs_of main_arg1 (by decide) (by exact (by decide : ∀ w, Pipeline.arrRef spec0 w ≠ main_arg1)))).trans (V_main_arg1 m c)⟩, h.2⟩) (run_main m ρ hr)

end Cert.Proof.GatherRun

end
-- ==== Proof.GatherTables.lean ====
/-
  The gather's two tables (hand-written): the source positions are the order of the weight rows, and under the precondition
  both tables hold channels.
-/
module

public import proofs.«01_k».proof.Defs
public import proofs.«01_k».proof.Proof.GatherRun
public import proofs.«01_k».proof.Proof.HostVals
public import proofs.«01_k».proof.Proof.Gen.Pre_perm_in_range
public import Idealize.ShloMosaic.Lib.StableHlo.Predicate

@[expose] public section

set_option maxRecDepth 65536

noncomputable section

namespace Cert.Proof.GatherTables

open Cert.Gather Cert.Gather.Gen
open Idealize.ShloMosaic Idealize.ShloMosaic.TcCoe Idealize.ShloMosaic.Tactic Idealize.ShloMosaic.ValueIdx
open Idealize.SL.Sem
open Cert.Proof.GatherVals Cert.Proof.GatherBody Cert.Proof.GatherRun Cert.Proof.HostVals

variable (m : (ℓ : Loc nD τ sig) → Buf (Elt Bits) ℓ)

/-! ## The tables -/

/-- The table of source positions is the order of the weight rows. -/
theorem lit_chan : ∀ j : Fin 5120, (lit0 j).toNat = chanOf j.val := by decide +kernel

/-- Every weight row has a channel. -/
theorem chanOf_lt (j : Fin 5120) : chanOf j.val < 5120 := by revert j; decide +kernel

/-- The table of source positions as the launch finds it. -/
theorem srcTab_eq (j : Fin 5120) : srcTab m (ix1 j : S5120.Idx) = lit0 j := by
  have h : V m 0 main_c = fun i => lit0 (S5120.rowMajor i) := by
    show StableHlo.after hostOps0 _ _ = _
    after_results
    rfl
  show V m 0 main_c (ix1 j : S5120.Idx) = _
  rw [h]
  refine congrArg lit0 (Fin.ext ?_)
  exact Shape.rowMajor_val_one _

/-- The permutation as the launch finds it. -/
theorem permTab_eq : permTab m = m (((0 : Dev nD) : Thread nD τ).loc main_arg1) := V_main_arg1 m 0

/-- The activations as the launch finds them: row after row. -/
theorem V_acts (c : Dev nD) : V m c main_v0 = shapeCast S6144x5120 (m ((c : Thread nD τ).loc main_arg0)) shapeCasts_S24x256x5120_S6144x5120 := by
  show StableHlo.after hostOps0 _ _ = _
  after_results
  rfl

/-- A word that is signed at least 0 and below 5120 is a channel. -/
theorem toNat_lt (w : BitVec 32) (h0 : IntOp.cmpi .sge w 0#32 = 1#1) (h1 : IntOp.cmpi .slt w 5120#32 = 1#1) : w.toNat < 5120 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h1
  have := w.isLt
  split_ifs at h0 h1 <;> omega

/-- The precondition read: every word of the permutation is a channel. -/
theorem perm_lt (x0 : FVec Bits S24x256x5120 .bf16) (x1 : IVec S5120 32)
    (h : Cert.Pre_perm_in_range.fn (F := Bits) x0 x1 = fun _ => 1#1) (x : S5120.Idx) : (x1 x).toNat < 5120 := by
  have andi_one (a b : BitVec 1) : IntOp.andi a b = 1#1 ↔ a = 1#1 ∧ b = 1#1 := by revert a b; decide
  have e := congrFun h x
  simp only [Cert.Pre_perm_in_range.fn, constantI, broadcastInDim, cmpi, andi, andi_one] at e
  exact toNat_lt _ e.1 e.2

/-- Under the precondition both tables are in range. -/
theorem inRange (h : Cert.Pre_Gather m) : InRange m where
  perm x := by rw [permTab_eq]; exact perm_lt _ _ (h 0) x
  src x := by
    obtain ⟨j, rfl⟩ : ∃ j : Fin 5120, x = ix1 j := ⟨x 0, eq_ix1 x⟩
    have e : BitVec.toNat (w := 32) (srcTab m (ix1 j)) = chanOf j.val := (congrArg BitVec.toNat (srcTab_eq m j)).trans (lit_chan j)
    rw [e]
    exact chanOf_lt j

end Cert.Proof.GatherTables

end
-- ==== Proof.GatherResult.lean ====
/-
  What the gather leaves (hand-written): from a permutation in range, each row of the result holds, at column `r`, the
  channel of the activations that the permutation names for the column's place.
-/
module

public import proofs.«01_k».proof.Proof.GatherTables
public import Idealize.ShloMosaic.Lib.Pipeline.Value
public import Idealize.ShloMosaic.Lib.Pipeline.ValueKit
public import Idealize.ShloMosaic.Lib.Pipeline.Covers

@[expose] public section

set_option maxRecDepth 65536

noncomputable section

namespace Cert.Proof.GatherResult

open Cert.Gather Cert.Gather.Gen
open Idealize.ShloMosaic hiding ix1 ix2 ix3
open Idealize.ShloMosaic.TcCoe Idealize.ShloMosaic.Tactic Idealize.ShloMosaic.ValueIdx
open Idealize.SL.Sem
open Cert.Proof.GatherVals Cert.Proof.GatherBody Cert.Proof.GatherRun Cert.Proof.HostVals Cert.Proof.GatherTables

variable (m : (ℓ : Loc nD τ sig) → Buf (Elt Bits) ℓ)

/-! ## The result -/

/-- What the gather computes: at row `n` and column `r`, channel `perm (chanOf r)` of row `n` of the activations. -/
def gatheredRows (x0 : FVec Bits S24x256x5120 .bf16) (x1 : IVec S5120 32) (h : ∀ x, (x1 x).toNat < 5120) : FVec Bits S6144x5120 .bf16 :=
  fun y => x0 (ix3 ⟨(y 0).val / 256, by have := idx2_lt0 y; omega⟩ ⟨(y 0).val % 256, Nat.mod_lt _ (by decide)⟩
    ⟨(x1 (ix1 ⟨chanOf (y 1).val, chanOf_lt (y 1)⟩ : S5120.Idx)).toNat, h _⟩)

theorem coord_lt (t : Fin grid0.N) : (grid0.coords t 0).val < 24 := (grid0.coords t 0).isLt
theorem index0 : ∀ t : Fin grid0.N, cc0_transform_0 (grid0.coords t) = ![(grid0.coords t 0).val, 0] := by decide +kernel
theorem index1 : ∀ t : Fin grid0.N, cc0_transform_1 (grid0.coords t) = ![(grid0.coords t 0).val, 0] := by decide +kernel

/-- Tables of zeros. -/
def zeros : pre0.Contents (Elt Bits) := fun j => match j with
  | ⟨0, _⟩ => fun _ => (0#32 : BitVec 32)
  | ⟨1, _⟩ => fun _ => (0#32 : BitVec 32)

/-- The written blocks cover the result, whatever the tables hold. -/
theorem covers_zeros : ((cfg0 (F := Bits) ⟨zeros, trivial⟩).win 1).Covers := by decide +kernel
theorem covers : ((cfgM m).win 1).Covers := covers_zeros

variable (hr : InRange m) (c : Dev nD)

/-- The channel at an output position, from the permutation itself. -/
theorem chan_val (p : Fin 5120) : (chan m hr p).val
    = BitVec.toNat (w := 32) (m (((0 : Dev nD) : Thread nD τ).loc main_arg1) (ix1 ⟨chanOf p.val, chanOf_lt p⟩ : S5120.Idx)) := by
  have e : BitVec.toNat (w := 32) (srcTab m (ix1 p)) = chanOf p.val := (congrArg BitVec.toNat (srcTab_eq m p)).trans (lit_chan p)
  show BitVec.toNat (w := 32) (permTab m (ix1 ⟨_, _⟩ : S5120.Idx)) = _
  rw [permTab_eq]
  congr 3
  exact Fin.ext e

/-- The array the gather leaves. -/
theorem arr_out (h : ∀ x : S5120.Idx, BitVec.toNat (w := 32) (m (((0 : Dev nD) : Thread nD τ).loc main_arg1) x) < 5120) :
    result m hr c = gatheredRows (m ((c : Thread nD τ).loc main_arg0)) (m (((0 : Dev nD) : Thread nD τ).loc main_arg1)) h := by
  refine (dats m hr 0 c).arrAt_eq_of_covers 1 _ (covers m) fun t hf y => ?_
  blk_simp
  rw [after0_1]
  have ht := coord_lt t
  obtain ⟨r, C, rfl⟩ : ∃ (r : Fin 256) (C : Fin 5120), y = (ix2 r C : S256x5120.Idx) := ⟨y (0 : Fin 2), y (1 : Fin 2), ValueIdx.eq_ix2 (n0 := 256) (n1 := 5120) y⟩
  have hR := r.isLt
  have e : (((cfgM m).win 1).blk t).view.emb (ix2 r C : S256x5120.Idx)
      = (ix2 ⟨(grid0.coords t 0).val * 256 + r.val, by omega⟩ C : S6144x5120.Idx) := by
    funext a
    apply Fin.ext
    match a with
    | ⟨0, _⟩ =>
      blk_simp
      show cc0_transform_1 (grid0.coords t) 0 * 256 + r.val = (grid0.coords t 0).val * 256 + r.val
      rw [index1]; rfl
    | ⟨1, _⟩ =>
      blk_simp
      show cc0_transform_1 (grid0.coords t) 1 * 5120 + C.val = C.val
      rw [index1]; show 0 * 5120 + C.val = C.val; omega
  refine Eq.trans ?_ (congrArg (gatheredRows (m ((c : Thread nD τ).loc main_arg0)) (m (((0 : Dev nD) : Thread nD τ).loc main_arg1)) h) e.symm)
  show iblk m c 0 t (ix2 r (chan m hr C) : S256x5120.Idx) = _
  unfold iblk
  blk_simp
  have hC := (chan m hr C).isLt
  have e0 : (((cfgM m).win 0).blk t).view.emb (ix2 r (chan m hr C) : S256x5120.Idx)
      = (ix2 ⟨(grid0.coords t 0).val * 256 + r.val, by omega⟩ (chan m hr C) : S6144x5120.Idx) := by
    funext a
    apply Fin.ext
    match a with
    | ⟨0, _⟩ =>
      blk_simp
      show cc0_transform_0 (grid0.coords t) 0 * 256 + r.val = (grid0.coords t 0).val * 256 + r.val
      rw [index0]; rfl
    | ⟨1, _⟩ =>
      blk_simp
      show cc0_transform_0 (grid0.coords t) 1 * 5120 + (chan m hr C).val = (chan m hr C).val
      rw [index0]; show 0 * 5120 + (chan m hr C).val = (chan m hr C).val; omega
  refine (congrArg (V m c main_v0) e0).trans ?_
  rw [GatherTables.V_acts]
  refine shapeCast_apply _ _ _ _ ?_
  refine (Shape.rowMajor_val_three (d := ![24, 256, 5120]) _).trans (Eq.trans ?_ (Shape.rowMajor_val_two (d := ![6144, 5120]) _).symm)
  have hc := chan_val m hr C
  show _ = ((grid0.coords t 0).val * 256 + r.val) * 5120 + (chan m hr C).val
  rw [hc]
  show (((grid0.coords t 0).val * 256 + r.val) / 256 * 256 + ((grid0.coords t 0).val * 256 + r.val) % 256) * 5120 + _ = _
  rw [Nat.div_add_mod']

end Cert.Proof.GatherResult

end
-- ==== Proof.GatheredVals.lean ====
/-
  What the gather's reference computes (hand-written): the taken activations read at an index, and their order by rows.
-/
module

public import proofs.«01_k».proof.Proof.GatherResult
public import proofs.«01_k».proof.Proof.Gen.Gathered.Run
public import proofs.«01_k».proof.Proof.Gen.Gathered.Read
public import Idealize.ShloMosaic.Lib.ReduceAll

@[expose] public section

set_option maxRecDepth 65536

noncomputable section

namespace Cert.Proof.GatheredVals

open Cert.Gathered Cert.Gathered.Gen Cert.Gathered.Read
open Idealize.ShloMosaic hiding ix1 ix2 ix3 eq_ix2
open Idealize.ShloMosaic.TcCoe Idealize.ShloMosaic.ValueIdx
open Idealize.SL.Sem
open Cert.Proof.HostVals Cert.Proof.GatherTables Cert.Proof.GatherResult

/-- The gather along the last axis: element `(a, b, k)` is the operand's at the start index of `k`, read signed and clamped. -/
theorem take_apply {α : Type} (x : S24x256x5120.Idx → α) (idx : IVec S5120x1 32) (a : Fin 24) (b : Fin 256) (k : Fin 5120) :
    Host.gather gather_S24x256x5120_S5120x1_S24x256x5120_01_2_n_n_2_1_242561 x idx (ix3 a b k)
      = x (ix3 a b ⟨min (idx (ix2 k (0 : Fin 1))).toInt.toNat 5119, by omega⟩) := by
  unfold Host.gather
  congr 1
  funext d
  refine Fin.ext ?_
  show GatherDims.start gather_S24x256x5120_S5120x1_S24x256x5120_01_2_n_n_2_1_242561 (ix3 a b k) idx d
    + GatherDims.batchCoord gather_S24x256x5120_S5120x1_S24x256x5120_01_2_n_n_2_1_242561 (ix3 a b k) d
    + GatherDims.offCoord gather_S24x256x5120_S5120x1_S24x256x5120_01_2_n_n_2_1_242561 (ix3 a b k) d = _
  rw [GatherDims.batchCoord_eq_zero _ _ _ List.not_mem_nil, Nat.add_zero]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · unfold GatherDims.start
    rw [dif_neg (by show ¬ (0 : Fin 3) ∈ [(2 : Fin 3)]; decide), Nat.zero_add]
    unfold GatherDims.offCoord
    rw [dif_pos (by decide)]
    rfl
  · unfold GatherDims.start
    rw [dif_neg (by show ¬ (1 : Fin 3) ∈ [(2 : Fin 3)]; decide), Nat.zero_add]
    unfold GatherDims.offCoord
    rw [dif_pos (by decide)]
    rfl
  · rw [GatherDims.offCoord_eq_zero _ _ _ (fun h => ((GatherDims.mem_sKept _ _).mp h).1 (List.mem_singleton.mpr rfl)), Nat.add_zero]
    unfold GatherDims.start
    rw [dif_pos (show (2 : Fin 3) ∈ gather_S24x256x5120_S5120x1_S24x256x5120_01_2_n_n_2_1_242561.startIndexMap from List.mem_singleton.mpr rfl)]
    have hsi : gather_S24x256x5120_S5120x1_S24x256x5120_01_2_n_n_2_1_242561.siIdx (ix3 a b k) ⟨List.idxOf (2 : Fin 3) gather_S24x256x5120_S5120x1_S24x256x5120_01_2_n_n_2_1_242561.startIndexMap,
        List.idxOf_lt_length_iff.2 (List.mem_singleton.mpr rfl)⟩ = ix2 k (0 : Fin 1) := by
      funext e; refine Fin.ext ?_
      match e with
      | ⟨0, _⟩ => rfl
      | ⟨1, _⟩ => rfl
    rw [hsi]
    rfl

variable (x0 : FVec Bits S24x256x5120 .bf16) (x1 : IVec S5120 32) (h : ∀ x, (x1 x).toNat < 5120)

include h in
/-- A permutation in range is not wrapped. -/
theorem index_apply (k : Fin 5120) : val_main_call0_v5 (F := Bits) x1 (ix2 k (0 : Fin 1)) = x1 (ix1 k) := by
  rw [val_main_call0_v5_apply, val_main_call0_v4_apply, val_main_call0_v1_apply]
  have e : idx_main_call0_v5 (ix2 k (0 : Fin 1)) = ix1 k := funext fun a => match a with | ⟨0, _⟩ => rfl
  rw [e]
  have := h (ix1 k)
  have hz : IntOp.cmpi .slt (x1 (ix1 k)) (val_main_call0_v0 (F := Bits) (ix1 k)) = 0#1 := by
    show IntOp.cmpi .slt (x1 (ix1 k)) 0#32 = 0#1
    unfold IntOp.cmpi
    have : (x1 (ix1 k)).slt 0#32 = false := by
      simp only [BitVec.slt, BitVec.toInt, decide_eq_false_iff_not, BitVec.toNat_ofNat]
      split_ifs <;> omega
    rw [this]; rfl
  rw [hz]
  exact select_zero _ _

include h in
/-- A permutation in range passes the bounds test. -/
theorem bounds_apply (k : Fin 5120) : val_main_call0_v12 (F := Bits) x1 (ix1 k) = 1#1 := by
  unfold val_main_call0_v12
  refine Host.reduce_andi_one _ _ _ _ _ rfl fun i => ?_
  obtain ⟨k, rfl⟩ : ∃ k : Fin 5120, i = ix2 k (0 : Fin 1) :=
    ⟨i 0, (eq_ix2 i).trans (congrArg (ix2 _) (Subsingleton.elim (α := Fin 1) _ _))⟩
  rw [val_main_call0_v11_apply, val_main_call0_v7_apply, val_main_call0_v10_apply, index_apply x1 h k]
  have hk := h (ix1 k)
  have h0 : IntOp.cmpi .sge (x1 (ix1 k)) 0#32 = 1#1 := by
    unfold IntOp.cmpi
    have : (0#32).sle (x1 (ix1 k)) = true := by
      simp only [BitVec.sle, BitVec.toInt, decide_eq_true_eq, BitVec.toNat_ofNat]
      split_ifs <;> omega
    rw [this]; rfl
  have h1 : IntOp.cmpi .sle (x1 (ix1 k)) 5119#32 = 1#1 := by
    unfold IntOp.cmpi
    have : (x1 (ix1 k)).sle 5119#32 = true := by
      simp only [BitVec.sle, BitVec.toInt, decide_eq_true_eq, BitVec.toNat_ofNat]
      split_ifs <;> omega
    rw [this]; rfl
  have e0 : val_main_call0_v6 (F := Bits) (ix2 k (0 : Fin 1)) = 0#32 := rfl
  have e1 : val_main_call0_v9 (F := Bits) (ix2 k (0 : Fin 1)) = 5119#32 := rfl
  rw [e0, e1, h0, h1]
  rfl

/-- The taken activations at an index. -/
theorem taken_apply (a : Fin 24) (b : Fin 256) (k : Fin 5120) :
    val_main_v0 (F := Bits) x0 x1 (ix3 a b k) = x0 (ix3 a b ⟨(x1 (ix1 k)).toNat, h _⟩) := by
  rw [val_main_v0_apply, val_main_call0_v14_apply]
  have e : idx_main_call0_v14 (ix3 a b k) = ix1 k := funext fun a => match a with | ⟨0, _⟩ => rfl
  rw [e, bounds_apply x1 h k]
  refine (select_one _ _).trans ?_
  unfold val_main_call0_v13
  rw [take_apply]
  have hk := h (ix1 k)
  have hv : min (val_main_call0_v5 (F := Bits) x1 (ix2 k (0 : Fin 1))).toInt.toNat 5119 = (x1 (ix1 k)).toNat := by
    rw [index_apply x1 h k]
    have : (x1 (ix1 k)).toInt = ((x1 (ix1 k)).toNat : Int) := by
      simp only [BitVec.toInt]; split_ifs <;> omega
    omega
  congr 2
  exact Fin.ext hv

/-- The reference's result: the taken activations in the order of the weight rows. -/
theorem laid : val_main_v26 (F := Bits) x0 x1 = laidOut (val_main_v0 (F := Bits) x0 x1) := by
  rfl

/-- The reference computes the gathered rows. -/
theorem reference_eq : val_main_v26 (F := Bits) x0 x1 = gatheredRows x0 x1 h := by
  funext y
  obtain ⟨n, r, rfl⟩ : ∃ (n : Fin 6144) (r : Fin 5120), y = ix2 n r := ⟨y 0, y 1, eq_ix2 y⟩
  rw [laid, laidOut_apply _ n r ⟨chanOf r.val, chanOf_lt r⟩ rfl]
  exact taken_apply x0 x1 h _ _ _

end Cert.Proof.GatheredVals

end
-- ==== Proof.GatherClaims.lean ====
/-
  The claims about the gather (hand-written): it and its reference run to their ends, and under the precondition leave the
  same array.
-/
module

public import proofs.«01_k».proof.Proof.GatheredVals
public import Idealize.ShloMosaic.Lib.Quiescent

@[expose] public section

set_option maxRecDepth 65536

noncomputable section

namespace Cert.Proof.GatherClaims

open Idealize.ShloMosaic Idealize.ShloMosaic.TcCoe
open Idealize.SL.Sem
open Cert.Proof.GatherTables Cert.Proof.GatherRun Cert.Proof.GatherResult Cert.Proof.GatheredVals

/-- The gather terminates, leaves its arguments unchanged and every semaphore counter at zero. -/
theorem frame_g : Cert.quiescent_Gather (hGather := Cert.Gather.Gen.facts) (hPre_perm_in_range := Cert.Pre_perm_in_range.Gen.facts) :=
  fun m ρ hp => (θ_run (Cert.Gather.defs (F := Bits)) _ _).mono (fun _ h => ⟨fun c => (h.1 c).2, h.2⟩) (run_all m ρ (inRange m hp))

/-- The same of its reference, which declares no semaphore. -/
theorem frame_gr : Cert.quiescent_Gathered (hGathered := Cert.Gathered.Gen.facts) (hPre_perm_in_range := Cert.Pre_perm_in_range.Gen.facts) :=
  fun m ρ _ => (θ_run (Cert.Gathered.defs (F := Bits)) _ _).mono
    (fun r h => ⟨fun c => (h c).2, Idealize.ShloMosaic.sem_eq_zero_of_no_sems (by decide) r.2⟩)
    (Cert.Gathered.Value.run (F := Bits) m ρ)

/-- From equal arguments, the permutation in range, both leave the same words. -/
theorem bitexact : Cert.bitexact_Gather_Gathered (hGather := Cert.Gather.Gen.facts) (hGathered := Cert.Gathered.Gen.facts) (hPre_perm_in_range := Cert.Pre_perm_in_range.Gen.facts) := by
  intro m g m' g' hp hargs
  have hlt (c : Dev Cert.Gather.nD) := perm_lt _ _ (hp c)
  refine ⟨fun c => gatheredRows (m ((c : Thread Cert.Gather.nD Cert.Gather.τ).loc Cert.Gather.main_arg0)) (m ((c : Thread Cert.Gather.nD Cert.Gather.τ).loc Cert.Gather.main_arg1)) (hlt c),
    (θ_run (Cert.Gather.defs (F := Bits)) _ _).mono (fun r h c => ?_) (run_all m g (inRange m hp)),
    (θ_run (Cert.Gathered.defs (F := Bits)) _ _).mono (fun r h c => ?_) (Cert.Gathered.Value.run (F := Bits) m' g')⟩
  · obtain rfl : c = 0 := Subsingleton.elim _ _
    exact ⟨(h.1 0).1.trans (arr_out m (inRange m hp) 0 (hlt 0)), (h.1 0).2⟩
  · obtain ⟨h0, h1⟩ := hargs c
    refine ⟨(h c).1.trans ((Cert.Gathered.Read.val_main_v26_eq m' c).trans ?_), (h c).2⟩
    refine (congr (congrArg (Cert.Gathered.Read.val_main_v26 (F := Bits)) h0) h1).trans ?_
    exact reference_eq _ _ (hlt c)

end Cert.Proof.GatherClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Gather
public import proofs.«01_k».proof.Proof.Gen.Gather.Skeleton
public import proofs.«01_k».proof.Proof.Gen.Gather.Loops
public import proofs.«01_k».proof.Proof.Gen.Gather.Launch
public import proofs.«01_k».proof.Proof.Gen.Gathered
public import proofs.«01_k».proof.Proof.Gen.Gathered.Run
public import proofs.«01_k».proof.Proof.Gen.Gathered.Read
public import proofs.«01_k».proof.Proof.Gen.Pre_perm_in_range
public import proofs.«01_k».proof.Proof.Frames
public import proofs.«01_k».proof.Proof.Value
public import proofs.«01_k».proof.Proof.GatherClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.Gen.facts, Cert.Gathered.Gen.facts, Cert.Pre_perm_in_range.Gen.facts,
  Frames.frame_p, Frames.frame_pi, Frames.frame_ri, GatherClaims.frame_g, GatherClaims.frame_gr, Frames.preserves, Value.algebraic,
  GatherClaims.bitexact⟩

end Cert.Proof

end
